-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))) = (fun _ => 1#1)

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaReferenceIdeal (m : (ℓ : Loc Cert.UpDaReferenceIdeal.nD Cert.UpDaReferenceIdeal.τ Cert.UpDaReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaReferenceIdeal (m : (ℓ : Loc Cert.DownDaReferenceIdeal.nD Cert.DownDaReferenceIdeal.τ Cert.DownDaReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaReferenceIdeal (m : (ℓ : Loc Cert.OutDaReferenceIdeal.nD Cert.OutDaReferenceIdeal.τ Cert.OutDaReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_QueryDa (m : (ℓ : Loc Cert.QueryDa.nD Cert.QueryDa.τ Cert.QueryDa.sig) → Buf (Elt Bits) ℓ) : Prop :=
  True

def Pre_QueryDaIdeal (m : (ℓ : Loc Cert.QueryDaIdeal.nD Cert.QueryDaIdeal.τ Cert.QueryDaIdeal.sig) → Buf (Elt Ideal) ℓ) : Prop :=
  True

def Pre_QueryDaReferenceIdeal (m : (ℓ : Loc Cert.QueryDaReferenceIdeal.nD Cert.QueryDaReferenceIdeal.τ Cert.QueryDaReferenceIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwReferenceIdeal (m : (ℓ : Loc Cert.QueryDwReferenceIdeal.nD Cert.QueryDwReferenceIdeal.τ Cert.QueryDwReferenceIdeal.sig) → Buf (Elt Ideal) ℓ) : Prop :=
  True

def Pre_Key (m : (ℓ : Loc Cert.Key.nD Cert.Key.τ Cert.Key.sig) → Buf (Elt Bits) ℓ) : Prop :=
  True

def Pre_KeyIdeal (m : (ℓ : Loc Cert.KeyIdeal.nD Cert.KeyIdeal.τ Cert.KeyIdeal.sig) → Buf (Elt Ideal) ℓ) : Prop :=
  True

def Pre_KeyReferenceIdeal (m : (ℓ : Loc Cert.KeyReferenceIdeal.nD Cert.KeyReferenceIdeal.τ Cert.KeyReferenceIdeal.sig) → Buf (Elt Ideal) ℓ) : Prop :=
  True

def Pre_KeyDa (m : (ℓ : Loc Cert.KeyDa.nD Cert.KeyDa.τ Cert.KeyDa.sig) → Buf (Elt Bits) ℓ) : Prop :=
  True

def Pre_KeyDaIdeal (m : (ℓ : Loc Cert.KeyDaIdeal.nD Cert.KeyDaIdeal.τ Cert.KeyDaIdeal.sig) → Buf (Elt Ideal) ℓ) : Prop :=
  True

def Pre_KeyDaReferenceIdeal (m : (ℓ : Loc Cert.KeyDaReferenceIdeal.nD Cert.KeyDaReferenceIdeal.τ Cert.KeyDaReferenceIdeal.sig) → Buf (Elt Ideal) ℓ) : Prop :=
  True

def Pre_KeyDw (m : (ℓ : Loc Cert.KeyDw.nD Cert.KeyDw.τ Cert.KeyDw.sig) → Buf (Elt Bits) ℓ) : Prop :=
  True

def Pre_KeyDwIdeal (m : (ℓ : Loc Cert.KeyDwIdeal.nD Cert.KeyDwIdeal.τ Cert.KeyDwIdeal.sig) → Buf (Elt Ideal) ℓ) : Prop :=
  True

def Pre_KeyDwReferenceIdeal (m : (ℓ : Loc Cert.KeyDwReferenceIdeal.nD Cert.KeyDwReferenceIdeal.τ Cert.KeyDwReferenceIdeal.sig) → Buf (Elt Ideal) ℓ) : Prop :=
  True

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankReferenceIdeal (m : (ℓ : Loc Cert.RankReferenceIdeal.nD Cert.RankReferenceIdeal.τ Cert.RankReferenceIdeal.sig) → Buf (Elt Ideal) ℓ) : Prop :=
  True

def Pre_RankDa (m : (ℓ : Loc Cert.RankDa.nD Cert.RankDa.τ Cert.RankDa.sig) → Buf (Elt Bits) ℓ) : Prop :=
  True

def Pre_RankDaIdeal (m : (ℓ : Loc Cert.RankDaIdeal.nD Cert.RankDaIdeal.τ Cert.RankDaIdeal.sig) → Buf (Elt Ideal) ℓ) : Prop :=
  True

def Pre_RankDaReferenceIdeal (m : (ℓ : Loc Cert.RankDaReferenceIdeal.nD Cert.RankDaReferenceIdeal.τ Cert.RankDaReferenceIdeal.sig) → Buf (Elt Ideal) ℓ) : Prop :=
  True

def Pre_RankDw (m : (ℓ : Loc Cert.RankDw.nD Cert.RankDw.τ Cert.RankDw.sig) → Buf (Elt Bits) ℓ) : Prop :=
  True

def Pre_RankDwIdeal (m : (ℓ : Loc Cert.RankDwIdeal.nD Cert.RankDwIdeal.τ Cert.RankDwIdeal.sig) → Buf (Elt Ideal) ℓ) : Prop :=
  True

def Pre_RankDwReferenceIdeal (m : (ℓ : Loc Cert.RankDwReferenceIdeal.nD Cert.RankDwReferenceIdeal.τ Cert.RankDwReferenceIdeal.sig) → Buf (Elt Ideal) ℓ) : Prop :=
  True

def Pre_AdamDq (m : (ℓ : Loc Cert.AdamDq.nD Cert.AdamDq.τ Cert.AdamDq.sig) → Buf (Elt Bits) ℓ) : Prop :=
  True

def Pre_AdamDqIdeal (m : (ℓ : Loc Cert.AdamDqIdeal.nD Cert.AdamDqIdeal.τ Cert.AdamDqIdeal.sig) → Buf (Elt Ideal) ℓ) : Prop :=
  True

def Pre_AdamDqReferenceIdeal (m : (ℓ : Loc Cert.AdamDqReferenceIdeal.nD Cert.AdamDqReferenceIdeal.τ Cert.AdamDqReferenceIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqReferenceIdeal (m : (ℓ : Loc Cert.AdamUqReferenceIdeal.nD Cert.AdamUqReferenceIdeal.τ Cert.AdamUqReferenceIdeal.sig) → Buf (Elt Ideal) ℓ) : Prop :=
  True

def Pre_AdamDkv (m : (ℓ : Loc Cert.AdamDkv.nD Cert.AdamDkv.τ Cert.AdamDkv.sig) → Buf (Elt Bits) ℓ) : Prop :=
  True

def Pre_AdamDkvIdeal (m : (ℓ : Loc Cert.AdamDkvIdeal.nD Cert.AdamDkvIdeal.τ Cert.AdamDkvIdeal.sig) → Buf (Elt Ideal) ℓ) : Prop :=
  True

def Pre_AdamDkvReferenceIdeal (m : (ℓ : Loc Cert.AdamDkvReferenceIdeal.nD Cert.AdamDkvReferenceIdeal.τ Cert.AdamDkvReferenceIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvReferenceIdeal (m : (ℓ : Loc Cert.AdamUkvReferenceIdeal.nD Cert.AdamUkvReferenceIdeal.τ Cert.AdamUkvReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModReferenceIdeal (m : (ℓ : Loc Cert.AdamModReferenceIdeal.nD Cert.AdamModReferenceIdeal.τ Cert.AdamModReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_ModDw (m : (ℓ : Loc Cert.ModDw.nD Cert.ModDw.τ Cert.ModDw.sig) → Buf (Elt Bits) ℓ) : Prop :=
  True

def Pre_ModDwIdeal (m : (ℓ : Loc Cert.ModDwIdeal.nD Cert.ModDwIdeal.τ Cert.ModDwIdeal.sig) → Buf (Elt Ideal) ℓ) : Prop :=
  True

def Pre_ModDwReferenceIdeal (m : (ℓ : Loc Cert.ModDwReferenceIdeal.nD Cert.ModDwReferenceIdeal.τ Cert.ModDwReferenceIdeal.sig) → Buf (Elt Ideal) ℓ) : Prop :=
  True

def Pre_NormDx (m : (ℓ : Loc Cert.NormDx.nD Cert.NormDx.τ Cert.NormDx.sig) → Buf (Elt Bits) ℓ) : Prop :=
  True

def Pre_NormDxIdeal (m : (ℓ : Loc Cert.NormDxIdeal.nD Cert.NormDxIdeal.τ Cert.NormDxIdeal.sig) → Buf (Elt Ideal) ℓ) : Prop :=
  True

def Pre_NormDxReferenceIdeal (m : (ℓ : Loc Cert.NormDxReferenceIdeal.nD Cert.NormDxReferenceIdeal.τ Cert.NormDxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ r.2.sem = fun _ => 0)

def quiescent_UpDaReferenceIdeal [hUpDaReferenceIdeal : Cert.UpDaReferenceIdeal.Facts] : Prop :=
  ∀ (m : (ℓ : Loc Cert.UpDaReferenceIdeal.nD Cert.UpDaReferenceIdeal.τ Cert.UpDaReferenceIdeal.sig) → Buf (Elt Ideal) ℓ) (g : Dev Cert.UpDaReferenceIdeal.nD → PrngReg), Pre_UpDaReferenceIdeal m →
    θ_run (Cert.UpDaReferenceIdeal.defs (F := Ideal)) (onTc (τ := Cert.UpDaReferenceIdeal.τ) (Cert.UpDaReferenceIdeal.main (F := Ideal))) ⟨m, fun _ => 0, g⟩ (fun r => (∀ c : Dev Cert.UpDaReferenceIdeal.nD,
      r.2.mem ((c.tc : Thread Cert.UpDaReferenceIdeal.nD Cert.UpDaReferenceIdeal.τ).loc Cert.UpDaReferenceIdeal.main_arg0) = m ((c.tc : Thread Cert.UpDaReferenceIdeal.nD Cert.UpDaReferenceIdeal.τ).loc Cert.UpDaReferenceIdeal.main_arg0)
      ∧ r.2.mem ((c.tc : Thread Cert.UpDaReferenceIdeal.nD Cert.UpDaReferenceIdeal.τ).loc Cert.UpDaReferenceIdeal.main_arg1) = m ((c.tc : Thread Cert.UpDaReferenceIdeal.nD Cert.UpDaReferenceIdeal.τ).loc Cert.UpDaReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaReferenceIdeal [hDownDaReferenceIdeal : Cert.DownDaReferenceIdeal.Facts] : Prop :=
  ∀ (m : (ℓ : Loc Cert.DownDaReferenceIdeal.nD Cert.DownDaReferenceIdeal.τ Cert.DownDaReferenceIdeal.sig) → Buf (Elt Ideal) ℓ) (g : Dev Cert.DownDaReferenceIdeal.nD → PrngReg), Pre_DownDaReferenceIdeal m →
    θ_run (Cert.DownDaReferenceIdeal.defs (F := Ideal)) (onTc (τ := Cert.DownDaReferenceIdeal.τ) (Cert.DownDaReferenceIdeal.main (F := Ideal))) ⟨m, fun _ => 0, g⟩ (fun r => (∀ c : Dev Cert.DownDaReferenceIdeal.nD,
      r.2.mem ((c.tc : Thread Cert.DownDaReferenceIdeal.nD Cert.DownDaReferenceIdeal.τ).loc Cert.DownDaReferenceIdeal.main_arg0) = m ((c.tc : Thread Cert.DownDaReferenceIdeal.nD Cert.DownDaReferenceIdeal.τ).loc Cert.DownDaReferenceIdeal.main_arg0)
      ∧ r.2.mem ((c.tc : Thread Cert.DownDaReferenceIdeal.nD Cert.DownDaReferenceIdeal.τ).loc Cert.DownDaReferenceIdeal.main_arg1) = m ((c.tc : Thread Cert.DownDaReferenceIdeal.nD Cert.DownDaReferenceIdeal.τ).loc Cert.DownDaReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ r.2.sem = fun _ => 0)

def quiescent_OutDaReferenceIdeal [hOutDaReferenceIdeal : Cert.OutDaReferenceIdeal.Facts] : Prop :=
  ∀ (m : (ℓ : Loc Cert.OutDaReferenceIdeal.nD Cert.OutDaReferenceIdeal.τ Cert.OutDaReferenceIdeal.sig) → Buf (Elt Ideal) ℓ) (g : Dev Cert.OutDaReferenceIdeal.nD → PrngReg), Pre_OutDaReferenceIdeal m →
    θ_run (Cert.OutDaReferenceIdeal.defs (F := Ideal)) (onTc (τ := Cert.OutDaReferenceIdeal.τ) (Cert.OutDaReferenceIdeal.main (F := Ideal))) ⟨m, fun _ => 0, g⟩ (fun r => (∀ c : Dev Cert.OutDaReferenceIdeal.nD,
      r.2.mem ((c.tc : Thread Cert.OutDaReferenceIdeal.nD Cert.OutDaReferenceIdeal.τ).loc Cert.OutDaReferenceIdeal.main_arg0) = m ((c.tc : Thread Cert.OutDaReferenceIdeal.nD Cert.OutDaReferenceIdeal.τ).loc Cert.OutDaReferenceIdeal.main_arg0)
      ∧ r.2.mem ((c.tc : Thread Cert.OutDaReferenceIdeal.nD Cert.OutDaReferenceIdeal.τ).loc Cert.OutDaReferenceIdeal.main_arg1) = m ((c.tc : Thread Cert.OutDaReferenceIdeal.nD Cert.OutDaReferenceIdeal.τ).loc Cert.OutDaReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1))
      ∧ r.2.sem = fun _ => 0)

def quiescent_QueryDa [hQueryDa : Cert.QueryDa.Facts] : Prop :=
  ∀ (m : (ℓ : Loc Cert.QueryDa.nD Cert.QueryDa.τ Cert.QueryDa.sig) → Buf (Elt Bits) ℓ) (g : Dev Cert.QueryDa.nD → PrngReg), Pre_QueryDa m →
    θ_run (Cert.QueryDa.defs (F := Bits)) (onTc (τ := Cert.QueryDa.τ) (Cert.QueryDa.main (F := Bits))) ⟨m, fun _ => 0, g⟩ (fun r => (∀ c : Dev Cert.QueryDa.nD,
      r.2.mem ((c.tc : Thread Cert.QueryDa.nD Cert.QueryDa.τ).loc Cert.QueryDa.main_arg0) = m ((c.tc : Thread Cert.QueryDa.nD Cert.QueryDa.τ).loc Cert.QueryDa.main_arg0)
      ∧ r.2.mem ((c.tc : Thread Cert.QueryDa.nD Cert.QueryDa.τ).loc Cert.QueryDa.main_arg1) = m ((c.tc : Thread Cert.QueryDa.nD Cert.QueryDa.τ).loc Cert.QueryDa.main_arg1))
      ∧ r.2.sem = fun _ => 0)

def quiescent_QueryDaIdeal [hQueryDaIdeal : Cert.QueryDaIdeal.Facts] : Prop :=
  ∀ (m : (ℓ : Loc Cert.QueryDaIdeal.nD Cert.QueryDaIdeal.τ Cert.QueryDaIdeal.sig) → Buf (Elt Ideal) ℓ) (g : Dev Cert.QueryDaIdeal.nD → PrngReg), Pre_QueryDaIdeal m →
    θ_run (Cert.QueryDaIdeal.defs (F := Ideal)) (onTc (τ := Cert.QueryDaIdeal.τ) (Cert.QueryDaIdeal.main (F := Ideal))) ⟨m, fun _ => 0, g⟩ (fun r => (∀ c : Dev Cert.QueryDaIdeal.nD,
      r.2.mem ((c.tc : Thread Cert.QueryDaIdeal.nD Cert.QueryDaIdeal.τ).loc Cert.QueryDaIdeal.main_arg0) = m ((c.tc : Thread Cert.QueryDaIdeal.nD Cert.QueryDaIdeal.τ).loc Cert.QueryDaIdeal.main_arg0)
      ∧ r.2.mem ((c.tc : Thread Cert.QueryDaIdeal.nD Cert.QueryDaIdeal.τ).loc Cert.QueryDaIdeal.main_arg1) = m ((c.tc : Thread Cert.QueryDaIdeal.nD Cert.QueryDaIdeal.τ).loc Cert.QueryDaIdeal.main_arg1))
      ∧ r.2.sem = fun _ => 0)

def quiescent_QueryDaReferenceIdeal [hQueryDaReferenceIdeal : Cert.QueryDaReferenceIdeal.Facts] : Prop :=
  ∀ (m : (ℓ : Loc Cert.QueryDaReferenceIdeal.nD Cert.QueryDaReferenceIdeal.τ Cert.QueryDaReferenceIdeal.sig) → Buf (Elt Ideal) ℓ) (g : Dev Cert.QueryDaReferenceIdeal.nD → PrngReg), Pre_QueryDaReferenceIdeal m →
    θ_run (Cert.QueryDaReferenceIdeal.defs (F := Ideal)) (onTc (τ := Cert.QueryDaReferenceIdeal.τ) (Cert.QueryDaReferenceIdeal.main (F := Ideal))) ⟨m, fun _ => 0, g⟩ (fun r => (∀ c : Dev Cert.QueryDaReferenceIdeal.nD,
      r.2.mem ((c.tc : Thread Cert.QueryDaReferenceIdeal.nD Cert.QueryDaReferenceIdeal.τ).loc Cert.QueryDaReferenceIdeal.main_arg0) = m ((c.tc : Thread Cert.QueryDaReferenceIdeal.nD Cert.QueryDaReferenceIdeal.τ).loc Cert.QueryDaReferenceIdeal.main_arg0)
      ∧ r.2.mem ((c.tc : Thread Cert.QueryDaReferenceIdeal.nD Cert.QueryDaReferenceIdeal.τ).loc Cert.QueryDaReferenceIdeal.main_arg1) = m ((c.tc : Thread Cert.QueryDaReferenceIdeal.nD Cert.QueryDaReferenceIdeal.τ).loc Cert.QueryDaReferenceIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwReferenceIdeal [hQueryDwReferenceIdeal : Cert.QueryDwReferenceIdeal.Facts] : Prop :=
  ∀ (m : (ℓ : Loc Cert.QueryDwReferenceIdeal.nD Cert.QueryDwReferenceIdeal.τ Cert.QueryDwReferenceIdeal.sig) → Buf (Elt Ideal) ℓ) (g : Dev Cert.QueryDwReferenceIdeal.nD → PrngReg), Pre_QueryDwReferenceIdeal m →
    θ_run (Cert.QueryDwReferenceIdeal.defs (F := Ideal)) (onTc (τ := Cert.QueryDwReferenceIdeal.τ) (Cert.QueryDwReferenceIdeal.main (F := Ideal))) ⟨m, fun _ => 0, g⟩ (fun r => (∀ c : Dev Cert.QueryDwReferenceIdeal.nD,
      r.2.mem ((c.tc : Thread Cert.QueryDwReferenceIdeal.nD Cert.QueryDwReferenceIdeal.τ).loc Cert.QueryDwReferenceIdeal.main_arg0) = m ((c.tc : Thread Cert.QueryDwReferenceIdeal.nD Cert.QueryDwReferenceIdeal.τ).loc Cert.QueryDwReferenceIdeal.main_arg0)
      ∧ r.2.mem ((c.tc : Thread Cert.QueryDwReferenceIdeal.nD Cert.QueryDwReferenceIdeal.τ).loc Cert.QueryDwReferenceIdeal.main_arg1) = m ((c.tc : Thread Cert.QueryDwReferenceIdeal.nD Cert.QueryDwReferenceIdeal.τ).loc Cert.QueryDwReferenceIdeal.main_arg1))
      ∧ r.2.sem = fun _ => 0)

def quiescent_Key [hKey : Cert.Key.Facts] : Prop :=
  ∀ (m : (ℓ : Loc Cert.Key.nD Cert.Key.τ Cert.Key.sig) → Buf (Elt Bits) ℓ) (g : Dev Cert.Key.nD → PrngReg), Pre_Key m →
    θ_run (Cert.Key.defs (F := Bits)) (onTc (τ := Cert.Key.τ) (Cert.Key.main (F := Bits))) ⟨m, fun _ => 0, g⟩ (fun r => (∀ c : Dev Cert.Key.nD,
      r.2.mem ((c.tc : Thread Cert.Key.nD Cert.Key.τ).loc Cert.Key.main_arg0) = m ((c.tc : Thread Cert.Key.nD Cert.Key.τ).loc Cert.Key.main_arg0)
      ∧ r.2.mem ((c.tc : Thread Cert.Key.nD Cert.Key.τ).loc Cert.Key.main_arg1) = m ((c.tc : Thread Cert.Key.nD Cert.Key.τ).loc Cert.Key.main_arg1))
      ∧ r.2.sem = fun _ => 0)

def quiescent_KeyIdeal [hKeyIdeal : Cert.KeyIdeal.Facts] : Prop :=
  ∀ (m : (ℓ : Loc Cert.KeyIdeal.nD Cert.KeyIdeal.τ Cert.KeyIdeal.sig) → Buf (Elt Ideal) ℓ) (g : Dev Cert.KeyIdeal.nD → PrngReg), Pre_KeyIdeal m →
    θ_run (Cert.KeyIdeal.defs (F := Ideal)) (onTc (τ := Cert.KeyIdeal.τ) (Cert.KeyIdeal.main (F := Ideal))) ⟨m, fun _ => 0, g⟩ (fun r => (∀ c : Dev Cert.KeyIdeal.nD,
      r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
      ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ r.2.sem = fun _ => 0)

def quiescent_KeyReferenceIdeal [hKeyReferenceIdeal : Cert.KeyReferenceIdeal.Facts] : Prop :=
  ∀ (m : (ℓ : Loc Cert.KeyReferenceIdeal.nD Cert.KeyReferenceIdeal.τ Cert.KeyReferenceIdeal.sig) → Buf (Elt Ideal) ℓ) (g : Dev Cert.KeyReferenceIdeal.nD → PrngReg), Pre_KeyReferenceIdeal m →
    θ_run (Cert.KeyReferenceIdeal.defs (F := Ideal)) (onTc (τ := Cert.KeyReferenceIdeal.τ) (Cert.KeyReferenceIdeal.main (F := Ideal))) ⟨m, fun _ => 0, g⟩ (fun r => (∀ c : Dev Cert.KeyReferenceIdeal.nD,
      r.2.mem ((c.tc : Thread Cert.KeyReferenceIdeal.nD Cert.KeyReferenceIdeal.τ).loc Cert.KeyReferenceIdeal.main_arg0) = m ((c.tc : Thread Cert.KeyReferenceIdeal.nD Cert.KeyReferenceIdeal.τ).loc Cert.KeyReferenceIdeal.main_arg0)
      ∧ r.2.mem ((c.tc : Thread Cert.KeyReferenceIdeal.nD Cert.KeyReferenceIdeal.τ).loc Cert.KeyReferenceIdeal.main_arg1) = m ((c.tc : Thread Cert.KeyReferenceIdeal.nD Cert.KeyReferenceIdeal.τ).loc Cert.KeyReferenceIdeal.main_arg1))
      ∧ r.2.sem = fun _ => 0)

def quiescent_KeyDa [hKeyDa : Cert.KeyDa.Facts] : Prop :=
  ∀ (m : (ℓ : Loc Cert.KeyDa.nD Cert.KeyDa.τ Cert.KeyDa.sig) → Buf (Elt Bits) ℓ) (g : Dev Cert.KeyDa.nD → PrngReg), Pre_KeyDa m →
    θ_run (Cert.KeyDa.defs (F := Bits)) (onTc (τ := Cert.KeyDa.τ) (Cert.KeyDa.main (F := Bits))) ⟨m, fun _ => 0, g⟩ (fun r => (∀ c : Dev Cert.KeyDa.nD,
      r.2.mem ((c.tc : Thread Cert.KeyDa.nD Cert.KeyDa.τ).loc Cert.KeyDa.main_arg0) = m ((c.tc : Thread Cert.KeyDa.nD Cert.KeyDa.τ).loc Cert.KeyDa.main_arg0)
      ∧ r.2.mem ((c.tc : Thread Cert.KeyDa.nD Cert.KeyDa.τ).loc Cert.KeyDa.main_arg1) = m ((c.tc : Thread Cert.KeyDa.nD Cert.KeyDa.τ).loc Cert.KeyDa.main_arg1))
      ∧ r.2.sem = fun _ => 0)

def quiescent_KeyDaIdeal [hKeyDaIdeal : Cert.KeyDaIdeal.Facts] : Prop :=
  ∀ (m : (ℓ : Loc Cert.KeyDaIdeal.nD Cert.KeyDaIdeal.τ Cert.KeyDaIdeal.sig) → Buf (Elt Ideal) ℓ) (g : Dev Cert.KeyDaIdeal.nD → PrngReg), Pre_KeyDaIdeal m →
    θ_run (Cert.KeyDaIdeal.defs (F := Ideal)) (onTc (τ := Cert.KeyDaIdeal.τ) (Cert.KeyDaIdeal.main (F := Ideal))) ⟨m, fun _ => 0, g⟩ (fun r => (∀ c : Dev Cert.KeyDaIdeal.nD,
      r.2.mem ((c.tc : Thread Cert.KeyDaIdeal.nD Cert.KeyDaIdeal.τ).loc Cert.KeyDaIdeal.main_arg0) = m ((c.tc : Thread Cert.KeyDaIdeal.nD Cert.KeyDaIdeal.τ).loc Cert.KeyDaIdeal.main_arg0)
      ∧ r.2.mem ((c.tc : Thread Cert.KeyDaIdeal.nD Cert.KeyDaIdeal.τ).loc Cert.KeyDaIdeal.main_arg1) = m ((c.tc : Thread Cert.KeyDaIdeal.nD Cert.KeyDaIdeal.τ).loc Cert.KeyDaIdeal.main_arg1))
      ∧ r.2.sem = fun _ => 0)

def quiescent_KeyDaReferenceIdeal [hKeyDaReferenceIdeal : Cert.KeyDaReferenceIdeal.Facts] : Prop :=
  ∀ (m : (ℓ : Loc Cert.KeyDaReferenceIdeal.nD Cert.KeyDaReferenceIdeal.τ Cert.KeyDaReferenceIdeal.sig) → Buf (Elt Ideal) ℓ) (g : Dev Cert.KeyDaReferenceIdeal.nD → PrngReg), Pre_KeyDaReferenceIdeal m →
    θ_run (Cert.KeyDaReferenceIdeal.defs (F := Ideal)) (onTc (τ := Cert.KeyDaReferenceIdeal.τ) (Cert.KeyDaReferenceIdeal.main (F := Ideal))) ⟨m, fun _ => 0, g⟩ (fun r => (∀ c : Dev Cert.KeyDaReferenceIdeal.nD,
      r.2.mem ((c.tc : Thread Cert.KeyDaReferenceIdeal.nD Cert.KeyDaReferenceIdeal.τ).loc Cert.KeyDaReferenceIdeal.main_arg0) = m ((c.tc : Thread Cert.KeyDaReferenceIdeal.nD Cert.KeyDaReferenceIdeal.τ).loc Cert.KeyDaReferenceIdeal.main_arg0)
      ∧ r.2.mem ((c.tc : Thread Cert.KeyDaReferenceIdeal.nD Cert.KeyDaReferenceIdeal.τ).loc Cert.KeyDaReferenceIdeal.main_arg1) = m ((c.tc : Thread Cert.KeyDaReferenceIdeal.nD Cert.KeyDaReferenceIdeal.τ).loc Cert.KeyDaReferenceIdeal.main_arg1))
      ∧ r.2.sem = fun _ => 0)

def quiescent_KeyDw [hKeyDw : Cert.KeyDw.Facts] : Prop :=
  ∀ (m : (ℓ : Loc Cert.KeyDw.nD Cert.KeyDw.τ Cert.KeyDw.sig) → Buf (Elt Bits) ℓ) (g : Dev Cert.KeyDw.nD → PrngReg), Pre_KeyDw m →
    θ_run (Cert.KeyDw.defs (F := Bits)) (onTc (τ := Cert.KeyDw.τ) (Cert.KeyDw.main (F := Bits))) ⟨m, fun _ => 0, g⟩ (fun r => (∀ c : Dev Cert.KeyDw.nD,
      r.2.mem ((c.tc : Thread Cert.KeyDw.nD Cert.KeyDw.τ).loc Cert.KeyDw.main_arg0) = m ((c.tc : Thread Cert.KeyDw.nD Cert.KeyDw.τ).loc Cert.KeyDw.main_arg0)
      ∧ r.2.mem ((c.tc : Thread Cert.KeyDw.nD Cert.KeyDw.τ).loc Cert.KeyDw.main_arg1) = m ((c.tc : Thread Cert.KeyDw.nD Cert.KeyDw.τ).loc Cert.KeyDw.main_arg1))
      ∧ r.2.sem = fun _ => 0)

def quiescent_KeyDwIdeal [hKeyDwIdeal : Cert.KeyDwIdeal.Facts] : Prop :=
  ∀ (m : (ℓ : Loc Cert.KeyDwIdeal.nD Cert.KeyDwIdeal.τ Cert.KeyDwIdeal.sig) → Buf (Elt Ideal) ℓ) (g : Dev Cert.KeyDwIdeal.nD → PrngReg), Pre_KeyDwIdeal m →
    θ_run (Cert.KeyDwIdeal.defs (F := Ideal)) (onTc (τ := Cert.KeyDwIdeal.τ) (Cert.KeyDwIdeal.main (F := Ideal))) ⟨m, fun _ => 0, g⟩ (fun r => (∀ c : Dev Cert.KeyDwIdeal.nD,
      r.2.mem ((c.tc : Thread Cert.KeyDwIdeal.nD Cert.KeyDwIdeal.τ).loc Cert.KeyDwIdeal.main_arg0) = m ((c.tc : Thread Cert.KeyDwIdeal.nD Cert.KeyDwIdeal.τ).loc Cert.KeyDwIdeal.main_arg0)
      ∧ r.2.mem ((c.tc : Thread Cert.KeyDwIdeal.nD Cert.KeyDwIdeal.τ).loc Cert.KeyDwIdeal.main_arg1) = m ((c.tc : Thread Cert.KeyDwIdeal.nD Cert.KeyDwIdeal.τ).loc Cert.KeyDwIdeal.main_arg1))
      ∧ r.2.sem = fun _ => 0)

def quiescent_KeyDwReferenceIdeal [hKeyDwReferenceIdeal : Cert.KeyDwReferenceIdeal.Facts] : Prop :=
  ∀ (m : (ℓ : Loc Cert.KeyDwReferenceIdeal.nD Cert.KeyDwReferenceIdeal.τ Cert.KeyDwReferenceIdeal.sig) → Buf (Elt Ideal) ℓ) (g : Dev Cert.KeyDwReferenceIdeal.nD → PrngReg), Pre_KeyDwReferenceIdeal m →
    θ_run (Cert.KeyDwReferenceIdeal.defs (F := Ideal)) (onTc (τ := Cert.KeyDwReferenceIdeal.τ) (Cert.KeyDwReferenceIdeal.main (F := Ideal))) ⟨m, fun _ => 0, g⟩ (fun r => (∀ c : Dev Cert.KeyDwReferenceIdeal.nD,
      r.2.mem ((c.tc : Thread Cert.KeyDwReferenceIdeal.nD Cert.KeyDwReferenceIdeal.τ).loc Cert.KeyDwReferenceIdeal.main_arg0) = m ((c.tc : Thread Cert.KeyDwReferenceIdeal.nD Cert.KeyDwReferenceIdeal.τ).loc Cert.KeyDwReferenceIdeal.main_arg0)
      ∧ r.2.mem ((c.tc : Thread Cert.KeyDwReferenceIdeal.nD Cert.KeyDwReferenceIdeal.τ).loc Cert.KeyDwReferenceIdeal.main_arg1) = m ((c.tc : Thread Cert.KeyDwReferenceIdeal.nD Cert.KeyDwReferenceIdeal.τ).loc Cert.KeyDwReferenceIdeal.main_arg1))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankReferenceIdeal [hRankReferenceIdeal : Cert.RankReferenceIdeal.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1))
      ∧ r.2.sem = fun _ => 0)

def quiescent_RankDa [hRankDa : Cert.RankDa.Facts] : Prop :=
  ∀ (m : (ℓ : Loc Cert.RankDa.nD Cert.RankDa.τ Cert.RankDa.sig) → Buf (Elt Bits) ℓ) (g : Dev Cert.RankDa.nD → PrngReg), Pre_RankDa m →
    θ_run (Cert.RankDa.defs (F := Bits)) (onTc (τ := Cert.RankDa.τ) (Cert.RankDa.main (F := Bits))) ⟨m, fun _ => 0, g⟩ (fun r => (∀ c : Dev Cert.RankDa.nD,
      r.2.mem ((c.tc : Thread Cert.RankDa.nD Cert.RankDa.τ).loc Cert.RankDa.main_arg0) = m ((c.tc : Thread Cert.RankDa.nD Cert.RankDa.τ).loc Cert.RankDa.main_arg0)
      ∧ r.2.mem ((c.tc : Thread Cert.RankDa.nD Cert.RankDa.τ).loc Cert.RankDa.main_arg1) = m ((c.tc : Thread Cert.RankDa.nD Cert.RankDa.τ).loc Cert.RankDa.main_arg1))
      ∧ r.2.sem = fun _ => 0)

def quiescent_RankDaIdeal [hRankDaIdeal : Cert.RankDaIdeal.Facts] : Prop :=
  ∀ (m : (ℓ : Loc Cert.RankDaIdeal.nD Cert.RankDaIdeal.τ Cert.RankDaIdeal.sig) → Buf (Elt Ideal) ℓ) (g : Dev Cert.RankDaIdeal.nD → PrngReg), Pre_RankDaIdeal m →
    θ_run (Cert.RankDaIdeal.defs (F := Ideal)) (onTc (τ := Cert.RankDaIdeal.τ) (Cert.RankDaIdeal.main (F := Ideal))) ⟨m, fun _ => 0, g⟩ (fun r => (∀ c : Dev Cert.RankDaIdeal.nD,
      r.2.mem ((c.tc : Thread Cert.RankDaIdeal.nD Cert.RankDaIdeal.τ).loc Cert.RankDaIdeal.main_arg0) = m ((c.tc : Thread Cert.RankDaIdeal.nD Cert.RankDaIdeal.τ).loc Cert.RankDaIdeal.main_arg0)
      ∧ r.2.mem ((c.tc : Thread Cert.RankDaIdeal.nD Cert.RankDaIdeal.τ).loc Cert.RankDaIdeal.main_arg1) = m ((c.tc : Thread Cert.RankDaIdeal.nD Cert.RankDaIdeal.τ).loc Cert.RankDaIdeal.main_arg1))
      ∧ r.2.sem = fun _ => 0)

def quiescent_RankDaReferenceIdeal [hRankDaReferenceIdeal : Cert.RankDaReferenceIdeal.Facts] : Prop :=
  ∀ (m : (ℓ : Loc Cert.RankDaReferenceIdeal.nD Cert.RankDaReferenceIdeal.τ Cert.RankDaReferenceIdeal.sig) → Buf (Elt Ideal) ℓ) (g : Dev Cert.RankDaReferenceIdeal.nD → PrngReg), Pre_RankDaReferenceIdeal m →
    θ_run (Cert.RankDaReferenceIdeal.defs (F := Ideal)) (onTc (τ := Cert.RankDaReferenceIdeal.τ) (Cert.RankDaReferenceIdeal.main (F := Ideal))) ⟨m, fun _ => 0, g⟩ (fun r => (∀ c : Dev Cert.RankDaReferenceIdeal.nD,
      r.2.mem ((c.tc : Thread Cert.RankDaReferenceIdeal.nD Cert.RankDaReferenceIdeal.τ).loc Cert.RankDaReferenceIdeal.main_arg0) = m ((c.tc : Thread Cert.RankDaReferenceIdeal.nD Cert.RankDaReferenceIdeal.τ).loc Cert.RankDaReferenceIdeal.main_arg0)
      ∧ r.2.mem ((c.tc : Thread Cert.RankDaReferenceIdeal.nD Cert.RankDaReferenceIdeal.τ).loc Cert.RankDaReferenceIdeal.main_arg1) = m ((c.tc : Thread Cert.RankDaReferenceIdeal.nD Cert.RankDaReferenceIdeal.τ).loc Cert.RankDaReferenceIdeal.main_arg1))
      ∧ r.2.sem = fun _ => 0)

def quiescent_RankDw [hRankDw : Cert.RankDw.Facts] : Prop :=
  ∀ (m : (ℓ : Loc Cert.RankDw.nD Cert.RankDw.τ Cert.RankDw.sig) → Buf (Elt Bits) ℓ) (g : Dev Cert.RankDw.nD → PrngReg), Pre_RankDw m →
    θ_run (Cert.RankDw.defs (F := Bits)) (onTc (τ := Cert.RankDw.τ) (Cert.RankDw.main (F := Bits))) ⟨m, fun _ => 0, g⟩ (fun r => (∀ c : Dev Cert.RankDw.nD,
      r.2.mem ((c.tc : Thread Cert.RankDw.nD Cert.RankDw.τ).loc Cert.RankDw.main_arg0) = m ((c.tc : Thread Cert.RankDw.nD Cert.RankDw.τ).loc Cert.RankDw.main_arg0)
      ∧ r.2.mem ((c.tc : Thread Cert.RankDw.nD Cert.RankDw.τ).loc Cert.RankDw.main_arg1) = m ((c.tc : Thread Cert.RankDw.nD Cert.RankDw.τ).loc Cert.RankDw.main_arg1))
      ∧ r.2.sem = fun _ => 0)

def quiescent_RankDwIdeal [hRankDwIdeal : Cert.RankDwIdeal.Facts] : Prop :=
  ∀ (m : (ℓ : Loc Cert.RankDwIdeal.nD Cert.RankDwIdeal.τ Cert.RankDwIdeal.sig) → Buf (Elt Ideal) ℓ) (g : Dev Cert.RankDwIdeal.nD → PrngReg), Pre_RankDwIdeal m →
    θ_run (Cert.RankDwIdeal.defs (F := Ideal)) (onTc (τ := Cert.RankDwIdeal.τ) (Cert.RankDwIdeal.main (F := Ideal))) ⟨m, fun _ => 0, g⟩ (fun r => (∀ c : Dev Cert.RankDwIdeal.nD,
      r.2.mem ((c.tc : Thread Cert.RankDwIdeal.nD Cert.RankDwIdeal.τ).loc Cert.RankDwIdeal.main_arg0) = m ((c.tc : Thread Cert.RankDwIdeal.nD Cert.RankDwIdeal.τ).loc Cert.RankDwIdeal.main_arg0)
      ∧ r.2.mem ((c.tc : Thread Cert.RankDwIdeal.nD Cert.RankDwIdeal.τ).loc Cert.RankDwIdeal.main_arg1) = m ((c.tc : Thread Cert.RankDwIdeal.nD Cert.RankDwIdeal.τ).loc Cert.RankDwIdeal.main_arg1))
      ∧ r.2.sem = fun _ => 0)

def quiescent_RankDwReferenceIdeal [hRankDwReferenceIdeal : Cert.RankDwReferenceIdeal.Facts] : Prop :=
  ∀ (m : (ℓ : Loc Cert.RankDwReferenceIdeal.nD Cert.RankDwReferenceIdeal.τ Cert.RankDwReferenceIdeal.sig) → Buf (Elt Ideal) ℓ) (g : Dev Cert.RankDwReferenceIdeal.nD → PrngReg), Pre_RankDwReferenceIdeal m →
    θ_run (Cert.RankDwReferenceIdeal.defs (F := Ideal)) (onTc (τ := Cert.RankDwReferenceIdeal.τ) (Cert.RankDwReferenceIdeal.main (F := Ideal))) ⟨m, fun _ => 0, g⟩ (fun r => (∀ c : Dev Cert.RankDwReferenceIdeal.nD,
      r.2.mem ((c.tc : Thread Cert.RankDwReferenceIdeal.nD Cert.RankDwReferenceIdeal.τ).loc Cert.RankDwReferenceIdeal.main_arg0) = m ((c.tc : Thread Cert.RankDwReferenceIdeal.nD Cert.RankDwReferenceIdeal.τ).loc Cert.RankDwReferenceIdeal.main_arg0)
      ∧ r.2.mem ((c.tc : Thread Cert.RankDwReferenceIdeal.nD Cert.RankDwReferenceIdeal.τ).loc Cert.RankDwReferenceIdeal.main_arg1) = m ((c.tc : Thread Cert.RankDwReferenceIdeal.nD Cert.RankDwReferenceIdeal.τ).loc Cert.RankDwReferenceIdeal.main_arg1))
      ∧ r.2.sem = fun _ => 0)

def quiescent_AdamDq [hAdamDq : Cert.AdamDq.Facts] : Prop :=
  ∀ (m : (ℓ : Loc Cert.AdamDq.nD Cert.AdamDq.τ Cert.AdamDq.sig) → Buf (Elt Bits) ℓ) (g : Dev Cert.AdamDq.nD → PrngReg), Pre_AdamDq m →
    θ_run (Cert.AdamDq.defs (F := Bits)) (onTc (τ := Cert.AdamDq.τ) (Cert.AdamDq.main (F := Bits))) ⟨m, fun _ => 0, g⟩ (fun r => (∀ c : Dev Cert.AdamDq.nD,
      r.2.mem ((c.tc : Thread Cert.AdamDq.nD Cert.AdamDq.τ).loc Cert.AdamDq.main_arg0) = m ((c.tc : Thread Cert.AdamDq.nD Cert.AdamDq.τ).loc Cert.AdamDq.main_arg0)
      ∧ r.2.mem ((c.tc : Thread Cert.AdamDq.nD Cert.AdamDq.τ).loc Cert.AdamDq.main_arg1) = m ((c.tc : Thread Cert.AdamDq.nD Cert.AdamDq.τ).loc Cert.AdamDq.main_arg1)
      ∧ r.2.mem ((c.tc : Thread Cert.AdamDq.nD Cert.AdamDq.τ).loc Cert.AdamDq.main_arg2) = m ((c.tc : Thread Cert.AdamDq.nD Cert.AdamDq.τ).loc Cert.AdamDq.main_arg2)
      ∧ r.2.mem ((c.tc : Thread Cert.AdamDq.nD Cert.AdamDq.τ).loc Cert.AdamDq.main_arg3) = m ((c.tc : Thread Cert.AdamDq.nD Cert.AdamDq.τ).loc Cert.AdamDq.main_arg3))
      ∧ r.2.sem = fun _ => 0)

def quiescent_AdamDqIdeal [hAdamDqIdeal : Cert.AdamDqIdeal.Facts] : Prop :=
  ∀ (m : (ℓ : Loc Cert.AdamDqIdeal.nD Cert.AdamDqIdeal.τ Cert.AdamDqIdeal.sig) → Buf (Elt Ideal) ℓ) (g : Dev Cert.AdamDqIdeal.nD → PrngReg), Pre_AdamDqIdeal m →
    θ_run (Cert.AdamDqIdeal.defs (F := Ideal)) (onTc (τ := Cert.AdamDqIdeal.τ) (Cert.AdamDqIdeal.main (F := Ideal))) ⟨m, fun _ => 0, g⟩ (fun r => (∀ c : Dev Cert.AdamDqIdeal.nD,
      r.2.mem ((c.tc : Thread Cert.AdamDqIdeal.nD Cert.AdamDqIdeal.τ).loc Cert.AdamDqIdeal.main_arg0) = m ((c.tc : Thread Cert.AdamDqIdeal.nD Cert.AdamDqIdeal.τ).loc Cert.AdamDqIdeal.main_arg0)
      ∧ r.2.mem ((c.tc : Thread Cert.AdamDqIdeal.nD Cert.AdamDqIdeal.τ).loc Cert.AdamDqIdeal.main_arg1) = m ((c.tc : Thread Cert.AdamDqIdeal.nD Cert.AdamDqIdeal.τ).loc Cert.AdamDqIdeal.main_arg1)
      ∧ r.2.mem ((c.tc : Thread Cert.AdamDqIdeal.nD Cert.AdamDqIdeal.τ).loc Cert.AdamDqIdeal.main_arg2) = m ((c.tc : Thread Cert.AdamDqIdeal.nD Cert.AdamDqIdeal.τ).loc Cert.AdamDqIdeal.main_arg2)
      ∧ r.2.mem ((c.tc : Thread Cert.AdamDqIdeal.nD Cert.AdamDqIdeal.τ).loc Cert.AdamDqIdeal.main_arg3) = m ((c.tc : Thread Cert.AdamDqIdeal.nD Cert.AdamDqIdeal.τ).loc Cert.AdamDqIdeal.main_arg3))
      ∧ r.2.sem = fun _ => 0)

def quiescent_AdamDqReferenceIdeal [hAdamDqReferenceIdeal : Cert.AdamDqReferenceIdeal.Facts] : Prop :=
  ∀ (m : (ℓ : Loc Cert.AdamDqReferenceIdeal.nD Cert.AdamDqReferenceIdeal.τ Cert.AdamDqReferenceIdeal.sig) → Buf (Elt Ideal) ℓ) (g : Dev Cert.AdamDqReferenceIdeal.nD → PrngReg), Pre_AdamDqReferenceIdeal m →
    θ_run (Cert.AdamDqReferenceIdeal.defs (F := Ideal)) (onTc (τ := Cert.AdamDqReferenceIdeal.τ) (Cert.AdamDqReferenceIdeal.main (F := Ideal))) ⟨m, fun _ => 0, g⟩ (fun r => (∀ c : Dev Cert.AdamDqReferenceIdeal.nD,
      r.2.mem ((c.tc : Thread Cert.AdamDqReferenceIdeal.nD Cert.AdamDqReferenceIdeal.τ).loc Cert.AdamDqReferenceIdeal.main_arg0) = m ((c.tc : Thread Cert.AdamDqReferenceIdeal.nD Cert.AdamDqReferenceIdeal.τ).loc Cert.AdamDqReferenceIdeal.main_arg0)
      ∧ r.2.mem ((c.tc : Thread Cert.AdamDqReferenceIdeal.nD Cert.AdamDqReferenceIdeal.τ).loc Cert.AdamDqReferenceIdeal.main_arg1) = m ((c.tc : Thread Cert.AdamDqReferenceIdeal.nD Cert.AdamDqReferenceIdeal.τ).loc Cert.AdamDqReferenceIdeal.main_arg1)
      ∧ r.2.mem ((c.tc : Thread Cert.AdamDqReferenceIdeal.nD Cert.AdamDqReferenceIdeal.τ).loc Cert.AdamDqReferenceIdeal.main_arg2) = m ((c.tc : Thread Cert.AdamDqReferenceIdeal.nD Cert.AdamDqReferenceIdeal.τ).loc Cert.AdamDqReferenceIdeal.main_arg2)
      ∧ r.2.mem ((c.tc : Thread Cert.AdamDqReferenceIdeal.nD Cert.AdamDqReferenceIdeal.τ).loc Cert.AdamDqReferenceIdeal.main_arg3) = m ((c.tc : Thread Cert.AdamDqReferenceIdeal.nD Cert.AdamDqReferenceIdeal.τ).loc Cert.AdamDqReferenceIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqReferenceIdeal [hAdamUqReferenceIdeal : Cert.AdamUqReferenceIdeal.Facts] : Prop :=
  ∀ (m : (ℓ : Loc Cert.AdamUqReferenceIdeal.nD Cert.AdamUqReferenceIdeal.τ Cert.AdamUqReferenceIdeal.sig) → Buf (Elt Ideal) ℓ) (g : Dev Cert.AdamUqReferenceIdeal.nD → PrngReg), Pre_AdamUqReferenceIdeal m →
    θ_run (Cert.AdamUqReferenceIdeal.defs (F := Ideal)) (onTc (τ := Cert.AdamUqReferenceIdeal.τ) (Cert.AdamUqReferenceIdeal.main (F := Ideal))) ⟨m, fun _ => 0, g⟩ (fun r => (∀ c : Dev Cert.AdamUqReferenceIdeal.nD,
      r.2.mem ((c.tc : Thread Cert.AdamUqReferenceIdeal.nD Cert.AdamUqReferenceIdeal.τ).loc Cert.AdamUqReferenceIdeal.main_arg0) = m ((c.tc : Thread Cert.AdamUqReferenceIdeal.nD Cert.AdamUqReferenceIdeal.τ).loc Cert.AdamUqReferenceIdeal.main_arg0)
      ∧ r.2.mem ((c.tc : Thread Cert.AdamUqReferenceIdeal.nD Cert.AdamUqReferenceIdeal.τ).loc Cert.AdamUqReferenceIdeal.main_arg1) = m ((c.tc : Thread Cert.AdamUqReferenceIdeal.nD Cert.AdamUqReferenceIdeal.τ).loc Cert.AdamUqReferenceIdeal.main_arg1)
      ∧ r.2.mem ((c.tc : Thread Cert.AdamUqReferenceIdeal.nD Cert.AdamUqReferenceIdeal.τ).loc Cert.AdamUqReferenceIdeal.main_arg2) = m ((c.tc : Thread Cert.AdamUqReferenceIdeal.nD Cert.AdamUqReferenceIdeal.τ).loc Cert.AdamUqReferenceIdeal.main_arg2)
      ∧ r.2.mem ((c.tc : Thread Cert.AdamUqReferenceIdeal.nD Cert.AdamUqReferenceIdeal.τ).loc Cert.AdamUqReferenceIdeal.main_arg3) = m ((c.tc : Thread Cert.AdamUqReferenceIdeal.nD Cert.AdamUqReferenceIdeal.τ).loc Cert.AdamUqReferenceIdeal.main_arg3))
      ∧ r.2.sem = fun _ => 0)

def quiescent_AdamDkv [hAdamDkv : Cert.AdamDkv.Facts] : Prop :=
  ∀ (m : (ℓ : Loc Cert.AdamDkv.nD Cert.AdamDkv.τ Cert.AdamDkv.sig) → Buf (Elt Bits) ℓ) (g : Dev Cert.AdamDkv.nD → PrngReg), Pre_AdamDkv m →
    θ_run (Cert.AdamDkv.defs (F := Bits)) (onTc (τ := Cert.AdamDkv.τ) (Cert.AdamDkv.main (F := Bits))) ⟨m, fun _ => 0, g⟩ (fun r => (∀ c : Dev Cert.AdamDkv.nD,
      r.2.mem ((c.tc : Thread Cert.AdamDkv.nD Cert.AdamDkv.τ).loc Cert.AdamDkv.main_arg0) = m ((c.tc : Thread Cert.AdamDkv.nD Cert.AdamDkv.τ).loc Cert.AdamDkv.main_arg0)
      ∧ r.2.mem ((c.tc : Thread Cert.AdamDkv.nD Cert.AdamDkv.τ).loc Cert.AdamDkv.main_arg1) = m ((c.tc : Thread Cert.AdamDkv.nD Cert.AdamDkv.τ).loc Cert.AdamDkv.main_arg1)
      ∧ r.2.mem ((c.tc : Thread Cert.AdamDkv.nD Cert.AdamDkv.τ).loc Cert.AdamDkv.main_arg2) = m ((c.tc : Thread Cert.AdamDkv.nD Cert.AdamDkv.τ).loc Cert.AdamDkv.main_arg2)
      ∧ r.2.mem ((c.tc : Thread Cert.AdamDkv.nD Cert.AdamDkv.τ).loc Cert.AdamDkv.main_arg3) = m ((c.tc : Thread Cert.AdamDkv.nD Cert.AdamDkv.τ).loc Cert.AdamDkv.main_arg3))
      ∧ r.2.sem = fun _ => 0)

def quiescent_AdamDkvIdeal [hAdamDkvIdeal : Cert.AdamDkvIdeal.Facts] : Prop :=
  ∀ (m : (ℓ : Loc Cert.AdamDkvIdeal.nD Cert.AdamDkvIdeal.τ Cert.AdamDkvIdeal.sig) → Buf (Elt Ideal) ℓ) (g : Dev Cert.AdamDkvIdeal.nD → PrngReg), Pre_AdamDkvIdeal m →
    θ_run (Cert.AdamDkvIdeal.defs (F := Ideal)) (onTc (τ := Cert.AdamDkvIdeal.τ) (Cert.AdamDkvIdeal.main (F := Ideal))) ⟨m, fun _ => 0, g⟩ (fun r => (∀ c : Dev Cert.AdamDkvIdeal.nD,
      r.2.mem ((c.tc : Thread Cert.AdamDkvIdeal.nD Cert.AdamDkvIdeal.τ).loc Cert.AdamDkvIdeal.main_arg0) = m ((c.tc : Thread Cert.AdamDkvIdeal.nD Cert.AdamDkvIdeal.τ).loc Cert.AdamDkvIdeal.main_arg0)
      ∧ r.2.mem ((c.tc : Thread Cert.AdamDkvIdeal.nD Cert.AdamDkvIdeal.τ).loc Cert.AdamDkvIdeal.main_arg1) = m ((c.tc : Thread Cert.AdamDkvIdeal.nD Cert.AdamDkvIdeal.τ).loc Cert.AdamDkvIdeal.main_arg1)
      ∧ r.2.mem ((c.tc : Thread Cert.AdamDkvIdeal.nD Cert.AdamDkvIdeal.τ).loc Cert.AdamDkvIdeal.main_arg2) = m ((c.tc : Thread Cert.AdamDkvIdeal.nD Cert.AdamDkvIdeal.τ).loc Cert.AdamDkvIdeal.main_arg2)
      ∧ r.2.mem ((c.tc : Thread Cert.AdamDkvIdeal.nD Cert.AdamDkvIdeal.τ).loc Cert.AdamDkvIdeal.main_arg3) = m ((c.tc : Thread Cert.AdamDkvIdeal.nD Cert.AdamDkvIdeal.τ).loc Cert.AdamDkvIdeal.main_arg3))
      ∧ r.2.sem = fun _ => 0)

def quiescent_AdamDkvReferenceIdeal [hAdamDkvReferenceIdeal : Cert.AdamDkvReferenceIdeal.Facts] : Prop :=
  ∀ (m : (ℓ : Loc Cert.AdamDkvReferenceIdeal.nD Cert.AdamDkvReferenceIdeal.τ Cert.AdamDkvReferenceIdeal.sig) → Buf (Elt Ideal) ℓ) (g : Dev Cert.AdamDkvReferenceIdeal.nD → PrngReg), Pre_AdamDkvReferenceIdeal m →
    θ_run (Cert.AdamDkvReferenceIdeal.defs (F := Ideal)) (onTc (τ := Cert.AdamDkvReferenceIdeal.τ) (Cert.AdamDkvReferenceIdeal.main (F := Ideal))) ⟨m, fun _ => 0, g⟩ (fun r => (∀ c : Dev Cert.AdamDkvReferenceIdeal.nD,
      r.2.mem ((c.tc : Thread Cert.AdamDkvReferenceIdeal.nD Cert.AdamDkvReferenceIdeal.τ).loc Cert.AdamDkvReferenceIdeal.main_arg0) = m ((c.tc : Thread Cert.AdamDkvReferenceIdeal.nD Cert.AdamDkvReferenceIdeal.τ).loc Cert.AdamDkvReferenceIdeal.main_arg0)
      ∧ r.2.mem ((c.tc : Thread Cert.AdamDkvReferenceIdeal.nD Cert.AdamDkvReferenceIdeal.τ).loc Cert.AdamDkvReferenceIdeal.main_arg1) = m ((c.tc : Thread Cert.AdamDkvReferenceIdeal.nD Cert.AdamDkvReferenceIdeal.τ).loc Cert.AdamDkvReferenceIdeal.main_arg1)
      ∧ r.2.mem ((c.tc : Thread Cert.AdamDkvReferenceIdeal.nD Cert.AdamDkvReferenceIdeal.τ).loc Cert.AdamDkvReferenceIdeal.main_arg2) = m ((c.tc : Thread Cert.AdamDkvReferenceIdeal.nD Cert.AdamDkvReferenceIdeal.τ).loc Cert.AdamDkvReferenceIdeal.main_arg2)
      ∧ r.2.mem ((c.tc : Thread Cert.AdamDkvReferenceIdeal.nD Cert.AdamDkvReferenceIdeal.τ).loc Cert.AdamDkvReferenceIdeal.main_arg3) = m ((c.tc : Thread Cert.AdamDkvReferenceIdeal.nD Cert.AdamDkvReferenceIdeal.τ).loc Cert.AdamDkvReferenceIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvReferenceIdeal [hAdamUkvReferenceIdeal : Cert.AdamUkvReferenceIdeal.Facts] : Prop :=
  ∀ (m : (ℓ : Loc Cert.AdamUkvReferenceIdeal.nD Cert.AdamUkvReferenceIdeal.τ Cert.AdamUkvReferenceIdeal.sig) → Buf (Elt Ideal) ℓ) (g : Dev Cert.AdamUkvReferenceIdeal.nD → PrngReg), Pre_AdamUkvReferenceIdeal m →
    θ_run (Cert.AdamUkvReferenceIdeal.defs (F := Ideal)) (onTc (τ := Cert.AdamUkvReferenceIdeal.τ) (Cert.AdamUkvReferenceIdeal.main (F := Ideal))) ⟨m, fun _ => 0, g⟩ (fun r => (∀ c : Dev Cert.AdamUkvReferenceIdeal.nD,
      r.2.mem ((c.tc : Thread Cert.AdamUkvReferenceIdeal.nD Cert.AdamUkvReferenceIdeal.τ).loc Cert.AdamUkvReferenceIdeal.main_arg0) = m ((c.tc : Thread Cert.AdamUkvReferenceIdeal.nD Cert.AdamUkvReferenceIdeal.τ).loc Cert.AdamUkvReferenceIdeal.main_arg0)
      ∧ r.2.mem ((c.tc : Thread Cert.AdamUkvReferenceIdeal.nD Cert.AdamUkvReferenceIdeal.τ).loc Cert.AdamUkvReferenceIdeal.main_arg1) = m ((c.tc : Thread Cert.AdamUkvReferenceIdeal.nD Cert.AdamUkvReferenceIdeal.τ).loc Cert.AdamUkvReferenceIdeal.main_arg1)
      ∧ r.2.mem ((c.tc : Thread Cert.AdamUkvReferenceIdeal.nD Cert.AdamUkvReferenceIdeal.τ).loc Cert.AdamUkvReferenceIdeal.main_arg2) = m ((c.tc : Thread Cert.AdamUkvReferenceIdeal.nD Cert.AdamUkvReferenceIdeal.τ).loc Cert.AdamUkvReferenceIdeal.main_arg2)
      ∧ r.2.mem ((c.tc : Thread Cert.AdamUkvReferenceIdeal.nD Cert.AdamUkvReferenceIdeal.τ).loc Cert.AdamUkvReferenceIdeal.main_arg3) = m ((c.tc : Thread Cert.AdamUkvReferenceIdeal.nD Cert.AdamUkvReferenceIdeal.τ).loc Cert.AdamUkvReferenceIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModReferenceIdeal [hAdamModReferenceIdeal : Cert.AdamModReferenceIdeal.Facts] : Prop :=
  ∀ (m : (ℓ : Loc Cert.AdamModReferenceIdeal.nD Cert.AdamModReferenceIdeal.τ Cert.AdamModReferenceIdeal.sig) → Buf (Elt Ideal) ℓ) (g : Dev Cert.AdamModReferenceIdeal.nD → PrngReg), Pre_AdamModReferenceIdeal m →
    θ_run (Cert.AdamModReferenceIdeal.defs (F := Ideal)) (onTc (τ := Cert.AdamModReferenceIdeal.τ) (Cert.AdamModReferenceIdeal.main (F := Ideal))) ⟨m, fun _ => 0, g⟩ (fun r => (∀ c : Dev Cert.AdamModReferenceIdeal.nD,
      r.2.mem ((c.tc : Thread Cert.AdamModReferenceIdeal.nD Cert.AdamModReferenceIdeal.τ).loc Cert.AdamModReferenceIdeal.main_arg0) = m ((c.tc : Thread Cert.AdamModReferenceIdeal.nD Cert.AdamModReferenceIdeal.τ).loc Cert.AdamModReferenceIdeal.main_arg0)
      ∧ r.2.mem ((c.tc : Thread Cert.AdamModReferenceIdeal.nD Cert.AdamModReferenceIdeal.τ).loc Cert.AdamModReferenceIdeal.main_arg1) = m ((c.tc : Thread Cert.AdamModReferenceIdeal.nD Cert.AdamModReferenceIdeal.τ).loc Cert.AdamModReferenceIdeal.main_arg1)
      ∧ r.2.mem ((c.tc : Thread Cert.AdamModReferenceIdeal.nD Cert.AdamModReferenceIdeal.τ).loc Cert.AdamModReferenceIdeal.main_arg2) = m ((c.tc : Thread Cert.AdamModReferenceIdeal.nD Cert.AdamModReferenceIdeal.τ).loc Cert.AdamModReferenceIdeal.main_arg2)
      ∧ r.2.mem ((c.tc : Thread Cert.AdamModReferenceIdeal.nD Cert.AdamModReferenceIdeal.τ).loc Cert.AdamModReferenceIdeal.main_arg3) = m ((c.tc : Thread Cert.AdamModReferenceIdeal.nD Cert.AdamModReferenceIdeal.τ).loc Cert.AdamModReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_ModDw [hModDw : Cert.ModDw.Facts] : Prop :=
  ∀ (m : (ℓ : Loc Cert.ModDw.nD Cert.ModDw.τ Cert.ModDw.sig) → Buf (Elt Bits) ℓ) (g : Dev Cert.ModDw.nD → PrngReg), Pre_ModDw m →
    θ_run (Cert.ModDw.defs (F := Bits)) (onTc (τ := Cert.ModDw.τ) (Cert.ModDw.main (F := Bits))) ⟨m, fun _ => 0, g⟩ (fun r => (∀ c : Dev Cert.ModDw.nD,
      r.2.mem ((c.tc : Thread Cert.ModDw.nD Cert.ModDw.τ).loc Cert.ModDw.main_arg0) = m ((c.tc : Thread Cert.ModDw.nD Cert.ModDw.τ).loc Cert.ModDw.main_arg0)
      ∧ r.2.mem ((c.tc : Thread Cert.ModDw.nD Cert.ModDw.τ).loc Cert.ModDw.main_arg1) = m ((c.tc : Thread Cert.ModDw.nD Cert.ModDw.τ).loc Cert.ModDw.main_arg1))
      ∧ r.2.sem = fun _ => 0)

def quiescent_ModDwIdeal [hModDwIdeal : Cert.ModDwIdeal.Facts] : Prop :=
  ∀ (m : (ℓ : Loc Cert.ModDwIdeal.nD Cert.ModDwIdeal.τ Cert.ModDwIdeal.sig) → Buf (Elt Ideal) ℓ) (g : Dev Cert.ModDwIdeal.nD → PrngReg), Pre_ModDwIdeal m →
    θ_run (Cert.ModDwIdeal.defs (F := Ideal)) (onTc (τ := Cert.ModDwIdeal.τ) (Cert.ModDwIdeal.main (F := Ideal))) ⟨m, fun _ => 0, g⟩ (fun r => (∀ c : Dev Cert.ModDwIdeal.nD,
      r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
      ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ r.2.sem = fun _ => 0)

def quiescent_ModDwReferenceIdeal [hModDwReferenceIdeal : Cert.ModDwReferenceIdeal.Facts] : Prop :=
  ∀ (m : (ℓ : Loc Cert.ModDwReferenceIdeal.nD Cert.ModDwReferenceIdeal.τ Cert.ModDwReferenceIdeal.sig) → Buf (Elt Ideal) ℓ) (g : Dev Cert.ModDwReferenceIdeal.nD → PrngReg), Pre_ModDwReferenceIdeal m →
    θ_run (Cert.ModDwReferenceIdeal.defs (F := Ideal)) (onTc (τ := Cert.ModDwReferenceIdeal.τ) (Cert.ModDwReferenceIdeal.main (F := Ideal))) ⟨m, fun _ => 0, g⟩ (fun r => (∀ c : Dev Cert.ModDwReferenceIdeal.nD,
      r.2.mem ((c.tc : Thread Cert.ModDwReferenceIdeal.nD Cert.ModDwReferenceIdeal.τ).loc Cert.ModDwReferenceIdeal.main_arg0) = m ((c.tc : Thread Cert.ModDwReferenceIdeal.nD Cert.ModDwReferenceIdeal.τ).loc Cert.ModDwReferenceIdeal.main_arg0)
      ∧ r.2.mem ((c.tc : Thread Cert.ModDwReferenceIdeal.nD Cert.ModDwReferenceIdeal.τ).loc Cert.ModDwReferenceIdeal.main_arg1) = m ((c.tc : Thread Cert.ModDwReferenceIdeal.nD Cert.ModDwReferenceIdeal.τ).loc Cert.ModDwReferenceIdeal.main_arg1))
      ∧ r.2.sem = fun _ => 0)

def quiescent_NormDx [hNormDx : Cert.NormDx.Facts] : Prop :=
  ∀ (m : (ℓ : Loc Cert.NormDx.nD Cert.NormDx.τ Cert.NormDx.sig) → Buf (Elt Bits) ℓ) (g : Dev Cert.NormDx.nD → PrngReg), Pre_NormDx m →
    θ_run (Cert.NormDx.defs (F := Bits)) (onTc (τ := Cert.NormDx.τ) (Cert.NormDx.main (F := Bits))) ⟨m, fun _ => 0, g⟩ (fun r => (∀ c : Dev Cert.NormDx.nD,
      r.2.mem ((c.tc : Thread Cert.NormDx.nD Cert.NormDx.τ).loc Cert.NormDx.main_arg0) = m ((c.tc : Thread Cert.NormDx.nD Cert.NormDx.τ).loc Cert.NormDx.main_arg0)
      ∧ r.2.mem ((c.tc : Thread Cert.NormDx.nD Cert.NormDx.τ).loc Cert.NormDx.main_arg1) = m ((c.tc : Thread Cert.NormDx.nD Cert.NormDx.τ).loc Cert.NormDx.main_arg1)
      ∧ r.2.mem ((c.tc : Thread Cert.NormDx.nD Cert.NormDx.τ).loc Cert.NormDx.main_arg2) = m ((c.tc : Thread Cert.NormDx.nD Cert.NormDx.τ).loc Cert.NormDx.main_arg2)
      ∧ r.2.mem ((c.tc : Thread Cert.NormDx.nD Cert.NormDx.τ).loc Cert.NormDx.main_arg3) = m ((c.tc : Thread Cert.NormDx.nD Cert.NormDx.τ).loc Cert.NormDx.main_arg3)
      ∧ r.2.mem ((c.tc : Thread Cert.NormDx.nD Cert.NormDx.τ).loc Cert.NormDx.main_arg4) = m ((c.tc : Thread Cert.NormDx.nD Cert.NormDx.τ).loc Cert.NormDx.main_arg4)
      ∧ r.2.mem ((c.tc : Thread Cert.NormDx.nD Cert.NormDx.τ).loc Cert.NormDx.main_arg5) = m ((c.tc : Thread Cert.NormDx.nD Cert.NormDx.τ).loc Cert.NormDx.main_arg5))
      ∧ r.2.sem = fun _ => 0)

def quiescent_NormDxIdeal [hNormDxIdeal : Cert.NormDxIdeal.Facts] : Prop :=
  ∀ (m : (ℓ : Loc Cert.NormDxIdeal.nD Cert.NormDxIdeal.τ Cert.NormDxIdeal.sig) → Buf (Elt Ideal) ℓ) (g : Dev Cert.NormDxIdeal.nD → PrngReg), Pre_NormDxIdeal m →
    θ_run (Cert.NormDxIdeal.defs (F := Ideal)) (onTc (τ := Cert.NormDxIdeal.τ) (Cert.NormDxIdeal.main (F := Ideal))) ⟨m, fun _ => 0, g⟩ (fun r => (∀ c : Dev Cert.NormDxIdeal.nD,
      r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
      ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
      ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
      ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
      ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4)
      ∧ r.2.mem ((c.tc : Thread Cert.NormDxIdeal.nD Cert.NormDxIdeal.τ).loc Cert.NormDxIdeal.main_arg5) = m ((c.tc : Thread Cert.NormDxIdeal.nD Cert.NormDxIdeal.τ).loc Cert.NormDxIdeal.main_arg5))
      ∧ r.2.sem = fun _ => 0)

def quiescent_NormDxReferenceIdeal [hNormDxReferenceIdeal : Cert.NormDxReferenceIdeal.Facts] : Prop :=
  ∀ (m : (ℓ : Loc Cert.NormDxReferenceIdeal.nD Cert.NormDxReferenceIdeal.τ Cert.NormDxReferenceIdeal.sig) → Buf (Elt Ideal) ℓ) (g : Dev Cert.NormDxReferenceIdeal.nD → PrngReg), Pre_NormDxReferenceIdeal m →
    θ_run (Cert.NormDxReferenceIdeal.defs (F := Ideal)) (onTc (τ := Cert.NormDxReferenceIdeal.τ) (Cert.NormDxReferenceIdeal.main (F := Ideal))) ⟨m, fun _ => 0, g⟩ (fun r => (∀ c : Dev Cert.NormDxReferenceIdeal.nD,
      r.2.mem ((c.tc : Thread Cert.NormDxReferenceIdeal.nD Cert.NormDxReferenceIdeal.τ).loc Cert.NormDxReferenceIdeal.main_arg0) = m ((c.tc : Thread Cert.NormDxReferenceIdeal.nD Cert.NormDxReferenceIdeal.τ).loc Cert.NormDxReferenceIdeal.main_arg0)
      ∧ r.2.mem ((c.tc : Thread Cert.NormDxReferenceIdeal.nD Cert.NormDxReferenceIdeal.τ).loc Cert.NormDxReferenceIdeal.main_arg1) = m ((c.tc : Thread Cert.NormDxReferenceIdeal.nD Cert.NormDxReferenceIdeal.τ).loc Cert.NormDxReferenceIdeal.main_arg1)
      ∧ r.2.mem ((c.tc : Thread Cert.NormDxReferenceIdeal.nD Cert.NormDxReferenceIdeal.τ).loc Cert.NormDxReferenceIdeal.main_arg2) = m ((c.tc : Thread Cert.NormDxReferenceIdeal.nD Cert.NormDxReferenceIdeal.τ).loc Cert.NormDxReferenceIdeal.main_arg2)
      ∧ r.2.mem ((c.tc : Thread Cert.NormDxReferenceIdeal.nD Cert.NormDxReferenceIdeal.τ).loc Cert.NormDxReferenceIdeal.main_arg3) = m ((c.tc : Thread Cert.NormDxReferenceIdeal.nD Cert.NormDxReferenceIdeal.τ).loc Cert.NormDxReferenceIdeal.main_arg3)
      ∧ r.2.mem ((c.tc : Thread Cert.NormDxReferenceIdeal.nD Cert.NormDxReferenceIdeal.τ).loc Cert.NormDxReferenceIdeal.main_arg4) = m ((c.tc : Thread Cert.NormDxReferenceIdeal.nD Cert.NormDxReferenceIdeal.τ).loc Cert.NormDxReferenceIdeal.main_arg4)
      ∧ r.2.mem ((c.tc : Thread Cert.NormDxReferenceIdeal.nD Cert.NormDxReferenceIdeal.τ).loc Cert.NormDxReferenceIdeal.main_arg5) = m ((c.tc : Thread Cert.NormDxReferenceIdeal.nD Cert.NormDxReferenceIdeal.τ).loc Cert.NormDxReferenceIdeal.main_arg5))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 8448]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v33_0) i = v0 c i)
          ∧ (∀ i : (⟨2, ![8448, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v33_1) i = v1 c i)
          ∧ (∀ i : (⟨2, ![8448, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v33_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 8448]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v78) i = v0 c i)
          ∧ (∀ i : (⟨2, ![8448, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v74) i = v1 c i)
          ∧ (∀ i : (⟨2, ![8448, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v73) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mla_MlaIdeal : Prop :=
  IdealRules.named_const.Statement Cert.MlaIdeal.κ "scale_log2e" .f32 0x3DD53B95#32 (((Real.sqrt 192)⁻¹ * (Real.log 2)⁻¹ : ℝ) : EReal)
  ∧ IdealRules.named_const.Statement Cert.MlaIdeal.κ "log2e" .f32 0x3FB8AA3B#32 (((Real.log 2)⁻¹ : ℝ) : EReal)
  ∧ IdealRules.named_const.Statement Cert.MlaIdeal.κ "scale" .f32 0x3D93CD3A#32 (((Real.sqrt 192)⁻¹ : ℝ) : EReal)

def algebraic_MlaIdeal_MlaReferenceIdeal_on_mla_written_pre_mla_finite [hMlaIdeal : Cert.MlaIdeal.Facts] [hMlaReferenceIdeal : Cert.MlaReferenceIdeal.Facts] [hPre_mla_finite : Cert.Pre_mla_finite.Facts] [hOn_mla_written : Cert.On_mla_written.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaIdeal_mla_finite m →
    (∀ c : Dev Cert.MlaIdeal.nD,
      m' ((c.tc : Thread Cert.MlaReferenceIdeal.nD Cert.MlaReferenceIdeal.τ).loc Cert.MlaReferenceIdeal.main_arg0) = m ((c.tc : Thread Cert.MlaIdeal.nD Cert.MlaIdeal.τ).loc Cert.MlaIdeal.main_arg0)
      ∧ m' ((c.tc : Thread Cert.MlaReferenceIdeal.nD Cert.MlaReferenceIdeal.τ).loc Cert.MlaReferenceIdeal.main_arg1) = m ((c.tc : Thread Cert.MlaIdeal.nD Cert.MlaIdeal.τ).loc Cert.MlaIdeal.main_arg1)
      ∧ m' ((c.tc : Thread Cert.MlaReferenceIdeal.nD Cert.MlaReferenceIdeal.τ).loc Cert.MlaReferenceIdeal.main_arg2) = m ((c.tc : Thread Cert.MlaIdeal.nD Cert.MlaIdeal.τ).loc Cert.MlaIdeal.main_arg2)
      ∧ m' ((c.tc : Thread Cert.MlaReferenceIdeal.nD Cert.MlaReferenceIdeal.τ).loc Cert.MlaReferenceIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v37_0)) (v1 : (c : Dev Cert.MlaIdeal.nD) → Buf (Elt Ideal) ((c.tc : Thread Cert.MlaIdeal.nD Cert.MlaIdeal.τ).loc Cert.MlaIdeal.main_v37_1)) (v2 : (c : Dev Cert.MlaIdeal.nD) → Buf (Elt Ideal) ((c.tc : Thread Cert.MlaIdeal.nD Cert.MlaIdeal.τ).loc Cert.MlaIdeal.main_v37_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          (∀ i : (⟨3, ![16, 192, 8448]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 i = 1#1 → r.2.mem ((c.tc : Thread Cert.MlaIdeal.nD Cert.MlaIdeal.τ).loc Cert.MlaIdeal.main_v37_0) i = v0 c i)
          ∧ (∀ i : (⟨3, ![16, 8448, 192]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 i = 1#1 → r.2.mem ((c.tc : Thread Cert.MlaIdeal.nD Cert.MlaIdeal.τ).loc Cert.MlaIdeal.main_v37_1) i = v1 c i)
          ∧ (∀ i : (⟨2, ![8448, 2048]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2 i = 1#1 → r.2.mem ((c.tc : Thread Cert.MlaIdeal.nD Cert.MlaIdeal.τ).loc Cert.MlaIdeal.main_v37_2) i = v2 c i)
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          (∀ i : (⟨3, ![16, 192, 8448]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).1 i = 1#1 → r.2.mem ((c.tc : Thread Cert.MlaReferenceIdeal.nD Cert.MlaReferenceIdeal.τ).loc Cert.MlaReferenceIdeal.main_v84) i = v0 c i)
          ∧ (∀ i : (⟨3, ![16, 8448, 192]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.1 i = 1#1 → r.2.mem ((c.tc : Thread Cert.MlaReferenceIdeal.nD Cert.MlaReferenceIdeal.τ).loc Cert.MlaReferenceIdeal.main_v79) i = v1 c i)
          ∧ (∀ i : (⟨2, ![8448, 2048]⟩ : Shape).Idx, (Cert.On_mla_written.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))).2.2 i = 1#1 → r.2.mem ((c.tc : Thread Cert.MlaReferenceIdeal.nD Cert.MlaReferenceIdeal.τ).loc Cert.MlaReferenceIdeal.main_v77) i = v2 c i)
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_UpDa_UpDaIdeal : Prop :=
  True

def algebraic_UpDaIdeal_UpDaReferenceIdeal [hUpDaIdeal : Cert.UpDaIdeal.Facts] [hUpDaReferenceIdeal : Cert.UpDaReferenceIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaReferenceIdeal.nD Cert.UpDaReferenceIdeal.τ Cert.UpDaReferenceIdeal.sig) → Buf (Elt Ideal) ℓ) (g' : Dev Cert.UpDaReferenceIdeal.nD → PrngReg), Pre_UpDaIdeal m →
    (∀ c : Dev Cert.UpDaIdeal.nD,
      m' ((c.tc : Thread Cert.UpDaReferenceIdeal.nD Cert.UpDaReferenceIdeal.τ).loc Cert.UpDaReferenceIdeal.main_arg0) = m ((c.tc : Thread Cert.UpDaIdeal.nD Cert.UpDaIdeal.τ).loc Cert.UpDaIdeal.main_arg0)
      ∧ m' ((c.tc : Thread Cert.UpDaReferenceIdeal.nD Cert.UpDaReferenceIdeal.τ).loc Cert.UpDaReferenceIdeal.main_arg1) = m ((c.tc : Thread Cert.UpDaIdeal.nD Cert.UpDaIdeal.τ).loc Cert.UpDaIdeal.main_arg1)) →
    ∃ (v0 : (c : Dev Cert.UpDaIdeal.nD) → Buf (Elt Ideal) ((c.tc : Thread Cert.UpDaIdeal.nD Cert.UpDaIdeal.τ).loc Cert.UpDaIdeal.main_v0)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v0) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ θ_run (Cert.UpDaReferenceIdeal.defs (F := Ideal)) (onTc (τ := Cert.UpDaReferenceIdeal.τ) (Cert.UpDaReferenceIdeal.main (F := Ideal))) ⟨m', fun _ => 0, g'⟩ (fun r => ∀ c : Dev Cert.UpDaReferenceIdeal.nD,
          r.2.mem ((c.tc : Thread Cert.UpDaReferenceIdeal.nD Cert.UpDaReferenceIdeal.τ).loc Cert.UpDaReferenceIdeal.main_v5) = v0 c
          ∧ r.2.mem ((c.tc : Thread Cert.UpDaReferenceIdeal.nD Cert.UpDaReferenceIdeal.τ).loc Cert.UpDaReferenceIdeal.main_arg0) = m' ((c.tc : Thread Cert.UpDaReferenceIdeal.nD Cert.UpDaReferenceIdeal.τ).loc Cert.UpDaReferenceIdeal.main_arg0)
          ∧ r.2.mem ((c.tc : Thread Cert.UpDaReferenceIdeal.nD Cert.UpDaReferenceIdeal.τ).loc Cert.UpDaReferenceIdeal.main_arg1) = m' ((c.tc : Thread Cert.UpDaReferenceIdeal.nD Cert.UpDaReferenceIdeal.τ).loc Cert.UpDaReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v1) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v6) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_DownDa_DownDaIdeal : Prop :=
  True

def algebraic_DownDaIdeal_DownDaReferenceIdeal [hDownDaIdeal : Cert.DownDaIdeal.Facts] [hDownDaReferenceIdeal : Cert.DownDaReferenceIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaReferenceIdeal.nD Cert.DownDaReferenceIdeal.τ Cert.DownDaReferenceIdeal.sig) → Buf (Elt Ideal) ℓ) (g' : Dev Cert.DownDaReferenceIdeal.nD → PrngReg), Pre_DownDaIdeal m →
    (∀ c : Dev Cert.DownDaIdeal.nD,
      m' ((c.tc : Thread Cert.DownDaReferenceIdeal.nD Cert.DownDaReferenceIdeal.τ).loc Cert.DownDaReferenceIdeal.main_arg0) = m ((c.tc : Thread Cert.DownDaIdeal.nD Cert.DownDaIdeal.τ).loc Cert.DownDaIdeal.main_arg0)
      ∧ m' ((c.tc : Thread Cert.DownDaReferenceIdeal.nD Cert.DownDaReferenceIdeal.τ).loc Cert.DownDaReferenceIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaReferenceIdeal.defs (F := Ideal)) (onTc (τ := Cert.DownDaReferenceIdeal.τ) (Cert.DownDaReferenceIdeal.main (F := Ideal))) ⟨m', fun _ => 0, g'⟩ (fun r => ∀ c : Dev Cert.DownDaReferenceIdeal.nD,
          r.2.mem ((c.tc : Thread Cert.DownDaReferenceIdeal.nD Cert.DownDaReferenceIdeal.τ).loc Cert.DownDaReferenceIdeal.main_v5) = v0 c
          ∧ r.2.mem ((c.tc : Thread Cert.DownDaReferenceIdeal.nD Cert.DownDaReferenceIdeal.τ).loc Cert.DownDaReferenceIdeal.main_arg0) = m' ((c.tc : Thread Cert.DownDaReferenceIdeal.nD Cert.DownDaReferenceIdeal.τ).loc Cert.DownDaReferenceIdeal.main_arg0)
          ∧ r.2.mem ((c.tc : Thread Cert.DownDaReferenceIdeal.nD Cert.DownDaReferenceIdeal.τ).loc Cert.DownDaReferenceIdeal.main_arg1) = m' ((c.tc : Thread Cert.DownDaReferenceIdeal.nD Cert.DownDaReferenceIdeal.τ).loc Cert.DownDaReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v3) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_OutDa_OutDaIdeal : Prop :=
  True

def algebraic_OutDaIdeal_OutDaReferenceIdeal [hOutDaIdeal : Cert.OutDaIdeal.Facts] [hOutDaReferenceIdeal : Cert.OutDaReferenceIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaReferenceIdeal.nD Cert.OutDaReferenceIdeal.τ Cert.OutDaReferenceIdeal.sig) → Buf (Elt Ideal) ℓ) (g' : Dev Cert.OutDaReferenceIdeal.nD → PrngReg), Pre_OutDaIdeal m →
    (∀ c : Dev Cert.OutDaIdeal.nD,
      m' ((c.tc : Thread Cert.OutDaReferenceIdeal.nD Cert.OutDaReferenceIdeal.τ).loc Cert.OutDaReferenceIdeal.main_arg0) = m ((c.tc : Thread Cert.OutDaIdeal.nD Cert.OutDaIdeal.τ).loc Cert.OutDaIdeal.main_arg0)
      ∧ m' ((c.tc : Thread Cert.OutDaReferenceIdeal.nD Cert.OutDaReferenceIdeal.τ).loc Cert.OutDaReferenceIdeal.main_arg1) = m ((c.tc : Thread Cert.OutDaIdeal.nD Cert.OutDaIdeal.τ).loc Cert.OutDaIdeal.main_arg1)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ θ_run (Cert.OutDaReferenceIdeal.defs (F := Ideal)) (onTc (τ := Cert.OutDaReferenceIdeal.τ) (Cert.OutDaReferenceIdeal.main (F := Ideal))) ⟨m', fun _ => 0, g'⟩ (fun r => ∀ c : Dev Cert.OutDaReferenceIdeal.nD,
          r.2.mem ((c.tc : Thread Cert.OutDaReferenceIdeal.nD Cert.OutDaReferenceIdeal.τ).loc Cert.OutDaReferenceIdeal.main_v5) = v0 c
          ∧ r.2.mem ((c.tc : Thread Cert.OutDaReferenceIdeal.nD Cert.OutDaReferenceIdeal.τ).loc Cert.OutDaReferenceIdeal.main_arg0) = m' ((c.tc : Thread Cert.OutDaReferenceIdeal.nD Cert.OutDaReferenceIdeal.τ).loc Cert.OutDaReferenceIdeal.main_arg0)
          ∧ r.2.mem ((c.tc : Thread Cert.OutDaReferenceIdeal.nD Cert.OutDaReferenceIdeal.τ).loc Cert.OutDaReferenceIdeal.main_arg1) = m' ((c.tc : Thread Cert.OutDaReferenceIdeal.nD Cert.OutDaReferenceIdeal.τ).loc Cert.OutDaReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v6_0)) (v1 : (c : Dev Cert.DownIdeal.nD) → Buf (Elt Ideal) ((c.tc : Thread Cert.DownIdeal.nD Cert.DownIdeal.τ).loc Cert.DownIdeal.main_v6_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6_0) = v0 c
          ∧ r.2.mem ((c.tc : Thread Cert.DownIdeal.nD Cert.DownIdeal.τ).loc Cert.DownIdeal.main_v6_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_v16) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v6_0)) (v1 : (c : Dev Cert.OutIdeal.nD) → Buf (Elt Ideal) ((c.tc : Thread Cert.OutIdeal.nD Cert.OutIdeal.τ).loc Cert.OutIdeal.main_v6_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6_0) = v0 c
          ∧ r.2.mem ((c.tc : Thread Cert.OutIdeal.nD Cert.OutIdeal.τ).loc Cert.OutIdeal.main_v6_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v15) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v2) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1))

def preserves_QueryDa_QueryDaIdeal : Prop :=
  True

def algebraic_QueryDaIdeal_QueryDaReferenceIdeal [hQueryDaIdeal : Cert.QueryDaIdeal.Facts] [hQueryDaReferenceIdeal : Cert.QueryDaReferenceIdeal.Facts] : Prop :=
  ∀ (m : (ℓ : Loc Cert.QueryDaIdeal.nD Cert.QueryDaIdeal.τ Cert.QueryDaIdeal.sig) → Buf (Elt Ideal) ℓ) (g : Dev Cert.QueryDaIdeal.nD → PrngReg)
    (m' : (ℓ : Loc Cert.QueryDaReferenceIdeal.nD Cert.QueryDaReferenceIdeal.τ Cert.QueryDaReferenceIdeal.sig) → Buf (Elt Ideal) ℓ) (g' : Dev Cert.QueryDaReferenceIdeal.nD → PrngReg), Pre_QueryDaIdeal m →
    (∀ c : Dev Cert.QueryDaIdeal.nD,
      m' ((c.tc : Thread Cert.QueryDaReferenceIdeal.nD Cert.QueryDaReferenceIdeal.τ).loc Cert.QueryDaReferenceIdeal.main_arg0) = m ((c.tc : Thread Cert.QueryDaIdeal.nD Cert.QueryDaIdeal.τ).loc Cert.QueryDaIdeal.main_arg0)
      ∧ m' ((c.tc : Thread Cert.QueryDaReferenceIdeal.nD Cert.QueryDaReferenceIdeal.τ).loc Cert.QueryDaReferenceIdeal.main_arg1) = m ((c.tc : Thread Cert.QueryDaIdeal.nD Cert.QueryDaIdeal.τ).loc Cert.QueryDaIdeal.main_arg1)) →
    ∃ (v0 : (c : Dev Cert.QueryDaIdeal.nD) → Buf (Elt Ideal) ((c.tc : Thread Cert.QueryDaIdeal.nD Cert.QueryDaIdeal.τ).loc Cert.QueryDaIdeal.main_v0)),
      θ_run (Cert.QueryDaIdeal.defs (F := Ideal)) (onTc (τ := Cert.QueryDaIdeal.τ) (Cert.QueryDaIdeal.main (F := Ideal))) ⟨m, fun _ => 0, g⟩ (fun r => ∀ c : Dev Cert.QueryDaIdeal.nD,
          r.2.mem ((c.tc : Thread Cert.QueryDaIdeal.nD Cert.QueryDaIdeal.τ).loc Cert.QueryDaIdeal.main_v0) = v0 c
          ∧ r.2.mem ((c.tc : Thread Cert.QueryDaIdeal.nD Cert.QueryDaIdeal.τ).loc Cert.QueryDaIdeal.main_arg0) = m ((c.tc : Thread Cert.QueryDaIdeal.nD Cert.QueryDaIdeal.τ).loc Cert.QueryDaIdeal.main_arg0)
          ∧ r.2.mem ((c.tc : Thread Cert.QueryDaIdeal.nD Cert.QueryDaIdeal.τ).loc Cert.QueryDaIdeal.main_arg1) = m ((c.tc : Thread Cert.QueryDaIdeal.nD Cert.QueryDaIdeal.τ).loc Cert.QueryDaIdeal.main_arg1))
      ∧ θ_run (Cert.QueryDaReferenceIdeal.defs (F := Ideal)) (onTc (τ := Cert.QueryDaReferenceIdeal.τ) (Cert.QueryDaReferenceIdeal.main (F := Ideal))) ⟨m', fun _ => 0, g'⟩ (fun r => ∀ c : Dev Cert.QueryDaReferenceIdeal.nD,
          r.2.mem ((c.tc : Thread Cert.QueryDaReferenceIdeal.nD Cert.QueryDaReferenceIdeal.τ).loc Cert.QueryDaReferenceIdeal.main_v4) = v0 c
          ∧ r.2.mem ((c.tc : Thread Cert.QueryDaReferenceIdeal.nD Cert.QueryDaReferenceIdeal.τ).loc Cert.QueryDaReferenceIdeal.main_arg0) = m' ((c.tc : Thread Cert.QueryDaReferenceIdeal.nD Cert.QueryDaReferenceIdeal.τ).loc Cert.QueryDaReferenceIdeal.main_arg0)
          ∧ r.2.mem ((c.tc : Thread Cert.QueryDaReferenceIdeal.nD Cert.QueryDaReferenceIdeal.τ).loc Cert.QueryDaReferenceIdeal.main_arg1) = m' ((c.tc : Thread Cert.QueryDaReferenceIdeal.nD Cert.QueryDaReferenceIdeal.τ).loc Cert.QueryDaReferenceIdeal.main_arg1))

def preserves_QueryDw_QueryDwIdeal : Prop :=
  True

def algebraic_QueryDwIdeal_QueryDwReferenceIdeal [hQueryDwIdeal : Cert.QueryDwIdeal.Facts] [hQueryDwReferenceIdeal : Cert.QueryDwReferenceIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwReferenceIdeal.nD Cert.QueryDwReferenceIdeal.τ Cert.QueryDwReferenceIdeal.sig) → Buf (Elt Ideal) ℓ) (g' : Dev Cert.QueryDwReferenceIdeal.nD → PrngReg), Pre_QueryDwIdeal m →
    (∀ c : Dev Cert.QueryDwIdeal.nD,
      m' ((c.tc : Thread Cert.QueryDwReferenceIdeal.nD Cert.QueryDwReferenceIdeal.τ).loc Cert.QueryDwReferenceIdeal.main_arg0) = m ((c.tc : Thread Cert.QueryDwIdeal.nD Cert.QueryDwIdeal.τ).loc Cert.QueryDwIdeal.main_arg0)
      ∧ m' ((c.tc : Thread Cert.QueryDwReferenceIdeal.nD Cert.QueryDwReferenceIdeal.τ).loc Cert.QueryDwReferenceIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v1)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v1) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwReferenceIdeal.defs (F := Ideal)) (onTc (τ := Cert.QueryDwReferenceIdeal.τ) (Cert.QueryDwReferenceIdeal.main (F := Ideal))) ⟨m', fun _ => 0, g'⟩ (fun r => ∀ c : Dev Cert.QueryDwReferenceIdeal.nD,
          r.2.mem ((c.tc : Thread Cert.QueryDwReferenceIdeal.nD Cert.QueryDwReferenceIdeal.τ).loc Cert.QueryDwReferenceIdeal.main_v5) = v0 c
          ∧ r.2.mem ((c.tc : Thread Cert.QueryDwReferenceIdeal.nD Cert.QueryDwReferenceIdeal.τ).loc Cert.QueryDwReferenceIdeal.main_arg0) = m' ((c.tc : Thread Cert.QueryDwReferenceIdeal.nD Cert.QueryDwReferenceIdeal.τ).loc Cert.QueryDwReferenceIdeal.main_arg0)
          ∧ r.2.mem ((c.tc : Thread Cert.QueryDwReferenceIdeal.nD Cert.QueryDwReferenceIdeal.τ).loc Cert.QueryDwReferenceIdeal.main_arg1) = m' ((c.tc : Thread Cert.QueryDwReferenceIdeal.nD Cert.QueryDwReferenceIdeal.τ).loc Cert.QueryDwReferenceIdeal.main_arg1))

def preserves_Key_KeyIdeal : Prop :=
  True

def algebraic_KeyIdeal_KeyReferenceIdeal [hKeyIdeal : Cert.KeyIdeal.Facts] [hKeyReferenceIdeal : Cert.KeyReferenceIdeal.Facts] : Prop :=
  ∀ (m : (ℓ : Loc Cert.KeyIdeal.nD Cert.KeyIdeal.τ Cert.KeyIdeal.sig) → Buf (Elt Ideal) ℓ) (g : Dev Cert.KeyIdeal.nD → PrngReg)
    (m' : (ℓ : Loc Cert.KeyReferenceIdeal.nD Cert.KeyReferenceIdeal.τ Cert.KeyReferenceIdeal.sig) → Buf (Elt Ideal) ℓ) (g' : Dev Cert.KeyReferenceIdeal.nD → PrngReg), Pre_KeyIdeal m →
    (∀ c : Dev Cert.KeyIdeal.nD,
      m' ((c.tc : Thread Cert.KeyReferenceIdeal.nD Cert.KeyReferenceIdeal.τ).loc Cert.KeyReferenceIdeal.main_arg0) = m ((c.tc : Thread Cert.KeyIdeal.nD Cert.KeyIdeal.τ).loc Cert.KeyIdeal.main_arg0)
      ∧ m' ((c.tc : Thread Cert.KeyReferenceIdeal.nD Cert.KeyReferenceIdeal.τ).loc Cert.KeyReferenceIdeal.main_arg1) = m ((c.tc : Thread Cert.KeyIdeal.nD Cert.KeyIdeal.τ).loc Cert.KeyIdeal.main_arg1)) →
    ∃ (v0 : (c : Dev Cert.KeyIdeal.nD) → Buf (Elt Ideal) ((c.tc : Thread Cert.KeyIdeal.nD Cert.KeyIdeal.τ).loc Cert.KeyIdeal.main_v0)),
      θ_run (Cert.KeyIdeal.defs (F := Ideal)) (onTc (τ := Cert.KeyIdeal.τ) (Cert.KeyIdeal.main (F := Ideal))) ⟨m, fun _ => 0, g⟩ (fun r => ∀ c : Dev Cert.KeyIdeal.nD,
          r.2.mem ((c.tc : Thread Cert.KeyIdeal.nD Cert.KeyIdeal.τ).loc Cert.KeyIdeal.main_v0) = v0 c
          ∧ r.2.mem ((c.tc : Thread Cert.KeyIdeal.nD Cert.KeyIdeal.τ).loc Cert.KeyIdeal.main_arg0) = m ((c.tc : Thread Cert.KeyIdeal.nD Cert.KeyIdeal.τ).loc Cert.KeyIdeal.main_arg0)
          ∧ r.2.mem ((c.tc : Thread Cert.KeyIdeal.nD Cert.KeyIdeal.τ).loc Cert.KeyIdeal.main_arg1) = m ((c.tc : Thread Cert.KeyIdeal.nD Cert.KeyIdeal.τ).loc Cert.KeyIdeal.main_arg1))
      ∧ θ_run (Cert.KeyReferenceIdeal.defs (F := Ideal)) (onTc (τ := Cert.KeyReferenceIdeal.τ) (Cert.KeyReferenceIdeal.main (F := Ideal))) ⟨m', fun _ => 0, g'⟩ (fun r => ∀ c : Dev Cert.KeyReferenceIdeal.nD,
          r.2.mem ((c.tc : Thread Cert.KeyReferenceIdeal.nD Cert.KeyReferenceIdeal.τ).loc Cert.KeyReferenceIdeal.main_v2) = v0 c
          ∧ r.2.mem ((c.tc : Thread Cert.KeyReferenceIdeal.nD Cert.KeyReferenceIdeal.τ).loc Cert.KeyReferenceIdeal.main_arg0) = m' ((c.tc : Thread Cert.KeyReferenceIdeal.nD Cert.KeyReferenceIdeal.τ).loc Cert.KeyReferenceIdeal.main_arg0)
          ∧ r.2.mem ((c.tc : Thread Cert.KeyReferenceIdeal.nD Cert.KeyReferenceIdeal.τ).loc Cert.KeyReferenceIdeal.main_arg1) = m' ((c.tc : Thread Cert.KeyReferenceIdeal.nD Cert.KeyReferenceIdeal.τ).loc Cert.KeyReferenceIdeal.main_arg1))

def preserves_KeyDa_KeyDaIdeal : Prop :=
  True

def algebraic_KeyDaIdeal_KeyDaReferenceIdeal [hKeyDaIdeal : Cert.KeyDaIdeal.Facts] [hKeyDaReferenceIdeal : Cert.KeyDaReferenceIdeal.Facts] : Prop :=
  ∀ (m : (ℓ : Loc Cert.KeyDaIdeal.nD Cert.KeyDaIdeal.τ Cert.KeyDaIdeal.sig) → Buf (Elt Ideal) ℓ) (g : Dev Cert.KeyDaIdeal.nD → PrngReg)
    (m' : (ℓ : Loc Cert.KeyDaReferenceIdeal.nD Cert.KeyDaReferenceIdeal.τ Cert.KeyDaReferenceIdeal.sig) → Buf (Elt Ideal) ℓ) (g' : Dev Cert.KeyDaReferenceIdeal.nD → PrngReg), Pre_KeyDaIdeal m →
    (∀ c : Dev Cert.KeyDaIdeal.nD,
      m' ((c.tc : Thread Cert.KeyDaReferenceIdeal.nD Cert.KeyDaReferenceIdeal.τ).loc Cert.KeyDaReferenceIdeal.main_arg0) = m ((c.tc : Thread Cert.KeyDaIdeal.nD Cert.KeyDaIdeal.τ).loc Cert.KeyDaIdeal.main_arg0)
      ∧ m' ((c.tc : Thread Cert.KeyDaReferenceIdeal.nD Cert.KeyDaReferenceIdeal.τ).loc Cert.KeyDaReferenceIdeal.main_arg1) = m ((c.tc : Thread Cert.KeyDaIdeal.nD Cert.KeyDaIdeal.τ).loc Cert.KeyDaIdeal.main_arg1)) →
    ∃ (v0 : (c : Dev Cert.KeyDaIdeal.nD) → Buf (Elt Ideal) ((c.tc : Thread Cert.KeyDaIdeal.nD Cert.KeyDaIdeal.τ).loc Cert.KeyDaIdeal.main_v0)),
      θ_run (Cert.KeyDaIdeal.defs (F := Ideal)) (onTc (τ := Cert.KeyDaIdeal.τ) (Cert.KeyDaIdeal.main (F := Ideal))) ⟨m, fun _ => 0, g⟩ (fun r => ∀ c : Dev Cert.KeyDaIdeal.nD,
          r.2.mem ((c.tc : Thread Cert.KeyDaIdeal.nD Cert.KeyDaIdeal.τ).loc Cert.KeyDaIdeal.main_v0) = v0 c
          ∧ r.2.mem ((c.tc : Thread Cert.KeyDaIdeal.nD Cert.KeyDaIdeal.τ).loc Cert.KeyDaIdeal.main_arg0) = m ((c.tc : Thread Cert.KeyDaIdeal.nD Cert.KeyDaIdeal.τ).loc Cert.KeyDaIdeal.main_arg0)
          ∧ r.2.mem ((c.tc : Thread Cert.KeyDaIdeal.nD Cert.KeyDaIdeal.τ).loc Cert.KeyDaIdeal.main_arg1) = m ((c.tc : Thread Cert.KeyDaIdeal.nD Cert.KeyDaIdeal.τ).loc Cert.KeyDaIdeal.main_arg1))
      ∧ θ_run (Cert.KeyDaReferenceIdeal.defs (F := Ideal)) (onTc (τ := Cert.KeyDaReferenceIdeal.τ) (Cert.KeyDaReferenceIdeal.main (F := Ideal))) ⟨m', fun _ => 0, g'⟩ (fun r => ∀ c : Dev Cert.KeyDaReferenceIdeal.nD,
          r.2.mem ((c.tc : Thread Cert.KeyDaReferenceIdeal.nD Cert.KeyDaReferenceIdeal.τ).loc Cert.KeyDaReferenceIdeal.main_v4) = v0 c
          ∧ r.2.mem ((c.tc : Thread Cert.KeyDaReferenceIdeal.nD Cert.KeyDaReferenceIdeal.τ).loc Cert.KeyDaReferenceIdeal.main_arg0) = m' ((c.tc : Thread Cert.KeyDaReferenceIdeal.nD Cert.KeyDaReferenceIdeal.τ).loc Cert.KeyDaReferenceIdeal.main_arg0)
          ∧ r.2.mem ((c.tc : Thread Cert.KeyDaReferenceIdeal.nD Cert.KeyDaReferenceIdeal.τ).loc Cert.KeyDaReferenceIdeal.main_arg1) = m' ((c.tc : Thread Cert.KeyDaReferenceIdeal.nD Cert.KeyDaReferenceIdeal.τ).loc Cert.KeyDaReferenceIdeal.main_arg1))

def preserves_KeyDw_KeyDwIdeal : Prop :=
  True

def algebraic_KeyDwIdeal_KeyDwReferenceIdeal [hKeyDwIdeal : Cert.KeyDwIdeal.Facts] [hKeyDwReferenceIdeal : Cert.KeyDwReferenceIdeal.Facts] : Prop :=
  ∀ (m : (ℓ : Loc Cert.KeyDwIdeal.nD Cert.KeyDwIdeal.τ Cert.KeyDwIdeal.sig) → Buf (Elt Ideal) ℓ) (g : Dev Cert.KeyDwIdeal.nD → PrngReg)
    (m' : (ℓ : Loc Cert.KeyDwReferenceIdeal.nD Cert.KeyDwReferenceIdeal.τ Cert.KeyDwReferenceIdeal.sig) → Buf (Elt Ideal) ℓ) (g' : Dev Cert.KeyDwReferenceIdeal.nD → PrngReg), Pre_KeyDwIdeal m →
    (∀ c : Dev Cert.KeyDwIdeal.nD,
      m' ((c.tc : Thread Cert.KeyDwReferenceIdeal.nD Cert.KeyDwReferenceIdeal.τ).loc Cert.KeyDwReferenceIdeal.main_arg0) = m ((c.tc : Thread Cert.KeyDwIdeal.nD Cert.KeyDwIdeal.τ).loc Cert.KeyDwIdeal.main_arg0)
      ∧ m' ((c.tc : Thread Cert.KeyDwReferenceIdeal.nD Cert.KeyDwReferenceIdeal.τ).loc Cert.KeyDwReferenceIdeal.main_arg1) = m ((c.tc : Thread Cert.KeyDwIdeal.nD Cert.KeyDwIdeal.τ).loc Cert.KeyDwIdeal.main_arg1)) →
    ∃ (v0 : (c : Dev Cert.KeyDwIdeal.nD) → Buf (Elt Ideal) ((c.tc : Thread Cert.KeyDwIdeal.nD Cert.KeyDwIdeal.τ).loc Cert.KeyDwIdeal.main_v1)),
      θ_run (Cert.KeyDwIdeal.defs (F := Ideal)) (onTc (τ := Cert.KeyDwIdeal.τ) (Cert.KeyDwIdeal.main (F := Ideal))) ⟨m, fun _ => 0, g⟩ (fun r => ∀ c : Dev Cert.KeyDwIdeal.nD,
          r.2.mem ((c.tc : Thread Cert.KeyDwIdeal.nD Cert.KeyDwIdeal.τ).loc Cert.KeyDwIdeal.main_v1) = v0 c
          ∧ r.2.mem ((c.tc : Thread Cert.KeyDwIdeal.nD Cert.KeyDwIdeal.τ).loc Cert.KeyDwIdeal.main_arg0) = m ((c.tc : Thread Cert.KeyDwIdeal.nD Cert.KeyDwIdeal.τ).loc Cert.KeyDwIdeal.main_arg0)
          ∧ r.2.mem ((c.tc : Thread Cert.KeyDwIdeal.nD Cert.KeyDwIdeal.τ).loc Cert.KeyDwIdeal.main_arg1) = m ((c.tc : Thread Cert.KeyDwIdeal.nD Cert.KeyDwIdeal.τ).loc Cert.KeyDwIdeal.main_arg1))
      ∧ θ_run (Cert.KeyDwReferenceIdeal.defs (F := Ideal)) (onTc (τ := Cert.KeyDwReferenceIdeal.τ) (Cert.KeyDwReferenceIdeal.main (F := Ideal))) ⟨m', fun _ => 0, g'⟩ (fun r => ∀ c : Dev Cert.KeyDwReferenceIdeal.nD,
          r.2.mem ((c.tc : Thread Cert.KeyDwReferenceIdeal.nD Cert.KeyDwReferenceIdeal.τ).loc Cert.KeyDwReferenceIdeal.main_v5) = v0 c
          ∧ r.2.mem ((c.tc : Thread Cert.KeyDwReferenceIdeal.nD Cert.KeyDwReferenceIdeal.τ).loc Cert.KeyDwReferenceIdeal.main_arg0) = m' ((c.tc : Thread Cert.KeyDwReferenceIdeal.nD Cert.KeyDwReferenceIdeal.τ).loc Cert.KeyDwReferenceIdeal.main_arg0)
          ∧ r.2.mem ((c.tc : Thread Cert.KeyDwReferenceIdeal.nD Cert.KeyDwReferenceIdeal.τ).loc Cert.KeyDwReferenceIdeal.main_arg1) = m' ((c.tc : Thread Cert.KeyDwReferenceIdeal.nD Cert.KeyDwReferenceIdeal.τ).loc Cert.KeyDwReferenceIdeal.main_arg1))

def preserves_Rank_RankIdeal : Prop :=
  True

def algebraic_RankIdeal_RankReferenceIdeal [hRankIdeal : Cert.RankIdeal.Facts] [hRankReferenceIdeal : Cert.RankReferenceIdeal.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankReferenceIdeal.nD Cert.RankReferenceIdeal.τ Cert.RankReferenceIdeal.sig) → Buf (Elt Ideal) ℓ) (g' : Dev Cert.RankReferenceIdeal.nD → PrngReg), Pre_RankIdeal m →
    (∀ c : Dev Cert.RankIdeal.nD,
      m' ((c.tc : Thread Cert.RankReferenceIdeal.nD Cert.RankReferenceIdeal.τ).loc Cert.RankReferenceIdeal.main_arg0) = m ((c.tc : Thread Cert.RankIdeal.nD Cert.RankIdeal.τ).loc Cert.RankIdeal.main_arg0)
      ∧ m' ((c.tc : Thread Cert.RankReferenceIdeal.nD Cert.RankReferenceIdeal.τ).loc Cert.RankReferenceIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v0)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v0) = v0 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankReferenceIdeal.defs (F := Ideal)) (onTc (τ := Cert.RankReferenceIdeal.τ) (Cert.RankReferenceIdeal.main (F := Ideal))) ⟨m', fun _ => 0, g'⟩ (fun r => ∀ c : Dev Cert.RankReferenceIdeal.nD,
          r.2.mem ((c.tc : Thread Cert.RankReferenceIdeal.nD Cert.RankReferenceIdeal.τ).loc Cert.RankReferenceIdeal.main_v2) = v0 c
          ∧ r.2.mem ((c.tc : Thread Cert.RankReferenceIdeal.nD Cert.RankReferenceIdeal.τ).loc Cert.RankReferenceIdeal.main_arg0) = m' ((c.tc : Thread Cert.RankReferenceIdeal.nD Cert.RankReferenceIdeal.τ).loc Cert.RankReferenceIdeal.main_arg0)
          ∧ r.2.mem ((c.tc : Thread Cert.RankReferenceIdeal.nD Cert.RankReferenceIdeal.τ).loc Cert.RankReferenceIdeal.main_arg1) = m' ((c.tc : Thread Cert.RankReferenceIdeal.nD Cert.RankReferenceIdeal.τ).loc Cert.RankReferenceIdeal.main_arg1))

def preserves_RankDa_RankDaIdeal : Prop :=
  True

def algebraic_RankDaIdeal_RankDaReferenceIdeal [hRankDaIdeal : Cert.RankDaIdeal.Facts] [hRankDaReferenceIdeal : Cert.RankDaReferenceIdeal.Facts] : Prop :=
  ∀ (m : (ℓ : Loc Cert.RankDaIdeal.nD Cert.RankDaIdeal.τ Cert.RankDaIdeal.sig) → Buf (Elt Ideal) ℓ) (g : Dev Cert.RankDaIdeal.nD → PrngReg)
    (m' : (ℓ : Loc Cert.RankDaReferenceIdeal.nD Cert.RankDaReferenceIdeal.τ Cert.RankDaReferenceIdeal.sig) → Buf (Elt Ideal) ℓ) (g' : Dev Cert.RankDaReferenceIdeal.nD → PrngReg), Pre_RankDaIdeal m →
    (∀ c : Dev Cert.RankDaIdeal.nD,
      m' ((c.tc : Thread Cert.RankDaReferenceIdeal.nD Cert.RankDaReferenceIdeal.τ).loc Cert.RankDaReferenceIdeal.main_arg0) = m ((c.tc : Thread Cert.RankDaIdeal.nD Cert.RankDaIdeal.τ).loc Cert.RankDaIdeal.main_arg0)
      ∧ m' ((c.tc : Thread Cert.RankDaReferenceIdeal.nD Cert.RankDaReferenceIdeal.τ).loc Cert.RankDaReferenceIdeal.main_arg1) = m ((c.tc : Thread Cert.RankDaIdeal.nD Cert.RankDaIdeal.τ).loc Cert.RankDaIdeal.main_arg1)) →
    ∃ (v0 : (c : Dev Cert.RankDaIdeal.nD) → Buf (Elt Ideal) ((c.tc : Thread Cert.RankDaIdeal.nD Cert.RankDaIdeal.τ).loc Cert.RankDaIdeal.main_v0)),
      θ_run (Cert.RankDaIdeal.defs (F := Ideal)) (onTc (τ := Cert.RankDaIdeal.τ) (Cert.RankDaIdeal.main (F := Ideal))) ⟨m, fun _ => 0, g⟩ (fun r => ∀ c : Dev Cert.RankDaIdeal.nD,
          r.2.mem ((c.tc : Thread Cert.RankDaIdeal.nD Cert.RankDaIdeal.τ).loc Cert.RankDaIdeal.main_v0) = v0 c
          ∧ r.2.mem ((c.tc : Thread Cert.RankDaIdeal.nD Cert.RankDaIdeal.τ).loc Cert.RankDaIdeal.main_arg0) = m ((c.tc : Thread Cert.RankDaIdeal.nD Cert.RankDaIdeal.τ).loc Cert.RankDaIdeal.main_arg0)
          ∧ r.2.mem ((c.tc : Thread Cert.RankDaIdeal.nD Cert.RankDaIdeal.τ).loc Cert.RankDaIdeal.main_arg1) = m ((c.tc : Thread Cert.RankDaIdeal.nD Cert.RankDaIdeal.τ).loc Cert.RankDaIdeal.main_arg1))
      ∧ θ_run (Cert.RankDaReferenceIdeal.defs (F := Ideal)) (onTc (τ := Cert.RankDaReferenceIdeal.τ) (Cert.RankDaReferenceIdeal.main (F := Ideal))) ⟨m', fun _ => 0, g'⟩ (fun r => ∀ c : Dev Cert.RankDaReferenceIdeal.nD,
          r.2.mem ((c.tc : Thread Cert.RankDaReferenceIdeal.nD Cert.RankDaReferenceIdeal.τ).loc Cert.RankDaReferenceIdeal.main_v4) = v0 c
          ∧ r.2.mem ((c.tc : Thread Cert.RankDaReferenceIdeal.nD Cert.RankDaReferenceIdeal.τ).loc Cert.RankDaReferenceIdeal.main_arg0) = m' ((c.tc : Thread Cert.RankDaReferenceIdeal.nD Cert.RankDaReferenceIdeal.τ).loc Cert.RankDaReferenceIdeal.main_arg0)
          ∧ r.2.mem ((c.tc : Thread Cert.RankDaReferenceIdeal.nD Cert.RankDaReferenceIdeal.τ).loc Cert.RankDaReferenceIdeal.main_arg1) = m' ((c.tc : Thread Cert.RankDaReferenceIdeal.nD Cert.RankDaReferenceIdeal.τ).loc Cert.RankDaReferenceIdeal.main_arg1))

def preserves_RankDw_RankDwIdeal : Prop :=
  True

def algebraic_RankDwIdeal_RankDwReferenceIdeal [hRankDwIdeal : Cert.RankDwIdeal.Facts] [hRankDwReferenceIdeal : Cert.RankDwReferenceIdeal.Facts] : Prop :=
  ∀ (m : (ℓ : Loc Cert.RankDwIdeal.nD Cert.RankDwIdeal.τ Cert.RankDwIdeal.sig) → Buf (Elt Ideal) ℓ) (g : Dev Cert.RankDwIdeal.nD → PrngReg)
    (m' : (ℓ : Loc Cert.RankDwReferenceIdeal.nD Cert.RankDwReferenceIdeal.τ Cert.RankDwReferenceIdeal.sig) → Buf (Elt Ideal) ℓ) (g' : Dev Cert.RankDwReferenceIdeal.nD → PrngReg), Pre_RankDwIdeal m →
    (∀ c : Dev Cert.RankDwIdeal.nD,
      m' ((c.tc : Thread Cert.RankDwReferenceIdeal.nD Cert.RankDwReferenceIdeal.τ).loc Cert.RankDwReferenceIdeal.main_arg0) = m ((c.tc : Thread Cert.RankDwIdeal.nD Cert.RankDwIdeal.τ).loc Cert.RankDwIdeal.main_arg0)
      ∧ m' ((c.tc : Thread Cert.RankDwReferenceIdeal.nD Cert.RankDwReferenceIdeal.τ).loc Cert.RankDwReferenceIdeal.main_arg1) = m ((c.tc : Thread Cert.RankDwIdeal.nD Cert.RankDwIdeal.τ).loc Cert.RankDwIdeal.main_arg1)) →
    ∃ (v0 : (c : Dev Cert.RankDwIdeal.nD) → Buf (Elt Ideal) ((c.tc : Thread Cert.RankDwIdeal.nD Cert.RankDwIdeal.τ).loc Cert.RankDwIdeal.main_v1)),
      θ_run (Cert.RankDwIdeal.defs (F := Ideal)) (onTc (τ := Cert.RankDwIdeal.τ) (Cert.RankDwIdeal.main (F := Ideal))) ⟨m, fun _ => 0, g⟩ (fun r => ∀ c : Dev Cert.RankDwIdeal.nD,
          r.2.mem ((c.tc : Thread Cert.RankDwIdeal.nD Cert.RankDwIdeal.τ).loc Cert.RankDwIdeal.main_v1) = v0 c
          ∧ r.2.mem ((c.tc : Thread Cert.RankDwIdeal.nD Cert.RankDwIdeal.τ).loc Cert.RankDwIdeal.main_arg0) = m ((c.tc : Thread Cert.RankDwIdeal.nD Cert.RankDwIdeal.τ).loc Cert.RankDwIdeal.main_arg0)
          ∧ r.2.mem ((c.tc : Thread Cert.RankDwIdeal.nD Cert.RankDwIdeal.τ).loc Cert.RankDwIdeal.main_arg1) = m ((c.tc : Thread Cert.RankDwIdeal.nD Cert.RankDwIdeal.τ).loc Cert.RankDwIdeal.main_arg1))
      ∧ θ_run (Cert.RankDwReferenceIdeal.defs (F := Ideal)) (onTc (τ := Cert.RankDwReferenceIdeal.τ) (Cert.RankDwReferenceIdeal.main (F := Ideal))) ⟨m', fun _ => 0, g'⟩ (fun r => ∀ c : Dev Cert.RankDwReferenceIdeal.nD,
          r.2.mem ((c.tc : Thread Cert.RankDwReferenceIdeal.nD Cert.RankDwReferenceIdeal.τ).loc Cert.RankDwReferenceIdeal.main_v5) = v0 c
          ∧ r.2.mem ((c.tc : Thread Cert.RankDwReferenceIdeal.nD Cert.RankDwReferenceIdeal.τ).loc Cert.RankDwReferenceIdeal.main_arg0) = m' ((c.tc : Thread Cert.RankDwReferenceIdeal.nD Cert.RankDwReferenceIdeal.τ).loc Cert.RankDwReferenceIdeal.main_arg0)
          ∧ r.2.mem ((c.tc : Thread Cert.RankDwReferenceIdeal.nD Cert.RankDwReferenceIdeal.τ).loc Cert.RankDwReferenceIdeal.main_arg1) = m' ((c.tc : Thread Cert.RankDwReferenceIdeal.nD Cert.RankDwReferenceIdeal.τ).loc Cert.RankDwReferenceIdeal.main_arg1))

def preserves_AdamDq_AdamDqIdeal : Prop :=
  True

def algebraic_AdamDqIdeal_AdamDqReferenceIdeal [hAdamDqIdeal : Cert.AdamDqIdeal.Facts] [hAdamDqReferenceIdeal : Cert.AdamDqReferenceIdeal.Facts] : Prop :=
  ∀ (m : (ℓ : Loc Cert.AdamDqIdeal.nD Cert.AdamDqIdeal.τ Cert.AdamDqIdeal.sig) → Buf (Elt Ideal) ℓ) (g : Dev Cert.AdamDqIdeal.nD → PrngReg)
    (m' : (ℓ : Loc Cert.AdamDqReferenceIdeal.nD Cert.AdamDqReferenceIdeal.τ Cert.AdamDqReferenceIdeal.sig) → Buf (Elt Ideal) ℓ) (g' : Dev Cert.AdamDqReferenceIdeal.nD → PrngReg), Pre_AdamDqIdeal m →
    (∀ c : Dev Cert.AdamDqIdeal.nD,
      m' ((c.tc : Thread Cert.AdamDqReferenceIdeal.nD Cert.AdamDqReferenceIdeal.τ).loc Cert.AdamDqReferenceIdeal.main_arg0) = m ((c.tc : Thread Cert.AdamDqIdeal.nD Cert.AdamDqIdeal.τ).loc Cert.AdamDqIdeal.main_arg0)
      ∧ m' ((c.tc : Thread Cert.AdamDqReferenceIdeal.nD Cert.AdamDqReferenceIdeal.τ).loc Cert.AdamDqReferenceIdeal.main_arg1) = m ((c.tc : Thread Cert.AdamDqIdeal.nD Cert.AdamDqIdeal.τ).loc Cert.AdamDqIdeal.main_arg1)
      ∧ m' ((c.tc : Thread Cert.AdamDqReferenceIdeal.nD Cert.AdamDqReferenceIdeal.τ).loc Cert.AdamDqReferenceIdeal.main_arg2) = m ((c.tc : Thread Cert.AdamDqIdeal.nD Cert.AdamDqIdeal.τ).loc Cert.AdamDqIdeal.main_arg2)
      ∧ m' ((c.tc : Thread Cert.AdamDqReferenceIdeal.nD Cert.AdamDqReferenceIdeal.τ).loc Cert.AdamDqReferenceIdeal.main_arg3) = m ((c.tc : Thread Cert.AdamDqIdeal.nD Cert.AdamDqIdeal.τ).loc Cert.AdamDqIdeal.main_arg3)) →
    ∃ (v0 : (c : Dev Cert.AdamDqIdeal.nD) → Buf (Elt Ideal) ((c.tc : Thread Cert.AdamDqIdeal.nD Cert.AdamDqIdeal.τ).loc Cert.AdamDqIdeal.main_v0_0)) (v1 : (c : Dev Cert.AdamDqIdeal.nD) → Buf (Elt Ideal) ((c.tc : Thread Cert.AdamDqIdeal.nD Cert.AdamDqIdeal.τ).loc Cert.AdamDqIdeal.main_v0_1)) (v2 : (c : Dev Cert.AdamDqIdeal.nD) → Buf (Elt Ideal) ((c.tc : Thread Cert.AdamDqIdeal.nD Cert.AdamDqIdeal.τ).loc Cert.AdamDqIdeal.main_v0_2)),
      θ_run (Cert.AdamDqIdeal.defs (F := Ideal)) (onTc (τ := Cert.AdamDqIdeal.τ) (Cert.AdamDqIdeal.main (F := Ideal))) ⟨m, fun _ => 0, g⟩ (fun r => ∀ c : Dev Cert.AdamDqIdeal.nD,
          r.2.mem ((c.tc : Thread Cert.AdamDqIdeal.nD Cert.AdamDqIdeal.τ).loc Cert.AdamDqIdeal.main_v0_0) = v0 c
          ∧ r.2.mem ((c.tc : Thread Cert.AdamDqIdeal.nD Cert.AdamDqIdeal.τ).loc Cert.AdamDqIdeal.main_v0_1) = v1 c
          ∧ r.2.mem ((c.tc : Thread Cert.AdamDqIdeal.nD Cert.AdamDqIdeal.τ).loc Cert.AdamDqIdeal.main_v0_2) = v2 c
          ∧ r.2.mem ((c.tc : Thread Cert.AdamDqIdeal.nD Cert.AdamDqIdeal.τ).loc Cert.AdamDqIdeal.main_arg0) = m ((c.tc : Thread Cert.AdamDqIdeal.nD Cert.AdamDqIdeal.τ).loc Cert.AdamDqIdeal.main_arg0)
          ∧ r.2.mem ((c.tc : Thread Cert.AdamDqIdeal.nD Cert.AdamDqIdeal.τ).loc Cert.AdamDqIdeal.main_arg1) = m ((c.tc : Thread Cert.AdamDqIdeal.nD Cert.AdamDqIdeal.τ).loc Cert.AdamDqIdeal.main_arg1)
          ∧ r.2.mem ((c.tc : Thread Cert.AdamDqIdeal.nD Cert.AdamDqIdeal.τ).loc Cert.AdamDqIdeal.main_arg2) = m ((c.tc : Thread Cert.AdamDqIdeal.nD Cert.AdamDqIdeal.τ).loc Cert.AdamDqIdeal.main_arg2)
          ∧ r.2.mem ((c.tc : Thread Cert.AdamDqIdeal.nD Cert.AdamDqIdeal.τ).loc Cert.AdamDqIdeal.main_arg3) = m ((c.tc : Thread Cert.AdamDqIdeal.nD Cert.AdamDqIdeal.τ).loc Cert.AdamDqIdeal.main_arg3))
      ∧ θ_run (Cert.AdamDqReferenceIdeal.defs (F := Ideal)) (onTc (τ := Cert.AdamDqReferenceIdeal.τ) (Cert.AdamDqReferenceIdeal.main (F := Ideal))) ⟨m', fun _ => 0, g'⟩ (fun r => ∀ c : Dev Cert.AdamDqReferenceIdeal.nD,
          r.2.mem ((c.tc : Thread Cert.AdamDqReferenceIdeal.nD Cert.AdamDqReferenceIdeal.τ).loc Cert.AdamDqReferenceIdeal.main_v23) = v0 c
          ∧ r.2.mem ((c.tc : Thread Cert.AdamDqReferenceIdeal.nD Cert.AdamDqReferenceIdeal.τ).loc Cert.AdamDqReferenceIdeal.main_v4) = v1 c
          ∧ r.2.mem ((c.tc : Thread Cert.AdamDqReferenceIdeal.nD Cert.AdamDqReferenceIdeal.τ).loc Cert.AdamDqReferenceIdeal.main_v10) = v2 c
          ∧ r.2.mem ((c.tc : Thread Cert.AdamDqReferenceIdeal.nD Cert.AdamDqReferenceIdeal.τ).loc Cert.AdamDqReferenceIdeal.main_arg0) = m' ((c.tc : Thread Cert.AdamDqReferenceIdeal.nD Cert.AdamDqReferenceIdeal.τ).loc Cert.AdamDqReferenceIdeal.main_arg0)
          ∧ r.2.mem ((c.tc : Thread Cert.AdamDqReferenceIdeal.nD Cert.AdamDqReferenceIdeal.τ).loc Cert.AdamDqReferenceIdeal.main_arg1) = m' ((c.tc : Thread Cert.AdamDqReferenceIdeal.nD Cert.AdamDqReferenceIdeal.τ).loc Cert.AdamDqReferenceIdeal.main_arg1)
          ∧ r.2.mem ((c.tc : Thread Cert.AdamDqReferenceIdeal.nD Cert.AdamDqReferenceIdeal.τ).loc Cert.AdamDqReferenceIdeal.main_arg2) = m' ((c.tc : Thread Cert.AdamDqReferenceIdeal.nD Cert.AdamDqReferenceIdeal.τ).loc Cert.AdamDqReferenceIdeal.main_arg2)
          ∧ r.2.mem ((c.tc : Thread Cert.AdamDqReferenceIdeal.nD Cert.AdamDqReferenceIdeal.τ).loc Cert.AdamDqReferenceIdeal.main_arg3) = m' ((c.tc : Thread Cert.AdamDqReferenceIdeal.nD Cert.AdamDqReferenceIdeal.τ).loc Cert.AdamDqReferenceIdeal.main_arg3))

def preserves_AdamUq_AdamUqIdeal : Prop :=
  True

def algebraic_AdamUqIdeal_AdamUqReferenceIdeal [hAdamUqIdeal : Cert.AdamUqIdeal.Facts] [hAdamUqReferenceIdeal : Cert.AdamUqReferenceIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqReferenceIdeal.nD Cert.AdamUqReferenceIdeal.τ Cert.AdamUqReferenceIdeal.sig) → Buf (Elt Ideal) ℓ) (g' : Dev Cert.AdamUqReferenceIdeal.nD → PrngReg), Pre_AdamUqIdeal m →
    (∀ c : Dev Cert.AdamUqIdeal.nD,
      m' ((c.tc : Thread Cert.AdamUqReferenceIdeal.nD Cert.AdamUqReferenceIdeal.τ).loc Cert.AdamUqReferenceIdeal.main_arg0) = m ((c.tc : Thread Cert.AdamUqIdeal.nD Cert.AdamUqIdeal.τ).loc Cert.AdamUqIdeal.main_arg0)
      ∧ m' ((c.tc : Thread Cert.AdamUqReferenceIdeal.nD Cert.AdamUqReferenceIdeal.τ).loc Cert.AdamUqReferenceIdeal.main_arg1) = m ((c.tc : Thread Cert.AdamUqIdeal.nD Cert.AdamUqIdeal.τ).loc Cert.AdamUqIdeal.main_arg1)
      ∧ m' ((c.tc : Thread Cert.AdamUqReferenceIdeal.nD Cert.AdamUqReferenceIdeal.τ).loc Cert.AdamUqReferenceIdeal.main_arg2) = m ((c.tc : Thread Cert.AdamUqIdeal.nD Cert.AdamUqIdeal.τ).loc Cert.AdamUqIdeal.main_arg2)
      ∧ m' ((c.tc : Thread Cert.AdamUqReferenceIdeal.nD Cert.AdamUqReferenceIdeal.τ).loc Cert.AdamUqReferenceIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v0_0)) (v1 : (c : Dev Cert.AdamUqIdeal.nD) → Buf (Elt Ideal) ((c.tc : Thread Cert.AdamUqIdeal.nD Cert.AdamUqIdeal.τ).loc Cert.AdamUqIdeal.main_v0_1)) (v2 : (c : Dev Cert.AdamUqIdeal.nD) → Buf (Elt Ideal) ((c.tc : Thread Cert.AdamUqIdeal.nD Cert.AdamUqIdeal.τ).loc Cert.AdamUqIdeal.main_v0_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v0_0) = v0 c
          ∧ r.2.mem ((c.tc : Thread Cert.AdamUqIdeal.nD Cert.AdamUqIdeal.τ).loc Cert.AdamUqIdeal.main_v0_1) = v1 c
          ∧ r.2.mem ((c.tc : Thread Cert.AdamUqIdeal.nD Cert.AdamUqIdeal.τ).loc Cert.AdamUqIdeal.main_v0_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqReferenceIdeal.defs (F := Ideal)) (onTc (τ := Cert.AdamUqReferenceIdeal.τ) (Cert.AdamUqReferenceIdeal.main (F := Ideal))) ⟨m', fun _ => 0, g'⟩ (fun r => ∀ c : Dev Cert.AdamUqReferenceIdeal.nD,
          r.2.mem ((c.tc : Thread Cert.AdamUqReferenceIdeal.nD Cert.AdamUqReferenceIdeal.τ).loc Cert.AdamUqReferenceIdeal.main_v23) = v0 c
          ∧ r.2.mem ((c.tc : Thread Cert.AdamUqReferenceIdeal.nD Cert.AdamUqReferenceIdeal.τ).loc Cert.AdamUqReferenceIdeal.main_v4) = v1 c
          ∧ r.2.mem ((c.tc : Thread Cert.AdamUqReferenceIdeal.nD Cert.AdamUqReferenceIdeal.τ).loc Cert.AdamUqReferenceIdeal.main_v10) = v2 c
          ∧ r.2.mem ((c.tc : Thread Cert.AdamUqReferenceIdeal.nD Cert.AdamUqReferenceIdeal.τ).loc Cert.AdamUqReferenceIdeal.main_arg0) = m' ((c.tc : Thread Cert.AdamUqReferenceIdeal.nD Cert.AdamUqReferenceIdeal.τ).loc Cert.AdamUqReferenceIdeal.main_arg0)
          ∧ r.2.mem ((c.tc : Thread Cert.AdamUqReferenceIdeal.nD Cert.AdamUqReferenceIdeal.τ).loc Cert.AdamUqReferenceIdeal.main_arg1) = m' ((c.tc : Thread Cert.AdamUqReferenceIdeal.nD Cert.AdamUqReferenceIdeal.τ).loc Cert.AdamUqReferenceIdeal.main_arg1)
          ∧ r.2.mem ((c.tc : Thread Cert.AdamUqReferenceIdeal.nD Cert.AdamUqReferenceIdeal.τ).loc Cert.AdamUqReferenceIdeal.main_arg2) = m' ((c.tc : Thread Cert.AdamUqReferenceIdeal.nD Cert.AdamUqReferenceIdeal.τ).loc Cert.AdamUqReferenceIdeal.main_arg2)
          ∧ r.2.mem ((c.tc : Thread Cert.AdamUqReferenceIdeal.nD Cert.AdamUqReferenceIdeal.τ).loc Cert.AdamUqReferenceIdeal.main_arg3) = m' ((c.tc : Thread Cert.AdamUqReferenceIdeal.nD Cert.AdamUqReferenceIdeal.τ).loc Cert.AdamUqReferenceIdeal.main_arg3))

def preserves_AdamDkv_AdamDkvIdeal : Prop :=
  True

def algebraic_AdamDkvIdeal_AdamDkvReferenceIdeal [hAdamDkvIdeal : Cert.AdamDkvIdeal.Facts] [hAdamDkvReferenceIdeal : Cert.AdamDkvReferenceIdeal.Facts] : Prop :=
  ∀ (m : (ℓ : Loc Cert.AdamDkvIdeal.nD Cert.AdamDkvIdeal.τ Cert.AdamDkvIdeal.sig) → Buf (Elt Ideal) ℓ) (g : Dev Cert.AdamDkvIdeal.nD → PrngReg)
    (m' : (ℓ : Loc Cert.AdamDkvReferenceIdeal.nD Cert.AdamDkvReferenceIdeal.τ Cert.AdamDkvReferenceIdeal.sig) → Buf (Elt Ideal) ℓ) (g' : Dev Cert.AdamDkvReferenceIdeal.nD → PrngReg), Pre_AdamDkvIdeal m →
    (∀ c : Dev Cert.AdamDkvIdeal.nD,
      m' ((c.tc : Thread Cert.AdamDkvReferenceIdeal.nD Cert.AdamDkvReferenceIdeal.τ).loc Cert.AdamDkvReferenceIdeal.main_arg0) = m ((c.tc : Thread Cert.AdamDkvIdeal.nD Cert.AdamDkvIdeal.τ).loc Cert.AdamDkvIdeal.main_arg0)
      ∧ m' ((c.tc : Thread Cert.AdamDkvReferenceIdeal.nD Cert.AdamDkvReferenceIdeal.τ).loc Cert.AdamDkvReferenceIdeal.main_arg1) = m ((c.tc : Thread Cert.AdamDkvIdeal.nD Cert.AdamDkvIdeal.τ).loc Cert.AdamDkvIdeal.main_arg1)
      ∧ m' ((c.tc : Thread Cert.AdamDkvReferenceIdeal.nD Cert.AdamDkvReferenceIdeal.τ).loc Cert.AdamDkvReferenceIdeal.main_arg2) = m ((c.tc : Thread Cert.AdamDkvIdeal.nD Cert.AdamDkvIdeal.τ).loc Cert.AdamDkvIdeal.main_arg2)
      ∧ m' ((c.tc : Thread Cert.AdamDkvReferenceIdeal.nD Cert.AdamDkvReferenceIdeal.τ).loc Cert.AdamDkvReferenceIdeal.main_arg3) = m ((c.tc : Thread Cert.AdamDkvIdeal.nD Cert.AdamDkvIdeal.τ).loc Cert.AdamDkvIdeal.main_arg3)) →
    ∃ (v0 : (c : Dev Cert.AdamDkvIdeal.nD) → Buf (Elt Ideal) ((c.tc : Thread Cert.AdamDkvIdeal.nD Cert.AdamDkvIdeal.τ).loc Cert.AdamDkvIdeal.main_v0_0)) (v1 : (c : Dev Cert.AdamDkvIdeal.nD) → Buf (Elt Ideal) ((c.tc : Thread Cert.AdamDkvIdeal.nD Cert.AdamDkvIdeal.τ).loc Cert.AdamDkvIdeal.main_v0_1)) (v2 : (c : Dev Cert.AdamDkvIdeal.nD) → Buf (Elt Ideal) ((c.tc : Thread Cert.AdamDkvIdeal.nD Cert.AdamDkvIdeal.τ).loc Cert.AdamDkvIdeal.main_v0_2)),
      θ_run (Cert.AdamDkvIdeal.defs (F := Ideal)) (onTc (τ := Cert.AdamDkvIdeal.τ) (Cert.AdamDkvIdeal.main (F := Ideal))) ⟨m, fun _ => 0, g⟩ (fun r => ∀ c : Dev Cert.AdamDkvIdeal.nD,
          r.2.mem ((c.tc : Thread Cert.AdamDkvIdeal.nD Cert.AdamDkvIdeal.τ).loc Cert.AdamDkvIdeal.main_v0_0) = v0 c
          ∧ r.2.mem ((c.tc : Thread Cert.AdamDkvIdeal.nD Cert.AdamDkvIdeal.τ).loc Cert.AdamDkvIdeal.main_v0_1) = v1 c
          ∧ r.2.mem ((c.tc : Thread Cert.AdamDkvIdeal.nD Cert.AdamDkvIdeal.τ).loc Cert.AdamDkvIdeal.main_v0_2) = v2 c
          ∧ r.2.mem ((c.tc : Thread Cert.AdamDkvIdeal.nD Cert.AdamDkvIdeal.τ).loc Cert.AdamDkvIdeal.main_arg0) = m ((c.tc : Thread Cert.AdamDkvIdeal.nD Cert.AdamDkvIdeal.τ).loc Cert.AdamDkvIdeal.main_arg0)
          ∧ r.2.mem ((c.tc : Thread Cert.AdamDkvIdeal.nD Cert.AdamDkvIdeal.τ).loc Cert.AdamDkvIdeal.main_arg1) = m ((c.tc : Thread Cert.AdamDkvIdeal.nD Cert.AdamDkvIdeal.τ).loc Cert.AdamDkvIdeal.main_arg1)
          ∧ r.2.mem ((c.tc : Thread Cert.AdamDkvIdeal.nD Cert.AdamDkvIdeal.τ).loc Cert.AdamDkvIdeal.main_arg2) = m ((c.tc : Thread Cert.AdamDkvIdeal.nD Cert.AdamDkvIdeal.τ).loc Cert.AdamDkvIdeal.main_arg2)
          ∧ r.2.mem ((c.tc : Thread Cert.AdamDkvIdeal.nD Cert.AdamDkvIdeal.τ).loc Cert.AdamDkvIdeal.main_arg3) = m ((c.tc : Thread Cert.AdamDkvIdeal.nD Cert.AdamDkvIdeal.τ).loc Cert.AdamDkvIdeal.main_arg3))
      ∧ θ_run (Cert.AdamDkvReferenceIdeal.defs (F := Ideal)) (onTc (τ := Cert.AdamDkvReferenceIdeal.τ) (Cert.AdamDkvReferenceIdeal.main (F := Ideal))) ⟨m', fun _ => 0, g'⟩ (fun r => ∀ c : Dev Cert.AdamDkvReferenceIdeal.nD,
          r.2.mem ((c.tc : Thread Cert.AdamDkvReferenceIdeal.nD Cert.AdamDkvReferenceIdeal.τ).loc Cert.AdamDkvReferenceIdeal.main_v23) = v0 c
          ∧ r.2.mem ((c.tc : Thread Cert.AdamDkvReferenceIdeal.nD Cert.AdamDkvReferenceIdeal.τ).loc Cert.AdamDkvReferenceIdeal.main_v4) = v1 c
          ∧ r.2.mem ((c.tc : Thread Cert.AdamDkvReferenceIdeal.nD Cert.AdamDkvReferenceIdeal.τ).loc Cert.AdamDkvReferenceIdeal.main_v10) = v2 c
          ∧ r.2.mem ((c.tc : Thread Cert.AdamDkvReferenceIdeal.nD Cert.AdamDkvReferenceIdeal.τ).loc Cert.AdamDkvReferenceIdeal.main_arg0) = m' ((c.tc : Thread Cert.AdamDkvReferenceIdeal.nD Cert.AdamDkvReferenceIdeal.τ).loc Cert.AdamDkvReferenceIdeal.main_arg0)
          ∧ r.2.mem ((c.tc : Thread Cert.AdamDkvReferenceIdeal.nD Cert.AdamDkvReferenceIdeal.τ).loc Cert.AdamDkvReferenceIdeal.main_arg1) = m' ((c.tc : Thread Cert.AdamDkvReferenceIdeal.nD Cert.AdamDkvReferenceIdeal.τ).loc Cert.AdamDkvReferenceIdeal.main_arg1)
          ∧ r.2.mem ((c.tc : Thread Cert.AdamDkvReferenceIdeal.nD Cert.AdamDkvReferenceIdeal.τ).loc Cert.AdamDkvReferenceIdeal.main_arg2) = m' ((c.tc : Thread Cert.AdamDkvReferenceIdeal.nD Cert.AdamDkvReferenceIdeal.τ).loc Cert.AdamDkvReferenceIdeal.main_arg2)
          ∧ r.2.mem ((c.tc : Thread Cert.AdamDkvReferenceIdeal.nD Cert.AdamDkvReferenceIdeal.τ).loc Cert.AdamDkvReferenceIdeal.main_arg3) = m' ((c.tc : Thread Cert.AdamDkvReferenceIdeal.nD Cert.AdamDkvReferenceIdeal.τ).loc Cert.AdamDkvReferenceIdeal.main_arg3))

def preserves_AdamUkv_AdamUkvIdeal : Prop :=
  True

def algebraic_AdamUkvIdeal_AdamUkvReferenceIdeal [hAdamUkvIdeal : Cert.AdamUkvIdeal.Facts] [hAdamUkvReferenceIdeal : Cert.AdamUkvReferenceIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvReferenceIdeal.nD Cert.AdamUkvReferenceIdeal.τ Cert.AdamUkvReferenceIdeal.sig) → Buf (Elt Ideal) ℓ) (g' : Dev Cert.AdamUkvReferenceIdeal.nD → PrngReg), Pre_AdamUkvIdeal m →
    (∀ c : Dev Cert.AdamUkvIdeal.nD,
      m' ((c.tc : Thread Cert.AdamUkvReferenceIdeal.nD Cert.AdamUkvReferenceIdeal.τ).loc Cert.AdamUkvReferenceIdeal.main_arg0) = m ((c.tc : Thread Cert.AdamUkvIdeal.nD Cert.AdamUkvIdeal.τ).loc Cert.AdamUkvIdeal.main_arg0)
      ∧ m' ((c.tc : Thread Cert.AdamUkvReferenceIdeal.nD Cert.AdamUkvReferenceIdeal.τ).loc Cert.AdamUkvReferenceIdeal.main_arg1) = m ((c.tc : Thread Cert.AdamUkvIdeal.nD Cert.AdamUkvIdeal.τ).loc Cert.AdamUkvIdeal.main_arg1)
      ∧ m' ((c.tc : Thread Cert.AdamUkvReferenceIdeal.nD Cert.AdamUkvReferenceIdeal.τ).loc Cert.AdamUkvReferenceIdeal.main_arg2) = m ((c.tc : Thread Cert.AdamUkvIdeal.nD Cert.AdamUkvIdeal.τ).loc Cert.AdamUkvIdeal.main_arg2)
      ∧ m' ((c.tc : Thread Cert.AdamUkvReferenceIdeal.nD Cert.AdamUkvReferenceIdeal.τ).loc Cert.AdamUkvReferenceIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v0_0)) (v1 : (c : Dev Cert.AdamUkvIdeal.nD) → Buf (Elt Ideal) ((c.tc : Thread Cert.AdamUkvIdeal.nD Cert.AdamUkvIdeal.τ).loc Cert.AdamUkvIdeal.main_v0_1)) (v2 : (c : Dev Cert.AdamUkvIdeal.nD) → Buf (Elt Ideal) ((c.tc : Thread Cert.AdamUkvIdeal.nD Cert.AdamUkvIdeal.τ).loc Cert.AdamUkvIdeal.main_v0_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v0_0) = v0 c
          ∧ r.2.mem ((c.tc : Thread Cert.AdamUkvIdeal.nD Cert.AdamUkvIdeal.τ).loc Cert.AdamUkvIdeal.main_v0_1) = v1 c
          ∧ r.2.mem ((c.tc : Thread Cert.AdamUkvIdeal.nD Cert.AdamUkvIdeal.τ).loc Cert.AdamUkvIdeal.main_v0_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvReferenceIdeal.defs (F := Ideal)) (onTc (τ := Cert.AdamUkvReferenceIdeal.τ) (Cert.AdamUkvReferenceIdeal.main (F := Ideal))) ⟨m', fun _ => 0, g'⟩ (fun r => ∀ c : Dev Cert.AdamUkvReferenceIdeal.nD,
          r.2.mem ((c.tc : Thread Cert.AdamUkvReferenceIdeal.nD Cert.AdamUkvReferenceIdeal.τ).loc Cert.AdamUkvReferenceIdeal.main_v23) = v0 c
          ∧ r.2.mem ((c.tc : Thread Cert.AdamUkvReferenceIdeal.nD Cert.AdamUkvReferenceIdeal.τ).loc Cert.AdamUkvReferenceIdeal.main_v4) = v1 c
          ∧ r.2.mem ((c.tc : Thread Cert.AdamUkvReferenceIdeal.nD Cert.AdamUkvReferenceIdeal.τ).loc Cert.AdamUkvReferenceIdeal.main_v10) = v2 c
          ∧ r.2.mem ((c.tc : Thread Cert.AdamUkvReferenceIdeal.nD Cert.AdamUkvReferenceIdeal.τ).loc Cert.AdamUkvReferenceIdeal.main_arg0) = m' ((c.tc : Thread Cert.AdamUkvReferenceIdeal.nD Cert.AdamUkvReferenceIdeal.τ).loc Cert.AdamUkvReferenceIdeal.main_arg0)
          ∧ r.2.mem ((c.tc : Thread Cert.AdamUkvReferenceIdeal.nD Cert.AdamUkvReferenceIdeal.τ).loc Cert.AdamUkvReferenceIdeal.main_arg1) = m' ((c.tc : Thread Cert.AdamUkvReferenceIdeal.nD Cert.AdamUkvReferenceIdeal.τ).loc Cert.AdamUkvReferenceIdeal.main_arg1)
          ∧ r.2.mem ((c.tc : Thread Cert.AdamUkvReferenceIdeal.nD Cert.AdamUkvReferenceIdeal.τ).loc Cert.AdamUkvReferenceIdeal.main_arg2) = m' ((c.tc : Thread Cert.AdamUkvReferenceIdeal.nD Cert.AdamUkvReferenceIdeal.τ).loc Cert.AdamUkvReferenceIdeal.main_arg2)
          ∧ r.2.mem ((c.tc : Thread Cert.AdamUkvReferenceIdeal.nD Cert.AdamUkvReferenceIdeal.τ).loc Cert.AdamUkvReferenceIdeal.main_arg3) = m' ((c.tc : Thread Cert.AdamUkvReferenceIdeal.nD Cert.AdamUkvReferenceIdeal.τ).loc Cert.AdamUkvReferenceIdeal.main_arg3))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v23) = v0 c
          ∧ r.2.mem ((c.tc : Thread Cert.AdamSquareReferenceIdeal.nD Cert.AdamSquareReferenceIdeal.τ).loc Cert.AdamSquareReferenceIdeal.main_v4) = v1 c
          ∧ r.2.mem ((c.tc : Thread Cert.AdamSquareReferenceIdeal.nD Cert.AdamSquareReferenceIdeal.τ).loc Cert.AdamSquareReferenceIdeal.main_v10) = v2 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v23) = v0 c
          ∧ r.2.mem ((c.tc : Thread Cert.AdamUpReferenceIdeal.nD Cert.AdamUpReferenceIdeal.τ).loc Cert.AdamUpReferenceIdeal.main_v4) = v1 c
          ∧ r.2.mem ((c.tc : Thread Cert.AdamUpReferenceIdeal.nD Cert.AdamUpReferenceIdeal.τ).loc Cert.AdamUpReferenceIdeal.main_v10) = v2 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v23) = v0 c
          ∧ r.2.mem ((c.tc : Thread Cert.AdamDownReferenceIdeal.nD Cert.AdamDownReferenceIdeal.τ).loc Cert.AdamDownReferenceIdeal.main_v4) = v1 c
          ∧ r.2.mem ((c.tc : Thread Cert.AdamDownReferenceIdeal.nD Cert.AdamDownReferenceIdeal.τ).loc Cert.AdamDownReferenceIdeal.main_v10) = v2 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3))

def preserves_AdamMod_AdamModIdeal : Prop :=
  True

def algebraic_AdamModIdeal_AdamModReferenceIdeal [hAdamModIdeal : Cert.AdamModIdeal.Facts] [hAdamModReferenceIdeal : Cert.AdamModReferenceIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModReferenceIdeal.nD Cert.AdamModReferenceIdeal.τ Cert.AdamModReferenceIdeal.sig) → Buf (Elt Ideal) ℓ) (g' : Dev Cert.AdamModReferenceIdeal.nD → PrngReg), Pre_AdamModIdeal m →
    (∀ c : Dev Cert.AdamModIdeal.nD,
      m' ((c.tc : Thread Cert.AdamModReferenceIdeal.nD Cert.AdamModReferenceIdeal.τ).loc Cert.AdamModReferenceIdeal.main_arg0) = m ((c.tc : Thread Cert.AdamModIdeal.nD Cert.AdamModIdeal.τ).loc Cert.AdamModIdeal.main_arg0)
      ∧ m' ((c.tc : Thread Cert.AdamModReferenceIdeal.nD Cert.AdamModReferenceIdeal.τ).loc Cert.AdamModReferenceIdeal.main_arg1) = m ((c.tc : Thread Cert.AdamModIdeal.nD Cert.AdamModIdeal.τ).loc Cert.AdamModIdeal.main_arg1)
      ∧ m' ((c.tc : Thread Cert.AdamModReferenceIdeal.nD Cert.AdamModReferenceIdeal.τ).loc Cert.AdamModReferenceIdeal.main_arg2) = m ((c.tc : Thread Cert.AdamModIdeal.nD Cert.AdamModIdeal.τ).loc Cert.AdamModIdeal.main_arg2)
      ∧ m' ((c.tc : Thread Cert.AdamModReferenceIdeal.nD Cert.AdamModReferenceIdeal.τ).loc Cert.AdamModReferenceIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModReferenceIdeal.defs (F := Ideal)) (onTc (τ := Cert.AdamModReferenceIdeal.τ) (Cert.AdamModReferenceIdeal.main (F := Ideal))) ⟨m', fun _ => 0, g'⟩ (fun r => ∀ c : Dev Cert.AdamModReferenceIdeal.nD,
          r.2.mem ((c.tc : Thread Cert.AdamModReferenceIdeal.nD Cert.AdamModReferenceIdeal.τ).loc Cert.AdamModReferenceIdeal.main_v23) = v0 c
          ∧ r.2.mem ((c.tc : Thread Cert.AdamModReferenceIdeal.nD Cert.AdamModReferenceIdeal.τ).loc Cert.AdamModReferenceIdeal.main_v4) = v1 c
          ∧ r.2.mem ((c.tc : Thread Cert.AdamModReferenceIdeal.nD Cert.AdamModReferenceIdeal.τ).loc Cert.AdamModReferenceIdeal.main_v10) = v2 c
          ∧ r.2.mem ((c.tc : Thread Cert.AdamModReferenceIdeal.nD Cert.AdamModReferenceIdeal.τ).loc Cert.AdamModReferenceIdeal.main_arg0) = m' ((c.tc : Thread Cert.AdamModReferenceIdeal.nD Cert.AdamModReferenceIdeal.τ).loc Cert.AdamModReferenceIdeal.main_arg0)
          ∧ r.2.mem ((c.tc : Thread Cert.AdamModReferenceIdeal.nD Cert.AdamModReferenceIdeal.τ).loc Cert.AdamModReferenceIdeal.main_arg1) = m' ((c.tc : Thread Cert.AdamModReferenceIdeal.nD Cert.AdamModReferenceIdeal.τ).loc Cert.AdamModReferenceIdeal.main_arg1)
          ∧ r.2.mem ((c.tc : Thread Cert.AdamModReferenceIdeal.nD Cert.AdamModReferenceIdeal.τ).loc Cert.AdamModReferenceIdeal.main_arg2) = m' ((c.tc : Thread Cert.AdamModReferenceIdeal.nD Cert.AdamModReferenceIdeal.τ).loc Cert.AdamModReferenceIdeal.main_arg2)
          ∧ r.2.mem ((c.tc : Thread Cert.AdamModReferenceIdeal.nD Cert.AdamModReferenceIdeal.τ).loc Cert.AdamModReferenceIdeal.main_arg3) = m' ((c.tc : Thread Cert.AdamModReferenceIdeal.nD Cert.AdamModReferenceIdeal.τ).loc Cert.AdamModReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_ModDw_ModDwIdeal : Prop :=
  True

def algebraic_ModDwIdeal_ModDwReferenceIdeal [hModDwIdeal : Cert.ModDwIdeal.Facts] [hModDwReferenceIdeal : Cert.ModDwReferenceIdeal.Facts] : Prop :=
  ∀ (m : (ℓ : Loc Cert.ModDwIdeal.nD Cert.ModDwIdeal.τ Cert.ModDwIdeal.sig) → Buf (Elt Ideal) ℓ) (g : Dev Cert.ModDwIdeal.nD → PrngReg)
    (m' : (ℓ : Loc Cert.ModDwReferenceIdeal.nD Cert.ModDwReferenceIdeal.τ Cert.ModDwReferenceIdeal.sig) → Buf (Elt Ideal) ℓ) (g' : Dev Cert.ModDwReferenceIdeal.nD → PrngReg), Pre_ModDwIdeal m →
    (∀ c : Dev Cert.ModDwIdeal.nD,
      m' ((c.tc : Thread Cert.ModDwReferenceIdeal.nD Cert.ModDwReferenceIdeal.τ).loc Cert.ModDwReferenceIdeal.main_arg0) = m ((c.tc : Thread Cert.ModDwIdeal.nD Cert.ModDwIdeal.τ).loc Cert.ModDwIdeal.main_arg0)
      ∧ m' ((c.tc : Thread Cert.ModDwReferenceIdeal.nD Cert.ModDwReferenceIdeal.τ).loc Cert.ModDwReferenceIdeal.main_arg1) = m ((c.tc : Thread Cert.ModDwIdeal.nD Cert.ModDwIdeal.τ).loc Cert.ModDwIdeal.main_arg1)) →
    ∃ (v0 : (c : Dev Cert.ModDwIdeal.nD) → Buf (Elt Ideal) ((c.tc : Thread Cert.ModDwIdeal.nD Cert.ModDwIdeal.τ).loc Cert.ModDwIdeal.main_v0)),
      θ_run (Cert.ModDwIdeal.defs (F := Ideal)) (onTc (τ := Cert.ModDwIdeal.τ) (Cert.ModDwIdeal.main (F := Ideal))) ⟨m, fun _ => 0, g⟩ (fun r => ∀ c : Dev Cert.ModDwIdeal.nD,
          r.2.mem ((c.tc : Thread Cert.ModDwIdeal.nD Cert.ModDwIdeal.τ).loc Cert.ModDwIdeal.main_v0) = v0 c
          ∧ r.2.mem ((c.tc : Thread Cert.ModDwIdeal.nD Cert.ModDwIdeal.τ).loc Cert.ModDwIdeal.main_arg0) = m ((c.tc : Thread Cert.ModDwIdeal.nD Cert.ModDwIdeal.τ).loc Cert.ModDwIdeal.main_arg0)
          ∧ r.2.mem ((c.tc : Thread Cert.ModDwIdeal.nD Cert.ModDwIdeal.τ).loc Cert.ModDwIdeal.main_arg1) = m ((c.tc : Thread Cert.ModDwIdeal.nD Cert.ModDwIdeal.τ).loc Cert.ModDwIdeal.main_arg1))
      ∧ θ_run (Cert.ModDwReferenceIdeal.defs (F := Ideal)) (onTc (τ := Cert.ModDwReferenceIdeal.τ) (Cert.ModDwReferenceIdeal.main (F := Ideal))) ⟨m', fun _ => 0, g'⟩ (fun r => ∀ c : Dev Cert.ModDwReferenceIdeal.nD,
          r.2.mem ((c.tc : Thread Cert.ModDwReferenceIdeal.nD Cert.ModDwReferenceIdeal.τ).loc Cert.ModDwReferenceIdeal.main_v3) = v0 c
          ∧ r.2.mem ((c.tc : Thread Cert.ModDwReferenceIdeal.nD Cert.ModDwReferenceIdeal.τ).loc Cert.ModDwReferenceIdeal.main_arg0) = m' ((c.tc : Thread Cert.ModDwReferenceIdeal.nD Cert.ModDwReferenceIdeal.τ).loc Cert.ModDwReferenceIdeal.main_arg0)
          ∧ r.2.mem ((c.tc : Thread Cert.ModDwReferenceIdeal.nD Cert.ModDwReferenceIdeal.τ).loc Cert.ModDwReferenceIdeal.main_arg1) = m' ((c.tc : Thread Cert.ModDwReferenceIdeal.nD Cert.ModDwReferenceIdeal.τ).loc Cert.ModDwReferenceIdeal.main_arg1))

def preserves_NormDx_NormDxIdeal : Prop :=
  True

def algebraic_NormDxIdeal_NormDxReferenceIdeal [hNormDxIdeal : Cert.NormDxIdeal.Facts] [hNormDxReferenceIdeal : Cert.NormDxReferenceIdeal.Facts] : Prop :=
  ∀ (m : (ℓ : Loc Cert.NormDxIdeal.nD Cert.NormDxIdeal.τ Cert.NormDxIdeal.sig) → Buf (Elt Ideal) ℓ) (g : Dev Cert.NormDxIdeal.nD → PrngReg)
    (m' : (ℓ : Loc Cert.NormDxReferenceIdeal.nD Cert.NormDxReferenceIdeal.τ Cert.NormDxReferenceIdeal.sig) → Buf (Elt Ideal) ℓ) (g' : Dev Cert.NormDxReferenceIdeal.nD → PrngReg), Pre_NormDxIdeal m →
    (∀ c : Dev Cert.NormDxIdeal.nD,
      m' ((c.tc : Thread Cert.NormDxReferenceIdeal.nD Cert.NormDxReferenceIdeal.τ).loc Cert.NormDxReferenceIdeal.main_arg0) = m ((c.tc : Thread Cert.NormDxIdeal.nD Cert.NormDxIdeal.τ).loc Cert.NormDxIdeal.main_arg0)
      ∧ m' ((c.tc : Thread Cert.NormDxReferenceIdeal.nD Cert.NormDxReferenceIdeal.τ).loc Cert.NormDxReferenceIdeal.main_arg1) = m ((c.tc : Thread Cert.NormDxIdeal.nD Cert.NormDxIdeal.τ).loc Cert.NormDxIdeal.main_arg1)
      ∧ m' ((c.tc : Thread Cert.NormDxReferenceIdeal.nD Cert.NormDxReferenceIdeal.τ).loc Cert.NormDxReferenceIdeal.main_arg2) = m ((c.tc : Thread Cert.NormDxIdeal.nD Cert.NormDxIdeal.τ).loc Cert.NormDxIdeal.main_arg2)
      ∧ m' ((c.tc : Thread Cert.NormDxReferenceIdeal.nD Cert.NormDxReferenceIdeal.τ).loc Cert.NormDxReferenceIdeal.main_arg3) = m ((c.tc : Thread Cert.NormDxIdeal.nD Cert.NormDxIdeal.τ).loc Cert.NormDxIdeal.main_arg3)
      ∧ m' ((c.tc : Thread Cert.NormDxReferenceIdeal.nD Cert.NormDxReferenceIdeal.τ).loc Cert.NormDxReferenceIdeal.main_arg4) = m ((c.tc : Thread Cert.NormDxIdeal.nD Cert.NormDxIdeal.τ).loc Cert.NormDxIdeal.main_arg4)
      ∧ m' ((c.tc : Thread Cert.NormDxReferenceIdeal.nD Cert.NormDxReferenceIdeal.τ).loc Cert.NormDxReferenceIdeal.main_arg5) = m ((c.tc : Thread Cert.NormDxIdeal.nD Cert.NormDxIdeal.τ).loc Cert.NormDxIdeal.main_arg5)) →
    ∃ (v0 : (c : Dev Cert.NormDxIdeal.nD) → Buf (Elt Ideal) ((c.tc : Thread Cert.NormDxIdeal.nD Cert.NormDxIdeal.τ).loc Cert.NormDxIdeal.main_v6_0)),
      θ_run (Cert.NormDxIdeal.defs (F := Ideal)) (onTc (τ := Cert.NormDxIdeal.τ) (Cert.NormDxIdeal.main (F := Ideal))) ⟨m, fun _ => 0, g⟩ (fun r => ∀ c : Dev Cert.NormDxIdeal.nD,
          r.2.mem ((c.tc : Thread Cert.NormDxIdeal.nD Cert.NormDxIdeal.τ).loc Cert.NormDxIdeal.main_v6_0) = v0 c
          ∧ r.2.mem ((c.tc : Thread Cert.NormDxIdeal.nD Cert.NormDxIdeal.τ).loc Cert.NormDxIdeal.main_arg0) = m ((c.tc : Thread Cert.NormDxIdeal.nD Cert.NormDxIdeal.τ).loc Cert.NormDxIdeal.main_arg0)
          ∧ r.2.mem ((c.tc : Thread Cert.NormDxIdeal.nD Cert.NormDxIdeal.τ).loc Cert.NormDxIdeal.main_arg1) = m ((c.tc : Thread Cert.NormDxIdeal.nD Cert.NormDxIdeal.τ).loc Cert.NormDxIdeal.main_arg1)
          ∧ r.2.mem ((c.tc : Thread Cert.NormDxIdeal.nD Cert.NormDxIdeal.τ).loc Cert.NormDxIdeal.main_arg2) = m ((c.tc : Thread Cert.NormDxIdeal.nD Cert.NormDxIdeal.τ).loc Cert.NormDxIdeal.main_arg2)
          ∧ r.2.mem ((c.tc : Thread Cert.NormDxIdeal.nD Cert.NormDxIdeal.τ).loc Cert.NormDxIdeal.main_arg3) = m ((c.tc : Thread Cert.NormDxIdeal.nD Cert.NormDxIdeal.τ).loc Cert.NormDxIdeal.main_arg3)
          ∧ r.2.mem ((c.tc : Thread Cert.NormDxIdeal.nD Cert.NormDxIdeal.τ).loc Cert.NormDxIdeal.main_arg4) = m ((c.tc : Thread Cert.NormDxIdeal.nD Cert.NormDxIdeal.τ).loc Cert.NormDxIdeal.main_arg4)
          ∧ r.2.mem ((c.tc : Thread Cert.NormDxIdeal.nD Cert.NormDxIdeal.τ).loc Cert.NormDxIdeal.main_arg5) = m ((c.tc : Thread Cert.NormDxIdeal.nD Cert.NormDxIdeal.τ).loc Cert.NormDxIdeal.main_arg5))
      ∧ θ_run (Cert.NormDxReferenceIdeal.defs (F := Ideal)) (onTc (τ := Cert.NormDxReferenceIdeal.τ) (Cert.NormDxReferenceIdeal.main (F := Ideal))) ⟨m', fun _ => 0, g'⟩ (fun r => ∀ c : Dev Cert.NormDxReferenceIdeal.nD,
          r.2.mem ((c.tc : Thread Cert.NormDxReferenceIdeal.nD Cert.NormDxReferenceIdeal.τ).loc Cert.NormDxReferenceIdeal.main_v46) = v0 c
          ∧ r.2.mem ((c.tc : Thread Cert.NormDxReferenceIdeal.nD Cert.NormDxReferenceIdeal.τ).loc Cert.NormDxReferenceIdeal.main_arg0) = m' ((c.tc : Thread Cert.NormDxReferenceIdeal.nD Cert.NormDxReferenceIdeal.τ).loc Cert.NormDxReferenceIdeal.main_arg0)
          ∧ r.2.mem ((c.tc : Thread Cert.NormDxReferenceIdeal.nD Cert.NormDxReferenceIdeal.τ).loc Cert.NormDxReferenceIdeal.main_arg1) = m' ((c.tc : Thread Cert.NormDxReferenceIdeal.nD Cert.NormDxReferenceIdeal.τ).loc Cert.NormDxReferenceIdeal.main_arg1)
          ∧ r.2.mem ((c.tc : Thread Cert.NormDxReferenceIdeal.nD Cert.NormDxReferenceIdeal.τ).loc Cert.NormDxReferenceIdeal.main_arg2) = m' ((c.tc : Thread Cert.NormDxReferenceIdeal.nD Cert.NormDxReferenceIdeal.τ).loc Cert.NormDxReferenceIdeal.main_arg2)
          ∧ r.2.mem ((c.tc : Thread Cert.NormDxReferenceIdeal.nD Cert.NormDxReferenceIdeal.τ).loc Cert.NormDxReferenceIdeal.main_arg3) = m' ((c.tc : Thread Cert.NormDxReferenceIdeal.nD Cert.NormDxReferenceIdeal.τ).loc Cert.NormDxReferenceIdeal.main_arg3)
          ∧ r.2.mem ((c.tc : Thread Cert.NormDxReferenceIdeal.nD Cert.NormDxReferenceIdeal.τ).loc Cert.NormDxReferenceIdeal.main_arg4) = m' ((c.tc : Thread Cert.NormDxReferenceIdeal.nD Cert.NormDxReferenceIdeal.τ).loc Cert.NormDxReferenceIdeal.main_arg4)
          ∧ r.2.mem ((c.tc : Thread Cert.NormDxReferenceIdeal.nD Cert.NormDxReferenceIdeal.τ).loc Cert.NormDxReferenceIdeal.main_arg5) = m' ((c.tc : Thread Cert.NormDxReferenceIdeal.nD Cert.NormDxReferenceIdeal.τ).loc Cert.NormDxReferenceIdeal.main_arg5))

def Claim : Prop :=
  ∃ (hKernel : Cert.Kernel.Facts) (hKernelIdeal : Cert.KernelIdeal.Facts) (hReferenceIdeal : Cert.ReferenceIdeal.Facts) (hMla : Cert.Mla.Facts) (hMlaIdeal : Cert.MlaIdeal.Facts) (hMlaReferenceIdeal : Cert.MlaReferenceIdeal.Facts) (hUpDa : Cert.UpDa.Facts) (hUpDaIdeal : Cert.UpDaIdeal.Facts) (hUpDaReferenceIdeal : Cert.UpDaReferenceIdeal.Facts) (hUpDw : Cert.UpDw.Facts) (hUpDwIdeal : Cert.UpDwIdeal.Facts) (hUpDwReferenceIdeal : Cert.UpDwReferenceIdeal.Facts) (hDownDa : Cert.DownDa.Facts) (hDownDaIdeal : Cert.DownDaIdeal.Facts) (hDownDaReferenceIdeal : Cert.DownDaReferenceIdeal.Facts) (hDownDw : Cert.DownDw.Facts) (hDownDwIdeal : Cert.DownDwIdeal.Facts) (hDownDwReferenceIdeal : Cert.DownDwReferenceIdeal.Facts) (hUp : Cert.Up.Facts) (hUpIdeal : Cert.UpIdeal.Facts) (hUpReferenceIdeal : Cert.UpReferenceIdeal.Facts) (hOutDa : Cert.OutDa.Facts) (hOutDaIdeal : Cert.OutDaIdeal.Facts) (hOutDaReferenceIdeal : Cert.OutDaReferenceIdeal.Facts) (hOutDw : Cert.OutDw.Facts) (hOutDwIdeal : Cert.OutDwIdeal.Facts) (hOutDwReferenceIdeal : Cert.OutDwReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hQuery : Cert.Query.Facts) (hQueryIdeal : Cert.QueryIdeal.Facts) (hQueryReferenceIdeal : Cert.QueryReferenceIdeal.Facts) (hQueryDa : Cert.QueryDa.Facts) (hQueryDaIdeal : Cert.QueryDaIdeal.Facts) (hQueryDaReferenceIdeal : Cert.QueryDaReferenceIdeal.Facts) (hQueryDw : Cert.QueryDw.Facts) (hQueryDwIdeal : Cert.QueryDwIdeal.Facts) (hQueryDwReferenceIdeal : Cert.QueryDwReferenceIdeal.Facts) (hKey : Cert.Key.Facts) (hKeyIdeal : Cert.KeyIdeal.Facts) (hKeyReferenceIdeal : Cert.KeyReferenceIdeal.Facts) (hKeyDa : Cert.KeyDa.Facts) (hKeyDaIdeal : Cert.KeyDaIdeal.Facts) (hKeyDaReferenceIdeal : Cert.KeyDaReferenceIdeal.Facts) (hKeyDw : Cert.KeyDw.Facts) (hKeyDwIdeal : Cert.KeyDwIdeal.Facts) (hKeyDwReferenceIdeal : Cert.KeyDwReferenceIdeal.Facts) (hRank : Cert.Rank.Facts) (hRankIdeal : Cert.RankIdeal.Facts) (hRankReferenceIdeal : Cert.RankReferenceIdeal.Facts) (hRankDa : Cert.RankDa.Facts) (hRankDaIdeal : Cert.RankDaIdeal.Facts) (hRankDaReferenceIdeal : Cert.RankDaReferenceIdeal.Facts) (hRankDw : Cert.RankDw.Facts) (hRankDwIdeal : Cert.RankDwIdeal.Facts) (hRankDwReferenceIdeal : Cert.RankDwReferenceIdeal.Facts) (hAdamDq : Cert.AdamDq.Facts) (hAdamDqIdeal : Cert.AdamDqIdeal.Facts) (hAdamDqReferenceIdeal : Cert.AdamDqReferenceIdeal.Facts) (hAdamUq : Cert.AdamUq.Facts) (hAdamUqIdeal : Cert.AdamUqIdeal.Facts) (hAdamUqReferenceIdeal : Cert.AdamUqReferenceIdeal.Facts) (hAdamDkv : Cert.AdamDkv.Facts) (hAdamDkvIdeal : Cert.AdamDkvIdeal.Facts) (hAdamDkvReferenceIdeal : Cert.AdamDkvReferenceIdeal.Facts) (hAdamUkv : Cert.AdamUkv.Facts) (hAdamUkvIdeal : Cert.AdamUkvIdeal.Facts) (hAdamUkvReferenceIdeal : Cert.AdamUkvReferenceIdeal.Facts) (hAdamSquare : Cert.AdamSquare.Facts) (hAdamSquareIdeal : Cert.AdamSquareIdeal.Facts) (hAdamSquareReferenceIdeal : Cert.AdamSquareReferenceIdeal.Facts) (hAdamUp : Cert.AdamUp.Facts) (hAdamUpIdeal : Cert.AdamUpIdeal.Facts) (hAdamUpReferenceIdeal : Cert.AdamUpReferenceIdeal.Facts) (hAdamDown : Cert.AdamDown.Facts) (hAdamDownIdeal : Cert.AdamDownIdeal.Facts) (hAdamDownReferenceIdeal : Cert.AdamDownReferenceIdeal.Facts) (hAdamMod : Cert.AdamMod.Facts) (hAdamModIdeal : Cert.AdamModIdeal.Facts) (hAdamModReferenceIdeal : Cert.AdamModReferenceIdeal.Facts) (hAdamSmall : Cert.AdamSmall.Facts) (hAdamSmallIdeal : Cert.AdamSmallIdeal.Facts) (hAdamSmallReferenceIdeal : Cert.AdamSmallReferenceIdeal.Facts) (hModDw : Cert.ModDw.Facts) (hModDwIdeal : Cert.ModDwIdeal.Facts) (hModDwReferenceIdeal : Cert.ModDwReferenceIdeal.Facts) (hNormDx : Cert.NormDx.Facts) (hNormDxIdeal : Cert.NormDxIdeal.Facts) (hNormDxReferenceIdeal : Cert.NormDxReferenceIdeal.Facts) (hPre_finite : Cert.Pre_finite.Facts) (hPre_mla_finite : Cert.Pre_mla_finite.Facts) (hOn_written : Cert.On_written.Facts) (hOn_mla_written : Cert.On_mla_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_UpDa (hUpDa := hUpDa)
    ∧ quiescent_UpDaIdeal (hUpDaIdeal := hUpDaIdeal)
    ∧ quiescent_UpDaReferenceIdeal (hUpDaReferenceIdeal := hUpDaReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_DownDa (hDownDa := hDownDa)
    ∧ quiescent_DownDaIdeal (hDownDaIdeal := hDownDaIdeal)
    ∧ quiescent_DownDaReferenceIdeal (hDownDaReferenceIdeal := hDownDaReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_Up (hUp := hUp)
    ∧ quiescent_UpIdeal (hUpIdeal := hUpIdeal)
    ∧ quiescent_UpReferenceIdeal (hUpReferenceIdeal := hUpReferenceIdeal)
    ∧ quiescent_OutDa (hOutDa := hOutDa)
    ∧ quiescent_OutDaIdeal (hOutDaIdeal := hOutDaIdeal)
    ∧ quiescent_OutDaReferenceIdeal (hOutDaReferenceIdeal := hOutDaReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_QueryDa (hQueryDa := hQueryDa)
    ∧ quiescent_QueryDaIdeal (hQueryDaIdeal := hQueryDaIdeal)
    ∧ quiescent_QueryDaReferenceIdeal (hQueryDaReferenceIdeal := hQueryDaReferenceIdeal)
    ∧ quiescent_QueryDw (hQueryDw := hQueryDw)
    ∧ quiescent_QueryDwIdeal (hQueryDwIdeal := hQueryDwIdeal)
    ∧ quiescent_QueryDwReferenceIdeal (hQueryDwReferenceIdeal := hQueryDwReferenceIdeal)
    ∧ quiescent_Key (hKey := hKey)
    ∧ quiescent_KeyIdeal (hKeyIdeal := hKeyIdeal)
    ∧ quiescent_KeyReferenceIdeal (hKeyReferenceIdeal := hKeyReferenceIdeal)
    ∧ quiescent_KeyDa (hKeyDa := hKeyDa)
    ∧ quiescent_KeyDaIdeal (hKeyDaIdeal := hKeyDaIdeal)
    ∧ quiescent_KeyDaReferenceIdeal (hKeyDaReferenceIdeal := hKeyDaReferenceIdeal)
    ∧ quiescent_KeyDw (hKeyDw := hKeyDw)
    ∧ quiescent_KeyDwIdeal (hKeyDwIdeal := hKeyDwIdeal)
    ∧ quiescent_KeyDwReferenceIdeal (hKeyDwReferenceIdeal := hKeyDwReferenceIdeal)
    ∧ quiescent_Rank (hRank := hRank)
    ∧ quiescent_RankIdeal (hRankIdeal := hRankIdeal)
    ∧ quiescent_RankReferenceIdeal (hRankReferenceIdeal := hRankReferenceIdeal)
    ∧ quiescent_RankDa (hRankDa := hRankDa)
    ∧ quiescent_RankDaIdeal (hRankDaIdeal := hRankDaIdeal)
    ∧ quiescent_RankDaReferenceIdeal (hRankDaReferenceIdeal := hRankDaReferenceIdeal)
    ∧ quiescent_RankDw (hRankDw := hRankDw)
    ∧ quiescent_RankDwIdeal (hRankDwIdeal := hRankDwIdeal)
    ∧ quiescent_RankDwReferenceIdeal (hRankDwReferenceIdeal := hRankDwReferenceIdeal)
    ∧ quiescent_AdamDq (hAdamDq := hAdamDq)
    ∧ quiescent_AdamDqIdeal (hAdamDqIdeal := hAdamDqIdeal)
    ∧ quiescent_AdamDqReferenceIdeal (hAdamDqReferenceIdeal := hAdamDqReferenceIdeal)
    ∧ quiescent_AdamUq (hAdamUq := hAdamUq)
    ∧ quiescent_AdamUqIdeal (hAdamUqIdeal := hAdamUqIdeal)
    ∧ quiescent_AdamUqReferenceIdeal (hAdamUqReferenceIdeal := hAdamUqReferenceIdeal)
    ∧ quiescent_AdamDkv (hAdamDkv := hAdamDkv)
    ∧ quiescent_AdamDkvIdeal (hAdamDkvIdeal := hAdamDkvIdeal)
    ∧ quiescent_AdamDkvReferenceIdeal (hAdamDkvReferenceIdeal := hAdamDkvReferenceIdeal)
    ∧ quiescent_AdamUkv (hAdamUkv := hAdamUkv)
    ∧ quiescent_AdamUkvIdeal (hAdamUkvIdeal := hAdamUkvIdeal)
    ∧ quiescent_AdamUkvReferenceIdeal (hAdamUkvReferenceIdeal := hAdamUkvReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_AdamMod (hAdamMod := hAdamMod)
    ∧ quiescent_AdamModIdeal (hAdamModIdeal := hAdamModIdeal)
    ∧ quiescent_AdamModReferenceIdeal (hAdamModReferenceIdeal := hAdamModReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_ModDw (hModDw := hModDw)
    ∧ quiescent_ModDwIdeal (hModDwIdeal := hModDwIdeal)
    ∧ quiescent_ModDwReferenceIdeal (hModDwReferenceIdeal := hModDwReferenceIdeal)
    ∧ quiescent_NormDx (hNormDx := hNormDx)
    ∧ quiescent_NormDxIdeal (hNormDxIdeal := hNormDxIdeal)
    ∧ quiescent_NormDxReferenceIdeal (hNormDxReferenceIdeal := hNormDxReferenceIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Mla_MlaIdeal
    ∧ algebraic_MlaIdeal_MlaReferenceIdeal_on_mla_written_pre_mla_finite (hMlaIdeal := hMlaIdeal) (hMlaReferenceIdeal := hMlaReferenceIdeal) (hPre_mla_finite := hPre_mla_finite) (hOn_mla_written := hOn_mla_written)
    ∧ preserves_UpDa_UpDaIdeal
    ∧ algebraic_UpDaIdeal_UpDaReferenceIdeal (hUpDaIdeal := hUpDaIdeal) (hUpDaReferenceIdeal := hUpDaReferenceIdeal)
    ∧ preserves_UpDw_UpDwIdeal
    ∧ algebraic_UpDwIdeal_UpDwReferenceIdeal (hUpDwIdeal := hUpDwIdeal) (hUpDwReferenceIdeal := hUpDwReferenceIdeal)
    ∧ preserves_DownDa_DownDaIdeal
    ∧ algebraic_DownDaIdeal_DownDaReferenceIdeal (hDownDaIdeal := hDownDaIdeal) (hDownDaReferenceIdeal := hDownDaReferenceIdeal)
    ∧ preserves_DownDw_DownDwIdeal
    ∧ algebraic_DownDwIdeal_DownDwReferenceIdeal (hDownDwIdeal := hDownDwIdeal) (hDownDwReferenceIdeal := hDownDwReferenceIdeal)
    ∧ preserves_Up_UpIdeal
    ∧ algebraic_UpIdeal_UpReferenceIdeal (hUpIdeal := hUpIdeal) (hUpReferenceIdeal := hUpReferenceIdeal)
    ∧ preserves_OutDa_OutDaIdeal
    ∧ algebraic_OutDaIdeal_OutDaReferenceIdeal (hOutDaIdeal := hOutDaIdeal) (hOutDaReferenceIdeal := hOutDaReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Down_DownIdeal
    ∧ algebraic_DownIdeal_DownReferenceIdeal (hDownIdeal := hDownIdeal) (hDownReferenceIdeal := hDownReferenceIdeal)
    ∧ preserves_Out_OutIdeal
    ∧ algebraic_OutIdeal_OutReferenceIdeal (hOutIdeal := hOutIdeal) (hOutReferenceIdeal := hOutReferenceIdeal)
    ∧ preserves_Query_QueryIdeal
    ∧ algebraic_QueryIdeal_QueryReferenceIdeal (hQueryIdeal := hQueryIdeal) (hQueryReferenceIdeal := hQueryReferenceIdeal)
    ∧ preserves_QueryDa_QueryDaIdeal
    ∧ algebraic_QueryDaIdeal_QueryDaReferenceIdeal (hQueryDaIdeal := hQueryDaIdeal) (hQueryDaReferenceIdeal := hQueryDaReferenceIdeal)
    ∧ preserves_QueryDw_QueryDwIdeal
    ∧ algebraic_QueryDwIdeal_QueryDwReferenceIdeal (hQueryDwIdeal := hQueryDwIdeal) (hQueryDwReferenceIdeal := hQueryDwReferenceIdeal)
    ∧ preserves_Key_KeyIdeal
    ∧ algebraic_KeyIdeal_KeyReferenceIdeal (hKeyIdeal := hKeyIdeal) (hKeyReferenceIdeal := hKeyReferenceIdeal)
    ∧ preserves_KeyDa_KeyDaIdeal
    ∧ algebraic_KeyDaIdeal_KeyDaReferenceIdeal (hKeyDaIdeal := hKeyDaIdeal) (hKeyDaReferenceIdeal := hKeyDaReferenceIdeal)
    ∧ preserves_KeyDw_KeyDwIdeal
    ∧ algebraic_KeyDwIdeal_KeyDwReferenceIdeal (hKeyDwIdeal := hKeyDwIdeal) (hKeyDwReferenceIdeal := hKeyDwReferenceIdeal)
    ∧ preserves_Rank_RankIdeal
    ∧ algebraic_RankIdeal_RankReferenceIdeal (hRankIdeal := hRankIdeal) (hRankReferenceIdeal := hRankReferenceIdeal)
    ∧ preserves_RankDa_RankDaIdeal
    ∧ algebraic_RankDaIdeal_RankDaReferenceIdeal (hRankDaIdeal := hRankDaIdeal) (hRankDaReferenceIdeal := hRankDaReferenceIdeal)
    ∧ preserves_RankDw_RankDwIdeal
    ∧ algebraic_RankDwIdeal_RankDwReferenceIdeal (hRankDwIdeal := hRankDwIdeal) (hRankDwReferenceIdeal := hRankDwReferenceIdeal)
    ∧ preserves_AdamDq_AdamDqIdeal
    ∧ algebraic_AdamDqIdeal_AdamDqReferenceIdeal (hAdamDqIdeal := hAdamDqIdeal) (hAdamDqReferenceIdeal := hAdamDqReferenceIdeal)
    ∧ preserves_AdamUq_AdamUqIdeal
    ∧ algebraic_AdamUqIdeal_AdamUqReferenceIdeal (hAdamUqIdeal := hAdamUqIdeal) (hAdamUqReferenceIdeal := hAdamUqReferenceIdeal)
    ∧ preserves_AdamDkv_AdamDkvIdeal
    ∧ algebraic_AdamDkvIdeal_AdamDkvReferenceIdeal (hAdamDkvIdeal := hAdamDkvIdeal) (hAdamDkvReferenceIdeal := hAdamDkvReferenceIdeal)
    ∧ preserves_AdamUkv_AdamUkvIdeal
    ∧ algebraic_AdamUkvIdeal_AdamUkvReferenceIdeal (hAdamUkvIdeal := hAdamUkvIdeal) (hAdamUkvReferenceIdeal := hAdamUkvReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_AdamMod_AdamModIdeal
    ∧ algebraic_AdamModIdeal_AdamModReferenceIdeal (hAdamModIdeal := hAdamModIdeal) (hAdamModReferenceIdeal := hAdamModReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_ModDw_ModDwIdeal
    ∧ algebraic_ModDwIdeal_ModDwReferenceIdeal (hModDwIdeal := hModDwIdeal) (hModDwReferenceIdeal := hModDwReferenceIdeal)
    ∧ preserves_NormDx_NormDxIdeal
    ∧ algebraic_NormDxIdeal_NormDxReferenceIdeal (hNormDxIdeal := hNormDxIdeal) (hNormDxReferenceIdeal := hNormDxReferenceIdeal)
-- ==== On_mla_written.lean ====
abbrev S16x8448x192 : Shape := ⟨3, ![16, 8448, 192]⟩
abbrev S8448x2048 : Shape := ⟨2, ![8448, 2048]⟩
abbrev S16x192x8448 : Shape := ⟨3, ![16, 192, 8448]⟩
abbrev S_ : Shape := ⟨0, ![]⟩

class Facts : Prop where
  bcast_S_S16x192x8448 : S_.BroadcastsInDim S16x192x8448 (![] : Fin 0 → Fin S16x192x8448.rank)
  bcast_S_S16x8448x192 : S_.BroadcastsInDim S16x8448x192 (![] : Fin 0 → Fin S16x8448x192.rank)
  bcast_S_S8448x2048 : S_.BroadcastsInDim S8448x2048 (![] : Fin 0 → Fin S8448x2048.rank)

variable [Facts]

def fn {F : FTy → Type} [FloatOps F] (main_arg0 : FVec F S16x8448x192 .bf16) (main_arg1 : FVec F S16x8448x192 .bf16) (main_arg2 : FVec F S8448x2048 .bf16) (main_arg3 : FVec F S8448x2048 .bf16) : IVec S16x192x8448 1 × IVec S16x8448x192 1 × IVec S8448x2048 1 :=
  let main_v0 : IVec S16x192x8448 32 := iotaInDim S16x192x8448 32 2
  let main_c : IVec S_ 32 := constantI S_ 32 8192#32
  let main_v1 : IVec S16x192x8448 32 := broadcastInDim S16x192x8448 ![] bcast_S_S16x192x8448 main_c
  let main_v2 : IVec S16x192x8448 1 := cmpi .slt main_v0 main_v1
  let main_c_0 : IVec S_ 1 := constantI S_ 1 1#1
  let main_v3 : IVec S16x8448x192 1 := broadcastInDim S16x8448x192 ![] bcast_S_S16x8448x192 main_c_0
  let main_c_1 : IVec S_ 1 := constantI S_ 1 1#1
  let main_v4 : IVec S8448x2048 1 := broadcastInDim S8448x2048 ![] bcast_S_S8448x2048 main_c_1
  (main_v2, main_v3, main_v4)
-- ==== On_written.lean ====
abbrev S8448x2048 : Shape := ⟨2, ![8448, 2048]⟩
abbrev S8448x512 : Shape := ⟨2, ![8448, 512]⟩
abbrev S2048x8448 : Shape := ⟨2, ![2048, 8448]⟩
abbrev S_ : Shape := ⟨0, ![]⟩

class Facts : Prop where
  bcast_S_S2048x8448 : S_.BroadcastsInDim S2048x8448 (![] : Fin 0 → Fin S2048x8448.rank)
  bcast_S_S8448x512 : S_.BroadcastsInDim S8448x512 (![] : Fin 0 → Fin S8448x512.rank)

variable [Facts]

def fn {F : FTy → Type} [FloatOps F] (main_arg0 : FVec F S8448x2048 .bf16) (main_arg1 : FVec F S8448x512 .bf16) (main_arg2 : FVec F S8448x512 .bf16) (main_arg3 : FVec F S8448x2048 .bf16) : IVec S2048x8448 1 × IVec S8448x512 1 × IVec S8448x512 1 :=
  let main_v0 : IVec S2048x8448 32 := iotaInDim S2048x8448 32 1
  let main_c : IVec S_ 32 := constantI S_ 32 8192#32
  let main_v1 : IVec S2048x8448 32 := broadcastInDim S2048x8448 ![] bcast_S_S2048x8448 main_c
  let main_v2 : IVec S2048x8448 1 := cmpi .slt main_v0 main_v1
  let main_c_0 : IVec S_ 1 := constantI S_ 1 1#1
  let main_v3 : IVec S8448x512 1 := broadcastInDim S8448x512 ![] bcast_S_S8448x512 main_c_0
  let main_c_1 : IVec S_ 1 := constantI S_ 1 1#1
  let main_v4 : IVec S8448x512 1 := broadcastInDim S8448x512 ![] bcast_S_S8448x512 main_c_1
  (main_v2, main_v3, main_v4)
-- ==== Pre_finite.lean ====
abbrev S8448x2048 : Shape := ⟨2, ![8448, 2048]⟩
abbrev S8448x512 : Shape := ⟨2, ![8448, 512]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_

variable [Facts]

def fn_part1 {F : FTy → Type} [FloatOps F] (main_v4 : IVec S_ 1) (main_v9 : IVec S_ 1) (main_v14 : IVec S_ 1) (main_v16 : FVec F S8448x2048 .f32) (main_cst_4 : FVec F S_ .f32) : IVec S_ 1 :=
  let main_v17 : FVec F S8448x2048 .f32 := broadcastInDim S8448x2048 ![] bcast_S_S8448x2048 main_cst_4
  let main_v18 : IVec S8448x2048 1 := cmpf .olt main_v16 main_v17
  let main_c_5 : IVec S_ 1 := constantI S_ 1 1#1
  let main_v19 : IVec S_ 1 := (fun x v => Host.reduce IntOp.andi x v reducesTo_S8448x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S8448x2048 .bf16) (main_arg1 : FVec F S8448x512 .bf16) (main_arg2 : FVec F S8448x512 .bf16) (main_arg3 : FVec F S8448x2048 .bf16) : IVec S_ 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S8448x512 .f32 := (extf .f32 · bitsLt_bf16_f32) main_arg1
  let main_v6 : FVec F S8448x512 .f32 := Host.absf main_v5
  let main_cst_0 : FVec F S_ .f32 := constant S_ .f32 0x7F800000#32
  let main_v7 : FVec F S8448x512 .f32 := broadcastInDim S8448x512 ![] bcast_S_S8448x512 main_cst_0
  let main_v8 : IVec S8448x512 1 := cmpf .olt main_v6 main_v7
  let main_c_1 : IVec S_ 1 := constantI S_ 1 1#1
  let main_v9 : IVec S_ 1 := (fun x v => Host.reduce IntOp.andi x v reducesTo_S8448x512_S_d0_1 h_S_) main_v8 main_c_1
  let main_v10 : FVec F S8448x512 .f32 := (extf .f32 · bitsLt_bf16_f32) main_arg2
  let main_v11 : FVec F S8448x512 .f32 := Host.absf main_v10
  let main_cst_2 : FVec F S_ .f32 := constant S_ .f32 0x7F800000#32
  let main_v12 : FVec F S8448x512 .f32 := broadcastInDim S8448x512 ![] bcast_S_S8448x512 main_cst_2
  let main_v13 : IVec S8448x512 1 := cmpf .olt main_v11 main_v12
  let main_c_3 : IVec S_ 1 := constantI S_ 1 1#1
  let main_v14 : IVec S_ 1 := (fun x v => Host.reduce IntOp.andi x v reducesTo_S8448x512_S_d0_1 h_S_) main_v13 main_c_3
  let main_v15 : FVec F S8448x2048 .f32 := (extf .f32 · bitsLt_bf16_f32) main_arg3
  let main_v16 : FVec F S8448x2048 .f32 := Host.absf main_v15
  let main_cst_4 : FVec F S_ .f32 := constant S_ .f32 0x7F800000#32
  fn_part1 (F := F) main_v4 main_v9 main_v14 main_v16 main_cst_4
-- ==== Pre_mla_finite.lean ====
abbrev S16x8448x192 : Shape := ⟨3, ![16, 8448, 192]⟩
abbrev S8448x2048 : Shape := ⟨2, ![8448, 2048]⟩
abbrev S_ : Shape := ⟨0, ![]⟩

class Facts : Prop where
  bitsLt_bf16_f32 : FTy.bits .bf16 < FTy.bits .f32
  bcast_S_S16x8448x192 : S_.BroadcastsInDim S16x8448x192 (![] : Fin 0 → Fin S16x8448x192.rank)
  reducesTo_S16x8448x192_S_d0_1_2 : S16x8448x192.ReducesTo [0, 1, 2] S_
  h_S_ : 0 < S_.numel
  bcast_S_S8448x2048 : S_.BroadcastsInDim S8448x2048 (![] : Fin 0 → Fin S8448x2048.rank)
  reducesTo_S8448x2048_S_d0_1 : S8448x2048.ReducesTo [0, 1] S_

variable [Facts]

def fn_part1 {F : FTy → Type} [FloatOps F] (main_v4 : IVec S_ 1) (main_v9 : IVec S_ 1) (main_v14 : IVec S_ 1) (main_v16 : FVec F S8448x2048 .f32) (main_cst_4 : FVec F S_ .f32) : IVec S_ 1 :=
  let main_v17 : FVec F S8448x2048 .f32 := broadcastInDim S8448x2048 ![] bcast_S_S8448x2048 main_cst_4
  let main_v18 : IVec S8448x2048 1 := cmpf .olt main_v16 main_v17
  let main_c_5 : IVec S_ 1 := constantI S_ 1 1#1
  let main_v19 : IVec S_ 1 := (fun x v => Host.reduce IntOp.andi x v reducesTo_S8448x2048_S_d0_1 h_S_) main_v18 main_c_5
  let main_v20 : IVec S_ 1 := andi main_v4 main_v9
  let main_v21 : IVec S_ 1 := andi main_v20 main_v14
  let main_v22 : IVec S_ 1 := andi main_v21 main_v19
  main_v22

def fn {F : FTy → Type} [FloatOps F] (main_arg0 : FVec F S16x8448x192 .bf16) (main_arg1 : FVec F S16x8448x192 .bf16) (main_arg2 : FVec F S8448x2048 .bf16) (main_arg3 : FVec F S8448x2048 .bf16) : IVec S_ 1 :=
  let main_v0 : FVec F S16x8448x192 .f32 := (extf .f32 · bitsLt_bf16_f32) main_arg0
  let main_v1 : FVec F S16x8448x192 .f32 := Host.absf main_v0
  let main_cst : FVec F S_ .f32 := constant S_ .f32 0x7F800000#32
  let main_v2 : FVec F S16x8448x192 .f32 := broadcastInDim S16x8448x192 ![] bcast_S_S16x8448x192 main_cst
  let main_v3 : IVec S16x8448x192 1 := cmpf .olt main_v1 main_v2
  let main_c : IVec S_ 1 := constantI S_ 1 1#1
  let main_v4 : IVec S_ 1 := (fun x v => Host.reduce IntOp.andi x v reducesTo_S16x8448x192_S_d0_1_2 h_S_) main_v3 main_c
  let main_v5 : FVec F S16x8448x192 .f32 := (extf .f32 · bitsLt_bf16_f32) main_arg1
  let main_v6 : FVec F S16x8448x192 .f32 := Host.absf main_v5
  let main_cst_0 : FVec F S_ .f32 := constant S_ .f32 0x7F800000#32
  let main_v7 : FVec F S16x8448x192 .f32 := broadcastInDim S16x8448x192 ![] bcast_S_S16x8448x192 main_cst_0
  let main_v8 : IVec S16x8448x192 1 := cmpf .olt main_v6 main_v7
  let main_c_1 : IVec S_ 1 := constantI S_ 1 1#1
  let main_v9 : IVec S_ 1 := (fun x v => Host.reduce IntOp.andi x v reducesTo_S16x8448x192_S_d0_1_2 h_S_) main_v8 main_c_1
  let main_v10 : FVec F S8448x2048 .f32 := (extf .f32 · bitsLt_bf16_f32) main_arg2
  let main_v11 : FVec F S8448x2048 .f32 := Host.absf main_v10
  let main_cst_2 : FVec F S_ .f32 := constant S_ .f32 0x7F800000#32
  let main_v12 : FVec F S8448x2048 .f32 := broadcastInDim S8448x2048 ![] bcast_S_S8448x2048 main_cst_2
  let main_v13 : IVec S8448x2048 1 := cmpf .olt main_v11 main_v12
  let main_c_3 : IVec S_ 1 := constantI S_ 1 1#1
  let main_v14 : IVec S_ 1 := (fun x v => Host.reduce IntOp.andi x v reducesTo_S8448x2048_S_d0_1 h_S_) main_v13 main_c_3
  let main_v15 : FVec F S8448x2048 .f32 := (extf .f32 · bitsLt_bf16_f32) main_arg3
  let main_v16 : FVec F S8448x2048 .f32 := Host.absf main_v15
  let main_cst_4 : FVec F S_ .f32 := constant S_ .f32 0x7F800000#32
  fn_part1 (F := F) main_v4 main_v9 main_v14 main_v16 main_cst_4
-- ==== Kernel.lean ====
abbrev S8448x2048 : Shape := ⟨2, ![8448, 2048]⟩
abbrev S8448x512 : Shape := ⟨2, ![8448, 512]⟩
abbrev S1x8448x16x128 : Shape := ⟨4, ![1, 8448, 16, 128]⟩
abbrev S1x8192x16x128 : Shape := ⟨4, ![1, 8192, 16, 128]⟩
abbrev S1x8448x4x128 : Shape := ⟨4, ![1, 8448, 4, 128]⟩
abbrev S1x8192x4x4x128 : Shape := ⟨5, ![1, 8192, 4, 4, 128]⟩
abbrev S1x4x8448x8192x4 : Shape := ⟨5, ![1, 4, 8448, 8192, 4]⟩
abbrev S1x4x4x8192x8448 : Shape := ⟨5, ![1, 4, 4, 8192, 8448]⟩
abbrev S_ : Shape := ⟨0, ![]⟩
abbrev S1x4x4x8192 : Shape := ⟨4, ![1, 4, 4, 8192]⟩
abbrev S1x4x4x8192x1 : Shape := ⟨5, ![1, 4, 4, 8192, 1]⟩
abbrev S1x4x128x4x8192 : Shape := ⟨5, ![1, 4, 128, 4, 8192]⟩
abbrev S1x4x4x128x8192 : Shape := ⟨5, ![1, 4, 4, 128, 8192]⟩
abbrev S2048x8192 : Shape := ⟨2, ![2048, 8192]⟩
abbrev S16x1x8192 : Shape := ⟨3, ![16, 1, 8192]⟩
abbrev S2048x8448 : Shape := ⟨2, ![2048, 8448]⟩
abbrev S16x1x8448 : Shape := ⟨3, ![16, 1, 8448]⟩
abbrev S512x8448 : Shape := ⟨2, ![512, 8448]⟩
abbrev S128x1024 : Shape := ⟨2, ![128, 1024]⟩
abbrev S1024x128 : Shape := ⟨2, ![1024, 128]⟩
abbrev S768x128 : Shape := ⟨2, ![768, 128]⟩
abbrev S128x768 : Shape := ⟨2, ![128, 768]⟩
abbrev S1x1x1024 : Shape := ⟨3, ![1, 1, 1024]⟩
abbrev S8448x128 : Shape := ⟨2, ![8448, 128]⟩
abbrev S1x1024 : Shape := ⟨2, ![1, 1024]⟩
abbrev S1024 : Shape := ⟨1, ![1024]⟩
abbrev S768x1024 : Shape := ⟨2, ![768, 1024]⟩

abbrev nBuf : Space → Nat
  | .hbm => 45
  | .vmem => 26
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x512, .bf16⟩
  | .hbm, ⟨3, _⟩ => ⟨S8448x2048, .bf16⟩
  | .hbm, ⟨4, _⟩ => ⟨S8448x2048, .f32⟩
  | .hbm, ⟨5, _⟩ => ⟨S1x8448x16x128, .f32⟩
  | .hbm, ⟨6, _⟩ => ⟨S1x8192x16x128, .f32⟩
  | .hbm, ⟨7, _⟩ => ⟨S8448x512, .f32⟩
  | .hbm, ⟨8, _⟩ => ⟨S1x8448x4x128, .f32⟩
  | .hbm, ⟨9, _⟩ => ⟨S8448x512, .f32⟩
  | .hbm, ⟨10, _⟩ => ⟨S1x8448x4x128, .f32⟩
  | .hbm, ⟨11, _⟩ => ⟨S1x8192x4x4x128, .f32⟩
  | .hbm, ⟨12, _⟩ => ⟨S1x4x8448x8192x4, .f32⟩
  | .hbm, ⟨13, _⟩ => ⟨S1x4x4x8192x8448, .f32⟩
  | .hbm, ⟨14, _⟩ => ⟨S_, .f32⟩
  | .hbm, ⟨15, _⟩ => ⟨S1x4x4x8192x8448, .f32⟩
  | .hbm, ⟨16, _⟩ => ⟨S1x4x4x8192x8448, .f32⟩
  | .hbm, ⟨17, _⟩ => ⟨S_, .f32⟩
  | .hbm, ⟨18, _⟩ => ⟨S1x4x4x8192, .f32⟩
  | .hbm, ⟨19, _⟩ => ⟨S1x4x4x8192x1, .f32⟩
  | .hbm, ⟨20, _⟩ => ⟨S1x4x4x8192x8448, .f32⟩
  | .hbm, ⟨21, _⟩ => ⟨S1x4x4x8192x8448, .f32⟩
  | .hbm, ⟨22, _⟩ => ⟨S1x4x4x8192x8448, .f32⟩
  | .hbm, ⟨23, _⟩ => ⟨S_, .f32⟩
  | .hbm, ⟨24, _⟩ => ⟨S1x4x4x8192, .f32⟩
  | .hbm, ⟨25, _⟩ => ⟨S1x4x4x8192x1, .f32⟩
  | .hbm, ⟨26, _⟩ => ⟨S1x4x4x8192x8448, .f32⟩
  | .hbm, ⟨27, _⟩ => ⟨S1x4x4x8192x8448, .f32⟩
  | .hbm, ⟨28, _⟩ => ⟨S1x4x128x4x8192, .f32⟩
  | .hbm, ⟨29, _⟩ => ⟨S1x4x4x128x8192, .f32⟩
  | .hbm, ⟨30, _⟩ => ⟨S2048x8192, .f32⟩
  | .hbm, ⟨31, _⟩ => ⟨S1x4x4x8192x1, .f32⟩
  | .hbm, ⟨32, _⟩ => ⟨S1x4x4x8192x1, .f32⟩
  | .hbm, ⟨33, _⟩ => ⟨S16x1x8192, .f32⟩
  | .hbm, ⟨34, _⟩ => ⟨S_, .f32⟩
  | .hbm, ⟨35, _⟩ => ⟨S2048x8448, .f32⟩
  | .hbm, ⟨36, _⟩ => ⟨S2048x8448, .bf16⟩
  | .hbm, ⟨37, _⟩ => ⟨S_, .f32⟩
  | .hbm, ⟨38, _⟩ => ⟨S16x1x8448, .f32⟩
  | .hbm, ⟨39, _⟩ => ⟨S2048x8448, .bf16⟩
  | .hbm, ⟨40, _⟩ => ⟨S512x8448, .bf16⟩
  | .hbm, ⟨41, _⟩ => ⟨S2048x8448, .bf16⟩
  | .hbm, ⟨42, _⟩ => ⟨S2048x8448, .bf16⟩
  | .hbm, ⟨43, _⟩ => ⟨S8448x512, .f32⟩
  | .hbm, ⟨44, _⟩ => ⟨S8448x512, .f32⟩
  | .local _ .vmem, ⟨0, _⟩ => ⟨S128x1024, .bf16⟩
  | .local _ .vmem, ⟨1, _⟩ => ⟨S128x1024, .bf16⟩
  | .local _ .vmem, ⟨2, _⟩ => ⟨S1024x128, .bf16⟩
  | .local _ .vmem, ⟨3, _⟩ => ⟨S1024x128, .bf16⟩
  | .local _ .vmem, ⟨4, _⟩ => ⟨S768x128, .bf16⟩
  | .local _ .vmem, ⟨5, _⟩ => ⟨S768x128, .bf16⟩
  | .local _ .vmem, ⟨6, _⟩ => ⟨S128x768, .bf16⟩
  | .local _ .vmem, ⟨7, _⟩ => ⟨S128x768, .bf16⟩
  | .local _ .vmem, ⟨8, _⟩ => ⟨S768x128, .bf16⟩
  | .local _ .vmem, ⟨9, _⟩ => ⟨S768x128, .bf16⟩
  | .local _ .vmem, ⟨10, _⟩ => ⟨S128x1024, .bf16⟩
  | .local _ .vmem, ⟨11, _⟩ => ⟨S128x1024, .bf16⟩
  | .local _ .vmem, ⟨12, _⟩ => ⟨S1024x128, .bf16⟩
  | .local _ .vmem, ⟨13, _⟩ => ⟨S1024x128, .bf16⟩
  | .local _ .vmem, ⟨14, _⟩ => ⟨S128x1024, .bf16⟩
  | .local _ .vmem, ⟨15, _⟩ => ⟨S128x1024, .bf16⟩
  | .local _ .vmem, ⟨16, _⟩ => ⟨S1x1x1024, .f32⟩
  | .local _ .vmem, ⟨17, _⟩ => ⟨S1x1x1024, .f32⟩
  | .local _ .vmem, ⟨18, _⟩ => ⟨S128x1024, .bf16⟩
  | .local _ .vmem, ⟨19, _⟩ => ⟨S128x1024, .bf16⟩
  | .local _ .vmem, ⟨20, _⟩ => ⟨S8448x128, .f32⟩
  | .local _ .vmem, ⟨21, _⟩ => ⟨S8448x128, .f32⟩
  | .local _ .vmem, ⟨22, _⟩ => ⟨S8448x128, .f32⟩
  | .local _ .vmem, ⟨23, _⟩ => ⟨S8448x128, .f32⟩
  | .local _ .vmem, ⟨24, _⟩ => ⟨S128x1024, .f32⟩
  | .local _ .vmem, ⟨25, _⟩ => ⟨S1x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨4, ![4, 4, 8, 11], ![false, false, false, false]⟩

def k0_mult1 (i : grid0.Coords) : BitVec 32 :=
  let arg3 : BitVec 32 := BitVec.ofNat 32 (i 3).val
  let c768_i32 : BitVec 32 := 768#32
  let v25 : BitVec 32 := Scalar.muli arg3 c768_i32
  v25
def k0_off1 (i : grid0.Coords) : Fin 2 → Nat :=
  let arg3 : BitVec 32 := BitVec.ofNat 32 (i 3).val
  let c768_i32 : BitVec 32 := 768#32
  let v25 : BitVec 32 := Scalar.muli arg3 c768_i32
  let v26 : BitVec 32 := v25
  let v27 : Index := Scalar.indexCast v26
  let c0_15 : Index := 0#32
  ![v27.toNat, 0]
def k0_cond3 (i : grid0.Coords) : BitVec 1 :=
  let arg3 : BitVec 32 := BitVec.ofNat 32 (i 3).val
  let c10_i32 : BitVec 32 := 10#32
  let v61 : BitVec 1 := Scalar.cmpi .eq arg3 c10_i32
  let v62 : BitVec 32 := Scalar.extui v61
  let c0_i32_38 : BitVec 32 := 0#32
  let v63 : BitVec 1 := Scalar.cmpi .ne v62 c0_i32_38
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c4_i32 : BitVec 32 := 4#32
  let v1 : BitVec 32 := Scalar.muli arg0 c4_i32
  let v2 : BitVec 32 := Scalar.addi v1 arg1
  let c0_i32_0 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c4_i32 : BitVec 32 := 4#32
  let v1 : BitVec 32 := Scalar.muli arg0 c4_i32
  let v2 : BitVec 32 := Scalar.addi v1 arg1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.addi c0_i32 arg2
  let c0_i32_0 : BitVec 32 := 0#32
  let c0_i32_1 : BitVec 32 := 0#32
  ![v1.toNat, c0_i32_0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S8448x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false, false]

abbrev stage0_11 : Fin 2 → Memref sig .tc .vmem S8448x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8448x2048 : Shape := ⟨2, ![8448, 2048]⟩
abbrev S8448x512 : Shape := ⟨2, ![8448, 512]⟩
abbrev S1x8448x16x128 : Shape := ⟨4, ![1, 8448, 16, 128]⟩
abbrev S1x8192x16x128 : Shape := ⟨4, ![1, 8192, 16, 128]⟩
abbrev S1x8448x4x128 : Shape := ⟨4, ![1, 8448, 4, 128]⟩
abbrev S1x8192x4x4x128 : Shape := ⟨5, ![1, 8192, 4, 4, 128]⟩
abbrev S1x4x8448x8192x4 : Shape := ⟨5, ![1, 4, 8448, 8192, 4]⟩
abbrev S1x4x4x8192x8448 : Shape := ⟨5, ![1, 4, 4, 8192, 8448]⟩
abbrev S_ : Shape := ⟨0, ![]⟩
abbrev S1x4x4x8192 : Shape := ⟨4, ![1, 4, 4, 8192]⟩
abbrev S1x4x4x8192x1 : Shape := ⟨5, ![1, 4, 4, 8192, 1]⟩
abbrev S1x4x128x4x8192 : Shape := ⟨5, ![1, 4, 128, 4, 8192]⟩
abbrev S8192x2048 : Shape := ⟨2, ![8192, 2048]⟩
abbrev S1x4x128x8448 : Shape := ⟨4, ![1, 4, 128, 8448]⟩
abbrev S4x4x8192 : Shape := ⟨3, ![4, 4, 8192]⟩
abbrev S1x4x8192x4x128 : Shape := ⟨5, ![1, 4, 8192, 4, 128]⟩
abbrev S1x4x8448x128 : Shape := ⟨4, ![1, 4, 8448, 128]⟩
abbrev S2048x8448 : Shape := ⟨2, ![2048, 8448]⟩

abbrev nBuf : Space → Nat
  | .hbm => 98
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x512, .bf16⟩
  | .hbm, ⟨3, _⟩ => ⟨S8448x2048, .bf16⟩
  | .hbm, ⟨4, _⟩ => ⟨S8448x2048, .f32⟩
  | .hbm, ⟨5, _⟩ => ⟨S8448x512, .f32⟩
  | .hbm, ⟨6, _⟩ => ⟨S8448x512, .f32⟩
  | .hbm, ⟨7, _⟩ => ⟨S8448x2048, .f32⟩
  | .hbm, ⟨8, _⟩ => ⟨S1x8448x16x128, .f32⟩
  | .hbm, ⟨9, _⟩ => ⟨S1x8192x16x128, .f32⟩
  | .hbm, ⟨10, _⟩ => ⟨S1x8448x4x128, .f32⟩
  | .hbm, ⟨11, _⟩ => ⟨S1x8448x4x128, .f32⟩
  | .hbm, ⟨12, _⟩ => ⟨S1x8192x4x4x128, .f32⟩
  | .hbm, ⟨13, _⟩ => ⟨S1x4x8448x8192x4, .f32⟩
  | .hbm, ⟨14, _⟩ => ⟨S1x4x4x8192x8448, .f32⟩
  | .hbm, ⟨15, _⟩ => ⟨S_, .f32⟩
  | .hbm, ⟨16, _⟩ => ⟨S1x4x4x8192x8448, .f32⟩
  | .hbm, ⟨17, _⟩ => ⟨S1x4x4x8192x8448, .f32⟩
  | .hbm, ⟨18, _⟩ => ⟨S_, .f32⟩
  | .hbm, ⟨19, _⟩ => ⟨S1x4x4x8192, .f32⟩
  | .hbm, ⟨20, _⟩ => ⟨S1x4x4x8192x1, .f32⟩
  | .hbm, ⟨21, _⟩ => ⟨S1x4x4x8192x8448, .f32⟩
  | .hbm, ⟨22, _⟩ => ⟨S1x4x4x8192x8448, .i1⟩
  | .hbm, ⟨23, _⟩ => ⟨S1x4x4x8192x8448, .f32⟩
  | .hbm, ⟨24, _⟩ => ⟨S_, .f32⟩
  | .hbm, ⟨25, _⟩ => ⟨S1x4x4x8192, .f32⟩
  | .hbm, ⟨26, _⟩ => ⟨S_, .f32⟩
  | .hbm, ⟨27, _⟩ => ⟨S1x4x4x8192, .f32⟩
  | .hbm, ⟨28, _⟩ => ⟨S1x4x4x8192, .f32⟩
  | .hbm, ⟨29, _⟩ => ⟨S_, .f32⟩
  | .hbm, ⟨30, _⟩ => ⟨S1x4x4x8192, .f32⟩
  | .hbm, ⟨31, _⟩ => ⟨S1x4x4x8192, .i1⟩
  | .hbm, ⟨32, _⟩ => ⟨S_, .f32⟩
  | .hbm, ⟨33, _⟩ => ⟨S1x4x4x8192, .f32⟩
  | .hbm, ⟨34, _⟩ => ⟨S1x4x4x8192, .i1⟩
  | .hbm, ⟨35, _⟩ => ⟨S_, .f32⟩
  | .hbm, ⟨36, _⟩ => ⟨S1x4x4x8192, .f32⟩
  | .hbm, ⟨37, _⟩ => ⟨S_, .f32⟩
  | .hbm, ⟨38, _⟩ => ⟨S1x4x4x8192, .f32⟩
  | .hbm, ⟨39, _⟩ => ⟨S_, .f32⟩
  | .hbm, ⟨40, _⟩ => ⟨S1x4x4x8192, .f32⟩
  | .hbm, ⟨41, _⟩ => ⟨S1x4x4x8192, .f32⟩
  | .hbm, ⟨42, _⟩ => ⟨S1x4x4x8192, .f32⟩
  | .hbm, ⟨43, _⟩ => ⟨S1x4x4x8192x1, .f32⟩
  | .hbm, ⟨44, _⟩ => ⟨S1x4x4x8192x8448, .f32⟩
  | .hbm, ⟨45, _⟩ => ⟨S1x4x4x8192x8448, .f32⟩
  | .hbm, ⟨46, _⟩ => ⟨S1x4x4x8192x8448, .f32⟩
  | .hbm, ⟨47, _⟩ => ⟨S_, .f32⟩
  | .hbm, ⟨48, _⟩ => ⟨S1x4x4x8192, .f32⟩
  | .hbm, ⟨49, _⟩ => ⟨S1x4x4x8192x1, .f32⟩
  | .hbm, ⟨50, _⟩ => ⟨S1x4x4x8192x8448, .f32⟩
  | .hbm, ⟨51, _⟩ => ⟨S1x4x4x8192x8448, .f32⟩
  | .hbm, ⟨52, _⟩ => ⟨S1x4x4x8192x1, .f32⟩
  | .hbm, ⟨53, _⟩ => ⟨S_, .f32⟩
  | .hbm, ⟨54, _⟩ => ⟨S1x4x4x8192x1, .f32⟩
  | .hbm, ⟨55, _⟩ => ⟨S1x4x4x8192x1, .f32⟩
  | .hbm, ⟨56, _⟩ => ⟨S1x4x128x4x8192, .f32⟩
  | .hbm, ⟨57, _⟩ => ⟨S1x8192x4x4x128, .f32⟩
  | .hbm, ⟨58, _⟩ => ⟨S1x8192x16x128, .f32⟩
  | .hbm, ⟨59, _⟩ => ⟨S8192x2048, .f32⟩
  | .hbm, ⟨60, _⟩ => ⟨S8192x2048, .f32⟩
  | .hbm, ⟨61, _⟩ => ⟨S1x8192x16x128, .f32⟩
  | .hbm, ⟨62, _⟩ => ⟨S1x8192x4x4x128, .f32⟩
  | .hbm, ⟨63, _⟩ => ⟨S1x4x128x4x8192, .f32⟩
  | .hbm, ⟨64, _⟩ => ⟨S1x4x4x8192x8448, .f32⟩
  | .hbm, ⟨65, _⟩ => ⟨S1x4x128x8448, .f32⟩
  | .hbm, ⟨66, _⟩ => ⟨S1x8448x4x128, .f32⟩
  | .hbm, ⟨67, _⟩ => ⟨S1x4x4x8192x8448, .f32⟩
  | .hbm, ⟨68, _⟩ => ⟨S1x4x4x8192x8448, .f32⟩
  | .hbm, ⟨69, _⟩ => ⟨S1x4x4x8192x8448, .f32⟩
  | .hbm, ⟨70, _⟩ => ⟨S_, .f32⟩
  | .hbm, ⟨71, _⟩ => ⟨S1x4x4x8192, .f32⟩
  | .hbm, ⟨72, _⟩ => ⟨S1x4x4x8192x1, .f32⟩
  | .hbm, ⟨73, _⟩ => ⟨S1x4x4x8192x1, .f32⟩
  | .hbm, ⟨74, _⟩ => ⟨S1x4x4x8192x8448, .f32⟩
  | .hbm, ⟨75, _⟩ => ⟨S1x4x4x8192x8448, .f32⟩
  | .hbm, ⟨76, _⟩ => ⟨S_, .f32⟩
  | .hbm, ⟨77, _⟩ => ⟨S4x4x8192, .f32⟩
  | .hbm, ⟨78, _⟩ => ⟨S1x4x4x8192, .f32⟩
  | .hbm, ⟨79, _⟩ => ⟨S1x4x4x8192x8448, .f32⟩
  | .hbm, ⟨80, _⟩ => ⟨S1x4x4x8192x8448, .f32⟩
  | .hbm, ⟨81, _⟩ => ⟨S1x4x4x8192x8448, .f32⟩
  | .hbm, ⟨82, _⟩ => ⟨S_, .f32⟩
  | .hbm, ⟨83, _⟩ => ⟨S1x4x4x8192x8448, .f32⟩
  | .hbm, ⟨84, _⟩ => ⟨S1x4x4x8192x8448, .f32⟩
  | .hbm, ⟨85, _⟩ => ⟨S1x4x8448x8192x4, .f32⟩
  | .hbm, ⟨86, _⟩ => ⟨S1x4x8192x4x128, .f32⟩
  | .hbm, ⟨87, _⟩ => ⟨S1x8192x4x4x128, .f32⟩
  | .hbm, ⟨88, _⟩ => ⟨S1x4x8448x128, .f32⟩
  | .hbm, ⟨89, _⟩ => ⟨S1x8448x4x128, .f32⟩
  | .hbm, ⟨90, _⟩ => ⟨S1x8192x16x128, .f32⟩
  | .hbm, ⟨91, _⟩ => ⟨S8448x512, .f32⟩
  | .hbm, ⟨92, _⟩ => ⟨S8448x512, .f32⟩
  | .hbm, ⟨93, _⟩ => ⟨S_, .f32⟩
  | .hbm, ⟨94, _⟩ => ⟨S1x8448x16x128, .f32⟩
  | .hbm, ⟨95, _⟩ => ⟨S8448x2048, .f32⟩
  | .hbm, ⟨96, _⟩ => ⟨S2048x8448, .f32⟩
  | .hbm, ⟨97, _⟩ => ⟨S2048x8448, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_13 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Mla.lean ====
abbrev S16x8448x192 : Shape := ⟨3, ![16, 8448, 192]⟩
abbrev S8448x2048 : Shape := ⟨2, ![8448, 2048]⟩
abbrev S8448x16x192 : Shape := ⟨3, ![8448, 16, 192]⟩
abbrev S1x8448x16x192 : Shape := ⟨4, ![1, 8448, 16, 192]⟩
abbrev S1x8192x16x192 : Shape := ⟨4, ![1, 8192, 16, 192]⟩
abbrev S1x8448x16x128 : Shape := ⟨4, ![1, 8448, 16, 128]⟩
abbrev S_ : Shape := ⟨0, ![]⟩
abbrev S1x8192x16x1x192 : Shape := ⟨5, ![1, 8192, 16, 1, 192]⟩
abbrev S1x16x8448x8192x1 : Shape := ⟨5, ![1, 16, 8448, 8192, 1]⟩
abbrev S1x16x1x8192x8448 : Shape := ⟨5, ![1, 16, 1, 8192, 8448]⟩
abbrev S1x16x1x8192 : Shape := ⟨4, ![1, 16, 1, 8192]⟩
abbrev S1x16x1x8192x1 : Shape := ⟨5, ![1, 16, 1, 8192, 1]⟩
abbrev S1x16x128x1x8192 : Shape := ⟨5, ![1, 16, 128, 1, 8192]⟩
abbrev S1x16x1x128x8192 : Shape := ⟨5, ![1, 16, 1, 128, 8192]⟩
abbrev S2048x8192 : Shape := ⟨2, ![2048, 8192]⟩
abbrev S16x1x8192 : Shape := ⟨3, ![16, 1, 8192]⟩
abbrev S2048x8448 : Shape := ⟨2, ![2048, 8448]⟩
abbrev S16x1x8448 : Shape := ⟨3, ![16, 1, 8448]⟩
abbrev S16x192x8448 : Shape := ⟨3, ![16, 192, 8448]⟩
abbrev S1x192x1024 : Shape := ⟨3, ![1, 192, 1024]⟩
abbrev S1x1024x192 : Shape := ⟨3, ![1, 1024, 192]⟩
abbrev S1x768x192 : Shape := ⟨3, ![1, 768, 192]⟩
abbrev S1x192x768 : Shape := ⟨3, ![1, 192, 768]⟩
abbrev S768x128 : Shape := ⟨2, ![768, 128]⟩
abbrev S128x1024 : Shape := ⟨2, ![128, 1024]⟩
abbrev S1024x128 : Shape := ⟨2, ![1024, 128]⟩
abbrev S1x1x1024 : Shape := ⟨3, ![1, 1, 1024]⟩
abbrev S1x8448x192 : Shape := ⟨3, ![1, 8448, 192]⟩
abbrev S8448x128 : Shape := ⟨2, ![8448, 128]⟩
abbrev S192x1024 : Shape := ⟨2, ![192, 1024]⟩
abbrev S1x1024 : Shape := ⟨2, ![1, 1024]⟩
abbrev S8448x192 : Shape := ⟨2, ![8448, 192]⟩
abbrev S1024 : Shape := ⟨1, ![1024]⟩
abbrev S768x192 : Shape := ⟨2, ![768, 192]⟩
abbrev S768x1024 : Shape := ⟨2, ![768, 1024]⟩
abbrev S1024x192 : Shape := ⟨2, ![1024, 192]⟩
abbrev S192x768 : Shape := ⟨2, ![192, 768]⟩

abbrev nBuf : Space → Nat
  | .hbm => 50
  | .vmem => 26
  | .smem => 0
  | _ => 0

abbrev bufTy : (tb : Table) → Fin (tcTables nBuf tb) → BufTy
  | .hbm, ⟨0, _⟩ => ⟨S16x8448x192, .bf16⟩
  | .hbm, ⟨1, _⟩ => ⟨S16x8448x192, .bf16⟩
  | .hbm, ⟨2, _⟩ => ⟨S8448x2048, .bf16⟩
  | .hbm, ⟨3, _⟩ => ⟨S8448x2048, .bf16⟩
  | .hbm, ⟨4, _⟩ => ⟨S16x8448x192, .f32⟩
  | .hbm, ⟨5, _⟩ => ⟨S8448x16x192, .f32⟩
  | .hbm, ⟨6, _⟩ => ⟨S1x8448x16x192, .f32⟩
  | .hbm, ⟨7, _⟩ => ⟨S1x8192x16x192, .f32⟩
  | .hbm, ⟨8, _⟩ => ⟨S16x8448x192, .f32⟩
  | .hbm, ⟨9, _⟩ => ⟨S8448x16x192, .f32⟩
  | .hbm, ⟨10, _⟩ => ⟨S1x8448x16x192, .f32⟩
  | .hbm, ⟨11, _⟩ => ⟨S8448x2048, .f32⟩
  | .hbm, ⟨12, _⟩ => ⟨S1x8448x16x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x8192x16x1x192, .f32⟩
  | .hbm, ⟨18, _⟩ => ⟨S1x16x8448x8192x1, .f32⟩
  | .hbm, ⟨19, _⟩ => ⟨S1x16x1x8192x8448, .f32⟩
  | .hbm, ⟨20, _⟩ => ⟨S1x16x1x8192x8448, .f32⟩
  | .hbm, ⟨21, _⟩ => ⟨S1x16x1x8192x8448, .f32⟩
  | .hbm, ⟨22, _⟩ => ⟨S_, .f32⟩
  | .hbm, ⟨23, _⟩ => ⟨S1x16x1x8192, .f32⟩
  | .hbm, ⟨24, _⟩ => ⟨S1x16x1x8192x1, .f32⟩
  | .hbm, ⟨25, _⟩ => ⟨S1x16x1x8192x8448, .f32⟩
  | .hbm, ⟨26, _⟩ => ⟨S1x16x1x8192x8448, .f32⟩
  | .hbm, ⟨27, _⟩ => ⟨S1x16x1x8192x8448, .f32⟩
  | .hbm, ⟨28, _⟩ => ⟨S_, .f32⟩
  | .hbm, ⟨29, _⟩ => ⟨S1x16x1x8192, .f32⟩
  | .hbm, ⟨30, _⟩ => ⟨S1x16x1x8192x1, .f32⟩
  | .hbm, ⟨31, _⟩ => ⟨S1x16x1x8192x8448, .f32⟩
  | .hbm, ⟨32, _⟩ => ⟨S1x16x1x8192x8448, .f32⟩
  | .hbm, ⟨33, _⟩ => ⟨S1x16x128x1x8192, .f32⟩
  | .hbm, ⟨34, _⟩ => ⟨S1x16x1x128x8192, .f32⟩
  | .hbm, ⟨35, _⟩ => ⟨S2048x8192, .f32⟩
  | .hbm, ⟨36, _⟩ => ⟨S1x16x1x8192x1, .f32⟩
  | .hbm, ⟨37, _⟩ => ⟨S1x16x1x8192x1, .f32⟩
  | .hbm, ⟨38, _⟩ => ⟨S16x1x8192, .f32⟩
  | .hbm, ⟨39, _⟩ => ⟨S_, .f32⟩
  | .hbm, ⟨40, _⟩ => ⟨S2048x8448, .f32⟩
  | .hbm, ⟨41, _⟩ => ⟨S2048x8448, .bf16⟩
  | .hbm, ⟨42, _⟩ => ⟨S_, .f32⟩
  | .hbm, ⟨43, _⟩ => ⟨S16x1x8448, .f32⟩
  | .hbm, ⟨44, _⟩ => ⟨S16x192x8448, .bf16⟩
  | .hbm, ⟨45, _⟩ => ⟨S16x192x8448, .bf16⟩
  | .hbm, ⟨46, _⟩ => ⟨S2048x8448, .bf16⟩
  | .hbm, ⟨47, _⟩ => ⟨S16x192x8448, .bf16⟩
  | .hbm, ⟨48, _⟩ => ⟨S16x8448x192, .f32⟩
  | .hbm, ⟨49, _⟩ => ⟨S8448x2048, .f32⟩
  | .local _ .vmem, ⟨0, _⟩ => ⟨S1x192x1024, .bf16⟩
  | .local _ .vmem, ⟨1, _⟩ => ⟨S1x192x1024, .bf16⟩
  | .local _ .vmem, ⟨2, _⟩ => ⟨S1x1024x192, .bf16⟩
  | .local _ .vmem, ⟨3, _⟩ => ⟨S1x1024x192, .bf16⟩
  | .local _ .vmem, ⟨4, _⟩ => ⟨S1x768x192, .bf16⟩
  | .local _ .vmem, ⟨5, _⟩ => ⟨S1x768x192, .bf16⟩
  | .local _ .vmem, ⟨6, _⟩ => ⟨S1x192x768, .bf16⟩
  | .local _ .vmem, ⟨7, _⟩ => ⟨S1x192x768, .bf16⟩
  | .local _ .vmem, ⟨8, _⟩ => ⟨S768x128, .bf16⟩
  | .local _ .vmem, ⟨9, _⟩ => ⟨S768x128, .bf16⟩
  | .local _ .vmem, ⟨10, _⟩ => ⟨S128x1024, .bf16⟩
  | .local _ .vmem, ⟨11, _⟩ => ⟨S128x1024, .bf16⟩
  | .local _ .vmem, ⟨12, _⟩ => ⟨S1024x128, .bf16⟩
  | .local _ .vmem, ⟨13, _⟩ => ⟨S1024x128, .bf16⟩
  | .local _ .vmem, ⟨14, _⟩ => ⟨S128x1024, .bf16⟩
  | .local _ .vmem, ⟨15, _⟩ => ⟨S128x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x192x1024, .bf16⟩
  | .local _ .vmem, ⟨19, _⟩ => ⟨S1x192x1024, .bf16⟩
  | .local _ .vmem, ⟨20, _⟩ => ⟨S1x8448x192, .f32⟩
  | .local _ .vmem, ⟨21, _⟩ => ⟨S1x8448x192, .f32⟩
  | .local _ .vmem, ⟨22, _⟩ => ⟨S8448x128, .f32⟩
  | .local _ .vmem, ⟨23, _⟩ => ⟨S8448x128, .f32⟩
  | .local _ .vmem, ⟨24, _⟩ => ⟨S192x1024, .f32⟩
  | .local _ .vmem, ⟨25, _⟩ => ⟨S1x1024, .f32⟩
  | _, _ => ⟨S16x8448x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev main_v37_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨4, ![16, 1, 8, 11], ![false, false, false, false]⟩

def k0_mult1 (i : grid0.Coords) : BitVec 32 :=
  let arg3 : BitVec 32 := BitVec.ofNat 32 (i 3).val
  let c768_i32 : BitVec 32 := 768#32
  let v26 : BitVec 32 := Scalar.muli arg3 c768_i32
  v26
def k0_off1 (i : grid0.Coords) : Fin 2 → Nat :=
  let arg3 : BitVec 32 := BitVec.ofNat 32 (i 3).val
  let c768_i32 : BitVec 32 := 768#32
  let v26 : BitVec 32 := Scalar.muli arg3 c768_i32
  let v27 : BitVec 32 := v26
  let v28 : Index := Scalar.indexCast v27
  let c0_17 : Index := 0#32
  ![v28.toNat, 0]
def k0_off2 (i : grid0.Coords) : Fin 3 → Nat :=
  let c0_28 : Index := 0#32
  let arg3 : BitVec 32 := BitVec.ofNat 32 (i 3).val
  let c768_i32 : BitVec 32 := 768#32
  let v26 : BitVec 32 := Scalar.muli arg3 c768_i32
  let v27 : BitVec 32 := v26
  let v46 : Index := Scalar.indexCast v27
  let c0_29 : Index := 0#32
  ![0, v46.toNat, 0]
def k0_cond3 (i : grid0.Coords) : BitVec 1 :=
  let arg3 : BitVec 32 := BitVec.ofNat 32 (i 3).val
  let c10_i32 : BitVec 32 := 10#32
  let v65 : BitVec 1 := Scalar.cmpi .eq arg3 c10_i32
  let v66 : BitVec 32 := Scalar.extui v65
  let c0_i32_44 : BitVec 32 := 0#32
  let v67 : BitVec 1 := Scalar.cmpi .ne v66 c0_i32_44
  v67

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  let c0_i32_1 : BitVec 32 := 0#32
  ![v1.toNat, c0_i32_0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  let c0_i32_1 : BitVec 32 := 0#32
  ![v1.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  let c0_i32_1 : BitVec 32 := 0#32
  ![arg0.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg3
  let c0_i32_0 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let v0 : BitVec 32 := Scalar.addi c0_i32 arg2
  let c1_i32 : BitVec 32 := 1#32
  let v1 : BitVec 32 := Scalar.muli arg0 c1_i32
  let v2 : BitVec 32 := Scalar.addi v1 arg1
  let c0_i32_0 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  ![v1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  let c0_i32_1 : BitVec 32 := 0#32
  ![v1.toNat, c0_i32_0.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  let v2 : BitVec 32 := Scalar.addi c0_i32 arg2
  let c0_i32_0 : BitVec 32 := 0#32
  let c0_i32_1 : BitVec 32 := 0#32
  ![v1.toNat, c0_i32_0.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg0.toNat]

abbrev stage0_0 : Fin 2 → Memref sig .tc .vmem S1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x1024x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x768x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S1x192x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true, false]

abbrev stage0_9 : Fin 2 → Memref sig .tc .vmem S1x192x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]

abbrev stage0_10 : Fin 2 → Memref sig .tc .vmem S1x8448x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false, false]

abbrev stage0_11 : Fin 2 → Memref sig .tc .vmem S8448x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false, false]
-- ==== MlaIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== MlaReferenceIdeal.lean ====
abbrev S16x8448x192 : Shape := ⟨3, ![16, 8448, 192]⟩
abbrev S8448x2048 : Shape := ⟨2, ![8448, 2048]⟩
abbrev S8448x16x192 : Shape := ⟨3, ![8448, 16, 192]⟩
abbrev S8192x16x192 : Shape := ⟨3, ![8192, 16, 192]⟩
abbrev S1x8192x16x192 : Shape := ⟨4, ![1, 8192, 16, 192]⟩
abbrev S1x8448x16x192 : Shape := ⟨4, ![1, 8448, 16, 192]⟩
abbrev S1x8448x16x128 : Shape := ⟨4, ![1, 8448, 16, 128]⟩
abbrev S_ : Shape := ⟨0, ![]⟩
abbrev S1x8192x16x1x192 : Shape := ⟨5, ![1, 8192, 16, 1, 192]⟩
abbrev S1x16x8448x8192x1 : Shape := ⟨5, ![1, 16, 8448, 8192, 1]⟩
abbrev S1x16x1x8192x8448 : Shape := ⟨5, ![1, 16, 1, 8192, 8448]⟩
abbrev S1x16x1x8192 : Shape := ⟨4, ![1, 16, 1, 8192]⟩
abbrev S1x16x1x8192x1 : Shape := ⟨5, ![1, 16, 1, 8192, 1]⟩
abbrev S1x16x128x1x8192 : Shape := ⟨5, ![1, 16, 128, 1, 8192]⟩
abbrev S1x8192x16x1x128 : Shape := ⟨5, ![1, 8192, 16, 1, 128]⟩
abbrev S1x8192x16x128 : Shape := ⟨4, ![1, 8192, 16, 128]⟩
abbrev S8192x2048 : Shape := ⟨2, ![8192, 2048]⟩
abbrev S1x16x128x8448 : Shape := ⟨4, ![1, 16, 128, 8448]⟩
abbrev S16x8192 : Shape := ⟨2, ![16, 8192]⟩
abbrev S1x16x8192x1x192 : Shape := ⟨5, ![1, 16, 8192, 1, 192]⟩
abbrev S1x16x8448x192 : Shape := ⟨4, ![1, 16, 8448, 192]⟩
abbrev S16x192x8448 : Shape := ⟨3, ![16, 192, 8448]⟩

abbrev nBuf : Space → Nat
  | .hbm => 106
  | .vmem => 0
  | .smem => 0
  | _ => 0

abbrev bufTy : (tb : Table) → Fin (tcTables nBuf tb) → BufTy
  | .hbm, ⟨0, _⟩ => ⟨S16x8448x192, .bf16⟩
  | .hbm, ⟨1, _⟩ => ⟨S16x8448x192, .bf16⟩
  | .hbm, ⟨2, _⟩ => ⟨S8448x2048, .bf16⟩
  | .hbm, ⟨3, _⟩ => ⟨S8448x2048, .bf16⟩
  | .hbm, ⟨4, _⟩ => ⟨S16x8448x192, .f32⟩
  | .hbm, ⟨5, _⟩ => ⟨S16x8448x192, .f32⟩
  | .hbm, ⟨6, _⟩ => ⟨S8448x2048, .f32⟩
  | .hbm, ⟨7, _⟩ => ⟨S8448x2048, .f32⟩
  | .hbm, ⟨8, _⟩ => ⟨S8448x16x192, .f32⟩
  | .hbm, ⟨9, _⟩ => ⟨S8192x16x192, .f32⟩
  | .hbm, ⟨10, _⟩ => ⟨S1x8192x16x192, .f32⟩
  | .hbm, ⟨11, _⟩ => ⟨S8448x16x192, .f32⟩
  | .hbm, ⟨12, _⟩ => ⟨S1x8448x16x192, .f32⟩
  | .hbm, ⟨13, _⟩ => ⟨S1x8448x16x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x8192x16x1x192, .f32⟩
  | .hbm, ⟨19, _⟩ => ⟨S1x16x8448x8192x1, .f32⟩
  | .hbm, ⟨20, _⟩ => ⟨S1x16x1x8192x8448, .f32⟩
  | .hbm, ⟨21, _⟩ => ⟨S1x16x1x8192x8448, .f32⟩
  | .hbm, ⟨22, _⟩ => ⟨S1x16x1x8192x8448, .f32⟩
  | .hbm, ⟨23, _⟩ => ⟨S_, .f32⟩
  | .hbm, ⟨24, _⟩ => ⟨S1x16x1x8192, .f32⟩
  | .hbm, ⟨25, _⟩ => ⟨S1x16x1x8192x1, .f32⟩
  | .hbm, ⟨26, _⟩ => ⟨S1x16x1x8192x8448, .f32⟩
  | .hbm, ⟨27, _⟩ => ⟨S1x16x1x8192x8448, .i1⟩
  | .hbm, ⟨28, _⟩ => ⟨S1x16x1x8192x8448, .f32⟩
  | .hbm, ⟨29, _⟩ => ⟨S_, .f32⟩
  | .hbm, ⟨30, _⟩ => ⟨S1x16x1x8192, .f32⟩
  | .hbm, ⟨31, _⟩ => ⟨S_, .f32⟩
  | .hbm, ⟨32, _⟩ => ⟨S1x16x1x8192, .f32⟩
  | .hbm, ⟨33, _⟩ => ⟨S1x16x1x8192, .f32⟩
  | .hbm, ⟨34, _⟩ => ⟨S_, .f32⟩
  | .hbm, ⟨35, _⟩ => ⟨S1x16x1x8192, .f32⟩
  | .hbm, ⟨36, _⟩ => ⟨S1x16x1x8192, .i1⟩
  | .hbm, ⟨37, _⟩ => ⟨S_, .f32⟩
  | .hbm, ⟨38, _⟩ => ⟨S1x16x1x8192, .f32⟩
  | .hbm, ⟨39, _⟩ => ⟨S1x16x1x8192, .i1⟩
  | .hbm, ⟨40, _⟩ => ⟨S_, .f32⟩
  | .hbm, ⟨41, _⟩ => ⟨S1x16x1x8192, .f32⟩
  | .hbm, ⟨42, _⟩ => ⟨S_, .f32⟩
  | .hbm, ⟨43, _⟩ => ⟨S1x16x1x8192, .f32⟩
  | .hbm, ⟨44, _⟩ => ⟨S_, .f32⟩
  | .hbm, ⟨45, _⟩ => ⟨S1x16x1x8192, .f32⟩
  | .hbm, ⟨46, _⟩ => ⟨S1x16x1x8192, .f32⟩
  | .hbm, ⟨47, _⟩ => ⟨S1x16x1x8192, .f32⟩
  | .hbm, ⟨48, _⟩ => ⟨S1x16x1x8192x1, .f32⟩
  | .hbm, ⟨49, _⟩ => ⟨S1x16x1x8192x8448, .f32⟩
  | .hbm, ⟨50, _⟩ => ⟨S1x16x1x8192x8448, .f32⟩
  | .hbm, ⟨51, _⟩ => ⟨S1x16x1x8192x8448, .f32⟩
  | .hbm, ⟨52, _⟩ => ⟨S_, .f32⟩
  | .hbm, ⟨53, _⟩ => ⟨S1x16x1x8192, .f32⟩
  | .hbm, ⟨54, _⟩ => ⟨S1x16x1x8192x1, .f32⟩
  | .hbm, ⟨55, _⟩ => ⟨S1x16x1x8192x8448, .f32⟩
  | .hbm, ⟨56, _⟩ => ⟨S1x16x1x8192x8448, .f32⟩
  | .hbm, ⟨57, _⟩ => ⟨S1x16x1x8192x1, .f32⟩
  | .hbm, ⟨58, _⟩ => ⟨S_, .f32⟩
  | .hbm, ⟨59, _⟩ => ⟨S1x16x1x8192x1, .f32⟩
  | .hbm, ⟨60, _⟩ => ⟨S1x16x1x8192x1, .f32⟩
  | .hbm, ⟨61, _⟩ => ⟨S1x16x128x1x8192, .f32⟩
  | .hbm, ⟨62, _⟩ => ⟨S1x8192x16x1x128, .f32⟩
  | .hbm, ⟨63, _⟩ => ⟨S1x8192x16x128, .f32⟩
  | .hbm, ⟨64, _⟩ => ⟨S8192x2048, .f32⟩
  | .hbm, ⟨65, _⟩ => ⟨S8192x2048, .f32⟩
  | .hbm, ⟨66, _⟩ => ⟨S1x8192x16x128, .f32⟩
  | .hbm, ⟨67, _⟩ => ⟨S1x8192x16x1x128, .f32⟩
  | .hbm, ⟨68, _⟩ => ⟨S1x16x128x1x8192, .f32⟩
  | .hbm, ⟨69, _⟩ => ⟨S1x16x1x8192x8448, .f32⟩
  | .hbm, ⟨70, _⟩ => ⟨S1x16x128x8448, .f32⟩
  | .hbm, ⟨71, _⟩ => ⟨S1x8448x16x128, .f32⟩
  | .hbm, ⟨72, _⟩ => ⟨S1x16x1x8192x8448, .f32⟩
  | .hbm, ⟨73, _⟩ => ⟨S1x16x1x8192x8448, .f32⟩
  | .hbm, ⟨74, _⟩ => ⟨S1x16x1x8192x8448, .f32⟩
  | .hbm, ⟨75, _⟩ => ⟨S_, .f32⟩
  | .hbm, ⟨76, _⟩ => ⟨S1x16x1x8192, .f32⟩
  | .hbm, ⟨77, _⟩ => ⟨S1x16x1x8192x1, .f32⟩
  | .hbm, ⟨78, _⟩ => ⟨S1x16x1x8192x1, .f32⟩
  | .hbm, ⟨79, _⟩ => ⟨S1x16x1x8192x8448, .f32⟩
  | .hbm, ⟨80, _⟩ => ⟨S1x16x1x8192x8448, .f32⟩
  | .hbm, ⟨81, _⟩ => ⟨S_, .f32⟩
  | .hbm, ⟨82, _⟩ => ⟨S16x8192, .f32⟩
  | .hbm, ⟨83, _⟩ => ⟨S1x16x1x8192, .f32⟩
  | .hbm, ⟨84, _⟩ => ⟨S1x16x1x8192x8448, .f32⟩
  | .hbm, ⟨85, _⟩ => ⟨S1x16x1x8192x8448, .f32⟩
  | .hbm, ⟨86, _⟩ => ⟨S1x16x1x8192x8448, .f32⟩
  | .hbm, ⟨87, _⟩ => ⟨S1x16x1x8192x8448, .f32⟩
  | .hbm, ⟨88, _⟩ => ⟨S1x16x1x8192x8448, .f32⟩
  | .hbm, ⟨89, _⟩ => ⟨S1x16x8448x8192x1, .f32⟩
  | .hbm, ⟨90, _⟩ => ⟨S1x16x8192x1x192, .f32⟩
  | .hbm, ⟨91, _⟩ => ⟨S1x8192x16x1x192, .f32⟩
  | .hbm, ⟨92, _⟩ => ⟨S1x16x8448x192, .f32⟩
  | .hbm, ⟨93, _⟩ => ⟨S1x8448x16x192, .f32⟩
  | .hbm, ⟨94, _⟩ => ⟨S1x8192x16x192, .f32⟩
  | .hbm, ⟨95, _⟩ => ⟨S8448x2048, .f32⟩
  | .hbm, ⟨96, _⟩ => ⟨S_, .f32⟩
  | .hbm, ⟨97, _⟩ => ⟨S8448x16x192, .f32⟩
  | .hbm, ⟨98, _⟩ => ⟨S16x8448x192, .f32⟩
  | .hbm, ⟨99, _⟩ => ⟨S_, .f32⟩
  | .hbm, ⟨100, _⟩ => ⟨S8192x16x192, .f32⟩
  | .hbm, ⟨101, _⟩ => ⟨S_, .f32⟩
  | .hbm, ⟨102, _⟩ => ⟨S8448x16x192, .f32⟩
  | .hbm, ⟨103, _⟩ => ⟨S16x8448x192, .f32⟩
  | .hbm, ⟨104, _⟩ => ⟨S16x192x8448, .f32⟩
  | .hbm, ⟨105, _⟩ => ⟨S16x192x8448, .bf16⟩
  | _, _ => ⟨S16x8448x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_cst_15 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== UpDa.lean ====
abbrev S8448x5632 : Shape := ⟨2, ![8448, 5632]⟩
abbrev S2048x5632 : Shape := ⟨2, ![2048, 5632]⟩
abbrev S8448x2048 : Shape := ⟨2, ![8448, 2048]⟩
abbrev S1408x1408 : Shape := ⟨2, ![1408, 1408]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S8448x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaReferenceIdeal.lean ====
abbrev S8448x5632 : Shape := ⟨2, ![8448, 5632]⟩
abbrev S2048x5632 : Shape := ⟨2, ![2048, 5632]⟩
abbrev S_ : Shape := ⟨0, ![]⟩
abbrev S8448x2048 : Shape := ⟨2, ![8448, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S2048x5632, .f32⟩
  | .hbm, ⟨3, _⟩ => ⟨S_, .f32⟩
  | .hbm, ⟨4, _⟩ => ⟨S8448x2048, .f32⟩
  | .hbm, ⟨5, _⟩ => ⟨S8448x5632, .f32⟩
  | .hbm, ⟨6, _⟩ => ⟨S8448x5632, .f32⟩
  | .hbm, ⟨7, _⟩ => ⟨S8448x2048, .f32⟩
  | .hbm, ⟨8, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8448x2048 : Shape := ⟨2, ![8448, 2048]⟩
abbrev S8448x5632 : Shape := ⟨2, ![8448, 5632]⟩
abbrev S2048x8448 : Shape := ⟨2, ![2048, 8448]⟩
abbrev S2048x5632 : Shape := ⟨2, ![2048, 5632]⟩
abbrev S1024x1408 : Shape := ⟨2, ![1024, 1408]⟩
abbrev S1408x1408 : Shape := ⟨2, ![1408, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S2048x8448, .bf16⟩
  | .hbm, ⟨3, _⟩ => ⟨S2048x5632, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8448x2048 : Shape := ⟨2, ![8448, 2048]⟩
abbrev S8448x5632 : Shape := ⟨2, ![8448, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S8448x2048, .f32⟩
  | .hbm, ⟨3, _⟩ => ⟨S_, .f32⟩
  | .hbm, ⟨4, _⟩ => ⟨S2048x5632, .f32⟩
  | .hbm, ⟨5, _⟩ => ⟨S8448x5632, .f32⟩
  | .hbm, ⟨6, _⟩ => ⟨S8448x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDa.lean ====
abbrev S8448x2048 : Shape := ⟨2, ![8448, 2048]⟩
abbrev S5632x2048 : Shape := ⟨2, ![5632, 2048]⟩
abbrev S8448x5632 : Shape := ⟨2, ![8448, 5632]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .bf16⟩
  | .local _ .vmem, ⟨5, _⟩ => ⟨S1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaReferenceIdeal.lean ====
abbrev S8448x2048 : Shape := ⟨2, ![8448, 2048]⟩
abbrev S5632x2048 : Shape := ⟨2, ![5632, 2048]⟩
abbrev S_ : Shape := ⟨0, ![]⟩
abbrev S8448x5632 : Shape := ⟨2, ![8448, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S8448x5632, .f32⟩
  | .hbm, ⟨5, _⟩ => ⟨S8448x2048, .f32⟩
  | .hbm, ⟨6, _⟩ => ⟨S8448x2048, .f32⟩
  | .hbm, ⟨7, _⟩ => ⟨S8448x5632, .f32⟩
  | .hbm, ⟨8, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8448x5632 : Shape := ⟨2, ![8448, 5632]⟩
abbrev S8448x2048 : Shape := ⟨2, ![8448, 2048]⟩
abbrev S5632x8448 : Shape := ⟨2, ![5632, 8448]⟩
abbrev S5632x2048 : Shape := ⟨2, ![5632, 2048]⟩
abbrev S1408x1408 : Shape := ⟨2, ![1408, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S5632x8448, .bf16⟩
  | .hbm, ⟨3, _⟩ => ⟨S5632x2048, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S8448x5632, .f32⟩
  | .hbm, ⟨3, _⟩ => ⟨S_, .f32⟩
  | .hbm, ⟨4, _⟩ => ⟨S5632x2048, .f32⟩
  | .hbm, ⟨5, _⟩ => ⟨S8448x2048, .f32⟩
  | .hbm, ⟨6, _⟩ => ⟨S8448x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8448x2048 : Shape := ⟨2, ![8448, 2048]⟩
abbrev S2048x5632 : Shape := ⟨2, ![2048, 5632]⟩
abbrev S8448x5632 : Shape := ⟨2, ![8448, 5632]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .bf16⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8448x2048 : Shape := ⟨2, ![8448, 2048]⟩
abbrev S2048x5632 : Shape := ⟨2, ![2048, 5632]⟩
abbrev S8448x5632 : Shape := ⟨2, ![8448, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x2048, .f32⟩
  | .hbm, ⟨3, _⟩ => ⟨S2048x5632, .f32⟩
  | .hbm, ⟨4, _⟩ => ⟨S8448x5632, .f32⟩
  | .hbm, ⟨5, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDa.lean ====
abbrev S8448x2048 : Shape := ⟨2, ![8448, 2048]⟩
abbrev S2048x2048 : Shape := ⟨2, ![2048, 2048]⟩
abbrev S768x2048 : Shape := ⟨2, ![768, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .bf16⟩
  | .local _ .vmem, ⟨4, _⟩ => ⟨S768x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaReferenceIdeal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8448x2048 : Shape := ⟨2, ![8448, 2048]⟩
abbrev S2048x8448 : Shape := ⟨2, ![2048, 8448]⟩
abbrev S2048x2048 : Shape := ⟨2, ![2048, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2048x8448, .bf16⟩
  | .hbm, ⟨3, _⟩ => ⟨S2048x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x2048, .f32⟩
  | .hbm, ⟨3, _⟩ => ⟨S_, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S8448 : Shape := ⟨1, ![8448]⟩
abbrev S_ : Shape := ⟨0, ![]⟩
abbrev S8448x1 : Shape := ⟨2, ![8448, 1]⟩
abbrev S768x1408 : Shape := ⟨2, ![768, 1408]⟩
abbrev S1408x1024 : Shape := ⟨2, ![1408, 1024]⟩
abbrev S768x1024 : Shape := ⟨2, ![768, 1024]⟩
abbrev S2x1024 : Shape := ⟨2, ![2, 1024]⟩
abbrev S768x1 : Shape := ⟨2, ![768, 1]⟩
abbrev S1x1024 : Shape := ⟨2, ![1, 1024]⟩

abbrev nBuf : Space → Nat
  | .hbm => 17
  | .vmem => 15
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448, .i32⟩
  | .hbm, ⟨5, _⟩ => ⟨S_, .i32⟩
  | .hbm, ⟨6, _⟩ => ⟨S8448, .i32⟩
  | .hbm, ⟨7, _⟩ => ⟨S8448, .i1⟩
  | .hbm, ⟨8, _⟩ => ⟨S_, .f32⟩
  | .hbm, ⟨9, _⟩ => ⟨S_, .f32⟩
  | .hbm, ⟨10, _⟩ => ⟨S8448, .f32⟩
  | .hbm, ⟨11, _⟩ => ⟨S8448, .f32⟩
  | .hbm, ⟨12, _⟩ => ⟨S8448, .f32⟩
  | .hbm, ⟨13, _⟩ => ⟨S8448, .f32⟩
  | .hbm, ⟨14, _⟩ => ⟨S8448x1, .f32⟩
  | .hbm, ⟨15, _⟩ => ⟨S8448x2048, .f32⟩
  | .hbm, ⟨16, _⟩ => ⟨S8448x2048, .bf16⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S2x1024, .f32⟩
  | .local _ .vmem, ⟨7, _⟩ => ⟨S2x1024, .f32⟩
  | .local _ .vmem, ⟨8, _⟩ => ⟨S768x1, .f32⟩
  | .local _ .vmem, ⟨9, _⟩ => ⟨S768x1, .f32⟩
  | .local _ .vmem, ⟨10, _⟩ => ⟨S768x1024, .f32⟩
  | .local _ .vmem, ⟨11, _⟩ => ⟨S768x1024, .f32⟩
  | .local _ .vmem, ⟨12, _⟩ => ⟨S768x1024, .bf16⟩
  | .local _ .vmem, ⟨13, _⟩ => ⟨S768x1024, .bf16⟩
  | .local _ .vmem, ⟨14, _⟩ => ⟨S768x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownReferenceIdeal.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S1x2048 : Shape := ⟨2, ![1, 2048]⟩
abbrev S8192x2048 : Shape := ⟨2, ![8192, 2048]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S8448x2048, .f32⟩
  | .hbm, ⟨20, _⟩ => ⟨S8448x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Out.lean ====
abbrev S8448x2048 : Shape := ⟨2, ![8448, 2048]⟩
abbrev S2048x2048 : Shape := ⟨2, ![2048, 2048]⟩
abbrev S2x2048 : Shape := ⟨2, ![2, 2048]⟩
abbrev S8448 : Shape := ⟨1, ![8448]⟩
abbrev S_ : Shape := ⟨0, ![]⟩
abbrev S8448x1 : Shape := ⟨2, ![8448, 1]⟩
abbrev S384x2048 : Shape := ⟨2, ![384, 2048]⟩
abbrev S384x1 : Shape := ⟨2, ![384, 1]⟩
abbrev S1x2048 : Shape := ⟨2, ![1, 2048]⟩

abbrev nBuf : Space → Nat
  | .hbm => 17
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S8448, .i32⟩
  | .hbm, ⟨5, _⟩ => ⟨S_, .i32⟩
  | .hbm, ⟨6, _⟩ => ⟨S8448, .i32⟩
  | .hbm, ⟨7, _⟩ => ⟨S8448, .i1⟩
  | .hbm, ⟨8, _⟩ => ⟨S_, .f32⟩
  | .hbm, ⟨9, _⟩ => ⟨S_, .f32⟩
  | .hbm, ⟨10, _⟩ => ⟨S8448, .f32⟩
  | .hbm, ⟨11, _⟩ => ⟨S8448, .f32⟩
  | .hbm, ⟨12, _⟩ => ⟨S8448, .f32⟩
  | .hbm, ⟨13, _⟩ => ⟨S8448, .f32⟩
  | .hbm, ⟨14, _⟩ => ⟨S8448x1, .f32⟩
  | .hbm, ⟨15, _⟩ => ⟨S8448x2048, .f32⟩
  | .hbm, ⟨16, _⟩ => ⟨S8448x2048, .bf16⟩
  | .local _ .vmem, ⟨0, _⟩ => ⟨S384x2048, .bf16⟩
  | .local _ .vmem, ⟨1, _⟩ => ⟨S384x2048, .bf16⟩
  | .local _ .vmem, ⟨2, _⟩ => ⟨S2048x2048, .bf16⟩
  | .local _ .vmem, ⟨3, _⟩ => ⟨S384x2048, .f32⟩
  | .local _ .vmem, ⟨4, _⟩ => ⟨S384x2048, .f32⟩
  | .local _ .vmem, ⟨5, _⟩ => ⟨S2x2048, .f32⟩
  | .local _ .vmem, ⟨6, _⟩ => ⟨S384x1, .f32⟩
  | .local _ .vmem, ⟨7, _⟩ => ⟨S384x1, .f32⟩
  | .local _ .vmem, ⟨8, _⟩ => ⟨S384x2048, .f32⟩
  | .local _ .vmem, ⟨9, _⟩ => ⟨S384x2048, .f32⟩
  | .local _ .vmem, ⟨10, _⟩ => ⟨S384x2048, .bf16⟩
  | .local _ .vmem, ⟨11, _⟩ => ⟨S384x2048, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S384x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutReferenceIdeal.lean ====
abbrev S8448x2048 : Shape := ⟨2, ![8448, 2048]⟩
abbrev S2048x2048 : Shape := ⟨2, ![2048, 2048]⟩
abbrev S2x2048 : Shape := ⟨2, ![2, 2048]⟩
abbrev S1x2048 : Shape := ⟨2, ![1, 2048]⟩
abbrev S8192x2048 : Shape := ⟨2, ![8192, 2048]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S2048x2048, .f32⟩
  | .hbm, ⟨6, _⟩ => ⟨S8448x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S8448x2048, .f32⟩
  | .hbm, ⟨20, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Query.lean ====
abbrev S8448x2048 : Shape := ⟨2, ![8448, 2048]⟩
abbrev S2048x2048 : Shape := ⟨2, ![2048, 2048]⟩
abbrev S384x2048 : Shape := ⟨2, ![384, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .local _ .vmem, ⟨0, _⟩ => ⟨S384x2048, .bf16⟩
  | .local _ .vmem, ⟨1, _⟩ => ⟨S384x2048, .bf16⟩
  | .local _ .vmem, ⟨2, _⟩ => ⟨S2048x2048, .bf16⟩
  | .local _ .vmem, ⟨3, _⟩ => ⟨S384x2048, .f32⟩
  | .local _ .vmem, ⟨4, _⟩ => ⟨S384x2048, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryReferenceIdeal.lean ====
abbrev S8448x2048 : Shape := ⟨2, ![8448, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2048x2048, .f32⟩
  | .hbm, ⟨4, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QueryDa.lean ====
abbrev S8448x2048 : Shape := ⟨2, ![8448, 2048]⟩
abbrev S2048x2048 : Shape := ⟨2, ![2048, 2048]⟩
abbrev S384x2048 : Shape := ⟨2, ![384, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x2048, .bf16⟩
  | .hbm, ⟨2, _⟩ => ⟨S8448x2048, .bf16⟩
  | .local _ .vmem, ⟨0, _⟩ => ⟨S384x2048, .f32⟩
  | .local _ .vmem, ⟨1, _⟩ => ⟨S384x2048, .f32⟩
  | .local _ .vmem, ⟨2, _⟩ => ⟨S2048x2048, .bf16⟩
  | .local _ .vmem, ⟨3, _⟩ => ⟨S384x2048, .bf16⟩
  | .local _ .vmem, ⟨4, _⟩ => ⟨S384x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDaReferenceIdeal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryDw.lean ====
abbrev S8448x2048 : Shape := ⟨2, ![8448, 2048]⟩
abbrev S2048x8448 : Shape := ⟨2, ![2048, 8448]⟩
abbrev S2048x2048 : Shape := ⟨2, ![2048, 2048]⟩
abbrev S2048x1408 : Shape := ⟨2, ![2048, 1408]⟩
abbrev S1408x512 : Shape := ⟨2, ![1408, 512]⟩
abbrev S2048x512 : Shape := ⟨2, ![2048, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .f32⟩
  | .hbm, ⟨2, _⟩ => ⟨S2048x8448, .bf16⟩
  | .hbm, ⟨3, _⟩ => ⟨S2048x2048, .bf16⟩
  | .local _ .vmem, ⟨0, _⟩ => ⟨S2048x1408, .bf16⟩
  | .local _ .vmem, ⟨1, _⟩ => ⟨S2048x1408, .bf16⟩
  | .local _ .vmem, ⟨2, _⟩ => ⟨S1408x512, .f32⟩
  | .local _ .vmem, ⟨3, _⟩ => ⟨S1408x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDwReferenceIdeal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .f32⟩
  | .hbm, ⟨2, _⟩ => ⟨S8448x2048, .f32⟩
  | .hbm, ⟨3, _⟩ => ⟨S_, .f32⟩
  | .hbm, ⟨4, _⟩ => ⟨S2048x2048, .f32⟩
  | .hbm, ⟨5, _⟩ => ⟨S8448x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Key.lean ====
abbrev S8448x2048 : Shape := ⟨2, ![8448, 2048]⟩
abbrev S2048x512 : Shape := ⟨2, ![2048, 512]⟩
abbrev S8448x512 : Shape := ⟨2, ![8448, 512]⟩
abbrev S1408x2048 : Shape := ⟨2, ![1408, 2048]⟩
abbrev S1408x512 : Shape := ⟨2, ![1408, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .bf16⟩
  | .hbm, ⟨1, _⟩ => ⟨S2048x512, .bf16⟩
  | .hbm, ⟨2, _⟩ => ⟨S8448x512, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S1408x512, .f32⟩
  | .local _ .vmem, ⟨4, _⟩ => ⟨S1408x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyReferenceIdeal.lean ====
abbrev S8448x2048 : Shape := ⟨2, ![8448, 2048]⟩
abbrev S2048x512 : Shape := ⟨2, ![2048, 512]⟩
abbrev S8448x512 : Shape := ⟨2, ![8448, 512]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x512, .bf16⟩
  | .hbm, ⟨2, _⟩ => ⟨S8448x2048, .f32⟩
  | .hbm, ⟨3, _⟩ => ⟨S2048x512, .f32⟩
  | .hbm, ⟨4, _⟩ => ⟨S8448x512, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeyDa.lean ====
abbrev S8448x512 : Shape := ⟨2, ![8448, 512]⟩
abbrev S2048x512 : Shape := ⟨2, ![2048, 512]⟩
abbrev S8448x2048 : Shape := ⟨2, ![8448, 2048]⟩
abbrev S768x512 : Shape := ⟨2, ![768, 512]⟩
abbrev S768x2048 : Shape := ⟨2, ![768, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .f32⟩
  | .hbm, ⟨1, _⟩ => ⟨S2048x512, .bf16⟩
  | .hbm, ⟨2, _⟩ => ⟨S8448x2048, .bf16⟩
  | .local _ .vmem, ⟨0, _⟩ => ⟨S768x512, .f32⟩
  | .local _ .vmem, ⟨1, _⟩ => ⟨S768x512, .f32⟩
  | .local _ .vmem, ⟨2, _⟩ => ⟨S2048x512, .bf16⟩
  | .local _ .vmem, ⟨3, _⟩ => ⟨S768x2048, .bf16⟩
  | .local _ .vmem, ⟨4, _⟩ => ⟨S768x2048, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyDaReferenceIdeal.lean ====
abbrev S8448x512 : Shape := ⟨2, ![8448, 512]⟩
abbrev S2048x512 : Shape := ⟨2, ![2048, 512]⟩
abbrev S_ : Shape := ⟨0, ![]⟩
abbrev S8448x2048 : Shape := ⟨2, ![8448, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S2048x512, .bf16⟩
  | .hbm, ⟨2, _⟩ => ⟨S2048x512, .f32⟩
  | .hbm, ⟨3, _⟩ => ⟨S_, .f32⟩
  | .hbm, ⟨4, _⟩ => ⟨S8448x2048, .f32⟩
  | .hbm, ⟨5, _⟩ => ⟨S8448x512, .f32⟩
  | .hbm, ⟨6, _⟩ => ⟨S8448x2048, .f32⟩
  | .hbm, ⟨7, _⟩ => ⟨S8448x2048, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KeyDw.lean ====
abbrev S8448x2048 : Shape := ⟨2, ![8448, 2048]⟩
abbrev S8448x512 : Shape := ⟨2, ![8448, 512]⟩
abbrev S2048x8448 : Shape := ⟨2, ![2048, 8448]⟩
abbrev S2048x512 : Shape := ⟨2, ![2048, 512]⟩
abbrev S2048x1408 : Shape := ⟨2, ![2048, 1408]⟩
abbrev S1408x512 : Shape := ⟨2, ![1408, 512]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8448x512, .f32⟩
  | .hbm, ⟨2, _⟩ => ⟨S2048x8448, .bf16⟩
  | .hbm, ⟨3, _⟩ => ⟨S2048x512, .bf16⟩
  | .local _ .vmem, ⟨0, _⟩ => ⟨S2048x1408, .bf16⟩
  | .local _ .vmem, ⟨1, _⟩ => ⟨S2048x1408, .bf16⟩
  | .local _ .vmem, ⟨2, _⟩ => ⟨S1408x512, .f32⟩
  | .local _ .vmem, ⟨3, _⟩ => ⟨S1408x512, .f32⟩
  | .local _ .vmem, ⟨4, _⟩ => ⟨S2048x512, .bf16⟩
  | .local _ .vmem, ⟨5, _⟩ => ⟨S2048x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KeyDwReferenceIdeal.lean ====
abbrev S8448x2048 : Shape := ⟨2, ![8448, 2048]⟩
abbrev S8448x512 : Shape := ⟨2, ![8448, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x512, .f32⟩
  | .hbm, ⟨2, _⟩ => ⟨S8448x2048, .f32⟩
  | .hbm, ⟨3, _⟩ => ⟨S_, .f32⟩
  | .hbm, ⟨4, _⟩ => ⟨S2048x512, .f32⟩
  | .hbm, ⟨5, _⟩ => ⟨S8448x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Rank.lean ====
abbrev S8448x512 : Shape := ⟨2, ![8448, 512]⟩
abbrev S512x2048 : Shape := ⟨2, ![512, 2048]⟩
abbrev S8448x2048 : Shape := ⟨2, ![8448, 2048]⟩
abbrev S768x512 : Shape := ⟨2, ![768, 512]⟩
abbrev S768x2048 : Shape := ⟨2, ![768, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8448x512, .bf16⟩
  | .hbm, ⟨1, _⟩ => ⟨S512x2048, .bf16⟩
  | .hbm, ⟨2, _⟩ => ⟨S8448x2048, .f32⟩
  | .local _ .vmem, ⟨0, _⟩ => ⟨S768x512, .bf16⟩
  | .local _ .vmem, ⟨1, _⟩ => ⟨S768x512, .bf16⟩
  | .local _ .vmem, ⟨2, _⟩ => ⟨S512x2048, .bf16⟩
  | .local _ .vmem, ⟨3, _⟩ => ⟨S768x2048, .f32⟩
  | .local _ .vmem, ⟨4, _⟩ => ⟨S768x2048, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RankReferenceIdeal.lean ====
abbrev S8448x512 : Shape := ⟨2, ![8448, 512]⟩
abbrev S512x2048 : Shape := ⟨2, ![512, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S512x2048, .bf16⟩
  | .hbm, ⟨2, _⟩ => ⟨S8448x512, .f32⟩
  | .hbm, ⟨3, _⟩ => ⟨S512x2048, .f32⟩
  | .hbm, ⟨4, _⟩ => ⟨S8448x2048, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RankDa.lean ====
abbrev S8448x2048 : Shape := ⟨2, ![8448, 2048]⟩
abbrev S512x2048 : Shape := ⟨2, ![512, 2048]⟩
abbrev S8448x512 : Shape := ⟨2, ![8448, 512]⟩
abbrev S1408x2048 : Shape := ⟨2, ![1408, 2048]⟩
abbrev S1408x512 : Shape := ⟨2, ![1408, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S512x2048, .bf16⟩
  | .hbm, ⟨2, _⟩ => ⟨S8448x512, .bf16⟩
  | .local _ .vmem, ⟨0, _⟩ => ⟨S1408x2048, .f32⟩
  | .local _ .vmem, ⟨1, _⟩ => ⟨S1408x2048, .f32⟩
  | .local _ .vmem, ⟨2, _⟩ => ⟨S512x2048, .bf16⟩
  | .local _ .vmem, ⟨3, _⟩ => ⟨S1408x512, .bf16⟩
  | .local _ .vmem, ⟨4, _⟩ => ⟨S1408x512, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RankDaReferenceIdeal.lean ====
abbrev S8448x2048 : Shape := ⟨2, ![8448, 2048]⟩
abbrev S512x2048 : Shape := ⟨2, ![512, 2048]⟩
abbrev S_ : Shape := ⟨0, ![]⟩
abbrev S8448x512 : Shape := ⟨2, ![8448, 512]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S512x2048, .bf16⟩
  | .hbm, ⟨2, _⟩ => ⟨S512x2048, .f32⟩
  | .hbm, ⟨3, _⟩ => ⟨S_, .f32⟩
  | .hbm, ⟨4, _⟩ => ⟨S8448x512, .f32⟩
  | .hbm, ⟨5, _⟩ => ⟨S8448x2048, .f32⟩
  | .hbm, ⟨6, _⟩ => ⟨S8448x512, .f32⟩
  | .hbm, ⟨7, _⟩ => ⟨S8448x512, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RankDw.lean ====
abbrev S8448x512 : Shape := ⟨2, ![8448, 512]⟩
abbrev S8448x2048 : Shape := ⟨2, ![8448, 2048]⟩
abbrev S512x8448 : Shape := ⟨2, ![512, 8448]⟩
abbrev S512x2048 : Shape := ⟨2, ![512, 2048]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x512, .bf16⟩
  | .hbm, ⟨1, _⟩ => ⟨S8448x2048, .f32⟩
  | .hbm, ⟨2, _⟩ => ⟨S512x8448, .bf16⟩
  | .hbm, ⟨3, _⟩ => ⟨S512x2048, .bf16⟩
  | .local _ .vmem, ⟨0, _⟩ => ⟨S512x1408, .bf16⟩
  | .local _ .vmem, ⟨1, _⟩ => ⟨S512x1408, .bf16⟩
  | .local _ .vmem, ⟨2, _⟩ => ⟨S1408x1024, .f32⟩
  | .local _ .vmem, ⟨3, _⟩ => ⟨S1408x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RankDwReferenceIdeal.lean ====
abbrev S8448x512 : Shape := ⟨2, ![8448, 512]⟩
abbrev S8448x2048 : Shape := ⟨2, ![8448, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x2048, .f32⟩
  | .hbm, ⟨2, _⟩ => ⟨S8448x512, .f32⟩
  | .hbm, ⟨3, _⟩ => ⟨S_, .f32⟩
  | .hbm, ⟨4, _⟩ => ⟨S512x2048, .f32⟩
  | .hbm, ⟨5, _⟩ => ⟨S8448x2048, .f32⟩
  | .hbm, ⟨6, _⟩ => ⟨S2048x512, .f32⟩
  | .hbm, ⟨7, _⟩ => ⟨S512x2048, .f32⟩
  | .hbm, ⟨8, _⟩ => ⟨S512x2048, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamDq.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDqIdeal.lean ====
abbrev S1024x512 : Shape := ⟨2, ![1024, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDqReferenceIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUq.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqIdeal.lean ====
abbrev S1024x768 : Shape := ⟨2, ![1024, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqReferenceIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDkv.lean ====
abbrev S1024x576 : Shape := ⟨2, ![1024, 576]⟩
abbrev S256x576 : Shape := ⟨2, ![256, 576]⟩

abbrev nBuf : Space → Nat
  | .hbm => 7
  | .vmem => 14
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S1024x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDkvIdeal.lean ====
abbrev S1024x576 : Shape := ⟨2, ![1024, 576]⟩
abbrev S256x576 : Shape := ⟨2, ![256, 576]⟩

abbrev nBuf : Space → Nat
  | .hbm => 7
  | .vmem => 14
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S1024x576, .f32⟩
  | .local _ .vmem, ⟨0, _⟩ => ⟨S256x576, .f32⟩
  | .local _ .vmem, ⟨1, _⟩ => ⟨S256x576, .f32⟩
  | .local _ .vmem, ⟨2, _⟩ => ⟨S256x576, .f32⟩
  | .local _ .vmem, ⟨3, _⟩ => ⟨S256x576, .f32⟩
  | .local _ .vmem, ⟨4, _⟩ => ⟨S256x576, .f32⟩
  | .local _ .vmem, ⟨5, _⟩ => ⟨S256x576, .f32⟩
  | .local _ .vmem, ⟨6, _⟩ => ⟨S256x576, .f32⟩
  | .local _ .vmem, ⟨7, _⟩ => ⟨S256x576, .f32⟩
  | .local _ .vmem, ⟨8, _⟩ => ⟨S256x576, .f32⟩
  | .local _ .vmem, ⟨9, _⟩ => ⟨S256x576, .f32⟩
  | .local _ .vmem, ⟨10, _⟩ => ⟨S256x576, .f32⟩
  | .local _ .vmem, ⟨11, _⟩ => ⟨S256x576, .f32⟩
  | .local _ .vmem, ⟨12, _⟩ => ⟨S256x576, .f32⟩
  | .local _ .vmem, ⟨13, _⟩ => ⟨S256x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDkvReferenceIdeal.lean ====
abbrev S1024x576 : Shape := ⟨2, ![1024, 576]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x576, .f32⟩
  | .hbm, ⟨1, _⟩ => ⟨S1024x576, .f32⟩
  | .hbm, ⟨2, _⟩ => ⟨S1024x576, .f32⟩
  | .hbm, ⟨3, _⟩ => ⟨S1024x576, .f32⟩
  | .hbm, ⟨4, _⟩ => ⟨S_, .f32⟩
  | .hbm, ⟨5, _⟩ => ⟨S1024x576, .f32⟩
  | .hbm, ⟨6, _⟩ => ⟨S1024x576, .f32⟩
  | .hbm, ⟨7, _⟩ => ⟨S_, .f32⟩
  | .hbm, ⟨8, _⟩ => ⟨S1024x576, .f32⟩
  | .hbm, ⟨9, _⟩ => ⟨S1024x576, .f32⟩
  | .hbm, ⟨10, _⟩ => ⟨S1024x576, .f32⟩
  | .hbm, ⟨11, _⟩ => ⟨S_, .f32⟩
  | .hbm, ⟨12, _⟩ => ⟨S1024x576, .f32⟩
  | .hbm, ⟨13, _⟩ => ⟨S1024x576, .f32⟩
  | .hbm, ⟨14, _⟩ => ⟨S1024x576, .f32⟩
  | .hbm, ⟨15, _⟩ => ⟨S_, .f32⟩
  | .hbm, ⟨16, _⟩ => ⟨S1024x576, .f32⟩
  | .hbm, ⟨17, _⟩ => ⟨S1024x576, .f32⟩
  | .hbm, ⟨18, _⟩ => ⟨S1024x576, .f32⟩
  | .hbm, ⟨19, _⟩ => ⟨S_, .f32⟩
  | .hbm, ⟨20, _⟩ => ⟨S1024x576, .f32⟩
  | .hbm, ⟨21, _⟩ => ⟨S1024x576, .f32⟩
  | .hbm, ⟨22, _⟩ => ⟨S_, .f32⟩
  | .hbm, ⟨23, _⟩ => ⟨S1024x576, .f32⟩
  | .hbm, ⟨24, _⟩ => ⟨S1024x576, .f32⟩
  | .hbm, ⟨25, _⟩ => ⟨S1024x576, .f32⟩
  | .hbm, ⟨26, _⟩ => ⟨S_, .f32⟩
  | .hbm, ⟨27, _⟩ => ⟨S1024x576, .f32⟩
  | .hbm, ⟨28, _⟩ => ⟨S1024x576, .f32⟩
  | .hbm, ⟨29, _⟩ => ⟨S1024x576, .f32⟩
  | .hbm, ⟨30, _⟩ => ⟨S_, .f32⟩
  | .hbm, ⟨31, _⟩ => ⟨S1024x576, .f32⟩
  | .hbm, ⟨32, _⟩ => ⟨S1024x576, .f32⟩
  | .hbm, ⟨33, _⟩ => ⟨S1024x576, .f32⟩
  | .hbm, ⟨34, _⟩ => ⟨S_, .f32⟩
  | .hbm, ⟨35, _⟩ => ⟨S1024x576, .f32⟩
  | .hbm, ⟨36, _⟩ => ⟨S1024x576, .f32⟩
  | _, _ => ⟨S1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUkv.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvIdeal.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareIdeal.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSquareReferenceIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S8192x2816 : Shape := ⟨2, ![8192, 2816]⟩
abbrev S64x2816 : Shape := ⟨2, ![64, 2816]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S8192x2816 : Shape := ⟨2, ![8192, 2816]⟩
abbrev S64x2816 : Shape := ⟨2, ![64, 2816]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpReferenceIdeal.lean ====
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownReferenceIdeal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S8192x3072 : Shape := ⟨2, ![8192, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamModReferenceIdeal.lean ====
abbrev S8192x3072 : Shape := ⟨2, ![8192, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S112x1024 : Shape := ⟨2, ![112, 1024]⟩
abbrev S16x1024 : Shape := ⟨2, ![16, 1024]⟩

abbrev nBuf : Space → Nat
  | .hbm => 7
  | .vmem => 14
  | .smem => 0
  | _ => 0

abbrev bufTy : (tb : Table) → Fin (tcTables nBuf tb) → BufTy
  | .hbm, ⟨0, _⟩ => ⟨S112x1024, .f32⟩
  | .hbm, ⟨1, _⟩ => ⟨S112x1024, .f32⟩
  | .hbm, ⟨2, _⟩ => ⟨S112x1024, .f32⟩
  | .hbm, ⟨3, _⟩ => ⟨S112x1024, .f32⟩
  | .hbm, ⟨4, _⟩ => ⟨S112x1024, .f32⟩
  | .hbm, ⟨5, _⟩ => ⟨S112x1024, .f32⟩
  | .hbm, ⟨6, _⟩ => ⟨S112x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | _, _ => ⟨S112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S112x1024 : Shape := ⟨2, ![112, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S112x1024, .f32⟩
  | .hbm, ⟨1, _⟩ => ⟨S112x1024, .f32⟩
  | .hbm, ⟨2, _⟩ => ⟨S112x1024, .f32⟩
  | .hbm, ⟨3, _⟩ => ⟨S112x1024, .f32⟩
  | .hbm, ⟨4, _⟩ => ⟨S_, .f32⟩
  | .hbm, ⟨5, _⟩ => ⟨S112x1024, .f32⟩
  | .hbm, ⟨6, _⟩ => ⟨S112x1024, .f32⟩
  | .hbm, ⟨7, _⟩ => ⟨S_, .f32⟩
  | .hbm, ⟨8, _⟩ => ⟨S112x1024, .f32⟩
  | .hbm, ⟨9, _⟩ => ⟨S112x1024, .f32⟩
  | .hbm, ⟨10, _⟩ => ⟨S112x1024, .f32⟩
  | .hbm, ⟨11, _⟩ => ⟨S_, .f32⟩
  | .hbm, ⟨12, _⟩ => ⟨S112x1024, .f32⟩
  | .hbm, ⟨13, _⟩ => ⟨S112x1024, .f32⟩
  | .hbm, ⟨14, _⟩ => ⟨S112x1024, .f32⟩
  | .hbm, ⟨15, _⟩ => ⟨S_, .f32⟩
  | .hbm, ⟨16, _⟩ => ⟨S112x1024, .f32⟩
  | .hbm, ⟨17, _⟩ => ⟨S112x1024, .f32⟩
  | .hbm, ⟨18, _⟩ => ⟨S112x1024, .f32⟩
  | .hbm, ⟨19, _⟩ => ⟨S_, .f32⟩
  | .hbm, ⟨20, _⟩ => ⟨S112x1024, .f32⟩
  | .hbm, ⟨21, _⟩ => ⟨S112x1024, .f32⟩
  | .hbm, ⟨22, _⟩ => ⟨S_, .f32⟩
  | .hbm, ⟨23, _⟩ => ⟨S112x1024, .f32⟩
  | .hbm, ⟨24, _⟩ => ⟨S112x1024, .f32⟩
  | .hbm, ⟨25, _⟩ => ⟨S112x1024, .f32⟩
  | .hbm, ⟨26, _⟩ => ⟨S_, .f32⟩
  | .hbm, ⟨27, _⟩ => ⟨S112x1024, .f32⟩
  | .hbm, ⟨28, _⟩ => ⟨S112x1024, .f32⟩
  | .hbm, ⟨29, _⟩ => ⟨S112x1024, .f32⟩
  | .hbm, ⟨30, _⟩ => ⟨S_, .f32⟩
  | .hbm, ⟨31, _⟩ => ⟨S112x1024, .f32⟩
  | .hbm, ⟨32, _⟩ => ⟨S112x1024, .f32⟩
  | .hbm, ⟨33, _⟩ => ⟨S112x1024, .f32⟩
  | .hbm, ⟨34, _⟩ => ⟨S_, .f32⟩
  | .hbm, ⟨35, _⟩ => ⟨S112x1024, .f32⟩
  | .hbm, ⟨36, _⟩ => ⟨S112x1024, .f32⟩
  | _, _ => ⟨S112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModDw.lean ====
abbrev S16x2048 : Shape := ⟨2, ![16, 2048]⟩
abbrev S16x3072 : Shape := ⟨2, ![16, 3072]⟩
abbrev S2048x3072 : Shape := ⟨2, ![2048, 3072]⟩
abbrev S16x1024 : Shape := ⟨2, ![16, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S2048x3072, .f32⟩
  | .local _ .vmem, ⟨0, _⟩ => ⟨S16x2048, .f32⟩
  | .local _ .vmem, ⟨1, _⟩ => ⟨S16x1024, .f32⟩
  | .local _ .vmem, ⟨2, _⟩ => ⟨S16x1024, .f32⟩
  | .local _ .vmem, ⟨3, _⟩ => ⟨S2048x1024, .f32⟩
  | .local _ .vmem, ⟨4, _⟩ => ⟨S2048x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ModDwReferenceIdeal.lean ====
abbrev S16x2048 : Shape := ⟨2, ![16, 2048]⟩
abbrev S16x3072 : Shape := ⟨2, ![16, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x3072, .f32⟩
  | .hbm, ⟨2, _⟩ => ⟨S_, .f32⟩
  | .hbm, ⟨3, _⟩ => ⟨S2048x3072, .f32⟩
  | .hbm, ⟨4, _⟩ => ⟨S16x3072, .f32⟩
  | .hbm, ⟨5, _⟩ => ⟨S3072x2048, .f32⟩
  | .hbm, ⟨6, _⟩ => ⟨S2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormDx.lean ====
abbrev S8448x2048 : Shape := ⟨2, ![8448, 2048]⟩
abbrev S1x2048 : Shape := ⟨2, ![1, 2048]⟩
abbrev S2x2048 : Shape := ⟨2, ![2, 2048]⟩
abbrev S8448 : Shape := ⟨1, ![8448]⟩
abbrev S_ : Shape := ⟨0, ![]⟩
abbrev S8448x1 : Shape := ⟨2, ![8448, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 21
  | .vmem => 16
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S8448x2048, .bf16⟩
  | .hbm, ⟨3, _⟩ => ⟨S8448x2048, .f32⟩
  | .hbm, ⟨4, _⟩ => ⟨S2x2048, .f32⟩
  | .hbm, ⟨5, _⟩ => ⟨S2x2048, .f32⟩
  | .hbm, ⟨6, _⟩ => ⟨S8448, .i32⟩
  | .hbm, ⟨7, _⟩ => ⟨S_, .i32⟩
  | .hbm, ⟨8, _⟩ => ⟨S8448, .i32⟩
  | .hbm, ⟨9, _⟩ => ⟨S8448, .i1⟩
  | .hbm, ⟨10, _⟩ => ⟨S_, .f32⟩
  | .hbm, ⟨11, _⟩ => ⟨S_, .f32⟩
  | .hbm, ⟨12, _⟩ => ⟨S8448, .f32⟩
  | .hbm, ⟨13, _⟩ => ⟨S8448, .f32⟩
  | .hbm, ⟨14, _⟩ => ⟨S8448, .f32⟩
  | .hbm, ⟨15, _⟩ => ⟨S8448, .f32⟩
  | .hbm, ⟨16, _⟩ => ⟨S8448x1, .f32⟩
  | .hbm, ⟨17, _⟩ => ⟨S8448x2048, .f32⟩
  | .hbm, ⟨18, _⟩ => ⟨S1x2048, .f32⟩
  | .hbm, ⟨19, _⟩ => ⟨S2x2048, .f32⟩
  | .hbm, ⟨20, _⟩ => ⟨S2x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S2x2048, .f32⟩
  | .local _ .vmem, ⟨8, _⟩ => ⟨S2x2048, .f32⟩
  | .local _ .vmem, ⟨9, _⟩ => ⟨S256x1, .f32⟩
  | .local _ .vmem, ⟨10, _⟩ => ⟨S256x1, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S2x2048, .f32⟩
  | .local _ .vmem, ⟨15, _⟩ => ⟨S2x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormDxReferenceIdeal.lean ====
abbrev S8448x2048 : Shape := ⟨2, ![8448, 2048]⟩
abbrev S1x2048 : Shape := ⟨2, ![1, 2048]⟩
abbrev S2x2048 : Shape := ⟨2, ![2, 2048]⟩
abbrev S8448x1 : Shape := ⟨2, ![8448, 1]⟩
abbrev S_ : Shape := ⟨0, ![]⟩
abbrev S8448 : Shape := ⟨1, ![8448]⟩

abbrev nBuf : Space → Nat
  | .hbm => 68
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S8448x2048, .bf16⟩
  | .hbm, ⟨3, _⟩ => ⟨S8448x2048, .f32⟩
  | .hbm, ⟨4, _⟩ => ⟨S2x2048, .f32⟩
  | .hbm, ⟨5, _⟩ => ⟨S2x2048, .f32⟩
  | .hbm, ⟨6, _⟩ => ⟨S8448x1, .i32⟩
  | .hbm, ⟨7, _⟩ => ⟨S_, .i32⟩
  | .hbm, ⟨8, _⟩ => ⟨S8448x1, .i32⟩
  | .hbm, ⟨9, _⟩ => ⟨S8448x1, .i1⟩
  | .hbm, ⟨10, _⟩ => ⟨S1x2048, .f32⟩
  | .hbm, ⟨11, _⟩ => ⟨S1x2048, .f32⟩
  | .hbm, ⟨12, _⟩ => ⟨S8448x2048, .i1⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S1x2048, .f32⟩
  | .hbm, ⟨17, _⟩ => ⟨S1x2048, .f32⟩
  | .hbm, ⟨18, _⟩ => ⟨S8448x2048, .i1⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S_, .f32⟩
  | .hbm, ⟨30, _⟩ => ⟨S8448x1, .f32⟩
  | .hbm, ⟨31, _⟩ => ⟨S8448x1, .f32⟩
  | .hbm, ⟨32, _⟩ => ⟨S8448x1, .f32⟩
  | .hbm, ⟨33, _⟩ => ⟨S8448x1, .f32⟩
  | .hbm, ⟨34, _⟩ => ⟨S_, .f32⟩
  | .hbm, ⟨35, _⟩ => ⟨S8448x1, .f32⟩
  | .hbm, ⟨36, _⟩ => ⟨S8448x1, .f32⟩
  | .hbm, ⟨37, _⟩ => ⟨S8448x2048, .f32⟩
  | .hbm, ⟨38, _⟩ => ⟨S8448x2048, .f32⟩
  | .hbm, ⟨39, _⟩ => ⟨S8448x2048, .f32⟩
  | .hbm, ⟨40, _⟩ => ⟨S8448x2048, .f32⟩
  | .hbm, ⟨41, _⟩ => ⟨S_, .f32⟩
  | .hbm, ⟨42, _⟩ => ⟨S8448x2048, .f32⟩
  | .hbm, ⟨43, _⟩ => ⟨S8448x2048, .f32⟩
  | .hbm, ⟨44, _⟩ => ⟨S8448x2048, .f32⟩
  | .hbm, ⟨45, _⟩ => ⟨S8448x2048, .f32⟩
  | .hbm, ⟨46, _⟩ => ⟨S8448x2048, .f32⟩
  | .hbm, ⟨47, _⟩ => ⟨S8448x2048, .f32⟩
  | .hbm, ⟨48, _⟩ => ⟨S8448x2048, .f32⟩
  | .hbm, ⟨49, _⟩ => ⟨S8448x2048, .f32⟩
  | .hbm, ⟨50, _⟩ => ⟨S8448x2048, .f32⟩
  | .hbm, ⟨51, _⟩ => ⟨S_, .f32⟩
  | .hbm, ⟨52, _⟩ => ⟨S8448, .f32⟩
  | .hbm, ⟨53, _⟩ => ⟨S8448x1, .f32⟩
  | .hbm, ⟨54, _⟩ => ⟨S8448x2048, .f32⟩
  | .hbm, ⟨55, _⟩ => ⟨S8448x2048, .f32⟩
  | .hbm, ⟨56, _⟩ => ⟨S8448x1, .f32⟩
  | .hbm, ⟨57, _⟩ => ⟨S_, .f32⟩
  | .hbm, ⟨58, _⟩ => ⟨S8448x1, .f32⟩
  | .hbm, ⟨59, _⟩ => ⟨S8448x1, .f32⟩
  | .hbm, ⟨60, _⟩ => ⟨S_, .f32⟩
  | .hbm, ⟨61, _⟩ => ⟨S8448, .f32⟩
  | .hbm, ⟨62, _⟩ => ⟨S8448x2048, .f32⟩
  | .hbm, ⟨63, _⟩ => ⟨S8448x2048, .f32⟩
  | .hbm, ⟨64, _⟩ => ⟨S8448x2048, .f32⟩
  | .hbm, ⟨65, _⟩ => ⟨S8448x2048, .f32⟩
  | .hbm, ⟨66, _⟩ => ⟨S8448x2048, .f32⟩
  | .hbm, ⟨67, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.GqaBlocks.lean ====
/-
  The blocks a grid point is given: each element of a window's block is an element of the window's array.
-/
module

public import proofs.«01_k».proof.Proof.Gen.KernelIdeal.Value
public import Idealize.ShloMosaic.Lib.Pointwise

@[expose] public section

set_option maxRecDepth 16384

noncomputable section

namespace Cert.GqaBlocks

open Idealize.ShloMosaic Idealize.ShloMosaic.TcCoe Cert.KernelIdeal Cert.KernelIdeal.Gen

/-! ### Which block each window is on, over the grid: head `t / 88`, key head `t / 352`, queries `t / 11 % 8`, keys `t % 11` -/

theorem idx0 : ∀ t : Fin grid0.N, win0_0.index t 0 = t.val / 88 ∧ win0_0.index t 1 = t.val / 11 % 8 := by decide +kernel
theorem idx1 : ∀ t : Fin grid0.N, win0_1.index t 0 = t.val / 11 % 8 ∧ win0_1.index t 1 = t.val / 88 := by decide +kernel
theorem idx2 : ∀ t : Fin grid0.N, win0_2.index t 0 = t.val % 11 ∧ win0_2.index t 1 = t.val / 352 := by decide +kernel
theorem idx3 : ∀ t : Fin grid0.N, win0_3.index t 0 = t.val / 352 ∧ win0_3.index t 1 = t.val % 11 := by decide +kernel
theorem idx4 : ∀ t : Fin grid0.N, win0_4.index t 0 = t.val % 11 ∧ win0_4.index t 1 = t.val / 352 := by decide +kernel
theorem idx5 : ∀ t : Fin grid0.N, win0_5.index t 0 = t.val / 88 ∧ win0_5.index t 1 = t.val / 11 % 8 := by decide +kernel
theorem idx6 : ∀ t : Fin grid0.N, win0_6.index t 0 = t.val / 11 % 8 ∧ win0_6.index t 1 = t.val / 88 := by decide +kernel
theorem idx7 : ∀ t : Fin grid0.N, win0_7.index t 0 = t.val / 88 ∧ win0_7.index t 1 = t.val / 11 % 8 := by decide +kernel
theorem idx8 : ∀ t : Fin grid0.N, win0_8.index t 0 = t.val / 88 ∧ win0_8.index t 1 = 0 ∧ win0_8.index t 2 = t.val / 11 % 8 := by decide +kernel
theorem idx9 : ∀ t : Fin grid0.N, win0_9.index t 0 = t.val / 88 ∧ win0_9.index t 1 = t.val / 11 % 8 := by decide +kernel
theorem idx10 : ∀ t : Fin grid0.N, win0_10.index t 0 = 0 ∧ win0_10.index t 1 = t.val / 352 := by decide +kernel
theorem idx11 : ∀ t : Fin grid0.N, win0_11.index t 0 = 0 ∧ win0_11.index t 1 = t.val / 352 := by decide +kernel
/-- The rows of the resident gradients a point adds to. -/
theorem off1 : ∀ t : Fin grid0.N, k0_off1 (grid0.coords t) 0 = 768 * (t.val % 11) ∧ k0_off1 (grid0.coords t) 1 = 0 := by decide +kernel

variable (m : (ℓ : Loc nD τ sig) → Buf (Elt Ideal) ℓ) (c : Dev nD)
variable {f : ℕ → ℕ → ℝ}

/-- A matrix read at an index known by its two coordinates' values. -/
theorem at2 {R C : ℕ} {X : (⟨2, ![R, C]⟩ : Shape).Idx → EReal} (hX : ∀ (r : Fin R) (j : Fin C), X (ix2 r j) = ((f r j : ℝ) : EReal))
    (i : (⟨2, ![R, C]⟩ : Shape).Idx) {r j : ℕ} (hr : (i 0).val = r) (hj : (i 1).val = j) : X i = ((f r j : ℝ) : EReal) := by
  subst hr hj
  refine Eq.trans (congrArg X ?_) (hX (i 0) (i 1))
  funext a
  match a with
  | ⟨0, _⟩ => rfl
  | ⟨1, _⟩ => rfl

/-- The same where the matrix is known on the latent queries' columns alone. -/
theorem at2' {R C : ℕ} {X : (⟨2, ![R, C]⟩ : Shape).Idx → EReal}
    (hX : ∀ (r : Fin R) (j : Fin C), j.val < 8192 → X (ix2 r j) = ((f r j : ℝ) : EReal))
    (i : (⟨2, ![R, C]⟩ : Shape).Idx) {r j : ℕ} (hr : (i 0).val = r) (hj : (i 1).val = j) (h : j < 8192) : X i = ((f r j : ℝ) : EReal) := by
  subst hr hj
  refine Eq.trans (congrArg X ?_) (hX (i 0) (i 1) h)
  funext a
  match a with
  | ⟨0, _⟩ => rfl
  | ⟨1, _⟩ => rfl

/-- The same for a stack of rows. -/
theorem at3' {R C : ℕ} {X : (⟨3, ![R, 1, C]⟩ : Shape).Idx → EReal}
    (hX : ∀ (r : Fin R) (j : Fin C), j.val < 8192 → X (ix3 r 0 j) = ((f r j : ℝ) : EReal))
    (i : (⟨3, ![R, 1, C]⟩ : Shape).Idx) {r j : ℕ} (hr : (i 0).val = r) (hj : (i 2).val = j) (h : j < 8192) : X i = ((f r j : ℝ) : EReal) := by
  subst hr hj
  refine Eq.trans (congrArg X ?_) (hX (i 0) (i 2) h)
  funext a
  match a with
  | ⟨0, _⟩ => rfl
  | ⟨1, _⟩ => exact Subsingleton.elim (α := Fin 1) _ _
  | ⟨2, _⟩ => rfl

/-! ### The input blocks, an element at a time -/

theorem blk0 (hX : ∀ (r : Fin 2048) (j : Fin 8448), V m c main_v30 (ix2 r j) = ((f r j : ℝ) : EReal)) (t : Fin cfg0.N)
    (y : Fin 128) (x : Fin 1024) : X0_0 m c t (ix2 y x) = ((f (t.val / 88 * 128 + y) (t.val / 11 % 8 * 1024 + x) : ℝ) : EReal) := by
  unfold X0_0 Pipeline.Window.fill
  rw [dif_pos (moved0_0 t _)]
  unfold iblk
  rw [View.read_apply]
  refine at2 hX _ ?_ ?_
  · exact (win0_0.rect_emb_val t _ 0).trans (congrArg (· * 128 + y.val) (idx0 t).1)
  · exact (win0_0.rect_emb_val t _ 1).trans (congrArg (· * 1024 + x.val) (idx0 t).2)

theorem blk1 (hX : ∀ (r : Fin 8448) (j : Fin 2048), V m c main_arg0 (ix2 r j) = ((f r j : ℝ) : EReal)) (t : Fin cfg0.N)
    (y : Fin 1024) (x : Fin 128) : X0_1 m c t (ix2 y x) = ((f (t.val / 11 % 8 * 1024 + y) (t.val / 88 * 128 + x) : ℝ) : EReal) := by
  unfold X0_1 Pipeline.Window.fill
  rw [dif_pos (moved0_1 t _)]
  unfold iblk
  rw [View.read_apply]
  refine at2 hX _ ?_ ?_
  · exact (win0_1.rect_emb_val t _ 0).trans (congrArg (· * 1024 + y.val) (idx1 t).1)
  · exact (win0_1.rect_emb_val t _ 1).trans (congrArg (· * 128 + x.val) (idx1 t).2)

theorem blk2 (hX : ∀ (r : Fin 8448) (j : Fin 512), V m c main_arg1 (ix2 r j) = ((f r j : ℝ) : EReal)) (t : Fin cfg0.N)
    (y : Fin 768) (x : Fin 128) : iblk m c 2 t (ix2 y x) = ((f (t.val % 11 * 768 + y) (t.val / 352 * 128 + x) : ℝ) : EReal) := by
  unfold iblk
  rw [View.read_apply]
  refine at2 hX _ ?_ ?_
  · exact (win0_2.rect_emb_val t _ 0).trans (congrArg (· * 768 + y.val) (idx2 t).1)
  · exact (win0_2.rect_emb_val t _ 1).trans (congrArg (· * 128 + x.val) (idx2 t).2)

theorem blk3 (hX : ∀ (r : Fin 512) (j : Fin 8448), V m c main_v31 (ix2 r j) = ((f r j : ℝ) : EReal)) (t : Fin cfg0.N)
    (y : Fin 128) (x : Fin 768) : iblk m c 3 t (ix2 y x) = ((f (t.val / 352 * 128 + y) (t.val % 11 * 768 + x) : ℝ) : EReal) := by
  unfold iblk
  rw [View.read_apply]
  refine at2 hX _ ?_ ?_
  · exact (win0_3.rect_emb_val t _ 0).trans (congrArg (· * 128 + y.val) (idx3 t).1)
  · exact (win0_3.rect_emb_val t _ 1).trans (congrArg (· * 768 + x.val) (idx3 t).2)

theorem blk4 (hX : ∀ (r : Fin 8448) (j : Fin 512), V m c main_arg2 (ix2 r j) = ((f r j : ℝ) : EReal)) (t : Fin cfg0.N)
    (y : Fin 768) (x : Fin 128) : iblk m c 4 t (ix2 y x) = ((f (t.val % 11 * 768 + y) (t.val / 352 * 128 + x) : ℝ) : EReal) := by
  unfold iblk
  rw [View.read_apply]
  refine at2 hX _ ?_ ?_
  · exact (win0_4.rect_emb_val t _ 0).trans (congrArg (· * 768 + y.val) (idx4 t).1)
  · exact (win0_4.rect_emb_val t _ 1).trans (congrArg (· * 128 + x.val) (idx4 t).2)

theorem blk5 (hX : ∀ (r : Fin 2048) (j : Fin 8448), V m c main_v32 (ix2 r j) = ((f r j : ℝ) : EReal)) (t : Fin cfg0.N)
    (y : Fin 128) (x : Fin 1024) : X0_5 m c t (ix2 y x) = ((f (t.val / 88 * 128 + y) (t.val / 11 % 8 * 1024 + x) : ℝ) : EReal) := by
  unfold X0_5 Pipeline.Window.fill
  rw [dif_pos (moved0_5 t _)]
  unfold iblk
  rw [View.read_apply]
  refine at2 hX _ ?_ ?_
  · exact (win0_5.rect_emb_val t _ 0).trans (congrArg (· * 128 + y.val) (idx5 t).1)
  · exact (win0_5.rect_emb_val t _ 1).trans (congrArg (· * 1024 + x.val) (idx5 t).2)

theorem blk6 (hX : ∀ (r : Fin 8448) (j : Fin 2048), V m c main_arg3 (ix2 r j) = ((f r j : ℝ) : EReal)) (t : Fin cfg0.N)
    (y : Fin 1024) (x : Fin 128) : X0_6 m c t (ix2 y x) = ((f (t.val / 11 % 8 * 1024 + y) (t.val / 88 * 128 + x) : ℝ) : EReal) := by
  unfold X0_6 Pipeline.Window.fill
  rw [dif_pos (moved0_6 t _)]
  unfold iblk
  rw [View.read_apply]
  refine at2 hX _ ?_ ?_
  · exact (win0_6.rect_emb_val t _ 0).trans (congrArg (· * 1024 + y.val) (idx6 t).1)
  · exact (win0_6.rect_emb_val t _ 1).trans (congrArg (· * 128 + x.val) (idx6 t).2)

theorem blk7 (hX : ∀ (r : Fin 2048) (j : Fin 8448), j.val < 8192 → V m c main_v28 (ix2 r j) = ((f r j : ℝ) : EReal)) (t : Fin cfg0.N)
    (y : Fin 128) (x : Fin 1024) : X0_7 m c t (ix2 y x) = ((f (t.val / 88 * 128 + y) (t.val / 11 % 8 * 1024 + x) : ℝ) : EReal) := by
  unfold X0_7 Pipeline.Window.fill
  rw [dif_pos (moved0_7 t _)]
  unfold iblk
  rw [View.read_apply]
  refine at2' hX _ ?_ ?_ ?_
  · exact (win0_7.rect_emb_val t _ 0).trans (congrArg (· * 128 + y.val) (idx7 t).1)
  · exact (win0_7.rect_emb_val t _ 1).trans (congrArg (· * 1024 + x.val) (idx7 t).2)
  · omega

theorem blk8 (hX : ∀ (r : Fin 16) (j : Fin 8448), j.val < 8192 → V m c main_v29 (ix3 r 0 j) = ((f r j : ℝ) : EReal)) (t : Fin cfg0.N)
    (x : Fin 1024) : X0_8 m c t (ix3 0 0 x) = ((f (t.val / 88) (t.val / 11 % 8 * 1024 + x) : ℝ) : EReal) := by
  unfold X0_8 Pipeline.Window.fill
  rw [dif_pos (moved0_8 t _)]
  unfold iblk
  rw [View.read_apply]
  refine at3' hX _ ?_ ?_ ?_
  · exact (win0_8.rect_emb_val t _ 0).trans ((congrArg (· * 1 + 0) (idx8 t).1).trans (by omega))
  · exact (win0_8.rect_emb_val t _ 2).trans (congrArg (· * 1024 + x.val) (idx8 t).2.2)
  · omega

end Cert.GqaBlocks

end
-- ==== Proof.GqaStep.lean ====
/-
  What one grid point of the call leaves in each buffer it carries — the two resident gradients, the query's gradient and
  the row sums — as the stored values of the body over what the point before left.
-/
module

public import proofs.«01_k».proof.Proof.Gen.KernelIdeal.Value
public import Idealize.ShloMosaic.Lib.VecWindow
public import Idealize.ShloMosaic.Lib.WholeRead

@[expose] public section

set_option maxRecDepth 16384
set_option maxHeartbeats 1000000

noncomputable section

namespace Cert.GqaStep

open Idealize.ShloMosaic Idealize.ShloMosaic.TcCoe Idealize.ShloMosaic.Tactic Cert.KernelIdeal Cert.KernelIdeal.Gen

variable {F : FTy → Type} [FloatOps F] [Named F]
variable (m : (ℓ : Loc nD τ sig) → Buf (Elt F) ℓ) (c : Dev nD)

/-! ### Loads and stores of a whole buffer and of a stretch of rows -/

section Memory
variable {s : Shape} {e : EltTy} (M : Memref sig .tc .vmem s e) (h : M.IsWhole)

/-- A load of the whole of a buffer that holds `X`. -/
theorem rd (X : s.Idx → Elt F e) {off : Fin s.rank → ℕ} (inb : ∀ a, off a + s.size a ≤ s.size a) :
    View.readAt (Elt F) M.view (Rect.unit off s.size inb).toLoadRect (h.unread X) = X :=
  (View.readAt_full _ _ _).trans (h.read_unread X)

/-- A load of a stretch of a buffer that holds `X`. -/
theorem rdw (X : s.Idx → Elt F e) {off size : Fin s.rank → ℕ} (inb : ∀ a, off a + size a ≤ s.size a) :
    View.readAt (Elt F) M.view (Rect.unit off size inb).toLoadRect (h.unread X) = VecWindow.window X off size inb := by
  rw [View.readAt_unit _ _ _ rfl, h.read_unread]

/-- A buffer that held `X` after one store of a stretch of it. -/
theorem wr (X : s.Idx → Elt F e) {off size : Fin s.rank → ℕ} (inb : ∀ a, off a + size a ≤ s.size a)
    (p p' : (Rect.unit off size inb).shape.Idx → Elt F e) (hp : p = p') :
    View.read (Elt F) M.view (M.view.writes (Elt F) (h.unread X) [⟨Rect.unit off size inb, p⟩]) = VecWindow.put X off size p' := by
  subst hp
  rw [View.read_writes_cons_put _ _ _ _ _ rfl, View.writes_nil, h.read_unread]

/-- A load of a stretch of a buffer that was just stored whole. -/
theorem rdw_full (f : M.view.ty.Contents (Elt F)) {off0 : Fin s.rank → ℕ} (inb0 : ∀ a, off0 a + s.size a ≤ s.size a)
    (p : (Rect.unit off0 s.size inb0).shape.Idx → Elt F e) {off size : Fin s.rank → ℕ} (inb : ∀ a, off a + size a ≤ s.size a) :
    View.readAt (Elt F) M.view (Rect.unit off size inb).toLoadRect (M.view.writes (Elt F) f [⟨Rect.unit off0 s.size inb0, p⟩])
      = VecWindow.window (s := s) p off size inb := by
  rw [View.readAt_unit _ _ _ rfl, View.read_writes_full]

/-- A buffer after a store of the whole and then one of a stretch. -/
theorem wr_full (v : View sig .tc .vmem s e) (f : v.ty.Contents (Elt F)) {off0 : Fin s.rank → ℕ} (inb0 : ∀ a, off0 a + s.size a ≤ s.size a)
    (p0 : (Rect.unit off0 s.size inb0).shape.Idx → Elt F e) {off size : Fin s.rank → ℕ} (inb : ∀ a, off a + size a ≤ s.size a)
    (p p' : (Rect.unit off size inb).shape.Idx → Elt F e) (hp : p = p') :
    View.read (Elt F) v (v.writes (Elt F) f [⟨Rect.unit off size inb, p⟩, ⟨Rect.unit off0 s.size inb0, p0⟩])
      = VecWindow.put (s := s) p0 off size p' := by
  subst hp
  rw [View.read_writes_cons_put _ _ _ _ _ rfl, View.read_writes_full]

end Memory

/-- The point before. -/
abbrev prev (t : Fin cfg0.N) := outsAt0 m c (t.val - 1) (Nat.lt_of_le_of_lt (Nat.sub_le _ _) t.isLt)

/-- The recomputed probabilities of a point. -/
abbrev probs (t : Fin cfg0.N) := k0_pay11 (iblk m c 2 t) (X0_0 m c t) (X0_8 m c t)

/-- A point's key gradient over what was there (`acc`), with the row sums `de`. -/
abbrev dkStep (t : Fin cfg0.N) (acc : Vec F S8448x128 .f32) (de : Vec F S1x1024 .f32) : Vec F S8448x128 .f32 :=
  VecWindow.put (s := S8448x128) acc (k0_off1 (grid0.coords t)) S768x128.size
    (k0_pay3 (k0_pay8 (X0_5 m c t)) (probs m c t) (iblk m c 4 t) de
      (VecWindow.window (s := S8448x128) acc (k0_off1 (grid0.coords t)) S768x128.size (k0_off1_inb (grid0.coords t))) (X0_1 m c t))

/-- A point's value gradient over what was there (`acc`). -/
abbrev dvStep (t : Fin cfg0.N) (acc : Vec F S8448x128 .f32) : Vec F S8448x128 .f32 :=
  VecWindow.put (s := S8448x128) acc (k0_off1 (grid0.coords t)) S768x128.size
    (k0_pay1 (k0_pay12 (VecWindow.window (s := S8448x128) acc (k0_off1 (grid0.coords t)) S768x128.size (k0_off1_inb (grid0.coords t))))
      (k0_pay13 (iblk m c 2 t) (X0_0 m c t) (X0_8 m c t)) (X0_6 m c t))

/-- A point's query gradient over what was there (`acc`), with the row sums `de`. -/
abbrev dqStep (t : Fin cfg0.N) (acc : Vec F S128x1024 .f32) (de : Vec F S1x1024 .f32) : Vec F S128x1024 .f32 :=
  k0_pay4 (k0_pay8 (X0_5 m c t)) (probs m c t) (iblk m c 4 t) de acc (iblk m c 3 t)

theorem pay3_congr {a a' b b' c c' d d' e e' f f'} (ha : a = a') (hb : b = b') (hc : c = c') (hd : d = d') (he : e = e') (hf : f = f') :
    k0_pay3 (F := F) a b c d e f = k0_pay3 a' b' c' d' e' f' := by subst ha hb hc hd he hf; rfl
theorem pay4_congr {a a' b b' c c' d d' e e' f f'} (ha : a = a') (hb : b = b') (hc : c = c') (hd : d = d') (he : e = e') (hf : f = f') :
    k0_pay4 (F := F) a b c d e f = k0_pay4 a' b' c' d' e' f' := by subst ha hb hc hd he hf; rfl
theorem pay11_congr {a a' b b' c c'} (ha : a = a') (hb : b = b') (hc : c = c') : k0_pay11 (F := F) a b c = k0_pay11 a' b' c' := by
  subst ha hb hc; rfl
theorem pay13_congr {a a' b b' c c'} (ha : a = a') (hb : b = b') (hc : c = c') : k0_pay13 (F := F) a b c = k0_pay13 a' b' c' := by
  subst ha hb hc; rfl
theorem pay1_congr {a a' b b' c c'} (ha : a = a') (hb : b = b') (hc : c = c') : k0_pay1 (F := F) a b c = k0_pay1 a' b' c' := by
  subst ha hb hc; rfl
theorem pay9_congr {a a' b b'} (ha : a = a') (hb : b = b') : k0_pay9 (F := F) a b = k0_pay9 a' b' := by subst ha hb; rfl

/-! ### A point at a middle block of keys -/

theorem dk_B (t : Fin cfg0.N) (h0 : ¬t.val % 352 = 0) (h1 : ¬t.val % 11 = 0) (h2 : ¬t.val % 11 = 10) :
    (outsAt0 m c t.val t.isLt).2.1 = dkStep m c t (prev m c t).2.1 (prev m c t).2.2.2.2 := by
  rw [outsAt0_B m c t h0 h1 h2]
  dsimp only
  unfold out0_B_10
  unfold kernelRun0_B
  dsimp only
  sl_unfold_words
  refine wr _ _ _ _ _ _ (pay3_congr (congrArg _ (rd _ _ _ _)) (pay11_congr (rd _ _ _ _) (rd _ _ _ _) (rd _ _ _ _)) (rd _ _ _ _) (rd _ _ _ _) (rdw _ _ _ _) (rd _ _ _ _))

theorem dv_B (t : Fin cfg0.N) (h0 : ¬t.val % 352 = 0) (h1 : ¬t.val % 11 = 0) (h2 : ¬t.val % 11 = 10) :
    (outsAt0 m c t.val t.isLt).2.2.1 = dvStep m c t (prev m c t).2.2.1 := by
  rw [outsAt0_B m c t h0 h1 h2]
  dsimp only
  unfold out0_B_11
  unfold kernelRun0_B
  dsimp only
  sl_unfold_words
  refine wr _ _ _ _ _ _ (pay1_congr (congrArg _ (rdw _ _ _ _)) (pay13_congr (rd _ _ _ _) (rd _ _ _ _) (rd _ _ _ _)) (rd _ _ _ _))

theorem dq_B (t : Fin cfg0.N) (h0 : ¬t.val % 352 = 0) (h1 : ¬t.val % 11 = 0) (h2 : ¬t.val % 11 = 10) :
    (outsAt0 m c t.val t.isLt).2.2.2.1 = dqStep m c t (prev m c t).2.2.2.1 (prev m c t).2.2.2.2 := by
  rw [outsAt0_B m c t h0 h1 h2]
  dsimp only
  unfold sout0_B_0
  unfold kernelRun0_B
  dsimp only
  sl_unfold_words
  refine (View.read_writes_full _ _ _ _ _).trans (pay4_congr (congrArg _ (rd _ _ _ _)) (pay11_congr (rd _ _ _ _) (rd _ _ _ _) (rd _ _ _ _)) (rd _ _ _ _) (rd _ _ _ _) (rd _ _ _ _) (rd _ _ _ _))

theorem delta_B (t : Fin cfg0.N) (h0 : ¬t.val % 352 = 0) (h1 : ¬t.val % 11 = 0) (h2 : ¬t.val % 11 = 10) :
    (outsAt0 m c t.val t.isLt).2.2.2.2 = (prev m c t).2.2.2.2 := by
  rw [outsAt0_B m c t h0 h1 h2]
  dsimp only
  unfold sout0_B_1
  rfl

/-! ### A point at the last block of keys -/

theorem dk_C (t : Fin cfg0.N) (h0 : ¬t.val % 352 = 0) (h1 : ¬t.val % 11 = 0) (h2 : t.val % 11 = 10) :
    (outsAt0 m c t.val t.isLt).2.1 = dkStep m c t (prev m c t).2.1 (prev m c t).2.2.2.2 := by
  rw [outsAt0_C m c t h0 h1 h2]
  dsimp only
  unfold out0_C_10
  unfold kernelRun0_C
  dsimp only
  sl_unfold_words
  refine wr _ _ _ _ _ _ (pay3_congr (congrArg _ (rd _ _ _ _)) (pay11_congr (rd _ _ _ _) (rd _ _ _ _) (rd _ _ _ _)) (rd _ _ _ _) (rd _ _ _ _) (rdw _ _ _ _) (rd _ _ _ _))

theorem dv_C (t : Fin cfg0.N) (h0 : ¬t.val % 352 = 0) (h1 : ¬t.val % 11 = 0) (h2 : t.val % 11 = 10) :
    (outsAt0 m c t.val t.isLt).2.2.1 = dvStep m c t (prev m c t).2.2.1 := by
  rw [outsAt0_C m c t h0 h1 h2]
  dsimp only
  unfold out0_C_11
  unfold kernelRun0_C
  dsimp only
  sl_unfold_words
  refine wr _ _ _ _ _ _ (pay1_congr (congrArg _ (rdw _ _ _ _)) (pay13_congr (rd _ _ _ _) (rd _ _ _ _) (rd _ _ _ _)) (rd _ _ _ _))

theorem dq_C (t : Fin cfg0.N) (h0 : ¬t.val % 352 = 0) (h1 : ¬t.val % 11 = 0) (h2 : t.val % 11 = 10) :
    (outsAt0 m c t.val t.isLt).2.2.2.1 = dqStep m c t (prev m c t).2.2.2.1 (prev m c t).2.2.2.2 := by
  rw [outsAt0_C m c t h0 h1 h2]
  dsimp only
  unfold sout0_C_0
  unfold kernelRun0_C
  dsimp only
  sl_unfold_words
  refine (View.read_writes_full _ _ _ _ _).trans (pay4_congr (congrArg _ (rd _ _ _ _)) (pay11_congr (rd _ _ _ _) (rd _ _ _ _) (rd _ _ _ _)) (rd _ _ _ _) (rd _ _ _ _) (rd _ _ _ _) (rd _ _ _ _))

theorem delta_C (t : Fin cfg0.N) (h0 : ¬t.val % 352 = 0) (h1 : ¬t.val % 11 = 0) (h2 : t.val % 11 = 10) :
    (outsAt0 m c t.val t.isLt).2.2.2.2 = (prev m c t).2.2.2.2 := by
  rw [outsAt0_C m c t h0 h1 h2]
  dsimp only
  unfold sout0_C_1
  rfl

/-- At the last block of keys the query's gradient is written out. -/
theorem out_C (t : Fin cfg0.N) (h0 : ¬t.val % 352 = 0) (h1 : ¬t.val % 11 = 0) (h2 : t.val % 11 = 10) :
    (outsAt0 m c t.val t.isLt).1 = k0_pay5 (outsAt0 m c t.val t.isLt).2.2.2.1 := by
  rw [dq_C m c t h0 h1 h2, outsAt0_C m c t h0 h1 h2]
  dsimp only
  unfold out0_C_9
  unfold kernelRun0_C
  dsimp only
  sl_unfold_words
  refine (View.read_writes_full _ _ _ _ _).trans (congrArg _ ((View.readCov_full _ _ _ _ _).trans (pay4_congr (congrArg _ (rd _ _ _ _)) (pay11_congr (rd _ _ _ _) (rd _ _ _ _) (rd _ _ _ _)) (rd _ _ _ _) (rd _ _ _ _) (rd _ _ _ _) (rd _ _ _ _))))

/-! ### The first block of keys of a stretch of queries -/

theorem delta_D (t : Fin cfg0.N) (h0 : ¬t.val % 352 = 0) (h1 : t.val % 11 = 0) (h2 : ¬t.val % 11 = 10) :
    (outsAt0 m c t.val t.isLt).2.2.2.2 = k0_pay9 (X0_5 m c t) (X0_7 m c t) := by
  rw [outsAt0_D m c t h0 h1 h2]
  dsimp only
  unfold sout0_D_1
  unfold kernelRun0_D
  dsimp only
  sl_unfold_words
  refine (View.read_writes_full _ _ _ _ _).trans (pay9_congr (rd _ _ _ _) (rd _ _ _ _))

theorem dq_D (t : Fin cfg0.N) (h0 : ¬t.val % 352 = 0) (h1 : t.val % 11 = 0) (h2 : ¬t.val % 11 = 10) :
    (outsAt0 m c t.val t.isLt).2.2.2.1 = dqStep m c t (k0_pay10 (F := F)) (k0_pay9 (X0_5 m c t) (X0_7 m c t)) := by
  rw [outsAt0_D m c t h0 h1 h2]
  dsimp only
  unfold sout0_D_0
  unfold kernelRun0_D
  dsimp only
  sl_unfold_words
  refine (View.read_writes_full _ _ _ _ _).trans (pay4_congr (congrArg _ (rd _ _ _ _)) (pay11_congr (rd _ _ _ _) (rd _ _ _ _) (rd _ _ _ _)) (rd _ _ _ _) ((View.readCov_full _ _ _ _ _).trans (pay9_congr (rd _ _ _ _) (rd _ _ _ _))) (View.readCov_full _ _ _ _ _) (rd _ _ _ _))

theorem dk_D (t : Fin cfg0.N) (h0 : ¬t.val % 352 = 0) (h1 : t.val % 11 = 0) (h2 : ¬t.val % 11 = 10) :
    (outsAt0 m c t.val t.isLt).2.1 = dkStep m c t (prev m c t).2.1 (k0_pay9 (X0_5 m c t) (X0_7 m c t)) := by
  rw [outsAt0_D m c t h0 h1 h2]
  dsimp only
  unfold out0_D_10
  unfold kernelRun0_D
  dsimp only
  sl_unfold_words
  refine wr _ _ _ _ _ _ (pay3_congr (congrArg _ (rd _ _ _ _)) (pay11_congr (rd _ _ _ _) (rd _ _ _ _) (rd _ _ _ _)) (rd _ _ _ _) ((View.readCov_full _ _ _ _ _).trans (pay9_congr (rd _ _ _ _) (rd _ _ _ _))) (rdw _ _ _ _) (rd _ _ _ _))

theorem dv_D (t : Fin cfg0.N) (h0 : ¬t.val % 352 = 0) (h1 : t.val % 11 = 0) (h2 : ¬t.val % 11 = 10) :
    (outsAt0 m c t.val t.isLt).2.2.1 = dvStep m c t (prev m c t).2.2.1 := by
  rw [outsAt0_D m c t h0 h1 h2]
  dsimp only
  unfold out0_D_11
  unfold kernelRun0_D
  dsimp only
  sl_unfold_words
  refine wr _ _ _ _ _ _ (pay1_congr (congrArg _ (rdw _ _ _ _)) (pay13_congr (rd _ _ _ _) (rd _ _ _ _) (rd _ _ _ _)) (rd _ _ _ _))

/-! ### The first point of a head -/

theorem delta_A (t : Fin cfg0.N) (h0 : t.val % 352 = 0) (h1 : t.val % 11 = 0) (h2 : ¬t.val % 11 = 10) :
    (outsAt0 m c t.val t.isLt).2.2.2.2 = k0_pay9 (X0_5 m c t) (X0_7 m c t) := by
  rw [outsAt0_A m c t h0 h1 h2]
  dsimp only
  unfold sout0_A_1
  unfold kernelRun0_A
  dsimp only
  sl_unfold_words
  refine (View.read_writes_full _ _ _ _ _).trans (pay9_congr (rd _ _ _ _) (rd _ _ _ _))

theorem dq_A (t : Fin cfg0.N) (h0 : t.val % 352 = 0) (h1 : t.val % 11 = 0) (h2 : ¬t.val % 11 = 10) :
    (outsAt0 m c t.val t.isLt).2.2.2.1 = dqStep m c t (k0_pay10 (F := F)) (k0_pay9 (X0_5 m c t) (X0_7 m c t)) := by
  rw [outsAt0_A m c t h0 h1 h2]
  dsimp only
  unfold sout0_A_0
  unfold kernelRun0_A
  dsimp only
  sl_unfold_words
  refine (View.read_writes_full _ _ _ _ _).trans (pay4_congr (congrArg _ (rd _ _ _ _)) (pay11_congr (rd _ _ _ _) (rd _ _ _ _) (rd _ _ _ _)) (rd _ _ _ _) ((View.readCov_full _ _ _ _ _).trans (pay9_congr (rd _ _ _ _) (rd _ _ _ _))) (View.readCov_full _ _ _ _ _) (rd _ _ _ _))

theorem dk_A (t : Fin cfg0.N) (h0 : t.val % 352 = 0) (h1 : t.val % 11 = 0) (h2 : ¬t.val % 11 = 10) :
    (outsAt0 m c t.val t.isLt).2.1 = dkStep m c t (k0_pay6 (F := F)) (k0_pay9 (X0_5 m c t) (X0_7 m c t)) := by
  rw [outsAt0_A m c t h0 h1 h2]
  dsimp only
  unfold out0_A_10
  unfold kernelRun0_A
  dsimp only
  sl_unfold_words
  refine wr_full _ _ _ _ _ _ _ (pay3_congr (congrArg _ (rd _ _ _ _)) (pay11_congr (rd _ _ _ _) (rd _ _ _ _) (rd _ _ _ _)) (rd _ _ _ _) ((View.readCov_full _ _ _ _ _).trans (pay9_congr (rd _ _ _ _) (rd _ _ _ _))) (rdw_full _ _ _ _ _) (rd _ _ _ _))

theorem dv_A (t : Fin cfg0.N) (h0 : t.val % 352 = 0) (h1 : t.val % 11 = 0) (h2 : ¬t.val % 11 = 10) :
    (outsAt0 m c t.val t.isLt).2.2.1 = dvStep m c t (k0_pay7 (F := F)) := by
  rw [outsAt0_A m c t h0 h1 h2]
  dsimp only
  unfold out0_A_11
  unfold kernelRun0_A
  dsimp only
  sl_unfold_words
  refine wr_full _ _ _ _ _ _ _ (pay1_congr (congrArg _ (rdw_full _ _ _ _ _)) (pay13_congr (rd _ _ _ _) (rd _ _ _ _) (rd _ _ _ _)) (rd _ _ _ _))

end Cert.GqaStep

end
-- ==== Proof.Sums.lean ====
/-
  Sums of real numbers, as the proof uses them: a sum of extended reals that are all real numbers, and a sum over
  `n * m` consecutive numbers cut into `n` stretches of `m`.
-/
module

public import Idealize.ShloMosaic.PureOps.Ideal
public import Mathlib.Algebra.BigOperators.Intervals

@[expose] public section

noncomputable section

namespace Cert.Sums

open scoped BigOperators
open Finset (range)

/-- A finite sum of real numbers is the same number among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over the coordinates of one axis, every summand a real number that depends on the coordinate's value. -/
theorem sum_fin {K : ℕ} {F : Fin K → EReal} {f : ℕ → ℝ} (h : ∀ k : Fin K, F k = ((f k.val : ℝ) : EReal)) :
    ∑ k, F k = ((∑ x ∈ range K, f x : ℝ) : EReal) := by
  rw [Finset.sum_congr rfl fun k _ => h k, coe_sum, Fin.sum_univ_eq_sum_range (fun x => f x) K]

/-- A sum over two axes. -/
theorem sum_fin2 {K L : ℕ} {F : Fin K → Fin L → EReal} {f : ℕ → ℕ → ℝ} (h : ∀ k l, F k l = ((f k.val l.val : ℝ) : EReal)) :
    ∑ k, ∑ l, F k l = ((∑ x ∈ range K, ∑ y ∈ range L, f x y : ℝ) : EReal) :=
  sum_fin fun k => sum_fin fun l => h k l

/-- `n * m` consecutive numbers as `n` stretches of `m`. -/
theorem sum_blocks (n m : ℕ) (f : ℕ → ℝ) : ∑ x ∈ range (n * m), f x = ∑ i ∈ range n, ∑ a ∈ range m, f (m * i + a) := by
  induction n with
  | zero => simp
  | succ n ih => rw [Nat.succ_mul, Finset.sum_range_add, ih, Finset.sum_range_succ]; simp [Nat.mul_comm]

end Cert.Sums

end
-- ==== Proof.Softmax.lean ====
/-
  The mathematics of one attention head over the real numbers: the softmax of a row of scores, what the forward pass
  saves of it, and the gradient, in the two spellings that meet in this certificate. The flash form recomputes the
  probabilities from the saved logarithm of the softmax's denominator by a power of two, and takes the row's dot product
  of the output with its cotangent; the textbook form differentiates the quotient `e / l`.
-/
module

public import proofs.«01_k».proof.Proof.Sums
public import Mathlib.Analysis.SpecialFunctions.Pow.Real

@[expose] public section

noncomputable section

namespace Cert.Softmax

open scoped BigOperators
open Finset (range)

/-- The softmax of the row `s` of `n` scores. -/
def prob (n : ℕ) (s : ℕ → ℝ) (b : ℕ) : ℝ := Real.exp (s b) / ∑ x ∈ range n, Real.exp (s x)

/-- The denominator with the number `M` subtracted from every score. -/
def den (n : ℕ) (s : ℕ → ℝ) (M : ℝ) : ℝ := ∑ x ∈ range n, Real.exp (s x - M)

theorem den_pos {n : ℕ} (hn : 0 < n) (s : ℕ → ℝ) (M : ℝ) : 0 < den n s M :=
  Finset.sum_pos (fun _ _ => Real.exp_pos _) ⟨0, Finset.mem_range.mpr hn⟩

/-- The softmax does not depend on what is subtracted from the scores. -/
theorem prob_eq {n : ℕ} (s : ℕ → ℝ) (M : ℝ) (b : ℕ) : Real.exp (s b - M) * (den n s M)⁻¹ = prob n s b := by
  unfold den prob
  simp only [Real.exp_sub]
  rw [← Finset.sum_div]
  have := Real.exp_pos M
  field_simp

/-- The flash form of a probability: a power of two of the scaled score less the saved logarithm. -/
theorem flash_prob {n : ℕ} (hn : 0 < n) (z : ℕ → ℝ) (c M : ℝ) (b : ℕ) :
    (2 : ℝ) ^ (z b * (c * (Real.log 2)⁻¹) - (M + Real.log (den n (fun x => z x * c) M)) * (Real.log 2)⁻¹)
      = prob n (fun x => z x * c) b := by
  have hl : Real.log 2 ≠ 0 := (Real.log_pos (by norm_num)).ne'
  have hd := den_pos hn (fun x => z x * c) M
  rw [Real.rpow_def_of_pos (by norm_num)]
  have : Real.log 2 * (z b * (c * (Real.log 2)⁻¹) - (M + Real.log (den n (fun x => z x * c) M)) * (Real.log 2)⁻¹)
      = (z b * c - M) - Real.log (den n (fun x => z x * c) M) := by field_simp; ring
  rw [this, Real.exp_sub, Real.exp_log hd, div_eq_mul_inv]
  exact prob_eq (fun x => z x * c) M b

/-! ## One head -/

section Head

-- `n` keys, `D` query and key features, `E` value features, the scale `c`; queries `q`, keys `k`, values `v` and the
-- output's cotangent `w`
variable (n D E : ℕ) (c : ℝ) (q k v w : ℕ → ℕ → ℝ)

/-- The unscaled score of query `a` and key `b`. -/
def score (a b : ℕ) : ℝ := ∑ d ∈ range D, k b d * q a d
/-- The probability of key `b` for query `a`. -/
def P (a b : ℕ) : ℝ := prob n (fun x => score D q k a x * c) b
/-- The probability's cotangent. -/
def dP (a b : ℕ) : ℝ := ∑ e ∈ range E, v b e * w a e
/-- The row's mean of the probabilities' cotangents. -/
def delta (a : ℕ) : ℝ := ∑ b ∈ range n, P n D c q k a b * dP E v w a b
/-- The cotangent of the unscaled score. -/
def dS (a b : ℕ) : ℝ := P n D c q k a b * (dP E v w a b - delta n D E c q k v w a) * c
/-- The output. -/
def O (a e : ℕ) : ℝ := ∑ b ∈ range n, v b e * P n D c q k a b
/-- The gradient of the query. -/
def dQ (a d : ℕ) : ℝ := ∑ b ∈ range n, k b d * dS n D E c q k v w a b
/-- A stretch of `A` queries from query `a0` on: its part of the key's gradient. -/
def dK (a0 A b d : ℕ) : ℝ := ∑ x ∈ range A, dS n D E c q k v w (a0 + x) b * q (a0 + x) d
/-- The same for the value's gradient. -/
def dV (a0 A b e : ℕ) : ℝ := ∑ x ∈ range A, P n D c q k (a0 + x) b * w (a0 + x) e

/-- The dot product of the output with its cotangent is the row's mean. -/
theorem delta_eq (a : ℕ) : ∑ e ∈ range E, w a e * O n D c q k v a e = delta n D E c q k v w a := by
  simp only [O, delta, dP, Finset.mul_sum]
  rw [Finset.sum_comm]
  exact Finset.sum_congr rfl fun b _ => Finset.sum_congr rfl fun e _ => by ring

/-- The textbook cotangent of the scaled score, `(dp / l - Σ dp · (1 / l²) · e) · e`, times the scale. -/
theorem dS_eq (hn : 0 < n) (M : ℝ) (a b : ℕ) :
    (dP E v w a b * (den n (fun x => score D q k a x * c) M)⁻¹
        + -(∑ x ∈ range n, dP E v w a x * ((den n (fun x => score D q k a x * c) M) * (den n (fun x => score D q k a x * c) M))⁻¹
            * Real.exp (score D q k a x * c - M)))
      * Real.exp (score D q k a b * c - M) * c = dS n D E c q k v w a b := by
  have hd := (den_pos hn (fun x => score D q k a x * c) M).ne'
  have hs : ∑ x ∈ range n, dP E v w a x * ((den n (fun x => score D q k a x * c) M) * (den n (fun x => score D q k a x * c) M))⁻¹
            * Real.exp (score D q k a x * c - M)
        = delta n D E c q k v w a * (den n (fun x => score D q k a x * c) M)⁻¹ := by
    rw [delta, Finset.sum_mul]
    refine Finset.sum_congr rfl fun x _ => ?_
    rw [P, ← prob_eq _ M]
    generalize den n (fun x => score D q k a x * c) M = l at hd ⊢
    rw [mul_inv]
    ring
  rw [hs, dS, P, ← prob_eq _ M]
  ring

end Head

end Cert.Softmax

end
-- ==== Proof.Numbers.lean ====
/-
  Numbers the two programs share: the scale they multiply scores by, minus infinity, a maximum of finitely many real
  numbers; and the columns of an attention head.
-/
module

public import proofs.«01_k».proof.Proof.Sums

@[expose] public section

noncomputable section

namespace Cert.Numbers

open Idealize.ShloMosaic

/-- The float32 number nearest `1 / √128`, by which both programs multiply the grouped-query scores. -/
abbrev c128 : ℝ := 11863283 / 134217728

theorem ofBits_c128 : Ideal.ofBits .f32 0x3DB504F3#32 = ((c128 : ℝ) : EReal) := by
  simp [Ideal.ofBits, Ideal.ieee, -EReal.coe_mul]; norm_num [c128]

theorem ofBits_bot : Ideal.ofBits .f32 0xFF800000#32 = (⊥ : EReal) := by simp [Ideal.ofBits, Ideal.ieee]

/-- A maximum of real numbers over a set that is not empty is a real number. -/
theorem fold_max {ι : Type*} (s : Finset ι) (hs : s.Nonempty) {F : ι → EReal} {f : ι → ℝ} (h : ∀ x, F x = ((f x : ℝ) : EReal)) :
    ∃ M : ℝ, Finset.fold max (⊥ : EReal) F s = ((M : ℝ) : EReal) := by
  classical
  obtain rfl : F = fun x => ((f x : ℝ) : EReal) := funext h
  suffices ∀ s : Finset ι, s = ∅ ∨ ∃ M : ℝ, Finset.fold max (⊥ : EReal) (fun x => ((f x : ℝ) : EReal)) s = ((M : ℝ) : EReal) from
    (this s).resolve_left hs.ne_empty
  intro s
  induction s using Finset.induction_on with
  | empty => exact Or.inl rfl
  | insert a s ha ih =>
    right
    rw [Finset.fold_insert ha]
    rcases ih with rfl | ⟨M, hM⟩
    · exact ⟨f a, by simp⟩
    · exact ⟨max (f a) M, by rw [hM]; exact (EReal.coe_strictMono.monotone.map_max).symm⟩

/-- A quotient of real numbers. -/
theorem div_coe {x y : ℝ} (h : y ≠ 0) : Ideal.div ((x : ℝ) : EReal) ((y : ℝ) : EReal) = ((x * y⁻¹ : ℝ) : EReal) := by
  rw [Ideal.div_coe h, one_div, EReal.coe_mul]

/-- Query (or output) head `4 h + g` of the grouped-query attention: its 128 columns. -/
abbrev qh (q : ℕ → ℕ → ℝ) (h g : ℕ) : ℕ → ℕ → ℝ := fun a d => q a ((h * 4 + g) * 128 + d)
/-- Key (or value) head `h`: its 128 columns. -/
abbrev kh (k : ℕ → ℕ → ℝ) (h : ℕ) : ℕ → ℕ → ℝ := fun b d => k b (h * 128 + d)

end Cert.Numbers

end
-- ==== Proof.GqaPay.lean ====
/-
  What one grid point of the grouped-query gradient computes, one stored value at a time, over the real numbers: each
  value the body stores, read at an element, when the blocks it was computed from hold real numbers.
-/
module

public import proofs.«01_k».proof.Proof.Gen.KernelIdeal.Skeleton
public import proofs.«01_k».proof.Proof.Softmax
public import proofs.«01_k».proof.Proof.Numbers
public import Idealize.ShloMosaic.Lib.Pointwise

@[expose] public section

set_option maxRecDepth 16384

noncomputable section

namespace Cert.GqaPay

open Idealize.ShloMosaic Cert.KernelIdeal Cert.KernelIdeal.Gen Cert.Sums Cert.Numbers
open scoped BigOperators
open Finset (range)

theorem named_log2e : Named.named (F := Ideal) (φ := .f32) κ "log2e" 0x3FB8AA3B#32 = (((Real.log 2)⁻¹ : ℝ) : EReal) :=
  IdealRules.named_const.ideal_named_scalar _ _ _ _ rfl
theorem named_scale_log2e :
    Named.named (F := Ideal) (φ := .f32) κ "scale_log2e" 0x3E0293EE#32 = ((c128 * (Real.log 2)⁻¹ : ℝ) : EReal) :=
  IdealRules.named_const.ideal_named_scalar _ _ _ _ rfl

variable {kb vb qb wb ob pb db : ℕ → ℕ → ℝ} {ls dl : ℕ → ℝ}

/-- The recomputed probability: a power of two of the scaled score less the saved logarithm. -/
theorem pay11_val (x2 : Vec Ideal S768x128 .bf16) (x0 : Vec Ideal S128x1024 .bf16) (x8 : Vec Ideal S1x1x1024 .f32)
    (h2 : ∀ (y : Fin 768) (d : Fin 128), x2 (ix2 y d) = ((kb y d : ℝ) : EReal))
    (h0 : ∀ (d : Fin 128) (x : Fin 1024), x0 (ix2 d x) = ((qb x d : ℝ) : EReal))
    (h8 : ∀ x : Fin 1024, x8 (ix3 0 0 x) = ((ls x : ℝ) : EReal)) (y : Fin 768) (x : Fin 1024) :
    k0_pay11 x2 x0 x8 (ix2 y x)
      = (((2 : ℝ) ^ ((∑ d ∈ range 128, kb y d * qb x d) * (c128 * (Real.log 2)⁻¹) - ls x * (Real.log 2)⁻¹) : ℝ) : EReal) := by
  pointwise [k0_pay11]
  rw [sum_fin (f := fun d => kb y d * qb x d) fun d => by rw [h2, h0, ← EReal.coe_mul], named_scale_log2e, named_log2e, h8,
    ← EReal.coe_mul, ← EReal.coe_mul, ← EReal.coe_sub]
  exact Ideal.exp2_coe _

/-- The cotangent of the unscaled score. -/
theorem pay2_val (x5 : FVec Ideal S128x1024 .bf16) (p : FVec Ideal S768x1024 .f32) (x4 : Vec Ideal S768x128 .bf16)
    (de : Vec Ideal S1x1024 .f32)
    (h5 : ∀ (e : Fin 128) (x : Fin 1024), x5 (ix2 e x) = ((wb x e : ℝ) : EReal))
    (hp : ∀ (y : Fin 768) (x : Fin 1024), p (ix2 y x) = ((pb x y : ℝ) : EReal))
    (h4 : ∀ (y : Fin 768) (e : Fin 128), x4 (ix2 y e) = ((vb y e : ℝ) : EReal))
    (hd : ∀ x : Fin 1024, de (ix2 0 x) = ((dl x : ℝ) : EReal)) (y : Fin 768) (x : Fin 1024) :
    k0_pay2 x5 p x4 de (ix2 y x) = ((pb x y * ((∑ e ∈ range 128, vb y e * wb x e) - dl x) * c128 : ℝ) : EReal) := by
  pointwise [k0_pay2]
  rw [sum_fin (f := fun e => vb y e * wb x e) fun e => by rw [h4, h5, ← EReal.coe_mul], ofBits_c128, hp, hd,
    ← EReal.coe_sub, ← EReal.coe_mul, ← EReal.coe_mul]

/-- The row's dot product of the saved output with its cotangent. -/
theorem pay9_val (x5 : Vec Ideal S128x1024 .bf16) (x7 : Vec Ideal S128x1024 .bf16)
    (h5 : ∀ (e : Fin 128) (x : Fin 1024), x5 (ix2 e x) = ((wb x e : ℝ) : EReal))
    (h7 : ∀ (e : Fin 128) (x : Fin 1024), x7 (ix2 e x) = ((ob x e : ℝ) : EReal)) (x : Fin 1024) :
    k0_pay9 x5 x7 (ix2 0 x) = ((∑ e ∈ range 128, wb x e * ob x e : ℝ) : EReal) := by
  pointwise [k0_pay9, k0_pay8]
  exact sum_fin (f := fun e => wb x e * ob x e) fun e => by rw [h5, h7, ← EReal.coe_mul]

/-- The value's gradient: what was there, and this stretch of queries' part. -/
theorem pay1_val (acc : FVec Ideal S768x128 .f32) (p : FVec Ideal S768x1024 .bf16) (x6 : Vec Ideal S1024x128 .bf16)
    (ha : ∀ (y : Fin 768) (e : Fin 128), acc (ix2 y e) = ((ob y e : ℝ) : EReal))
    (hp : ∀ (y : Fin 768) (x : Fin 1024), p (ix2 y x) = ((pb x y : ℝ) : EReal))
    (h6 : ∀ (x : Fin 1024) (e : Fin 128), x6 (ix2 x e) = ((wb x e : ℝ) : EReal)) (y : Fin 768) (e : Fin 128) :
    k0_pay1 acc p x6 (ix2 y e) = ((ob y e + ∑ x ∈ range 1024, pb x y * wb x e : ℝ) : EReal) := by
  pointwise [k0_pay1]
  rw [sum_fin (f := fun x => pb x y * wb x e) fun x => by rw [hp, h6, ← EReal.coe_mul], ha, ← EReal.coe_add]

/-- The key's gradient: what was there, and this stretch of queries' part. -/
theorem pay3_val (x5 : FVec Ideal S128x1024 .bf16) (p : FVec Ideal S768x1024 .f32) (x4 : Vec Ideal S768x128 .bf16)
    (de : Vec Ideal S1x1024 .f32) (acc : Vec Ideal S768x128 .f32) (x1 : Vec Ideal S1024x128 .bf16)
    (hs : ∀ (y : Fin 768) (x : Fin 1024), k0_pay2 x5 p x4 de (ix2 y x) = ((db x y : ℝ) : EReal))
    (ha : ∀ (y : Fin 768) (e : Fin 128), acc (ix2 y e) = ((ob y e : ℝ) : EReal))
    (h1 : ∀ (x : Fin 1024) (d : Fin 128), x1 (ix2 x d) = ((qb x d : ℝ) : EReal)) (y : Fin 768) (d : Fin 128) :
    k0_pay3 x5 p x4 de acc x1 (ix2 y d) = ((ob y d + ∑ x ∈ range 1024, db x y * qb x d : ℝ) : EReal) := by
  pointwise [k0_pay3]
  rw [sum_fin (f := fun x => db x y * qb x d) fun x => by rw [hs, h1, ← EReal.coe_mul], ha, ← EReal.coe_add]

/-- The query's gradient: what was there, and this stretch of keys' part. -/
theorem pay4_val (x5 : FVec Ideal S128x1024 .bf16) (p : FVec Ideal S768x1024 .f32) (x4 : Vec Ideal S768x128 .bf16)
    (de : Vec Ideal S1x1024 .f32) (acc : Vec Ideal S128x1024 .f32) (x3 : Vec Ideal S128x768 .bf16)
    (hs : ∀ (y : Fin 768) (x : Fin 1024), k0_pay2 x5 p x4 de (ix2 y x) = ((db x y : ℝ) : EReal))
    (ha : ∀ (d : Fin 128) (x : Fin 1024), acc (ix2 d x) = ((ob x d : ℝ) : EReal))
    (h3 : ∀ (d : Fin 128) (y : Fin 768), x3 (ix2 d y) = ((kb y d : ℝ) : EReal)) (d : Fin 128) (x : Fin 1024) :
    k0_pay4 x5 p x4 de acc x3 (ix2 d x) = ((ob x d + ∑ y ∈ range 768, kb y d * db x y : ℝ) : EReal) := by
  pointwise [k0_pay4]
  rw [sum_fin (f := fun y => kb y d * db x y) fun y => by rw [hs, h3, ← EReal.coe_mul], ha, ← EReal.coe_add]

theorem pay5_eq (x : Vec Ideal S128x1024 .f32) (j : S128x1024.Idx) : k0_pay5 x j = x j := by pointwise [k0_pay5]
theorem pay6_eq (j : S8448x128.Idx) : k0_pay6 (F := Ideal) j = 0 := by pointwise [k0_pay6]
theorem pay7_eq (j : S8448x128.Idx) : k0_pay7 (F := Ideal) j = 0 := by pointwise [k0_pay7]
theorem pay8_eq (x : Vec Ideal S128x1024 .bf16) : k0_pay8 x = x := by funext j; pointwise [k0_pay8]
theorem pay10_eq (j : S128x1024.Idx) : k0_pay10 (F := Ideal) j = 0 := by pointwise [k0_pay10]
theorem pay12_eq (x : Vec Ideal S768x128 .f32) : k0_pay12 x = x := by funext j; pointwise [k0_pay12]
theorem pay13_eq (x2 : Vec Ideal S768x128 .bf16) (x0 : Vec Ideal S128x1024 .bf16) (x8 : Vec Ideal S1x1x1024 .f32) (j : S768x1024.Idx) :
    k0_pay13 x2 x0 x8 j = k0_pay11 x2 x0 x8 j := by pointwise [k0_pay13]

end Cert.GqaPay

end
-- ==== Proof.GqaPoint.lean ====
/-
  What one grid point of the call computes, over the real numbers: the probabilities and the scores' cotangents of one
  block of queries and one block of keys, and what they add to the three gradients.
-/
module

public import proofs.«01_k».proof.Proof.GqaBlocks
public import proofs.«01_k».proof.Proof.GqaStep
public import proofs.«01_k».proof.Proof.GqaPay
public import proofs.«01_k».proof.Proof.Numbers
public import proofs.«01_k».proof.Proof.Softmax

@[expose] public section

set_option maxRecDepth 16384

noncomputable section

namespace Cert.GqaPoint

open Idealize.ShloMosaic Idealize.ShloMosaic.TcCoe Cert.KernelIdeal Cert.KernelIdeal.Gen Cert.Sums Cert.Numbers Cert.Softmax
open Cert.GqaBlocks Cert.GqaStep Cert.GqaPay
open scoped BigOperators
open Finset (range)

variable (m : (ℓ : Loc nD τ sig) → Buf (Elt Ideal) ℓ) (c : Dev nD)

/-- The arrays the call is given, over the real numbers: the queries, keys, values and the output's cotangent, the first
    two and the last also transposed; and, of the latent queries, the saved output and the saved logarithm of the softmax's
    denominator, whatever number `M` was subtracted from the scores. -/
structure Given (q k v w : ℕ → ℕ → ℝ) (M : ℕ → ℕ → ℕ → ℝ) : Prop where
  hqT : ∀ (r : Fin 2048) (j : Fin 8448), V m c main_v30 (ix2 r j) = ((q j r : ℝ) : EReal)
  hq : ∀ (r : Fin 8448) (j : Fin 2048), V m c main_arg0 (ix2 r j) = ((q r j : ℝ) : EReal)
  hk : ∀ (r : Fin 8448) (j : Fin 512), V m c main_arg1 (ix2 r j) = ((k r j : ℝ) : EReal)
  hkT : ∀ (r : Fin 512) (j : Fin 8448), V m c main_v31 (ix2 r j) = ((k j r : ℝ) : EReal)
  hv : ∀ (r : Fin 8448) (j : Fin 512), V m c main_arg2 (ix2 r j) = ((v r j : ℝ) : EReal)
  hwT : ∀ (r : Fin 2048) (j : Fin 8448), V m c main_v32 (ix2 r j) = ((w j r : ℝ) : EReal)
  hw : ∀ (r : Fin 8448) (j : Fin 2048), V m c main_arg3 (ix2 r j) = ((w r j : ℝ) : EReal)
  ho : ∀ (r : Fin 2048) (j : Fin 8448), j.val < 8192 → V m c main_v28 (ix2 r j)
    = ((O 8448 128 c128 (qh q (r / 128 / 4) (r / 128 % 4)) (kh k (r / 128 / 4)) (kh v (r / 128 / 4)) j (r % 128) : ℝ) : EReal)
  hlse : ∀ (r : Fin 16) (j : Fin 8448), j.val < 8192 → V m c main_v29 (ix3 r 0 j)
    = ((M (r / 4) (r % 4) j + Real.log (den 8448 (fun x => score 128 (qh q (r / 4) (r % 4)) (kh k (r / 4)) j x * c128) (M (r / 4) (r % 4) j)) : ℝ) : EReal)

variable {m c} {q k v w : ℕ → ℕ → ℝ} {M : ℕ → ℕ → ℕ → ℝ} (G : Given m c q k v w M) (t : Fin cfg0.N)

/-- Equal arguments of a table of real numbers. -/
theorem tab (f : ℕ → ℕ → ℝ) {a a' b b' : ℕ} (ha : a = a') (hb : b = b') : ((f a b : ℝ) : EReal) = ((f a' b' : ℝ) : EReal) := by
  rw [ha, hb]

/-- The queries of a point's head (and their outputs' cotangent). -/
abbrev qAt (q : ℕ → ℕ → ℝ) (t : ℕ) : ℕ → ℕ → ℝ := qh q (t / 352) (t / 88 % 4)
/-- The keys of a point's head (and the values). -/
abbrev kAt (k : ℕ → ℕ → ℝ) (t : ℕ) : ℕ → ℕ → ℝ := kh k (t / 352)

section
variable (y : Fin 768) (x : Fin 1024) (d : Fin 128)
include G

theorem b0 : X0_0 m c t (ix2 d x) = (((qAt q t) (1024 * (t.val / 11 % 8) + x) d : ℝ) : EReal) :=
  (blk0 m c (f := fun r j => q j r) G.hqT t d x).trans (tab q (by omega) (by omega))
theorem b1 : X0_1 m c t (ix2 x d) = (((qAt q t) (1024 * (t.val / 11 % 8) + x) d : ℝ) : EReal) :=
  (blk1 m c G.hq t x d).trans (tab q (by omega) (by omega))
theorem b2 : iblk m c 2 t (ix2 y d) = (((kAt k t) (768 * (t.val % 11) + y) d : ℝ) : EReal) :=
  (blk2 m c G.hk t y d).trans (tab k (by omega) (by omega))
theorem b3 : iblk m c 3 t (ix2 d y) = (((kAt k t) (768 * (t.val % 11) + y) d : ℝ) : EReal) :=
  (blk3 m c (f := fun r j => k j r) G.hkT t d y).trans (tab k (by omega) (by omega))
theorem b4 : iblk m c 4 t (ix2 y d) = (((kAt v t) (768 * (t.val % 11) + y) d : ℝ) : EReal) :=
  (blk4 m c G.hv t y d).trans (tab v (by omega) (by omega))
theorem b5 : X0_5 m c t (ix2 d x) = (((qAt w t) (1024 * (t.val / 11 % 8) + x) d : ℝ) : EReal) :=
  (blk5 m c (f := fun r j => w j r) G.hwT t d x).trans (tab w (by omega) (by omega))
theorem b6 : X0_6 m c t (ix2 x d) = (((qAt w t) (1024 * (t.val / 11 % 8) + x) d : ℝ) : EReal) :=
  (blk6 m c G.hw t x d).trans (tab w (by omega) (by omega))

theorem b7 : X0_7 m c t (ix2 d x) = ((O 8448 128 c128 (qAt q t) (kAt k t) (kAt v t) (1024 * (t.val / 11 % 8) + x) d : ℝ) : EReal) := by
  refine (blk7 m c (f := fun r j => O 8448 128 c128 (qh q (r / 128 / 4) (r / 128 % 4)) (kh k (r / 128 / 4)) (kh v (r / 128 / 4)) j (r % 128)) G.ho t d x).trans ?_
  have e1 : (t.val / 88 * 128 + d.val) / 128 / 4 = t.val / 352 := by omega
  have e2 : (t.val / 88 * 128 + d.val) / 128 % 4 = t.val / 88 % 4 := by omega
  have e3 : (t.val / 88 * 128 + d.val) % 128 = d := by omega
  have e4 : t.val / 11 % 8 * 1024 + x.val = 1024 * (t.val / 11 % 8) + x := by omega
  dsimp only
  rw [e1, e2, e3, e4]

theorem b8 : X0_8 m c t (ix3 0 0 x) = ((M (t.val / 352) (t.val / 88 % 4) (1024 * (t.val / 11 % 8) + x)
    + Real.log (den 8448 (fun b => score 128 (qAt q t) (kAt k t) (1024 * (t.val / 11 % 8) + x) b * c128) (M (t.val / 352) (t.val / 88 % 4) (1024 * (t.val / 11 % 8) + x))) : ℝ) : EReal) := by
  refine (blk8 m c (f := fun r j => M (r / 4) (r % 4) j + Real.log (den 8448 (fun x => score 128 (qh q (r / 4) (r % 4)) (kh k (r / 4)) j x * c128) (M (r / 4) (r % 4) j))) G.hlse t x).trans ?_
  have e1 : t.val / 88 / 4 = t.val / 352 := by omega
  have e4 : t.val / 11 % 8 * 1024 + x.val = 1024 * (t.val / 11 % 8) + x := by omega
  dsimp only
  rw [e1, e4]

/-- The point's probabilities. -/
theorem probs_val : probs m c t (ix2 y x) = ((P 8448 128 c128 (qAt q t) (kAt k t) (1024 * (t.val / 11 % 8) + x) (768 * (t.val % 11) + y) : ℝ) : EReal) := by
  refine (pay11_val (kb := fun y d => (kAt k t) (768 * (t.val % 11) + y) d) (qb := fun x d => (qAt q t) (1024 * (t.val / 11 % 8) + x) d)
    (ls := fun x => M (t.val / 352) (t.val / 88 % 4) (1024 * (t.val / 11 % 8) + x)
      + Real.log (den 8448 (fun b => score 128 (qAt q t) (kAt k t) (1024 * (t.val / 11 % 8) + x) b * c128) (M (t.val / 352) (t.val / 88 % 4) (1024 * (t.val / 11 % 8) + x))))
    _ _ _ (b2 G t) (fun d x => b0 G t x d) (b8 G t) y x).trans (congrArg _ ?_)
  exact flash_prob (by norm_num) (fun b => score 128 (qAt q t) (kAt k t) (1024 * (t.val / 11 % 8) + x) b) c128 _ _

/-- The row sums a point starts from. -/
theorem delta_val : k0_pay9 (X0_5 m c t) (X0_7 m c t) (ix2 0 x)
    = ((delta 8448 128 128 c128 (qAt q t) (kAt k t) (kAt v t) (qAt w t) (1024 * (t.val / 11 % 8) + x) : ℝ) : EReal) :=
  (pay9_val (wb := fun x e => (qAt w t) (1024 * (t.val / 11 % 8) + x) e) (ob := fun x e => O 8448 128 c128 (qAt q t) (kAt k t) (kAt v t) (1024 * (t.val / 11 % 8) + x) e)
    _ _ (fun d x => b5 G t x d) (fun d x => b7 G t x d) x).trans (congrArg _ (delta_eq 8448 128 128 c128 (qAt q t) (kAt k t) (kAt v t) (qAt w t) _))

variable {de : Vec Ideal S1x1024 .f32}
  (hde : ∀ x : Fin 1024, de (ix2 0 x) = ((delta 8448 128 128 c128 (qAt q t) (kAt k t) (kAt v t) (qAt w t) (1024 * (t.val / 11 % 8) + x) : ℝ) : EReal))
include hde

/-- The cotangents of the point's scores. -/
theorem ds_val : k0_pay2 (k0_pay8 (X0_5 m c t)) (probs m c t) (iblk m c 4 t) de (ix2 y x)
    = ((dS 8448 128 128 c128 (qAt q t) (kAt k t) (kAt v t) (qAt w t) (1024 * (t.val / 11 % 8) + x) (768 * (t.val % 11) + y) : ℝ) : EReal) := by
  rw [pay8_eq]
  exact pay2_val (pb := fun x y => P 8448 128 c128 (qAt q t) (kAt k t) (1024 * (t.val / 11 % 8) + x) (768 * (t.val % 11) + y))
    (wb := fun x e => (qAt w t) (1024 * (t.val / 11 % 8) + x) e) (vb := fun y e => (kAt v t) (768 * (t.val % 11) + y) e)
    (dl := fun x => delta 8448 128 128 c128 (qAt q t) (kAt k t) (kAt v t) (qAt w t) (1024 * (t.val / 11 % 8) + x))
    _ _ _ _ (fun d x => b5 G t x d) (probs_val G t) (b4 G t) hde y x

/-- A point adds to the query's gradient what its keys give. -/
theorem dq_val {acc : Vec Ideal S128x1024 .f32}
    (ha : ∀ (d : Fin 128) (x : Fin 1024), acc (ix2 d x)
      = ((∑ b ∈ range (768 * (t.val % 11)), (kAt k t) b d * dS 8448 128 128 c128 (qAt q t) (kAt k t) (kAt v t) (qAt w t) (1024 * (t.val / 11 % 8) + x) b : ℝ) : EReal)) :
    dqStep m c t acc de (ix2 d x)
      = ((∑ b ∈ range (768 * (t.val % 11 + 1)), (kAt k t) b d * dS 8448 128 128 c128 (qAt q t) (kAt k t) (kAt v t) (qAt w t) (1024 * (t.val / 11 % 8) + x) b : ℝ) : EReal) := by
  refine (pay4_val (kb := fun y d => (kAt k t) (768 * (t.val % 11) + y) d)
    (db := fun x y => dS 8448 128 128 c128 (qAt q t) (kAt k t) (kAt v t) (qAt w t) (1024 * (t.val / 11 % 8) + x) (768 * (t.val % 11) + y))
    (ob := fun x d => ∑ b ∈ range (768 * (t.val % 11)), (kAt k t) b d * dS 8448 128 128 c128 (qAt q t) (kAt k t) (kAt v t) (qAt w t) (1024 * (t.val / 11 % 8) + x) b)
    _ _ _ _ _ _ (fun y x => ds_val G t y x hde) ha (fun d y => b3 G t y d) d x).trans (congrArg _ ?_)
  rw [Nat.mul_add, Nat.mul_one, Finset.sum_range_add]

omit G hde in
/-- Storing a stretch of 768 rows leaves the other rows alone. -/
theorem put_at {acc : Vec Ideal S8448x128 .f32} {p : Vec Ideal S768x128 .f32} (r : Fin 8448) (d : Fin 128) :
    VecWindow.put (s := S8448x128) acc (k0_off1 (grid0.coords t)) S768x128.size p (ix2 r d)
      = if h : r.val / 768 = t.val % 11 then p (ix2 ⟨r.val % 768, Nat.mod_lt _ (by norm_num)⟩ d) else acc (ix2 r d) := by
  obtain ⟨o0, o1⟩ := off1 t
  have hr := r.isLt
  have hd := d.isLt
  unfold VecWindow.put
  by_cases h : r.val / 768 = t.val % 11
  · rw [dif_pos h, dif_pos]
    · refine congrArg p ?_
      funext a
      match a with
      | ⟨0, _⟩ => exact Fin.ext (show r.val - k0_off1 (grid0.coords t) 0 = r.val % 768 by rw [o0]; omega)
      | ⟨1, _⟩ => exact Fin.ext (show d.val - k0_off1 (grid0.coords t) 1 = d.val by rw [o1]; omega)
    · intro a
      match a with
      | ⟨0, _⟩ => exact (show k0_off1 (grid0.coords t) 0 ≤ r.val ∧ r.val < k0_off1 (grid0.coords t) 0 + 768 by rw [o0]; omega)
      | ⟨1, _⟩ => exact (show k0_off1 (grid0.coords t) 1 ≤ d.val ∧ d.val < k0_off1 (grid0.coords t) 1 + 128 by rw [o1]; omega)
  · rw [dif_neg h, dif_neg]
    intro hh
    have := hh 0
    have : k0_off1 (grid0.coords t) 0 ≤ r.val ∧ r.val < k0_off1 (grid0.coords t) 0 + 768 := this
    rw [o0] at this
    omega

omit G hde in
/-- Loading a stretch of 768 rows. -/
theorem window_at {acc : Vec Ideal S8448x128 .f32} {f : ℕ → ℕ → ℝ}
    (ha : ∀ (r : Fin 8448) (d : Fin 128), acc (ix2 r d) = ((f r d : ℝ) : EReal)) (y : Fin 768) (d : Fin 128) :
    VecWindow.window (s := S8448x128) acc (k0_off1 (grid0.coords t)) S768x128.size (k0_off1_inb (grid0.coords t)) (ix2 y d)
      = ((f (768 * (t.val % 11) + y) d : ℝ) : EReal) := by
  obtain ⟨o0, o1⟩ := off1 t
  unfold VecWindow.window
  refine at2 ha _ ?_ ?_
  · exact (show k0_off1 (grid0.coords t) 0 + 1 * y.val = _ by rw [o0, Nat.one_mul])
  · exact (show k0_off1 (grid0.coords t) 1 + 1 * d.val = _ by rw [o1, Nat.one_mul, Nat.zero_add d.val])

/-- A point adds to its stretch of the key's gradient what its queries give. -/
theorem dk_val {acc : Vec Ideal S8448x128 .f32} {f : ℕ → ℕ → ℝ}
    (ha : ∀ (r : Fin 8448) (d : Fin 128), acc (ix2 r d) = ((f r d : ℝ) : EReal)) (r : Fin 8448) (d : Fin 128) :
    dkStep m c t acc de (ix2 r d)
      = ((f r d + (if r.val / 768 = t.val % 11 then dK 8448 128 128 c128 (qAt q t) (kAt k t) (kAt v t) (qAt w t) (1024 * (t.val / 11 % 8)) 1024 r d else 0) : ℝ) : EReal) := by
  refine (put_at t r d).trans ?_
  by_cases h : r.val / 768 = t.val % 11
  · rw [dif_pos h, if_pos h]
    refine (pay3_val (db := fun x y => dS 8448 128 128 c128 (qAt q t) (kAt k t) (kAt v t) (qAt w t) (1024 * (t.val / 11 % 8) + x) (768 * (t.val % 11) + y))
      (ob := fun y d => f (768 * (t.val % 11) + y) d) (qb := fun x d => (qAt q t) (1024 * (t.val / 11 % 8) + x) d)
      _ _ _ _ _ _ (fun y x => ds_val G t y x hde) (window_at t ha) (b1 G t) _ d).trans (congrArg _ ?_)
    have e : 768 * (t.val % 11) + r.val % 768 = r.val := by omega
    dsimp only
    rw [e]
    rfl
  · rw [dif_neg h, if_neg h, add_zero]
    exact ha r d

omit hde in
/-- The same for the value's gradient. -/
theorem dv_val {acc : Vec Ideal S8448x128 .f32} {f : ℕ → ℕ → ℝ}
    (ha : ∀ (r : Fin 8448) (d : Fin 128), acc (ix2 r d) = ((f r d : ℝ) : EReal)) (r : Fin 8448) (d : Fin 128) :
    dvStep m c t acc (ix2 r d)
      = ((f r d + (if r.val / 768 = t.val % 11 then dV 8448 128 c128 (qAt q t) (kAt k t) (qAt w t) (1024 * (t.val / 11 % 8)) 1024 r d else 0) : ℝ) : EReal) := by
  refine (put_at t r d).trans ?_
  by_cases h : r.val / 768 = t.val % 11
  · rw [dif_pos h, if_pos h]
    refine (pay1_val (pb := fun x y => P 8448 128 c128 (qAt q t) (kAt k t) (1024 * (t.val / 11 % 8) + x) (768 * (t.val % 11) + y))
      (ob := fun y d => f (768 * (t.val % 11) + y) d) (wb := fun x d => (qAt w t) (1024 * (t.val / 11 % 8) + x) d)
      _ _ _ (fun y d => (congrFun (pay12_eq _) _).trans (window_at t ha y d)) (fun y x => (pay13_eq _ _ _ _).trans (probs_val G t y x)) (b6 G t) _ d).trans (congrArg _ ?_)
    have e : 768 * (t.val % 11) + r.val % 768 = r.val := by omega
    dsimp only
    rw [e]
    rfl
  · rw [dif_neg h, if_neg h, add_zero]
    exact ha r d

end

end Cert.GqaPoint

end
-- ==== Proof.GqaFold.lean ====
/-
  What the buffers the call carries hold after each grid point, over the real numbers: the row sums of the point's
  queries; the query's gradient over the keys met so far; and, row by row, the key's and the value's gradient over the
  blocks of queries met so far. By induction on the point.
-/
module

public import proofs.«01_k».proof.Proof.GqaPoint

@[expose] public section

set_option maxRecDepth 16384

noncomputable section

namespace Cert.GqaFold

open Idealize.ShloMosaic Idealize.ShloMosaic.TcCoe Cert.KernelIdeal Cert.KernelIdeal.Gen Cert.Sums Cert.Numbers Cert.Softmax
open Cert.GqaStep Cert.GqaPoint
open scoped BigOperators
open Finset (range)

variable {m : (ℓ : Loc nD τ sig) → Buf (Elt Ideal) ℓ} {c : Dev nD}
variable {q k v w : ℕ → ℕ → ℝ} {M : ℕ → ℕ → ℕ → ℝ} (G : Given m c q k v w M)

/-- What the `u`-th block of 1024 queries of key head `h` (its four heads one after another) gives the key's gradient. -/
def dkPart (q k v w : ℕ → ℕ → ℝ) (h u r d : ℕ) : ℝ :=
  dK 8448 128 128 c128 (qh q h (u / 8)) (kh k h) (kh v h) (qh w h (u / 8)) (1024 * (u % 8)) 1024 r d
/-- What it gives the value's gradient. -/
def dvPart (q k w : ℕ → ℕ → ℝ) (h u r d : ℕ) : ℝ :=
  dV 8448 128 c128 (qh q h (u / 8)) (kh k h) (qh w h (u / 8)) (1024 * (u % 8)) 1024 r d

/-- The number of blocks of queries row `r` has met before point `t`. -/
def cnt0 (t r : ℕ) : ℕ := t % 352 / 11 + if r / 768 < t % 11 then 1 else 0
/-- The number it has met after point `t`. -/
def cnt1 (t r : ℕ) : ℕ := t % 352 / 11 + if r / 768 ≤ t % 11 then 1 else 0

theorem cnt_prev {t r : ℕ} (h : ¬t % 352 = 0) (hr : r < 8448) : cnt1 (t - 1) r = cnt0 t r := by
  unfold cnt1 cnt0
  split_ifs <;> omega
theorem cnt_first {t r : ℕ} (h : t % 352 = 0) : cnt0 t r = 0 := by
  unfold cnt0
  split_ifs <;> omega

/-- One point's contribution to a row of a sum over the blocks of queries met. -/
theorem cnt_step (f : ℕ → ℝ) (t r : ℕ) :
    (∑ u ∈ range (cnt0 t r), f u) + (if r / 768 = t % 11 then f (t % 352 / 11) else 0) = ∑ u ∈ range (cnt1 t r), f u := by
  unfold cnt0 cnt1
  by_cases h : r / 768 = t % 11
  · rw [if_pos h, if_neg (by omega), if_pos (by omega), Finset.sum_range_succ, Nat.add_zero]
  · rw [if_neg h, add_zero]
    by_cases h' : r / 768 < t % 11
    · rw [if_pos h', if_pos (by omega)]
    · rw [if_neg h', if_neg (by omega)]

/-- What the buffers hold after point `t`. -/
structure Inv (m : (ℓ : Loc nD τ sig) → Buf (Elt Ideal) ℓ) (c : Dev nD) (q k v w : ℕ → ℕ → ℝ) (t : Fin cfg0.N) : Prop where
  delta : ∀ x : Fin 1024, (outsAt0 m c t.val t.isLt).2.2.2.2 (ix2 0 x)
    = ((delta 8448 128 128 c128 (qAt q t) (kAt k t) (kAt v t) (qAt w t) (1024 * (t.val / 11 % 8) + x) : ℝ) : EReal)
  dq : ∀ (d : Fin 128) (x : Fin 1024), (outsAt0 m c t.val t.isLt).2.2.2.1 (ix2 d x)
    = ((∑ b ∈ range (768 * (t.val % 11 + 1)), kAt k t b d
        * dS 8448 128 128 c128 (qAt q t) (kAt k t) (kAt v t) (qAt w t) (1024 * (t.val / 11 % 8) + x) b : ℝ) : EReal)
  dk : ∀ (r : Fin 8448) (d : Fin 128), (outsAt0 m c t.val t.isLt).2.1 (ix2 r d)
    = ((∑ u ∈ range (cnt1 t r), dkPart q k v w (t.val / 352) u r d : ℝ) : EReal)
  dv : ∀ (r : Fin 8448) (d : Fin 128), (outsAt0 m c t.val t.isLt).2.2.1 (ix2 r d)
    = ((∑ u ∈ range (cnt1 t r), dvPart q k w (t.val / 352) u r d : ℝ) : EReal)

section
variable (t : Fin cfg0.N)

/-- The point's part, by the number of its block of queries. -/
theorem dkPart_at (r d : ℕ) : dK 8448 128 128 c128 (qAt q t) (kAt k t) (kAt v t) (qAt w t) (1024 * (t.val / 11 % 8)) 1024 r d
    = dkPart q k v w (t.val / 352) (t.val % 352 / 11) r d := by
  have e1 : t.val % 352 / 11 / 8 = t.val / 88 % 4 := by omega
  have e2 : t.val % 352 / 11 % 8 = t.val / 11 % 8 := by omega
  rw [dkPart, e1, e2]
theorem dvPart_at (r d : ℕ) : dV 8448 128 c128 (qAt q t) (kAt k t) (qAt w t) (1024 * (t.val / 11 % 8)) 1024 r d
    = dvPart q k w (t.val / 352) (t.val % 352 / 11) r d := by
  have e1 : t.val % 352 / 11 / 8 = t.val / 88 % 4 := by omega
  have e2 : t.val % 352 / 11 % 8 = t.val / 11 % 8 := by omega
  rw [dvPart, e1, e2]

include G in
/-- The key's gradient after a point, from what was there before it. -/
theorem dk_step {acc : Vec Ideal S8448x128 .f32} {de : Vec Ideal S1x1024 .f32}
    (hde : ∀ x : Fin 1024, de (ix2 0 x) = ((delta 8448 128 128 c128 (qAt q t) (kAt k t) (kAt v t) (qAt w t) (1024 * (t.val / 11 % 8) + x) : ℝ) : EReal))
    (ha : ∀ (r : Fin 8448) (d : Fin 128), acc (ix2 r d) = ((∑ u ∈ range (cnt0 t r), dkPart q k v w (t.val / 352) u r d : ℝ) : EReal))
    (r : Fin 8448) (d : Fin 128) :
    dkStep m c t acc de (ix2 r d) = ((∑ u ∈ range (cnt1 t r), dkPart q k v w (t.val / 352) u r d : ℝ) : EReal) := by
  refine (dk_val G t hde (f := fun r d => ∑ u ∈ range (cnt0 t r), dkPart q k v w (t.val / 352) u r d) ha r d).trans (congrArg _ ?_)
  rw [dkPart_at]
  exact cnt_step (fun u => dkPart q k v w (t.val / 352) u r d) t r

include G in
theorem dv_step {acc : Vec Ideal S8448x128 .f32}
    (ha : ∀ (r : Fin 8448) (d : Fin 128), acc (ix2 r d) = ((∑ u ∈ range (cnt0 t r), dvPart q k w (t.val / 352) u r d : ℝ) : EReal))
    (r : Fin 8448) (d : Fin 128) :
    dvStep m c t acc (ix2 r d) = ((∑ u ∈ range (cnt1 t r), dvPart q k w (t.val / 352) u r d : ℝ) : EReal) := by
  refine (dv_val G t (f := fun r d => ∑ u ∈ range (cnt0 t r), dvPart q k w (t.val / 352) u r d) ha r d).trans (congrArg _ ?_)
  rw [dvPart_at]
  exact cnt_step (fun u => dvPart q k w (t.val / 352) u r d) t r

/-- The point before, as a point. -/
abbrev before : Fin cfg0.N := ⟨t.val - 1, Nat.lt_of_le_of_lt (Nat.sub_le _ _) t.isLt⟩

/-- What the key's gradient holds before a point that is not a key head's first. -/
theorem dk_before (I : Inv m c q k v w (before t)) (h : ¬t.val % 352 = 0) (r : Fin 8448) (d : Fin 128) :
    (prev m c t).2.1 (ix2 r d) = ((∑ u ∈ range (cnt0 t r), dkPart q k v w (t.val / 352) u r d : ℝ) : EReal) := by
  have e : (t.val - 1) / 352 = t.val / 352 := by omega
  refine (I.dk r d).trans ?_
  rw [cnt_prev h r.isLt]
  show ((∑ u ∈ range (cnt0 t r), dkPart q k v w ((t.val - 1) / 352) u r d : ℝ) : EReal) = _
  rw [e]
theorem dv_before (I : Inv m c q k v w (before t)) (h : ¬t.val % 352 = 0) (r : Fin 8448) (d : Fin 128) :
    (prev m c t).2.2.1 (ix2 r d) = ((∑ u ∈ range (cnt0 t r), dvPart q k w (t.val / 352) u r d : ℝ) : EReal) := by
  have e : (t.val - 1) / 352 = t.val / 352 := by omega
  refine (I.dv r d).trans ?_
  rw [cnt_prev h r.isLt]
  show ((∑ u ∈ range (cnt0 t r), dvPart q k w ((t.val - 1) / 352) u r d : ℝ) : EReal) = _
  rw [e]

/-- What the row sums and the query's gradient hold before a point that is not a block of queries' first. -/
theorem delta_before (I : Inv m c q k v w (before t)) (h : ¬t.val % 11 = 0) (x : Fin 1024) : (prev m c t).2.2.2.2 (ix2 0 x)
    = ((delta 8448 128 128 c128 (qAt q t) (kAt k t) (kAt v t) (qAt w t) (1024 * (t.val / 11 % 8) + x) : ℝ) : EReal) := by
  have e1 : (t.val - 1) / 352 = t.val / 352 := by omega
  have e2 : (t.val - 1) / 88 % 4 = t.val / 88 % 4 := by omega
  have e3 : (t.val - 1) / 11 % 8 = t.val / 11 % 8 := by omega
  have := I.delta x
  dsimp only [qAt, kAt] at this ⊢
  rw [e1, e2, e3] at this
  exact this
theorem dq_before (I : Inv m c q k v w (before t)) (h : ¬t.val % 11 = 0) (d : Fin 128) (x : Fin 1024) :
    (prev m c t).2.2.2.1 (ix2 d x) = ((∑ b ∈ range (768 * (t.val % 11)), kAt k t b d
        * dS 8448 128 128 c128 (qAt q t) (kAt k t) (kAt v t) (qAt w t) (1024 * (t.val / 11 % 8) + x) b : ℝ) : EReal) := by
  have e1 : (t.val - 1) / 352 = t.val / 352 := by omega
  have e2 : (t.val - 1) / 88 % 4 = t.val / 88 % 4 := by omega
  have e3 : (t.val - 1) / 11 % 8 = t.val / 11 % 8 := by omega
  have e4 : (t.val - 1) % 11 + 1 = t.val % 11 := by omega
  have := I.dq d x
  dsimp only [qAt, kAt] at this ⊢
  rw [e1, e2, e3, e4] at this
  exact this

/-- Nothing is there when a block of queries begins. -/
theorem dq_zero (h : t.val % 11 = 0) (d : Fin 128) (x : Fin 1024) :
    k0_pay10 (F := Ideal) (ix2 d x) = ((∑ b ∈ range (768 * (t.val % 11)), kAt k t b d
        * dS 8448 128 128 c128 (qAt q t) (kAt k t) (kAt v t) (qAt w t) (1024 * (t.val / 11 % 8) + x) b : ℝ) : EReal) := by
  rw [GqaPay.pay10_eq, h, Nat.mul_zero, Finset.sum_range_zero]
  rfl

include G in
/-- One point keeps the invariant. -/
theorem inv_step (I : ¬t.val % 352 = 0 → Inv m c q k v w (before t)) : Inv m c q k v w t := by
  by_cases h0 : t.val % 352 = 0
  · have h1 : t.val % 11 = 0 := by omega
    have hde := fun x => delta_val G t x
    refine ⟨fun x => ?_, fun d x => ?_, fun r d => ?_, fun r d => ?_⟩
    · rw [delta_A m c t h0 h1 (by omega)]; exact hde x
    · rw [dq_A m c t h0 h1 (by omega)]; exact dq_val G t x d hde (dq_zero t h1)
    · rw [dk_A m c t h0 h1 (by omega)]
      refine dk_step G t hde (fun r d => ?_) r d
      rw [GqaPay.pay6_eq, cnt_first h0, Finset.sum_range_zero]; rfl
    · rw [dv_A m c t h0 h1 (by omega)]
      refine dv_step G t (fun r d => ?_) r d
      rw [GqaPay.pay7_eq, cnt_first h0, Finset.sum_range_zero]; rfl
  · have I := I h0
    by_cases h1 : t.val % 11 = 0
    · have hde := fun x => delta_val G t x
      refine ⟨fun x => ?_, fun d x => ?_, fun r d => ?_, fun r d => ?_⟩
      · rw [delta_D m c t h0 h1 (by omega)]; exact hde x
      · rw [dq_D m c t h0 h1 (by omega)]; exact dq_val G t x d hde (dq_zero t h1)
      · rw [dk_D m c t h0 h1 (by omega)]; exact dk_step G t hde (dk_before t I h0) r d
      · rw [dv_D m c t h0 h1 (by omega)]; exact dv_step G t (dv_before t I h0) r d
    · have hde := delta_before t I h1
      by_cases h2 : t.val % 11 = 10
      · refine ⟨fun x => ?_, fun d x => ?_, fun r d => ?_, fun r d => ?_⟩
        · rw [delta_C m c t h0 h1 h2]; exact hde x
        · rw [dq_C m c t h0 h1 h2]; exact dq_val G t x d hde (dq_before t I h1)
        · rw [dk_C m c t h0 h1 h2]; exact dk_step G t hde (dk_before t I h0) r d
        · rw [dv_C m c t h0 h1 h2]; exact dv_step G t (dv_before t I h0) r d
      · refine ⟨fun x => ?_, fun d x => ?_, fun r d => ?_, fun r d => ?_⟩
        · rw [delta_B m c t h0 h1 h2]; exact hde x
        · rw [dq_B m c t h0 h1 h2]; exact dq_val G t x d hde (dq_before t I h1)
        · rw [dk_B m c t h0 h1 h2]; exact dk_step G t hde (dk_before t I h0) r d
        · rw [dv_B m c t h0 h1 h2]; exact dv_step G t (dv_before t I h0) r d

end

include G in
/-- The invariant holds after every point. -/
theorem inv : ∀ (n : ℕ) (hn : n < cfg0.N), Inv m c q k v w ⟨n, hn⟩
  | 0, hn => inv_step G ⟨0, hn⟩ fun h => absurd rfl h
  | n + 1, hn => inv_step G ⟨n + 1, hn⟩ fun _ => inv n (Nat.lt_of_succ_lt hn)

end Cert.GqaFold

end
-- ==== Proof.GqaArrays.lean ====
/-
  What the three result arrays of the call hold at the end, over the real numbers: the latent queries' columns of the
  first hold the query's gradient, and the other two the key's and the value's gradient, all heads of a group summed.
-/
module

public import proofs.«01_k».proof.Proof.GqaFold

@[expose] public section

set_option maxRecDepth 16384

noncomputable section

namespace Cert.GqaArrays

open Idealize.ShloMosaic Idealize.ShloMosaic.TcCoe Idealize.ShloMosaic.Tactic Cert.KernelIdeal Cert.KernelIdeal.Gen
open Cert.Sums Cert.Numbers Cert.Softmax Cert.GqaBlocks Cert.GqaPoint Cert.GqaFold
open scoped BigOperators
open Finset (range)

variable {m : (ℓ : Loc nD τ sig) → Buf (Elt Ideal) ℓ} {c : Dev nD}
variable {q k v w : ℕ → ℕ → ℝ} {M : ℕ → ℕ → ℕ → ℝ} (G : Given m c q k v w M)

theorem lt_N (t : Fin cfg0.N) : t.val < 1408 := N_0 ▸ t.isLt

/-- All the blocks of queries of a key head: its four heads, the whole of the latent queries each. -/
theorem dk_all (h r d : ℕ) : ∑ u ∈ range 32, dkPart q k v w h u r d
    = ∑ g ∈ range 4, dK 8448 128 128 c128 (qh q h g) (kh k h) (kh v h) (qh w h g) 0 8192 r d := by
  rw [show (32 : ℕ) = 4 * 8 from rfl, sum_blocks]
  refine Finset.sum_congr rfl fun g _ => ?_
  rw [dK, show (8192 : ℕ) = 8 * 1024 from rfl, sum_blocks]
  refine Finset.sum_congr rfl fun i hi => ?_
  have hi := Finset.mem_range.mp hi
  rw [dkPart, show (8 * g + i) / 8 = g by omega, show (8 * g + i) % 8 = i by omega, dK]
  simp only [Nat.zero_add]
theorem dv_all (h r d : ℕ) : ∑ u ∈ range 32, dvPart q k w h u r d
    = ∑ g ∈ range 4, dV 8448 128 c128 (qh q h g) (kh k h) (qh w h g) 0 8192 r d := by
  rw [show (32 : ℕ) = 4 * 8 from rfl, sum_blocks]
  refine Finset.sum_congr rfl fun g _ => ?_
  rw [dV, show (8192 : ℕ) = 8 * 1024 from rfl, sum_blocks]
  refine Finset.sum_congr rfl fun i hi => ?_
  have hi := Finset.mem_range.mp hi
  rw [dvPart, show (8 * g + i) / 8 = g by omega, show (8 * g + i) % 8 = i by omega, dV]
  simp only [Nat.zero_add]

/-- The query's gradient, features first. -/
def dqTab (q k v w : ℕ → ℕ → ℝ) (r j : ℕ) : ℝ :=
  dQ 8448 128 128 c128 (qh q (r / 128 / 4) (r / 128 % 4)) (kh k (r / 128 / 4)) (kh v (r / 128 / 4)) (qh w (r / 128 / 4) (r / 128 % 4)) j (r % 128)
/-- The key's gradient. -/
def dkTab (q k v w : ℕ → ℕ → ℝ) (r j : ℕ) : ℝ :=
  ∑ g ∈ range 4, dK 8448 128 128 c128 (qh q (j / 128) g) (kh k (j / 128)) (kh v (j / 128)) (qh w (j / 128) g) 0 8192 r (j % 128)
/-- The value's gradient. -/
def dvTab (q k w : ℕ → ℕ → ℝ) (r j : ℕ) : ℝ :=
  ∑ g ∈ range 4, dV 8448 128 c128 (qh q (j / 128) g) (kh k (j / 128)) (qh w (j / 128) g) 0 8192 r (j % 128)

section
variable (t : Fin cfg0.N)

include G

theorem last_dq (h : t.val % 11 = 10) (d : Fin 128) (x : Fin 1024) :
    (outsAt0 m c t.val t.isLt).1 (ix2 d x) = ((dqTab q k v w (t.val / 88 * 128 + d) (t.val / 11 % 8 * 1024 + x) : ℝ) : EReal) := by
  rw [GqaStep.out_C m c t (by omega) (by omega) h, GqaPay.pay5_eq]
  refine ((inv G t.val t.isLt).dq d x).trans (congrArg _ ?_)
  dsimp only [qAt, kAt]
  rw [dqTab, show (t.val / 88 * 128 + d.val) / 128 / 4 = t.val / 352 by omega, show (t.val / 88 * 128 + d.val) / 128 % 4 = t.val / 88 % 4 by omega,
    show (t.val / 88 * 128 + d.val) % 128 = d.val by omega, show t.val / 11 % 8 * 1024 + x.val = 1024 * (t.val / 11 % 8) + x.val by omega, h]
  rfl

theorem last_dk (h : t.val % 352 = 351) (r : Fin 8448) (d : Fin 128) :
    (outsAt0 m c t.val t.isLt).2.1 (ix2 r d) = ((dkTab q k v w r (t.val / 352 * 128 + d) : ℝ) : EReal) := by
  refine ((inv G t.val t.isLt).dk r d).trans (congrArg _ ?_)
  have e : cnt1 t.val r.val = 32 := by
    unfold cnt1
    rw [if_pos (by omega)]
    omega
  dsimp only
  rw [e, dk_all, dkTab, show (t.val / 352 * 128 + d.val) / 128 = t.val / 352 by omega, show (t.val / 352 * 128 + d.val) % 128 = d.val by omega]

theorem last_dv (h : t.val % 352 = 351) (r : Fin 8448) (d : Fin 128) :
    (outsAt0 m c t.val t.isLt).2.2.1 (ix2 r d) = ((dvTab q k w r (t.val / 352 * 128 + d) : ℝ) : EReal) := by
  refine ((inv G t.val t.isLt).dv r d).trans (congrArg _ ?_)
  have e : cnt1 t.val r.val = 32 := by
    unfold cnt1
    rw [if_pos (by omega)]
    omega
  dsimp only
  rw [e, dv_all, dvTab, show (t.val / 352 * 128 + d.val) / 128 = t.val / 352 by omega, show (t.val / 352 * 128 + d.val) % 128 = d.val by omega]

end

/-- The arrays, as contents. -/
abbrev res9 (q k v w : ℕ → ℕ → ℝ) : S2048x8448.Idx → EReal := fun i => ((dqTab q k v w (i 0).val (i 1).val : ℝ) : EReal)
abbrev res10 (q k v w : ℕ → ℕ → ℝ) : S8448x512.Idx → EReal := fun i => ((dkTab q k v w (i 0).val (i 1).val : ℝ) : EReal)
abbrev res11 (q k w : ℕ → ℕ → ℝ) : S8448x512.Idx → EReal := fun i => ((dvTab q k w (i 0).val (i 1).val : ℝ) : EReal)

include G in
theorem flushed9_eq (t : Fin cfg0.N) (hf : (cfg0.win 9).flush t = true) :
    (dats m 0 c).flushed 9 t = ((cfg0.win 9).blk t).view.read (Elt Ideal) (res9 q k v w) := by
  have h := (flush0_9 t).mp hf
  rw [Cert.KernelIdeal.Value.flushed9 m c t]
  funext y
  rw [View.read_apply]
  refine (at2 (f := fun r j => dqTab q k v w (t.val / 88 * 128 + r) (t.val / 11 % 8 * 1024 + j)) (last_dq G t h) _ rfl rfl).trans ?_
  exact tab (dqTab q k v w) ((win0_9.rect_emb_val t y 0).trans (congrArg (· * 128 + (y 0).val) (idx9 t).1)).symm
    ((win0_9.rect_emb_val t y 1).trans (congrArg (· * 1024 + (y 1).val) (idx9 t).2)).symm

include G in
theorem flushed10_eq (t : Fin cfg0.N) (hf : (cfg0.win 10).flush t = true) :
    (dats m 0 c).flushed 10 t = ((cfg0.win 10).blk t).view.read (Elt Ideal) (res10 q k v w) := by
  have h := (flush0_10 t).mp hf
  rw [Cert.KernelIdeal.Value.flushed10 m c t]
  funext y
  rw [View.read_apply]
  refine (at2 (f := fun r j => dkTab q k v w r (t.val / 352 * 128 + j)) (last_dk G t h) _ rfl rfl).trans ?_
  exact tab (dkTab q k v w) ((win0_10.rect_emb_val t y 0).trans ((congrArg (· * 8448 + (y 0).val) (idx10 t).1).trans (show 0 * 8448 + (y 0).val = (y 0).val by omega))).symm
    ((win0_10.rect_emb_val t y 1).trans (congrArg (· * 128 + (y 1).val) (idx10 t).2)).symm

include G in
theorem flushed11_eq (t : Fin cfg0.N) (hf : (cfg0.win 11).flush t = true) :
    (dats m 0 c).flushed 11 t = ((cfg0.win 11).blk t).view.read (Elt Ideal) (res11 q k w) := by
  have h := (flush0_11 t).mp hf
  rw [Cert.KernelIdeal.Value.flushed11 m c t]
  funext y
  rw [View.read_apply]
  refine (at2 (f := fun r j => dvTab q k w r (t.val / 352 * 128 + j)) (last_dv G t h) _ rfl rfl).trans ?_
  exact tab (dvTab q k w) ((win0_11.rect_emb_val t y 0).trans ((congrArg (· * 8448 + (y 0).val) (idx11 t).1).trans (show 0 * 8448 + (y 0).val = (y 0).val by omega))).symm
    ((win0_11.rect_emb_val t y 1).trans (congrArg (· * 128 + (y 1).val) (idx11 t).2)).symm

theorem xs9 : ∀ t : Fin grid0.N, win0_9.xsize (grid0.coords t) 0 = 128 ∧ win0_9.xsize (grid0.coords t) 1 = 1024 := by decide +kernel
theorem xs10 : ∀ t : Fin grid0.N, win0_10.xsize (grid0.coords t) 0 = 8448 ∧ win0_10.xsize (grid0.coords t) 1 = 128 := by decide +kernel
theorem xs11 : ∀ t : Fin grid0.N, win0_11.xsize (grid0.coords t) 0 = 8448 ∧ win0_11.xsize (grid0.coords t) 1 = 128 := by decide +kernel

include G in
/-- The latent queries' columns of the first result. -/
theorem final9 (r : Fin 2048) (j : Fin 8448) (hj : j.val < 8192) :
    (dats m 0 c).arrAt 9 cfg0.N (ix2 r j) = ((dqTab q k v w r j : ℝ) : EReal) := by
  have hr := r.isLt
  have hn : r.val / 128 * 88 + j.val / 1024 * 11 + 10 < cfg0.N := by rw [show cfg0.N = 1408 from N_0]; omega
  refine (dats m 0 c).arrAt_apply_of_mem 9 (res9 q k v w) (flushed9_eq G) cfg0.N ⟨_, hn⟩ (ix2 r j) hn ((flush0_9 _).mpr (by dsimp only; omega)) ?_
  show ix2 r j ∈ ((View.whole main_v33_0).slice (win0_9.rect ⟨_, hn⟩)).set
  rw [View.set_slice_whole, Rect.mem_set_unit]
  obtain ⟨i0, i1⟩ := idx9 ⟨_, hn⟩
  obtain ⟨s0, s1⟩ := xs9 ⟨_, hn⟩
  intro a
  match a with
  | ⟨0, _⟩ =>
    show win0_9.index ⟨_, hn⟩ 0 * 128 ≤ r.val ∧ r.val < win0_9.index ⟨_, hn⟩ 0 * 128 + win0_9.xsize (grid0.coords ⟨_, hn⟩) 0
    rw [i0, s0]; dsimp only; omega
  | ⟨1, _⟩ =>
    show win0_9.index ⟨_, hn⟩ 1 * 1024 ≤ j.val ∧ j.val < win0_9.index ⟨_, hn⟩ 1 * 1024 + win0_9.xsize (grid0.coords ⟨_, hn⟩) 1
    rw [i1, s1]; dsimp only; omega

include G in
theorem final10 (r : Fin 8448) (j : Fin 512) :
    (dats m 0 c).arrAt 10 cfg0.N (ix2 r j) = ((dkTab q k v w r j : ℝ) : EReal) := by
  have hj := j.isLt
  have hr := r.isLt
  have hn : j.val / 128 * 352 + 351 < cfg0.N := by rw [show cfg0.N = 1408 from N_0]; omega
  refine (dats m 0 c).arrAt_apply_of_mem 10 (res10 q k v w) (flushed10_eq G) cfg0.N ⟨_, hn⟩ (ix2 r j) hn ((flush0_10 _).mpr (by dsimp only; omega)) ?_
  show ix2 r j ∈ ((View.whole main_v33_1).slice (win0_10.rect ⟨_, hn⟩)).set
  rw [View.set_slice_whole, Rect.mem_set_unit]
  obtain ⟨i0, i1⟩ := idx10 ⟨_, hn⟩
  obtain ⟨s0, s1⟩ := xs10 ⟨_, hn⟩
  intro a
  match a with
  | ⟨0, _⟩ =>
    show win0_10.index ⟨_, hn⟩ 0 * 8448 ≤ r.val ∧ r.val < win0_10.index ⟨_, hn⟩ 0 * 8448 + win0_10.xsize (grid0.coords ⟨_, hn⟩) 0
    rw [i0, s0]; omega
  | ⟨1, _⟩ =>
    show win0_10.index ⟨_, hn⟩ 1 * 128 ≤ j.val ∧ j.val < win0_10.index ⟨_, hn⟩ 1 * 128 + win0_10.xsize (grid0.coords ⟨_, hn⟩) 1
    rw [i1, s1]; dsimp only; omega

include G in
theorem final11 (r : Fin 8448) (j : Fin 512) :
    (dats m 0 c).arrAt 11 cfg0.N (ix2 r j) = ((dvTab q k w r j : ℝ) : EReal) := by
  have hj := j.isLt
  have hr := r.isLt
  have hn : j.val / 128 * 352 + 351 < cfg0.N := by rw [show cfg0.N = 1408 from N_0]; omega
  refine (dats m 0 c).arrAt_apply_of_mem 11 (res11 q k w) (flushed11_eq G) cfg0.N ⟨_, hn⟩ (ix2 r j) hn ((flush0_11 _).mpr (by dsimp only; omega)) ?_
  show ix2 r j ∈ ((View.whole main_v33_2).slice (win0_11.rect ⟨_, hn⟩)).set
  rw [View.set_slice_whole, Rect.mem_set_unit]
  obtain ⟨i0, i1⟩ := idx11 ⟨_, hn⟩
  obtain ⟨s0, s1⟩ := xs11 ⟨_, hn⟩
  intro a
  match a with
  | ⟨0, _⟩ =>
    show win0_11.index ⟨_, hn⟩ 0 * 8448 ≤ r.val ∧ r.val < win0_11.index ⟨_, hn⟩ 0 * 8448 + win0_11.xsize (grid0.coords ⟨_, hn⟩) 0
    rw [i0, s0]; omega
  | ⟨1, _⟩ =>
    show win0_11.index ⟨_, hn⟩ 1 * 128 ≤ j.val ∧ j.val < win0_11.index ⟨_, hn⟩ 1 * 128 + win0_11.xsize (grid0.coords ⟨_, hn⟩) 1
    rw [i1, s1]; dsimp only; omega

end Cert.GqaArrays

end
-- ==== Proof.GqaHost.lean ====
/-
  What the host prepares for the call: the arrays' transposes, and the two values the forward pass saves, as functions of
  the call's arguments.
-/
module

public import proofs.«01_k».proof.Proof.Gen.KernelIdeal.Frame.Runs
public import Idealize.ShloMosaic.Lib.StableHlo.Run

@[expose] public section

set_option maxRecDepth 16384

noncomputable section

namespace Cert.GqaHost

open Idealize.ShloMosaic Idealize.ShloMosaic.TcCoe Cert.KernelIdeal Cert.KernelIdeal.Gen

section Stages
variable {F : FTy → Type} [FloatOps F]

/-! ### The host's operations, one definition each -/

def h_v0 (x0 : (⟨S8448x2048, .bf16⟩ : BufTy).Contents (Elt F)) : (⟨S8448x2048, .f32⟩ : BufTy).Contents (Elt F) :=
  (extf .f32 · bitsLt_bf16_f32) x0
def h_v1 (x0 : (⟨S8448x2048, .bf16⟩ : BufTy).Contents (Elt F)) : (⟨S1x8448x16x128, .f32⟩ : BufTy).Contents (Elt F) :=
  shapeCast S1x8448x16x128 (h_v0 x0) shapeCasts_S8448x2048_S1x8448x16x128
def h_v2 (x0 : (⟨S8448x2048, .bf16⟩ : BufTy).Contents (Elt F)) : (⟨S1x8192x16x128, .f32⟩ : BufTy).Contents (Elt F) :=
  (extractStridedSlice S1x8192x16x128 ![0, 0, 0, 0] · slices_S1x8448x16x128_S1x8192x16x128_0_0_0_0) (h_v1 x0)
def h_v3 (x1 : (⟨S8448x512, .bf16⟩ : BufTy).Contents (Elt F)) : (⟨S8448x512, .f32⟩ : BufTy).Contents (Elt F) :=
  (extf .f32 · bitsLt_bf16_f32) x1
def h_v4 (x1 : (⟨S8448x512, .bf16⟩ : BufTy).Contents (Elt F)) : (⟨S1x8448x4x128, .f32⟩ : BufTy).Contents (Elt F) :=
  shapeCast S1x8448x4x128 (h_v3 x1) shapeCasts_S8448x512_S1x8448x4x128
def h_v5 (x2 : (⟨S8448x512, .bf16⟩ : BufTy).Contents (Elt F)) : (⟨S8448x512, .f32⟩ : BufTy).Contents (Elt F) :=
  (extf .f32 · bitsLt_bf16_f32) x2
def h_v6 (x2 : (⟨S8448x512, .bf16⟩ : BufTy).Contents (Elt F)) : (⟨S1x8448x4x128, .f32⟩ : BufTy).Contents (Elt F) :=
  shapeCast S1x8448x4x128 (h_v5 x2) shapeCasts_S8448x512_S1x8448x4x128
def h_v7 (x0 : (⟨S8448x2048, .bf16⟩ : BufTy).Contents (Elt F)) : (⟨S1x8192x4x4x128, .f32⟩ : BufTy).Contents (Elt F) :=
  shapeCast S1x8192x4x4x128 (h_v2 x0) shapeCasts_S1x8192x16x128_S1x8192x4x4x128
def h_v8 (x0 : (⟨S8448x2048, .bf16⟩ : BufTy).Contents (Elt F)) (x1 : (⟨S8448x512, .bf16⟩ : BufTy).Contents (Elt F)) : (⟨S1x4x8448x8192x4, .f32⟩ : BufTy).Contents (Elt F) :=
  (fun l r => Host.dotGeneral dot_S1x8448x4x128_S1x8192x4x4x128_S1x4x8448x8192x4_3_4_1_13_02_02 none l r) (h_v4 x1) (h_v7 x0)
def h_v9 (x0 : (⟨S8448x2048, .bf16⟩ : BufTy).Contents (Elt F)) (x1 : (⟨S8448x512, .bf16⟩ : BufTy).Contents (Elt F)) : (⟨S1x4x4x8192x8448, .f32⟩ : BufTy).Contents (Elt F) :=
  (transpose S1x4x4x8192x8448 [0, 1, 4, 3, 2] · transposes_S1x4x8448x8192x4_S1x4x4x8192x8448_0_1_4_3_2) (h_v8 x0 x1)
def h_cst : (⟨S_, .f32⟩ : BufTy).Contents (Elt F) :=
  constant S_ .f32 0x3DB504F3#32
def h_v10 : (⟨S1x4x4x8192x8448, .f32⟩ : BufTy).Contents (Elt F) :=
  (broadcastInDim S1x4x4x8192x8448 ![] bcast_S_S1x4x4x8192x8448) h_cst
def h_v11 (x0 : (⟨S8448x2048, .bf16⟩ : BufTy).Contents (Elt F)) (x1 : (⟨S8448x512, .bf16⟩ : BufTy).Contents (Elt F)) : (⟨S1x4x4x8192x8448, .f32⟩ : BufTy).Contents (Elt F) :=
  mulf (h_v9 x0 x1) h_v10
def h_cst_0 : (⟨S_, .f32⟩ : BufTy).Contents (Elt F) :=
  constant S_ .f32 0xFF800000#32
def h_v12 (x0 : (⟨S8448x2048, .bf16⟩ : BufTy).Contents (Elt F)) (x1 : (⟨S8448x512, .bf16⟩ : BufTy).Contents (Elt F)) : (⟨S1x4x4x8192, .f32⟩ : BufTy).Contents (Elt F) :=
  (fun x v => Host.reduce FloatOps.maximumf x v reducesTo_S1x4x4x8192x8448_S1x4x4x8192_d4 h_S_) (h_v11 x0 x1) h_cst_0
def h_v13 (x0 : (⟨S8448x2048, .bf16⟩ : BufTy).Contents (Elt F)) (x1 : (⟨S8448x512, .bf16⟩ : BufTy).Contents (Elt F)) : (⟨S1x4x4x8192x1, .f32⟩ : BufTy).Contents (Elt F) :=
  (broadcastInDim S1x4x4x8192x1 ![0, 1, 2, 3] bcast_S1x4x4x8192_S1x4x4x8192x1_0_1_2_3) (h_v12 x0 x1)
def h_v14 (x0 : (⟨S8448x2048, .bf16⟩ : BufTy).Contents (Elt F)) (x1 : (⟨S8448x512, .bf16⟩ : BufTy).Contents (Elt F)) : (⟨S1x4x4x8192x8448, .f32⟩ : BufTy).Contents (Elt F) :=
  (broadcastInDim S1x4x4x8192x8448 ![0, 1, 2, 3, 4] bcast_S1x4x4x8192x1_S1x4x4x8192x8448_0_1_2_3_4) (h_v13 x0 x1)
def h_v15 (x0 : (⟨S8448x2048, .bf16⟩ : BufTy).Contents (Elt F)) (x1 : (⟨S8448x512, .bf16⟩ : BufTy).Contents (Elt F)) : (⟨S1x4x4x8192x8448, .f32⟩ : BufTy).Contents (Elt F) :=
  subf (h_v11 x0 x1) (h_v14 x0 x1)
def h_v16 (x0 : (⟨S8448x2048, .bf16⟩ : BufTy).Contents (Elt F)) (x1 : (⟨S8448x512, .bf16⟩ : BufTy).Contents (Elt F)) : (⟨S1x4x4x8192x8448, .f32⟩ : BufTy).Contents (Elt F) :=
  Host.exp (h_v15 x0 x1)
def h_cst_1 : (⟨S_, .f32⟩ : BufTy).Contents (Elt F) :=
  constant S_ .f32 0x00000000#32
def h_v17 (x0 : (⟨S8448x2048, .bf16⟩ : BufTy).Contents (Elt F)) (x1 : (⟨S8448x512, .bf16⟩ : BufTy).Contents (Elt F)) : (⟨S1x4x4x8192, .f32⟩ : BufTy).Contents (Elt F) :=
  (fun x v => Host.reduceAdd x v reducesTo_S1x4x4x8192x8448_S1x4x4x8192_d4 h_S_) (h_v16 x0 x1) h_cst_1
def h_v18 (x0 : (⟨S8448x2048, .bf16⟩ : BufTy).Contents (Elt F)) (x1 : (⟨S8448x512, .bf16⟩ : BufTy).Contents (Elt F)) : (⟨S1x4x4x8192x1, .f32⟩ : BufTy).Contents (Elt F) :=
  (broadcastInDim S1x4x4x8192x1 ![0, 1, 2, 3] bcast_S1x4x4x8192_S1x4x4x8192x1_0_1_2_3) (h_v17 x0 x1)
def h_v19 (x0 : (⟨S8448x2048, .bf16⟩ : BufTy).Contents (Elt F)) (x1 : (⟨S8448x512, .bf16⟩ : BufTy).Contents (Elt F)) : (⟨S1x4x4x8192x8448, .f32⟩ : BufTy).Contents (Elt F) :=
  (broadcastInDim S1x4x4x8192x8448 ![0, 1, 2, 3, 4] bcast_S1x4x4x8192x1_S1x4x4x8192x8448_0_1_2_3_4) (h_v18 x0 x1)
def h_v20 (x0 : (⟨S8448x2048, .bf16⟩ : BufTy).Contents (Elt F)) (x1 : (⟨S8448x512, .bf16⟩ : BufTy).Contents (Elt F)) : (⟨S1x4x4x8192x8448, .f32⟩ : BufTy).Contents (Elt F) :=
  Host.divf (h_v16 x0 x1) (h_v19 x0 x1)
def h_v21 (x0 : (⟨S8448x2048, .bf16⟩ : BufTy).Contents (Elt F)) (x1 : (⟨S8448x512, .bf16⟩ : BufTy).Contents (Elt F)) (x2 : (⟨S8448x512, .bf16⟩ : BufTy).Contents (Elt F)) : (⟨S1x4x128x4x8192, .f32⟩ : BufTy).Contents (Elt F) :=
  (fun l r => Host.dotGeneral dot_S1x8448x4x128_S1x4x4x8192x8448_S1x4x128x4x8192_1_4_3_23_02_01 none l r) (h_v6 x2) (h_v20 x0 x1)
def h_v22 (x0 : (⟨S8448x2048, .bf16⟩ : BufTy).Contents (Elt F)) (x1 : (⟨S8448x512, .bf16⟩ : BufTy).Contents (Elt F)) (x2 : (⟨S8448x512, .bf16⟩ : BufTy).Contents (Elt F)) : (⟨S1x4x4x128x8192, .f32⟩ : BufTy).Contents (Elt F) :=
  (transpose S1x4x4x128x8192 [0, 1, 3, 2, 4] · transposes_S1x4x128x4x8192_S1x4x4x128x8192_0_1_3_2_4) (h_v21 x0 x1 x2)
def h_v23 (x0 : (⟨S8448x2048, .bf16⟩ : BufTy).Contents (Elt F)) (x1 : (⟨S8448x512, .bf16⟩ : BufTy).Contents (Elt F)) (x2 : (⟨S8448x512, .bf16⟩ : BufTy).Contents (Elt F)) : (⟨S2048x8192, .f32⟩ : BufTy).Contents (Elt F) :=
  shapeCast S2048x8192 (h_v22 x0 x1 x2) shapeCasts_S1x4x4x128x8192_S2048x8192
def h_v24 (x0 : (⟨S8448x2048, .bf16⟩ : BufTy).Contents (Elt F)) (x1 : (⟨S8448x512, .bf16⟩ : BufTy).Contents (Elt F)) : (⟨S1x4x4x8192x1, .f32⟩ : BufTy).Contents (Elt F) :=
  Host.log (h_v18 x0 x1)
def h_v25 (x0 : (⟨S8448x2048, .bf16⟩ : BufTy).Contents (Elt F)) (x1 : (⟨S8448x512, .bf16⟩ : BufTy).Contents (Elt F)) : (⟨S1x4x4x8192x1, .f32⟩ : BufTy).Contents (Elt F) :=
  addf (h_v13 x0 x1) (h_v24 x0 x1)
def h_v26 (x0 : (⟨S8448x2048, .bf16⟩ : BufTy).Contents (Elt F)) (x1 : (⟨S8448x512, .bf16⟩ : BufTy).Contents (Elt F)) : (⟨S16x1x8192, .f32⟩ : BufTy).Contents (Elt F) :=
  shapeCast S16x1x8192 (h_v25 x0 x1) shapeCasts_S1x4x4x8192x1_S16x1x8192
def h_cst_2 : (⟨S_, .f32⟩ : BufTy).Contents (Elt F) :=
  constant S_ .f32 0x00000000#32
def h_v27 (x0 : (⟨S8448x2048, .bf16⟩ : BufTy).Contents (Elt F)) (x1 : (⟨S8448x512, .bf16⟩ : BufTy).Contents (Elt F)) (x2 : (⟨S8448x512, .bf16⟩ : BufTy).Contents (Elt F)) : (⟨S2048x8448, .f32⟩ : BufTy).Contents (Elt F) :=
  (fun x v => pad S2048x8448 ![0, 0] ![0, 256] ![0, 0] x v pads_S2048x8192_S2048x8448_000_02560 h_S_) (h_v23 x0 x1 x2) h_cst_2
def h_v28 (x0 : (⟨S8448x2048, .bf16⟩ : BufTy).Contents (Elt F)) (x1 : (⟨S8448x512, .bf16⟩ : BufTy).Contents (Elt F)) (x2 : (⟨S8448x512, .bf16⟩ : BufTy).Contents (Elt F)) : (⟨S2048x8448, .bf16⟩ : BufTy).Contents (Elt F) :=
  (truncf .bf16 · bitsLt_bf16_f32) (h_v27 x0 x1 x2)
def h_cst_3 : (⟨S_, .f32⟩ : BufTy).Contents (Elt F) :=
  constant S_ .f32 0x00000000#32
def h_v29 (x0 : (⟨S8448x2048, .bf16⟩ : BufTy).Contents (Elt F)) (x1 : (⟨S8448x512, .bf16⟩ : BufTy).Contents (Elt F)) : (⟨S16x1x8448, .f32⟩ : BufTy).Contents (Elt F) :=
  (fun x v => pad S16x1x8448 ![0, 0, 0] ![0, 0, 256] ![0, 0, 0] x v pads_S16x1x8192_S16x1x8448_000_000_02560 h_S_) (h_v26 x0 x1) h_cst_3
def h_v30 (x0 : (⟨S8448x2048, .bf16⟩ : BufTy).Contents (Elt F)) : (⟨S2048x8448, .bf16⟩ : BufTy).Contents (Elt F) :=
  (transpose S2048x8448 [1, 0] · transposes_S8448x2048_S2048x8448_1_0) x0
def h_v31 (x1 : (⟨S8448x512, .bf16⟩ : BufTy).Contents (Elt F)) : (⟨S512x8448, .bf16⟩ : BufTy).Contents (Elt F) :=
  (transpose S512x8448 [1, 0] · transposes_S8448x512_S512x8448_1_0) x1
def h_v32 (x3 : (⟨S8448x2048, .bf16⟩ : BufTy).Contents (Elt F)) : (⟨S2048x8448, .bf16⟩ : BufTy).Contents (Elt F) :=
  (transpose S2048x8448 [1, 0] · transposes_S8448x2048_S2048x8448_1_0) x3

variable [Named F]
variable (m : (ℓ : Loc nD τ sig) → Buf (Elt F) ℓ) (c : Dev nD)

theorem V_v28 : V m c main_v28 = h_v28 (m ((c : Thread nD τ).loc main_arg0)) (m ((c : Thread nD τ).loc main_arg1)) (m ((c : Thread nD τ).loc main_arg2)) := by
  unfold V; after_results; rfl
theorem V_v29 : V m c main_v29 = h_v29 (m ((c : Thread nD τ).loc main_arg0)) (m ((c : Thread nD τ).loc main_arg1)) := by
  unfold V; after_results; rfl
theorem V_v30 : V m c main_v30 = h_v30 (m ((c : Thread nD τ).loc main_arg0)) := by
  unfold V; after_results; rfl
theorem V_v31 : V m c main_v31 = h_v31 (m ((c : Thread nD τ).loc main_arg1)) := by
  unfold V; after_results; rfl
theorem V_v32 : V m c main_v32 = h_v32 (m ((c : Thread nD τ).loc main_arg3)) := by
  unfold V; after_results; rfl

end Stages

end Cert.GqaHost

end
-- ==== Proof.GqaHostVal.lean ====
/-
  What the host prepares for the call, over the real numbers: the transposes, the scores, their exponentials, and the
  probabilities.
-/
module

public import proofs.«01_k».proof.Proof.GqaHost
public import proofs.«01_k».proof.Proof.Softmax
public import proofs.«01_k».proof.Proof.Numbers
public import Idealize.ShloMosaic.Lib.Pointwise

@[expose] public section

set_option maxRecDepth 16384

noncomputable section

namespace Cert.GqaHost

open Idealize.ShloMosaic Idealize.ShloMosaic.TcCoe Cert.KernelIdeal Cert.KernelIdeal.Gen Cert.Sums Cert.Numbers Cert.Softmax
open scoped BigOperators
open Finset (range)

variable {x0 x3 : (⟨S8448x2048, .bf16⟩ : BufTy).Contents (Elt Ideal)} {x1 x2 : (⟨S8448x512, .bf16⟩ : BufTy).Contents (Elt Ideal)}
variable {q k v w : ℕ → ℕ → ℝ}
variable (hq : ∀ (r : Fin 8448) (j : Fin 2048), x0 (ix2 r j) = ((q r j : ℝ) : EReal))
  (hk : ∀ (r : Fin 8448) (j : Fin 512), x1 (ix2 r j) = ((k r j : ℝ) : EReal))
  (hv : ∀ (r : Fin 8448) (j : Fin 512), x2 (ix2 r j) = ((v r j : ℝ) : EReal))
  (hw : ∀ (r : Fin 8448) (j : Fin 2048), x3 (ix2 r j) = ((w r j : ℝ) : EReal))
variable (h g : Fin 4) (a : Fin 8192) (b : Fin 8448) (d : Fin 128)

theorem v30_at (j : Fin 2048) : h_v30 x0 (ix2 j b) = x0 (ix2 b j) := by pointwise [h_v30]
theorem v31_at (j : Fin 512) : h_v31 x1 (ix2 j b) = x1 (ix2 b j) := by pointwise [h_v31]
theorem v32_at (j : Fin 2048) : h_v32 x3 (ix2 j b) = x3 (ix2 b j) := by pointwise [h_v32]

include hq hk in
/-- The scaled scores. -/
theorem v11_at : h_v11 (F := Ideal) x0 x1 (ix5 0 h g a b) = ((score 128 (qh q h g) (kh k h) a b * c128 : ℝ) : EReal) := by
  have e : h_v8 (F := Ideal) x0 x1 (ix5 0 h b a g) = ((score 128 (qh q h g) (kh k h) a b : ℝ) : EReal) := by
    pointwise [h_v8, h_v4, h_v7, h_v2, h_v1, h_v0, h_v3]
    exact sum_fin (f := fun d => k b (h * 128 + d) * q a ((h * 4 + g) * 128 + d)) fun d => by rw [hq, hk, ← EReal.coe_mul]
  pointwise [h_v11, h_v9, h_v10, h_cst]
  rw [e, ofBits_c128, ← EReal.coe_mul]

include hq hk in
/-- The row's largest score is some real number. -/
theorem v12_real : ∃ M : ℝ, h_v12 (F := Ideal) x0 x1 (ix4 0 h g a) = ((M : ℝ) : EReal) := by
  pointwise [h_v12, h_cst_0]
  rw [ofBits_bot]
  exact fold_max (Finset.univ : Finset (Fin 8448)) ⟨⟨0, by norm_num⟩, Finset.mem_univ _⟩
    (f := fun b => score 128 (qh q h g) (kh k h) a b * c128) fun b => v11_at hq hk h g a b

/-- The row's largest score. -/
def mx (x0 : (⟨S8448x2048, .bf16⟩ : BufTy).Contents (Elt Ideal)) (x1 : (⟨S8448x512, .bf16⟩ : BufTy).Contents (Elt Ideal))
    (h g a : ℕ) : ℝ :=
  if hh : h < 4 ∧ g < 4 ∧ a < 8192 then EReal.toReal (h_v12 (F := Ideal) x0 x1 (ix4 0 ⟨h, hh.1⟩ ⟨g, hh.2.1⟩ ⟨a, hh.2.2⟩)) else 0

include hq hk in
theorem v12_at : h_v12 (F := Ideal) x0 x1 (ix4 0 h g a) = ((mx x0 x1 h g a : ℝ) : EReal) := by
  obtain ⟨M, hM⟩ := v12_real hq hk h g a
  rw [mx, dif_pos ⟨h.isLt, g.isLt, a.isLt⟩, hM]; rfl

include hq hk in
/-- The exponentials of the scores less the row's largest. -/
theorem v16_at : h_v16 (F := Ideal) x0 x1 (ix5 0 h g a b)
    = ((Real.exp (score 128 (qh q h g) (kh k h) a b * c128 - mx x0 x1 h g a) : ℝ) : EReal) := by
  pointwise [h_v16, h_v15, h_v14, h_v13]
  rw [v11_at hq hk, v12_at hq hk, ← EReal.coe_sub]
  exact Ideal.exp_coe _

/-- The softmax's denominator. -/
abbrev l (x0 : (⟨S8448x2048, .bf16⟩ : BufTy).Contents (Elt Ideal)) (x1 : (⟨S8448x512, .bf16⟩ : BufTy).Contents (Elt Ideal))
    (q k : ℕ → ℕ → ℝ) (h g a : ℕ) : ℝ :=
  den 8448 (fun x => score 128 (qh q h g) (kh k h) a x * c128) (mx x0 x1 h g a)

theorem l_pos (h g a : ℕ) : 0 < l x0 x1 q k h g a := den_pos (by norm_num) _ _

include hq hk in
theorem v17_at : h_v17 (F := Ideal) x0 x1 (ix4 0 h g a) = ((l x0 x1 q k h g a : ℝ) : EReal) := by
  pointwise [h_v17, h_cst_1]
  exact sum_fin fun b => v16_at hq hk h g a b

include hq hk in
theorem v20_at : h_v20 (F := Ideal) x0 x1 (ix5 0 h g a b) = ((P 8448 128 c128 (qh q h g) (kh k h) a b : ℝ) : EReal) := by
  pointwise [h_v20, h_v19, h_v18]
  rw [v16_at hq hk, v17_at hq hk, div_coe (l_pos h g a).ne']
  exact congrArg _ (prob_eq (n := 8448) (fun x => score 128 (qh q h g) (kh k h) a x * c128) (mx x0 x1 h g a) b)

end Cert.GqaHost

end
-- ==== Proof.GqaHostOut.lean ====
/-
  The saved output of the latent queries, as the host prepares it.
-/
module

public import proofs.«01_k».proof.Proof.GqaHostVal
public import proofs.«01_k».proof.Proof.Softmax
public import proofs.«01_k».proof.Proof.Numbers
public import Idealize.ShloMosaic.Lib.Pointwise

@[expose] public section

set_option maxRecDepth 16384

noncomputable section

namespace Cert.GqaHost

open Idealize.ShloMosaic Idealize.ShloMosaic.TcCoe Cert.KernelIdeal Cert.KernelIdeal.Gen Cert.Sums Cert.Numbers Cert.Softmax
open scoped BigOperators
open Finset (range)

variable {x0 x3 : (⟨S8448x2048, .bf16⟩ : BufTy).Contents (Elt Ideal)} {x1 x2 : (⟨S8448x512, .bf16⟩ : BufTy).Contents (Elt Ideal)}
variable {q k v w : ℕ → ℕ → ℝ}
variable (hq : ∀ (r : Fin 8448) (j : Fin 2048), x0 (ix2 r j) = ((q r j : ℝ) : EReal))
  (hk : ∀ (r : Fin 8448) (j : Fin 512), x1 (ix2 r j) = ((k r j : ℝ) : EReal))
  (hv : ∀ (r : Fin 8448) (j : Fin 512), x2 (ix2 r j) = ((v r j : ℝ) : EReal))
  (hw : ∀ (r : Fin 8448) (j : Fin 2048), x3 (ix2 r j) = ((w r j : ℝ) : EReal))
variable (h g : Fin 4) (a : Fin 8192) (b : Fin 8448) (d : Fin 128)

include hq hk hv in
/-- The saved output, of the latent queries. -/
theorem v28_at (j : Fin 2048) (hb : b.val < 8192) : h_v28 (F := Ideal) x0 x1 x2 (ix2 j b)
    = ((O 8448 128 c128 (qh q (j / 128 / 4) (j / 128 % 4)) (kh k (j / 128 / 4)) (kh v (j / 128 / 4)) b (j % 128) : ℝ) : EReal) := by
  pointwise [h_v28, h_v27, h_v23, h_v22, h_v21, h_v6, h_v5, h_cst_2]
  rw [dif_pos hb]
  refine sum_fin (f := fun x => kh v (j / 128 / 4) x (j % 128)
    * P 8448 128 c128 (qh q (j / 128 / 4) (j / 128 % 4)) (kh k (j / 128 / 4)) b x) fun x => ?_
  refine (congrArg₂ (· * ·) (hv _ _) (v20_at hq hk _ _ _ _)).trans ((EReal.coe_mul _ _).symm.trans (congrArg _ ?_))
  have e : j.val / 512 = j.val / 128 / 4 := by omega
  show v x (j.val / 512 * 128 + j % 128) * P 8448 128 c128 (qh q (j.val / 512) (j / 128 % 4)) (kh k (j.val / 512)) b x = _
  rw [e]

end Cert.GqaHost

end
-- ==== Proof.GqaHostLse.lean ====
/-
  The saved logarithm of the latent queries' softmax's denominator, as the host prepares it.
-/
module

public import proofs.«01_k».proof.Proof.GqaHostVal
public import proofs.«01_k».proof.Proof.Softmax
public import proofs.«01_k».proof.Proof.Numbers
public import Idealize.ShloMosaic.Lib.Pointwise

@[expose] public section

set_option maxRecDepth 16384

noncomputable section

namespace Cert.GqaHost

open Idealize.ShloMosaic Idealize.ShloMosaic.TcCoe Cert.KernelIdeal Cert.KernelIdeal.Gen Cert.Sums Cert.Numbers Cert.Softmax
open scoped BigOperators
open Finset (range)

variable {x0 x3 : (⟨S8448x2048, .bf16⟩ : BufTy).Contents (Elt Ideal)} {x1 x2 : (⟨S8448x512, .bf16⟩ : BufTy).Contents (Elt Ideal)}
variable {q k v w : ℕ → ℕ → ℝ}
variable (hq : ∀ (r : Fin 8448) (j : Fin 2048), x0 (ix2 r j) = ((q r j : ℝ) : EReal))
  (hk : ∀ (r : Fin 8448) (j : Fin 512), x1 (ix2 r j) = ((k r j : ℝ) : EReal))
  (hv : ∀ (r : Fin 8448) (j : Fin 512), x2 (ix2 r j) = ((v r j : ℝ) : EReal))
  (hw : ∀ (r : Fin 8448) (j : Fin 2048), x3 (ix2 r j) = ((w r j : ℝ) : EReal))
variable (h g : Fin 4) (a : Fin 8192) (b : Fin 8448) (d : Fin 128)

include hq hk in
theorem v13_at : h_v13 (F := Ideal) x0 x1 (ix5 0 h g a 0) = ((mx x0 x1 h g a : ℝ) : EReal) := by
  have e : h_v13 (F := Ideal) x0 x1 (ix5 0 h g a 0) = h_v12 (F := Ideal) x0 x1 (ix4 0 h g a) := by pointwise [h_v13]
  exact e.trans (v12_at hq hk h g a)

include hq hk in
theorem v18_at : h_v18 (F := Ideal) x0 x1 (ix5 0 h g a 0) = ((l x0 x1 q k h g a : ℝ) : EReal) := by
  have e : h_v18 (F := Ideal) x0 x1 (ix5 0 h g a 0) = h_v17 (F := Ideal) x0 x1 (ix4 0 h g a) := by pointwise [h_v18]
  exact e.trans (v17_at hq hk h g a)

theorem log_real {r : ℝ} (hr : 0 < r) : Ideal.log ((r : ℝ) : EReal) = ((Real.log r : ℝ) : EReal) := by
  rw [Ideal.log_coe, if_neg (not_le.mpr hr)]

/-- The logarithm of a positive number, and its sum with a number. -/
theorem add_log {x y : EReal} {a b : ℝ} (hx : x = ((a : ℝ) : EReal)) (hy : y = ((b : ℝ) : EReal)) (hb : 0 < b) :
    x + Ideal.log y = ((a + Real.log b : ℝ) : EReal) := by
  rw [hx, hy, log_real hb, ← EReal.coe_add]

theorem addf_log (s : Shape) (A B : FVec Ideal s .f32) (i : s.Idx) : addf A (Host.log B) i = A i + Ideal.log (B i) := by
  pointwise

theorem v25_split : h_v25 (F := Ideal) x0 x1 (ix5 0 h g a 0)
    = h_v13 (F := Ideal) x0 x1 (ix5 0 h g a 0) + Ideal.log (h_v18 (F := Ideal) x0 x1 (ix5 0 h g a 0)) := by
  unfold h_v25 h_v24
  exact addf_log _ _ _ _

include hq hk in
theorem v25_at : h_v25 (F := Ideal) x0 x1 (ix5 0 h g a 0) = ((mx x0 x1 h g a + Real.log (l x0 x1 q k h g a) : ℝ) : EReal) :=
  (v25_split h g a).trans (add_log (v13_at hq hk h g a) (v18_at hq hk h g a) (l_pos h g a))

theorem v26_at (j : Fin 16) : h_v26 (F := Ideal) x0 x1 (ix3 j 0 a)
    = h_v25 (F := Ideal) x0 x1 (ix5 0 ⟨j / 4, by omega⟩ ⟨j % 4, by omega⟩ a 0) := by
  pointwise [h_v26]

include hq hk in
/-- The saved logarithm of the denominator, of the latent queries. -/
theorem v29_at (j : Fin 16) (hb : b.val < 8192) : h_v29 (F := Ideal) x0 x1 (ix3 j 0 b)
    = ((mx x0 x1 (j / 4) (j % 4) b + Real.log (l x0 x1 q k (j / 4) (j % 4) b) : ℝ) : EReal) := by
  pointwise [h_v29, h_cst_3]
  rw [dif_pos hb, v26_at, v25_at hq hk]

end Cert.GqaHost

end
-- ==== Proof.GqaRef.lean ====
/-
  What the reference computes, one stage at a time, over the real numbers: the softmax of the scores, and the gradients of
  the attention's query, key and value as the textbook chain rule gives them.
-/
module

public import proofs.«01_k».proof.Proof.Gen.ReferenceIdeal.Read
public import proofs.«01_k».proof.Proof.Softmax
public import proofs.«01_k».proof.Proof.Numbers
public import Idealize.ShloMosaic.Lib.Pointwise

@[expose] public section

set_option maxRecDepth 16384

noncomputable section

namespace Cert.GqaRef

open Idealize.ShloMosaic Cert.ReferenceIdeal Cert.ReferenceIdeal.Gen Cert.ReferenceIdeal.Read Cert.Sums Cert.Numbers Cert.Softmax
open scoped BigOperators
open Finset (range)

variable {x0 x3 : (⟨S8448x2048, .bf16⟩ : BufTy).Contents (Elt Ideal)} {x1 x2 : (⟨S8448x512, .bf16⟩ : BufTy).Contents (Elt Ideal)}
variable {q k v w : ℕ → ℕ → ℝ}
variable (hq : ∀ (r : Fin 8448) (j : Fin 2048), x0 (ix2 r j) = ((q r j : ℝ) : EReal))
  (hk : ∀ (r : Fin 8448) (j : Fin 512), x1 (ix2 r j) = ((k r j : ℝ) : EReal))
  (hv : ∀ (r : Fin 8448) (j : Fin 512), x2 (ix2 r j) = ((v r j : ℝ) : EReal))
  (hw : ∀ (r : Fin 8448) (j : Fin 2048), x3 (ix2 r j) = ((w r j : ℝ) : EReal))
variable (h g : Fin 4) (a : Fin 8192) (b : Fin 8448) (d : Fin 128)

include hq hk in
/-- The scaled scores. -/
theorem v12_at : val_main_v12 (F := Ideal) x0 x1 (ix5 0 h g a b) = ((score 128 (qh q h g) (kh k h) a b * c128 : ℝ) : EReal) := by
  have e : val_main_v9 (F := Ideal) x0 x1 (ix5 0 h b a g) = ((score 128 (qh q h g) (kh k h) a b : ℝ) : EReal) := by
    pointwise [val_main_v9, val_main_v6, val_main_v8, val_main_v5, val_main_v4, val_main_v0, val_main_v1]
    exact sum_fin (f := fun d => k b (h * 128 + d) * q a ((h * 4 + g) * 128 + d)) fun d => by rw [hq, hk, ← EReal.coe_mul]
  pointwise [val_main_v12, val_main_v10, val_main_v11, val_main_cst]
  rw [e, ofBits_c128, ← EReal.coe_mul]

include hq hk in
/-- The row's largest score is some real number. -/
theorem v13_real : ∃ M : ℝ, val_main_v13 (F := Ideal) x0 x1 (ix4 0 h g a) = ((M : ℝ) : EReal) := by
  pointwise [val_main_v13, val_main_cst_0]
  rw [ofBits_bot]
  exact fold_max (Finset.univ : Finset (Fin 8448)) ⟨⟨0, by norm_num⟩, Finset.mem_univ _⟩
    (f := fun b => score 128 (qh q h g) (kh k h) a b * c128) fun b => v12_at hq hk h g a b

/-- The row's largest score. -/
def mx (x0 : (⟨S8448x2048, .bf16⟩ : BufTy).Contents (Elt Ideal)) (x1 : (⟨S8448x512, .bf16⟩ : BufTy).Contents (Elt Ideal))
    (h g : Fin 4) (a : Fin 8192) : ℝ := EReal.toReal (val_main_v13 (F := Ideal) x0 x1 (ix4 0 h g a))

include hq hk in
theorem v13_at : val_main_v13 (F := Ideal) x0 x1 (ix4 0 h g a) = ((mx x0 x1 h g a : ℝ) : EReal) := by
  obtain ⟨M, hM⟩ := v13_real hq hk h g a
  rw [mx, hM]; rfl

include hq hk in
/-- The exponentials of the scores less the row's largest. -/
theorem v33_at : val_main_v33 (F := Ideal) x0 x1 (ix5 0 h g a b)
    = ((Real.exp (score 128 (qh q h g) (kh k h) a b * c128 - mx x0 x1 h g a) : ℝ) : EReal) := by
  have e : idx_main_v30 (idx_main_v31 (ix5 0 h g a b)) = ix4 0 h g a := by
    funext x; match x with | ⟨0, _⟩ => rfl | ⟨1, _⟩ => rfl | ⟨2, _⟩ => rfl | ⟨3, _⟩ => rfl
  rw [val_main_v33_apply, val_main_v32_apply, val_main_v31_apply, val_main_v30_apply, e, val_main_v20_apply, val_main_v19_apply,
    val_main_cst_2_apply, v12_at hq hk, v13_at hq hk]
  have e2 : FloatOps.maximumf (F := Ideal) (φ := .f32) (FloatOps.ofBits .f32 0xFF800000#32) ((mx x0 x1 h g a : ℝ) : EReal)
      = ((mx x0 x1 h g a : ℝ) : EReal) := by
    show max (Ideal.ofBits .f32 0xFF800000#32) _ = _
    rw [ofBits_bot]
    exact max_eq_right bot_le
  rw [e2, Ideal.subf_def, ← EReal.coe_sub]
  exact Ideal.exp_coe _

/-- The softmax's denominator. -/
abbrev l (x0 : (⟨S8448x2048, .bf16⟩ : BufTy).Contents (Elt Ideal)) (x1 : (⟨S8448x512, .bf16⟩ : BufTy).Contents (Elt Ideal))
    (q k : ℕ → ℕ → ℝ) (h g : Fin 4) (a : Fin 8192) : ℝ :=
  den 8448 (fun x => score 128 (qh q h g) (kh k h) a x * c128) (mx x0 x1 h g a)

theorem l_ne : l x0 x1 q k h g a ≠ 0 := (den_pos (by norm_num) _ _).ne'

include hq hk in
theorem v34_at : val_main_v34 (F := Ideal) x0 x1 (ix4 0 h g a) = ((l x0 x1 q k h g a : ℝ) : EReal) := by
  pointwise [val_main_v34, val_main_cst_8]
  exact sum_fin fun b => v33_at hq hk h g a b

include hq hk in
/-- The softmax. -/
theorem v37_at : val_main_v37 (F := Ideal) x0 x1 (ix5 0 h g a b) = ((P 8448 128 c128 (qh q h g) (kh k h) a b : ℝ) : EReal) := by
  pointwise [val_main_v37, val_main_v36, val_main_v35]
  rw [v33_at hq hk, v34_at hq hk, div_coe (l_ne h g a)]
  exact congrArg _ (prob_eq (n := 8448) (fun x => score 128 (qh q h g) (kh k h) a x * c128) (mx x0 x1 h g a) b)

include hv hw in
/-- The probabilities' cotangents. -/
theorem v49_at : val_main_v49 (F := Ideal) x2 x3 (ix5 0 h g a b) = ((dP 128 (kh v h) (qh w h g) a b : ℝ) : EReal) := by
  pointwise [val_main_v49, val_main_v48, val_main_v47, val_main_v46, val_main_v45, val_main_v3, val_main_v2, val_main_v7]
  refine sum_fin (f := fun e => v b (h * 128 + e) * w a ((h * 4 + g) * 128 + e)) fun e => ?_
  refine (congrArg₂ (· * ·) (hw _ _) (hv _ _)).trans ((EReal.coe_mul _ _).symm.trans (congrArg _ ?_))
  have e2 : (h.val * 512 + g.val * 128 + e.val : ℕ) = (h.val * 4 + g.val) * 128 + e.val := by ring
  exact (mul_comm _ _).trans (congrArg (v b (h * 128 + e) * w a ·) e2)

include hq hk hv hw in
/-- The row's sum that the chain rule of the quotient takes. -/
theorem v55_at : val_main_v55 (F := Ideal) x0 x1 x2 x3 (ix4 0 h g a)
    = ((∑ x ∈ range 8448, dP 128 (kh v h) (qh w h g) a x * (l x0 x1 q k h g a * l x0 x1 q k h g a)⁻¹
        * Real.exp (score 128 (qh q h g) (kh k h) a x * c128 - mx x0 x1 h g a) : ℝ) : EReal) := by
  pointwise [val_main_v55, val_main_v54, val_main_v53, val_main_v52, val_main_v40, val_main_v39, val_main_v38, val_main_v35,
    val_main_cst_9, val_main_cst_10]
  refine sum_fin fun b => ?_
  rw [v49_at hv hw, v34_at hq hk, v33_at hq hk, ← EReal.coe_mul, ← EReal.coe_one,
    div_coe (mul_ne_zero (l_ne h g a) (l_ne h g a)), one_mul, ← EReal.coe_mul, ← EReal.coe_mul]

/-- A sum over the two unit axes is the one element there is. -/
theorem unit_sum (hr : S1x4x4x8192x1.ReducesTo [0, 4] S4x4x8192) (x : S1x4x4x8192x1.Idx → EReal) :
    Ideal.hostReduceAdd hr x 0 (ix3 h g a) = x (ix5 0 h g a 0) := by
  have e : Finset.univ.filter (fun i => hr.drop i = ix3 h g a) = {ix5 0 h g a 0} := by
    ext i
    simp only [Finset.mem_filter, Finset.mem_univ, true_and, Finset.mem_singleton]
    constructor
    · intro e
      funext z; apply Fin.ext
      match z with
      | ⟨0, _⟩ => have : (i 0).val < 1 := (i 0).isLt; show (i 0).val = 0; omega
      | ⟨1, _⟩ => exact congrArg Fin.val (congrFun e 0)
      | ⟨2, _⟩ => exact congrArg Fin.val (congrFun e 1)
      | ⟨3, _⟩ => exact congrArg Fin.val (congrFun e 2)
      | ⟨4, _⟩ => have : (i 4).val < 1 := (i 4).isLt; show (i 4).val = 0; omega
    · rintro rfl
      funext z; apply Fin.ext
      match z with
      | ⟨0, _⟩ => rfl
      | ⟨1, _⟩ => rfl
      | ⟨2, _⟩ => rfl
  rw [Ideal.hostReduceAdd, e, Finset.sum_singleton, zero_add]

include hq hk hv hw in
/-- The cotangents of the unscaled scores. -/
theorem v66_at : val_main_v66 (F := Ideal) x0 x1 x2 x3 (ix5 0 h g a b)
    = ((dS 8448 128 128 c128 (qh q h g) (kh k h) (kh v h) (qh w h g) a b : ℝ) : EReal) := by
  pointwise [val_main_v66, val_main_v65, val_main_v64, val_main_v63, val_main_v59, val_main_v62, val_main_v61, val_main_v60,
    val_main_v58, val_main_v57, val_main_v56, val_main_v35, val_main_cst_12, val_main_cst_11]
  rw [unit_sum]
  pointwise
  rw [v55_at hq hk hv hw, v49_at hv hw, v34_at hq hk, v33_at hq hk, ofBits_c128, div_coe (l_ne h g a), ← EReal.coe_neg,
    ← EReal.coe_add, ← EReal.coe_mul, ← EReal.coe_mul, dS_eq _ _ _ _ _ _ _ _ (by norm_num)]

end Cert.GqaRef

end
-- ==== Proof.GqaRefOut.lean ====
/-
  What the reference returns, over the real numbers: the three gradients as sums over the queries and the keys.
-/
module

public import proofs.«01_k».proof.Proof.GqaRef

@[expose] public section

set_option maxRecDepth 16384

noncomputable section

namespace Cert.GqaRef

open Idealize.ShloMosaic Cert.ReferenceIdeal Cert.ReferenceIdeal.Gen Cert.ReferenceIdeal.Read Cert.Sums Cert.Numbers Cert.Softmax
open scoped BigOperators
open Finset (range)

variable {x0 x3 : (⟨S8448x2048, .bf16⟩ : BufTy).Contents (Elt Ideal)} {x1 x2 : (⟨S8448x512, .bf16⟩ : BufTy).Contents (Elt Ideal)}
variable {q k v w : ℕ → ℕ → ℝ}
variable (hq : ∀ (r : Fin 8448) (j : Fin 2048), x0 (ix2 r j) = ((q r j : ℝ) : EReal))
  (hk : ∀ (r : Fin 8448) (j : Fin 512), x1 (ix2 r j) = ((k r j : ℝ) : EReal))
  (hv : ∀ (r : Fin 8448) (j : Fin 512), x2 (ix2 r j) = ((v r j : ℝ) : EReal))
  (hw : ∀ (r : Fin 8448) (j : Fin 2048), x3 (ix2 r j) = ((w r j : ℝ) : EReal))
variable (h g : Fin 4) (a : Fin 8192) (b : Fin 8448) (d : Fin 128)

include hq hk hw in
/-- The value's gradient. -/
theorem v73_at (j : Fin 512) : val_main_v73 (F := Ideal) x0 x1 x3 (ix2 b j)
    = ((∑ g ∈ range 4, dV 8448 128 c128 (qh q (j / 128) g) (kh k (j / 128)) (qh w (j / 128) g) 0 8192 b (j % 128) : ℝ) : EReal) := by
  pointwise [val_main_v73, val_main_v51, val_main_v50, val_main_v48, val_main_v47, val_main_v46, val_main_v45, val_main_v3]
  refine sum_fin2 (f := fun g a => P 8448 128 c128 (qh q (j / 128) g) (kh k (j / 128)) (0 + a) b * qh w (j / 128) g (0 + a) (j % 128))
    fun g a => ?_
  refine (congrArg₂ (· * ·) (hw _ _) (v37_at hq hk _ _ _ _)).trans ?_
  have e : (j.val / 128 * 512 + g.val * 128 + j.val % 128 : ℕ) = (j.val / 128 * 4 + g.val) * 128 + j.val % 128 := by ring
  refine (EReal.coe_mul _ _).symm.trans (congrArg _ ?_)
  rw [Nat.zero_add a.val, mul_comm]
  exact congrArg (P 8448 128 c128 (qh q (j / 128) g) (kh k (j / 128)) a b * w a ·) e

include hq hk hv hw in
/-- The key's gradient. -/
theorem v74_at (j : Fin 512) : val_main_v74 (F := Ideal) x0 x1 x2 x3 (ix2 b j)
    = ((∑ g ∈ range 4, dK 8448 128 128 c128 (qh q (j / 128) g) (kh k (j / 128)) (kh v (j / 128)) (qh w (j / 128) g) 0 8192 b (j % 128) : ℝ)
        : EReal) := by
  pointwise [val_main_v74, val_main_v71, val_main_v70, val_main_v67, val_main_v8, val_main_v5, val_main_v4, val_main_v0]
  rw [Finset.sum_comm]
  refine sum_fin2 (f := fun g a => dS 8448 128 128 c128 (qh q (j / 128) g) (kh k (j / 128)) (kh v (j / 128)) (qh w (j / 128) g) (0 + a) b
      * qh q (j / 128) g (0 + a) (j % 128)) fun g a => ?_
  refine (congrArg₂ (· * ·) (v66_at hq hk hv hw _ _ _ _) (hq _ _)).trans ((EReal.coe_mul _ _).symm.trans (congrArg _ ?_))
  rw [Nat.zero_add a.val]

include hq hk hv hw in
/-- The query's gradient, for the latent queries. -/
theorem v78_at (j : Fin 2048) (hb : b.val < 8192) : val_main_v78 (F := Ideal) x0 x1 x2 x3 (ix2 j b)
    = ((dQ 8448 128 128 c128 (qh q (j / 128 / 4) (j / 128 % 4)) (kh k (j / 128 / 4)) (kh v (j / 128 / 4))
        (qh w (j / 128 / 4) (j / 128 % 4)) b (j % 128) : ℝ) : EReal) := by
  pointwise [val_main_v78, val_main_v77, val_main_v76, val_main_v75, val_main_v72, val_main_v69, val_main_v68, val_main_v67,
    val_main_v6, val_main_v1, val_main_cst_13]
  rw [dif_pos ⟨hb, by omega, by omega⟩]
  refine sum_fin (f := fun x => kh k (j / 128 / 4) x (j % 128) * dS 8448 128 128 c128 (qh q (j / 128 / 4) (j / 128 % 4))
    (kh k (j / 128 / 4)) (kh v (j / 128 / 4)) (qh w (j / 128 / 4) (j / 128 % 4)) b x) fun x => ?_
  refine (congrArg₂ (· * ·) (v66_at hq hk hv hw _ _ _ _) (hk _ _)).trans ((EReal.coe_mul _ _).symm.trans (congrArg _ ?_))
  exact mul_comm _ _

end Cert.GqaRef

end
-- ==== Proof.GqaPre.lean ====
/-
  The precondition and the mask of the claims: every element of the arguments is a real number, and the mask selects the
  latent queries' columns of the first result.
-/
module

public import proofs.«01_k».proof.Pre_finite
public import proofs.«01_k».proof.On_written
public import proofs.«01_k».proof.Proof.Numbers
public import Idealize.ShloMosaic.Lib.Pointwise
public import Idealize.ShloMosaic.Lib.ReduceAll

@[expose] public section

set_option maxRecDepth 16384

noncomputable section

namespace Cert.GqaPre

open Idealize.ShloMosaic Cert.Numbers

instance preFacts : Cert.Pre_finite.Facts where
  bitsLt_bf16_f32 := by decide
  bcast_S_S8448x2048 := by decide
  reducesTo_S8448x2048_S_d0_1 := by decide
  h_S_ := by decide
  bcast_S_S8448x512 := by decide
  reducesTo_S8448x512_S_d0_1 := by decide

instance onFacts : Cert.On_written.Facts where
  bcast_S_S2048x8448 := by decide
  bcast_S_S8448x512 := by decide

theorem and_one : ∀ a b : BitVec 1, a &&& b = 1#1 → a = 1#1 ∧ b = 1#1 := by decide

theorem ofBits_top : Ideal.ofBits .f32 0x7F800000#32 = (⊤ : EReal) := by
  simp [Ideal.ofBits, Ideal.ieee]

/-- A number whose absolute value is below infinity is real. -/
theorem real_of_abs {x : EReal} (h : max x (-x) < ⊤) : ∃ r : ℝ, x = ((r : ℝ) : EReal) := by
  induction x using EReal.rec with
  | bot => simp at h
  | top => simp at h
  | coe r => exact ⟨r, rfl⟩

/-- The comparison the precondition makes of an element. -/
theorem cmp_at {s : Shape} (x : FVec Ideal s .bf16) (hb : FTy.bits .bf16 < FTy.bits .f32)
    (h0 : (⟨0, ![]⟩ : Shape).BroadcastsInDim s (![] : Fin 0 → Fin s.rank)) (i : s.Idx)
    (h : cmpf .olt (Host.absf (extf .f32 x hb)) (broadcastInDim s ![] h0 (constant (F := Ideal) ⟨0, ![]⟩ .f32 0x7F800000#32)) i = 1#1) :
    ∃ r : ℝ, x i = ((r : ℝ) : EReal) := by
  have e : cmpf .olt (Host.absf (extf .f32 x hb)) (broadcastInDim s ![] h0 (constant (F := Ideal) ⟨0, ![]⟩ .f32 0x7F800000#32)) i
      = BitVec.ofBool (decide (max (x i) (-(x i)) < Ideal.ofBits .f32 0x7F800000#32)) := by
    pointwise
    rfl
  rw [e, ofBits_top] at h
  refine real_of_abs ?_
  by_contra hn
  rw [decide_eq_false hn] at h
  exact absurd h (by decide)

/-- The arguments' elements are real numbers. -/
theorem real (x0 x3 : FVec Ideal Pre_finite.S8448x2048 .bf16) (x1 x2 : FVec Ideal Pre_finite.S8448x512 .bf16)
    (h : Cert.Pre_finite.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) := by
  have hs : Subsingleton Pre_finite.S_.Idx := ⟨fun a b => funext fun k => k.elim0⟩
  have h := congrFun h (fun k => k.elim0)
  unfold Cert.Pre_finite.fn Cert.Pre_finite.fn_part1 at h
  dsimp only at h
  obtain ⟨h, h3⟩ := and_one _ _ h
  obtain ⟨h, h2⟩ := and_one _ _ h
  obtain ⟨h0, h1⟩ := and_one _ _ h
  exact ⟨fun i => cmp_at x0 _ _ i (Host.reduce_andi_all _ _ _ _ _ h0 i), fun i => cmp_at x1 _ _ i (Host.reduce_andi_all _ _ _ _ _ h1 i),
    fun i => cmp_at x2 _ _ i (Host.reduce_andi_all _ _ _ _ _ h2 i), fun i => cmp_at x3 _ _ i (Host.reduce_andi_all _ _ _ _ _ h3 i)⟩

/-- The table of a matrix of real numbers. -/
theorem table {R C : ℕ} (x : (⟨2, ![R, C]⟩ : Shape).Idx → EReal) (h : ∀ i, ∃ r : ℝ, x i = ((r : ℝ) : EReal)) :
    ∃ f : ℕ → ℕ → ℝ, ∀ (r : Fin R) (j : Fin C), x (ix2 r j) = ((f r j : ℝ) : EReal) := by
  classical
  refine ⟨fun r j => if h' : r < R ∧ j < C then (x (ix2 ⟨r, h'.1⟩ ⟨j, h'.2⟩)).toReal else 0, fun r j => ?_⟩
  obtain ⟨y, hy⟩ := h (ix2 r j)
  show x (ix2 r j) = (((if h' : r.val < R ∧ j.val < C then (x (ix2 ⟨r, h'.1⟩ ⟨j, h'.2⟩)).toReal else 0 : ℝ)) : EReal)
  rw [dif_pos (⟨r.isLt, j.isLt⟩ : r.val < R ∧ j.val < C), hy]
  rfl

/-- The mask of the first result selects columns of latent queries. -/
theorem mask (x0 x3 : FVec Ideal On_written.S8448x2048 .bf16) (x1 x2 : FVec Ideal On_written.S8448x512 .bf16) (r : Fin 2048) (j : Fin 8448)
    (h : (Cert.On_written.fn (F := Ideal) x0 x1 x2 x3).1 (ix2 r j) = 1#1) : j.val < 8192 := by
  have e : (Cert.On_written.fn (F := Ideal) x0 x1 x2 x3).1 (ix2 r j)
      = BitVec.ofBool ((BitVec.ofNat 32 j.val).slt 8192#32) := rfl
  rw [e] at h
  by_contra hn
  have hj := j.isLt
  have : (BitVec.ofNat 32 j.val).slt 8192#32 = false := by
    rw [BitVec.slt, decide_eq_false]
    rw [BitVec.toInt_eq_toNat_of_lt (by simp only [BitVec.toNat_ofNat]; omega), BitVec.toInt_eq_toNat_of_lt (by decide)]
    simp only [BitVec.toNat_ofNat]
    omega
  rw [this] at h
  exact absurd h (by decide)

end Cert.GqaPre

end
-- ==== Proof.GqaClaims.lean ====
/-
  The claims of the attention's gradient: the frames, the constants named, and the three results' equality with the
  reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.GqaArrays
public import proofs.«01_k».proof.Proof.GqaHostOut
public import proofs.«01_k».proof.Proof.GqaHostLse
public import proofs.«01_k».proof.Proof.GqaRefOut
public import proofs.«01_k».proof.Proof.GqaPre
public import Idealize.ShloMosaic.Adequacy
public import Idealize.ShloMosaic.Init

@[expose] public section

set_option maxRecDepth 16384

noncomputable section

namespace Cert.GqaClaims

open Idealize.ShloMosaic Idealize.ShloMosaic.TcCoe Idealize.SL.Sem Cert.KernelIdeal Cert.KernelIdeal.Gen Cert.Numbers
open Cert.GqaHost Cert.GqaPoint Cert.GqaArrays

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  ⟨IdealRules.named_const.statement Cert.KernelIdeal.κ "scale_log2e" .f32 0x3E0293EE#32 _ rfl,
   IdealRules.named_const.statement Cert.KernelIdeal.κ "log2e" .f32 0x3FB8AA3B#32 _ rfl⟩

section Values

variable (m : (ℓ : Loc nD τ sig) → Buf (Elt Ideal) ℓ) (c : Dev nD)

abbrev a0 : (⟨S8448x2048, .bf16⟩ : BufTy).Contents (Elt Ideal) := m ((c : Thread nD τ).loc main_arg0)
abbrev a1 : (⟨S8448x512, .bf16⟩ : BufTy).Contents (Elt Ideal) := m ((c : Thread nD τ).loc main_arg1)
abbrev a2 : (⟨S8448x512, .bf16⟩ : BufTy).Contents (Elt Ideal) := m ((c : Thread nD τ).loc main_arg2)
abbrev a3 : (⟨S8448x2048, .bf16⟩ : BufTy).Contents (Elt Ideal) := m ((c : Thread nD τ).loc main_arg3)

/-- Arguments of real numbers give the call the arrays its gradient is worked out from. -/
theorem given {q k v w : ℕ → ℕ → ℝ} (hq : ∀ (r : Fin 8448) (j : Fin 2048), a0 m c (ix2 r j) = ((q r j : ℝ) : EReal))
    (hk : ∀ (r : Fin 8448) (j : Fin 512), a1 m c (ix2 r j) = ((k r j : ℝ) : EReal))
    (hv : ∀ (r : Fin 8448) (j : Fin 512), a2 m c (ix2 r j) = ((v r j : ℝ) : EReal))
    (hw : ∀ (r : Fin 8448) (j : Fin 2048), a3 m c (ix2 r j) = ((w r j : ℝ) : EReal)) :
    Given m c q k v w (mx (a0 m c) (a1 m c)) where
  hqT r j := (congrFun (V_v30 m c) _).trans ((v30_at j r).trans (hq j r))
  hq r j := (congrFun (V_main_arg0 m c) _).trans (hq r j)
  hk r j := (congrFun (V_main_arg1 m c) _).trans (hk r j)
  hkT r j := (congrFun (V_v31 m c) _).trans ((v31_at j r).trans (hk j r))
  hv r j := (congrFun (V_main_arg2 m c) _).trans (hv r j)
  hwT r j := (congrFun (V_v32 m c) _).trans ((v32_at j r).trans (hw j r))
  hw r j := (congrFun (V_main_arg3 m c) _).trans (hw r j)
  ho r j hj := (congrFun (V_v28 m c) _).trans (v28_at hq hk hv j r hj)
  hlse r j hj := (congrFun (V_v29 m c) _).trans (v29_at hq hk j r hj)

end Values

/-- The elements of the three results, the kernel's and the reference's. -/
theorem values (m : (ℓ : Loc nD τ sig) → Buf (Elt Ideal) ℓ) (c : Dev nD) (h : Cert.Pre_KernelIdeal_finite m) :
    (∀ (r : Fin 2048) (j : Fin 8448), j.val < 8192 → Cert.ReferenceIdeal.Read.val_main_v78 (F := Ideal) (a0 m c) (a1 m c) (a2 m c) (a3 m c) (ix2 r j)
        = (dats m 0 c).arrAt 9 cfg0.N (ix2 r j))
      ∧ (∀ (r : Fin 8448) (j : Fin 512), Cert.ReferenceIdeal.Read.val_main_v74 (F := Ideal) (a0 m c) (a1 m c) (a2 m c) (a3 m c) (ix2 r j)
        = (dats m 0 c).arrAt 10 cfg0.N (ix2 r j))
      ∧ (∀ (r : Fin 8448) (j : Fin 512), Cert.ReferenceIdeal.Read.val_main_v73 (F := Ideal) (a0 m c) (a1 m c) (a3 m c) (ix2 r j)
        = (dats m 0 c).arrAt 11 cfg0.N (ix2 r j)) := by
  obtain ⟨h0, h1, h2, h3⟩ := Cert.GqaPre.real _ _ _ _ (h c)
  obtain ⟨q, hq⟩ := Cert.GqaPre.table (R := 8448) (C := 2048) (a0 m c) h0
  obtain ⟨k, hk⟩ := Cert.GqaPre.table (R := 8448) (C := 512) (a1 m c) h1
  obtain ⟨v, hv⟩ := Cert.GqaPre.table (R := 8448) (C := 512) (a2 m c) h2
  obtain ⟨w, hw⟩ := Cert.GqaPre.table (R := 8448) (C := 2048) (a3 m c) h3
  have G := given m c hq hk hv hw
  exact ⟨fun r j hj => (Cert.GqaRef.v78_at hq hk hv hw j r hj).trans (final9 G r j hj).symm,
    fun r j => (Cert.GqaRef.v74_at hq hk hv hw r j).trans (final10 G r j).symm,
    fun r j => (Cert.GqaRef.v73_at hq hk hw r j).trans (final11 G r j).symm⟩

theorem algebraic : Cert.algebraic_KernelIdeal_ReferenceIdeal_on_written_pre_finite := by
  intro m g m' g' hpre ha
  refine ⟨fun c => (dats m 0 c).arrAt 9 cfg0.N, fun c => (dats m 0 c).arrAt 10 cfg0.N, fun c => (dats m 0 c).arrAt 11 cfg0.N, ?_, ?_⟩
  · refine (θ_run Cert.KernelIdeal.defs _ _).mono (fun r h c => ?_) (Cert.KernelIdeal.Value.run_blocks m g)
    obtain ⟨e0, e1, e2, ek⟩ := h c
    exact ⟨fun i _ => congrFun e0 i, fun i _ => congrFun e1 i, fun i _ => congrFun e2 i, ek⟩
  · refine (θ_run Cert.ReferenceIdeal.defs _ _).mono (fun r h c => ?_) (Cert.ReferenceIdeal.Value.run (F := Ideal) m' g')
    obtain ⟨e0, e1, e2, ek⟩ := h c
    obtain ⟨u0, u1, u2, u3⟩ := ha c
    obtain ⟨w0, w1, w2⟩ := values m c hpre
    refine ⟨fun i hi => ?_, fun i _ => ?_, fun i _ => ?_, ek⟩
    · rw [e0, Cert.ReferenceIdeal.Read.val_main_v78_eq, u0, u1, u2, u3]
      rw [eq_ix2 i] at hi ⊢
      exact w0 _ _ (Cert.GqaPre.mask _ _ _ _ _ _ hi)
    · rw [e1, Cert.ReferenceIdeal.Read.val_main_v74_eq, u0, u1, u2, u3]
      rw [eq_ix2 i]
      exact w1 _ _
    · rw [e2, Cert.ReferenceIdeal.Read.val_main_v73_eq, u0, u1, u3]
      rw [eq_ix2 i]
      exact w2 _ _

end Cert.GqaClaims

end
-- ==== Proof.MlaBlocks.lean ====
/-
  The blocks a grid point of the latent attention's gradient is given: each element of a window's block is an element of
  the window's array.
-/
module

public import proofs.«01_k».proof.Proof.Gen.MlaIdeal.Value
public import proofs.«01_k».proof.Proof.GqaBlocks

@[expose] public section

set_option maxRecDepth 16384

noncomputable section

namespace Cert.MlaBlocks

open Idealize.ShloMosaic Idealize.ShloMosaic.TcCoe Cert.MlaIdeal Cert.MlaIdeal.Gen
open Cert.GqaBlocks (at2 at2' at3')

/-! ### Which block each window is on, over the grid: head `t / 88`, queries `t / 11 % 8`, keys `t % 11` -/

theorem idx0 : ∀ t : Fin grid0.N, win0_0.index t 0 = t.val / 88 ∧ win0_0.index t 1 = 0 ∧ win0_0.index t 2 = t.val / 11 % 8 := by decide +kernel
theorem idx1 : ∀ t : Fin grid0.N, win0_1.index t 0 = t.val / 88 ∧ win0_1.index t 1 = t.val / 11 % 8 ∧ win0_1.index t 2 = 0 := by decide +kernel
theorem idx2 : ∀ t : Fin grid0.N, win0_2.index t 0 = t.val / 88 ∧ win0_2.index t 1 = t.val % 11 ∧ win0_2.index t 2 = 0 := by decide +kernel
theorem idx3 : ∀ t : Fin grid0.N, win0_3.index t 0 = t.val / 88 ∧ win0_3.index t 1 = 0 ∧ win0_3.index t 2 = t.val % 11 := by decide +kernel
theorem idx4 : ∀ t : Fin grid0.N, win0_4.index t 0 = t.val % 11 ∧ win0_4.index t 1 = t.val / 88 := by decide +kernel
theorem idx5 : ∀ t : Fin grid0.N, win0_5.index t 0 = t.val / 88 ∧ win0_5.index t 1 = t.val / 11 % 8 := by decide +kernel
theorem idx6 : ∀ t : Fin grid0.N, win0_6.index t 0 = t.val / 11 % 8 ∧ win0_6.index t 1 = t.val / 88 := by decide +kernel
theorem idx7 : ∀ t : Fin grid0.N, win0_7.index t 0 = t.val / 88 ∧ win0_7.index t 1 = t.val / 11 % 8 := by decide +kernel
theorem idx8 : ∀ t : Fin grid0.N, win0_8.index t 0 = t.val / 88 ∧ win0_8.index t 1 = 0 ∧ win0_8.index t 2 = t.val / 11 % 8 := by decide +kernel
theorem idx9 : ∀ t : Fin grid0.N, win0_9.index t 0 = t.val / 88 ∧ win0_9.index t 1 = 0 ∧ win0_9.index t 2 = t.val / 11 % 8 := by decide +kernel
theorem idx10 : ∀ t : Fin grid0.N, win0_10.index t 0 = t.val / 88 ∧ win0_10.index t 1 = 0 ∧ win0_10.index t 2 = 0 := by decide +kernel
theorem idx11 : ∀ t : Fin grid0.N, win0_11.index t 0 = 0 ∧ win0_11.index t 1 = t.val / 88 := by decide +kernel
/-- The rows of the resident gradients a point adds to. -/
theorem off1 : ∀ t : Fin grid0.N, k0_off1 (grid0.coords t) 0 = 768 * (t.val % 11) ∧ k0_off1 (grid0.coords t) 1 = 0 := by decide +kernel
theorem off2 : ∀ t : Fin grid0.N, k0_off2 (grid0.coords t) 0 = 0 ∧ k0_off2 (grid0.coords t) 1 = 768 * (t.val % 11) ∧ k0_off2 (grid0.coords t) 2 = 0 := by
  decide +kernel

variable (m : (ℓ : Loc nD τ sig) → Buf (Elt Ideal) ℓ) (c : Dev nD)

/-- A stack of matrices read at an index known by its three coordinates' values. -/
theorem at3 {A R C : ℕ} {f : ℕ → ℕ → ℕ → ℝ} {X : (⟨3, ![A, R, C]⟩ : Shape).Idx → EReal}
    (hX : ∀ (h : Fin A) (r : Fin R) (j : Fin C), X (ix3 h r j) = ((f h r j : ℝ) : EReal))
    (i : (⟨3, ![A, R, C]⟩ : Shape).Idx) {h r j : ℕ} (hh : (i 0).val = h) (hr : (i 1).val = r) (hj : (i 2).val = j) : X i = ((f h r j : ℝ) : EReal) := by
  subst hh hr hj
  refine Eq.trans (congrArg X ?_) (hX (i 0) (i 1) (i 2))
  funext a
  match a with
  | ⟨0, _⟩ => rfl
  | ⟨1, _⟩ => rfl
  | ⟨2, _⟩ => rfl

/-! ### The input blocks, an element at a time: a stack's -/

section
variable {f : ℕ → ℕ → ℕ → ℝ}

theorem blk0 (hX : ∀ (h : Fin 16) (r : Fin 192) (j : Fin 8448), V m c main_v34 (ix3 h r j) = ((f h r j : ℝ) : EReal)) (t : Fin cfg0.N)
    (y : Fin 192) (x : Fin 1024) : X0_0 m c t (ix3 0 y x) = ((f (t.val / 88) (y) (t.val / 11 % 8 * 1024 + x) : ℝ) : EReal) := by
  unfold X0_0 Pipeline.Window.fill
  rw [dif_pos (moved0_0 t _)]
  unfold iblk
  rw [View.read_apply]
  refine at3 hX _ ?_ ?_ ?_
  · exact (win0_0.rect_emb_val t _ 0).trans ((congrArg (· * 1 + 0) (idx0 t).1).trans (show t.val / 88 * 1 + 0 = t.val / 88 by omega))
  · exact (win0_0.rect_emb_val t _ 1).trans ((congrArg (· * 192 + y.val) (idx0 t).2.1).trans (show 0 * 192 + y.val = y.val by omega))
  · exact (win0_0.rect_emb_val t _ 2).trans (congrArg (· * 1024 + x.val) (idx0 t).2.2)

theorem blk1 (hX : ∀ (h : Fin 16) (r : Fin 8448) (j : Fin 192), V m c main_arg0 (ix3 h r j) = ((f h r j : ℝ) : EReal)) (t : Fin cfg0.N)
    (y : Fin 1024) (x : Fin 192) : X0_1 m c t (ix3 0 y x) = ((f (t.val / 88) (t.val / 11 % 8 * 1024 + y) (x) : ℝ) : EReal) := by
  unfold X0_1 Pipeline.Window.fill
  rw [dif_pos (moved0_1 t _)]
  unfold iblk
  rw [View.read_apply]
  refine at3 hX _ ?_ ?_ ?_
  · exact (win0_1.rect_emb_val t _ 0).trans ((congrArg (· * 1 + 0) (idx1 t).1).trans (show t.val / 88 * 1 + 0 = t.val / 88 by omega))
  · exact (win0_1.rect_emb_val t _ 1).trans (congrArg (· * 1024 + y.val) (idx1 t).2.1)
  · exact (win0_1.rect_emb_val t _ 2).trans ((congrArg (· * 192 + x.val) (idx1 t).2.2).trans (show 0 * 192 + x.val = x.val by omega))

theorem blk2 (hX : ∀ (h : Fin 16) (r : Fin 8448) (j : Fin 192), V m c main_arg1 (ix3 h r j) = ((f h r j : ℝ) : EReal)) (t : Fin cfg0.N)
    (y : Fin 768) (x : Fin 192) : iblk m c 2 t (ix3 0 y x) = ((f (t.val / 88) (t.val % 11 * 768 + y) (x) : ℝ) : EReal) := by
  unfold iblk
  rw [View.read_apply]
  refine at3 hX _ ?_ ?_ ?_
  · exact (win0_2.rect_emb_val t _ 0).trans ((congrArg (· * 1 + 0) (idx2 t).1).trans (show t.val / 88 * 1 + 0 = t.val / 88 by omega))
  · exact (win0_2.rect_emb_val t _ 1).trans (congrArg (· * 768 + y.val) (idx2 t).2.1)
  · exact (win0_2.rect_emb_val t _ 2).trans ((congrArg (· * 192 + x.val) (idx2 t).2.2).trans (show 0 * 192 + x.val = x.val by omega))

theorem blk3 (hX : ∀ (h : Fin 16) (r : Fin 192) (j : Fin 8448), V m c main_v35 (ix3 h r j) = ((f h r j : ℝ) : EReal)) (t : Fin cfg0.N)
    (y : Fin 192) (x : Fin 768) : iblk m c 3 t (ix3 0 y x) = ((f (t.val / 88) (y) (t.val % 11 * 768 + x) : ℝ) : EReal) := by
  unfold iblk
  rw [View.read_apply]
  refine at3 hX _ ?_ ?_ ?_
  · exact (win0_3.rect_emb_val t _ 0).trans ((congrArg (· * 1 + 0) (idx3 t).1).trans (show t.val / 88 * 1 + 0 = t.val / 88 by omega))
  · exact (win0_3.rect_emb_val t _ 1).trans ((congrArg (· * 192 + y.val) (idx3 t).2.1).trans (show 0 * 192 + y.val = y.val by omega))
  · exact (win0_3.rect_emb_val t _ 2).trans (congrArg (· * 768 + x.val) (idx3 t).2.2)

end

/-! ### A matrix's -/

variable {f : ℕ → ℕ → ℝ}

theorem blk4 (hX : ∀ (r : Fin 8448) (j : Fin 2048), V m c main_arg2 (ix2 r j) = ((f r j : ℝ) : EReal)) (t : Fin cfg0.N)
    (y : Fin 768) (x : Fin 128) : iblk m c 4 t (ix2 y x) = ((f (t.val % 11 * 768 + y) (t.val / 88 * 128 + x) : ℝ) : EReal) := by
  unfold iblk
  rw [View.read_apply]
  refine at2 hX _ ?_ ?_
  · exact (win0_4.rect_emb_val t _ 0).trans (congrArg (· * 768 + y.val) (idx4 t).1)
  · exact (win0_4.rect_emb_val t _ 1).trans (congrArg (· * 128 + x.val) (idx4 t).2)

theorem blk5 (hX : ∀ (r : Fin 2048) (j : Fin 8448), V m c main_v36 (ix2 r j) = ((f r j : ℝ) : EReal)) (t : Fin cfg0.N)
    (y : Fin 128) (x : Fin 1024) : X0_5 m c t (ix2 y x) = ((f (t.val / 88 * 128 + y) (t.val / 11 % 8 * 1024 + x) : ℝ) : EReal) := by
  unfold X0_5 Pipeline.Window.fill
  rw [dif_pos (moved0_5 t _)]
  unfold iblk
  rw [View.read_apply]
  refine at2 hX _ ?_ ?_
  · exact (win0_5.rect_emb_val t _ 0).trans (congrArg (· * 128 + y.val) (idx5 t).1)
  · exact (win0_5.rect_emb_val t _ 1).trans (congrArg (· * 1024 + x.val) (idx5 t).2)

theorem blk6 (hX : ∀ (r : Fin 8448) (j : Fin 2048), V m c main_arg3 (ix2 r j) = ((f r j : ℝ) : EReal)) (t : Fin cfg0.N)
    (y : Fin 1024) (x : Fin 128) : X0_6 m c t (ix2 y x) = ((f (t.val / 11 % 8 * 1024 + y) (t.val / 88 * 128 + x) : ℝ) : EReal) := by
  unfold X0_6 Pipeline.Window.fill
  rw [dif_pos (moved0_6 t _)]
  unfold iblk
  rw [View.read_apply]
  refine at2 hX _ ?_ ?_
  · exact (win0_6.rect_emb_val t _ 0).trans (congrArg (· * 1024 + y.val) (idx6 t).1)
  · exact (win0_6.rect_emb_val t _ 1).trans (congrArg (· * 128 + x.val) (idx6 t).2)

theorem blk7 (hX : ∀ (r : Fin 2048) (j : Fin 8448), j.val < 8192 → V m c main_v32 (ix2 r j) = ((f r j : ℝ) : EReal)) (t : Fin cfg0.N)
    (y : Fin 128) (x : Fin 1024) : X0_7 m c t (ix2 y x) = ((f (t.val / 88 * 128 + y) (t.val / 11 % 8 * 1024 + x) : ℝ) : EReal) := by
  unfold X0_7 Pipeline.Window.fill
  rw [dif_pos (moved0_7 t _)]
  unfold iblk
  rw [View.read_apply]
  refine at2' hX _ ?_ ?_ ?_
  · exact (win0_7.rect_emb_val t _ 0).trans (congrArg (· * 128 + y.val) (idx7 t).1)
  · exact (win0_7.rect_emb_val t _ 1).trans (congrArg (· * 1024 + x.val) (idx7 t).2)
  · omega

theorem blk8 (hX : ∀ (r : Fin 16) (j : Fin 8448), j.val < 8192 → V m c main_v33 (ix3 r 0 j) = ((f r j : ℝ) : EReal)) (t : Fin cfg0.N)
    (x : Fin 1024) : X0_8 m c t (ix3 0 0 x) = ((f (t.val / 88) (t.val / 11 % 8 * 1024 + x) : ℝ) : EReal) := by
  unfold X0_8 Pipeline.Window.fill
  rw [dif_pos (moved0_8 t _)]
  unfold iblk
  rw [View.read_apply]
  refine at3' hX _ ?_ ?_ ?_
  · exact (win0_8.rect_emb_val t _ 0).trans ((congrArg (· * 1 + 0) (idx8 t).1).trans (by omega))
  · exact (win0_8.rect_emb_val t _ 2).trans (congrArg (· * 1024 + x.val) (idx8 t).2.2)
  · omega

end Cert.MlaBlocks

end
-- ==== Proof.MlaStep.lean ====
/-
  What one grid point of the call leaves in each buffer it carries — the two resident gradients, the query's gradient and
  the row sums — as the stored values of the body over what the point before left.
-/
module

public import proofs.«01_k».proof.Proof.Gen.MlaIdeal.Value
public import Idealize.ShloMosaic.Lib.VecWindow
public import Idealize.ShloMosaic.Lib.WholeRead

@[expose] public section

set_option maxRecDepth 16384
set_option maxHeartbeats 1000000

noncomputable section

namespace Cert.MlaStep

open Idealize.ShloMosaic Idealize.ShloMosaic.TcCoe Idealize.ShloMosaic.Tactic Cert.MlaIdeal Cert.MlaIdeal.Gen

variable {F : FTy → Type} [FloatOps F] [Named F]
variable (m : (ℓ : Loc nD τ sig) → Buf (Elt F) ℓ) (c : Dev nD)

/-! ### Loads and stores of a whole buffer and of a stretch of rows -/

section Memory
variable {s : Shape} {e : EltTy} (M : Memref sig .tc .vmem s e) (h : M.IsWhole)

/-- A load of the whole of a buffer that holds `X`. -/
theorem rd (X : s.Idx → Elt F e) {off : Fin s.rank → ℕ} (inb : ∀ a, off a + s.size a ≤ s.size a) :
    View.readAt (Elt F) M.view (Rect.unit off s.size inb).toLoadRect (h.unread X) = X :=
  (View.readAt_full _ _ _).trans (h.read_unread X)

/-- A load of a stretch of a buffer that holds `X`. -/
theorem rdw (X : s.Idx → Elt F e) {off size : Fin s.rank → ℕ} (inb : ∀ a, off a + size a ≤ s.size a) :
    View.readAt (Elt F) M.view (Rect.unit off size inb).toLoadRect (h.unread X) = VecWindow.window X off size inb := by
  rw [View.readAt_unit _ _ _ rfl, h.read_unread]

/-- A buffer that held `X` after one store of a stretch of it. -/
theorem wr (X : s.Idx → Elt F e) {off size : Fin s.rank → ℕ} (inb : ∀ a, off a + size a ≤ s.size a)
    (p p' : (Rect.unit off size inb).shape.Idx → Elt F e) (hp : p = p') :
    View.read (Elt F) M.view (M.view.writes (Elt F) (h.unread X) [⟨Rect.unit off size inb, p⟩]) = VecWindow.put X off size p' := by
  subst hp
  rw [View.read_writes_cons_put _ _ _ _ _ rfl, View.writes_nil, h.read_unread]

/-- A load of a stretch of a buffer that was just stored whole. -/
theorem rdw_full (f : M.view.ty.Contents (Elt F)) {off0 : Fin s.rank → ℕ} (inb0 : ∀ a, off0 a + s.size a ≤ s.size a)
    (p : (Rect.unit off0 s.size inb0).shape.Idx → Elt F e) {off size : Fin s.rank → ℕ} (inb : ∀ a, off a + size a ≤ s.size a) :
    View.readAt (Elt F) M.view (Rect.unit off size inb).toLoadRect (M.view.writes (Elt F) f [⟨Rect.unit off0 s.size inb0, p⟩])
      = VecWindow.window (s := s) p off size inb := by
  rw [View.readAt_unit _ _ _ rfl, View.read_writes_full]

/-- A buffer after a store of the whole and then one of a stretch. -/
theorem wr_full (v : View sig .tc .vmem s e) (f : v.ty.Contents (Elt F)) {off0 : Fin s.rank → ℕ} (inb0 : ∀ a, off0 a + s.size a ≤ s.size a)
    (p0 : (Rect.unit off0 s.size inb0).shape.Idx → Elt F e) {off size : Fin s.rank → ℕ} (inb : ∀ a, off a + size a ≤ s.size a)
    (p p' : (Rect.unit off size inb).shape.Idx → Elt F e) (hp : p = p') :
    View.read (Elt F) v (v.writes (Elt F) f [⟨Rect.unit off size inb, p⟩, ⟨Rect.unit off0 s.size inb0, p0⟩])
      = VecWindow.put (s := s) p0 off size p' := by
  subst hp
  rw [View.read_writes_cons_put _ _ _ _ _ rfl, View.read_writes_full]

end Memory

/-- The point before. -/
abbrev prev (t : Fin cfg0.N) := outsAt0 m c (t.val - 1) (Nat.lt_of_le_of_lt (Nat.sub_le _ _) t.isLt)

/-- The recomputed probabilities of a point. -/
abbrev probs (t : Fin cfg0.N) := k0_pay8 (iblk m c 2 t) (X0_0 m c t) (X0_8 m c t)

/-- A point's key gradient over what was there (`acc`), with the row sums `de`. -/
abbrev dkStep (t : Fin cfg0.N) (acc : Vec F S1x8448x192 .f32) (de : Vec F S1x1024 .f32) : Vec F S1x8448x192 .f32 :=
  VecWindow.put (s := S1x8448x192) acc (k0_off2 (grid0.coords t)) S1x768x192.size
    (k0_pay13 (k0_pay5 (X0_5 m c t)) (probs m c t) (iblk m c 4 t) de
      (VecWindow.window (s := S1x8448x192) acc (k0_off2 (grid0.coords t)) S1x768x192.size (k0_off2_inb (grid0.coords t))) (X0_1 m c t))

/-- A point's value gradient over what was there (`acc`). -/
abbrev dvStep (t : Fin cfg0.N) (acc : Vec F S8448x128 .f32) : Vec F S8448x128 .f32 :=
  VecWindow.put (s := S8448x128) acc (k0_off1 (grid0.coords t)) S768x128.size
    (k0_pay11 (k0_pay9 (VecWindow.window (s := S8448x128) acc (k0_off1 (grid0.coords t)) S768x128.size (k0_off1_inb (grid0.coords t))))
      (k0_pay10 (iblk m c 2 t) (X0_0 m c t) (X0_8 m c t)) (X0_6 m c t))

/-- A point's query gradient over what was there (`acc`), with the row sums `de`. -/
abbrev dqStep (t : Fin cfg0.N) (acc : Vec F S192x1024 .f32) (de : Vec F S1x1024 .f32) : Vec F S192x1024 .f32 :=
  k0_pay1 (k0_pay14 (k0_pay5 (X0_5 m c t)) (probs m c t) (iblk m c 4 t) de acc (iblk m c 3 t))

theorem pay13_congr {a a' b b' c c' d d' e e' f f'} (ha : a = a') (hb : b = b') (hc : c = c') (hd : d = d') (he : e = e') (hf : f = f') :
    k0_pay13 (F := F) a b c d e f = k0_pay13 a' b' c' d' e' f' := by subst ha hb hc hd he hf; rfl
theorem pay14_congr {a a' b b' c c' d d' e e' f f'} (ha : a = a') (hb : b = b') (hc : c = c') (hd : d = d') (he : e = e') (hf : f = f') :
    k0_pay14 (F := F) a b c d e f = k0_pay14 a' b' c' d' e' f' := by subst ha hb hc hd he hf; rfl
theorem pay8_congr {a a' b b' c c'} (ha : a = a') (hb : b = b') (hc : c = c') : k0_pay8 (F := F) a b c = k0_pay8 a' b' c' := by
  subst ha hb hc; rfl
theorem pay10_congr {a a' b b' c c'} (ha : a = a') (hb : b = b') (hc : c = c') : k0_pay10 (F := F) a b c = k0_pay10 a' b' c' := by
  subst ha hb hc; rfl
theorem pay11_congr {a a' b b' c c'} (ha : a = a') (hb : b = b') (hc : c = c') : k0_pay11 (F := F) a b c = k0_pay11 a' b' c' := by
  subst ha hb hc; rfl
theorem pay6_congr {a a' b b'} (ha : a = a') (hb : b = b') : k0_pay6 (F := F) a b = k0_pay6 a' b' := by subst ha hb; rfl

/-! ### A point at a middle block of keys -/

theorem dk_B (t : Fin cfg0.N) (h0 : ¬t.val % 88 = 0) (h1 : ¬t.val % 11 = 0) (h2 : ¬t.val % 11 = 10) :
    (outsAt0 m c t.val t.isLt).2.1 = dkStep m c t (prev m c t).2.1 (prev m c t).2.2.2.2 := by
  rw [outsAt0_B m c t h0 h1 h2]
  dsimp only
  unfold out0_B_10
  unfold kernelRun0_B
  dsimp only
  sl_unfold_words
  refine wr _ _ _ _ _ _ (pay13_congr (congrArg _ (rd _ _ _ _)) (pay8_congr (rd _ _ _ _) (rd _ _ _ _) (rd _ _ _ _)) (rd _ _ _ _) (rd _ _ _ _) (rdw _ _ _ _) (rd _ _ _ _))

theorem dv_B (t : Fin cfg0.N) (h0 : ¬t.val % 88 = 0) (h1 : ¬t.val % 11 = 0) (h2 : ¬t.val % 11 = 10) :
    (outsAt0 m c t.val t.isLt).2.2.1 = dvStep m c t (prev m c t).2.2.1 := by
  rw [outsAt0_B m c t h0 h1 h2]
  dsimp only
  unfold out0_B_11
  unfold kernelRun0_B
  dsimp only
  sl_unfold_words
  refine wr _ _ _ _ _ _ (pay11_congr (congrArg _ (rdw _ _ _ _)) (pay10_congr (rd _ _ _ _) (rd _ _ _ _) (rd _ _ _ _)) (rd _ _ _ _))

theorem dq_B (t : Fin cfg0.N) (h0 : ¬t.val % 88 = 0) (h1 : ¬t.val % 11 = 0) (h2 : ¬t.val % 11 = 10) :
    (outsAt0 m c t.val t.isLt).2.2.2.1 = dqStep m c t (prev m c t).2.2.2.1 (prev m c t).2.2.2.2 := by
  rw [outsAt0_B m c t h0 h1 h2]
  dsimp only
  unfold sout0_B_0
  unfold kernelRun0_B
  dsimp only
  sl_unfold_words
  refine (View.read_writes_full _ _ _ _ _).trans (congrArg _ (pay14_congr (congrArg _ (rd _ _ _ _)) (pay8_congr (rd _ _ _ _) (rd _ _ _ _) (rd _ _ _ _)) (rd _ _ _ _) (rd _ _ _ _) (rd _ _ _ _) (rd _ _ _ _)))

theorem delta_B (t : Fin cfg0.N) (h0 : ¬t.val % 88 = 0) (h1 : ¬t.val % 11 = 0) (h2 : ¬t.val % 11 = 10) :
    (outsAt0 m c t.val t.isLt).2.2.2.2 = (prev m c t).2.2.2.2 := by
  rw [outsAt0_B m c t h0 h1 h2]
  dsimp only
  unfold sout0_B_1
  rfl

/-! ### A point at the last block of keys -/

theorem dk_C (t : Fin cfg0.N) (h0 : ¬t.val % 88 = 0) (h1 : ¬t.val % 11 = 0) (h2 : t.val % 11 = 10) :
    (outsAt0 m c t.val t.isLt).2.1 = dkStep m c t (prev m c t).2.1 (prev m c t).2.2.2.2 := by
  rw [outsAt0_C m c t h0 h1 h2]
  dsimp only
  unfold out0_C_10
  unfold kernelRun0_C
  dsimp only
  sl_unfold_words
  refine wr _ _ _ _ _ _ (pay13_congr (congrArg _ (rd _ _ _ _)) (pay8_congr (rd _ _ _ _) (rd _ _ _ _) (rd _ _ _ _)) (rd _ _ _ _) (rd _ _ _ _) (rdw _ _ _ _) (rd _ _ _ _))

theorem dv_C (t : Fin cfg0.N) (h0 : ¬t.val % 88 = 0) (h1 : ¬t.val % 11 = 0) (h2 : t.val % 11 = 10) :
    (outsAt0 m c t.val t.isLt).2.2.1 = dvStep m c t (prev m c t).2.2.1 := by
  rw [outsAt0_C m c t h0 h1 h2]
  dsimp only
  unfold out0_C_11
  unfold kernelRun0_C
  dsimp only
  sl_unfold_words
  refine wr _ _ _ _ _ _ (pay11_congr (congrArg _ (rdw _ _ _ _)) (pay10_congr (rd _ _ _ _) (rd _ _ _ _) (rd _ _ _ _)) (rd _ _ _ _))

theorem dq_C (t : Fin cfg0.N) (h0 : ¬t.val % 88 = 0) (h1 : ¬t.val % 11 = 0) (h2 : t.val % 11 = 10) :
    (outsAt0 m c t.val t.isLt).2.2.2.1 = dqStep m c t (prev m c t).2.2.2.1 (prev m c t).2.2.2.2 := by
  rw [outsAt0_C m c t h0 h1 h2]
  dsimp only
  unfold sout0_C_0
  unfold kernelRun0_C
  dsimp only
  sl_unfold_words
  refine (View.read_writes_full _ _ _ _ _).trans (congrArg _ (pay14_congr (congrArg _ (rd _ _ _ _)) (pay8_congr (rd _ _ _ _) (rd _ _ _ _) (rd _ _ _ _)) (rd _ _ _ _) (rd _ _ _ _) (rd _ _ _ _) (rd _ _ _ _)))

theorem delta_C (t : Fin cfg0.N) (h0 : ¬t.val % 88 = 0) (h1 : ¬t.val % 11 = 0) (h2 : t.val % 11 = 10) :
    (outsAt0 m c t.val t.isLt).2.2.2.2 = (prev m c t).2.2.2.2 := by
  rw [outsAt0_C m c t h0 h1 h2]
  dsimp only
  unfold sout0_C_1
  rfl

/-- At the last block of keys the query's gradient is written out. -/
theorem out_C (t : Fin cfg0.N) (h0 : ¬t.val % 88 = 0) (h1 : ¬t.val % 11 = 0) (h2 : t.val % 11 = 10) :
    (outsAt0 m c t.val t.isLt).1 = k0_pay2 (outsAt0 m c t.val t.isLt).2.2.2.1 := by
  rw [dq_C m c t h0 h1 h2, outsAt0_C m c t h0 h1 h2]
  dsimp only
  unfold out0_C_9
  unfold kernelRun0_C
  dsimp only
  sl_unfold_words
  refine (View.read_writes_full _ _ _ _ _).trans (congrArg _ ((View.readCov_full _ _ _ _ _).trans (congrArg _ (pay14_congr (congrArg _ (rd _ _ _ _)) (pay8_congr (rd _ _ _ _) (rd _ _ _ _) (rd _ _ _ _)) (rd _ _ _ _) (rd _ _ _ _) (rd _ _ _ _) (rd _ _ _ _)))))

/-! ### The first block of keys of a stretch of queries -/

theorem delta_D (t : Fin cfg0.N) (h0 : ¬t.val % 88 = 0) (h1 : t.val % 11 = 0) (h2 : ¬t.val % 11 = 10) :
    (outsAt0 m c t.val t.isLt).2.2.2.2 = k0_pay6 (X0_5 m c t) (X0_7 m c t) := by
  rw [outsAt0_D m c t h0 h1 h2]
  dsimp only
  unfold sout0_D_1
  unfold kernelRun0_D
  dsimp only
  sl_unfold_words
  refine (View.read_writes_full _ _ _ _ _).trans (pay6_congr (rd _ _ _ _) (rd _ _ _ _))

theorem dq_D (t : Fin cfg0.N) (h0 : ¬t.val % 88 = 0) (h1 : t.val % 11 = 0) (h2 : ¬t.val % 11 = 10) :
    (outsAt0 m c t.val t.isLt).2.2.2.1 = dqStep m c t (k0_pay7 (F := F)) (k0_pay6 (X0_5 m c t) (X0_7 m c t)) := by
  rw [outsAt0_D m c t h0 h1 h2]
  dsimp only
  unfold sout0_D_0
  unfold kernelRun0_D
  dsimp only
  sl_unfold_words
  refine (View.read_writes_full _ _ _ _ _).trans (congrArg _ (pay14_congr (congrArg _ (rd _ _ _ _)) (pay8_congr (rd _ _ _ _) (rd _ _ _ _) (rd _ _ _ _)) (rd _ _ _ _) ((View.readCov_full _ _ _ _ _).trans (pay6_congr (rd _ _ _ _) (rd _ _ _ _))) (View.readCov_full _ _ _ _ _) (rd _ _ _ _)))

theorem dk_D (t : Fin cfg0.N) (h0 : ¬t.val % 88 = 0) (h1 : t.val % 11 = 0) (h2 : ¬t.val % 11 = 10) :
    (outsAt0 m c t.val t.isLt).2.1 = dkStep m c t (prev m c t).2.1 (k0_pay6 (X0_5 m c t) (X0_7 m c t)) := by
  rw [outsAt0_D m c t h0 h1 h2]
  dsimp only
  unfold out0_D_10
  unfold kernelRun0_D
  dsimp only
  sl_unfold_words
  refine wr _ _ _ _ _ _ (pay13_congr (congrArg _ (rd _ _ _ _)) (pay8_congr (rd _ _ _ _) (rd _ _ _ _) (rd _ _ _ _)) (rd _ _ _ _) ((View.readCov_full _ _ _ _ _).trans (pay6_congr (rd _ _ _ _) (rd _ _ _ _))) (rdw _ _ _ _) (rd _ _ _ _))

theorem dv_D (t : Fin cfg0.N) (h0 : ¬t.val % 88 = 0) (h1 : t.val % 11 = 0) (h2 : ¬t.val % 11 = 10) :
    (outsAt0 m c t.val t.isLt).2.2.1 = dvStep m c t (prev m c t).2.2.1 := by
  rw [outsAt0_D m c t h0 h1 h2]
  dsimp only
  unfold out0_D_11
  unfold kernelRun0_D
  dsimp only
  sl_unfold_words
  refine wr _ _ _ _ _ _ (pay11_congr (congrArg _ (rdw _ _ _ _)) (pay10_congr (rd _ _ _ _) (rd _ _ _ _) (rd _ _ _ _)) (rd _ _ _ _))

/-! ### The first point of a head -/

theorem delta_A (t : Fin cfg0.N) (h0 : t.val % 88 = 0) (h1 : t.val % 11 = 0) (h2 : ¬t.val % 11 = 10) :
    (outsAt0 m c t.val t.isLt).2.2.2.2 = k0_pay6 (X0_5 m c t) (X0_7 m c t) := by
  rw [outsAt0_A m c t h0 h1 h2]
  dsimp only
  unfold sout0_A_1
  unfold kernelRun0_A
  dsimp only
  sl_unfold_words
  refine (View.read_writes_full _ _ _ _ _).trans (pay6_congr (rd _ _ _ _) (rd _ _ _ _))

theorem dq_A (t : Fin cfg0.N) (h0 : t.val % 88 = 0) (h1 : t.val % 11 = 0) (h2 : ¬t.val % 11 = 10) :
    (outsAt0 m c t.val t.isLt).2.2.2.1 = dqStep m c t (k0_pay7 (F := F)) (k0_pay6 (X0_5 m c t) (X0_7 m c t)) := by
  rw [outsAt0_A m c t h0 h1 h2]
  dsimp only
  unfold sout0_A_0
  unfold kernelRun0_A
  dsimp only
  sl_unfold_words
  refine (View.read_writes_full _ _ _ _ _).trans (congrArg _ (pay14_congr (congrArg _ (rd _ _ _ _)) (pay8_congr (rd _ _ _ _) (rd _ _ _ _) (rd _ _ _ _)) (rd _ _ _ _) ((View.readCov_full _ _ _ _ _).trans (pay6_congr (rd _ _ _ _) (rd _ _ _ _))) (View.readCov_full _ _ _ _ _) (rd _ _ _ _)))

theorem dk_A (t : Fin cfg0.N) (h0 : t.val % 88 = 0) (h1 : t.val % 11 = 0) (h2 : ¬t.val % 11 = 10) :
    (outsAt0 m c t.val t.isLt).2.1 = dkStep m c t (k0_pay3 (F := F)) (k0_pay6 (X0_5 m c t) (X0_7 m c t)) := by
  rw [outsAt0_A m c t h0 h1 h2]
  dsimp only
  unfold out0_A_10
  unfold kernelRun0_A
  dsimp only
  sl_unfold_words
  refine wr_full _ _ _ _ _ _ _ (pay13_congr (congrArg _ (rd _ _ _ _)) (pay8_congr (rd _ _ _ _) (rd _ _ _ _) (rd _ _ _ _)) (rd _ _ _ _) ((View.readCov_full _ _ _ _ _).trans (pay6_congr (rd _ _ _ _) (rd _ _ _ _))) (rdw_full _ _ _ _ _) (rd _ _ _ _))

theorem dv_A (t : Fin cfg0.N) (h0 : t.val % 88 = 0) (h1 : t.val % 11 = 0) (h2 : ¬t.val % 11 = 10) :
    (outsAt0 m c t.val t.isLt).2.2.1 = dvStep m c t (k0_pay4 (F := F)) := by
  rw [outsAt0_A m c t h0 h1 h2]
  dsimp only
  unfold out0_A_11
  unfold kernelRun0_A
  dsimp only
  sl_unfold_words
  refine wr_full _ _ _ _ _ _ _ (pay11_congr (congrArg _ (rdw_full _ _ _ _ _)) (pay10_congr (rd _ _ _ _) (rd _ _ _ _) (rd _ _ _ _)) (rd _ _ _ _))

end Cert.MlaStep

end
-- ==== Proof.MlaNumbers.lean ====
/-
  The number by which the latent attention's scores are multiplied, one over the root of the 192 features of a head, as the
  host works it out.
-/
module

public import proofs.«01_k».proof.Proof.Numbers

@[expose] public section

noncomputable section

namespace Cert.MlaNumbers

open Idealize.ShloMosaic

/-- One over the root of 192. -/
abbrev c192 : ℝ := (Real.sqrt 192)⁻¹

theorem ofBits_192 : Ideal.ofBits .f32 0x43400000#32 = ((192 : ℝ) : EReal) := by
  simp [Ideal.ofBits, Ideal.ieee, -EReal.coe_mul]; norm_num

theorem root_ne : Real.sqrt 192 ≠ 0 := (Real.sqrt_pos.mpr (by norm_num)).ne'

/-- The host's quotient of one by the root of 192. -/
theorem scale_eq : Ideal.div (1 : EReal) (Ideal.sqrt (Ideal.ofBits .f32 0x43400000#32)) = ((c192 : ℝ) : EReal) := by
  rw [ofBits_192, Ideal.sqrt_coe, if_neg (by norm_num), ← EReal.coe_one, Cert.Numbers.div_coe root_ne, one_mul]

end Cert.MlaNumbers

end
-- ==== Proof.MlaPay.lean ====
/-
  What one grid point of the latent attention's gradient computes, one stored value at a time, over the real numbers: each
  value the body stores, read at an element, when the blocks it was computed from hold real numbers.
-/
module

public import proofs.«01_k».proof.Proof.Gen.MlaIdeal.Skeleton
public import proofs.«01_k».proof.Proof.Softmax
public import proofs.«01_k».proof.Proof.MlaNumbers
public import Idealize.ShloMosaic.Lib.Pointwise

@[expose] public section

set_option maxRecDepth 16384

noncomputable section

namespace Cert.MlaPay

open Idealize.ShloMosaic Cert.MlaIdeal Cert.MlaIdeal.Gen Cert.Sums Cert.Numbers Cert.MlaNumbers
open scoped BigOperators
open Finset (range)

theorem named_log2e : Named.named (F := Ideal) (φ := .f32) κ "log2e" 0x3FB8AA3B#32 = (((Real.log 2)⁻¹ : ℝ) : EReal) :=
  IdealRules.named_const.ideal_named_scalar _ _ _ _ rfl
theorem named_scale_log2e :
    Named.named (F := Ideal) (φ := .f32) κ "scale_log2e" 0x3DD53B95#32 = ((c192 * (Real.log 2)⁻¹ : ℝ) : EReal) :=
  IdealRules.named_const.ideal_named_scalar _ _ _ _ rfl

theorem named_scale : Named.named (F := Ideal) (φ := .f32) κ "scale" 0x3D93CD3A#32 = ((c192 : ℝ) : EReal) :=
  IdealRules.named_const.ideal_named_scalar _ _ _ _ rfl

variable {kb vb qb wb ob pb db : ℕ → ℕ → ℝ} {ls dl : ℕ → ℝ}

/-- The recomputed probability: a power of two of the scaled score less the saved logarithm. -/
theorem pay8_val (x2 : Vec Ideal S1x768x192 .bf16) (x0 : Vec Ideal S1x192x1024 .bf16) (x8 : Vec Ideal S1x1x1024 .f32)
    (h2 : ∀ (y : Fin 768) (d : Fin 192), x2 (ix3 0 y d) = ((kb y d : ℝ) : EReal))
    (h0 : ∀ (d : Fin 192) (x : Fin 1024), x0 (ix3 0 d x) = ((qb x d : ℝ) : EReal))
    (h8 : ∀ x : Fin 1024, x8 (ix3 0 0 x) = ((ls x : ℝ) : EReal)) (y : Fin 768) (x : Fin 1024) :
    k0_pay8 x2 x0 x8 (ix2 y x)
      = (((2 : ℝ) ^ ((∑ d ∈ range 192, kb y d * qb x d) * (c192 * (Real.log 2)⁻¹) - ls x * (Real.log 2)⁻¹) : ℝ) : EReal) := by
  pointwise [k0_pay8]
  rw [sum_fin (f := fun d => kb y d * qb x d) fun d => by rw [h2, h0, ← EReal.coe_mul], named_scale_log2e, named_log2e, h8,
    ← EReal.coe_mul, ← EReal.coe_mul, ← EReal.coe_sub]
  exact Ideal.exp2_coe _

/-- The cotangent of the unscaled score. -/
theorem pay12_val (x5 : FVec Ideal S128x1024 .bf16) (p : FVec Ideal S768x1024 .f32) (x4 : Vec Ideal S768x128 .bf16)
    (de : Vec Ideal S1x1024 .f32)
    (h5 : ∀ (e : Fin 128) (x : Fin 1024), x5 (ix2 e x) = ((wb x e : ℝ) : EReal))
    (hp : ∀ (y : Fin 768) (x : Fin 1024), p (ix2 y x) = ((pb x y : ℝ) : EReal))
    (h4 : ∀ (y : Fin 768) (e : Fin 128), x4 (ix2 y e) = ((vb y e : ℝ) : EReal))
    (hd : ∀ x : Fin 1024, de (ix2 0 x) = ((dl x : ℝ) : EReal)) (y : Fin 768) (x : Fin 1024) :
    k0_pay12 x5 p x4 de (ix2 y x) = ((pb x y * ((∑ e ∈ range 128, vb y e * wb x e) - dl x) * c192 : ℝ) : EReal) := by
  pointwise [k0_pay12]
  rw [sum_fin (f := fun e => vb y e * wb x e) fun e => by rw [h4, h5, ← EReal.coe_mul], named_scale, hp, hd,
    ← EReal.coe_sub, ← EReal.coe_mul, ← EReal.coe_mul]

/-- The row's dot product of the saved output with its cotangent. -/
theorem pay6_val (x5 : Vec Ideal S128x1024 .bf16) (x7 : Vec Ideal S128x1024 .bf16)
    (h5 : ∀ (e : Fin 128) (x : Fin 1024), x5 (ix2 e x) = ((wb x e : ℝ) : EReal))
    (h7 : ∀ (e : Fin 128) (x : Fin 1024), x7 (ix2 e x) = ((ob x e : ℝ) : EReal)) (x : Fin 1024) :
    k0_pay6 x5 x7 (ix2 0 x) = ((∑ e ∈ range 128, wb x e * ob x e : ℝ) : EReal) := by
  pointwise [k0_pay6, k0_pay5]
  exact sum_fin (f := fun e => wb x e * ob x e) fun e => by rw [h5, h7, ← EReal.coe_mul]

/-- The value's gradient: what was there, and this stretch of queries' part. -/
theorem pay11_val (acc : FVec Ideal S768x128 .f32) (p : FVec Ideal S768x1024 .bf16) (x6 : Vec Ideal S1024x128 .bf16)
    (ha : ∀ (y : Fin 768) (e : Fin 128), acc (ix2 y e) = ((ob y e : ℝ) : EReal))
    (hp : ∀ (y : Fin 768) (x : Fin 1024), p (ix2 y x) = ((pb x y : ℝ) : EReal))
    (h6 : ∀ (x : Fin 1024) (e : Fin 128), x6 (ix2 x e) = ((wb x e : ℝ) : EReal)) (y : Fin 768) (e : Fin 128) :
    k0_pay11 acc p x6 (ix2 y e) = ((ob y e + ∑ x ∈ range 1024, pb x y * wb x e : ℝ) : EReal) := by
  pointwise [k0_pay11]
  rw [sum_fin (f := fun x => pb x y * wb x e) fun x => by rw [hp, h6, ← EReal.coe_mul], ha, ← EReal.coe_add]

/-- The key's gradient: what was there, and this stretch of queries' part. -/
theorem pay13_val (x5 : FVec Ideal S128x1024 .bf16) (p : FVec Ideal S768x1024 .f32) (x4 : Vec Ideal S768x128 .bf16)
    (de : Vec Ideal S1x1024 .f32) (acc : Vec Ideal S1x768x192 .f32) (x1 : Vec Ideal S1x1024x192 .bf16)
    (hs : ∀ (y : Fin 768) (x : Fin 1024), k0_pay12 x5 p x4 de (ix2 y x) = ((db x y : ℝ) : EReal))
    (ha : ∀ (y : Fin 768) (e : Fin 192), acc (ix3 0 y e) = ((ob y e : ℝ) : EReal))
    (h1 : ∀ (x : Fin 1024) (d : Fin 192), x1 (ix3 0 x d) = ((qb x d : ℝ) : EReal)) (y : Fin 768) (d : Fin 192) :
    k0_pay13 x5 p x4 de acc x1 (ix3 0 y d) = ((ob y d + ∑ x ∈ range 1024, db x y * qb x d : ℝ) : EReal) := by
  pointwise [k0_pay13]
  rw [sum_fin (f := fun x => db x y * qb x d) fun x => by rw [hs, h1, ← EReal.coe_mul], ha, ← EReal.coe_add]

/-- The query's gradient: what was there, and this stretch of keys' part. -/
theorem pay14_val (x5 : FVec Ideal S128x1024 .bf16) (p : FVec Ideal S768x1024 .f32) (x4 : Vec Ideal S768x128 .bf16)
    (de : Vec Ideal S1x1024 .f32) (acc : Vec Ideal S192x1024 .f32) (x3 : Vec Ideal S1x192x768 .bf16)
    (hs : ∀ (y : Fin 768) (x : Fin 1024), k0_pay12 x5 p x4 de (ix2 y x) = ((db x y : ℝ) : EReal))
    (ha : ∀ (d : Fin 192) (x : Fin 1024), acc (ix2 d x) = ((ob x d : ℝ) : EReal))
    (h3 : ∀ (d : Fin 192) (y : Fin 768), x3 (ix3 0 d y) = ((kb y d : ℝ) : EReal)) (d : Fin 192) (x : Fin 1024) :
    k0_pay14 x5 p x4 de acc x3 (ix2 d x) = ((ob x d + ∑ y ∈ range 768, kb y d * db x y : ℝ) : EReal) := by
  pointwise [k0_pay14]
  rw [sum_fin (f := fun y => kb y d * db x y) fun y => by rw [hs, h3, ← EReal.coe_mul], ha, ← EReal.coe_add]

theorem pay1_eq (x : FVec Ideal S192x1024 .f32) : k0_pay1 x = x := by funext j; pointwise [k0_pay1]
theorem pay2_eq (x : Vec Ideal S192x1024 .f32) (d : Fin 192) (y : Fin 1024) : k0_pay2 x (ix3 0 d y) = x (ix2 d y) := by pointwise [k0_pay2]
theorem pay3_eq (j : S1x8448x192.Idx) : k0_pay3 (F := Ideal) j = 0 := by pointwise [k0_pay3]
theorem pay4_eq (j : S8448x128.Idx) : k0_pay4 (F := Ideal) j = 0 := by pointwise [k0_pay4]
theorem pay5_eq (x : Vec Ideal S128x1024 .bf16) : k0_pay5 x = x := by funext j; pointwise [k0_pay5]
theorem pay7_eq (j : S192x1024.Idx) : k0_pay7 (F := Ideal) j = 0 := by pointwise [k0_pay7]
theorem pay9_eq (x : Vec Ideal S768x128 .f32) : k0_pay9 x = x := by funext j; pointwise [k0_pay9]
theorem pay10_eq (x2 : Vec Ideal S1x768x192 .bf16) (x0 : Vec Ideal S1x192x1024 .bf16) (x8 : Vec Ideal S1x1x1024 .f32) (j : S768x1024.Idx) :
    k0_pay10 x2 x0 x8 j = k0_pay8 x2 x0 x8 j := by pointwise [k0_pay10]

end Cert.MlaPay

end
-- ==== Proof.MlaPoint.lean ====
/-
  What one grid point of the latent attention's gradient computes, over the real numbers: the probabilities and the scores' cotangents of one
  block of queries and one block of keys, and what they add to the three gradients.
-/
module

public import proofs.«01_k».proof.Proof.MlaBlocks
public import proofs.«01_k».proof.Proof.MlaStep
public import proofs.«01_k».proof.Proof.MlaPay
public import proofs.«01_k».proof.Proof.MlaNumbers
public import proofs.«01_k».proof.Proof.Softmax

@[expose] public section

set_option maxRecDepth 16384

noncomputable section

namespace Cert.MlaPoint

open Idealize.ShloMosaic Idealize.ShloMosaic.TcCoe Cert.MlaIdeal Cert.MlaIdeal.Gen Cert.Sums Cert.Numbers Cert.MlaNumbers Cert.Softmax
open Cert.GqaBlocks (at2)
open Cert.MlaBlocks Cert.MlaStep Cert.MlaPay
open scoped BigOperators
open Finset (range)

variable (m : (ℓ : Loc nD τ sig) → Buf (Elt Ideal) ℓ) (c : Dev nD)

/-- The arrays the call is given, over the real numbers: the queries and keys of each head, the values and the output's
    cotangent, all but the values also transposed; and, of the latent queries, the saved output and the saved logarithm of
    the softmax's denominator, whatever number `M` was subtracted from the scores. -/
structure Given (q k : ℕ → ℕ → ℕ → ℝ) (v w : ℕ → ℕ → ℝ) (M : ℕ → ℕ → ℝ) : Prop where
  hqT : ∀ (h : Fin 16) (r : Fin 192) (j : Fin 8448), V m c main_v34 (ix3 h r j) = ((q h j r : ℝ) : EReal)
  hq : ∀ (h : Fin 16) (r : Fin 8448) (j : Fin 192), V m c main_arg0 (ix3 h r j) = ((q h r j : ℝ) : EReal)
  hk : ∀ (h : Fin 16) (r : Fin 8448) (j : Fin 192), V m c main_arg1 (ix3 h r j) = ((k h r j : ℝ) : EReal)
  hkT : ∀ (h : Fin 16) (r : Fin 192) (j : Fin 8448), V m c main_v35 (ix3 h r j) = ((k h j r : ℝ) : EReal)
  hv : ∀ (r : Fin 8448) (j : Fin 2048), V m c main_arg2 (ix2 r j) = ((v r j : ℝ) : EReal)
  hwT : ∀ (r : Fin 2048) (j : Fin 8448), V m c main_v36 (ix2 r j) = ((w j r : ℝ) : EReal)
  hw : ∀ (r : Fin 8448) (j : Fin 2048), V m c main_arg3 (ix2 r j) = ((w r j : ℝ) : EReal)
  ho : ∀ (r : Fin 2048) (j : Fin 8448), j.val < 8192 → V m c main_v32 (ix2 r j)
    = ((O 8448 192 c192 (q (r / 128)) (k (r / 128)) (kh v (r / 128)) j (r % 128) : ℝ) : EReal)
  hlse : ∀ (r : Fin 16) (j : Fin 8448), j.val < 8192 → V m c main_v33 (ix3 r 0 j)
    = ((M r j + Real.log (den 8448 (fun x => score 192 (q r) (k r) j x * c192) (M r j)) : ℝ) : EReal)

variable {m c} {q k : ℕ → ℕ → ℕ → ℝ} {v w : ℕ → ℕ → ℝ} {M : ℕ → ℕ → ℝ} (G : Given m c q k v w M) (t : Fin cfg0.N)

/-- Equal arguments of a table of real numbers. -/
theorem tab (f : ℕ → ℕ → ℝ) {a a' b b' : ℕ} (ha : a = a') (hb : b = b') : ((f a b : ℝ) : EReal) = ((f a' b' : ℝ) : EReal) := by
  rw [ha, hb]

/-- The queries of a point's head (and the keys). -/
abbrev qAt (q : ℕ → ℕ → ℕ → ℝ) (t : ℕ) : ℕ → ℕ → ℝ := q (t / 88)
/-- The values of a point's head (and the output's cotangent). -/
abbrev vAt (v : ℕ → ℕ → ℝ) (t : ℕ) : ℕ → ℕ → ℝ := kh v (t / 88)

section
variable (y : Fin 768) (x : Fin 1024) (d : Fin 128)
include G

theorem b0 (z : Fin 192) : X0_0 m c t (ix3 0 z x) = (((qAt q t) (1024 * (t.val / 11 % 8) + x) z : ℝ) : EReal) :=
  (blk0 m c (f := fun h r j => q h j r) G.hqT t z x).trans (tab (q (t.val / 88)) (by omega) rfl)
theorem b1 (z : Fin 192) : X0_1 m c t (ix3 0 x z) = (((qAt q t) (1024 * (t.val / 11 % 8) + x) z : ℝ) : EReal) :=
  (blk1 m c G.hq t x z).trans (tab (q (t.val / 88)) (by omega) rfl)
theorem b2 (z : Fin 192) : iblk m c 2 t (ix3 0 y z) = (((qAt k t) (768 * (t.val % 11) + y) z : ℝ) : EReal) :=
  (blk2 m c G.hk t y z).trans (tab (k (t.val / 88)) (by omega) rfl)
theorem b3 (z : Fin 192) : iblk m c 3 t (ix3 0 z y) = (((qAt k t) (768 * (t.val % 11) + y) z : ℝ) : EReal) :=
  (blk3 m c (f := fun h r j => k h j r) G.hkT t z y).trans (tab (k (t.val / 88)) (by omega) rfl)
theorem b4 : iblk m c 4 t (ix2 y d) = (((vAt v t) (768 * (t.val % 11) + y) d : ℝ) : EReal) :=
  (blk4 m c G.hv t y d).trans (tab v (by omega) (by omega))
theorem b5 : X0_5 m c t (ix2 d x) = (((vAt w t) (1024 * (t.val / 11 % 8) + x) d : ℝ) : EReal) :=
  (blk5 m c (f := fun r j => w j r) G.hwT t d x).trans (tab w (by omega) (by omega))
theorem b6 : X0_6 m c t (ix2 x d) = (((vAt w t) (1024 * (t.val / 11 % 8) + x) d : ℝ) : EReal) :=
  (blk6 m c G.hw t x d).trans (tab w (by omega) (by omega))

theorem b7 : X0_7 m c t (ix2 d x) = ((O 8448 192 c192 (qAt q t) (qAt k t) (vAt v t) (1024 * (t.val / 11 % 8) + x) d : ℝ) : EReal) := by
  refine (blk7 m c (f := fun r j => O 8448 192 c192 (q (r / 128)) (k (r / 128)) (kh v (r / 128)) j (r % 128)) G.ho t d x).trans ?_
  have e1 : (t.val / 88 * 128 + d.val) / 128 = t.val / 88 := by omega
  have e3 : (t.val / 88 * 128 + d.val) % 128 = d := by omega
  have e4 : t.val / 11 % 8 * 1024 + x.val = 1024 * (t.val / 11 % 8) + x := by omega
  dsimp only
  rw [e1, e3, e4]

theorem b8 : X0_8 m c t (ix3 0 0 x) = ((M (t.val / 88) (1024 * (t.val / 11 % 8) + x)
    + Real.log (den 8448 (fun b => score 192 (qAt q t) (qAt k t) (1024 * (t.val / 11 % 8) + x) b * c192) (M (t.val / 88) (1024 * (t.val / 11 % 8) + x))) : ℝ) : EReal) := by
  refine (blk8 m c (f := fun r j => M r j + Real.log (den 8448 (fun x => score 192 (q r) (k r) j x * c192) (M r j))) G.hlse t x).trans ?_
  have e4 : t.val / 11 % 8 * 1024 + x.val = 1024 * (t.val / 11 % 8) + x := by omega
  dsimp only
  rw [e4]

/-- The point's probabilities. -/
theorem probs_val : probs m c t (ix2 y x) = ((P 8448 192 c192 (qAt q t) (qAt k t) (1024 * (t.val / 11 % 8) + x) (768 * (t.val % 11) + y) : ℝ) : EReal) := by
  refine (pay8_val (kb := fun y d => (qAt k t) (768 * (t.val % 11) + y) d) (qb := fun x d => (qAt q t) (1024 * (t.val / 11 % 8) + x) d)
    (ls := fun x => M (t.val / 88) (1024 * (t.val / 11 % 8) + x)
      + Real.log (den 8448 (fun b => score 192 (qAt q t) (qAt k t) (1024 * (t.val / 11 % 8) + x) b * c192) (M (t.val / 88) (1024 * (t.val / 11 % 8) + x))))
    _ _ _ (b2 G t) (fun d x => b0 G t x d) (b8 G t) y x).trans (congrArg _ ?_)
  exact flash_prob (by norm_num) (fun b => score 192 (qAt q t) (qAt k t) (1024 * (t.val / 11 % 8) + x) b) c192 _ _

/-- The row sums a point starts from. -/
theorem delta_val : k0_pay6 (X0_5 m c t) (X0_7 m c t) (ix2 0 x)
    = ((delta 8448 192 128 c192 (qAt q t) (qAt k t) (vAt v t) (vAt w t) (1024 * (t.val / 11 % 8) + x) : ℝ) : EReal) :=
  (pay6_val (wb := fun x e => (vAt w t) (1024 * (t.val / 11 % 8) + x) e) (ob := fun x e => O 8448 192 c192 (qAt q t) (qAt k t) (vAt v t) (1024 * (t.val / 11 % 8) + x) e)
    _ _ (fun d x => b5 G t x d) (fun d x => b7 G t x d) x).trans (congrArg _ (delta_eq 8448 192 128 c192 (qAt q t) (qAt k t) (vAt v t) (vAt w t) _))

variable {de : Vec Ideal S1x1024 .f32}
  (hde : ∀ x : Fin 1024, de (ix2 0 x) = ((delta 8448 192 128 c192 (qAt q t) (qAt k t) (vAt v t) (vAt w t) (1024 * (t.val / 11 % 8) + x) : ℝ) : EReal))
include hde

/-- The cotangents of the point's scores. -/
theorem ds_val : k0_pay12 (k0_pay5 (X0_5 m c t)) (probs m c t) (iblk m c 4 t) de (ix2 y x)
    = ((dS 8448 192 128 c192 (qAt q t) (qAt k t) (vAt v t) (vAt w t) (1024 * (t.val / 11 % 8) + x) (768 * (t.val % 11) + y) : ℝ) : EReal) := by
  rw [pay5_eq]
  exact pay12_val (pb := fun x y => P 8448 192 c192 (qAt q t) (qAt k t) (1024 * (t.val / 11 % 8) + x) (768 * (t.val % 11) + y))
    (wb := fun x e => (vAt w t) (1024 * (t.val / 11 % 8) + x) e) (vb := fun y e => (vAt v t) (768 * (t.val % 11) + y) e)
    (dl := fun x => delta 8448 192 128 c192 (qAt q t) (qAt k t) (vAt v t) (vAt w t) (1024 * (t.val / 11 % 8) + x))
    _ _ _ _ (fun d x => b5 G t x d) (probs_val G t) (b4 G t) hde y x

/-- A point adds to the query's gradient what its keys give. -/
theorem dq_val (d : Fin 192) {acc : Vec Ideal S192x1024 .f32}
    (ha : ∀ (d : Fin 192) (x : Fin 1024), acc (ix2 d x)
      = ((∑ b ∈ range (768 * (t.val % 11)), (qAt k t) b d * dS 8448 192 128 c192 (qAt q t) (qAt k t) (vAt v t) (vAt w t) (1024 * (t.val / 11 % 8) + x) b : ℝ) : EReal)) :
    dqStep m c t acc de (ix2 d x)
      = ((∑ b ∈ range (768 * (t.val % 11 + 1)), (qAt k t) b d * dS 8448 192 128 c192 (qAt q t) (qAt k t) (vAt v t) (vAt w t) (1024 * (t.val / 11 % 8) + x) b : ℝ) : EReal) := by
  rw [dqStep, pay1_eq]
  refine (pay14_val (kb := fun y d => (qAt k t) (768 * (t.val % 11) + y) d)
    (db := fun x y => dS 8448 192 128 c192 (qAt q t) (qAt k t) (vAt v t) (vAt w t) (1024 * (t.val / 11 % 8) + x) (768 * (t.val % 11) + y))
    (ob := fun x d => ∑ b ∈ range (768 * (t.val % 11)), (qAt k t) b d * dS 8448 192 128 c192 (qAt q t) (qAt k t) (vAt v t) (vAt w t) (1024 * (t.val / 11 % 8) + x) b)
    _ _ _ _ _ _ (fun y x => ds_val G t y x hde) ha (fun d y => b3 G t y d) d x).trans (congrArg _ ?_)
  rw [Nat.mul_add, Nat.mul_one, Finset.sum_range_add]

omit G hde in
/-- Storing a stretch of 768 rows leaves the other rows alone. -/
theorem put_at {acc : Vec Ideal S8448x128 .f32} {p : Vec Ideal S768x128 .f32} (r : Fin 8448) (d : Fin 128) :
    VecWindow.put (s := S8448x128) acc (k0_off1 (grid0.coords t)) S768x128.size p (ix2 r d)
      = if h : r.val / 768 = t.val % 11 then p (ix2 ⟨r.val % 768, Nat.mod_lt _ (by norm_num)⟩ d) else acc (ix2 r d) := by
  obtain ⟨o0, o1⟩ := off1 t
  have hr := r.isLt
  have hd := d.isLt
  unfold VecWindow.put
  by_cases h : r.val / 768 = t.val % 11
  · rw [dif_pos h, dif_pos]
    · refine congrArg p ?_
      funext a
      match a with
      | ⟨0, _⟩ => exact Fin.ext (show r.val - k0_off1 (grid0.coords t) 0 = r.val % 768 by rw [o0]; omega)
      | ⟨1, _⟩ => exact Fin.ext (show d.val - k0_off1 (grid0.coords t) 1 = d.val by rw [o1]; omega)
    · intro a
      match a with
      | ⟨0, _⟩ => exact (show k0_off1 (grid0.coords t) 0 ≤ r.val ∧ r.val < k0_off1 (grid0.coords t) 0 + 768 by rw [o0]; omega)
      | ⟨1, _⟩ => exact (show k0_off1 (grid0.coords t) 1 ≤ d.val ∧ d.val < k0_off1 (grid0.coords t) 1 + 128 by rw [o1]; omega)
  · rw [dif_neg h, dif_neg]
    intro hh
    have := hh 0
    have : k0_off1 (grid0.coords t) 0 ≤ r.val ∧ r.val < k0_off1 (grid0.coords t) 0 + 768 := this
    rw [o0] at this
    omega

omit G hde in
/-- Loading a stretch of 768 rows. -/
theorem window_at {acc : Vec Ideal S8448x128 .f32} {f : ℕ → ℕ → ℝ}
    (ha : ∀ (r : Fin 8448) (d : Fin 128), acc (ix2 r d) = ((f r d : ℝ) : EReal)) (y : Fin 768) (d : Fin 128) :
    VecWindow.window (s := S8448x128) acc (k0_off1 (grid0.coords t)) S768x128.size (k0_off1_inb (grid0.coords t)) (ix2 y d)
      = ((f (768 * (t.val % 11) + y) d : ℝ) : EReal) := by
  obtain ⟨o0, o1⟩ := off1 t
  unfold VecWindow.window
  refine at2 ha _ ?_ ?_
  · exact (show k0_off1 (grid0.coords t) 0 + 1 * y.val = _ by rw [o0, Nat.one_mul])
  · exact (show k0_off1 (grid0.coords t) 1 + 1 * d.val = _ by rw [o1, Nat.one_mul, Nat.zero_add d.val])

omit G hde in
/-- The same in a stack of one matrix. -/
theorem put_at3 {acc : Vec Ideal S1x8448x192 .f32} {p : Vec Ideal S1x768x192 .f32} (r : Fin 8448) (d : Fin 192) :
    VecWindow.put (s := S1x8448x192) acc (k0_off2 (grid0.coords t)) S1x768x192.size p (ix3 0 r d)
      = if h : r.val / 768 = t.val % 11 then p (ix3 0 ⟨r.val % 768, Nat.mod_lt _ (by norm_num)⟩ d) else acc (ix3 0 r d) := by
  obtain ⟨o0, o1, o2⟩ := off2 t
  have hr := r.isLt
  have hd := d.isLt
  unfold VecWindow.put
  by_cases h : r.val / 768 = t.val % 11
  · rw [dif_pos h, dif_pos]
    · refine congrArg p ?_
      funext a
      match a with
      | ⟨0, _⟩ => exact Subsingleton.elim (α := Fin 1) _ _
      | ⟨1, _⟩ => exact Fin.ext (show r.val - k0_off2 (grid0.coords t) 1 = r.val % 768 by rw [o1]; omega)
      | ⟨2, _⟩ => exact Fin.ext (show d.val - k0_off2 (grid0.coords t) 2 = d.val by rw [o2]; omega)
    · intro a
      match a with
      | ⟨0, _⟩ => exact (show k0_off2 (grid0.coords t) 0 ≤ 0 ∧ 0 < k0_off2 (grid0.coords t) 0 + 1 by rw [o0]; omega)
      | ⟨1, _⟩ => exact (show k0_off2 (grid0.coords t) 1 ≤ r.val ∧ r.val < k0_off2 (grid0.coords t) 1 + 768 by rw [o1]; omega)
      | ⟨2, _⟩ => exact (show k0_off2 (grid0.coords t) 2 ≤ d.val ∧ d.val < k0_off2 (grid0.coords t) 2 + 192 by rw [o2]; omega)
  · rw [dif_neg h, dif_neg]
    intro hh
    have := hh 1
    have : k0_off2 (grid0.coords t) 1 ≤ r.val ∧ r.val < k0_off2 (grid0.coords t) 1 + 768 := this
    rw [o1] at this
    omega

omit G hde in
/-- Loading a stretch of a stack of one matrix. -/
theorem window_at3 {acc : Vec Ideal S1x8448x192 .f32} {f : ℕ → ℕ → ℝ}
    (ha : ∀ (r : Fin 8448) (d : Fin 192), acc (ix3 0 r d) = ((f r d : ℝ) : EReal)) (y : Fin 768) (d : Fin 192) :
    VecWindow.window (s := S1x8448x192) acc (k0_off2 (grid0.coords t)) S1x768x192.size (k0_off2_inb (grid0.coords t)) (ix3 0 y d)
      = ((f (768 * (t.val % 11) + y) d : ℝ) : EReal) := by
  obtain ⟨o0, o1, o2⟩ := off2 t
  unfold VecWindow.window
  refine at3 (A := 1) (f := fun _ r j => f r j) (fun h r j => (congrArg acc (congrArg (ix3 · r j) (Subsingleton.elim h 0))).trans (ha r j)) _ rfl ?_ ?_
  · exact (show k0_off2 (grid0.coords t) 1 + 1 * y.val = _ by rw [o1, Nat.one_mul])
  · exact (show k0_off2 (grid0.coords t) 2 + 1 * d.val = _ by rw [o2, Nat.one_mul, Nat.zero_add d.val])

/-- A point adds to its stretch of the key's gradient what its queries give. -/
theorem dk_val {acc : Vec Ideal S1x8448x192 .f32} {f : ℕ → ℕ → ℝ}
    (ha : ∀ (r : Fin 8448) (d : Fin 192), acc (ix3 0 r d) = ((f r d : ℝ) : EReal)) (r : Fin 8448) (d : Fin 192) :
    dkStep m c t acc de (ix3 0 r d)
      = ((f r d + (if r.val / 768 = t.val % 11 then dK 8448 192 128 c192 (qAt q t) (qAt k t) (vAt v t) (vAt w t) (1024 * (t.val / 11 % 8)) 1024 r d else 0) : ℝ) : EReal) := by
  refine (put_at3 t r d).trans ?_
  by_cases h : r.val / 768 = t.val % 11
  · rw [dif_pos h, if_pos h]
    refine (pay13_val (db := fun x y => dS 8448 192 128 c192 (qAt q t) (qAt k t) (vAt v t) (vAt w t) (1024 * (t.val / 11 % 8) + x) (768 * (t.val % 11) + y))
      (ob := fun y d => f (768 * (t.val % 11) + y) d) (qb := fun x d => (qAt q t) (1024 * (t.val / 11 % 8) + x) d)
      _ _ _ _ _ _ (fun y x => ds_val G t y x hde) (window_at3 t ha) (b1 G t) _ d).trans (congrArg _ ?_)
    have e : 768 * (t.val % 11) + r.val % 768 = r.val := by omega
    dsimp only
    rw [e]
    rfl
  · rw [dif_neg h, if_neg h, add_zero]
    exact ha r d

omit hde in
/-- The same for the value's gradient. -/
theorem dv_val {acc : Vec Ideal S8448x128 .f32} {f : ℕ → ℕ → ℝ}
    (ha : ∀ (r : Fin 8448) (d : Fin 128), acc (ix2 r d) = ((f r d : ℝ) : EReal)) (r : Fin 8448) (d : Fin 128) :
    dvStep m c t acc (ix2 r d)
      = ((f r d + (if r.val / 768 = t.val % 11 then dV 8448 192 c192 (qAt q t) (qAt k t) (vAt w t) (1024 * (t.val / 11 % 8)) 1024 r d else 0) : ℝ) : EReal) := by
  refine (put_at t r d).trans ?_
  by_cases h : r.val / 768 = t.val % 11
  · rw [dif_pos h, if_pos h]
    refine (pay11_val (pb := fun x y => P 8448 192 c192 (qAt q t) (qAt k t) (1024 * (t.val / 11 % 8) + x) (768 * (t.val % 11) + y))
      (ob := fun y d => f (768 * (t.val % 11) + y) d) (wb := fun x d => (vAt w t) (1024 * (t.val / 11 % 8) + x) d)
      _ _ _ (fun y d => (congrFun (pay9_eq _) _).trans (window_at t ha y d)) (fun y x => (pay10_eq _ _ _ _).trans (probs_val G t y x)) (b6 G t) _ d).trans (congrArg _ ?_)
    have e : 768 * (t.val % 11) + r.val % 768 = r.val := by omega
    dsimp only
    rw [e]
    rfl
  · rw [dif_neg h, if_neg h, add_zero]
    exact ha r d

end

end Cert.MlaPoint

end
-- ==== Proof.MlaFold.lean ====
/-
  What the buffers of the latent attention's gradient hold after each grid point, over the real numbers: the row sums of the point's
  queries; the query's gradient over the keys met so far; and, row by row, the key's and the value's gradient over the
  blocks of queries met so far. By induction on the point.
-/
module

public import proofs.«01_k».proof.Proof.MlaPoint

@[expose] public section

set_option maxRecDepth 16384

noncomputable section

namespace Cert.MlaFold

open Idealize.ShloMosaic Idealize.ShloMosaic.TcCoe Cert.MlaIdeal Cert.MlaIdeal.Gen Cert.Sums Cert.Numbers Cert.MlaNumbers Cert.Softmax
open Cert.MlaStep Cert.MlaPoint
open scoped BigOperators
open Finset (range)

variable {m : (ℓ : Loc nD τ sig) → Buf (Elt Ideal) ℓ} {c : Dev nD}
variable {q k : ℕ → ℕ → ℕ → ℝ} {v w : ℕ → ℕ → ℝ} {M : ℕ → ℕ → ℝ} (G : Given m c q k v w M)

/-- What the `u`-th block of 1024 queries of head `h` gives the key's gradient. -/
def dkPart (q k : ℕ → ℕ → ℕ → ℝ) (v w : ℕ → ℕ → ℝ) (h u r d : ℕ) : ℝ :=
  dK 8448 192 128 c192 (q h) (k h) (kh v h) (kh w h) (1024 * u) 1024 r d
/-- What it gives the value's gradient. -/
def dvPart (q k : ℕ → ℕ → ℕ → ℝ) (w : ℕ → ℕ → ℝ) (h u r d : ℕ) : ℝ :=
  dV 8448 192 c192 (q h) (k h) (kh w h) (1024 * u) 1024 r d

/-- The number of blocks of queries row `r` has met before point `t`. -/
def cnt0 (t r : ℕ) : ℕ := t % 88 / 11 + if r / 768 < t % 11 then 1 else 0
/-- The number it has met after point `t`. -/
def cnt1 (t r : ℕ) : ℕ := t % 88 / 11 + if r / 768 ≤ t % 11 then 1 else 0

theorem cnt_prev {t r : ℕ} (h : ¬t % 88 = 0) (hr : r < 8448) : cnt1 (t - 1) r = cnt0 t r := by
  unfold cnt1 cnt0
  split_ifs <;> omega
theorem cnt_first {t r : ℕ} (h : t % 88 = 0) : cnt0 t r = 0 := by
  unfold cnt0
  split_ifs <;> omega

/-- One point's contribution to a row of a sum over the blocks of queries met. -/
theorem cnt_step (f : ℕ → ℝ) (t r : ℕ) :
    (∑ u ∈ range (cnt0 t r), f u) + (if r / 768 = t % 11 then f (t % 88 / 11) else 0) = ∑ u ∈ range (cnt1 t r), f u := by
  unfold cnt0 cnt1
  by_cases h : r / 768 = t % 11
  · rw [if_pos h, if_neg (by omega), if_pos (by omega), Finset.sum_range_succ, Nat.add_zero]
  · rw [if_neg h, add_zero]
    by_cases h' : r / 768 < t % 11
    · rw [if_pos h', if_pos (by omega)]
    · rw [if_neg h', if_neg (by omega)]

/-- What the buffers hold after point `t`. -/
structure Inv (m : (ℓ : Loc nD τ sig) → Buf (Elt Ideal) ℓ) (c : Dev nD) (q k : ℕ → ℕ → ℕ → ℝ) (v w : ℕ → ℕ → ℝ) (t : Fin cfg0.N) : Prop where
  delta : ∀ x : Fin 1024, (outsAt0 m c t.val t.isLt).2.2.2.2 (ix2 0 x)
    = ((delta 8448 192 128 c192 (qAt q t) (qAt k t) (vAt v t) (vAt w t) (1024 * (t.val / 11 % 8) + x) : ℝ) : EReal)
  dq : ∀ (d : Fin 192) (x : Fin 1024), (outsAt0 m c t.val t.isLt).2.2.2.1 (ix2 d x)
    = ((∑ b ∈ range (768 * (t.val % 11 + 1)), qAt k t b d
        * dS 8448 192 128 c192 (qAt q t) (qAt k t) (vAt v t) (vAt w t) (1024 * (t.val / 11 % 8) + x) b : ℝ) : EReal)
  dk : ∀ (r : Fin 8448) (d : Fin 192), (outsAt0 m c t.val t.isLt).2.1 (ix3 0 r d)
    = ((∑ u ∈ range (cnt1 t r), dkPart q k v w (t.val / 88) u r d : ℝ) : EReal)
  dv : ∀ (r : Fin 8448) (d : Fin 128), (outsAt0 m c t.val t.isLt).2.2.1 (ix2 r d)
    = ((∑ u ∈ range (cnt1 t r), dvPart q k w (t.val / 88) u r d : ℝ) : EReal)

section
variable (t : Fin cfg0.N)

/-- The point's part, by the number of its block of queries. -/
theorem dkPart_at (r d : ℕ) : dK 8448 192 128 c192 (qAt q t) (qAt k t) (vAt v t) (vAt w t) (1024 * (t.val / 11 % 8)) 1024 r d
    = dkPart q k v w (t.val / 88) (t.val % 88 / 11) r d := by
  have e : t.val % 88 / 11 = t.val / 11 % 8 := by omega
  rw [dkPart, e]
theorem dvPart_at (r d : ℕ) : dV 8448 192 c192 (qAt q t) (qAt k t) (vAt w t) (1024 * (t.val / 11 % 8)) 1024 r d
    = dvPart q k w (t.val / 88) (t.val % 88 / 11) r d := by
  have e : t.val % 88 / 11 = t.val / 11 % 8 := by omega
  rw [dvPart, e]

include G in
/-- The key's gradient after a point, from what was there before it. -/
theorem dk_step {acc : Vec Ideal S1x8448x192 .f32} {de : Vec Ideal S1x1024 .f32}
    (hde : ∀ x : Fin 1024, de (ix2 0 x) = ((delta 8448 192 128 c192 (qAt q t) (qAt k t) (vAt v t) (vAt w t) (1024 * (t.val / 11 % 8) + x) : ℝ) : EReal))
    (ha : ∀ (r : Fin 8448) (d : Fin 192), acc (ix3 0 r d) = ((∑ u ∈ range (cnt0 t r), dkPart q k v w (t.val / 88) u r d : ℝ) : EReal))
    (r : Fin 8448) (d : Fin 192) :
    dkStep m c t acc de (ix3 0 r d) = ((∑ u ∈ range (cnt1 t r), dkPart q k v w (t.val / 88) u r d : ℝ) : EReal) := by
  refine (dk_val G t hde (f := fun r d => ∑ u ∈ range (cnt0 t r), dkPart q k v w (t.val / 88) u r d) ha r d).trans (congrArg _ ?_)
  rw [dkPart_at]
  exact cnt_step (fun u => dkPart q k v w (t.val / 88) u r d) t r

include G in
theorem dv_step {acc : Vec Ideal S8448x128 .f32}
    (ha : ∀ (r : Fin 8448) (d : Fin 128), acc (ix2 r d) = ((∑ u ∈ range (cnt0 t r), dvPart q k w (t.val / 88) u r d : ℝ) : EReal))
    (r : Fin 8448) (d : Fin 128) :
    dvStep m c t acc (ix2 r d) = ((∑ u ∈ range (cnt1 t r), dvPart q k w (t.val / 88) u r d : ℝ) : EReal) := by
  refine (dv_val G t (f := fun r d => ∑ u ∈ range (cnt0 t r), dvPart q k w (t.val / 88) u r d) ha r d).trans (congrArg _ ?_)
  rw [dvPart_at]
  exact cnt_step (fun u => dvPart q k w (t.val / 88) u r d) t r

/-- The point before, as a point. -/
abbrev before : Fin cfg0.N := ⟨t.val - 1, Nat.lt_of_le_of_lt (Nat.sub_le _ _) t.isLt⟩

/-- What the key's gradient holds before a point that is not a key head's first. -/
theorem dk_before (I : Inv m c q k v w (before t)) (h : ¬t.val % 88 = 0) (r : Fin 8448) (d : Fin 192) :
    (prev m c t).2.1 (ix3 0 r d) = ((∑ u ∈ range (cnt0 t r), dkPart q k v w (t.val / 88) u r d : ℝ) : EReal) := by
  have e : (t.val - 1) / 88 = t.val / 88 := by omega
  refine (I.dk r d).trans ?_
  rw [cnt_prev h r.isLt]
  show ((∑ u ∈ range (cnt0 t r), dkPart q k v w ((t.val - 1) / 88) u r d : ℝ) : EReal) = _
  rw [e]
theorem dv_before (I : Inv m c q k v w (before t)) (h : ¬t.val % 88 = 0) (r : Fin 8448) (d : Fin 128) :
    (prev m c t).2.2.1 (ix2 r d) = ((∑ u ∈ range (cnt0 t r), dvPart q k w (t.val / 88) u r d : ℝ) : EReal) := by
  have e : (t.val - 1) / 88 = t.val / 88 := by omega
  refine (I.dv r d).trans ?_
  rw [cnt_prev h r.isLt]
  show ((∑ u ∈ range (cnt0 t r), dvPart q k w ((t.val - 1) / 88) u r d : ℝ) : EReal) = _
  rw [e]

/-- What the row sums and the query's gradient hold before a point that is not a block of queries' first. -/
theorem delta_before (I : Inv m c q k v w (before t)) (h : ¬t.val % 11 = 0) (x : Fin 1024) : (prev m c t).2.2.2.2 (ix2 0 x)
    = ((delta 8448 192 128 c192 (qAt q t) (qAt k t) (vAt v t) (vAt w t) (1024 * (t.val / 11 % 8) + x) : ℝ) : EReal) := by
  have e1 : (t.val - 1) / 88 = t.val / 88 := by omega
  have e3 : (t.val - 1) / 11 % 8 = t.val / 11 % 8 := by omega
  have := I.delta x
  dsimp only [qAt, vAt] at this ⊢
  rw [e1, e3] at this
  exact this
theorem dq_before (I : Inv m c q k v w (before t)) (h : ¬t.val % 11 = 0) (d : Fin 192) (x : Fin 1024) :
    (prev m c t).2.2.2.1 (ix2 d x) = ((∑ b ∈ range (768 * (t.val % 11)), qAt k t b d
        * dS 8448 192 128 c192 (qAt q t) (qAt k t) (vAt v t) (vAt w t) (1024 * (t.val / 11 % 8) + x) b : ℝ) : EReal) := by
  have e1 : (t.val - 1) / 88 = t.val / 88 := by omega
  have e3 : (t.val - 1) / 11 % 8 = t.val / 11 % 8 := by omega
  have e4 : (t.val - 1) % 11 + 1 = t.val % 11 := by omega
  have := I.dq d x
  dsimp only [qAt, vAt] at this ⊢
  rw [e1, e3, e4] at this
  exact this

/-- Nothing is there when a block of queries begins. -/
theorem dq_zero (h : t.val % 11 = 0) (d : Fin 192) (x : Fin 1024) :
    k0_pay7 (F := Ideal) (ix2 d x) = ((∑ b ∈ range (768 * (t.val % 11)), qAt k t b d
        * dS 8448 192 128 c192 (qAt q t) (qAt k t) (vAt v t) (vAt w t) (1024 * (t.val / 11 % 8) + x) b : ℝ) : EReal) := by
  rw [MlaPay.pay7_eq, h, Nat.mul_zero, Finset.sum_range_zero]
  rfl

include G in
/-- One point keeps the invariant. -/
theorem inv_step (I : ¬t.val % 88 = 0 → Inv m c q k v w (before t)) : Inv m c q k v w t := by
  by_cases h0 : t.val % 88 = 0
  · have h1 : t.val % 11 = 0 := by omega
    have hde := fun x => delta_val G t x
    refine ⟨fun x => ?_, fun d x => ?_, fun r d => ?_, fun r d => ?_⟩
    · rw [delta_A m c t h0 h1 (by omega)]; exact hde x
    · rw [dq_A m c t h0 h1 (by omega)]; exact dq_val G t x hde d (dq_zero t h1)
    · rw [dk_A m c t h0 h1 (by omega)]
      refine dk_step G t hde (fun r d => ?_) r d
      rw [MlaPay.pay3_eq, cnt_first h0, Finset.sum_range_zero]; rfl
    · rw [dv_A m c t h0 h1 (by omega)]
      refine dv_step G t (fun r d => ?_) r d
      rw [MlaPay.pay4_eq, cnt_first h0, Finset.sum_range_zero]; rfl
  · have I := I h0
    by_cases h1 : t.val % 11 = 0
    · have hde := fun x => delta_val G t x
      refine ⟨fun x => ?_, fun d x => ?_, fun r d => ?_, fun r d => ?_⟩
      · rw [delta_D m c t h0 h1 (by omega)]; exact hde x
      · rw [dq_D m c t h0 h1 (by omega)]; exact dq_val G t x hde d (dq_zero t h1)
      · rw [dk_D m c t h0 h1 (by omega)]; exact dk_step G t hde (dk_before t I h0) r d
      · rw [dv_D m c t h0 h1 (by omega)]; exact dv_step G t (dv_before t I h0) r d
    · have hde := delta_before t I h1
      by_cases h2 : t.val % 11 = 10
      · refine ⟨fun x => ?_, fun d x => ?_, fun r d => ?_, fun r d => ?_⟩
        · rw [delta_C m c t h0 h1 h2]; exact hde x
        · rw [dq_C m c t h0 h1 h2]; exact dq_val G t x hde d (dq_before t I h1)
        · rw [dk_C m c t h0 h1 h2]; exact dk_step G t hde (dk_before t I h0) r d
        · rw [dv_C m c t h0 h1 h2]; exact dv_step G t (dv_before t I h0) r d
      · refine ⟨fun x => ?_, fun d x => ?_, fun r d => ?_, fun r d => ?_⟩
        · rw [delta_B m c t h0 h1 h2]; exact hde x
        · rw [dq_B m c t h0 h1 h2]; exact dq_val G t x hde d (dq_before t I h1)
        · rw [dk_B m c t h0 h1 h2]; exact dk_step G t hde (dk_before t I h0) r d
        · rw [dv_B m c t h0 h1 h2]; exact dv_step G t (dv_before t I h0) r d

end

include G in
/-- The invariant holds after every point. -/
theorem inv : ∀ (n : ℕ) (hn : n < cfg0.N), Inv m c q k v w ⟨n, hn⟩
  | 0, hn => inv_step G ⟨0, hn⟩ fun h => absurd rfl h
  | n + 1, hn => inv_step G ⟨n + 1, hn⟩ fun _ => inv n (Nat.lt_of_succ_lt hn)

end Cert.MlaFold

end
-- ==== Proof.MlaArrays.lean ====
/-
  What the three result arrays of the latent attention's gradient hold at the end, over the real numbers: the latent
  queries' columns of the first hold the query's gradient, and the other two the key's and the value's.
-/
module

public import proofs.«01_k».proof.Proof.MlaFold

@[expose] public section

set_option maxRecDepth 16384

noncomputable section

namespace Cert.MlaArrays

open Idealize.ShloMosaic Idealize.ShloMosaic.TcCoe Idealize.ShloMosaic.Tactic Cert.MlaIdeal Cert.MlaIdeal.Gen
open Cert.Sums Cert.Numbers Cert.MlaNumbers Cert.Softmax Cert.MlaBlocks Cert.MlaPoint Cert.MlaFold
open Cert.GqaBlocks (at2)
open scoped BigOperators
open Finset (range)

variable {m : (ℓ : Loc nD τ sig) → Buf (Elt Ideal) ℓ} {c : Dev nD}
variable {q k : ℕ → ℕ → ℕ → ℝ} {v w : ℕ → ℕ → ℝ} {M : ℕ → ℕ → ℝ} (G : Given m c q k v w M)

/-- All the blocks of queries of a head are the latent queries. -/
theorem dk_all (h r d : ℕ) : ∑ u ∈ range 8, dkPart q k v w h u r d = dK 8448 192 128 c192 (q h) (k h) (kh v h) (kh w h) 0 8192 r d := by
  rw [dK, show (8192 : ℕ) = 8 * 1024 from rfl, sum_blocks]
  refine Finset.sum_congr rfl fun u _ => ?_
  rw [dkPart, dK]
  simp only [Nat.zero_add]
theorem dv_all (h r d : ℕ) : ∑ u ∈ range 8, dvPart q k w h u r d = dV 8448 192 c192 (q h) (k h) (kh w h) 0 8192 r d := by
  rw [dV, show (8192 : ℕ) = 8 * 1024 from rfl, sum_blocks]
  refine Finset.sum_congr rfl fun u _ => ?_
  rw [dvPart, dV]
  simp only [Nat.zero_add]

/-- The query's gradient, features first. -/
def dqTab (q k : ℕ → ℕ → ℕ → ℝ) (v w : ℕ → ℕ → ℝ) (h r j : ℕ) : ℝ := dQ 8448 192 128 c192 (q h) (k h) (kh v h) (kh w h) j r
/-- The key's gradient. -/
def dkTab (q k : ℕ → ℕ → ℕ → ℝ) (v w : ℕ → ℕ → ℝ) (h r j : ℕ) : ℝ := dK 8448 192 128 c192 (q h) (k h) (kh v h) (kh w h) 0 8192 r j
/-- The value's gradient. -/
def dvTab (q k : ℕ → ℕ → ℕ → ℝ) (w : ℕ → ℕ → ℝ) (r j : ℕ) : ℝ :=
  dV 8448 192 c192 (q (j / 128)) (k (j / 128)) (kh w (j / 128)) 0 8192 r (j % 128)

/-- Equal arguments of a table of real numbers, one to each head. -/
theorem tab3 (f : ℕ → ℕ → ℕ → ℝ) {h h' a a' b b' : ℕ} (hh : h = h') (ha : a = a') (hb : b = b') :
    ((f h a b : ℝ) : EReal) = ((f h' a' b' : ℝ) : EReal) := by
  rw [hh, ha, hb]

section
variable (t : Fin cfg0.N)

include G

theorem last_dq (h : t.val % 11 = 10) (z : Fin 1) (d : Fin 192) (x : Fin 1024) :
    (outsAt0 m c t.val t.isLt).1 (ix3 z d x) = ((dqTab q k v w (t.val / 88) d (t.val / 11 % 8 * 1024 + x) : ℝ) : EReal) := by
  rw [Subsingleton.elim z 0, MlaStep.out_C m c t (by omega) (by omega) h, MlaPay.pay2_eq]
  refine ((inv G t.val t.isLt).dq d x).trans (congrArg _ ?_)
  dsimp only [qAt, vAt]
  rw [dqTab, show t.val / 11 % 8 * 1024 + x.val = 1024 * (t.val / 11 % 8) + x.val by omega, h]
  rfl

theorem last_dk (h : t.val % 88 = 87) (z : Fin 1) (r : Fin 8448) (d : Fin 192) :
    (outsAt0 m c t.val t.isLt).2.1 (ix3 z r d) = ((dkTab q k v w (t.val / 88) r d : ℝ) : EReal) := by
  rw [Subsingleton.elim z 0]
  refine ((inv G t.val t.isLt).dk r d).trans (congrArg _ ?_)
  have e : cnt1 t.val r.val = 8 := by
    unfold cnt1
    rw [if_pos (by omega)]
    omega
  dsimp only
  rw [e, dk_all, dkTab]

theorem last_dv (h : t.val % 88 = 87) (r : Fin 8448) (d : Fin 128) :
    (outsAt0 m c t.val t.isLt).2.2.1 (ix2 r d) = ((dvTab q k w r (t.val / 88 * 128 + d) : ℝ) : EReal) := by
  refine ((inv G t.val t.isLt).dv r d).trans (congrArg _ ?_)
  have e : cnt1 t.val r.val = 8 := by
    unfold cnt1
    rw [if_pos (by omega)]
    omega
  dsimp only
  rw [e, dv_all, dvTab, show (t.val / 88 * 128 + d.val) / 128 = t.val / 88 by omega, show (t.val / 88 * 128 + d.val) % 128 = d.val by omega]

end

theorem xs9 : ∀ t : Fin grid0.N, win0_9.xsize (grid0.coords t) 0 = 1 ∧ win0_9.xsize (grid0.coords t) 1 = 192 ∧ win0_9.xsize (grid0.coords t) 2 = 1024 := by
  decide +kernel
theorem xs10 : ∀ t : Fin grid0.N, win0_10.xsize (grid0.coords t) 0 = 1 ∧ win0_10.xsize (grid0.coords t) 1 = 8448 ∧ win0_10.xsize (grid0.coords t) 2 = 192 := by
  decide +kernel

/-- The arrays, as contents. -/
abbrev res9 (q k : ℕ → ℕ → ℕ → ℝ) (v w : ℕ → ℕ → ℝ) : S16x192x8448.Idx → EReal := fun i => ((dqTab q k v w (i 0).val (i 1).val (i 2).val : ℝ) : EReal)
abbrev res10 (q k : ℕ → ℕ → ℕ → ℝ) (v w : ℕ → ℕ → ℝ) : S16x8448x192.Idx → EReal := fun i => ((dkTab q k v w (i 0).val (i 1).val (i 2).val : ℝ) : EReal)
abbrev res11 (q k : ℕ → ℕ → ℕ → ℝ) (w : ℕ → ℕ → ℝ) : S8448x2048.Idx → EReal := fun i => ((dvTab q k w (i 0).val (i 1).val : ℝ) : EReal)

include G in
theorem flushed9_eq (t : Fin cfg0.N) (hf : (cfg0.win 9).flush t = true) :
    (dats m 0 c).flushed 9 t = ((cfg0.win 9).blk t).view.read (Elt Ideal) (res9 q k v w) := by
  have h := (flush0_9 t).mp hf
  rw [Cert.MlaIdeal.Value.flushed9 m c t]
  funext y
  rw [View.read_apply]
  refine (at3 (f := fun _ r j => dqTab q k v w (t.val / 88) r (t.val / 11 % 8 * 1024 + j)) (last_dq G t h) _ rfl rfl rfl).trans ?_
  have hy : (y 0).val = 0 := by have : (y 0).val < 1 := (y 0).isLt.trans_eq (xs9 t).1; omega
  refine tab3 (dqTab q k v w) ?_ ?_ ?_
  · exact ((win0_9.rect_emb_val t y 0).trans ((congrArg (· * 1 + (y 0).val) (idx9 t).1).trans (show t.val / 88 * 1 + (y 0).val = t.val / 88 by omega))).symm
  · exact ((win0_9.rect_emb_val t y 1).trans ((congrArg (· * 192 + (y 1).val) (idx9 t).2.1).trans (show 0 * 192 + (y 1).val = (y 1).val by omega))).symm
  · exact ((win0_9.rect_emb_val t y 2).trans (congrArg (· * 1024 + (y 2).val) (idx9 t).2.2)).symm

include G in
theorem flushed10_eq (t : Fin cfg0.N) (hf : (cfg0.win 10).flush t = true) :
    (dats m 0 c).flushed 10 t = ((cfg0.win 10).blk t).view.read (Elt Ideal) (res10 q k v w) := by
  have h := (flush0_10 t).mp hf
  rw [Cert.MlaIdeal.Value.flushed10 m c t]
  funext y
  rw [View.read_apply]
  refine (at3 (f := fun _ r j => dkTab q k v w (t.val / 88) r j) (last_dk G t h) _ rfl rfl rfl).trans ?_
  have hy : (y 0).val = 0 := by have : (y 0).val < 1 := (y 0).isLt.trans_eq (xs10 t).1; omega
  refine tab3 (dkTab q k v w) ?_ ?_ ?_
  · exact ((win0_10.rect_emb_val t y 0).trans ((congrArg (· * 1 + (y 0).val) (idx10 t).1).trans (show t.val / 88 * 1 + (y 0).val = t.val / 88 by omega))).symm
  · exact ((win0_10.rect_emb_val t y 1).trans ((congrArg (· * 8448 + (y 1).val) (idx10 t).2.1).trans (show 0 * 8448 + (y 1).val = (y 1).val by omega))).symm
  · exact ((win0_10.rect_emb_val t y 2).trans ((congrArg (· * 192 + (y 2).val) (idx10 t).2.2).trans (show 0 * 192 + (y 2).val = (y 2).val by omega))).symm

include G in
theorem flushed11_eq (t : Fin cfg0.N) (hf : (cfg0.win 11).flush t = true) :
    (dats m 0 c).flushed 11 t = ((cfg0.win 11).blk t).view.read (Elt Ideal) (res11 q k w) := by
  have h := (flush0_11 t).mp hf
  rw [Cert.MlaIdeal.Value.flushed11 m c t]
  funext y
  rw [View.read_apply]
  refine (at2 (f := fun r j => dvTab q k w r (t.val / 88 * 128 + j)) (last_dv G t h) _ rfl rfl).trans ?_
  exact tab (dvTab q k w) ((win0_11.rect_emb_val t y 0).trans ((congrArg (· * 8448 + (y 0).val) (idx11 t).1).trans (show 0 * 8448 + (y 0).val = (y 0).val by omega))).symm
    ((win0_11.rect_emb_val t y 1).trans (congrArg (· * 128 + (y 1).val) (idx11 t).2)).symm

theorem xs11 : ∀ t : Fin grid0.N, win0_11.xsize (grid0.coords t) 0 = 8448 ∧ win0_11.xsize (grid0.coords t) 1 = 128 := by decide +kernel

include G in
/-- The latent queries' columns of the first result. -/
theorem final9 (h : Fin 16) (r : Fin 192) (j : Fin 8448) (hj : j.val < 8192) :
    (dats m 0 c).arrAt 9 cfg0.N (ix3 h r j) = ((dqTab q k v w h r j : ℝ) : EReal) := by
  have hh := h.isLt
  have hr := r.isLt
  have hn : h.val * 88 + j.val / 1024 * 11 + 10 < cfg0.N := by rw [show cfg0.N = 1408 from N_0]; omega
  refine (dats m 0 c).arrAt_apply_of_mem 9 (res9 q k v w) (flushed9_eq G) cfg0.N ⟨_, hn⟩ (ix3 h r j) hn ((flush0_9 _).mpr (by dsimp only; omega)) ?_
  show ix3 h r j ∈ ((View.whole main_v37_0).slice (win0_9.rect ⟨_, hn⟩)).set
  rw [View.set_slice_whole, Rect.mem_set_unit]
  obtain ⟨i0, i1, i2⟩ := idx9 ⟨_, hn⟩
  obtain ⟨s0, s1, s2⟩ := xs9 ⟨_, hn⟩
  intro a
  match a with
  | ⟨0, _⟩ =>
    show win0_9.index ⟨_, hn⟩ 0 * 1 ≤ h.val ∧ h.val < win0_9.index ⟨_, hn⟩ 0 * 1 + win0_9.xsize (grid0.coords ⟨_, hn⟩) 0
    rw [i0, s0]; dsimp only; omega
  | ⟨1, _⟩ =>
    show win0_9.index ⟨_, hn⟩ 1 * 192 ≤ r.val ∧ r.val < win0_9.index ⟨_, hn⟩ 1 * 192 + win0_9.xsize (grid0.coords ⟨_, hn⟩) 1
    rw [i1, s1]; omega
  | ⟨2, _⟩ =>
    show win0_9.index ⟨_, hn⟩ 2 * 1024 ≤ j.val ∧ j.val < win0_9.index ⟨_, hn⟩ 2 * 1024 + win0_9.xsize (grid0.coords ⟨_, hn⟩) 2
    rw [i2, s2]; dsimp only; omega

include G in
theorem final10 (h : Fin 16) (r : Fin 8448) (j : Fin 192) :
    (dats m 0 c).arrAt 10 cfg0.N (ix3 h r j) = ((dkTab q k v w h r j : ℝ) : EReal) := by
  have hh := h.isLt
  have hj := j.isLt
  have hr := r.isLt
  have hn : h.val * 88 + 87 < cfg0.N := by rw [show cfg0.N = 1408 from N_0]; omega
  refine (dats m 0 c).arrAt_apply_of_mem 10 (res10 q k v w) (flushed10_eq G) cfg0.N ⟨_, hn⟩ (ix3 h r j) hn ((flush0_10 _).mpr (by dsimp only; omega)) ?_
  show ix3 h r j ∈ ((View.whole main_v37_1).slice (win0_10.rect ⟨_, hn⟩)).set
  rw [View.set_slice_whole, Rect.mem_set_unit]
  obtain ⟨i0, i1, i2⟩ := idx10 ⟨_, hn⟩
  obtain ⟨s0, s1, s2⟩ := xs10 ⟨_, hn⟩
  intro a
  match a with
  | ⟨0, _⟩ =>
    show win0_10.index ⟨_, hn⟩ 0 * 1 ≤ h.val ∧ h.val < win0_10.index ⟨_, hn⟩ 0 * 1 + win0_10.xsize (grid0.coords ⟨_, hn⟩) 0
    rw [i0, s0]; dsimp only; omega
  | ⟨1, _⟩ =>
    show win0_10.index ⟨_, hn⟩ 1 * 8448 ≤ r.val ∧ r.val < win0_10.index ⟨_, hn⟩ 1 * 8448 + win0_10.xsize (grid0.coords ⟨_, hn⟩) 1
    rw [i1, s1]; omega
  | ⟨2, _⟩ =>
    show win0_10.index ⟨_, hn⟩ 2 * 192 ≤ j.val ∧ j.val < win0_10.index ⟨_, hn⟩ 2 * 192 + win0_10.xsize (grid0.coords ⟨_, hn⟩) 2
    rw [i2, s2]; omega

include G in
theorem final11 (r : Fin 8448) (j : Fin 2048) :
    (dats m 0 c).arrAt 11 cfg0.N (ix2 r j) = ((dvTab q k w r j : ℝ) : EReal) := by
  have hj := j.isLt
  have hr := r.isLt
  have hn : j.val / 128 * 88 + 87 < cfg0.N := by rw [show cfg0.N = 1408 from N_0]; omega
  refine (dats m 0 c).arrAt_apply_of_mem 11 (res11 q k w) (flushed11_eq G) cfg0.N ⟨_, hn⟩ (ix2 r j) hn ((flush0_11 _).mpr (by dsimp only; omega)) ?_
  show ix2 r j ∈ ((View.whole main_v37_2).slice (win0_11.rect ⟨_, hn⟩)).set
  rw [View.set_slice_whole, Rect.mem_set_unit]
  obtain ⟨i0, i1⟩ := idx11 ⟨_, hn⟩
  obtain ⟨s0, s1⟩ := xs11 ⟨_, hn⟩
  intro a
  match a with
  | ⟨0, _⟩ =>
    show win0_11.index ⟨_, hn⟩ 0 * 8448 ≤ r.val ∧ r.val < win0_11.index ⟨_, hn⟩ 0 * 8448 + win0_11.xsize (grid0.coords ⟨_, hn⟩) 0
    rw [i0, s0]; omega
  | ⟨1, _⟩ =>
    show win0_11.index ⟨_, hn⟩ 1 * 128 ≤ j.val ∧ j.val < win0_11.index ⟨_, hn⟩ 1 * 128 + win0_11.xsize (grid0.coords ⟨_, hn⟩) 1
    rw [i1, s1]; dsimp only; omega

end Cert.MlaArrays

end
-- ==== Proof.MlaHost.lean ====
/-
  What the host prepares for the latent attention's gradient: the arrays' transposes, and the two values the forward pass saves, as functions of
  the call's arguments.
-/
module

public import proofs.«01_k».proof.Proof.Gen.MlaIdeal.Frame.Runs
public import Idealize.ShloMosaic.Lib.StableHlo.Run

@[expose] public section

set_option maxRecDepth 16384

noncomputable section

namespace Cert.MlaHost

open Idealize.ShloMosaic Idealize.ShloMosaic.TcCoe Cert.MlaIdeal Cert.MlaIdeal.Gen

section Stages
variable {F : FTy → Type} [FloatOps F]

/-! ### The host's operations, one definition each -/

def h_v0 (x0 : (⟨S16x8448x192, .bf16⟩ : BufTy).Contents (Elt F)) : (⟨S16x8448x192, .f32⟩ : BufTy).Contents (Elt F) :=
  (extf .f32 · bitsLt_bf16_f32) x0
def h_v1 (x0 : (⟨S16x8448x192, .bf16⟩ : BufTy).Contents (Elt F)) : (⟨S8448x16x192, .f32⟩ : BufTy).Contents (Elt F) :=
  (transpose S8448x16x192 [1, 0, 2] · transposes_S16x8448x192_S8448x16x192_1_0_2) (h_v0 x0)
def h_v2 (x0 : (⟨S16x8448x192, .bf16⟩ : BufTy).Contents (Elt F)) : (⟨S1x8448x16x192, .f32⟩ : BufTy).Contents (Elt F) :=
  (broadcastInDim S1x8448x16x192 ![1, 2, 3] bcast_S8448x16x192_S1x8448x16x192_1_2_3) (h_v1 x0)
def h_v3 (x0 : (⟨S16x8448x192, .bf16⟩ : BufTy).Contents (Elt F)) : (⟨S1x8192x16x192, .f32⟩ : BufTy).Contents (Elt F) :=
  (extractStridedSlice S1x8192x16x192 ![0, 0, 0, 0] · slices_S1x8448x16x192_S1x8192x16x192_0_0_0_0) (h_v2 x0)
def h_v4 (x1 : (⟨S16x8448x192, .bf16⟩ : BufTy).Contents (Elt F)) : (⟨S16x8448x192, .f32⟩ : BufTy).Contents (Elt F) :=
  (extf .f32 · bitsLt_bf16_f32) x1
def h_v5 (x1 : (⟨S16x8448x192, .bf16⟩ : BufTy).Contents (Elt F)) : (⟨S8448x16x192, .f32⟩ : BufTy).Contents (Elt F) :=
  (transpose S8448x16x192 [1, 0, 2] · transposes_S16x8448x192_S8448x16x192_1_0_2) (h_v4 x1)
def h_v6 (x1 : (⟨S16x8448x192, .bf16⟩ : BufTy).Contents (Elt F)) : (⟨S1x8448x16x192, .f32⟩ : BufTy).Contents (Elt F) :=
  (broadcastInDim S1x8448x16x192 ![1, 2, 3] bcast_S8448x16x192_S1x8448x16x192_1_2_3) (h_v5 x1)
def h_v7 (x2 : (⟨S8448x2048, .bf16⟩ : BufTy).Contents (Elt F)) : (⟨S8448x2048, .f32⟩ : BufTy).Contents (Elt F) :=
  (extf .f32 · bitsLt_bf16_f32) x2
def h_v8 (x2 : (⟨S8448x2048, .bf16⟩ : BufTy).Contents (Elt F)) : (⟨S1x8448x16x128, .f32⟩ : BufTy).Contents (Elt F) :=
  shapeCast S1x8448x16x128 (h_v7 x2) shapeCasts_S8448x2048_S1x8448x16x128
def h_cst : (⟨S_, .f32⟩ : BufTy).Contents (Elt F) :=
  constant S_ .f32 0x43400000#32
def h_v9 : (⟨S_, .f32⟩ : BufTy).Contents (Elt F) :=
  Host.sqrt h_cst
def h_cst_0 : (⟨S_, .f32⟩ : BufTy).Contents (Elt F) :=
  constant S_ .f32 0x3F800000#32
def h_v10 : (⟨S_, .f32⟩ : BufTy).Contents (Elt F) :=
  Host.divf h_cst_0 h_v9
def h_v11 (x0 : (⟨S16x8448x192, .bf16⟩ : BufTy).Contents (Elt F)) : (⟨S1x8192x16x1x192, .f32⟩ : BufTy).Contents (Elt F) :=
  shapeCast S1x8192x16x1x192 (h_v3 x0) shapeCasts_S1x8192x16x192_S1x8192x16x1x192
def h_v12 (x0 : (⟨S16x8448x192, .bf16⟩ : BufTy).Contents (Elt F)) (x1 : (⟨S16x8448x192, .bf16⟩ : BufTy).Contents (Elt F)) : (⟨S1x16x8448x8192x1, .f32⟩ : BufTy).Contents (Elt F) :=
  (fun l r => Host.dotGeneral dot_S1x8448x16x192_S1x8192x16x1x192_S1x16x8448x8192x1_3_4_1_13_02_02 none l r) (h_v6 x1) (h_v11 x0)
def h_v13 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  (transpose S1x16x1x8192x8448 [0, 1, 4, 3, 2] · transposes_S1x16x8448x8192x1_S1x16x1x8192x8448_0_1_4_3_2) (h_v12 x0 x1)
def h_v14 : (⟨S1x16x1x8192x8448, .f32⟩ : BufTy).Contents (Elt F) :=
  (broadcastInDim S1x16x1x8192x8448 ![] bcast_S_S1x16x1x8192x8448) h_v10
def h_v15 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  mulf (h_v13 x0 x1) h_v14
def h_cst_1 : (⟨S_, .f32⟩ : BufTy).Contents (Elt F) :=
  constant S_ .f32 0xFF800000#32
def h_v16 (x0 : (⟨S16x8448x192, .bf16⟩ : BufTy).Contents (Elt F)) (x1 : (⟨S16x8448x192, .bf16⟩ : BufTy).Contents (Elt F)) : (⟨S1x16x1x8192, .f32⟩ : BufTy).Contents (Elt F) :=
  (fun x v => Host.reduce FloatOps.maximumf x v reducesTo_S1x16x1x8192x8448_S1x16x1x8192_d4 h_S_) (h_v15 x0 x1) h_cst_1
def h_v17 (x0 : (⟨S16x8448x192, .bf16⟩ : BufTy).Contents (Elt F)) (x1 : (⟨S16x8448x192, .bf16⟩ : BufTy).Contents (Elt F)) : (⟨S1x16x1x8192x1, .f32⟩ : BufTy).Contents (Elt F) :=
  (broadcastInDim S1x16x1x8192x1 ![0, 1, 2, 3] bcast_S1x16x1x8192_S1x16x1x8192x1_0_1_2_3) (h_v16 x0 x1)
def h_v18 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  (broadcastInDim S1x16x1x8192x8448 ![0, 1, 2, 3, 4] bcast_S1x16x1x8192x1_S1x16x1x8192x8448_0_1_2_3_4) (h_v17 x0 x1)
def h_v19 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  subf (h_v15 x0 x1) (h_v18 x0 x1)
def h_v20 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  Host.exp (h_v19 x0 x1)
def h_cst_2 : (⟨S_, .f32⟩ : BufTy).Contents (Elt F) :=
  constant S_ .f32 0x00000000#32
def h_v21 (x0 : (⟨S16x8448x192, .bf16⟩ : BufTy).Contents (Elt F)) (x1 : (⟨S16x8448x192, .bf16⟩ : BufTy).Contents (Elt F)) : (⟨S1x16x1x8192, .f32⟩ : BufTy).Contents (Elt F) :=
  (fun x v => Host.reduceAdd x v reducesTo_S1x16x1x8192x8448_S1x16x1x8192_d4 h_S_) (h_v20 x0 x1) h_cst_2
def h_v22 (x0 : (⟨S16x8448x192, .bf16⟩ : BufTy).Contents (Elt F)) (x1 : (⟨S16x8448x192, .bf16⟩ : BufTy).Contents (Elt F)) : (⟨S1x16x1x8192x1, .f32⟩ : BufTy).Contents (Elt F) :=
  (broadcastInDim S1x16x1x8192x1 ![0, 1, 2, 3] bcast_S1x16x1x8192_S1x16x1x8192x1_0_1_2_3) (h_v21 x0 x1)
def h_v23 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  (broadcastInDim S1x16x1x8192x8448 ![0, 1, 2, 3, 4] bcast_S1x16x1x8192x1_S1x16x1x8192x8448_0_1_2_3_4) (h_v22 x0 x1)
def h_v24 (x0 : (⟨S16x8448x192, .bf16⟩ : BufTy).Contents (Elt F)) (x1 : (⟨S16x8448x192, .bf16⟩ : BufTy).Contents (Elt F)) : (⟨S1x16x1x8192x8448, .f32⟩ : BufTy).Contents (Elt F) :=
  Host.divf (h_v20 x0 x1) (h_v23 x0 x1)
def h_v25 (x0 : (⟨S16x8448x192, .bf16⟩ : BufTy).Contents (Elt F)) (x1 : (⟨S16x8448x192, .bf16⟩ : BufTy).Contents (Elt F)) (x2 : (⟨S8448x2048, .bf16⟩ : BufTy).Contents (Elt F)) : (⟨S1x16x128x1x8192, .f32⟩ : BufTy).Contents (Elt F) :=
  (fun l r => Host.dotGeneral dot_S1x8448x16x128_S1x16x1x8192x8448_S1x16x128x1x8192_1_4_3_23_02_01 none l r) (h_v8 x2) (h_v24 x0 x1)
def h_v26 (x0 : (⟨S16x8448x192, .bf16⟩ : BufTy).Contents (Elt F)) (x1 : (⟨S16x8448x192, .bf16⟩ : BufTy).Contents (Elt F)) (x2 : (⟨S8448x2048, .bf16⟩ : BufTy).Contents (Elt F)) : (⟨S1x16x1x128x8192, .f32⟩ : BufTy).Contents (Elt F) :=
  (transpose S1x16x1x128x8192 [0, 1, 3, 2, 4] · transposes_S1x16x128x1x8192_S1x16x1x128x8192_0_1_3_2_4) (h_v25 x0 x1 x2)
def h_v27 (x0 : (⟨S16x8448x192, .bf16⟩ : BufTy).Contents (Elt F)) (x1 : (⟨S16x8448x192, .bf16⟩ : BufTy).Contents (Elt F)) (x2 : (⟨S8448x2048, .bf16⟩ : BufTy).Contents (Elt F)) : (⟨S2048x8192, .f32⟩ : BufTy).Contents (Elt F) :=
  shapeCast S2048x8192 (h_v26 x0 x1 x2) shapeCasts_S1x16x1x128x8192_S2048x8192
def h_v28 (x0 : (⟨S16x8448x192, .bf16⟩ : BufTy).Contents (Elt F)) (x1 : (⟨S16x8448x192, .bf16⟩ : BufTy).Contents (Elt F)) : (⟨S1x16x1x8192x1, .f32⟩ : BufTy).Contents (Elt F) :=
  Host.log (h_v22 x0 x1)
def h_v29 (x0 : (⟨S16x8448x192, .bf16⟩ : BufTy).Contents (Elt F)) (x1 : (⟨S16x8448x192, .bf16⟩ : BufTy).Contents (Elt F)) : (⟨S1x16x1x8192x1, .f32⟩ : BufTy).Contents (Elt F) :=
  addf (h_v17 x0 x1) (h_v28 x0 x1)
def h_v30 (x0 : (⟨S16x8448x192, .bf16⟩ : BufTy).Contents (Elt F)) (x1 : (⟨S16x8448x192, .bf16⟩ : BufTy).Contents (Elt F)) : (⟨S16x1x8192, .f32⟩ : BufTy).Contents (Elt F) :=
  shapeCast S16x1x8192 (h_v29 x0 x1) shapeCasts_S1x16x1x8192x1_S16x1x8192
def h_cst_3 : (⟨S_, .f32⟩ : BufTy).Contents (Elt F) :=
  constant S_ .f32 0x00000000#32
def h_v31 (x0 : (⟨S16x8448x192, .bf16⟩ : BufTy).Contents (Elt F)) (x1 : (⟨S16x8448x192, .bf16⟩ : BufTy).Contents (Elt F)) (x2 : (⟨S8448x2048, .bf16⟩ : BufTy).Contents (Elt F)) : (⟨S2048x8448, .f32⟩ : BufTy).Contents (Elt F) :=
  (fun x v => pad S2048x8448 ![0, 0] ![0, 256] ![0, 0] x v pads_S2048x8192_S2048x8448_000_02560 h_S_) (h_v27 x0 x1 x2) h_cst_3
def h_v32 (x0 : (⟨S16x8448x192, .bf16⟩ : BufTy).Contents (Elt F)) (x1 : (⟨S16x8448x192, .bf16⟩ : BufTy).Contents (Elt F)) (x2 : (⟨S8448x2048, .bf16⟩ : BufTy).Contents (Elt F)) : (⟨S2048x8448, .bf16⟩ : BufTy).Contents (Elt F) :=
  (truncf .bf16 · bitsLt_bf16_f32) (h_v31 x0 x1 x2)
def h_cst_4 : (⟨S_, .f32⟩ : BufTy).Contents (Elt F) :=
  constant S_ .f32 0x00000000#32
def h_v33 (x0 : (⟨S16x8448x192, .bf16⟩ : BufTy).Contents (Elt F)) (x1 : (⟨S16x8448x192, .bf16⟩ : BufTy).Contents (Elt F)) : (⟨S16x1x8448, .f32⟩ : BufTy).Contents (Elt F) :=
  (fun x v => pad S16x1x8448 ![0, 0, 0] ![0, 0, 256] ![0, 0, 0] x v pads_S16x1x8192_S16x1x8448_000_000_02560 h_S_) (h_v30 x0 x1) h_cst_4
def h_v34 (x0 : (⟨S16x8448x192, .bf16⟩ : BufTy).Contents (Elt F)) : (⟨S16x192x8448, .bf16⟩ : BufTy).Contents (Elt F) :=
  (transpose S16x192x8448 [0, 2, 1] · transposes_S16x8448x192_S16x192x8448_0_2_1) x0
def h_v35 (x1 : (⟨S16x8448x192, .bf16⟩ : BufTy).Contents (Elt F)) : (⟨S16x192x8448, .bf16⟩ : BufTy).Contents (Elt F) :=
  (transpose S16x192x8448 [0, 2, 1] · transposes_S16x8448x192_S16x192x8448_0_2_1) x1
def h_v36 (x3 : (⟨S8448x2048, .bf16⟩ : BufTy).Contents (Elt F)) : (⟨S2048x8448, .bf16⟩ : BufTy).Contents (Elt F) :=
  (transpose S2048x8448 [1, 0] · transposes_S8448x2048_S2048x8448_1_0) x3

variable [Named F]
variable (m : (ℓ : Loc nD τ sig) → Buf (Elt F) ℓ) (c : Dev nD)

theorem V_v32 : V m c main_v32 = h_v32 (m ((c : Thread nD τ).loc main_arg0)) (m ((c : Thread nD τ).loc main_arg1)) (m ((c : Thread nD τ).loc main_arg2)) := by
  unfold V; after_results; rfl
theorem V_v33 : V m c main_v33 = h_v33 (m ((c : Thread nD τ).loc main_arg0)) (m ((c : Thread nD τ).loc main_arg1)) := by
  unfold V; after_results; rfl
theorem V_v34 : V m c main_v34 = h_v34 (m ((c : Thread nD τ).loc main_arg0)) := by
  unfold V; after_results; rfl
theorem V_v35 : V m c main_v35 = h_v35 (m ((c : Thread nD τ).loc main_arg1)) := by
  unfold V; after_results; rfl
theorem V_v36 : V m c main_v36 = h_v36 (m ((c : Thread nD τ).loc main_arg3)) := by
  unfold V; after_results; rfl

end Stages

end Cert.MlaHost

end
-- ==== Proof.MlaHostVal.lean ====
/-
  What the host prepares for the latent attention's gradient, over the real numbers: the transposes, the scores, their exponentials, and the
  probabilities.
-/
module

public import proofs.«01_k».proof.Proof.MlaHost
public import proofs.«01_k».proof.Proof.Softmax
public import proofs.«01_k».proof.Proof.MlaNumbers
public import Idealize.ShloMosaic.Lib.Pointwise

@[expose] public section

set_option maxRecDepth 16384

noncomputable section

namespace Cert.MlaHost

open Idealize.ShloMosaic Idealize.ShloMosaic.TcCoe Cert.MlaIdeal Cert.MlaIdeal.Gen Cert.Sums Cert.Numbers Cert.MlaNumbers Cert.Softmax
open scoped BigOperators
open Finset (range)

variable {x0 x1 : (⟨S16x8448x192, .bf16⟩ : BufTy).Contents (Elt Ideal)} {x2 x3 : (⟨S8448x2048, .bf16⟩ : BufTy).Contents (Elt Ideal)}
variable {q k : ℕ → ℕ → ℕ → ℝ} {v w : ℕ → ℕ → ℝ}
variable (hq : ∀ (h : Fin 16) (r : Fin 8448) (j : Fin 192), x0 (ix3 h r j) = ((q h r j : ℝ) : EReal))
  (hk : ∀ (h : Fin 16) (r : Fin 8448) (j : Fin 192), x1 (ix3 h r j) = ((k h r j : ℝ) : EReal))
  (hv : ∀ (r : Fin 8448) (j : Fin 2048), x2 (ix2 r j) = ((v r j : ℝ) : EReal))
  (hw : ∀ (r : Fin 8448) (j : Fin 2048), x3 (ix2 r j) = ((w r j : ℝ) : EReal))
variable (h : Fin 16) (a : Fin 8192) (b : Fin 8448) (d : Fin 192)

theorem v34_at (h : Fin 16) : h_v34 x0 (ix3 h d b) = x0 (ix3 h b d) := by pointwise [h_v34]
theorem v35_at (h : Fin 16) : h_v35 x1 (ix3 h d b) = x1 (ix3 h b d) := by pointwise [h_v35]
theorem v36_at (j : Fin 2048) : h_v36 x3 (ix2 j b) = x3 (ix2 b j) := by pointwise [h_v36]

/-- The scale. -/
theorem v10_at (i : S_.Idx) : h_v10 (F := Ideal) i = ((c192 : ℝ) : EReal) := by
  pointwise [h_v10, h_v9, h_cst, h_cst_0]
  exact scale_eq

include hq hk in
/-- The scaled scores. -/
theorem v15_at : h_v15 (F := Ideal) x0 x1 (ix5 0 h 0 a b) = ((score 192 (q h) (k h) a b * c192 : ℝ) : EReal) := by
  have e : h_v12 (F := Ideal) x0 x1 (ix5 0 h b a 0) = ((score 192 (q h) (k h) a b : ℝ) : EReal) := by
    pointwise [h_v12, h_v11, h_v6, h_v5, h_v4, h_v3, h_v2, h_v1, h_v0]
    exact sum_fin (f := fun d => k h b d * q h a d) fun d => by rw [hq, hk, ← EReal.coe_mul]
  pointwise [h_v15, h_v13, h_v14]
  rw [e, v10_at, ← EReal.coe_mul]

include hq hk in
/-- The row's largest score is some real number. -/
theorem v16_real : ∃ M : ℝ, h_v16 (F := Ideal) x0 x1 (ix4 0 h 0 a) = ((M : ℝ) : EReal) := by
  pointwise [h_v16, h_cst_1]
  rw [ofBits_bot]
  exact fold_max (Finset.univ : Finset (Fin 8448)) ⟨⟨0, by norm_num⟩, Finset.mem_univ _⟩
    (f := fun b => score 192 (q h) (k h) a b * c192) fun b => v15_at hq hk h a b

/-- The row's largest score. -/
def mx (x0 x1 : (⟨S16x8448x192, .bf16⟩ : BufTy).Contents (Elt Ideal))
    (h a : ℕ) : ℝ :=
  if hh : h < 16 ∧ a < 8192 then EReal.toReal (h_v16 (F := Ideal) x0 x1 (ix4 0 ⟨h, hh.1⟩ 0 ⟨a, hh.2⟩)) else 0

include hq hk in
theorem v16_at : h_v16 (F := Ideal) x0 x1 (ix4 0 h 0 a) = ((mx x0 x1 h a : ℝ) : EReal) := by
  obtain ⟨M, hM⟩ := v16_real hq hk h a
  rw [mx, dif_pos ⟨h.isLt, a.isLt⟩, hM]; rfl

include hq hk in
/-- The exponentials of the scores less the row's largest. -/
theorem v20_at : h_v20 (F := Ideal) x0 x1 (ix5 0 h 0 a b)
    = ((Real.exp (score 192 (q h) (k h) a b * c192 - mx x0 x1 h a) : ℝ) : EReal) := by
  pointwise [h_v20, h_v19, h_v18, h_v17]
  rw [v15_at hq hk, v16_at hq hk, ← EReal.coe_sub]
  exact Ideal.exp_coe _

/-- The softmax's denominator. -/
abbrev l (x0 x1 : (⟨S16x8448x192, .bf16⟩ : BufTy).Contents (Elt Ideal))
    (q k : ℕ → ℕ → ℕ → ℝ) (h a : ℕ) : ℝ :=
  den 8448 (fun x => score 192 (q h) (k h) a x * c192) (mx x0 x1 h a)

theorem l_pos (h a : ℕ) : 0 < l x0 x1 q k h a := den_pos (by norm_num) _ _

include hq hk in
theorem v21_at : h_v21 (F := Ideal) x0 x1 (ix4 0 h 0 a) = ((l x0 x1 q k h a : ℝ) : EReal) := by
  pointwise [h_v21, h_cst_2]
  exact sum_fin fun b => v20_at hq hk h a b

include hq hk in
theorem v24_at : h_v24 (F := Ideal) x0 x1 (ix5 0 h 0 a b) = ((P 8448 192 c192 (q h) (k h) a b : ℝ) : EReal) := by
  pointwise [h_v24, h_v23, h_v22]
  rw [v20_at hq hk, v21_at hq hk, div_coe (l_pos h a).ne']
  exact congrArg _ (prob_eq (n := 8448) (fun x => score 192 (q h) (k h) a x * c192) (mx x0 x1 h a) b)

end Cert.MlaHost

end
-- ==== Proof.MlaHostOut.lean ====
/-
  The latent attention's saved output of the latent queries, as the host prepares it.
-/
module

public import proofs.«01_k».proof.Proof.MlaHostVal
public import proofs.«01_k».proof.Proof.Softmax
public import proofs.«01_k».proof.Proof.MlaNumbers
public import Idealize.ShloMosaic.Lib.Pointwise

@[expose] public section

set_option maxRecDepth 16384

noncomputable section

namespace Cert.MlaHost

open Idealize.ShloMosaic Idealize.ShloMosaic.TcCoe Cert.MlaIdeal Cert.MlaIdeal.Gen Cert.Sums Cert.Numbers Cert.MlaNumbers Cert.Softmax
open scoped BigOperators
open Finset (range)

variable {x0 x1 : (⟨S16x8448x192, .bf16⟩ : BufTy).Contents (Elt Ideal)} {x2 x3 : (⟨S8448x2048, .bf16⟩ : BufTy).Contents (Elt Ideal)}
variable {q k : ℕ → ℕ → ℕ → ℝ} {v w : ℕ → ℕ → ℝ}
variable (hq : ∀ (h : Fin 16) (r : Fin 8448) (j : Fin 192), x0 (ix3 h r j) = ((q h r j : ℝ) : EReal))
  (hk : ∀ (h : Fin 16) (r : Fin 8448) (j : Fin 192), x1 (ix3 h r j) = ((k h r j : ℝ) : EReal))
  (hv : ∀ (r : Fin 8448) (j : Fin 2048), x2 (ix2 r j) = ((v r j : ℝ) : EReal))
  (hw : ∀ (r : Fin 8448) (j : Fin 2048), x3 (ix2 r j) = ((w r j : ℝ) : EReal))
variable (h : Fin 16) (a : Fin 8192) (b : Fin 8448) (d : Fin 192)

include hq hk hv in
/-- The saved output, of the latent queries. -/
theorem v32_at (j : Fin 2048) (hb : b.val < 8192) : h_v32 (F := Ideal) x0 x1 x2 (ix2 j b)
    = ((O 8448 192 c192 (q (j / 128)) (k (j / 128)) (kh v (j / 128)) b (j % 128) : ℝ) : EReal) := by
  pointwise [h_v32, h_v31, h_v27, h_v26, h_v25, h_v8, h_v7, h_cst_3]
  rw [dif_pos hb]
  refine sum_fin (f := fun x => kh v (j / 128) x (j % 128) * P 8448 192 c192 (q (j / 128)) (k (j / 128)) b x) fun x => ?_
  refine (congrArg₂ (· * ·) (hv _ _) (v24_at hq hk _ _ _)).trans ((EReal.coe_mul _ _).symm.trans (congrArg _ ?_))
  have e : j.val = j.val / 128 * 128 + j.val % 128 := by omega
  exact congrArg (v x · * P 8448 192 c192 (q (j / 128)) (k (j / 128)) b x) e

end Cert.MlaHost

end
-- ==== Proof.MlaHostLse.lean ====
/-
  The latent attention's saved logarithm of the latent queries' softmax's denominator, as the host prepares it.
-/
module

public import proofs.«01_k».proof.Proof.MlaHostVal
public import proofs.«01_k».proof.Proof.GqaHostLse
public import proofs.«01_k».proof.Proof.Softmax
public import proofs.«01_k».proof.Proof.MlaNumbers
public import Idealize.ShloMosaic.Lib.Pointwise

@[expose] public section

set_option maxRecDepth 16384

noncomputable section

namespace Cert.MlaHost

open Idealize.ShloMosaic Idealize.ShloMosaic.TcCoe Cert.MlaIdeal Cert.MlaIdeal.Gen Cert.Sums Cert.Numbers Cert.MlaNumbers Cert.Softmax
open scoped BigOperators
open Finset (range)

variable {x0 x1 : (⟨S16x8448x192, .bf16⟩ : BufTy).Contents (Elt Ideal)} {x2 x3 : (⟨S8448x2048, .bf16⟩ : BufTy).Contents (Elt Ideal)}
variable {q k : ℕ → ℕ → ℕ → ℝ} {v w : ℕ → ℕ → ℝ}
variable (hq : ∀ (h : Fin 16) (r : Fin 8448) (j : Fin 192), x0 (ix3 h r j) = ((q h r j : ℝ) : EReal))
  (hk : ∀ (h : Fin 16) (r : Fin 8448) (j : Fin 192), x1 (ix3 h r j) = ((k h r j : ℝ) : EReal))
  (hv : ∀ (r : Fin 8448) (j : Fin 2048), x2 (ix2 r j) = ((v r j : ℝ) : EReal))
  (hw : ∀ (r : Fin 8448) (j : Fin 2048), x3 (ix2 r j) = ((w r j : ℝ) : EReal))
variable (h : Fin 16) (a : Fin 8192) (b : Fin 8448) (d : Fin 192)

include hq hk in
theorem v17_at : h_v17 (F := Ideal) x0 x1 (ix5 0 h 0 a 0) = ((mx x0 x1 h a : ℝ) : EReal) := by
  have e : h_v17 (F := Ideal) x0 x1 (ix5 0 h 0 a 0) = h_v16 (F := Ideal) x0 x1 (ix4 0 h 0 a) := by pointwise [h_v17]
  exact e.trans (v16_at hq hk h a)

include hq hk in
theorem v22_at : h_v22 (F := Ideal) x0 x1 (ix5 0 h 0 a 0) = ((l x0 x1 q k h a : ℝ) : EReal) := by
  have e : h_v22 (F := Ideal) x0 x1 (ix5 0 h 0 a 0) = h_v21 (F := Ideal) x0 x1 (ix4 0 h 0 a) := by pointwise [h_v22]
  exact e.trans (v21_at hq hk h a)

theorem v29_split : h_v29 (F := Ideal) x0 x1 (ix5 0 h 0 a 0)
    = h_v17 (F := Ideal) x0 x1 (ix5 0 h 0 a 0) + Ideal.log (h_v22 (F := Ideal) x0 x1 (ix5 0 h 0 a 0)) := by
  unfold h_v29 h_v28
  exact Cert.GqaHost.addf_log _ _ _ _

include hq hk in
theorem v29_at : h_v29 (F := Ideal) x0 x1 (ix5 0 h 0 a 0) = ((mx x0 x1 h a + Real.log (l x0 x1 q k h a) : ℝ) : EReal) :=
  (v29_split h a).trans (Cert.GqaHost.add_log (v17_at hq hk h a) (v22_at hq hk h a) (l_pos h a))

theorem v30_at (j : Fin 16) : h_v30 (F := Ideal) x0 x1 (ix3 j 0 a)
    = h_v29 (F := Ideal) x0 x1 (ix5 0 j 0 a 0) := by
  pointwise [h_v30]

include hq hk in
/-- The saved logarithm of the denominator, of the latent queries. -/
theorem v33_at (j : Fin 16) (hb : b.val < 8192) : h_v33 (F := Ideal) x0 x1 (ix3 j 0 b)
    = ((mx x0 x1 j b + Real.log (l x0 x1 q k j b) : ℝ) : EReal) := by
  pointwise [h_v33, h_cst_4]
  rw [dif_pos hb, v30_at, v29_at hq hk]

end Cert.MlaHost

end
-- ==== Proof.MlaRef.lean ====
/-
  What the latent attention's reference computes, one stage at a time, over the real numbers: the softmax of the scores, and the gradients of
  the attention's query, key and value as the textbook chain rule gives them.
-/
module

public import proofs.«01_k».proof.Proof.Gen.MlaReferenceIdeal.Read
public import proofs.«01_k».proof.Proof.Softmax
public import proofs.«01_k».proof.Proof.MlaNumbers
public import Idealize.ShloMosaic.Lib.Pointwise

@[expose] public section

set_option maxRecDepth 16384

noncomputable section

namespace Cert.MlaRef

open Idealize.ShloMosaic Cert.MlaReferenceIdeal Cert.MlaReferenceIdeal.Gen Cert.MlaReferenceIdeal.Read Cert.Sums Cert.Numbers Cert.MlaNumbers Cert.Softmax
open scoped BigOperators
open Finset (range)

variable {x0 x1 : (⟨S16x8448x192, .bf16⟩ : BufTy).Contents (Elt Ideal)} {x2 x3 : (⟨S8448x2048, .bf16⟩ : BufTy).Contents (Elt Ideal)}
variable {q k : ℕ → ℕ → ℕ → ℝ} {v w : ℕ → ℕ → ℝ}
variable (hq : ∀ (h : Fin 16) (r : Fin 8448) (j : Fin 192), x0 (ix3 h r j) = ((q h r j : ℝ) : EReal))
  (hk : ∀ (h : Fin 16) (r : Fin 8448) (j : Fin 192), x1 (ix3 h r j) = ((k h r j : ℝ) : EReal))
  (hv : ∀ (r : Fin 8448) (j : Fin 2048), x2 (ix2 r j) = ((v r j : ℝ) : EReal))
  (hw : ∀ (r : Fin 8448) (j : Fin 2048), x3 (ix2 r j) = ((w r j : ℝ) : EReal))
variable (h : Fin 16) (a : Fin 8192) (b : Fin 8448) (d : Fin 192)

/-- The scale. -/
theorem v11_at (i : S_.Idx) : val_main_v11 (F := Ideal) i = ((c192 : ℝ) : EReal) := by
  pointwise [val_main_v11, val_main_v10, val_main_cst, val_main_cst_0]
  exact scale_eq

include hq hk in
/-- The scaled scores. -/
theorem v16_at : val_main_v16 (F := Ideal) x0 x1 (ix5 0 h 0 a b) = ((score 192 (q h) (k h) a b * c192 : ℝ) : EReal) := by
  have e : val_main_v13 (F := Ideal) x0 x1 (ix5 0 h b a 0) = ((score 192 (q h) (k h) a b : ℝ) : EReal) := by
    pointwise [val_main_v13, val_main_v12, val_main_v8, val_main_v7, val_main_v6, val_main_v5, val_main_v4, val_main_v0, val_main_v1]
    exact sum_fin (f := fun d => k h b d * q h a d) fun d => by rw [hq, hk, ← EReal.coe_mul]
  pointwise [val_main_v16, val_main_v14, val_main_v15]
  rw [e, v11_at, ← EReal.coe_mul]

include hq hk in
/-- The row's largest score is some real number. -/
theorem v17_real : ∃ M : ℝ, val_main_v17 (F := Ideal) x0 x1 (ix4 0 h 0 a) = ((M : ℝ) : EReal) := by
  pointwise [val_main_v17, val_main_cst_1]
  rw [ofBits_bot]
  exact fold_max (Finset.univ : Finset (Fin 8448)) ⟨⟨0, by norm_num⟩, Finset.mem_univ _⟩
    (f := fun b => score 192 (q h) (k h) a b * c192) fun b => v16_at hq hk h a b

/-- The row's largest score. -/
def mx (x0 x1 : (⟨S16x8448x192, .bf16⟩ : BufTy).Contents (Elt Ideal))
    (h : Fin 16) (a : Fin 8192) : ℝ := EReal.toReal (val_main_v17 (F := Ideal) x0 x1 (ix4 0 h 0 a))

include hq hk in
theorem v17_at : val_main_v17 (F := Ideal) x0 x1 (ix4 0 h 0 a) = ((mx x0 x1 h a : ℝ) : EReal) := by
  obtain ⟨M, hM⟩ := v17_real hq hk h a
  rw [mx, hM]; rfl

include hq hk in
/-- The exponentials of the scores less the row's largest. -/
theorem v37_at : val_main_v37 (F := Ideal) x0 x1 (ix5 0 h 0 a b)
    = ((Real.exp (score 192 (q h) (k h) a b * c192 - mx x0 x1 h a) : ℝ) : EReal) := by
  have e : idx_main_v34 (idx_main_v35 (ix5 0 h 0 a b)) = ix4 0 h 0 a := by
    funext x; match x with | ⟨0, _⟩ => rfl | ⟨1, _⟩ => rfl | ⟨2, _⟩ => rfl | ⟨3, _⟩ => rfl
  rw [val_main_v37_apply, val_main_v36_apply, val_main_v35_apply, val_main_v34_apply, e, val_main_v24_apply, val_main_v23_apply,
    val_main_cst_3_apply, v16_at hq hk, v17_at hq hk]
  have e2 : FloatOps.maximumf (F := Ideal) (φ := .f32) (FloatOps.ofBits .f32 0xFF800000#32) ((mx x0 x1 h a : ℝ) : EReal)
      = ((mx x0 x1 h a : ℝ) : EReal) := by
    show max (Ideal.ofBits .f32 0xFF800000#32) _ = _
    rw [ofBits_bot]
    exact max_eq_right bot_le
  rw [e2, Ideal.subf_def, ← EReal.coe_sub]
  exact Ideal.exp_coe _

/-- The softmax's denominator. -/
abbrev l (x0 x1 : (⟨S16x8448x192, .bf16⟩ : BufTy).Contents (Elt Ideal))
    (q k : ℕ → ℕ → ℕ → ℝ) (h : Fin 16) (a : Fin 8192) : ℝ :=
  den 8448 (fun x => score 192 (q h) (k h) a x * c192) (mx x0 x1 h a)

theorem l_ne : l x0 x1 q k h a ≠ 0 := (den_pos (by norm_num) _ _).ne'

include hq hk in
theorem v38_at : val_main_v38 (F := Ideal) x0 x1 (ix4 0 h 0 a) = ((l x0 x1 q k h a : ℝ) : EReal) := by
  pointwise [val_main_v38, val_main_cst_9]
  exact sum_fin fun b => v37_at hq hk h a b

include hq hk in
/-- The softmax. -/
theorem v41_at : val_main_v41 (F := Ideal) x0 x1 (ix5 0 h 0 a b) = ((P 8448 192 c192 (q h) (k h) a b : ℝ) : EReal) := by
  pointwise [val_main_v41, val_main_v40, val_main_v39]
  rw [v37_at hq hk, v38_at hq hk, div_coe (l_ne h a)]
  exact congrArg _ (prob_eq (n := 8448) (fun x => score 192 (q h) (k h) a x * c192) (mx x0 x1 h a) b)

include hv hw in
/-- The probabilities' cotangents. -/
theorem v53_at : val_main_v53 (F := Ideal) x2 x3 (ix5 0 h 0 a b) = ((dP 128 (kh v h) (kh w h) a b : ℝ) : EReal) := by
  pointwise [val_main_v53, val_main_v52, val_main_v51, val_main_v50, val_main_v49, val_main_v3, val_main_v2, val_main_v9]
  refine sum_fin (f := fun e => v b (h * 128 + e) * w a (h * 128 + e)) fun e => ?_
  refine (congrArg₂ (· * ·) (hw _ _) (hv _ _)).trans ((EReal.coe_mul _ _).symm.trans (congrArg _ ?_))
  exact mul_comm _ _

include hq hk hv hw in
/-- The row's sum that the chain rule of the quotient takes. -/
theorem v59_at : val_main_v59 (F := Ideal) x0 x1 x2 x3 (ix4 0 h 0 a)
    = ((∑ x ∈ range 8448, dP 128 (kh v h) (kh w h) a x * (l x0 x1 q k h a * l x0 x1 q k h a)⁻¹
        * Real.exp (score 192 (q h) (k h) a x * c192 - mx x0 x1 h a) : ℝ) : EReal) := by
  pointwise [val_main_v59, val_main_v58, val_main_v57, val_main_v56, val_main_v44, val_main_v43, val_main_v42, val_main_v39,
    val_main_cst_10, val_main_cst_11]
  refine sum_fin fun b => ?_
  rw [v53_at hv hw, v38_at hq hk, v37_at hq hk, ← EReal.coe_mul, ← EReal.coe_one,
    div_coe (mul_ne_zero (l_ne h a) (l_ne h a)), one_mul, ← EReal.coe_mul, ← EReal.coe_mul]

/-- A sum over the three unit axes is the one element there is. -/
theorem unit_sum (hr : S1x16x1x8192x1.ReducesTo [0, 2, 4] S16x8192) (x : S1x16x1x8192x1.Idx → EReal) :
    Ideal.hostReduceAdd hr x 0 (ix2 h a) = x (ix5 0 h 0 a 0) := by
  have e : Finset.univ.filter (fun i => hr.drop i = ix2 h a) = {ix5 0 h 0 a 0} := by
    ext i
    simp only [Finset.mem_filter, Finset.mem_univ, true_and, Finset.mem_singleton]
    constructor
    · intro e
      funext z; apply Fin.ext
      match z with
      | ⟨0, _⟩ => have : (i 0).val < 1 := (i 0).isLt; show (i 0).val = 0; omega
      | ⟨1, _⟩ => exact congrArg Fin.val (congrFun e 0)
      | ⟨2, _⟩ => have : (i 2).val < 1 := (i 2).isLt; show (i 2).val = 0; omega
      | ⟨3, _⟩ => exact congrArg Fin.val (congrFun e 1)
      | ⟨4, _⟩ => have : (i 4).val < 1 := (i 4).isLt; show (i 4).val = 0; omega
    · rintro rfl
      funext z; apply Fin.ext
      match z with
      | ⟨0, _⟩ => rfl
      | ⟨1, _⟩ => rfl
  rw [Ideal.hostReduceAdd, e, Finset.sum_singleton, zero_add]

include hq hk hv hw in
/-- The cotangents of the unscaled scores. -/
theorem v70_at : val_main_v70 (F := Ideal) x0 x1 x2 x3 (ix5 0 h 0 a b)
    = ((dS 8448 192 128 c192 (q h) (k h) (kh v h) (kh w h) a b : ℝ) : EReal) := by
  pointwise [val_main_v70, val_main_v69, val_main_v68, val_main_v67, val_main_v63, val_main_v66, val_main_v65, val_main_v64,
    val_main_v62, val_main_v61, val_main_v60, val_main_v39, val_main_cst_12]
  rw [unit_sum]
  pointwise
  rw [v59_at hq hk hv hw, v53_at hv hw, v38_at hq hk, v37_at hq hk, v11_at, div_coe (l_ne h a), ← EReal.coe_neg,
    ← EReal.coe_add, ← EReal.coe_mul, ← EReal.coe_mul, dS_eq _ _ _ _ _ _ _ _ (by norm_num)]

end Cert.MlaRef

end
-- ==== Proof.MlaRefOut.lean ====
/-
  What the latent attention's reference returns, over the real numbers: the three gradients as sums over the queries and the keys.
-/
module

public import proofs.«01_k».proof.Proof.MlaRef

@[expose] public section

set_option maxRecDepth 16384

noncomputable section

namespace Cert.MlaRef

open Idealize.ShloMosaic Cert.MlaReferenceIdeal Cert.MlaReferenceIdeal.Gen Cert.MlaReferenceIdeal.Read Cert.Sums Cert.Numbers Cert.MlaNumbers Cert.Softmax
open scoped BigOperators
open Finset (range)

variable {x0 x1 : (⟨S16x8448x192, .bf16⟩ : BufTy).Contents (Elt Ideal)} {x2 x3 : (⟨S8448x2048, .bf16⟩ : BufTy).Contents (Elt Ideal)}
variable {q k : ℕ → ℕ → ℕ → ℝ} {v w : ℕ → ℕ → ℝ}
variable (hq : ∀ (h : Fin 16) (r : Fin 8448) (j : Fin 192), x0 (ix3 h r j) = ((q h r j : ℝ) : EReal))
  (hk : ∀ (h : Fin 16) (r : Fin 8448) (j : Fin 192), x1 (ix3 h r j) = ((k h r j : ℝ) : EReal))
  (hv : ∀ (r : Fin 8448) (j : Fin 2048), x2 (ix2 r j) = ((v r j : ℝ) : EReal))
  (hw : ∀ (r : Fin 8448) (j : Fin 2048), x3 (ix2 r j) = ((w r j : ℝ) : EReal))
variable (h : Fin 16) (a : Fin 8192) (b : Fin 8448) (d : Fin 192)

include hq hk hw in
/-- The value's gradient. -/
theorem v77_at (j : Fin 2048) : val_main_v77 (F := Ideal) x0 x1 x3 (ix2 b j)
    = ((dV 8448 192 c192 (q (j / 128)) (k (j / 128)) (kh w (j / 128)) 0 8192 b (j % 128) : ℝ) : EReal) := by
  pointwise [val_main_v77, val_main_v55, val_main_v54, val_main_v52, val_main_v51, val_main_v50, val_main_v49, val_main_v3]
  refine (Fin.sum_univ_one _).trans ?_
  refine sum_fin (f := fun a => P 8448 192 c192 (q (j / 128)) (k (j / 128)) (0 + a) b * kh w (j / 128) (0 + a) (j % 128)) fun a => ?_
  refine (congrArg₂ (· * ·) (hw _ _) (v41_at hq hk _ _ _)).trans ((EReal.coe_mul _ _).symm.trans (congrArg _ ?_))
  have e : j.val = j.val / 128 * 128 + j.val % 128 := by omega
  rw [Nat.zero_add a.val, mul_comm]
  exact congrArg (P 8448 192 c192 (q (j / 128)) (k (j / 128)) a b * w a ·) e

include hq hk hv hw in
/-- The key's gradient. -/
theorem v79_at (h : Fin 16) : val_main_v79 (F := Ideal) x0 x1 x2 x3 (ix3 h b d)
    = ((dK 8448 192 128 c192 (q h) (k h) (kh v h) (kh w h) 0 8192 b d : ℝ) : EReal) := by
  pointwise [val_main_v79, val_main_v78, val_main_v75, val_main_v74, val_main_v71, val_main_v12, val_main_v6, val_main_v5, val_main_v4,
    val_main_v0, val_main_cst_13]
  refine (Fin.sum_univ_one _).trans ?_
  refine sum_fin (f := fun a => dS 8448 192 128 c192 (q h) (k h) (kh v h) (kh w h) (0 + a) b * q h (0 + a) d) fun a => ?_
  refine (Fin.sum_univ_one _).trans ?_
  refine (congrArg₂ (· * ·) (v70_at hq hk hv hw _ _ _) (hq _ _ _)).trans ((EReal.coe_mul _ _).symm.trans (congrArg _ ?_))
  rw [Nat.zero_add a.val]

include hq hk hv hw in
/-- The query's gradient, for the latent queries. -/
theorem v84_at (h : Fin 16) (hb : b.val < 8192) : val_main_v84 (F := Ideal) x0 x1 x2 x3 (ix3 h d b)
    = ((dQ 8448 192 128 c192 (q h) (k h) (kh v h) (kh w h) b d : ℝ) : EReal) := by
  pointwise [val_main_v84, val_main_v83, val_main_v82, val_main_v81, val_main_v80, val_main_v76, val_main_v73, val_main_v72, val_main_v71,
    val_main_v8, val_main_v7, val_main_v1, val_main_cst_14, val_main_cst_15]
  rw [dif_pos hb]
  refine (Fin.sum_univ_one _).trans ?_
  refine sum_fin (f := fun x => k h x d * dS 8448 192 128 c192 (q h) (k h) (kh v h) (kh w h) b x) fun x => ?_
  refine (congrArg₂ (· * ·) (v70_at hq hk hv hw _ _ _) (hk _ _ _)).trans ((EReal.coe_mul _ _).symm.trans (congrArg _ ?_))
  exact mul_comm _ _

end Cert.MlaRef

end
-- ==== Proof.MlaPre.lean ====
/-
  The precondition and the mask of the latent attention's claims: every element of the arguments is a real number, and the
  mask selects the latent queries' columns of the first result.
-/
module

public import proofs.«01_k».proof.Pre_mla_finite
public import proofs.«01_k».proof.On_mla_written
public import proofs.«01_k».proof.Proof.GqaPre

@[expose] public section

set_option maxRecDepth 16384

noncomputable section

namespace Cert.MlaPre

open Idealize.ShloMosaic Cert.Numbers Cert.GqaPre

instance preFacts : Cert.Pre_mla_finite.Facts where
  bitsLt_bf16_f32 := by decide
  bcast_S_S16x8448x192 := by decide
  reducesTo_S16x8448x192_S_d0_1_2 := by decide
  h_S_ := by decide
  bcast_S_S8448x2048 := by decide
  reducesTo_S8448x2048_S_d0_1 := by decide

instance onFacts : Cert.On_mla_written.Facts where
  bcast_S_S16x192x8448 := by decide
  bcast_S_S16x8448x192 := by decide
  bcast_S_S8448x2048 := by decide

/-- The arguments' elements are real numbers. -/
theorem real (x0 x1 : FVec Ideal Pre_mla_finite.S16x8448x192 .bf16) (x2 x3 : FVec Ideal Pre_mla_finite.S8448x2048 .bf16)
    (h : Cert.Pre_mla_finite.fn (F := Ideal) x0 x1 x2 x3 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) := by
  have hs : Subsingleton Pre_mla_finite.S_.Idx := ⟨fun a b => funext fun k => k.elim0⟩
  have h := congrFun h (fun k => k.elim0)
  unfold Cert.Pre_mla_finite.fn Cert.Pre_mla_finite.fn_part1 at h
  dsimp only at h
  obtain ⟨h, h3⟩ := and_one _ _ h
  obtain ⟨h, h2⟩ := and_one _ _ h
  obtain ⟨h0, h1⟩ := and_one _ _ h
  exact ⟨fun i => cmp_at x0 _ _ i (Host.reduce_andi_all _ _ _ _ _ h0 i), fun i => cmp_at x1 _ _ i (Host.reduce_andi_all _ _ _ _ _ h1 i),
    fun i => cmp_at x2 _ _ i (Host.reduce_andi_all _ _ _ _ _ h2 i), fun i => cmp_at x3 _ _ i (Host.reduce_andi_all _ _ _ _ _ h3 i)⟩

/-- The table of an array of real numbers, one matrix a head. -/
theorem table3 {H R C : ℕ} (x : (⟨3, ![H, R, C]⟩ : Shape).Idx → EReal) (h : ∀ i, ∃ r : ℝ, x i = ((r : ℝ) : EReal)) :
    ∃ f : ℕ → ℕ → ℕ → ℝ, ∀ (g : Fin H) (r : Fin R) (j : Fin C), x (ix3 g r j) = ((f g r j : ℝ) : EReal) := by
  classical
  refine ⟨fun g r j => if h' : g < H ∧ r < R ∧ j < C then (x (ix3 ⟨g, h'.1⟩ ⟨r, h'.2.1⟩ ⟨j, h'.2.2⟩)).toReal else 0, fun g r j => ?_⟩
  obtain ⟨y, hy⟩ := h (ix3 g r j)
  show x (ix3 g r j) = (((if h' : g.val < H ∧ r.val < R ∧ j.val < C
    then (x (ix3 ⟨g, h'.1⟩ ⟨r, h'.2.1⟩ ⟨j, h'.2.2⟩)).toReal else 0 : ℝ)) : EReal)
  rw [dif_pos (⟨g.isLt, r.isLt, j.isLt⟩ : g.val < H ∧ r.val < R ∧ j.val < C), hy]
  rfl

/-- The mask of the first result selects columns of latent queries. -/
theorem mask (x0 x1 : FVec Ideal On_mla_written.S16x8448x192 .bf16) (x2 x3 : FVec Ideal On_mla_written.S8448x2048 .bf16)
    (h : Fin 16) (r : Fin 192) (j : Fin 8448)
    (hm : (Cert.On_mla_written.fn (F := Ideal) x0 x1 x2 x3).1 (ix3 h r j) = 1#1) : j.val < 8192 := by
  have e : (Cert.On_mla_written.fn (F := Ideal) x0 x1 x2 x3).1 (ix3 h r j)
      = BitVec.ofBool ((BitVec.ofNat 32 j.val).slt 8192#32) := rfl
  rw [e] at hm
  by_contra hn
  have hj := j.isLt
  have : (BitVec.ofNat 32 j.val).slt 8192#32 = false := by
    rw [BitVec.slt, decide_eq_false]
    rw [BitVec.toInt_eq_toNat_of_lt (by simp only [BitVec.toNat_ofNat]; omega), BitVec.toInt_eq_toNat_of_lt (by decide)]
    simp only [BitVec.toNat_ofNat]
    omega
  rw [this] at hm
  exact absurd hm (by decide)

end Cert.MlaPre

end
-- ==== Proof.MlaClaims.lean ====
/-
  The claims of the latent attention's gradient: the frames, the constants named, and the three results' equality with the
  reference's.
-/
module

public import proofs.«01_k».proof.Defs
public import proofs.«01_k».proof.Proof.Gen.Mla.Frame
public import proofs.«01_k».proof.Proof.Gen.MlaIdeal.Frame
public import proofs.«01_k».proof.Proof.Gen.MlaReferenceIdeal.Run
public import proofs.«01_k».proof.Proof.MlaArrays
public import proofs.«01_k».proof.Proof.MlaHostOut
public import proofs.«01_k».proof.Proof.MlaHostLse
public import proofs.«01_k».proof.Proof.MlaRefOut
public import proofs.«01_k».proof.Proof.MlaPre
public import Idealize.ShloMosaic.Adequacy
public import Idealize.ShloMosaic.Init

@[expose] public section

set_option maxRecDepth 16384

noncomputable section

namespace Cert.MlaClaims

open Idealize.ShloMosaic Idealize.ShloMosaic.TcCoe Idealize.SL.Sem Cert.MlaIdeal Cert.MlaIdeal.Gen Cert.Numbers
open Cert.MlaHost Cert.MlaPoint Cert.MlaArrays

theorem frame_p : Cert.quiescent_Mla := fun m ρ _ => Cert.Mla.Gen.frame m ρ
theorem frame_pi : Cert.quiescent_MlaIdeal := fun m ρ _ => Cert.MlaIdeal.Gen.frame m ρ
theorem frame_pi_pre : Cert.quiescent_MlaIdeal_pre_mla_finite := fun m ρ _ => Cert.MlaIdeal.Gen.frame m ρ
theorem frame_ri : Cert.quiescent_MlaReferenceIdeal := fun m ρ _ =>
  (θ_run Cert.MlaReferenceIdeal.defs _ _).mono (fun r h => ⟨fun c => (h c).2.2.2, Idealize.ShloMosaic.sem_eq_zero_of_no_sems (by decide) r.2⟩)
    (Cert.MlaReferenceIdeal.Value.run (F := Ideal) m ρ)
theorem frame_ri_pre : Cert.quiescent_MlaReferenceIdeal_pre_mla_finite := fun m ρ _ => frame_ri m ρ trivial

theorem preserves : Cert.preserves_Mla_MlaIdeal :=
  ⟨IdealRules.named_const.statement Cert.MlaIdeal.κ "scale_log2e" .f32 0x3DD53B95#32 _ rfl,
   IdealRules.named_const.statement Cert.MlaIdeal.κ "log2e" .f32 0x3FB8AA3B#32 _ rfl,
   IdealRules.named_const.statement Cert.MlaIdeal.κ "scale" .f32 0x3D93CD3A#32 _ rfl⟩

section Values

variable (m : (ℓ : Loc nD τ sig) → Buf (Elt Ideal) ℓ) (c : Dev nD)

abbrev a0 : (⟨S16x8448x192, .bf16⟩ : BufTy).Contents (Elt Ideal) := m ((c : Thread nD τ).loc main_arg0)
abbrev a1 : (⟨S16x8448x192, .bf16⟩ : BufTy).Contents (Elt Ideal) := m ((c : Thread nD τ).loc main_arg1)
abbrev a2 : (⟨S8448x2048, .bf16⟩ : BufTy).Contents (Elt Ideal) := m ((c : Thread nD τ).loc main_arg2)
abbrev a3 : (⟨S8448x2048, .bf16⟩ : BufTy).Contents (Elt Ideal) := m ((c : Thread nD τ).loc main_arg3)

/-- Arguments of real numbers give the call the arrays its gradient is worked out from. -/
theorem given {q k : ℕ → ℕ → ℕ → ℝ} {v w : ℕ → ℕ → ℝ}
    (hq : ∀ (h : Fin 16) (r : Fin 8448) (j : Fin 192), a0 m c (ix3 h r j) = ((q h r j : ℝ) : EReal))
    (hk : ∀ (h : Fin 16) (r : Fin 8448) (j : Fin 192), a1 m c (ix3 h r j) = ((k h r j : ℝ) : EReal))
    (hv : ∀ (r : Fin 8448) (j : Fin 2048), a2 m c (ix2 r j) = ((v r j : ℝ) : EReal))
    (hw : ∀ (r : Fin 8448) (j : Fin 2048), a3 m c (ix2 r j) = ((w r j : ℝ) : EReal)) :
    Given m c q k v w (mx (a0 m c) (a1 m c)) where
  hqT h r j := (congrFun (V_v34 m c) _).trans ((v34_at j r h).trans (hq h j r))
  hq h r j := (congrFun (V_main_arg0 m c) _).trans (hq h r j)
  hk h r j := (congrFun (V_main_arg1 m c) _).trans (hk h r j)
  hkT h r j := (congrFun (V_v35 m c) _).trans ((v35_at j r h).trans (hk h j r))
  hv r j := (congrFun (V_main_arg2 m c) _).trans (hv r j)
  hwT r j := (congrFun (V_v36 m c) _).trans ((v36_at j r).trans (hw j r))
  hw r j := (congrFun (V_main_arg3 m c) _).trans (hw r j)
  ho r j hj := (congrFun (V_v32 m c) _).trans (v32_at hq hk hv j r hj)
  hlse r j hj := (congrFun (V_v33 m c) _).trans (v33_at hq hk j r hj)

end Values

/-- The elements of the three results, the kernel's and the reference's. -/
theorem values (m : (ℓ : Loc nD τ sig) → Buf (Elt Ideal) ℓ) (c : Dev nD) (h : Cert.Pre_MlaIdeal_mla_finite m) :
    (∀ (h : Fin 16) (r : Fin 192) (j : Fin 8448), j.val < 8192 →
        Cert.MlaReferenceIdeal.Read.val_main_v84 (F := Ideal) (a0 m c) (a1 m c) (a2 m c) (a3 m c) (ix3 h r j)
        = (dats m 0 c).arrAt 9 cfg0.N (ix3 h r j))
      ∧ (∀ (h : Fin 16) (r : Fin 8448) (j : Fin 192),
        Cert.MlaReferenceIdeal.Read.val_main_v79 (F := Ideal) (a0 m c) (a1 m c) (a2 m c) (a3 m c) (ix3 h r j)
        = (dats m 0 c).arrAt 10 cfg0.N (ix3 h r j))
      ∧ (∀ (r : Fin 8448) (j : Fin 2048), Cert.MlaReferenceIdeal.Read.val_main_v77 (F := Ideal) (a0 m c) (a1 m c) (a3 m c) (ix2 r j)
        = (dats m 0 c).arrAt 11 cfg0.N (ix2 r j)) := by
  obtain ⟨h0, h1, h2, h3⟩ := Cert.MlaPre.real _ _ _ _ (h c)
  obtain ⟨q, hq⟩ := Cert.MlaPre.table3 (H := 16) (R := 8448) (C := 192) (a0 m c) h0
  obtain ⟨k, hk⟩ := Cert.MlaPre.table3 (H := 16) (R := 8448) (C := 192) (a1 m c) h1
  obtain ⟨v, hv⟩ := Cert.GqaPre.table (R := 8448) (C := 2048) (a2 m c) h2
  obtain ⟨w, hw⟩ := Cert.GqaPre.table (R := 8448) (C := 2048) (a3 m c) h3
  have G := given m c hq hk hv hw
  exact ⟨fun h r j hj => (Cert.MlaRef.v84_at hq hk hv hw j r h hj).trans (final9 G h r j hj).symm,
    fun h r j => (Cert.MlaRef.v79_at hq hk hv hw r j h).trans (final10 G h r j).symm,
    fun r j => (Cert.MlaRef.v77_at hq hk hw r j).trans (final11 G r j).symm⟩

theorem algebraic : Cert.algebraic_MlaIdeal_MlaReferenceIdeal_on_mla_written_pre_mla_finite := by
  intro m g m' g' hpre ha
  refine ⟨fun c => (dats m 0 c).arrAt 9 cfg0.N, fun c => (dats m 0 c).arrAt 10 cfg0.N, fun c => (dats m 0 c).arrAt 11 cfg0.N, ?_, ?_⟩
  · refine (θ_run Cert.MlaIdeal.defs _ _).mono (fun r h c => ?_) (Cert.MlaIdeal.Value.run_blocks m g)
    obtain ⟨e0, e1, e2, ek⟩ := h c
    exact ⟨fun i _ => congrFun e0 i, fun i _ => congrFun e1 i, fun i _ => congrFun e2 i, ek⟩
  · refine (θ_run Cert.MlaReferenceIdeal.defs _ _).mono (fun r h c => ?_) (Cert.MlaReferenceIdeal.Value.run (F := Ideal) m' g')
    obtain ⟨e0, e1, e2, ek⟩ := h c
    obtain ⟨u0, u1, u2, u3⟩ := ha c
    obtain ⟨w0, w1, w2⟩ := values m c hpre
    refine ⟨fun i hi => ?_, fun i _ => ?_, fun i _ => ?_, ek⟩
    · rw [e0, Cert.MlaReferenceIdeal.Read.val_main_v84_eq, u0, u1, u2, u3]
      rw [eq_ix3 i] at hi ⊢
      exact w0 _ _ _ (Cert.MlaPre.mask _ _ _ _ _ _ _ hi)
    · rw [e1, Cert.MlaReferenceIdeal.Read.val_main_v79_eq, u0, u1, u2, u3]
      rw [eq_ix3 i]
      exact w1 _ _ _
    · rw [e2, Cert.MlaReferenceIdeal.Read.val_main_v77_eq, u0, u1, u3]
      rw [eq_ix2 i]
      exact w2 _ _

end Cert.MlaClaims

end
-- ==== Proof.Product.lean ====
/-
  Products of matrices over the extended reals, as the proofs of the feed-forward layers' products use them: a matrix as a
  table, an element of a product as a sum over the first so many terms, and the sum a stretch of terms at a time.
-/
module

public import Idealize.ShloMosaic.PureOps.Ideal
public import Idealize.ShloMosaic.Lib.Pointwise
public import Mathlib.Algebra.BigOperators.Intervals

@[expose] public section

noncomputable section

namespace Cert.Product

open Idealize.ShloMosaic
open scoped BigOperators
open Finset (range)

/-- The sum of the first `n` terms of the product's element at row `r` and column `c`. -/
def mm (f g : ℕ → ℕ → EReal) (n r c : ℕ) : EReal := ∑ x ∈ range n, f r x * g x c

/-- The same element, by equal numbers. -/
theorem mm_congr {f g : ℕ → ℕ → EReal} {n n' r r' c c' : ℕ} (hn : n = n') (hr : r = r') (hc : c = c') : mm f g n r c = mm f g n' r' c' := by
  rw [hn, hr, hc]

/-- All the terms, as a sum over the coordinates of one axis. -/
theorem mm_fin {f g : ℕ → ℕ → EReal} {n r c : ℕ} {F : Fin n → EReal} (h : ∀ a : Fin n, F a = f r a * g a c) : ∑ a, F a = mm f g n r c := by
  rw [Finset.sum_congr rfl fun a _ => h a, Fin.sum_univ_eq_sum_range (fun x => f r x * g x c) n]
  rfl

/-- The terms of one more stretch. -/
theorem mm_next {f g : ℕ → ℕ → EReal} {k n r c : ℕ} {F : Fin n → EReal} (h : ∀ a : Fin n, F a = f r (k * n + a) * g (k * n + a) c) :
    mm f g (k * n) r c + ∑ a, F a = mm f g ((k + 1) * n) r c := by
  rw [Finset.sum_congr rfl fun a _ => h a, Fin.sum_univ_eq_sum_range (fun x => f r (k * n + x) * g (k * n + x) c) n]
  unfold mm
  rw [Nat.succ_mul, Finset.sum_range_add]

/-- The terms of the first stretch. -/
theorem mm_first {f g : ℕ → ℕ → EReal} {k n r c : ℕ} {F : Fin n → EReal} (hk : k = 0) (h : ∀ a : Fin n, F a = f r (k * n + a) * g (k * n + a) c) :
    ∑ a, F a = mm f g ((k + 1) * n) r c := by
  rw [← mm_next h, hk, Nat.zero_mul]
  unfold mm
  rw [Finset.sum_range_zero, zero_add]

/-- A matrix as a table. -/
def tab {R C : ℕ} (X : (⟨2, ![R, C]⟩ : Shape).Idx → EReal) (r j : ℕ) : EReal :=
  if h : r < R ∧ j < C then X (ix2 ⟨r, h.1⟩ ⟨j, h.2⟩) else 0

/-- A matrix read at an index known by its two coordinates' values. -/
theorem at2 {f : ℕ → ℕ → EReal} {R C : ℕ} {X : (⟨2, ![R, C]⟩ : Shape).Idx → EReal} (hX : ∀ (r : Fin R) (j : Fin C), X (ix2 r j) = f r j)
    (i : (⟨2, ![R, C]⟩ : Shape).Idx) {r j : ℕ} (hr : (i 0).val = r) (hj : (i 1).val = j) : X i = f r j := by
  subst hr hj
  refine Eq.trans (congrArg X ?_) (hX (i 0) (i 1))
  funext a
  match a with
  | ⟨0, _⟩ => rfl
  | ⟨1, _⟩ => rfl

theorem tab_ix {R C : ℕ} (X : (⟨2, ![R, C]⟩ : Shape).Idx → EReal) (r : Fin R) (j : Fin C) : X (ix2 r j) = tab X r j := by
  unfold tab
  rw [dif_pos ⟨r.isLt, j.isLt⟩]

theorem tab_at {R C : ℕ} (X : (⟨2, ![R, C]⟩ : Shape).Idx → EReal) (i : (⟨2, ![R, C]⟩ : Shape).Idx) {r j : ℕ} (hr : (i 0).val = r) (hj : (i 1).val = j) :
    X i = tab X r j := at2 (tab_ix X) i hr hj

end Cert.Product

end
-- ==== Proof.UpDaClaims.lean ====
/-
  What the call of the gradient of the feed-forward layer's first product in its rows computes, over the extended reals: the whole product, each block of the result
  as a sum over stretches of the contracted axis; and the claims of the call and its reference.
-/
module

public import proofs.«01_k».proof.Defs
public import proofs.«01_k».proof.Proof.Gen.UpDa.Frame
public import proofs.«01_k».proof.Proof.Gen.UpDaIdeal.Frame
public import proofs.«01_k».proof.Proof.Gen.UpDaIdeal.Value
public import proofs.«01_k».proof.Proof.Gen.UpDaReferenceIdeal.Run
public import proofs.«01_k».proof.Proof.Gen.UpDaReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.UpDaClaims

open Idealize.ShloMosaic Idealize.ShloMosaic.TcCoe Idealize.ShloMosaic.Tactic Idealize.SL.Sem Cert.UpDaIdeal Cert.UpDaIdeal.Gen Cert.Product
open scoped BigOperators

/-! ### Which block each window is on, over the grid -/

theorem idx0 : ∀ t : Fin grid0.N, win0_0.index t 0 = t.val / 8 ∧ win0_0.index t 1 = t.val % 4 := by decide +kernel
theorem idx1 : ∀ t : Fin grid0.N, win0_1.index t 0 = t.val / 4 % 2 ∧ win0_1.index t 1 = t.val % 4 := by decide +kernel
theorem idx2 : ∀ t : Fin grid0.N, win0_2.index t 0 = t.val / 8 ∧ win0_2.index t 1 = t.val / 4 % 2 := by decide +kernel
theorem xs2 : ∀ t : Fin grid0.N, win0_2.xsize (grid0.coords t) 0 = 1408 ∧ win0_2.xsize (grid0.coords t) 1 = 1024 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 5632), V m c main_arg0 (ix2 r x) = f r x
  hg : ∀ (r : Fin 2048) (x : Fin 5632), V m c main_arg1 (ix2 r x) = g x r

/-- The two blocks the body reads at a point. -/
abbrev blkA (t : Fin cfg0.N) : Vec Ideal S1408x1408 .bf16 := iblk m c 0 t
abbrev blkB (t : Fin cfg0.N) : Vec Ideal S1024x1408 .bf16 := iblk m c 1 t

variable {m c} {f g : ℕ → ℕ → EReal} (G : Given m c f g) (t : Fin cfg0.N)

include G

theorem blk0 (y : Fin 1408) (x : Fin 1408) : iblk m c 0 t (ix2 y x) = f ((t.val / 8) * 1408 + y) ((t.val % 4) * 1408 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 1408 + x.val) (idx0 t).2)

theorem blk1 (y : Fin 1024) (x : Fin 1408) : iblk m c 1 t (ix2 y x) = g ((t.val % 4) * 1408 + x) ((t.val / 4 % 2) * 1024 + y) := by
  unfold iblk
  rw [View.read_apply]
  refine at2 (f := fun r x => g x r) G.hg _ ?_ ?_
  · exact (win0_1.rect_emb_val t _ 0).trans (congrArg (· * 1024 + y.val) (idx1 t).1)
  · exact (win0_1.rect_emb_val t _ 1).trans (congrArg (· * 1408 + x.val) (idx1 t).2)

omit G

/-! ### A stored value at an element -/

section
variable (X : Vec Ideal S1408x1408 .bf16) (Y : Vec Ideal S1024x1408 .bf16) (r : Fin 1408) (j : Fin 1024)

theorem pay1_at : k0_pay1 X Y (ix2 r j) = ∑ a : Fin 1408, X (ix2 r a) * Y (ix2 j a) := by pointwise [k0_pay1]
theorem pay2_at : k0_pay2 X Y (ix2 r j) = ∑ a : Fin 1408, X (ix2 r a) * Y (ix2 j a) := by
  refine Eq.trans ?_ (pay1_at X Y r j)
  pointwise [k0_pay2]
theorem pay3_at (A : Vec Ideal S1408x1024 .f32) : k0_pay3 X Y A (ix2 r j) = A (ix2 r j) + ∑ a : Fin 1408, X (ix2 r a) * Y (ix2 j a) := by
  refine Eq.trans ?_ (congrArg (A (ix2 r j) + ·) (pay1_at X Y r j))
  pointwise [k0_pay3]
theorem pay4_at (A : Vec Ideal S1408x1024 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 4 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 4 = 0) (h2 : ¬t.val % 4 = 3) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 4 = 0) (h2 : t.val % 4 = 3) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 4 = 0) (h2 : t.val % 4 = 3) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 1408) (j : Fin 1024), (outsAt0 m c t.val t.isLt).2 (ix2 r j) = mm f g ((t.val % 4 + 1) * 1408) ((t.val / 8) * 1408 + r) ((t.val / 4 % 2) * 1024 + j)

/-- The point before, as a point. -/
abbrev before : Fin cfg0.N := ⟨t.val - 1, Nat.lt_of_le_of_lt (Nat.sub_le _ _) t.isLt⟩

include G in
theorem terms (r : Fin 1408) (j : Fin 1024) (a : Fin 1408) :
    blkA m c t (ix2 r a) * blkB m c t (ix2 j a) = f ((t.val / 8) * 1408 + r) ((t.val % 4) * 1408 + a) * g ((t.val % 4) * 1408 + a) ((t.val / 4 % 2) * 1024 + j) :=
  congrArg₂ (· * ·) (blk0 G t r a) (blk1 G t j a)

include G in
/-- One point keeps the invariant. -/
theorem inv_step (I : ¬t.val % 4 = 0 → Inv m c f g (before t)) : Inv m c f g t := by
  intro r j
  by_cases h0 : t.val % 4 = 0
  · rw [acc_A m c t h0]
    exact (pay2_at _ _ r j).trans (mm_first h0 (terms G t r j))
  · have hp : (prev m c t).2 (ix2 r j) = mm f g ((t.val % 4) * 1408) ((t.val / 8) * 1408 + r) ((t.val / 4 % 2) * 1024 + j) := by
      refine (I h0 r j).trans (mm_congr ?_ ?_ ?_)
      · show ((t.val - 1) % 4 + 1) * 1408 = t.val % 4 * 1408
        omega
      · show (t.val - 1) / 8 * 1408 + r.val = t.val / 8 * 1408 + r.val
        omega
      · show (t.val - 1) / 4 % 2 * 1024 + j.val = t.val / 4 % 2 * 1024 + j.val
        omega
    have hn : (prev m c t).2 (ix2 r j) + ∑ a : Fin 1408, blkA m c t (ix2 r a) * blkB m c t (ix2 j a) = _ := (congrArg (· + _) hp).trans (mm_next (terms G t r j))
    by_cases h2 : t.val % 4 = 3
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 4 = 3) (r : Fin 1408) (j : Fin 1024) :
    (outsAt0 m c t.val t.isLt).1 (ix2 r j) = mm f g 5632 ((t.val / 8) * 1408 + r) ((t.val / 4 % 2) * 1024 + j) := by
  rw [out_C m c t (by omega) h]
  refine (pay4_at r j _).trans ((inv G t.val t.isLt r j).trans (mm_congr ?_ rfl rfl))
  show (t.val % 4 + 1) * 1408 = 5632
  omega

/-- The result, as contents. -/
abbrev res (f g : ℕ → ℕ → EReal) : S8448x2048.Idx → EReal := fun i => mm f g 5632 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.UpDaIdeal.Value.flushed2 m c t]
  funext y
  rw [View.read_apply]
  refine (at2 (f := fun r j => mm f g 5632 ((t.val / 8) * 1408 + r) ((t.val / 4 % 2) * 1024 + j)) (last G t h) _ rfl rfl).trans (mm_congr rfl ?_ ?_)
  · exact ((win0_2.rect_emb_val t y 0).trans (congrArg (· * 1408 + (y 0).val) (idx2 t).1)).symm
  · exact ((win0_2.rect_emb_val t y 1).trans (congrArg (· * 1024 + (y 1).val) (idx2 t).2)).symm

include G in
/-- Every element of the result at the end. -/
theorem final (r : Fin 8448) (j : Fin 2048) : (dats m 0 c).arrAt 2 cfg0.N (ix2 r j) = mm f g 5632 r j := by
  have hj := j.isLt
  have hr := r.isLt
  have hn : r.val / 1408 * 8 + j.val / 1024 * 4 + 3 < cfg0.N := by rw [show cfg0.N = 48 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 1024 ≤ j.val ∧ j.val < win0_2.index ⟨_, hn⟩ 1 * 1024 + win0_2.xsize (grid0.coords ⟨_, hn⟩) 1
    rw [i1, s1]; dsimp only; omega

end Kernel

/-! ### The arguments, the reference, and the claims -/

/-- The first argument as a table, by the result's rows and the contracted axis. -/
abbrev left (x0 : (⟨S8448x5632, .bf16⟩ : BufTy).Contents (Elt Ideal)) : ℕ → ℕ → EReal := tab (R := 8448) (C := 5632) x0
/-- The second, by the contracted axis and the result's columns. -/
abbrev right (x1 : (⟨S2048x5632, .bf16⟩ : BufTy).Contents (Elt Ideal)) : ℕ → ℕ → EReal := fun x j => tab (R := 2048) (C := 5632) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x5632, .bf16⟩ : BufTy).Contents (Elt Ideal)) (x1 : (⟨S2048x5632, .bf16⟩ : BufTy).Contents (Elt Ideal))
    (r : Fin 8448) (j : Fin 2048) : Cert.UpDaReferenceIdeal.Read.val_main_v5 (F := Ideal) x0 x1 (ix2 r j) = mm (left x0) (right x1) 5632 r j := by
  refine (Cert.UpDaReferenceIdeal.Read.val_main_v4_apply x0 x1 _).trans (mm_fin fun a => ?_)
  exact congrArg₂ (· * ·) (tab_at (R := 8448) (C := 5632) x0 _ rfl rfl) (tab_at (R := 2048) (C := 5632) x1 _ rfl rfl)

theorem frame_p : Cert.quiescent_UpDa := fun m ρ _ => Cert.UpDa.Gen.frame m ρ
theorem frame_pi : Cert.quiescent_UpDaIdeal := fun m ρ _ => Cert.UpDaIdeal.Gen.frame m ρ
theorem frame_ri : Cert.quiescent_UpDaReferenceIdeal := fun m ρ _ =>
  (θ_run Cert.UpDaReferenceIdeal.defs _ _).mono (fun r h => ⟨fun c => (h c).2, Idealize.ShloMosaic.sem_eq_zero_of_no_sems (by decide) r.2⟩)
    (Cert.UpDaReferenceIdeal.Value.run (F := Ideal) m ρ)

theorem preserves : Cert.preserves_UpDa_UpDaIdeal := trivial

theorem algebraic : Cert.algebraic_UpDaIdeal_UpDaReferenceIdeal := by
  intro m g m' g' _ ha
  refine ⟨fun c => (dats m 0 c).arrAt 2 cfg0.N, Cert.UpDaIdeal.Value.run_blocks m g, ?_⟩
  refine (θ_run Cert.UpDaReferenceIdeal.defs _ _).mono (fun r h c => ?_) (Cert.UpDaReferenceIdeal.Value.run (F := Ideal) m' g')
  obtain ⟨e0, ek⟩ := h c
  obtain ⟨u0, u1⟩ := ha c
  refine ⟨?_, ek⟩
  rw [e0, Cert.UpDaReferenceIdeal.Read.val_main_v5_eq, u0, u1]
  funext i
  rw [eq_ix2 i]
  exact (ref_at _ _ _ _).trans (final (given m c) _ _).symm

end Cert.UpDaClaims

end
-- ==== Proof.UpDwClaims.lean ====
/-
  What the call of the gradient of the feed-forward layer's first product in its weight computes, over the extended reals: the whole product, each block of the result
  as a sum over stretches of the contracted axis; and the claims of the call and its reference.
-/
module

public import proofs.«01_k».proof.Defs
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwReferenceIdeal.Run
public import proofs.«01_k».proof.Proof.Gen.UpDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.UpDwClaims

open Idealize.ShloMosaic Idealize.ShloMosaic.TcCoe Idealize.ShloMosaic.Tactic Idealize.SL.Sem Cert.UpDwIdeal Cert.UpDwIdeal.Gen Cert.Product
open scoped BigOperators

/-! ### Which block each window is on, over the grid -/

theorem idx0 : ∀ t : Fin grid0.N, win0_0.index t 0 = t.val / 24 ∧ win0_0.index t 1 = t.val % 6 := by decide +kernel
theorem idx1 : ∀ t : Fin grid0.N, win0_1.index t 0 = t.val % 6 ∧ win0_1.index t 1 = t.val / 6 % 4 := by decide +kernel
theorem idx2 : ∀ t : Fin grid0.N, win0_2.index t 0 = t.val / 24 ∧ win0_2.index t 1 = t.val / 6 % 4 := by decide +kernel
theorem xs2 : ∀ t : Fin grid0.N, win0_2.xsize (grid0.coords t) 0 = 1024 ∧ win0_2.xsize (grid0.coords t) 1 = 1408 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 2048) (x : Fin 8448), V m c main_v0 (ix2 r x) = f r x
  hg : ∀ (r : Fin 8448) (x : Fin 5632), V m c main_arg1 (ix2 r x) = g r x

/-- The two blocks the body reads at a point. -/
abbrev blkA (t : Fin cfg0.N) : Vec Ideal S1024x1408 .bf16 := iblk m c 0 t
abbrev blkB (t : Fin cfg0.N) : Vec Ideal S1408x1408 .bf16 := iblk m c 1 t

variable {m c} {f g : ℕ → ℕ → EReal} (G : Given m c f g) (t : Fin cfg0.N)

include G

theorem blk0 (y : Fin 1024) (x : Fin 1408) : iblk m c 0 t (ix2 y x) = f ((t.val / 24) * 1024 + y) ((t.val % 6) * 1408 + x) := by
  unfold iblk
  rw [View.read_apply]
  refine at2 G.hf _ ?_ ?_
  · exact (win0_0.rect_emb_val t _ 0).trans (congrArg (· * 1024 + y.val) (idx0 t).1)
  · exact (win0_0.rect_emb_val t _ 1).trans (congrArg (· * 1408 + x.val) (idx0 t).2)

theorem blk1 (y : Fin 1408) (x : Fin 1408) : iblk m c 1 t (ix2 y x) = g ((t.val % 6) * 1408 + y) ((t.val / 6 % 4) * 1408 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 1408 + x.val) (idx1 t).2)

omit G

/-! ### A stored value at an element -/

section
variable (X : Vec Ideal S1024x1408 .bf16) (Y : Vec Ideal S1408x1408 .bf16) (r : Fin 1024) (j : Fin 1408)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S1024x1408 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S1024x1408 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 1024) (j : Fin 1408), (outsAt0 m c t.val t.isLt).2 (ix2 r j) = mm f g ((t.val % 6 + 1) * 1408) ((t.val / 24) * 1024 + r) ((t.val / 6 % 4) * 1408 + j)

/-- The point before, as a point. -/
abbrev before : Fin cfg0.N := ⟨t.val - 1, Nat.lt_of_le_of_lt (Nat.sub_le _ _) t.isLt⟩

include G in
theorem terms (r : Fin 1024) (j : Fin 1408) (a : Fin 1408) :
    blkA m c t (ix2 r a) * blkB m c t (ix2 a j) = f ((t.val / 24) * 1024 + r) ((t.val % 6) * 1408 + a) * g ((t.val % 6) * 1408 + a) ((t.val / 6 % 4) * 1408 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 24) * 1024 + r) ((t.val / 6 % 4) * 1408 + j) := by
      refine (I h0 r j).trans (mm_congr ?_ ?_ ?_)
      · show ((t.val - 1) % 6 + 1) * 1408 = t.val % 6 * 1408
        omega
      · show (t.val - 1) / 24 * 1024 + r.val = t.val / 24 * 1024 + r.val
        omega
      · show (t.val - 1) / 6 % 4 * 1408 + j.val = t.val / 6 % 4 * 1408 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 1024) (j : Fin 1408) :
    (outsAt0 m c t.val t.isLt).1 (ix2 r j) = mm f g 8448 ((t.val / 24) * 1024 + r) ((t.val / 6 % 4) * 1408 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S2048x5632.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.UpDwIdeal.Value.flushed2 m c t]
  funext y
  rw [View.read_apply]
  refine (at2 (f := fun r j => mm f g 8448 ((t.val / 24) * 1024 + r) ((t.val / 6 % 4) * 1408 + j)) (last G t h) _ rfl rfl).trans (mm_congr rfl ?_ ?_)
  · exact ((win0_2.rect_emb_val t y 0).trans (congrArg (· * 1024 + (y 0).val) (idx2 t).1)).symm
  · exact ((win0_2.rect_emb_val t y 1).trans (congrArg (· * 1408 + (y 1).val) (idx2 t).2)).symm

include G in
/-- Every element of the result at the end. -/
theorem final (r : Fin 2048) (j : Fin 5632) : (dats m 0 c).arrAt 2 cfg0.N (ix2 r j) = mm f g 8448 r j := by
  have hj := j.isLt
  have hr := r.isLt
  have hn : r.val / 1024 * 24 + j.val / 1408 * 6 + 5 < cfg0.N := by rw [show cfg0.N = 48 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1024 ≤ r.val ∧ r.val < win0_2.index ⟨_, hn⟩ 0 * 1024 + win0_2.xsize (grid0.coords ⟨_, hn⟩) 0
    rw [i0, s0]; dsimp only; omega
  | ⟨1, _⟩ =>
    show win0_2.index ⟨_, hn⟩ 1 * 1408 ≤ j.val ∧ j.val < win0_2.index ⟨_, hn⟩ 1 * 1408 + win0_2.xsize (grid0.coords ⟨_, hn⟩) 1
    rw [i1, s1]; dsimp only; omega

end Kernel

/-! ### The arguments, the reference, and the claims -/

/-- The first array the call is given: the argument's transpose. -/
def h_v0 (x0 : (⟨S8448x2048, .bf16⟩ : BufTy).Contents (Elt Ideal)) : (⟨S2048x8448, .bf16⟩ : BufTy).Contents (Elt Ideal) :=
  (transpose S2048x8448 [1, 0] · transposes_S8448x2048_S2048x8448_1_0) x0
theorem v0_at (x0 : (⟨S8448x2048, .bf16⟩ : BufTy).Contents (Elt Ideal)) (r : Fin 2048) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x2048, .bf16⟩ : BufTy).Contents (Elt Ideal)) : ℕ → ℕ → EReal := fun r x => tab (R := 8448) (C := 2048) x0 x r
/-- The second, by the contracted axis and the result's columns. -/
abbrev right (x1 : (⟨S8448x5632, .bf16⟩ : BufTy).Contents (Elt Ideal)) : ℕ → ℕ → EReal := tab (R := 8448) (C := 5632) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x2048, .bf16⟩ : BufTy).Contents (Elt Ideal)) (x1 : (⟨S8448x5632, .bf16⟩ : BufTy).Contents (Elt Ideal))
    (r : Fin 2048) (j : Fin 5632) : Cert.UpDwReferenceIdeal.Read.val_main_v6 (F := Ideal) x0 x1 (ix2 r j) = mm (left x0) (right x1) 8448 r j := by
  refine (Cert.UpDwReferenceIdeal.Read.val_main_v5_apply (F := Ideal) x0 x1 _).trans ?_
  refine (Cert.UpDwReferenceIdeal.Read.val_main_v4_apply x0 x1 _).trans (mm_fin fun a => ?_)
  exact (mul_comm _ _).trans (congrArg₂ (· * ·) (tab_at (R := 8448) (C := 2048) x0 _ rfl rfl) (tab_at (R := 8448) (C := 5632) x1 _ rfl rfl))

theorem frame_p : Cert.quiescent_UpDw := fun m ρ _ => Cert.UpDw.Gen.frame m ρ
theorem frame_pi : Cert.quiescent_UpDwIdeal := fun m ρ _ => Cert.UpDwIdeal.Gen.frame m ρ
theorem frame_ri : Cert.quiescent_UpDwReferenceIdeal := fun m ρ _ =>
  (θ_run Cert.UpDwReferenceIdeal.defs _ _).mono (fun r h => ⟨fun c => (h c).2, Idealize.ShloMosaic.sem_eq_zero_of_no_sems (by decide) r.2⟩)
    (Cert.UpDwReferenceIdeal.Value.run (F := Ideal) m ρ)

theorem preserves : Cert.preserves_UpDw_UpDwIdeal := trivial

theorem algebraic : Cert.algebraic_UpDwIdeal_UpDwReferenceIdeal := by
  intro m g m' g' _ ha
  refine ⟨fun c => (dats m 0 c).arrAt 2 cfg0.N, Cert.UpDwIdeal.Value.run_blocks m g, ?_⟩
  refine (θ_run Cert.UpDwReferenceIdeal.defs _ _).mono (fun r h c => ?_) (Cert.UpDwReferenceIdeal.Value.run (F := Ideal) m' g')
  obtain ⟨e0, ek⟩ := h c
  obtain ⟨u0, u1⟩ := ha c
  refine ⟨?_, ek⟩
  rw [e0, Cert.UpDwReferenceIdeal.Read.val_main_v6_eq, u0, u1]
  funext i
  rw [eq_ix2 i]
  exact (ref_at _ _ _ _).trans (final (given m c) _ _).symm

end Cert.UpDwClaims

end
-- ==== Proof.DownDaClaims.lean ====
/-
  What the call of the gradient of the feed-forward layer's second product in its rows computes, over the extended reals: the whole product, each block of the result
  as a sum over stretches of the contracted axis; and the claims of the call and its reference.
-/
module

public import proofs.«01_k».proof.Defs
public import proofs.«01_k».proof.Proof.Gen.DownDa.Frame
public import proofs.«01_k».proof.Proof.Gen.DownDaIdeal.Frame
public import proofs.«01_k».proof.Proof.Gen.DownDaIdeal.Value
public import proofs.«01_k».proof.Proof.Gen.DownDaReferenceIdeal.Run
public import proofs.«01_k».proof.Proof.Gen.DownDaReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.DownDaClaims

open Idealize.ShloMosaic Idealize.ShloMosaic.TcCoe Idealize.ShloMosaic.Tactic Idealize.SL.Sem Cert.DownDaIdeal Cert.DownDaIdeal.Gen Cert.Product
open scoped BigOperators

/-! ### Which block each window is on, over the grid -/

theorem idx0 : ∀ t : Fin grid0.N, win0_0.index t 0 = t.val / 11 ∧ win0_0.index t 1 = 0 := by decide +kernel
theorem idx1 : ∀ t : Fin grid0.N, win0_1.index t 0 = t.val % 11 ∧ win0_1.index t 1 = 0 := by decide +kernel
theorem idx2 : ∀ t : Fin grid0.N, win0_2.index t 0 = t.val / 11 ∧ win0_2.index t 1 = t.val % 11 := by decide +kernel
theorem xs2 : ∀ t : Fin grid0.N, win0_2.xsize (grid0.coords t) 0 = 1408 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 5632) (x : Fin 2048), V m c main_arg1 (ix2 r x) = g x r

/-- The two blocks the body reads at a point. -/
abbrev blkA (t : Fin cfg0.N) : Vec Ideal S1408x2048 .bf16 := iblk m c 0 t
abbrev blkB (t : Fin cfg0.N) : Vec Ideal S512x2048 .bf16 := iblk m c 1 t

variable {m c} {f g : ℕ → ℕ → EReal} (G : Given m c f g) (t : Fin cfg0.N)

include G

theorem blk0 (y : Fin 1408) (x : Fin 2048) : iblk m c 0 t (ix2 y x) = f ((t.val / 11) * 1408 + y) (0 * 2048 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 2048 + x.val) (idx0 t).2)

theorem blk1 (y : Fin 512) (x : Fin 2048) : iblk m c 1 t (ix2 y x) = g (0 * 2048 + x) ((t.val % 11) * 512 + y) := by
  unfold iblk
  rw [View.read_apply]
  refine at2 (f := fun r x => g x r) G.hg _ ?_ ?_
  · exact (win0_1.rect_emb_val t _ 0).trans (congrArg (· * 512 + y.val) (idx1 t).1)
  · exact (win0_1.rect_emb_val t _ 1).trans (congrArg (· * 2048 + x.val) (idx1 t).2)

omit G

/-! ### A stored value at an element -/

section
variable (X : Vec Ideal S1408x2048 .bf16) (Y : Vec Ideal S512x2048 .bf16) (r : Fin 1408) (j : Fin 512)

theorem pay1_at : k0_pay1 X Y (ix2 r j) = ∑ a : Fin 2048, X (ix2 r a) * Y (ix2 j a) := by pointwise [k0_pay1]

end

/-- One point's block. -/
theorem out_eq (X : Vec Ideal S1408x2048 .bf16) (Y : Vec Ideal S512x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 1408) (j : Fin 512) (a : Fin 2048) :
    blkA m c t (ix2 r a) * blkB m c t (ix2 j a) = f ((t.val / 11) * 1408 + r) (0 * 2048 + a) * g (0 * 2048 + a) ((t.val % 11) * 512 + j) :=
  congrArg₂ (· * ·) (blk0 G t r a) (blk1 G t j a)

include G in
/-- One block of the result, an element at a time. -/
theorem last (r : Fin 1408) (j : Fin 512) :
    out0_2 (iblk m c 0 t) (iblk m c 1 t) (ix2 r j) = mm f g 2048 ((t.val / 11) * 1408 + r) ((t.val % 11) * 512 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x5632.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.DownDaIdeal.Value.flushed2 m c t]
  funext y
  rw [View.read_apply]
  refine (at2 (f := fun r j => mm f g 2048 ((t.val / 11) * 1408 + r) ((t.val % 11) * 512 + j)) (last G t) _ rfl rfl).trans (mm_congr rfl ?_ ?_)
  · exact ((win0_2.rect_emb_val t y 0).trans (congrArg (· * 1408 + (y 0).val) (idx2 t).1)).symm
  · exact ((win0_2.rect_emb_val t y 1).trans (congrArg (· * 512 + (y 1).val) (idx2 t).2)).symm

include G in
/-- Every element of the result at the end. -/
theorem final (r : Fin 8448) (j : Fin 5632) : (dats m 0 c).arrAt 2 cfg0.N (ix2 r j) = mm f g 2048 r j := by
  have hj := j.isLt
  have hr := r.isLt
  have hn : r.val / 1408 * 11 + j.val / 512 < cfg0.N := by rw [show cfg0.N = 66 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; dsimp only; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S5632x2048, .bf16⟩ : BufTy).Contents (Elt Ideal)) : ℕ → ℕ → EReal := fun x j => tab (R := 5632) (C := 2048) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .bf16⟩ : BufTy).Contents (Elt Ideal)) (x1 : (⟨S5632x2048, .bf16⟩ : BufTy).Contents (Elt Ideal))
    (r : Fin 8448) (j : Fin 5632) : Cert.DownDaReferenceIdeal.Read.val_main_v5 (F := Ideal) x0 x1 (ix2 r j) = mm (left x0) (right x1) 2048 r j := by
  refine (Cert.DownDaReferenceIdeal.Read.val_main_v4_apply x0 x1 _).trans (mm_fin fun a => ?_)
  exact congrArg₂ (· * ·) (tab_at (R := 8448) (C := 2048) x0 _ rfl rfl) (tab_at (R := 5632) (C := 2048) x1 _ rfl rfl)

theorem frame_p : Cert.quiescent_DownDa := fun m ρ _ => Cert.DownDa.Gen.frame m ρ
theorem frame_pi : Cert.quiescent_DownDaIdeal := fun m ρ _ => Cert.DownDaIdeal.Gen.frame m ρ
theorem frame_ri : Cert.quiescent_DownDaReferenceIdeal := fun m ρ _ =>
  (θ_run Cert.DownDaReferenceIdeal.defs _ _).mono (fun r h => ⟨fun c => (h c).2, Idealize.ShloMosaic.sem_eq_zero_of_no_sems (by decide) r.2⟩)
    (Cert.DownDaReferenceIdeal.Value.run (F := Ideal) m ρ)

theorem preserves : Cert.preserves_DownDa_DownDaIdeal := trivial

theorem algebraic : Cert.algebraic_DownDaIdeal_DownDaReferenceIdeal := by
  intro m g m' g' _ ha
  refine ⟨fun c => (dats m 0 c).arrAt 2 cfg0.N, Cert.DownDaIdeal.Value.run_blocks m g, ?_⟩
  refine (θ_run Cert.DownDaReferenceIdeal.defs _ _).mono (fun r h c => ?_) (Cert.DownDaReferenceIdeal.Value.run (F := Ideal) m' g')
  obtain ⟨e0, ek⟩ := h c
  obtain ⟨u0, u1⟩ := ha c
  refine ⟨?_, ek⟩
  rw [e0, Cert.DownDaReferenceIdeal.Read.val_main_v5_eq, u0, u1]
  funext i
  rw [eq_ix2 i]
  exact (ref_at _ _ _ _).trans (final (given m c) _ _).symm

end Cert.DownDaClaims

end
-- ==== Proof.DownDwClaims.lean ====
/-
  What the call of the gradient of the feed-forward layer's second product in its weight computes, over the extended reals: the whole product, each block of the result
  as a sum over stretches of the contracted axis; and the claims of the call and its reference.
-/
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.DownDwClaims

open Idealize.ShloMosaic Idealize.ShloMosaic.TcCoe Idealize.ShloMosaic.Tactic Idealize.SL.Sem Cert.DownDwIdeal Cert.DownDwIdeal.Gen Cert.Product
open scoped BigOperators

/-! ### Which block each window is on, over the grid -/

theorem idx0 : ∀ t : Fin grid0.N, win0_0.index t 0 = t.val / 12 ∧ win0_0.index t 1 = t.val % 6 := by decide +kernel
theorem idx1 : ∀ t : Fin grid0.N, win0_1.index t 0 = t.val % 6 ∧ win0_1.index t 1 = t.val / 6 % 2 := by decide +kernel
theorem idx2 : ∀ t : Fin grid0.N, win0_2.index t 0 = t.val / 12 ∧ win0_2.index t 1 = t.val / 6 % 2 := by decide +kernel
theorem xs2 : ∀ t : Fin grid0.N, win0_2.xsize (grid0.coords t) 0 = 1408 ∧ win0_2.xsize (grid0.coords t) 1 = 1024 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 5632) (x : Fin 8448), V m c main_v0 (ix2 r x) = f r x
  hg : ∀ (r : Fin 8448) (x : Fin 2048), V m c main_arg1 (ix2 r x) = g r x

/-- The two blocks the body reads at a point. -/
abbrev blkA (t : Fin cfg0.N) : Vec Ideal S1408x1408 .bf16 := iblk m c 0 t
abbrev blkB (t : Fin cfg0.N) : Vec Ideal S1408x1024 .bf16 := iblk m c 1 t

variable {m c} {f g : ℕ → ℕ → EReal} (G : Given m c f g) (t : Fin cfg0.N)

include G

theorem blk0 (y : Fin 1408) (x : Fin 1408) : iblk m c 0 t (ix2 y x) = f ((t.val / 12) * 1408 + y) ((t.val % 6) * 1408 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 1408 + x.val) (idx0 t).2)

theorem blk1 (y : Fin 1408) (x : Fin 1024) : iblk m c 1 t (ix2 y x) = g ((t.val % 6) * 1408 + y) ((t.val / 6 % 2) * 1024 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 1024 + x.val) (idx1 t).2)

omit G

/-! ### A stored value at an element -/

section
variable (X : Vec Ideal S1408x1408 .bf16) (Y : Vec Ideal S1408x1024 .bf16) (r : Fin 1408) (j : Fin 1024)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S1408x1024 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S1408x1024 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 1408) (j : Fin 1024), (outsAt0 m c t.val t.isLt).2 (ix2 r j) = mm f g ((t.val % 6 + 1) * 1408) ((t.val / 12) * 1408 + r) ((t.val / 6 % 2) * 1024 + j)

/-- The point before, as a point. -/
abbrev before : Fin cfg0.N := ⟨t.val - 1, Nat.lt_of_le_of_lt (Nat.sub_le _ _) t.isLt⟩

include G in
theorem terms (r : Fin 1408) (j : Fin 1024) (a : Fin 1408) :
    blkA m c t (ix2 r a) * blkB m c t (ix2 a j) = f ((t.val / 12) * 1408 + r) ((t.val % 6) * 1408 + a) * g ((t.val % 6) * 1408 + a) ((t.val / 6 % 2) * 1024 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 12) * 1408 + r) ((t.val / 6 % 2) * 1024 + j) := by
      refine (I h0 r j).trans (mm_congr ?_ ?_ ?_)
      · show ((t.val - 1) % 6 + 1) * 1408 = t.val % 6 * 1408
        omega
      · show (t.val - 1) / 12 * 1408 + r.val = t.val / 12 * 1408 + r.val
        omega
      · show (t.val - 1) / 6 % 2 * 1024 + j.val = t.val / 6 % 2 * 1024 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 1408) (j : Fin 1024) :
    (outsAt0 m c t.val t.isLt).1 (ix2 r j) = mm f g 8448 ((t.val / 12) * 1408 + r) ((t.val / 6 % 2) * 1024 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S5632x2048.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.DownDwIdeal.Value.flushed2 m c t]
  funext y
  rw [View.read_apply]
  refine (at2 (f := fun r j => mm f g 8448 ((t.val / 12) * 1408 + r) ((t.val / 6 % 2) * 1024 + j)) (last G t h) _ rfl rfl).trans (mm_congr rfl ?_ ?_)
  · exact ((win0_2.rect_emb_val t y 0).trans (congrArg (· * 1408 + (y 0).val) (idx2 t).1)).symm
  · exact ((win0_2.rect_emb_val t y 1).trans (congrArg (· * 1024 + (y 1).val) (idx2 t).2)).symm

include G in
/-- Every element of the result at the end. -/
theorem final (r : Fin 5632) (j : Fin 2048) : (dats m 0 c).arrAt 2 cfg0.N (ix2 r j) = mm f g 8448 r j := by
  have hj := j.isLt
  have hr := r.isLt
  have hn : r.val / 1408 * 12 + j.val / 1024 * 6 + 5 < cfg0.N := by rw [show cfg0.N = 48 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 1024 ≤ j.val ∧ j.val < win0_2.index ⟨_, hn⟩ 1 * 1024 + win0_2.xsize (grid0.coords ⟨_, hn⟩) 1
    rw [i1, s1]; dsimp only; omega

end Kernel

/-! ### The arguments, the reference, and the claims -/

/-- The first array the call is given: the argument's transpose. -/
def h_v0 (x0 : (⟨S8448x5632, .bf16⟩ : BufTy).Contents (Elt Ideal)) : (⟨S5632x8448, .bf16⟩ : BufTy).Contents (Elt Ideal) :=
  (transpose S5632x8448 [1, 0] · transposes_S8448x5632_S5632x8448_1_0) x0
theorem v0_at (x0 : (⟨S8448x5632, .bf16⟩ : BufTy).Contents (Elt Ideal)) (r : Fin 5632) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x5632, .bf16⟩ : BufTy).Contents (Elt Ideal)) : ℕ → ℕ → EReal := fun r x => tab (R := 8448) (C := 5632) x0 x r
/-- The second, by the contracted axis and the result's columns. -/
abbrev right (x1 : (⟨S8448x2048, .bf16⟩ : BufTy).Contents (Elt Ideal)) : ℕ → ℕ → EReal := tab (R := 8448) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x5632, .bf16⟩ : BufTy).Contents (Elt Ideal)) (x1 : (⟨S8448x2048, .bf16⟩ : BufTy).Contents (Elt Ideal))
    (r : Fin 5632) (j : Fin 2048) : Cert.DownDwReferenceIdeal.Read.val_main_v6 (F := Ideal) x0 x1 (ix2 r j) = mm (left x0) (right x1) 8448 r j := by
  refine (Cert.DownDwReferenceIdeal.Read.val_main_v5_apply (F := Ideal) x0 x1 _).trans ?_
  refine (Cert.DownDwReferenceIdeal.Read.val_main_v4_apply x0 x1 _).trans (mm_fin fun a => ?_)
  exact (mul_comm _ _).trans (congrArg₂ (· * ·) (tab_at (R := 8448) (C := 5632) x0 _ rfl rfl) (tab_at (R := 8448) (C := 2048) x1 _ rfl rfl))

theorem frame_p : Cert.quiescent_DownDw := fun m ρ _ => Cert.DownDw.Gen.frame m ρ
theorem frame_pi : Cert.quiescent_DownDwIdeal := fun m ρ _ => Cert.DownDwIdeal.Gen.frame m ρ
theorem frame_ri : Cert.quiescent_DownDwReferenceIdeal := fun m ρ _ =>
  (θ_run Cert.DownDwReferenceIdeal.defs _ _).mono (fun r h => ⟨fun c => (h c).2, Idealize.ShloMosaic.sem_eq_zero_of_no_sems (by decide) r.2⟩)
    (Cert.DownDwReferenceIdeal.Value.run (F := Ideal) m ρ)

theorem preserves : Cert.preserves_DownDw_DownDwIdeal := trivial

theorem algebraic : Cert.algebraic_DownDwIdeal_DownDwReferenceIdeal := by
  intro m g m' g' _ ha
  refine ⟨fun c => (dats m 0 c).arrAt 2 cfg0.N, Cert.DownDwIdeal.Value.run_blocks m g, ?_⟩
  refine (θ_run Cert.DownDwReferenceIdeal.defs _ _).mono (fun r h c => ?_) (Cert.DownDwReferenceIdeal.Value.run (F := Ideal) m' g')
  obtain ⟨e0, ek⟩ := h c
  obtain ⟨u0, u1⟩ := ha c
  refine ⟨?_, ek⟩
  rw [e0, Cert.DownDwReferenceIdeal.Read.val_main_v6_eq, u0, u1]
  funext i
  rw [eq_ix2 i]
  exact (ref_at _ _ _ _).trans (final (given m c) _ _).symm

end Cert.DownDwClaims

end
-- ==== Proof.UpClaims.lean ====
/-
  What the call of the feed-forward layer's first product computes, over the extended reals: the whole product, each block of the result
  as a sum over stretches of the contracted axis; and the claims of the call and its reference.
-/
module

public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.UpClaims

open Idealize.ShloMosaic Idealize.ShloMosaic.TcCoe Idealize.ShloMosaic.Tactic Idealize.SL.Sem Cert.UpIdeal Cert.UpIdeal.Gen Cert.Product
open scoped BigOperators

/-! ### Which block each window is on, over the grid -/

theorem idx0 : ∀ t : Fin grid0.N, win0_0.index t 0 = t.val / 11 ∧ win0_0.index t 1 = 0 := by decide +kernel
theorem idx1 : ∀ t : Fin grid0.N, win0_1.index t 0 = 0 ∧ win0_1.index t 1 = t.val % 11 := by decide +kernel
theorem idx2 : ∀ t : Fin grid0.N, win0_2.index t 0 = t.val / 11 ∧ win0_2.index t 1 = t.val % 11 := by decide +kernel
theorem xs2 : ∀ t : Fin grid0.N, win0_2.xsize (grid0.coords t) 0 = 1408 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 2048) (x : Fin 5632), V m c main_arg1 (ix2 r x) = g r x

/-- The two blocks the body reads at a point. -/
abbrev blkA (t : Fin cfg0.N) : Vec Ideal S1408x2048 .bf16 := iblk m c 0 t
abbrev blkB (t : Fin cfg0.N) : Vec Ideal S2048x512 .bf16 := iblk m c 1 t

variable {m c} {f g : ℕ → ℕ → EReal} (G : Given m c f g) (t : Fin cfg0.N)

include G

theorem blk0 (y : Fin 1408) (x : Fin 2048) : iblk m c 0 t (ix2 y x) = f ((t.val / 11) * 1408 + y) (0 * 2048 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 2048 + x.val) (idx0 t).2)

theorem blk1 (y : Fin 2048) (x : Fin 512) : iblk m c 1 t (ix2 y x) = g (0 * 2048 + y) ((t.val % 11) * 512 + x) := by
  unfold iblk
  rw [View.read_apply]
  refine at2 (f := fun r x => g r x) G.hg _ ?_ ?_
  · exact (win0_1.rect_emb_val t _ 0).trans (congrArg (· * 2048 + y.val) (idx1 t).1)
  · exact (win0_1.rect_emb_val t _ 1).trans (congrArg (· * 512 + x.val) (idx1 t).2)

omit G

/-! ### A stored value at an element -/

section
variable (X : Vec Ideal S1408x2048 .bf16) (Y : Vec Ideal S2048x512 .bf16) (r : Fin 1408) (j : Fin 512)

theorem pay1_at : k0_pay1 X Y (ix2 r j) = ∑ a : Fin 2048, X (ix2 r a) * Y (ix2 a j) := by pointwise [k0_pay1]

end

/-- One point's block. -/
theorem out_eq (X : Vec Ideal S1408x2048 .bf16) (Y : Vec Ideal S2048x512 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 1408) (j : Fin 512) (a : Fin 2048) :
    blkA m c t (ix2 r a) * blkB m c t (ix2 a j) = f ((t.val / 11) * 1408 + r) (0 * 2048 + a) * g (0 * 2048 + a) ((t.val % 11) * 512 + j) :=
  congrArg₂ (· * ·) (blk0 G t r a) (blk1 G t a j)

include G in
/-- One block of the result, an element at a time. -/
theorem last (r : Fin 1408) (j : Fin 512) :
    out0_2 (iblk m c 0 t) (iblk m c 1 t) (ix2 r j) = mm f g 2048 ((t.val / 11) * 1408 + r) ((t.val % 11) * 512 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x5632.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.UpIdeal.Value.flushed2 m c t]
  funext y
  rw [View.read_apply]
  refine (at2 (f := fun r j => mm f g 2048 ((t.val / 11) * 1408 + r) ((t.val % 11) * 512 + j)) (last G t) _ rfl rfl).trans (mm_congr rfl ?_ ?_)
  · exact ((win0_2.rect_emb_val t y 0).trans (congrArg (· * 1408 + (y 0).val) (idx2 t).1)).symm
  · exact ((win0_2.rect_emb_val t y 1).trans (congrArg (· * 512 + (y 1).val) (idx2 t).2)).symm

include G in
/-- Every element of the result at the end. -/
theorem final (r : Fin 8448) (j : Fin 5632) : (dats m 0 c).arrAt 2 cfg0.N (ix2 r j) = mm f g 2048 r j := by
  have hj := j.isLt
  have hr := r.isLt
  have hn : r.val / 1408 * 11 + j.val / 512 < cfg0.N := by rw [show cfg0.N = 66 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; dsimp only; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S2048x5632, .bf16⟩ : BufTy).Contents (Elt Ideal)) : ℕ → ℕ → EReal := tab (R := 2048) (C := 5632) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .bf16⟩ : BufTy).Contents (Elt Ideal)) (x1 : (⟨S2048x5632, .bf16⟩ : BufTy).Contents (Elt Ideal))
    (r : Fin 8448) (j : Fin 5632) : Cert.UpReferenceIdeal.Read.val_main_v3 (F := Ideal) x0 x1 (ix2 r j) = mm (left x0) (right x1) 2048 r j := by
  refine (Cert.UpReferenceIdeal.Read.val_main_v2_apply x0 x1 _).trans (mm_fin fun a => ?_)
  exact congrArg₂ (· * ·) (tab_at (R := 8448) (C := 2048) x0 _ rfl rfl) (tab_at (R := 2048) (C := 5632) x1 _ rfl rfl)

theorem frame_p : Cert.quiescent_Up := fun m ρ _ => Cert.Up.Gen.frame m ρ
theorem frame_pi : Cert.quiescent_UpIdeal := fun m ρ _ => Cert.UpIdeal.Gen.frame m ρ
theorem frame_ri : Cert.quiescent_UpReferenceIdeal := fun m ρ _ =>
  (θ_run Cert.UpReferenceIdeal.defs _ _).mono (fun r h => ⟨fun c => (h c).2, Idealize.ShloMosaic.sem_eq_zero_of_no_sems (by decide) r.2⟩)
    (Cert.UpReferenceIdeal.Value.run (F := Ideal) m ρ)

theorem preserves : Cert.preserves_Up_UpIdeal := trivial

theorem algebraic : Cert.algebraic_UpIdeal_UpReferenceIdeal := by
  intro m g m' g' _ ha
  refine ⟨fun c => (dats m 0 c).arrAt 2 cfg0.N, Cert.UpIdeal.Value.run_blocks m g, ?_⟩
  refine (θ_run Cert.UpReferenceIdeal.defs _ _).mono (fun r h c => ?_) (Cert.UpReferenceIdeal.Value.run (F := Ideal) m' g')
  obtain ⟨e0, ek⟩ := h c
  obtain ⟨u0, u1⟩ := ha c
  refine ⟨?_, ek⟩
  rw [e0, Cert.UpReferenceIdeal.Read.val_main_v3_eq, u0, u1]
  funext i
  rw [eq_ix2 i]
  exact (ref_at _ _ _ _).trans (final (given m c) _ _).symm

end Cert.UpClaims

end
-- ==== Proof.OutDaClaims.lean ====
/-
  What the call of the gradient of the attention's output product in its rows computes, over the extended reals: the whole product, each block of the result
  as a sum over stretches of the contracted axis; and the claims of the call and its reference.
-/
module

public import proofs.«01_k».proof.Defs
public import proofs.«01_k».proof.Proof.Gen.OutDa.Frame
public import proofs.«01_k».proof.Proof.Gen.OutDaIdeal.Frame
public import proofs.«01_k».proof.Proof.Gen.OutDaIdeal.Value
public import proofs.«01_k».proof.Proof.Gen.OutDaReferenceIdeal.Run
public import proofs.«01_k».proof.Proof.Gen.OutDaReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.OutDaClaims

open Idealize.ShloMosaic Idealize.ShloMosaic.TcCoe Idealize.ShloMosaic.Tactic Idealize.SL.Sem Cert.OutDaIdeal Cert.OutDaIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 768 ∧ win0_2.xsize (grid0.coords t) 1 = 2048 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 2048) (x : Fin 2048), V m c main_arg1 (ix2 r x) = g x r

/-- The two blocks the body reads at a point. -/
abbrev blkA (t : Fin cfg0.N) : Vec Ideal S768x2048 .bf16 := iblk m c 0 t
abbrev blkB (t : Fin cfg0.N) : Vec Ideal S2048x2048 .bf16 := iblk m c 1 t

variable {m c} {f g : ℕ → ℕ → EReal} (G : Given m c f g) (t : Fin cfg0.N)

include G

theorem blk0 (y : Fin 768) (x : Fin 2048) : iblk m c 0 t (ix2 y x) = f (t.val * 768 + y) (0 * 2048 + x) := by
  unfold iblk
  rw [View.read_apply]
  refine at2 G.hf _ ?_ ?_
  · exact (win0_0.rect_emb_val t _ 0).trans (congrArg (· * 768 + y.val) (idx0 t).1)
  · exact (win0_0.rect_emb_val t _ 1).trans (congrArg (· * 2048 + x.val) (idx0 t).2)

theorem blk1 (y : Fin 2048) (x : Fin 2048) : iblk m c 1 t (ix2 y x) = g (0 * 2048 + x) (0 * 2048 + y) := by
  unfold iblk
  rw [View.read_apply]
  refine at2 (f := fun r x => g x r) G.hg _ ?_ ?_
  · exact (win0_1.rect_emb_val t _ 0).trans (congrArg (· * 2048 + y.val) (idx1 t).1)
  · exact (win0_1.rect_emb_val t _ 1).trans (congrArg (· * 2048 + x.val) (idx1 t).2)

omit G

/-! ### A stored value at an element -/

section
variable (X : Vec Ideal S768x2048 .bf16) (Y : Vec Ideal S2048x2048 .bf16) (r : Fin 768) (j : Fin 2048)

theorem pay1_at : k0_pay1 X Y (ix2 r j) = ∑ a : Fin 2048, X (ix2 r a) * Y (ix2 j a) := by pointwise [k0_pay1]

end

/-- One point's block. -/
theorem out_eq (X : Vec Ideal S768x2048 .bf16) (Y : Vec Ideal S2048x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 768) (j : Fin 2048) (a : Fin 2048) :
    blkA m c t (ix2 r a) * blkB m c t (ix2 j a) = f (t.val * 768 + r) (0 * 2048 + a) * g (0 * 2048 + a) (0 * 2048 + j) :=
  congrArg₂ (· * ·) (blk0 G t r a) (blk1 G t j a)

include G in
/-- One block of the result, an element at a time. -/
theorem last (r : Fin 768) (j : Fin 2048) :
    out0_2 (iblk m c 0 t) (iblk m c 1 t) (ix2 r j) = mm f g 2048 (t.val * 768 + r) (0 * 2048 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x2048.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.OutDaIdeal.Value.flushed2 m c t]
  funext y
  rw [View.read_apply]
  refine (at2 (f := fun r j => mm f g 2048 (t.val * 768 + r) (0 * 2048 + j)) (last G t) _ rfl rfl).trans (mm_congr rfl ?_ ?_)
  · exact ((win0_2.rect_emb_val t y 0).trans (congrArg (· * 768 + (y 0).val) (idx2 t).1)).symm
  · exact ((win0_2.rect_emb_val t y 1).trans (congrArg (· * 2048 + (y 1).val) (idx2 t).2)).symm

include G in
/-- Every element of the result at the end. -/
theorem final (r : Fin 8448) (j : Fin 2048) : (dats m 0 c).arrAt 2 cfg0.N (ix2 r j) = mm f g 2048 r j := by
  have hj := j.isLt
  have hr := r.isLt
  have hn : r.val / 768 < cfg0.N := by rw [show cfg0.N = 11 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 768 ≤ r.val ∧ r.val < win0_2.index ⟨_, hn⟩ 0 * 768 + win0_2.xsize (grid0.coords ⟨_, hn⟩) 0
    rw [i0, s0]; dsimp only; omega
  | ⟨1, _⟩ =>
    show win0_2.index ⟨_, hn⟩ 1 * 2048 ≤ j.val ∧ j.val < win0_2.index ⟨_, hn⟩ 1 * 2048 + win0_2.xsize (grid0.coords ⟨_, hn⟩) 1
    rw [i1, s1]; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S2048x2048, .bf16⟩ : BufTy).Contents (Elt Ideal)) : ℕ → ℕ → EReal := fun x j => tab (R := 2048) (C := 2048) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .bf16⟩ : BufTy).Contents (Elt Ideal)) (x1 : (⟨S2048x2048, .bf16⟩ : BufTy).Contents (Elt Ideal))
    (r : Fin 8448) (j : Fin 2048) : Cert.OutDaReferenceIdeal.Read.val_main_v5 (F := Ideal) x0 x1 (ix2 r j) = mm (left x0) (right x1) 2048 r j := by
  refine (Cert.OutDaReferenceIdeal.Read.val_main_v4_apply x0 x1 _).trans (mm_fin fun a => ?_)
  exact congrArg₂ (· * ·) (tab_at (R := 8448) (C := 2048) x0 _ rfl rfl) (tab_at (R := 2048) (C := 2048) x1 _ rfl rfl)

theorem frame_p : Cert.quiescent_OutDa := fun m ρ _ => Cert.OutDa.Gen.frame m ρ
theorem frame_pi : Cert.quiescent_OutDaIdeal := fun m ρ _ => Cert.OutDaIdeal.Gen.frame m ρ
theorem frame_ri : Cert.quiescent_OutDaReferenceIdeal := fun m ρ _ =>
  (θ_run Cert.OutDaReferenceIdeal.defs _ _).mono (fun r h => ⟨fun c => (h c).2, Idealize.ShloMosaic.sem_eq_zero_of_no_sems (by decide) r.2⟩)
    (Cert.OutDaReferenceIdeal.Value.run (F := Ideal) m ρ)

theorem preserves : Cert.preserves_OutDa_OutDaIdeal := trivial

theorem algebraic : Cert.algebraic_OutDaIdeal_OutDaReferenceIdeal := by
  intro m g m' g' _ ha
  refine ⟨fun c => (dats m 0 c).arrAt 2 cfg0.N, Cert.OutDaIdeal.Value.run_blocks m g, ?_⟩
  refine (θ_run Cert.OutDaReferenceIdeal.defs _ _).mono (fun r h c => ?_) (Cert.OutDaReferenceIdeal.Value.run (F := Ideal) m' g')
  obtain ⟨e0, ek⟩ := h c
  obtain ⟨u0, u1⟩ := ha c
  refine ⟨?_, ek⟩
  rw [e0, Cert.OutDaReferenceIdeal.Read.val_main_v5_eq, u0, u1]
  funext i
  rw [eq_ix2 i]
  exact (ref_at _ _ _ _).trans (final (given m c) _ _).symm

end Cert.OutDaClaims

end
-- ==== Proof.OutDwClaims.lean ====
/-
  What the call of the gradient of the attention's output product in its weight computes, over the extended reals: the whole product, each block of the result
  as a sum over stretches of the contracted axis; and the claims of the call and its reference.
-/
module

public import proofs.«01_k».proof.Defs
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwReferenceIdeal.Run
public import proofs.«01_k».proof.Proof.Gen.OutDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.OutDwClaims

open Idealize.ShloMosaic Idealize.ShloMosaic.TcCoe Idealize.ShloMosaic.Tactic Idealize.SL.Sem Cert.OutDwIdeal Cert.OutDwIdeal.Gen Cert.Product
open scoped BigOperators

/-! ### Which block each window is on, over the grid -/

theorem idx0 : ∀ t : Fin grid0.N, win0_0.index t 0 = t.val / 12 ∧ win0_0.index t 1 = t.val % 6 := by decide +kernel
theorem idx1 : ∀ t : Fin grid0.N, win0_1.index t 0 = t.val % 6 ∧ win0_1.index t 1 = t.val / 6 % 2 := by decide +kernel
theorem idx2 : ∀ t : Fin grid0.N, win0_2.index t 0 = t.val / 12 ∧ win0_2.index t 1 = t.val / 6 % 2 := by decide +kernel
theorem xs2 : ∀ t : Fin grid0.N, win0_2.xsize (grid0.coords t) 0 = 1024 ∧ win0_2.xsize (grid0.coords t) 1 = 1024 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 2048) (x : Fin 8448), V m c main_v0 (ix2 r x) = f r x
  hg : ∀ (r : Fin 8448) (x : Fin 2048), V m c main_arg1 (ix2 r x) = g r x

/-- The two blocks the body reads at a point. -/
abbrev blkA (t : Fin cfg0.N) : Vec Ideal S1024x1408 .bf16 := iblk m c 0 t
abbrev blkB (t : Fin cfg0.N) : Vec Ideal S1408x1024 .bf16 := iblk m c 1 t

variable {m c} {f g : ℕ → ℕ → EReal} (G : Given m c f g) (t : Fin cfg0.N)

include G

theorem blk0 (y : Fin 1024) (x : Fin 1408) : iblk m c 0 t (ix2 y x) = f ((t.val / 12) * 1024 + y) ((t.val % 6) * 1408 + x) := by
  unfold iblk
  rw [View.read_apply]
  refine at2 G.hf _ ?_ ?_
  · exact (win0_0.rect_emb_val t _ 0).trans (congrArg (· * 1024 + y.val) (idx0 t).1)
  · exact (win0_0.rect_emb_val t _ 1).trans (congrArg (· * 1408 + x.val) (idx0 t).2)

theorem blk1 (y : Fin 1408) (x : Fin 1024) : iblk m c 1 t (ix2 y x) = g ((t.val % 6) * 1408 + y) ((t.val / 6 % 2) * 1024 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 1024 + x.val) (idx1 t).2)

omit G

/-! ### A stored value at an element -/

section
variable (X : Vec Ideal S1024x1408 .bf16) (Y : Vec Ideal S1408x1024 .bf16) (r : Fin 1024) (j : Fin 1024)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S1024x1024 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S1024x1024 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 1024) (j : Fin 1024), (outsAt0 m c t.val t.isLt).2 (ix2 r j) = mm f g ((t.val % 6 + 1) * 1408) ((t.val / 12) * 1024 + r) ((t.val / 6 % 2) * 1024 + j)

/-- The point before, as a point. -/
abbrev before : Fin cfg0.N := ⟨t.val - 1, Nat.lt_of_le_of_lt (Nat.sub_le _ _) t.isLt⟩

include G in
theorem terms (r : Fin 1024) (j : Fin 1024) (a : Fin 1408) :
    blkA m c t (ix2 r a) * blkB m c t (ix2 a j) = f ((t.val / 12) * 1024 + r) ((t.val % 6) * 1408 + a) * g ((t.val % 6) * 1408 + a) ((t.val / 6 % 2) * 1024 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 12) * 1024 + r) ((t.val / 6 % 2) * 1024 + j) := by
      refine (I h0 r j).trans (mm_congr ?_ ?_ ?_)
      · show ((t.val - 1) % 6 + 1) * 1408 = t.val % 6 * 1408
        omega
      · show (t.val - 1) / 12 * 1024 + r.val = t.val / 12 * 1024 + r.val
        omega
      · show (t.val - 1) / 6 % 2 * 1024 + j.val = t.val / 6 % 2 * 1024 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 1024) (j : Fin 1024) :
    (outsAt0 m c t.val t.isLt).1 (ix2 r j) = mm f g 8448 ((t.val / 12) * 1024 + r) ((t.val / 6 % 2) * 1024 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S2048x2048.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.OutDwIdeal.Value.flushed2 m c t]
  funext y
  rw [View.read_apply]
  refine (at2 (f := fun r j => mm f g 8448 ((t.val / 12) * 1024 + r) ((t.val / 6 % 2) * 1024 + j)) (last G t h) _ rfl rfl).trans (mm_congr rfl ?_ ?_)
  · exact ((win0_2.rect_emb_val t y 0).trans (congrArg (· * 1024 + (y 0).val) (idx2 t).1)).symm
  · exact ((win0_2.rect_emb_val t y 1).trans (congrArg (· * 1024 + (y 1).val) (idx2 t).2)).symm

include G in
/-- Every element of the result at the end. -/
theorem final (r : Fin 2048) (j : Fin 2048) : (dats m 0 c).arrAt 2 cfg0.N (ix2 r j) = mm f g 8448 r j := by
  have hj := j.isLt
  have hr := r.isLt
  have hn : r.val / 1024 * 12 + j.val / 1024 * 6 + 5 < cfg0.N := by rw [show cfg0.N = 24 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1024 ≤ r.val ∧ r.val < win0_2.index ⟨_, hn⟩ 0 * 1024 + win0_2.xsize (grid0.coords ⟨_, hn⟩) 0
    rw [i0, s0]; dsimp only; omega
  | ⟨1, _⟩ =>
    show win0_2.index ⟨_, hn⟩ 1 * 1024 ≤ j.val ∧ j.val < win0_2.index ⟨_, hn⟩ 1 * 1024 + win0_2.xsize (grid0.coords ⟨_, hn⟩) 1
    rw [i1, s1]; dsimp only; omega

end Kernel

/-! ### The arguments, the reference, and the claims -/

/-- The first array the call is given: the argument's transpose. -/
def h_v0 (x0 : (⟨S8448x2048, .bf16⟩ : BufTy).Contents (Elt Ideal)) : (⟨S2048x8448, .bf16⟩ : BufTy).Contents (Elt Ideal) :=
  (transpose S2048x8448 [1, 0] · transposes_S8448x2048_S2048x8448_1_0) x0
theorem v0_at (x0 : (⟨S8448x2048, .bf16⟩ : BufTy).Contents (Elt Ideal)) (r : Fin 2048) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x2048, .bf16⟩ : BufTy).Contents (Elt Ideal)) : ℕ → ℕ → EReal := fun r x => tab (R := 8448) (C := 2048) x0 x r
/-- The second, by the contracted axis and the result's columns. -/
abbrev right (x1 : (⟨S8448x2048, .bf16⟩ : BufTy).Contents (Elt Ideal)) : ℕ → ℕ → EReal := tab (R := 8448) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x2048, .bf16⟩ : BufTy).Contents (Elt Ideal)) (x1 : (⟨S8448x2048, .bf16⟩ : BufTy).Contents (Elt Ideal))
    (r : Fin 2048) (j : Fin 2048) : Cert.OutDwReferenceIdeal.Read.val_main_v6 (F := Ideal) x0 x1 (ix2 r j) = mm (left x0) (right x1) 8448 r j := by
  refine (Cert.OutDwReferenceIdeal.Read.val_main_v5_apply (F := Ideal) x0 x1 _).trans ?_
  refine (Cert.OutDwReferenceIdeal.Read.val_main_v4_apply x0 x1 _).trans (mm_fin fun a => ?_)
  exact (mul_comm _ _).trans (congrArg₂ (· * ·) (tab_at (R := 8448) (C := 2048) x0 _ rfl rfl) (tab_at (R := 8448) (C := 2048) x1 _ rfl rfl))

theorem frame_p : Cert.quiescent_OutDw := fun m ρ _ => Cert.OutDw.Gen.frame m ρ
theorem frame_pi : Cert.quiescent_OutDwIdeal := fun m ρ _ => Cert.OutDwIdeal.Gen.frame m ρ
theorem frame_ri : Cert.quiescent_OutDwReferenceIdeal := fun m ρ _ =>
  (θ_run Cert.OutDwReferenceIdeal.defs _ _).mono (fun r h => ⟨fun c => (h c).2, Idealize.ShloMosaic.sem_eq_zero_of_no_sems (by decide) r.2⟩)
    (Cert.OutDwReferenceIdeal.Value.run (F := Ideal) m ρ)

theorem preserves : Cert.preserves_OutDw_OutDwIdeal := trivial

theorem algebraic : Cert.algebraic_OutDwIdeal_OutDwReferenceIdeal := by
  intro m g m' g' _ ha
  refine ⟨fun c => (dats m 0 c).arrAt 2 cfg0.N, Cert.OutDwIdeal.Value.run_blocks m g, ?_⟩
  refine (θ_run Cert.OutDwReferenceIdeal.defs _ _).mono (fun r h c => ?_) (Cert.OutDwReferenceIdeal.Value.run (F := Ideal) m' g')
  obtain ⟨e0, ek⟩ := h c
  obtain ⟨u0, u1⟩ := ha c
  refine ⟨?_, ek⟩
  rw [e0, Cert.OutDwReferenceIdeal.Read.val_main_v6_eq, u0, u1]
  funext i
  rw [eq_ix2 i]
  exact (ref_at _ _ _ _).trans (final (given m c) _ _).symm

end Cert.OutDwClaims

end
-- ==== Proof.Gate.lean ====
/-
  Shared by the two fused products (the attention's output and the feed-forward layer's second product): how a row chooses its gate.
  The host hands the kernel a column of zeros and ones, one for every row from number 8192 on; the kernel takes the context's gate where the
  column is above a half and the image's gate elsewhere.
-/
module

public import proofs.«01_k».proof.Proof.Product
public import Idealize.ShloMosaic.Lib.Pointwise
public import Idealize.ShloMosaic.Lib.VecWindow
public import Idealize.ShloMosaic.Init

@[expose] public section

set_option maxRecDepth 16384
set_option maxHeartbeats 1000000

noncomputable section

namespace Cert.Gate

open Idealize.ShloMosaic Idealize.ShloMosaic.TcCoe Idealize.ShloMosaic.Tactic

/-- Two indices of a matrix with the same coordinates. -/
theorem ix_ext {R C : ℕ} {i k : (⟨2, ![R, C]⟩ : Shape).Idx} (h0 : (i 0).val = (k 0).val) (h1 : (i 1).val = (k 1).val) : i = k := by
  funext a
  match a with
  | ⟨0, _⟩ => exact Fin.ext h0
  | ⟨1, _⟩ => exact Fin.ext h1

/-- The constant the column is compared with. -/
theorem half : Ideal.ofBits .f32 0x3F000000#32 = ((1 / 2 : ℝ) : EReal) := by
  simp [Ideal.ofBits, Ideal.ieee]
  rw [← EReal.coe_mul]
  norm_num

theorem half_lt_one : Ideal.ofBits .f32 0x3F000000#32 < (1 : EReal) := by
  rw [half, ← EReal.coe_one, EReal.coe_lt_coe_iff]
  norm_num

theorem not_half_lt_zero : ¬ Ideal.ofBits .f32 0x3F000000#32 < (0 : EReal) := by
  rw [half, ← EReal.coe_zero, EReal.coe_lt_coe_iff]
  norm_num

/-- The host's comparison of a row's number with 8192, for every row. -/
theorem ge_at : ∀ r : Fin 8448, IntOp.cmpi .sge (BitVec.ofNat 32 r.val) 8192#32 = if 8192 ≤ r.val then 1#1 else 0#1 := by decide +kernel

/-- The new row: the old one plus the gate's multiple of the product. The gate is row 1 of the pair of gates from row 8192 on, and row 0 before. -/
def gated (x gg y : ℕ → ℕ → EReal) (r j : ℕ) : EReal := x r j + (if 8192 ≤ r then gg 1 j else gg 0 j) * y r j

theorem gated_congr {x gg y : ℕ → ℕ → EReal} {r r' j j' : ℕ} (hr : r = r') (hj : j = j') : gated x gg y r j = gated x gg y r' j' := by
  rw [hr, hj]

/-- One row of a block of gates. -/
theorem row_at {C : ℕ} (X : (⟨2, ![2, C]⟩ : Shape).Idx → EReal) (k : Fin 2) (inb : ∀ a, (![k.val, 0] : Fin 2 → ℕ) a + (![1, C] : Fin 2 → ℕ) a ≤ (⟨2, ![2, C]⟩ : Shape).size a) (j : Fin C) :
    VecWindow.window (s := ⟨2, ![2, C]⟩) X ![k.val, 0] ![1, C] inb (ix2 (0 : Fin 1) j) = X (ix2 k j) := by
  refine congrArg X (ix_ext ?_ ?_)
  · show k.val + 1 * 0 = k.val
    omega
  · show 0 + 1 * j.val = j.val
    omega

end Cert.Gate

end
-- ==== Proof.DownClaims.lean ====
/-
  What the call of the feed-forward layer's second product, fused with the gated addition to the stream, computes, over the extended reals: the whole product, each block of the result
  as a sum over stretches of the contracted axis, and every element of the stream after the addition; and the claims of the call and its reference.
-/
module

public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.Gate
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.DownClaims

open Idealize.ShloMosaic Idealize.ShloMosaic.TcCoe Idealize.ShloMosaic.Tactic Idealize.SL.Sem Cert.DownIdeal Cert.DownIdeal.Gen Cert.Product Cert.Gate
open scoped BigOperators

/-! ### Which block each window is on, over the grid -/

theorem idx0 : ∀ t : Fin grid0.N, win0_0.index t 0 = t.val / 8 ∧ win0_0.index t 1 = t.val % 4 := by decide +kernel
theorem idx1 : ∀ t : Fin grid0.N, win0_1.index t 0 = t.val % 4 ∧ win0_1.index t 1 = t.val / 4 % 2 := by decide +kernel
theorem idx2 : ∀ t : Fin grid0.N, win0_2.index t 0 = t.val / 8 ∧ win0_2.index t 1 = t.val / 4 % 2 := by decide +kernel
theorem idx3 : ∀ t : Fin grid0.N, win0_3.index t 0 = 0 ∧ win0_3.index t 1 = t.val / 4 % 2 := by decide +kernel
theorem idx4 : ∀ t : Fin grid0.N, win0_4.index t 0 = t.val / 8 ∧ win0_4.index t 1 = 0 := by decide +kernel
theorem idx5 : ∀ t : Fin grid0.N, win0_5.index t 0 = t.val / 8 ∧ win0_5.index t 1 = t.val / 4 % 2 := by decide +kernel
theorem idx6 : ∀ t : Fin grid0.N, win0_6.index t 0 = t.val / 8 ∧ win0_6.index t 1 = t.val / 4 % 2 := by decide +kernel
theorem xs5 : ∀ t : Fin grid0.N, win0_5.xsize (grid0.coords t) 0 = 768 ∧ win0_5.xsize (grid0.coords t) 1 = 1024 := by decide +kernel
theorem xs6 : ∀ t : Fin grid0.N, win0_6.xsize (grid0.coords t) 0 = 768 ∧ win0_6.xsize (grid0.coords t) 1 = 1024 := by decide +kernel

/-! ### The column the host makes -/

/-- The column of zeros and ones, as the host writes it. -/
def column : Vec Ideal S8448x1 .f32 :=
  broadcastInDim S8448x1 ![0] bcast_S8448_S8448x1_0
    (select (cmpi .sge (iotaInDim S8448 32 0) (broadcastInDim S8448 ![] bcast_S_S8448 (constantI S_ 32 8192#32)))
      (broadcastInDim S8448 ![] bcast_S_S8448 (constant (F := Ideal) S_ .f32 0x3F800000#32))
      (broadcastInDim S8448 ![] bcast_S_S8448 (constant (F := Ideal) S_ .f32 0x00000000#32)))

theorem V_column (m : (ℓ : Loc nD τ sig) → Buf (Elt Ideal) ℓ) (c : Dev nD) : V m c main_v5 = column := by
  unfold V
  simp only [hostOps0, hostOps0_1, hostOps0_2, List.flatten_cons, List.flatten_nil, List.append_nil, List.cons_append, List.nil_append]
  after_results
  rfl

theorem column_at (r : Fin 8448) : column (ix2 r 0) = if 8192 ≤ r.val then 1 else 0 := by
  unfold column
  pointwise
  rw [ge_at]
  split <;> rfl

section Kernel

variable (m : (ℓ : Loc nD τ sig) → Buf (Elt Ideal) ℓ) (c : Dev nD)

/-- The arrays the call is given, as tables: the rows by the contracted axis, the weight by contracted axis and columns, the stream, and the two gates. -/
structure Given (f g x gg : ℕ → ℕ → EReal) : Prop where
  hf : ∀ (r : Fin 8448) (x : Fin 5632), V m c main_arg0 (ix2 r x) = f r x
  hg : ∀ (r : Fin 5632) (x : Fin 2048), V m c main_arg1 (ix2 r x) = g r x
  hx : ∀ (r : Fin 8448) (j : Fin 2048), V m c main_arg2 (ix2 r j) = x r j
  hgg : ∀ (k : Fin 2) (j : Fin 2048), V m c main_arg3 (ix2 k j) = gg k j

/-- The blocks the body reads at a point. -/
abbrev blkA (t : Fin cfg0.N) : Vec Ideal S768x1408 .bf16 := iblk m c 0 t
abbrev blkB (t : Fin cfg0.N) : Vec Ideal S1408x1024 .bf16 := iblk m c 1 t
abbrev blkX (t : Fin cfg0.N) : Vec Ideal S768x1024 .f32 := iblk m c 2 t
abbrev blkG (t : Fin cfg0.N) : Vec Ideal S2x1024 .f32 := iblk m c 3 t
abbrev blkM (t : Fin cfg0.N) : Vec Ideal S768x1 .f32 := iblk m c 4 t

variable {m c} {f g x gg : ℕ → ℕ → EReal} (G : Given m c f g x gg) (t : Fin cfg0.N)

include G

theorem blk0 (y : Fin 768) (x : Fin 1408) : iblk m c 0 t (ix2 y x) = f ((t.val / 8) * 768 + y) ((t.val % 4) * 1408 + x) := by
  unfold iblk
  rw [View.read_apply]
  refine at2 G.hf _ ?_ ?_
  · exact (win0_0.rect_emb_val t _ 0).trans (congrArg (· * 768 + y.val) (idx0 t).1)
  · exact (win0_0.rect_emb_val t _ 1).trans (congrArg (· * 1408 + x.val) (idx0 t).2)

theorem blk1 (y : Fin 1408) (x : Fin 1024) : iblk m c 1 t (ix2 y x) = g ((t.val % 4) * 1408 + y) ((t.val / 4 % 2) * 1024 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 1024 + x.val) (idx1 t).2)

theorem blk2 (y : Fin 768) (j : Fin 1024) : blkX m c t (ix2 y j) = x ((t.val / 8) * 768 + y) ((t.val / 4 % 2) * 1024 + j) := by
  unfold blkX iblk
  rw [View.read_apply]
  refine at2 G.hx _ ?_ ?_
  · exact (win0_2.rect_emb_val t _ 0).trans (congrArg (· * 768 + y.val) (idx2 t).1)
  · exact (win0_2.rect_emb_val t _ 1).trans (congrArg (· * 1024 + j.val) (idx2 t).2)

theorem blk3 (k : Fin 2) (j : Fin 1024) : blkG m c t (ix2 k j) = gg k ((t.val / 4 % 2) * 1024 + j) := by
  unfold blkG iblk
  rw [View.read_apply]
  refine at2 G.hgg _ ?_ ?_
  · exact (win0_3.rect_emb_val t _ 0).trans ((congrArg (· * 2 + k.val) (idx3 t).1).trans (by omega))
  · exact (win0_3.rect_emb_val t _ 1).trans (congrArg (· * 1024 + j.val) (idx3 t).2)

omit G in
theorem blk4 (y : Fin 768) : blkM m c t (ix2 y 0) = if 8192 ≤ (t.val / 8) * 768 + y then 1 else 0 := by
  unfold blkM iblk
  rw [View.read_apply]
  have hc : ∀ (r : Fin 8448) (j : Fin 1), V m c main_v5 (ix2 r j) = (fun r _ => if 8192 ≤ r then (1 : EReal) else 0 : ℕ → ℕ → EReal) r j := by
    intro r j
    obtain rfl : j = 0 := Subsingleton.elim _ _
    rw [V_column]
    exact column_at r
  refine at2 (X := V m c main_v5) (f := fun r _ => if 8192 ≤ r then (1 : EReal) else 0) hc _ ?_ (j := 0) ?_
  · exact (win0_4.rect_emb_val t _ 0).trans (congrArg (· * 768 + y.val) (idx4 t).1)
  · exact (win0_4.rect_emb_val t _ 1).trans (congrArg (· * 1 + 0) (idx4 t).2)

omit G

/-! ### A stored value at an element -/

section
variable (X : Vec Ideal S768x1408 .bf16) (Y : Vec Ideal S1408x1024 .bf16) (r : Fin 768) (j : Fin 1024)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S768x1024 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S768x1024 .f32) : k0_pay4 A (ix2 r j) = A (ix2 r j) := by pointwise [k0_pay4]
theorem pay5_at (A : Vec Ideal S768x1024 .f32) (M : Vec Ideal S768x1 .f32) (g1 g0 : Vec Ideal S1x1024 .f32) (x : Vec Ideal S768x1024 .f32)
    (p : Prop) [Decidable p] (hM : M (ix2 r 0) = if p then 1 else 0) :
    k0_pay5 A M g1 g0 x (ix2 r j) = x (ix2 r j) + (if p then g1 (ix2 0 j) else g0 (ix2 0 j)) * A (ix2 r j) := by
  pointwise [k0_pay5]
  rw [hM]
  by_cases h : p
  · rw [if_pos h, if_pos h, if_pos half_lt_one]
  · rw [if_neg h, if_neg h, if_neg not_half_lt_zero]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

/-- A load of a part of it. -/
theorem rdw (X : s.Idx → Elt Ideal e) {off size : Fin s.rank → ℕ} (inb : ∀ a, off a + size a ≤ s.size a) :
    View.readAt (Elt Ideal) W.view (Rect.unit off size inb).toLoadRect (h.unread X) = VecWindow.window X off size inb := by
  rw [View.readAt_unit _ _ _ rfl, h.read_unread]

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

theorem pay5_congr {a a' b b' d d' e e' x x'} (ha : a = a') (hb : b = b') (hd : d = d') (he : e = e') (hx : x = x') :
    k0_pay5 (F := Ideal) a b d e x = k0_pay5 a' b' d' e' x' := by subst ha hb hd he hx; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 4 = 0) : (outsAt0 m c t.val t.isLt).2.2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 4 = 0) (h2 : ¬t.val % 4 = 3) :
    (outsAt0 m c t.val t.isLt).2.2 = k0_pay3 (iblk m c 0 t) (iblk m c 1 t) (prev m c t).2.2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 4 = 0) (h2 : t.val % 4 = 3) :
    (outsAt0 m c t.val t.isLt).2.2 = k0_pay3 (iblk m c 0 t) (iblk m c 1 t) (prev m c t).2.2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 4 = 0) (h2 : t.val % 4 = 3) :
    (outsAt0 m c t.val t.isLt).2.1 = k0_pay4 (outsAt0 m c t.val t.isLt).2.2 := by
  rw [acc_C m c t h0 h2, outsAt0_C m c t h0 (by omega) h2]
  dsimp only
  unfold out0_C_6
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

/-- And the stream's block with it. -/
theorem new_C (h0 : ¬t.val % 4 = 0) (h2 : t.val % 4 = 3) :
    (outsAt0 m c t.val t.isLt).1 = k0_pay5 (outsAt0 m c t.val t.isLt).2.2 (iblk m c 4 t)
      (VecWindow.window (s := S2x1024) (blkG m c t) ![1, 0] S1x1024.size inb_S2x1024_S1x1024_1_0)
      (VecWindow.window (s := S2x1024) (blkG m c t) ![0, 0] S1x1024.size inb_S2x1024_S1x1024_0_0) (iblk m c 2 t) := by
  rw [acc_C m c t h0 h2, outsAt0_C m c t h0 (by omega) h2]
  dsimp only
  unfold out0_C_5
  unfold kernelRun0_C
  dsimp only
  sl_unfold_words
  exact (View.read_writes_full _ _ _ _ _).trans (pay5_congr ((View.readCov_full _ _ _ _ _).trans (pay3_congr (rd _ _ _ _) (rd _ _ _ _) (rd _ _ _ _)))
    (rd _ _ _ _) (rdw _ _ _ _) (rdw _ _ _ _) (rd _ _ _ _))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 768) (j : Fin 1024), (outsAt0 m c t.val t.isLt).2.2 (ix2 r j) = mm f g ((t.val % 4 + 1) * 1408) ((t.val / 8) * 768 + r) ((t.val / 4 % 2) * 1024 + j)

/-- The point before, as a point. -/
abbrev before : Fin cfg0.N := ⟨t.val - 1, Nat.lt_of_le_of_lt (Nat.sub_le _ _) t.isLt⟩

include G in
theorem terms (r : Fin 768) (j : Fin 1024) (a : Fin 1408) :
    blkA m c t (ix2 r a) * blkB m c t (ix2 a j) = f ((t.val / 8) * 768 + r) ((t.val % 4) * 1408 + a) * g ((t.val % 4) * 1408 + a) ((t.val / 4 % 2) * 1024 + j) :=
  congrArg₂ (· * ·) (blk0 G t r a) (blk1 G t a j)

include G in
/-- One point keeps the invariant. -/
theorem inv_step (I : ¬t.val % 4 = 0 → Inv m c f g (before t)) : Inv m c f g t := by
  intro r j
  by_cases h0 : t.val % 4 = 0
  · rw [acc_A m c t h0]
    exact (pay2_at _ _ r j).trans (mm_first h0 (terms G t r j))
  · have hp : (prev m c t).2.2 (ix2 r j) = mm f g ((t.val % 4) * 1408) ((t.val / 8) * 768 + r) ((t.val / 4 % 2) * 1024 + j) := by
      refine (I h0 r j).trans (mm_congr ?_ ?_ ?_)
      · show ((t.val - 1) % 4 + 1) * 1408 = t.val % 4 * 1408
        omega
      · show (t.val - 1) / 8 * 768 + r.val = t.val / 8 * 768 + r.val
        omega
      · show (t.val - 1) / 4 % 2 * 1024 + j.val = t.val / 4 % 2 * 1024 + j.val
        omega
    have hn : (prev m c t).2.2 (ix2 r j) + ∑ a : Fin 1408, blkA m c t (ix2 r a) * blkB m c t (ix2 a j) = _ := (congrArg (· + _) hp).trans (mm_next (terms G t r j))
    by_cases h2 : t.val % 4 = 3
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 4 = 3) (r : Fin 768) (j : Fin 1024) :
    (outsAt0 m c t.val t.isLt).2.1 (ix2 r j) = mm f g 5632 ((t.val / 8) * 768 + r) ((t.val / 4 % 2) * 1024 + j) := by
  rw [out_C m c t (by omega) h]
  refine (pay4_at r j _).trans ((inv G t.val t.isLt r j).trans (mm_congr ?_ rfl rfl))
  show (t.val % 4 + 1) * 1408 = 5632
  omega

/-- The product, as contents. -/
abbrev res (f g : ℕ → ℕ → EReal) : S8448x2048.Idx → EReal := fun i => mm f g 5632 (i 0).val (i 1).val

include G in
theorem flushed_eq (hf : (cfg0.win 6).flush t = true) :
    (dats m 0 c).flushed 6 t = ((cfg0.win 6).blk t).view.read (Elt Ideal) (res f g) := by
  have h := (flush0_6 t).mp hf
  rw [Cert.DownIdeal.Value.flushed6 m c t]
  funext y
  rw [View.read_apply]
  refine (at2 (f := fun r j => mm f g 5632 ((t.val / 8) * 768 + r) ((t.val / 4 % 2) * 1024 + j)) (last G t h) _ rfl rfl).trans (mm_congr rfl ?_ ?_)
  · exact ((win0_6.rect_emb_val t y 0).trans (congrArg (· * 768 + (y 0).val) (idx6 t).1)).symm
  · exact ((win0_6.rect_emb_val t y 1).trans (congrArg (· * 1024 + (y 1).val) (idx6 t).2)).symm

include G in
/-- Every element of the product at the end. -/
theorem final (r : Fin 8448) (j : Fin 2048) : (dats m 0 c).arrAt 6 cfg0.N (ix2 r j) = mm f g 5632 r j := by
  have hj := j.isLt
  have hr := r.isLt
  have hn : r.val / 768 * 8 + j.val / 1024 * 4 + 3 < cfg0.N := by rw [show cfg0.N = 88 from N_0]; omega
  refine (dats m 0 c).arrAt_apply_of_mem 6 (res f g) (flushed_eq G) cfg0.N ⟨_, hn⟩ (ix2 r j) hn ((flush0_6 _).mpr (by dsimp only; omega)) ?_
  show ix2 r j ∈ ((View.whole main_v6_1).slice (win0_6.rect ⟨_, hn⟩)).set
  rw [View.set_slice_whole, Rect.mem_set_unit]
  obtain ⟨i0, i1⟩ := idx6 ⟨_, hn⟩
  obtain ⟨s0, s1⟩ := xs6 ⟨_, hn⟩
  intro a
  match a with
  | ⟨0, _⟩ =>
    show win0_6.index ⟨_, hn⟩ 0 * 768 ≤ r.val ∧ r.val < win0_6.index ⟨_, hn⟩ 0 * 768 + win0_6.xsize (grid0.coords ⟨_, hn⟩) 0
    rw [i0, s0]; dsimp only; omega
  | ⟨1, _⟩ =>
    show win0_6.index ⟨_, hn⟩ 1 * 1024 ≤ j.val ∧ j.val < win0_6.index ⟨_, hn⟩ 1 * 1024 + win0_6.xsize (grid0.coords ⟨_, hn⟩) 1
    rw [i1, s1]; dsimp only; omega

include G in
/-- One block of the new stream, an element at a time. -/
theorem last5 (h : t.val % 4 = 3) (r : Fin 768) (j : Fin 1024) :
    (outsAt0 m c t.val t.isLt).1 (ix2 r j) = gated x gg (mm f g 5632) ((t.val / 8) * 768 + r) ((t.val / 4 % 2) * 1024 + j) := by
  rw [new_C m c t (by omega) h]
  have hy : (outsAt0 m c t.val t.isLt).2.2 (ix2 r j) = mm f g 5632 ((t.val / 8) * 768 + r) ((t.val / 4 % 2) * 1024 + j) := by
    refine (inv G t.val t.isLt r j).trans (mm_congr ?_ rfl rfl)
    show (t.val % 4 + 1) * 1408 = 5632
    omega
  refine (pay5_at r j _ (blkM m c t) _ _ (blkX m c t) (8192 ≤ (t.val / 8) * 768 + r.val) (blk4 t r)).trans ?_
  have e1 := (row_at (blkG m c t) 1 inb_S2x1024_S1x1024_1_0 j).trans (blk3 G t 1 j)
  have e0 := (row_at (blkG m c t) 0 inb_S2x1024_S1x1024_0_0 j).trans (blk3 G t 0 j)
  refine congrArg₂ (· + ·) (blk2 G t r j) (congrArg₂ (· * ·) ?_ hy)
  by_cases hp : 8192 ≤ (t.val / 8) * 768 + r.val
  · rw [if_pos hp, if_pos hp]
    exact e1
  · rw [if_neg hp, if_neg hp]
    exact e0

/-- The new stream, as contents. -/
abbrev new (f g x gg : ℕ → ℕ → EReal) : S8448x2048.Idx → EReal := fun i => gated x gg (mm f g 5632) (i 0).val (i 1).val

include G in
theorem flushed5_eq (hf : (cfg0.win 5).flush t = true) :
    (dats m 0 c).flushed 5 t = ((cfg0.win 5).blk t).view.read (Elt Ideal) (new f g x gg) := by
  have h := (flush0_5 t).mp hf
  rw [Cert.DownIdeal.Value.flushed5 m c t]
  funext y
  rw [View.read_apply]
  refine (at2 (f := fun r j => gated x gg (mm f g 5632) ((t.val / 8) * 768 + r) ((t.val / 4 % 2) * 1024 + j)) (last5 G t h) _ rfl rfl).trans (gated_congr ?_ ?_)
  · exact ((win0_5.rect_emb_val t y 0).trans (congrArg (· * 768 + (y 0).val) (idx5 t).1)).symm
  · exact ((win0_5.rect_emb_val t y 1).trans (congrArg (· * 1024 + (y 1).val) (idx5 t).2)).symm

include G in
/-- Every element of the new stream at the end. -/
theorem final5 (r : Fin 8448) (j : Fin 2048) : (dats m 0 c).arrAt 5 cfg0.N (ix2 r j) = gated x gg (mm f g 5632) r j := by
  have hj := j.isLt
  have hr := r.isLt
  have hn : r.val / 768 * 8 + j.val / 1024 * 4 + 3 < cfg0.N := by rw [show cfg0.N = 88 from N_0]; omega
  refine (dats m 0 c).arrAt_apply_of_mem 5 (new f g x gg) (flushed5_eq G) cfg0.N ⟨_, hn⟩ (ix2 r j) hn ((flush0_5 _).mpr (by dsimp only; omega)) ?_
  show ix2 r j ∈ ((View.whole main_v6_0).slice (win0_5.rect ⟨_, hn⟩)).set
  rw [View.set_slice_whole, Rect.mem_set_unit]
  obtain ⟨i0, i1⟩ := idx5 ⟨_, hn⟩
  obtain ⟨s0, s1⟩ := xs5 ⟨_, hn⟩
  intro a
  match a with
  | ⟨0, _⟩ =>
    show win0_5.index ⟨_, hn⟩ 0 * 768 ≤ r.val ∧ r.val < win0_5.index ⟨_, hn⟩ 0 * 768 + win0_5.xsize (grid0.coords ⟨_, hn⟩) 0
    rw [i0, s0]; dsimp only; omega
  | ⟨1, _⟩ =>
    show win0_5.index ⟨_, hn⟩ 1 * 1024 ≤ j.val ∧ j.val < win0_5.index ⟨_, hn⟩ 1 * 1024 + win0_5.xsize (grid0.coords ⟨_, hn⟩) 1
    rw [i1, s1]; dsimp only; omega

end Kernel

/-! ### The arguments, the reference, and the claims -/

/-- The first argument as a table, by the result's rows and the contracted axis. -/
abbrev left (x0 : (⟨S8448x5632, .bf16⟩ : BufTy).Contents (Elt Ideal)) : ℕ → ℕ → EReal := tab (R := 8448) (C := 5632) x0
/-- The second, by the contracted axis and the result's columns. -/
abbrev right (x1 : (⟨S5632x2048, .bf16⟩ : BufTy).Contents (Elt Ideal)) : ℕ → ℕ → EReal := tab (R := 5632) (C := 2048) x1

/-- The stream. -/
abbrev stream (x2 : (⟨S8448x2048, .f32⟩ : BufTy).Contents (Elt Ideal)) : ℕ → ℕ → EReal := tab (R := 8448) (C := 2048) x2
/-- The two gates, one row each. -/
abbrev gates (x3 : (⟨S2x2048, .f32⟩ : BufTy).Contents (Elt Ideal)) : ℕ → ℕ → EReal := tab (R := 2) (C := 2048) x3

theorem given (m : (ℓ : Loc nD τ sig) → Buf (Elt Ideal) ℓ) (c : Dev nD) :
    Given m c (left (m ((c : Thread nD τ).loc main_arg0))) (right (m ((c : Thread nD τ).loc main_arg1)))
      (stream (m ((c : Thread nD τ).loc main_arg2))) (gates (m ((c : Thread nD τ).loc main_arg3))) where
  hf r x := (congrFun (V_main_arg0 m c) _).trans (tab_ix _ r x)
  hg r x := (congrFun (V_main_arg1 m c) _).trans (tab_ix _ r x)
  hx r j := (congrFun (V_main_arg2 m c) _).trans (tab_ix _ r j)
  hgg k j := (congrFun (V_main_arg3 m c) _).trans (tab_ix _ k j)

/-- An element of the reference's product. -/
theorem ref_at (x0 : (⟨S8448x5632, .bf16⟩ : BufTy).Contents (Elt Ideal)) (x1 : (⟨S5632x2048, .bf16⟩ : BufTy).Contents (Elt Ideal))
    (r : Fin 8448) (j : Fin 2048) : Cert.DownReferenceIdeal.Read.val_main_v2 (F := Ideal) x0 x1 (ix2 r j) = mm (left x0) (right x1) 5632 r j := by
  refine (Cert.DownReferenceIdeal.Read.val_main_v2_apply x0 x1 _).trans (mm_fin fun a => ?_)
  exact congrArg₂ (· * ·) (tab_at (R := 8448) (C := 5632) x0 _ rfl rfl) (tab_at (R := 5632) (C := 2048) x1 _ rfl rfl)

/-- An element of the reference's new stream: the two parts of the rows, laid end to end. -/
theorem ref_new_at (x0 : (⟨S8448x5632, .bf16⟩ : BufTy).Contents (Elt Ideal)) (x1 : (⟨S5632x2048, .bf16⟩ : BufTy).Contents (Elt Ideal))
    (x2 : (⟨S8448x2048, .f32⟩ : BufTy).Contents (Elt Ideal)) (x3 : (⟨S2x2048, .f32⟩ : BufTy).Contents (Elt Ideal))
    (r : Fin 8448) (j : Fin 2048) : Cert.DownReferenceIdeal.Read.val_main_v15 (F := Ideal) x0 x1 x2 x3 (ix2 r j)
      = gated (stream x2) (gates x3) (mm (left x0) (right x1) 5632) r j := by
  unfold gated
  refine Eq.trans ?_ (congrArg₂ (· + ·) (tab_ix (R := 8448) (C := 2048) x2 r j) (congrArg₂ (· * ·) rfl (ref_at x0 x1 r j)))
  unfold Cert.DownReferenceIdeal.Read.val_main_v15
  generalize h9 : Cert.DownReferenceIdeal.Read.val_main_v9 (F := Ideal) x0 x1 x2 x3 = y9
  generalize h14 : Cert.DownReferenceIdeal.Read.val_main_v14 (F := Ideal) x0 x1 x2 x3 = y14
  pointwise
  by_cases hr : r.val < 8192
  · rw [dif_pos hr, if_neg (show ¬8192 ≤ r.val by omega), ← h9, Cert.DownReferenceIdeal.Read.val_main_v9_apply,
      Cert.DownReferenceIdeal.Read.val_main_v8_apply, Cert.DownReferenceIdeal.Read.val_main_v5_apply, Cert.DownReferenceIdeal.Read.val_main_v6_apply,
      Cert.DownReferenceIdeal.Read.val_main_v7_apply, Cert.DownReferenceIdeal.Read.val_main_v3_apply]
    exact congrArg₂ (· + ·) (congrArg x2 (ix_ext rfl rfl)) (congrArg₂ (· * ·) (tab_at (R := 2) (C := 2048) x3 _ rfl rfl) (congrArg _ (ix_ext rfl rfl)))
  · have e : 8192 + (r.val - 8192) = r.val := by omega
    rw [dif_neg hr, if_pos (show 8192 ≤ r.val by omega), ← h14, Cert.DownReferenceIdeal.Read.val_main_v14_apply,
      Cert.DownReferenceIdeal.Read.val_main_v13_apply, Cert.DownReferenceIdeal.Read.val_main_v10_apply, Cert.DownReferenceIdeal.Read.val_main_v11_apply,
      Cert.DownReferenceIdeal.Read.val_main_v12_apply, Cert.DownReferenceIdeal.Read.val_main_v4_apply]
    exact congrArg₂ (· + ·) (congrArg x2 (ix_ext e rfl)) (congrArg₂ (· * ·) (tab_at (R := 2) (C := 2048) x3 _ rfl rfl) (congrArg _ (ix_ext e rfl)))

theorem frame_p : Cert.quiescent_Down := fun m ρ _ => Cert.Down.Gen.frame m ρ
theorem frame_pi : Cert.quiescent_DownIdeal := fun m ρ _ => Cert.DownIdeal.Gen.frame m ρ
theorem frame_ri : Cert.quiescent_DownReferenceIdeal := fun m ρ _ =>
  (θ_run Cert.DownReferenceIdeal.defs _ _).mono (fun r h => ⟨fun c => (h c).2.2, Idealize.ShloMosaic.sem_eq_zero_of_no_sems (by decide) r.2⟩)
    (Cert.DownReferenceIdeal.Value.run (F := Ideal) m ρ)

theorem preserves : Cert.preserves_Down_DownIdeal := trivial

theorem algebraic : Cert.algebraic_DownIdeal_DownReferenceIdeal := by
  intro m g m' g' _ ha
  refine ⟨fun c => (dats m 0 c).arrAt 5 cfg0.N, fun c => (dats m 0 c).arrAt 6 cfg0.N, Cert.DownIdeal.Value.run_blocks m g, ?_⟩
  refine (θ_run Cert.DownReferenceIdeal.defs _ _).mono (fun r h c => ?_) (Cert.DownReferenceIdeal.Value.run (F := Ideal) m' g')
  obtain ⟨e0, e1, ek⟩ := h c
  obtain ⟨u0, u1, u2, u3⟩ := ha c
  refine ⟨?_, ?_, ek⟩
  · rw [e0, Cert.DownReferenceIdeal.Read.val_main_v15_eq, u0, u1, u2, u3]
    funext i
    rw [eq_ix2 i]
    exact (ref_new_at _ _ _ _ _ _).trans (final5 (given m c) _ _).symm
  · rw [e1, Cert.DownReferenceIdeal.Read.val_main_v16_eq, u0, u1]
    funext i
    rw [eq_ix2 i]
    exact (ref_at _ _ _ _).trans (final (given m c) _ _).symm

end Cert.DownClaims

end
-- ==== Proof.OutClaims.lean ====
/-
  What the call of the attention's output product, fused with the gated addition to the stream, computes, over the extended reals: the whole product, each block of the result
  as a sum over stretches of the contracted axis, and every element of the stream after the addition; and the claims of the call and its reference.
-/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gate
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.OutClaims

open Idealize.ShloMosaic Idealize.ShloMosaic.TcCoe Idealize.ShloMosaic.Tactic Idealize.SL.Sem Cert.OutIdeal Cert.OutIdeal.Gen Cert.Product Cert.Gate
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx6 : ∀ t : Fin grid0.N, win0_6.index t 0 = t.val ∧ win0_6.index t 1 = 0 := by decide +kernel
theorem xs5 : ∀ t : Fin grid0.N, win0_5.xsize (grid0.coords t) 0 = 384 ∧ win0_5.xsize (grid0.coords t) 1 = 2048 := by decide +kernel
theorem xs6 : ∀ t : Fin grid0.N, win0_6.xsize (grid0.coords t) 0 = 384 ∧ win0_6.xsize (grid0.coords t) 1 = 2048 := by decide +kernel

/-! ### The column the host makes -/

/-- The column of zeros and ones, as the host writes it. -/
def column : Vec Ideal S8448x1 .f32 :=
  broadcastInDim S8448x1 ![0] bcast_S8448_S8448x1_0
    (select (cmpi .sge (iotaInDim S8448 32 0) (broadcastInDim S8448 ![] bcast_S_S8448 (constantI S_ 32 8192#32)))
      (broadcastInDim S8448 ![] bcast_S_S8448 (constant (F := Ideal) S_ .f32 0x3F800000#32))
      (broadcastInDim S8448 ![] bcast_S_S8448 (constant (F := Ideal) S_ .f32 0x00000000#32)))

theorem V_column (m : (ℓ : Loc nD τ sig) → Buf (Elt Ideal) ℓ) (c : Dev nD) : V m c main_v5 = column := by
  unfold V
  simp only [hostOps0, hostOps0_1, hostOps0_2, List.flatten_cons, List.flatten_nil, List.append_nil, List.cons_append, List.nil_append]
  after_results
  rfl

theorem column_at (r : Fin 8448) : column (ix2 r 0) = if 8192 ≤ r.val then 1 else 0 := by
  unfold column
  pointwise
  rw [ge_at]
  split <;> rfl

section Kernel

variable (m : (ℓ : Loc nD τ sig) → Buf (Elt Ideal) ℓ) (c : Dev nD)

/-- The arrays the call is given, as tables: the rows by the contracted axis, the weight by contracted axis and columns, the stream, and the two gates. -/
structure Given (f g x gg : ℕ → ℕ → EReal) : Prop where
  hf : ∀ (r : Fin 8448) (x : Fin 2048), V m c main_arg0 (ix2 r x) = f r x
  hg : ∀ (r : Fin 2048) (x : Fin 2048), V m c main_arg1 (ix2 r x) = g r x
  hx : ∀ (r : Fin 8448) (j : Fin 2048), V m c main_arg2 (ix2 r j) = x r j
  hgg : ∀ (k : Fin 2) (j : Fin 2048), V m c main_arg3 (ix2 k j) = gg k j

/-- The blocks the body reads at a point. -/
abbrev blkA (t : Fin cfg0.N) : Vec Ideal S384x2048 .bf16 := iblk m c 0 t
abbrev blkB (t : Fin cfg0.N) : Vec Ideal S2048x2048 .bf16 := iblk m c 1 t
abbrev blkX (t : Fin cfg0.N) : Vec Ideal S384x2048 .f32 := iblk m c 2 t
abbrev blkG (t : Fin cfg0.N) : Vec Ideal S2x2048 .f32 := iblk m c 3 t
abbrev blkM (t : Fin cfg0.N) : Vec Ideal S384x1 .f32 := iblk m c 4 t

variable {m c} {f g x gg : ℕ → ℕ → EReal} (G : Given m c f g x gg) (t : Fin cfg0.N)

include G

theorem blk0 (y : Fin 384) (x : Fin 2048) : iblk m c 0 t (ix2 y x) = f (t.val * 384 + y) (0 * 2048 + x) := by
  unfold iblk
  rw [View.read_apply]
  refine at2 G.hf _ ?_ ?_
  · exact (win0_0.rect_emb_val t _ 0).trans (congrArg (· * 384 + y.val) (idx0 t).1)
  · exact (win0_0.rect_emb_val t _ 1).trans (congrArg (· * 2048 + x.val) (idx0 t).2)

theorem blk1 (y : Fin 2048) (x : Fin 2048) : iblk m c 1 t (ix2 y x) = g (0 * 2048 + y) (0 * 2048 + x) := by
  unfold iblk
  rw [View.read_apply]
  refine at2 (f := fun r x => g r x) G.hg _ ?_ ?_
  · exact (win0_1.rect_emb_val t _ 0).trans (congrArg (· * 2048 + y.val) (idx1 t).1)
  · exact (win0_1.rect_emb_val t _ 1).trans (congrArg (· * 2048 + x.val) (idx1 t).2)

theorem blk2 (y : Fin 384) (j : Fin 2048) : blkX m c t (ix2 y j) = x (t.val * 384 + y) (0 * 2048 + j) := by
  unfold blkX iblk
  rw [View.read_apply]
  refine at2 G.hx _ ?_ ?_
  · exact (win0_2.rect_emb_val t _ 0).trans (congrArg (· * 384 + y.val) (idx2 t).1)
  · exact (win0_2.rect_emb_val t _ 1).trans (congrArg (· * 2048 + j.val) (idx2 t).2)

theorem blk3 (k : Fin 2) (j : Fin 2048) : blkG m c t (ix2 k j) = gg k (0 * 2048 + j) := by
  unfold blkG iblk
  rw [View.read_apply]
  refine at2 G.hgg _ ?_ ?_
  · exact (win0_3.rect_emb_val t _ 0).trans ((congrArg (· * 2 + k.val) (idx3 t).1).trans (by omega))
  · exact (win0_3.rect_emb_val t _ 1).trans (congrArg (· * 2048 + j.val) (idx3 t).2)

omit G in
theorem blk4 (y : Fin 384) : blkM m c t (ix2 y 0) = if 8192 ≤ t.val * 384 + y then 1 else 0 := by
  unfold blkM iblk
  rw [View.read_apply]
  have hc : ∀ (r : Fin 8448) (j : Fin 1), V m c main_v5 (ix2 r j) = (fun r _ => if 8192 ≤ r then (1 : EReal) else 0 : ℕ → ℕ → EReal) r j := by
    intro r j
    obtain rfl : j = 0 := Subsingleton.elim _ _
    rw [V_column]
    exact column_at r
  refine at2 (X := V m c main_v5) (f := fun r _ => if 8192 ≤ r then (1 : EReal) else 0) hc _ ?_ (j := 0) ?_
  · exact (win0_4.rect_emb_val t _ 0).trans (congrArg (· * 384 + y.val) (idx4 t).1)
  · exact (win0_4.rect_emb_val t _ 1).trans (congrArg (· * 1 + 0) (idx4 t).2)

omit G

/-! ### A stored value at an element -/

section
variable (X : Vec Ideal S384x2048 .bf16) (Y : Vec Ideal S2048x2048 .bf16) (r : Fin 384) (j : Fin 2048)

theorem pay1_at : k0_pay1 X Y (ix2 r j) = ∑ a : Fin 2048, X (ix2 r a) * Y (ix2 a j) := by pointwise [k0_pay1]
theorem pay2_at : k0_pay2 X Y (ix2 r j) = ∑ a : Fin 2048, X (ix2 r a) * Y (ix2 a j) := by
  refine Eq.trans ?_ (pay1_at X Y r j)
  pointwise [k0_pay2]
theorem pay3_at (M : Vec Ideal S384x1 .f32) (g1 g0 : Vec Ideal S1x2048 .f32) (x : Vec Ideal S384x2048 .f32)
    (p : Prop) [Decidable p] (hM : M (ix2 r 0) = if p then 1 else 0) :
    k0_pay3 X Y M g1 g0 x (ix2 r j) = x (ix2 r j) + (if p then g1 (ix2 0 j) else g0 (ix2 0 j)) * k0_pay1 X Y (ix2 r j) := by
  unfold k0_pay3
  generalize k0_pay1 X Y = A
  pointwise
  rw [hM]
  by_cases h : p
  · rw [if_pos h, if_pos h, if_pos half_lt_one]
  · rw [if_neg h, if_neg h, if_neg not_half_lt_zero]

end

/-- One point's block of the product. -/
theorem out_eq (X : Vec Ideal S384x2048 .bf16) (Y : Vec Ideal S2048x2048 .bf16) (x : Vec Ideal S384x2048 .f32) (gg : Vec Ideal S2x2048 .f32) (M : Vec Ideal S384x1 .f32) :
    out0_6 X Y x gg M = k0_pay2 X Y := by
  unfold out0_6
  rw [View.ld_unit_lit _ X (by decide), View.ld_unit_lit _ Y (by decide)]
  exact View.canon_cons_unit_lit _ _ _ (by decide)

/-- One point's block of the new stream. -/
theorem out5_eq (X : Vec Ideal S384x2048 .bf16) (Y : Vec Ideal S2048x2048 .bf16) (x : Vec Ideal S384x2048 .f32) (gg : Vec Ideal S2x2048 .f32) (M : Vec Ideal S384x1 .f32) :
    out0_5 X Y x gg M = k0_pay3 X Y M (VecWindow.window (s := S2x2048) gg ![1, 0] S1x2048.size inb_S2x2048_S1x2048_1_0)
      (VecWindow.window (s := S2x2048) gg ![0, 0] S1x2048.size inb_S2x2048_S1x2048_0_0) x := by
  unfold out0_5
  rw [View.ld_unit_lit _ X (by decide), View.ld_unit_lit _ Y (by decide), View.ld_unit_lit _ x (by decide), View.ld_unit_lit _ M (by decide)]
  exact View.canon_cons_unit_lit _ _ _ (by decide)

include G in
theorem terms (r : Fin 384) (j : Fin 2048) (a : Fin 2048) :
    blkA m c t (ix2 r a) * blkB m c t (ix2 a j) = f (t.val * 384 + r) (0 * 2048 + a) * g (0 * 2048 + a) (0 * 2048 + j) :=
  congrArg₂ (· * ·) (blk0 G t r a) (blk1 G t a j)

include G in
/-- One block of the result, an element at a time. -/
theorem last (r : Fin 384) (j : Fin 2048) :
    out0_6 (iblk m c 0 t) (iblk m c 1 t) (iblk m c 2 t) (iblk m c 3 t) (iblk m c 4 t) (ix2 r j) = mm f g 2048 (t.val * 384 + r) (0 * 2048 + j) := by
  rw [out_eq]
  refine (pay2_at (blkA m c t) (blkB m c t) r j).trans (mm_fin fun a => ?_)
  refine (terms G t r j a).trans ?_
  rw [show 0 * 2048 + a.val = a.val by omega]

/-- The product, as contents. -/
abbrev res (f g : ℕ → ℕ → EReal) : S8448x2048.Idx → EReal := fun i => mm f g 2048 (i 0).val (i 1).val

include G in
theorem flushed_eq (hf : (cfg0.win 6).flush t = true) :
    (dats m 0 c).flushed 6 t = ((cfg0.win 6).blk t).view.read (Elt Ideal) (res f g) := by
  rw [Cert.OutIdeal.Value.flushed6 m c t]
  funext y
  rw [View.read_apply]
  refine (at2 (f := fun r j => mm f g 2048 (t.val * 384 + r) (0 * 2048 + j)) (last G t) _ rfl rfl).trans (mm_congr rfl ?_ ?_)
  · exact ((win0_6.rect_emb_val t y 0).trans (congrArg (· * 384 + (y 0).val) (idx6 t).1)).symm
  · exact ((win0_6.rect_emb_val t y 1).trans (congrArg (· * 2048 + (y 1).val) (idx6 t).2)).symm

include G in
/-- Every element of the product at the end. -/
theorem final (r : Fin 8448) (j : Fin 2048) : (dats m 0 c).arrAt 6 cfg0.N (ix2 r j) = mm f g 2048 r j := by
  have hj := j.isLt
  have hr := r.isLt
  have hn : r.val / 384 < cfg0.N := by rw [show cfg0.N = 22 from N_0]; omega
  refine (dats m 0 c).arrAt_apply_of_mem 6 (res f g) (flushed_eq G) cfg0.N ⟨_, hn⟩ (ix2 r j) hn (flush0_6 _) ?_
  show ix2 r j ∈ ((View.whole main_v6_1).slice (win0_6.rect ⟨_, hn⟩)).set
  rw [View.set_slice_whole, Rect.mem_set_unit]
  obtain ⟨i0, i1⟩ := idx6 ⟨_, hn⟩
  obtain ⟨s0, s1⟩ := xs6 ⟨_, hn⟩
  intro a
  match a with
  | ⟨0, _⟩ =>
    show win0_6.index ⟨_, hn⟩ 0 * 384 ≤ r.val ∧ r.val < win0_6.index ⟨_, hn⟩ 0 * 384 + win0_6.xsize (grid0.coords ⟨_, hn⟩) 0
    rw [i0, s0]; dsimp only; omega
  | ⟨1, _⟩ =>
    show win0_6.index ⟨_, hn⟩ 1 * 2048 ≤ j.val ∧ j.val < win0_6.index ⟨_, hn⟩ 1 * 2048 + win0_6.xsize (grid0.coords ⟨_, hn⟩) 1
    rw [i1, s1]; omega

include G in
/-- One block of the new stream, an element at a time. -/
theorem last5 (r : Fin 384) (j : Fin 2048) :
    out0_5 (iblk m c 0 t) (iblk m c 1 t) (iblk m c 2 t) (iblk m c 3 t) (iblk m c 4 t) (ix2 r j)
      = gated x gg (mm f g 2048) (t.val * 384 + r) (0 * 2048 + j) := by
  rw [out5_eq]
  have hy : k0_pay1 (blkA m c t) (blkB m c t) (ix2 r j) = mm f g 2048 (t.val * 384 + r) (0 * 2048 + j) := by
    refine (pay1_at (blkA m c t) (blkB m c t) r j).trans (mm_fin fun a => ?_)
    refine (terms G t r j a).trans ?_
    rw [show 0 * 2048 + a.val = a.val by omega]
  refine (pay3_at (blkA m c t) (blkB m c t) r j (blkM m c t) _ _ (blkX m c t) (8192 ≤ t.val * 384 + r.val) (blk4 t r)).trans ?_
  have e1 := (row_at (blkG m c t) 1 inb_S2x2048_S1x2048_1_0 j).trans (blk3 G t 1 j)
  have e0 := (row_at (blkG m c t) 0 inb_S2x2048_S1x2048_0_0 j).trans (blk3 G t 0 j)
  refine congrArg₂ (· + ·) (blk2 G t r j) (congrArg₂ (· * ·) ?_ hy)
  by_cases hp : 8192 ≤ t.val * 384 + r.val
  · rw [if_pos hp, if_pos hp]
    exact e1
  · rw [if_neg hp, if_neg hp]
    exact e0

/-- The new stream, as contents. -/
abbrev new (f g x gg : ℕ → ℕ → EReal) : S8448x2048.Idx → EReal := fun i => gated x gg (mm f g 2048) (i 0).val (i 1).val

include G in
theorem flushed5_eq (hf : (cfg0.win 5).flush t = true) :
    (dats m 0 c).flushed 5 t = ((cfg0.win 5).blk t).view.read (Elt Ideal) (new f g x gg) := by
  rw [Cert.OutIdeal.Value.flushed5 m c t]
  funext y
  rw [View.read_apply]
  refine (at2 (f := fun r j => gated x gg (mm f g 2048) (t.val * 384 + r) (0 * 2048 + j)) (last5 G t) _ rfl rfl).trans (gated_congr ?_ ?_)
  · exact ((win0_5.rect_emb_val t y 0).trans (congrArg (· * 384 + (y 0).val) (idx5 t).1)).symm
  · exact ((win0_5.rect_emb_val t y 1).trans (congrArg (· * 2048 + (y 1).val) (idx5 t).2)).symm

include G in
/-- Every element of the new stream at the end. -/
theorem final5 (r : Fin 8448) (j : Fin 2048) : (dats m 0 c).arrAt 5 cfg0.N (ix2 r j) = gated x gg (mm f g 2048) r j := by
  have hj := j.isLt
  have hr := r.isLt
  have hn : r.val / 384 < cfg0.N := by rw [show cfg0.N = 22 from N_0]; omega
  refine (dats m 0 c).arrAt_apply_of_mem 5 (new f g x gg) (flushed5_eq G) cfg0.N ⟨_, hn⟩ (ix2 r j) hn (flush0_5 _) ?_
  show ix2 r j ∈ ((View.whole main_v6_0).slice (win0_5.rect ⟨_, hn⟩)).set
  rw [View.set_slice_whole, Rect.mem_set_unit]
  obtain ⟨i0, i1⟩ := idx5 ⟨_, hn⟩
  obtain ⟨s0, s1⟩ := xs5 ⟨_, hn⟩
  intro a
  match a with
  | ⟨0, _⟩ =>
    show win0_5.index ⟨_, hn⟩ 0 * 384 ≤ r.val ∧ r.val < win0_5.index ⟨_, hn⟩ 0 * 384 + win0_5.xsize (grid0.coords ⟨_, hn⟩) 0
    rw [i0, s0]; dsimp only; omega
  | ⟨1, _⟩ =>
    show win0_5.index ⟨_, hn⟩ 1 * 2048 ≤ j.val ∧ j.val < win0_5.index ⟨_, hn⟩ 1 * 2048 + win0_5.xsize (grid0.coords ⟨_, hn⟩) 1
    rw [i1, s1]; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S2048x2048, .bf16⟩ : BufTy).Contents (Elt Ideal)) : ℕ → ℕ → EReal := tab (R := 2048) (C := 2048) x1

/-- The stream. -/
abbrev stream (x2 : (⟨S8448x2048, .f32⟩ : BufTy).Contents (Elt Ideal)) : ℕ → ℕ → EReal := tab (R := 8448) (C := 2048) x2
/-- The two gates, one row each. -/
abbrev gates (x3 : (⟨S2x2048, .f32⟩ : BufTy).Contents (Elt Ideal)) : ℕ → ℕ → EReal := tab (R := 2) (C := 2048) x3

theorem given (m : (ℓ : Loc nD τ sig) → Buf (Elt Ideal) ℓ) (c : Dev nD) :
    Given m c (left (m ((c : Thread nD τ).loc main_arg0))) (right (m ((c : Thread nD τ).loc main_arg1)))
      (stream (m ((c : Thread nD τ).loc main_arg2))) (gates (m ((c : Thread nD τ).loc main_arg3))) where
  hf r x := (congrFun (V_main_arg0 m c) _).trans (tab_ix _ r x)
  hg r x := (congrFun (V_main_arg1 m c) _).trans (tab_ix _ r x)
  hx r j := (congrFun (V_main_arg2 m c) _).trans (tab_ix _ r j)
  hgg k j := (congrFun (V_main_arg3 m c) _).trans (tab_ix _ k j)

/-- An element of the reference's product. -/
theorem ref_at (x0 : (⟨S8448x2048, .bf16⟩ : BufTy).Contents (Elt Ideal)) (x1 : (⟨S2048x2048, .bf16⟩ : BufTy).Contents (Elt Ideal))
    (r : Fin 8448) (j : Fin 2048) : Cert.OutReferenceIdeal.Read.val_main_v2 (F := Ideal) x0 x1 (ix2 r j) = mm (left x0) (right x1) 2048 r j := by
  refine (Cert.OutReferenceIdeal.Read.val_main_v2_apply x0 x1 _).trans (mm_fin fun a => ?_)
  exact congrArg₂ (· * ·) (tab_at (R := 8448) (C := 2048) x0 _ rfl rfl) (tab_at (R := 2048) (C := 2048) x1 _ rfl rfl)

/-- An element of the reference's new stream: the two parts of the rows, laid end to end. -/
theorem ref_new_at (x0 : (⟨S8448x2048, .bf16⟩ : BufTy).Contents (Elt Ideal)) (x1 : (⟨S2048x2048, .bf16⟩ : BufTy).Contents (Elt Ideal))
    (x2 : (⟨S8448x2048, .f32⟩ : BufTy).Contents (Elt Ideal)) (x3 : (⟨S2x2048, .f32⟩ : BufTy).Contents (Elt Ideal))
    (r : Fin 8448) (j : Fin 2048) : Cert.OutReferenceIdeal.Read.val_main_v15 (F := Ideal) x0 x1 x2 x3 (ix2 r j)
      = gated (stream x2) (gates x3) (mm (left x0) (right x1) 2048) r j := by
  unfold gated
  refine Eq.trans ?_ (congrArg₂ (· + ·) (tab_ix (R := 8448) (C := 2048) x2 r j) (congrArg₂ (· * ·) rfl (ref_at x0 x1 r j)))
  unfold Cert.OutReferenceIdeal.Read.val_main_v15
  generalize h9 : Cert.OutReferenceIdeal.Read.val_main_v9 (F := Ideal) x0 x1 x2 x3 = y9
  generalize h14 : Cert.OutReferenceIdeal.Read.val_main_v14 (F := Ideal) x0 x1 x2 x3 = y14
  pointwise
  by_cases hr : r.val < 8192
  · rw [dif_pos hr, if_neg (show ¬8192 ≤ r.val by omega), ← h9, Cert.OutReferenceIdeal.Read.val_main_v9_apply,
      Cert.OutReferenceIdeal.Read.val_main_v8_apply, Cert.OutReferenceIdeal.Read.val_main_v5_apply, Cert.OutReferenceIdeal.Read.val_main_v6_apply,
      Cert.OutReferenceIdeal.Read.val_main_v7_apply, Cert.OutReferenceIdeal.Read.val_main_v3_apply]
    exact congrArg₂ (· + ·) (congrArg x2 (ix_ext rfl rfl)) (congrArg₂ (· * ·) (tab_at (R := 2) (C := 2048) x3 _ rfl rfl) (congrArg _ (ix_ext rfl rfl)))
  · have e : 8192 + (r.val - 8192) = r.val := by omega
    rw [dif_neg hr, if_pos (show 8192 ≤ r.val by omega), ← h14, Cert.OutReferenceIdeal.Read.val_main_v14_apply,
      Cert.OutReferenceIdeal.Read.val_main_v13_apply, Cert.OutReferenceIdeal.Read.val_main_v10_apply, Cert.OutReferenceIdeal.Read.val_main_v11_apply,
      Cert.OutReferenceIdeal.Read.val_main_v12_apply, Cert.OutReferenceIdeal.Read.val_main_v4_apply]
    exact congrArg₂ (· + ·) (congrArg x2 (ix_ext e rfl)) (congrArg₂ (· * ·) (tab_at (R := 2) (C := 2048) x3 _ rfl rfl) (congrArg _ (ix_ext e rfl)))

theorem frame_p : Cert.quiescent_Out := fun m ρ _ => Cert.Out.Gen.frame m ρ
theorem frame_pi : Cert.quiescent_OutIdeal := fun m ρ _ => Cert.OutIdeal.Gen.frame m ρ
theorem frame_ri : Cert.quiescent_OutReferenceIdeal := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

theorem preserves : Cert.preserves_Out_OutIdeal := trivial

theorem algebraic : Cert.algebraic_OutIdeal_OutReferenceIdeal := by
  intro m g m' g' _ ha
  refine ⟨fun c => (dats m 0 c).arrAt 5 cfg0.N, fun c => (dats m 0 c).arrAt 6 cfg0.N, Cert.OutIdeal.Value.run_blocks m g, ?_⟩
  refine (θ_run Cert.OutReferenceIdeal.defs _ _).mono (fun r h c => ?_) (Cert.OutReferenceIdeal.Value.run (F := Ideal) m' g')
  obtain ⟨e0, e1, ek⟩ := h c
  obtain ⟨u0, u1, u2, u3⟩ := ha c
  refine ⟨?_, ?_, ek⟩
  · rw [e0, Cert.OutReferenceIdeal.Read.val_main_v15_eq, u0, u1, u2, u3]
    funext i
    rw [eq_ix2 i]
    exact (ref_new_at _ _ _ _ _ _).trans (final5 (given m c) _ _).symm
  · rw [e1, Cert.OutReferenceIdeal.Read.val_main_v16_eq, u0, u1]
    funext i
    rw [eq_ix2 i]
    exact (ref_at _ _ _ _).trans (final (given m c) _ _).symm

end Cert.OutClaims

end
-- ==== Proof.QueryClaims.lean ====
/-
  What the call of a layer's product that makes the grouped-query attention's queries computes, over the extended reals: the whole product, each block of the result
  as a sum over stretches of the contracted axis; and the claims of the call and its reference.
-/
module

public import proofs.«01_k».proof.Defs
public import proofs.«01_k».proof.Proof.Gen.Query.Frame
public import proofs.«01_k».proof.Proof.Gen.QueryIdeal.Frame
public import proofs.«01_k».proof.Proof.Gen.QueryIdeal.Value
public import proofs.«01_k».proof.Proof.Gen.QueryReferenceIdeal.Run
public import proofs.«01_k».proof.Proof.Gen.QueryReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.QueryClaims

open Idealize.ShloMosaic Idealize.ShloMosaic.TcCoe Idealize.ShloMosaic.Tactic Idealize.SL.Sem Cert.QueryIdeal Cert.QueryIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 384 ∧ win0_2.xsize (grid0.coords t) 1 = 2048 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 2048) (x : Fin 2048), V m c main_arg1 (ix2 r x) = g r x

/-- The two blocks the body reads at a point. -/
abbrev blkA (t : Fin cfg0.N) : Vec Ideal S384x2048 .bf16 := iblk m c 0 t
abbrev blkB (t : Fin cfg0.N) : Vec Ideal S2048x2048 .bf16 := iblk m c 1 t

variable {m c} {f g : ℕ → ℕ → EReal} (G : Given m c f g) (t : Fin cfg0.N)

include G

theorem blk0 (y : Fin 384) (x : Fin 2048) : iblk m c 0 t (ix2 y x) = f (t.val * 384 + y) (0 * 2048 + x) := by
  unfold iblk
  rw [View.read_apply]
  refine at2 G.hf _ ?_ ?_
  · exact (win0_0.rect_emb_val t _ 0).trans (congrArg (· * 384 + y.val) (idx0 t).1)
  · exact (win0_0.rect_emb_val t _ 1).trans (congrArg (· * 2048 + x.val) (idx0 t).2)

theorem blk1 (y : Fin 2048) (x : Fin 2048) : iblk m c 1 t (ix2 y x) = g (0 * 2048 + y) (0 * 2048 + x) := by
  unfold iblk
  rw [View.read_apply]
  refine at2 (f := fun r x => g r x) G.hg _ ?_ ?_
  · exact (win0_1.rect_emb_val t _ 0).trans (congrArg (· * 2048 + y.val) (idx1 t).1)
  · exact (win0_1.rect_emb_val t _ 1).trans (congrArg (· * 2048 + x.val) (idx1 t).2)

omit G

/-! ### A stored value at an element -/

section
variable (X : Vec Ideal S384x2048 .bf16) (Y : Vec Ideal S2048x2048 .bf16) (r : Fin 384) (j : Fin 2048)

theorem pay1_at : k0_pay1 X Y (ix2 r j) = ∑ a : Fin 2048, X (ix2 r a) * Y (ix2 a j) := by pointwise [k0_pay1]

end

/-- One point's block. -/
theorem out_eq (X : Vec Ideal S384x2048 .bf16) (Y : Vec Ideal S2048x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 384) (j : Fin 2048) (a : Fin 2048) :
    blkA m c t (ix2 r a) * blkB m c t (ix2 a j) = f (t.val * 384 + r) (0 * 2048 + a) * g (0 * 2048 + a) (0 * 2048 + j) :=
  congrArg₂ (· * ·) (blk0 G t r a) (blk1 G t a j)

include G in
/-- One block of the result, an element at a time. -/
theorem last (r : Fin 384) (j : Fin 2048) :
    out0_2 (iblk m c 0 t) (iblk m c 1 t) (ix2 r j) = mm f g 2048 (t.val * 384 + r) (0 * 2048 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x2048.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.QueryIdeal.Value.flushed2 m c t]
  funext y
  rw [View.read_apply]
  refine (at2 (f := fun r j => mm f g 2048 (t.val * 384 + r) (0 * 2048 + j)) (last G t) _ rfl rfl).trans (mm_congr rfl ?_ ?_)
  · exact ((win0_2.rect_emb_val t y 0).trans (congrArg (· * 384 + (y 0).val) (idx2 t).1)).symm
  · exact ((win0_2.rect_emb_val t y 1).trans (congrArg (· * 2048 + (y 1).val) (idx2 t).2)).symm

include G in
/-- Every element of the result at the end. -/
theorem final (r : Fin 8448) (j : Fin 2048) : (dats m 0 c).arrAt 2 cfg0.N (ix2 r j) = mm f g 2048 r j := by
  have hj := j.isLt
  have hr := r.isLt
  have hn : r.val / 384 < cfg0.N := by rw [show cfg0.N = 22 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 384 ≤ r.val ∧ r.val < win0_2.index ⟨_, hn⟩ 0 * 384 + win0_2.xsize (grid0.coords ⟨_, hn⟩) 0
    rw [i0, s0]; dsimp only; omega
  | ⟨1, _⟩ =>
    show win0_2.index ⟨_, hn⟩ 1 * 2048 ≤ j.val ∧ j.val < win0_2.index ⟨_, hn⟩ 1 * 2048 + win0_2.xsize (grid0.coords ⟨_, hn⟩) 1
    rw [i1, s1]; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S2048x2048, .bf16⟩ : BufTy).Contents (Elt Ideal)) : ℕ → ℕ → EReal := tab (R := 2048) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .bf16⟩ : BufTy).Contents (Elt Ideal)) (x1 : (⟨S2048x2048, .bf16⟩ : BufTy).Contents (Elt Ideal))
    (r : Fin 8448) (j : Fin 2048) : Cert.QueryReferenceIdeal.Read.val_main_v2 (F := Ideal) x0 x1 (ix2 r j) = mm (left x0) (right x1) 2048 r j := by
  refine (Cert.QueryReferenceIdeal.Read.val_main_v2_apply x0 x1 _).trans (mm_fin fun a => ?_)
  exact congrArg₂ (· * ·) (tab_at (R := 8448) (C := 2048) x0 _ rfl rfl) (tab_at (R := 2048) (C := 2048) x1 _ rfl rfl)

theorem frame_p : Cert.quiescent_Query := fun m ρ _ => Cert.Query.Gen.frame m ρ
theorem frame_pi : Cert.quiescent_QueryIdeal := fun m ρ _ => Cert.QueryIdeal.Gen.frame m ρ
theorem frame_ri : Cert.quiescent_QueryReferenceIdeal := fun m ρ _ =>
  (θ_run Cert.QueryReferenceIdeal.defs _ _).mono (fun r h => ⟨fun c => (h c).2, Idealize.ShloMosaic.sem_eq_zero_of_no_sems (by decide) r.2⟩)
    (Cert.QueryReferenceIdeal.Value.run (F := Ideal) m ρ)

theorem preserves : Cert.preserves_Query_QueryIdeal := trivial

theorem algebraic : Cert.algebraic_QueryIdeal_QueryReferenceIdeal := by
  intro m g m' g' _ ha
  refine ⟨fun c => (dats m 0 c).arrAt 2 cfg0.N, Cert.QueryIdeal.Value.run_blocks m g, ?_⟩
  refine (θ_run Cert.QueryReferenceIdeal.defs _ _).mono (fun r h c => ?_) (Cert.QueryReferenceIdeal.Value.run (F := Ideal) m' g')
  obtain ⟨e0, ek⟩ := h c
  obtain ⟨u0, u1⟩ := ha c
  refine ⟨?_, ek⟩
  rw [e0, Cert.QueryReferenceIdeal.Read.val_main_v2_eq, u0, u1]
  funext i
  rw [eq_ix2 i]
  exact (ref_at _ _ _ _).trans (final (given m c) _ _).symm

end Cert.QueryClaims

end
-- ==== Proof.QueryDaClaims.lean ====
/-
  What the call of the gradient of the queries' product in its rows computes, over the extended reals: the whole product, each block of the result
  as a sum over stretches of the contracted axis; and the claims of the call and its reference.
-/
module

public import proofs.«01_k».proof.Defs
public import proofs.«01_k».proof.Proof.Gen.QueryDa.Frame
public import proofs.«01_k».proof.Proof.Gen.QueryDaIdeal.Frame
public import proofs.«01_k».proof.Proof.Gen.QueryDaIdeal.Value
public import proofs.«01_k».proof.Proof.Gen.QueryDaReferenceIdeal.Run
public import proofs.«01_k».proof.Proof.Gen.QueryDaReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.QueryDaClaims

open Idealize.ShloMosaic Idealize.ShloMosaic.TcCoe Idealize.ShloMosaic.Tactic Idealize.SL.Sem Cert.QueryDaIdeal Cert.QueryDaIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 384 ∧ win0_2.xsize (grid0.coords t) 1 = 2048 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 2048) (x : Fin 2048), V m c main_arg1 (ix2 r x) = g x r

/-- The two blocks the body reads at a point. -/
abbrev blkA (t : Fin cfg0.N) : Vec Ideal S384x2048 .f32 := iblk m c 0 t
abbrev blkB (t : Fin cfg0.N) : Vec Ideal S2048x2048 .bf16 := iblk m c 1 t

variable {m c} {f g : ℕ → ℕ → EReal} (G : Given m c f g) (t : Fin cfg0.N)

include G

theorem blk0 (y : Fin 384) (x : Fin 2048) : iblk m c 0 t (ix2 y x) = f (t.val * 384 + y) (0 * 2048 + x) := by
  unfold iblk
  rw [View.read_apply]
  refine at2 G.hf _ ?_ ?_
  · exact (win0_0.rect_emb_val t _ 0).trans (congrArg (· * 384 + y.val) (idx0 t).1)
  · exact (win0_0.rect_emb_val t _ 1).trans (congrArg (· * 2048 + x.val) (idx0 t).2)

theorem blk1 (y : Fin 2048) (x : Fin 2048) : iblk m c 1 t (ix2 y x) = g (0 * 2048 + x) (0 * 2048 + y) := by
  unfold iblk
  rw [View.read_apply]
  refine at2 (f := fun r x => g x r) G.hg _ ?_ ?_
  · exact (win0_1.rect_emb_val t _ 0).trans (congrArg (· * 2048 + y.val) (idx1 t).1)
  · exact (win0_1.rect_emb_val t _ 1).trans (congrArg (· * 2048 + x.val) (idx1 t).2)

omit G

/-! ### A stored value at an element -/

section
variable (X : Vec Ideal S384x2048 .f32) (Y : Vec Ideal S2048x2048 .bf16) (r : Fin 384) (j : Fin 2048)

theorem pay1_at : k0_pay1 X Y (ix2 r j) = ∑ a : Fin 2048, X (ix2 r a) * Y (ix2 j a) := by pointwise [k0_pay1]

end

/-- One point's block. -/
theorem out_eq (X : Vec Ideal S384x2048 .f32) (Y : Vec Ideal S2048x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 384) (j : Fin 2048) (a : Fin 2048) :
    blkA m c t (ix2 r a) * blkB m c t (ix2 j a) = f (t.val * 384 + r) (0 * 2048 + a) * g (0 * 2048 + a) (0 * 2048 + j) :=
  congrArg₂ (· * ·) (blk0 G t r a) (blk1 G t j a)

include G in
/-- One block of the result, an element at a time. -/
theorem last (r : Fin 384) (j : Fin 2048) :
    out0_2 (iblk m c 0 t) (iblk m c 1 t) (ix2 r j) = mm f g 2048 (t.val * 384 + r) (0 * 2048 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x2048.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.QueryDaIdeal.Value.flushed2 m c t]
  funext y
  rw [View.read_apply]
  refine (at2 (f := fun r j => mm f g 2048 (t.val * 384 + r) (0 * 2048 + j)) (last G t) _ rfl rfl).trans (mm_congr rfl ?_ ?_)
  · exact ((win0_2.rect_emb_val t y 0).trans (congrArg (· * 384 + (y 0).val) (idx2 t).1)).symm
  · exact ((win0_2.rect_emb_val t y 1).trans (congrArg (· * 2048 + (y 1).val) (idx2 t).2)).symm

include G in
/-- Every element of the result at the end. -/
theorem final (r : Fin 8448) (j : Fin 2048) : (dats m 0 c).arrAt 2 cfg0.N (ix2 r j) = mm f g 2048 r j := by
  have hj := j.isLt
  have hr := r.isLt
  have hn : r.val / 384 < cfg0.N := by rw [show cfg0.N = 22 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 384 ≤ r.val ∧ r.val < win0_2.index ⟨_, hn⟩ 0 * 384 + win0_2.xsize (grid0.coords ⟨_, hn⟩) 0
    rw [i0, s0]; dsimp only; omega
  | ⟨1, _⟩ =>
    show win0_2.index ⟨_, hn⟩ 1 * 2048 ≤ j.val ∧ j.val < win0_2.index ⟨_, hn⟩ 1 * 2048 + win0_2.xsize (grid0.coords ⟨_, hn⟩) 1
    rw [i1, s1]; omega

end Kernel

/-! ### The arguments, the reference, and the claims -/

/-- The first argument as a table, by the result's rows and the contracted axis. -/
abbrev left (x0 : (⟨S8448x2048, .f32⟩ : BufTy).Contents (Elt Ideal)) : ℕ → ℕ → EReal := tab (R := 8448) (C := 2048) x0
/-- The second, by the contracted axis and the result's columns. -/
abbrev right (x1 : (⟨S2048x2048, .bf16⟩ : BufTy).Contents (Elt Ideal)) : ℕ → ℕ → EReal := fun x j => tab (R := 2048) (C := 2048) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .f32⟩ : BufTy).Contents (Elt Ideal)) (x1 : (⟨S2048x2048, .bf16⟩ : BufTy).Contents (Elt Ideal))
    (r : Fin 8448) (j : Fin 2048) : Cert.QueryDaReferenceIdeal.Read.val_main_v4 (F := Ideal) x0 x1 (ix2 r j) = mm (left x0) (right x1) 2048 r j := by
  refine (Cert.QueryDaReferenceIdeal.Read.val_main_v3_apply x0 x1 _).trans (mm_fin fun a => ?_)
  exact congrArg₂ (· * ·) (tab_at (R := 8448) (C := 2048) x0 _ rfl rfl) (tab_at (R := 2048) (C := 2048) x1 _ rfl rfl)

theorem frame_p : Cert.quiescent_QueryDa := fun m ρ _ => Cert.QueryDa.Gen.frame m ρ
theorem frame_pi : Cert.quiescent_QueryDaIdeal := fun m ρ _ => Cert.QueryDaIdeal.Gen.frame m ρ
theorem frame_ri : Cert.quiescent_QueryDaReferenceIdeal := fun m ρ _ =>
  (θ_run Cert.QueryDaReferenceIdeal.defs _ _).mono (fun r h => ⟨fun c => (h c).2, Idealize.ShloMosaic.sem_eq_zero_of_no_sems (by decide) r.2⟩)
    (Cert.QueryDaReferenceIdeal.Value.run (F := Ideal) m ρ)

theorem preserves : Cert.preserves_QueryDa_QueryDaIdeal := trivial

theorem algebraic : Cert.algebraic_QueryDaIdeal_QueryDaReferenceIdeal := by
  intro m g m' g' _ ha
  refine ⟨fun c => (dats m 0 c).arrAt 2 cfg0.N, Cert.QueryDaIdeal.Value.run_blocks m g, ?_⟩
  refine (θ_run Cert.QueryDaReferenceIdeal.defs _ _).mono (fun r h c => ?_) (Cert.QueryDaReferenceIdeal.Value.run (F := Ideal) m' g')
  obtain ⟨e0, ek⟩ := h c
  obtain ⟨u0, u1⟩ := ha c
  refine ⟨?_, ek⟩
  rw [e0, Cert.QueryDaReferenceIdeal.Read.val_main_v4_eq, u0, u1]
  funext i
  rw [eq_ix2 i]
  exact (ref_at _ _ _ _).trans (final (given m c) _ _).symm

end Cert.QueryDaClaims

end
-- ==== Proof.QueryDwClaims.lean ====
/-
  What the call of the gradient of the queries' product in its weight computes, over the extended reals: the whole product, each block of the result
  as a sum over stretches of the contracted axis; and the claims of the call and its reference.
-/
module

public import proofs.«01_k».proof.Defs
public import proofs.«01_k».proof.Proof.Gen.QueryDw.Frame
public import proofs.«01_k».proof.Proof.Gen.QueryDwIdeal.Frame
public import proofs.«01_k».proof.Proof.Gen.QueryDwIdeal.Value
public import proofs.«01_k».proof.Proof.Gen.QueryDwReferenceIdeal.Run
public import proofs.«01_k».proof.Proof.Gen.QueryDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.QueryDwClaims

open Idealize.ShloMosaic Idealize.ShloMosaic.TcCoe Idealize.ShloMosaic.Tactic Idealize.SL.Sem Cert.QueryDwIdeal Cert.QueryDwIdeal.Gen Cert.Product
open scoped BigOperators

/-! ### Which block each window is on, over the grid -/

theorem idx0 : ∀ t : Fin grid0.N, win0_0.index t 0 = t.val / 24 ∧ win0_0.index t 1 = t.val % 6 := by decide +kernel
theorem idx1 : ∀ t : Fin grid0.N, win0_1.index t 0 = t.val % 6 ∧ win0_1.index t 1 = t.val / 6 % 4 := by decide +kernel
theorem idx2 : ∀ t : Fin grid0.N, win0_2.index t 0 = t.val / 24 ∧ win0_2.index t 1 = t.val / 6 % 4 := by decide +kernel
theorem xs2 : ∀ t : Fin grid0.N, win0_2.xsize (grid0.coords t) 0 = 2048 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 2048) (x : Fin 8448), V m c main_v0 (ix2 r x) = f r x
  hg : ∀ (r : Fin 8448) (x : Fin 2048), V m c main_arg1 (ix2 r x) = g r x

/-- The two blocks the body reads at a point. -/
abbrev blkA (t : Fin cfg0.N) : Vec Ideal S2048x1408 .bf16 := iblk m c 0 t
abbrev blkB (t : Fin cfg0.N) : Vec Ideal S1408x512 .f32 := iblk m c 1 t

variable {m c} {f g : ℕ → ℕ → EReal} (G : Given m c f g) (t : Fin cfg0.N)

include G

theorem blk0 (y : Fin 2048) (x : Fin 1408) : iblk m c 0 t (ix2 y x) = f ((t.val / 24) * 2048 + y) ((t.val % 6) * 1408 + x) := by
  unfold iblk
  rw [View.read_apply]
  refine at2 G.hf _ ?_ ?_
  · exact (win0_0.rect_emb_val t _ 0).trans (congrArg (· * 2048 + y.val) (idx0 t).1)
  · exact (win0_0.rect_emb_val t _ 1).trans (congrArg (· * 1408 + x.val) (idx0 t).2)

theorem blk1 (y : Fin 1408) (x : Fin 512) : iblk m c 1 t (ix2 y x) = g ((t.val % 6) * 1408 + y) ((t.val / 6 % 4) * 512 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 512 + x.val) (idx1 t).2)

omit G

/-! ### A stored value at an element -/

section
variable (X : Vec Ideal S2048x1408 .bf16) (Y : Vec Ideal S1408x512 .f32) (r : Fin 2048) (j : Fin 512)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S2048x512 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S2048x512 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 2048) (j : Fin 512), (outsAt0 m c t.val t.isLt).2 (ix2 r j) = mm f g ((t.val % 6 + 1) * 1408) ((t.val / 24) * 2048 + r) ((t.val / 6 % 4) * 512 + j)

/-- The point before, as a point. -/
abbrev before : Fin cfg0.N := ⟨t.val - 1, Nat.lt_of_le_of_lt (Nat.sub_le _ _) t.isLt⟩

include G in
theorem terms (r : Fin 2048) (j : Fin 512) (a : Fin 1408) :
    blkA m c t (ix2 r a) * blkB m c t (ix2 a j) = f ((t.val / 24) * 2048 + r) ((t.val % 6) * 1408 + a) * g ((t.val % 6) * 1408 + a) ((t.val / 6 % 4) * 512 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 24) * 2048 + r) ((t.val / 6 % 4) * 512 + j) := by
      refine (I h0 r j).trans (mm_congr ?_ ?_ ?_)
      · show ((t.val - 1) % 6 + 1) * 1408 = t.val % 6 * 1408
        omega
      · show (t.val - 1) / 24 * 2048 + r.val = t.val / 24 * 2048 + r.val
        omega
      · show (t.val - 1) / 6 % 4 * 512 + j.val = t.val / 6 % 4 * 512 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 2048) (j : Fin 512) :
    (outsAt0 m c t.val t.isLt).1 (ix2 r j) = mm f g 8448 ((t.val / 24) * 2048 + r) ((t.val / 6 % 4) * 512 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S2048x2048.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.QueryDwIdeal.Value.flushed2 m c t]
  funext y
  rw [View.read_apply]
  refine (at2 (f := fun r j => mm f g 8448 ((t.val / 24) * 2048 + r) ((t.val / 6 % 4) * 512 + j)) (last G t h) _ rfl rfl).trans (mm_congr rfl ?_ ?_)
  · exact ((win0_2.rect_emb_val t y 0).trans (congrArg (· * 2048 + (y 0).val) (idx2 t).1)).symm
  · exact ((win0_2.rect_emb_val t y 1).trans (congrArg (· * 512 + (y 1).val) (idx2 t).2)).symm

include G in
/-- Every element of the result at the end. -/
theorem final (r : Fin 2048) (j : Fin 2048) : (dats m 0 c).arrAt 2 cfg0.N (ix2 r j) = mm f g 8448 r j := by
  have hj := j.isLt
  have hr := r.isLt
  have hn : r.val / 2048 * 24 + j.val / 512 * 6 + 5 < cfg0.N := by rw [show cfg0.N = 24 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 2048 ≤ r.val ∧ r.val < win0_2.index ⟨_, hn⟩ 0 * 2048 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; dsimp only; omega

end Kernel

/-! ### The arguments, the reference, and the claims -/

/-- The first array the call is given: the argument's transpose. -/
def h_v0 (x0 : (⟨S8448x2048, .bf16⟩ : BufTy).Contents (Elt Ideal)) : (⟨S2048x8448, .bf16⟩ : BufTy).Contents (Elt Ideal) :=
  (transpose S2048x8448 [1, 0] · transposes_S8448x2048_S2048x8448_1_0) x0
theorem v0_at (x0 : (⟨S8448x2048, .bf16⟩ : BufTy).Contents (Elt Ideal)) (r : Fin 2048) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x2048, .bf16⟩ : BufTy).Contents (Elt Ideal)) : ℕ → ℕ → EReal := fun r x => tab (R := 8448) (C := 2048) x0 x r
/-- The second, by the contracted axis and the result's columns. -/
abbrev right (x1 : (⟨S8448x2048, .f32⟩ : BufTy).Contents (Elt Ideal)) : ℕ → ℕ → EReal := tab (R := 8448) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x2048, .bf16⟩ : BufTy).Contents (Elt Ideal)) (x1 : (⟨S8448x2048, .f32⟩ : BufTy).Contents (Elt Ideal))
    (r : Fin 2048) (j : Fin 2048) : Cert.QueryDwReferenceIdeal.Read.val_main_v5 (F := Ideal) x0 x1 (ix2 r j) = mm (left x0) (right x1) 8448 r j := by
  refine (Cert.QueryDwReferenceIdeal.Read.val_main_v4_apply (F := Ideal) x0 x1 _).trans ?_
  refine (Cert.QueryDwReferenceIdeal.Read.val_main_v3_apply x0 x1 _).trans (mm_fin fun a => ?_)
  exact (mul_comm _ _).trans (congrArg₂ (· * ·) (tab_at (R := 8448) (C := 2048) x0 _ rfl rfl) (tab_at (R := 8448) (C := 2048) x1 _ rfl rfl))

theorem frame_p : Cert.quiescent_QueryDw := fun m ρ _ => Cert.QueryDw.Gen.frame m ρ
theorem frame_pi : Cert.quiescent_QueryDwIdeal := fun m ρ _ => Cert.QueryDwIdeal.Gen.frame m ρ
theorem frame_ri : Cert.quiescent_QueryDwReferenceIdeal := fun m ρ _ =>
  (θ_run Cert.QueryDwReferenceIdeal.defs _ _).mono (fun r h => ⟨fun c => (h c).2, Idealize.ShloMosaic.sem_eq_zero_of_no_sems (by decide) r.2⟩)
    (Cert.QueryDwReferenceIdeal.Value.run (F := Ideal) m ρ)

theorem preserves : Cert.preserves_QueryDw_QueryDwIdeal := trivial

theorem algebraic : Cert.algebraic_QueryDwIdeal_QueryDwReferenceIdeal := by
  intro m g m' g' _ ha
  refine ⟨fun c => (dats m 0 c).arrAt 2 cfg0.N, Cert.QueryDwIdeal.Value.run_blocks m g, ?_⟩
  refine (θ_run Cert.QueryDwReferenceIdeal.defs _ _).mono (fun r h c => ?_) (Cert.QueryDwReferenceIdeal.Value.run (F := Ideal) m' g')
  obtain ⟨e0, ek⟩ := h c
  obtain ⟨u0, u1⟩ := ha c
  refine ⟨?_, ek⟩
  rw [e0, Cert.QueryDwReferenceIdeal.Read.val_main_v5_eq, u0, u1]
  funext i
  rw [eq_ix2 i]
  exact (ref_at _ _ _ _).trans (final (given m c) _ _).symm

end Cert.QueryDwClaims

end
-- ==== Proof.KeyClaims.lean ====
/-
  What the call of the product that makes the grouped-query attention's keys computes, over the extended reals: the whole product, each block of the result
  as a sum over stretches of the contracted axis; and the claims of the call and its reference.
-/
module

public import proofs.«01_k».proof.Defs
public import proofs.«01_k».proof.Proof.Gen.Key.Frame
public import proofs.«01_k».proof.Proof.Gen.KeyIdeal.Frame
public import proofs.«01_k».proof.Proof.Gen.KeyIdeal.Value
public import proofs.«01_k».proof.Proof.Gen.KeyReferenceIdeal.Run
public import proofs.«01_k».proof.Proof.Gen.KeyReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.KeyClaims

open Idealize.ShloMosaic Idealize.ShloMosaic.TcCoe Idealize.ShloMosaic.Tactic Idealize.SL.Sem Cert.KeyIdeal Cert.KeyIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 1408 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 2048) (x : Fin 512), V m c main_arg1 (ix2 r x) = g r x

/-- The two blocks the body reads at a point. -/
abbrev blkA (t : Fin cfg0.N) : Vec Ideal S1408x2048 .bf16 := iblk m c 0 t
abbrev blkB (t : Fin cfg0.N) : Vec Ideal S2048x512 .bf16 := iblk m c 1 t

variable {m c} {f g : ℕ → ℕ → EReal} (G : Given m c f g) (t : Fin cfg0.N)

include G

theorem blk0 (y : Fin 1408) (x : Fin 2048) : iblk m c 0 t (ix2 y x) = f (t.val * 1408 + y) (0 * 2048 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 2048 + x.val) (idx0 t).2)

theorem blk1 (y : Fin 2048) (x : Fin 512) : iblk m c 1 t (ix2 y x) = g (0 * 2048 + y) (0 * 512 + x) := by
  unfold iblk
  rw [View.read_apply]
  refine at2 (f := fun r x => g r x) G.hg _ ?_ ?_
  · exact (win0_1.rect_emb_val t _ 0).trans (congrArg (· * 2048 + y.val) (idx1 t).1)
  · exact (win0_1.rect_emb_val t _ 1).trans (congrArg (· * 512 + x.val) (idx1 t).2)

omit G

/-! ### A stored value at an element -/

section
variable (X : Vec Ideal S1408x2048 .bf16) (Y : Vec Ideal S2048x512 .bf16) (r : Fin 1408) (j : Fin 512)

theorem pay1_at : k0_pay1 X Y (ix2 r j) = ∑ a : Fin 2048, X (ix2 r a) * Y (ix2 a j) := by pointwise [k0_pay1]

end

/-- One point's block. -/
theorem out_eq (X : Vec Ideal S1408x2048 .bf16) (Y : Vec Ideal S2048x512 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 1408) (j : Fin 512) (a : Fin 2048) :
    blkA m c t (ix2 r a) * blkB m c t (ix2 a j) = f (t.val * 1408 + r) (0 * 2048 + a) * g (0 * 2048 + a) (0 * 512 + j) :=
  congrArg₂ (· * ·) (blk0 G t r a) (blk1 G t a j)

include G in
/-- One block of the result, an element at a time. -/
theorem last (r : Fin 1408) (j : Fin 512) :
    out0_2 (iblk m c 0 t) (iblk m c 1 t) (ix2 r j) = mm f g 2048 (t.val * 1408 + r) (0 * 512 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x512.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.KeyIdeal.Value.flushed2 m c t]
  funext y
  rw [View.read_apply]
  refine (at2 (f := fun r j => mm f g 2048 (t.val * 1408 + r) (0 * 512 + j)) (last G t) _ rfl rfl).trans (mm_congr rfl ?_ ?_)
  · exact ((win0_2.rect_emb_val t y 0).trans (congrArg (· * 1408 + (y 0).val) (idx2 t).1)).symm
  · exact ((win0_2.rect_emb_val t y 1).trans (congrArg (· * 512 + (y 1).val) (idx2 t).2)).symm

include G in
/-- Every element of the result at the end. -/
theorem final (r : Fin 8448) (j : Fin 512) : (dats m 0 c).arrAt 2 cfg0.N (ix2 r j) = mm f g 2048 r j := by
  have hj := j.isLt
  have hr := r.isLt
  have hn : r.val / 1408 < cfg0.N := by rw [show cfg0.N = 6 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; omega

end Kernel

/-! ### The arguments, the reference, and the claims -/

/-- The first argument as a table, by the result's rows and the contracted axis. -/
abbrev left (x0 : (⟨S8448x2048, .bf16⟩ : BufTy).Contents (Elt Ideal)) : ℕ → ℕ → EReal := tab (R := 8448) (C := 2048) x0
/-- The second, by the contracted axis and the result's columns. -/
abbrev right (x1 : (⟨S2048x512, .bf16⟩ : BufTy).Contents (Elt Ideal)) : ℕ → ℕ → EReal := tab (R := 2048) (C := 512) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .bf16⟩ : BufTy).Contents (Elt Ideal)) (x1 : (⟨S2048x512, .bf16⟩ : BufTy).Contents (Elt Ideal))
    (r : Fin 8448) (j : Fin 512) : Cert.KeyReferenceIdeal.Read.val_main_v2 (F := Ideal) x0 x1 (ix2 r j) = mm (left x0) (right x1) 2048 r j := by
  refine (Cert.KeyReferenceIdeal.Read.val_main_v2_apply x0 x1 _).trans (mm_fin fun a => ?_)
  exact congrArg₂ (· * ·) (tab_at (R := 8448) (C := 2048) x0 _ rfl rfl) (tab_at (R := 2048) (C := 512) x1 _ rfl rfl)

theorem frame_p : Cert.quiescent_Key := fun m ρ _ => Cert.Key.Gen.frame m ρ
theorem frame_pi : Cert.quiescent_KeyIdeal := fun m ρ _ => Cert.KeyIdeal.Gen.frame m ρ
theorem frame_ri : Cert.quiescent_KeyReferenceIdeal := fun m ρ _ =>
  (θ_run Cert.KeyReferenceIdeal.defs _ _).mono (fun r h => ⟨fun c => (h c).2, Idealize.ShloMosaic.sem_eq_zero_of_no_sems (by decide) r.2⟩)
    (Cert.KeyReferenceIdeal.Value.run (F := Ideal) m ρ)

theorem preserves : Cert.preserves_Key_KeyIdeal := trivial

theorem algebraic : Cert.algebraic_KeyIdeal_KeyReferenceIdeal := by
  intro m g m' g' _ ha
  refine ⟨fun c => (dats m 0 c).arrAt 2 cfg0.N, Cert.KeyIdeal.Value.run_blocks m g, ?_⟩
  refine (θ_run Cert.KeyReferenceIdeal.defs _ _).mono (fun r h c => ?_) (Cert.KeyReferenceIdeal.Value.run (F := Ideal) m' g')
  obtain ⟨e0, ek⟩ := h c
  obtain ⟨u0, u1⟩ := ha c
  refine ⟨?_, ek⟩
  rw [e0, Cert.KeyReferenceIdeal.Read.val_main_v2_eq, u0, u1]
  funext i
  rw [eq_ix2 i]
  exact (ref_at _ _ _ _).trans (final (given m c) _ _).symm

end Cert.KeyClaims

end
-- ==== Proof.KeyDaClaims.lean ====
/-
  What the call of the gradient of the keys' product in its rows computes, over the extended reals: the whole product, each block of the result
  as a sum over stretches of the contracted axis; and the claims of the call and its reference.
-/
module

public import proofs.«01_k».proof.Defs
public import proofs.«01_k».proof.Proof.Gen.KeyDa.Frame
public import proofs.«01_k».proof.Proof.Gen.KeyDaIdeal.Frame
public import proofs.«01_k».proof.Proof.Gen.KeyDaIdeal.Value
public import proofs.«01_k».proof.Proof.Gen.KeyDaReferenceIdeal.Run
public import proofs.«01_k».proof.Proof.Gen.KeyDaReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.KeyDaClaims

open Idealize.ShloMosaic Idealize.ShloMosaic.TcCoe Idealize.ShloMosaic.Tactic Idealize.SL.Sem Cert.KeyDaIdeal Cert.KeyDaIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 768 ∧ win0_2.xsize (grid0.coords t) 1 = 2048 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 512), V m c main_arg0 (ix2 r x) = f r x
  hg : ∀ (r : Fin 2048) (x : Fin 512), V m c main_arg1 (ix2 r x) = g x r

/-- The two blocks the body reads at a point. -/
abbrev blkA (t : Fin cfg0.N) : Vec Ideal S768x512 .f32 := iblk m c 0 t
abbrev blkB (t : Fin cfg0.N) : Vec Ideal S2048x512 .bf16 := iblk m c 1 t

variable {m c} {f g : ℕ → ℕ → EReal} (G : Given m c f g) (t : Fin cfg0.N)

include G

theorem blk0 (y : Fin 768) (x : Fin 512) : iblk m c 0 t (ix2 y x) = f (t.val * 768 + y) (0 * 512 + x) := by
  unfold iblk
  rw [View.read_apply]
  refine at2 G.hf _ ?_ ?_
  · exact (win0_0.rect_emb_val t _ 0).trans (congrArg (· * 768 + y.val) (idx0 t).1)
  · exact (win0_0.rect_emb_val t _ 1).trans (congrArg (· * 512 + x.val) (idx0 t).2)

theorem blk1 (y : Fin 2048) (x : Fin 512) : iblk m c 1 t (ix2 y x) = g (0 * 512 + x) (0 * 2048 + y) := by
  unfold iblk
  rw [View.read_apply]
  refine at2 (f := fun r x => g x r) G.hg _ ?_ ?_
  · exact (win0_1.rect_emb_val t _ 0).trans (congrArg (· * 2048 + y.val) (idx1 t).1)
  · exact (win0_1.rect_emb_val t _ 1).trans (congrArg (· * 512 + x.val) (idx1 t).2)

omit G

/-! ### A stored value at an element -/

section
variable (X : Vec Ideal S768x512 .f32) (Y : Vec Ideal S2048x512 .bf16) (r : Fin 768) (j : Fin 2048)

theorem pay1_at : k0_pay1 X Y (ix2 r j) = ∑ a : Fin 512, X (ix2 r a) * Y (ix2 j a) := by pointwise [k0_pay1]

end

/-- One point's block. -/
theorem out_eq (X : Vec Ideal S768x512 .f32) (Y : Vec Ideal S2048x512 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 768) (j : Fin 2048) (a : Fin 512) :
    blkA m c t (ix2 r a) * blkB m c t (ix2 j a) = f (t.val * 768 + r) (0 * 512 + a) * g (0 * 512 + a) (0 * 2048 + j) :=
  congrArg₂ (· * ·) (blk0 G t r a) (blk1 G t j a)

include G in
/-- One block of the result, an element at a time. -/
theorem last (r : Fin 768) (j : Fin 2048) :
    out0_2 (iblk m c 0 t) (iblk m c 1 t) (ix2 r j) = mm f g 512 (t.val * 768 + r) (0 * 2048 + j) := by
  rw [out_eq]
  refine (pay1_at (blkA m c t) (blkB m c t) r j).trans (mm_fin fun a => ?_)
  refine (terms G t r j a).trans ?_
  rw [show 0 * 512 + a.val = a.val by omega]

/-- The result, as contents. -/
abbrev res (f g : ℕ → ℕ → EReal) : S8448x2048.Idx → EReal := fun i => mm f g 512 (i 0).val (i 1).val

include G in
theorem flushed_eq (hf : (cfg0.win 2).flush t = true) :
    (dats m 0 c).flushed 2 t = ((cfg0.win 2).blk t).view.read (Elt Ideal) (res f g) := by
  rw [Cert.KeyDaIdeal.Value.flushed2 m c t]
  funext y
  rw [View.read_apply]
  refine (at2 (f := fun r j => mm f g 512 (t.val * 768 + r) (0 * 2048 + j)) (last G t) _ rfl rfl).trans (mm_congr rfl ?_ ?_)
  · exact ((win0_2.rect_emb_val t y 0).trans (congrArg (· * 768 + (y 0).val) (idx2 t).1)).symm
  · exact ((win0_2.rect_emb_val t y 1).trans (congrArg (· * 2048 + (y 1).val) (idx2 t).2)).symm

include G in
/-- Every element of the result at the end. -/
theorem final (r : Fin 8448) (j : Fin 2048) : (dats m 0 c).arrAt 2 cfg0.N (ix2 r j) = mm f g 512 r j := by
  have hj := j.isLt
  have hr := r.isLt
  have hn : r.val / 768 < cfg0.N := by rw [show cfg0.N = 11 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 768 ≤ r.val ∧ r.val < win0_2.index ⟨_, hn⟩ 0 * 768 + win0_2.xsize (grid0.coords ⟨_, hn⟩) 0
    rw [i0, s0]; dsimp only; omega
  | ⟨1, _⟩ =>
    show win0_2.index ⟨_, hn⟩ 1 * 2048 ≤ j.val ∧ j.val < win0_2.index ⟨_, hn⟩ 1 * 2048 + win0_2.xsize (grid0.coords ⟨_, hn⟩) 1
    rw [i1, s1]; omega

end Kernel

/-! ### The arguments, the reference, and the claims -/

/-- The first argument as a table, by the result's rows and the contracted axis. -/
abbrev left (x0 : (⟨S8448x512, .f32⟩ : BufTy).Contents (Elt Ideal)) : ℕ → ℕ → EReal := tab (R := 8448) (C := 512) x0
/-- The second, by the contracted axis and the result's columns. -/
abbrev right (x1 : (⟨S2048x512, .bf16⟩ : BufTy).Contents (Elt Ideal)) : ℕ → ℕ → EReal := fun x j => tab (R := 2048) (C := 512) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x512, .f32⟩ : BufTy).Contents (Elt Ideal)) (x1 : (⟨S2048x512, .bf16⟩ : BufTy).Contents (Elt Ideal))
    (r : Fin 8448) (j : Fin 2048) : Cert.KeyDaReferenceIdeal.Read.val_main_v4 (F := Ideal) x0 x1 (ix2 r j) = mm (left x0) (right x1) 512 r j := by
  refine (Cert.KeyDaReferenceIdeal.Read.val_main_v3_apply x0 x1 _).trans (mm_fin fun a => ?_)
  exact congrArg₂ (· * ·) (tab_at (R := 8448) (C := 512) x0 _ rfl rfl) (tab_at (R := 2048) (C := 512) x1 _ rfl rfl)

theorem frame_p : Cert.quiescent_KeyDa := fun m ρ _ => Cert.KeyDa.Gen.frame m ρ
theorem frame_pi : Cert.quiescent_KeyDaIdeal := fun m ρ _ => Cert.KeyDaIdeal.Gen.frame m ρ
theorem frame_ri : Cert.quiescent_KeyDaReferenceIdeal := fun m ρ _ =>
  (θ_run Cert.KeyDaReferenceIdeal.defs _ _).mono (fun r h => ⟨fun c => (h c).2, Idealize.ShloMosaic.sem_eq_zero_of_no_sems (by decide) r.2⟩)
    (Cert.KeyDaReferenceIdeal.Value.run (F := Ideal) m ρ)

theorem preserves : Cert.preserves_KeyDa_KeyDaIdeal := trivial

theorem algebraic : Cert.algebraic_KeyDaIdeal_KeyDaReferenceIdeal := by
  intro m g m' g' _ ha
  refine ⟨fun c => (dats m 0 c).arrAt 2 cfg0.N, Cert.KeyDaIdeal.Value.run_blocks m g, ?_⟩
  refine (θ_run Cert.KeyDaReferenceIdeal.defs _ _).mono (fun r h c => ?_) (Cert.KeyDaReferenceIdeal.Value.run (F := Ideal) m' g')
  obtain ⟨e0, ek⟩ := h c
  obtain ⟨u0, u1⟩ := ha c
  refine ⟨?_, ek⟩
  rw [e0, Cert.KeyDaReferenceIdeal.Read.val_main_v4_eq, u0, u1]
  funext i
  rw [eq_ix2 i]
  exact (ref_at _ _ _ _).trans (final (given m c) _ _).symm

end Cert.KeyDaClaims

end
-- ==== Proof.KeyDwClaims.lean ====
/-
  What the call of the gradient of the keys' product in its weight computes, over the extended reals: the whole product, each block of the result
  as a sum over stretches of the contracted axis; and the claims of the call and its reference.
-/
module

public import proofs.«01_k».proof.Defs
public import proofs.«01_k».proof.Proof.Gen.KeyDw.Frame
public import proofs.«01_k».proof.Proof.Gen.KeyDwIdeal.Frame
public import proofs.«01_k».proof.Proof.Gen.KeyDwIdeal.Value
public import proofs.«01_k».proof.Proof.Gen.KeyDwReferenceIdeal.Run
public import proofs.«01_k».proof.Proof.Gen.KeyDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.KeyDwClaims

open Idealize.ShloMosaic Idealize.ShloMosaic.TcCoe Idealize.ShloMosaic.Tactic Idealize.SL.Sem Cert.KeyDwIdeal Cert.KeyDwIdeal.Gen Cert.Product
open scoped BigOperators

/-! ### Which block each window is on, over the grid -/

theorem idx0 : ∀ t : Fin grid0.N, win0_0.index t 0 = t.val / 6 ∧ win0_0.index t 1 = t.val % 6 := by decide +kernel
theorem idx1 : ∀ t : Fin grid0.N, win0_1.index t 0 = t.val % 6 ∧ win0_1.index t 1 = 0 := by decide +kernel
theorem idx2 : ∀ t : Fin grid0.N, win0_2.index t 0 = t.val / 6 ∧ win0_2.index t 1 = 0 := by decide +kernel
theorem xs2 : ∀ t : Fin grid0.N, win0_2.xsize (grid0.coords t) 0 = 2048 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 2048) (x : Fin 8448), V m c main_v0 (ix2 r x) = f r x
  hg : ∀ (r : Fin 8448) (x : Fin 512), V m c main_arg1 (ix2 r x) = g r x

/-- The two blocks the body reads at a point. -/
abbrev blkA (t : Fin cfg0.N) : Vec Ideal S2048x1408 .bf16 := iblk m c 0 t
abbrev blkB (t : Fin cfg0.N) : Vec Ideal S1408x512 .f32 := iblk m c 1 t

variable {m c} {f g : ℕ → ℕ → EReal} (G : Given m c f g) (t : Fin cfg0.N)

include G

theorem blk0 (y : Fin 2048) (x : Fin 1408) : iblk m c 0 t (ix2 y x) = f ((t.val / 6) * 2048 + y) ((t.val % 6) * 1408 + x) := by
  unfold iblk
  rw [View.read_apply]
  refine at2 G.hf _ ?_ ?_
  · exact (win0_0.rect_emb_val t _ 0).trans (congrArg (· * 2048 + y.val) (idx0 t).1)
  · exact (win0_0.rect_emb_val t _ 1).trans (congrArg (· * 1408 + x.val) (idx0 t).2)

theorem blk1 (y : Fin 1408) (x : Fin 512) : iblk m c 1 t (ix2 y x) = g ((t.val % 6) * 1408 + y) (0 * 512 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 512 + x.val) (idx1 t).2)

omit G

/-! ### A stored value at an element -/

section
variable (X : Vec Ideal S2048x1408 .bf16) (Y : Vec Ideal S1408x512 .f32) (r : Fin 2048) (j : Fin 512)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S2048x512 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S2048x512 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by have := lt_of_lt_of_eq t.isLt (show cfg0.N = 6 from N_0); omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 2048) (j : Fin 512), (outsAt0 m c t.val t.isLt).2 (ix2 r j) = mm f g ((t.val % 6 + 1) * 1408) ((t.val / 6) * 2048 + r) (0 * 512 + j)

/-- The point before, as a point. -/
abbrev before : Fin cfg0.N := ⟨t.val - 1, Nat.lt_of_le_of_lt (Nat.sub_le _ _) t.isLt⟩

include G in
theorem terms (r : Fin 2048) (j : Fin 512) (a : Fin 1408) :
    blkA m c t (ix2 r a) * blkB m c t (ix2 a j) = f ((t.val / 6) * 2048 + r) ((t.val % 6) * 1408 + a) * g ((t.val % 6) * 1408 + a) (0 * 512 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 6) * 2048 + r) (0 * 512 + j) := by
      refine (I h0 r j).trans (mm_congr ?_ ?_ ?_)
      · show ((t.val - 1) % 6 + 1) * 1408 = t.val % 6 * 1408
        omega
      · show (t.val - 1) / 6 * 2048 + r.val = t.val / 6 * 2048 + r.val
        omega
      · show 0 * 512 + j.val = 0 * 512 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 2048) (j : Fin 512) :
    (outsAt0 m c t.val t.isLt).1 (ix2 r j) = mm f g 8448 ((t.val / 6) * 2048 + r) (0 * 512 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S2048x512.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.KeyDwIdeal.Value.flushed2 m c t]
  funext y
  rw [View.read_apply]
  refine (at2 (f := fun r j => mm f g 8448 ((t.val / 6) * 2048 + r) (0 * 512 + j)) (last G t h) _ rfl rfl).trans (mm_congr rfl ?_ ?_)
  · exact ((win0_2.rect_emb_val t y 0).trans (congrArg (· * 2048 + (y 0).val) (idx2 t).1)).symm
  · exact ((win0_2.rect_emb_val t y 1).trans (congrArg (· * 512 + (y 1).val) (idx2 t).2)).symm

include G in
/-- Every element of the result at the end. -/
theorem final (r : Fin 2048) (j : Fin 512) : (dats m 0 c).arrAt 2 cfg0.N (ix2 r j) = mm f g 8448 r j := by
  have hj := j.isLt
  have hr := r.isLt
  have hn : r.val / 2048 * 6 + 5 < cfg0.N := by rw [show cfg0.N = 6 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 2048 ≤ r.val ∧ r.val < win0_2.index ⟨_, hn⟩ 0 * 2048 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; omega

end Kernel

/-! ### The arguments, the reference, and the claims -/

/-- The first array the call is given: the argument's transpose. -/
def h_v0 (x0 : (⟨S8448x2048, .bf16⟩ : BufTy).Contents (Elt Ideal)) : (⟨S2048x8448, .bf16⟩ : BufTy).Contents (Elt Ideal) :=
  (transpose S2048x8448 [1, 0] · transposes_S8448x2048_S2048x8448_1_0) x0
theorem v0_at (x0 : (⟨S8448x2048, .bf16⟩ : BufTy).Contents (Elt Ideal)) (r : Fin 2048) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x2048, .bf16⟩ : BufTy).Contents (Elt Ideal)) : ℕ → ℕ → EReal := fun r x => tab (R := 8448) (C := 2048) x0 x r
/-- The second, by the contracted axis and the result's columns. -/
abbrev right (x1 : (⟨S8448x512, .f32⟩ : BufTy).Contents (Elt Ideal)) : ℕ → ℕ → EReal := tab (R := 8448) (C := 512) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x2048, .bf16⟩ : BufTy).Contents (Elt Ideal)) (x1 : (⟨S8448x512, .f32⟩ : BufTy).Contents (Elt Ideal))
    (r : Fin 2048) (j : Fin 512) : Cert.KeyDwReferenceIdeal.Read.val_main_v5 (F := Ideal) x0 x1 (ix2 r j) = mm (left x0) (right x1) 8448 r j := by
  refine (Cert.KeyDwReferenceIdeal.Read.val_main_v4_apply (F := Ideal) x0 x1 _).trans ?_
  refine (Cert.KeyDwReferenceIdeal.Read.val_main_v3_apply x0 x1 _).trans (mm_fin fun a => ?_)
  exact (mul_comm _ _).trans (congrArg₂ (· * ·) (tab_at (R := 8448) (C := 2048) x0 _ rfl rfl) (tab_at (R := 8448) (C := 512) x1 _ rfl rfl))

theorem frame_p : Cert.quiescent_KeyDw := fun m ρ _ => Cert.KeyDw.Gen.frame m ρ
theorem frame_pi : Cert.quiescent_KeyDwIdeal := fun m ρ _ => Cert.KeyDwIdeal.Gen.frame m ρ
theorem frame_ri : Cert.quiescent_KeyDwReferenceIdeal := fun m ρ _ =>
  (θ_run Cert.KeyDwReferenceIdeal.defs _ _).mono (fun r h => ⟨fun c => (h c).2, Idealize.ShloMosaic.sem_eq_zero_of_no_sems (by decide) r.2⟩)
    (Cert.KeyDwReferenceIdeal.Value.run (F := Ideal) m ρ)

theorem preserves : Cert.preserves_KeyDw_KeyDwIdeal := trivial

theorem algebraic : Cert.algebraic_KeyDwIdeal_KeyDwReferenceIdeal := by
  intro m g m' g' _ ha
  refine ⟨fun c => (dats m 0 c).arrAt 2 cfg0.N, Cert.KeyDwIdeal.Value.run_blocks m g, ?_⟩
  refine (θ_run Cert.KeyDwReferenceIdeal.defs _ _).mono (fun r h c => ?_) (Cert.KeyDwReferenceIdeal.Value.run (F := Ideal) m' g')
  obtain ⟨e0, ek⟩ := h c
  obtain ⟨u0, u1⟩ := ha c
  refine ⟨?_, ek⟩
  rw [e0, Cert.KeyDwReferenceIdeal.Read.val_main_v5_eq, u0, u1]
  funext i
  rw [eq_ix2 i]
  exact (ref_at _ _ _ _).trans (final (given m c) _ _).symm

end Cert.KeyDwClaims

end
-- ==== Proof.RankClaims.lean ====
/-
  What the call of the product that raises a compressed row of the latent attention computes, over the extended reals: the whole product, each block of the result
  as a sum over stretches of the contracted axis; and the claims of the call and its reference.
-/
module

public import proofs.«01_k».proof.Defs
public import proofs.«01_k».proof.Proof.Gen.Rank.Frame
public import proofs.«01_k».proof.Proof.Gen.RankIdeal.Frame
public import proofs.«01_k».proof.Proof.Gen.RankIdeal.Value
public import proofs.«01_k».proof.Proof.Gen.RankReferenceIdeal.Run
public import proofs.«01_k».proof.Proof.Gen.RankReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.RankClaims

open Idealize.ShloMosaic Idealize.ShloMosaic.TcCoe Idealize.ShloMosaic.Tactic Idealize.SL.Sem Cert.RankIdeal Cert.RankIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 768 ∧ win0_2.xsize (grid0.coords t) 1 = 2048 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 512), V m c main_arg0 (ix2 r x) = f r x
  hg : ∀ (r : Fin 512) (x : Fin 2048), V m c main_arg1 (ix2 r x) = g r x

/-- The two blocks the body reads at a point. -/
abbrev blkA (t : Fin cfg0.N) : Vec Ideal S768x512 .bf16 := iblk m c 0 t
abbrev blkB (t : Fin cfg0.N) : Vec Ideal S512x2048 .bf16 := iblk m c 1 t

variable {m c} {f g : ℕ → ℕ → EReal} (G : Given m c f g) (t : Fin cfg0.N)

include G

theorem blk0 (y : Fin 768) (x : Fin 512) : iblk m c 0 t (ix2 y x) = f (t.val * 768 + y) (0 * 512 + x) := by
  unfold iblk
  rw [View.read_apply]
  refine at2 G.hf _ ?_ ?_
  · exact (win0_0.rect_emb_val t _ 0).trans (congrArg (· * 768 + y.val) (idx0 t).1)
  · exact (win0_0.rect_emb_val t _ 1).trans (congrArg (· * 512 + x.val) (idx0 t).2)

theorem blk1 (y : Fin 512) (x : Fin 2048) : iblk m c 1 t (ix2 y x) = g (0 * 512 + y) (0 * 2048 + x) := by
  unfold iblk
  rw [View.read_apply]
  refine at2 (f := fun r x => g r x) G.hg _ ?_ ?_
  · exact (win0_1.rect_emb_val t _ 0).trans (congrArg (· * 512 + y.val) (idx1 t).1)
  · exact (win0_1.rect_emb_val t _ 1).trans (congrArg (· * 2048 + x.val) (idx1 t).2)

omit G

/-! ### A stored value at an element -/

section
variable (X : Vec Ideal S768x512 .bf16) (Y : Vec Ideal S512x2048 .bf16) (r : Fin 768) (j : Fin 2048)

theorem pay1_at : k0_pay1 X Y (ix2 r j) = ∑ a : Fin 512, X (ix2 r a) * Y (ix2 a j) := by pointwise [k0_pay1]

end

/-- One point's block. -/
theorem out_eq (X : Vec Ideal S768x512 .bf16) (Y : Vec Ideal S512x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 768) (j : Fin 2048) (a : Fin 512) :
    blkA m c t (ix2 r a) * blkB m c t (ix2 a j) = f (t.val * 768 + r) (0 * 512 + a) * g (0 * 512 + a) (0 * 2048 + j) :=
  congrArg₂ (· * ·) (blk0 G t r a) (blk1 G t a j)

include G in
/-- One block of the result, an element at a time. -/
theorem last (r : Fin 768) (j : Fin 2048) :
    out0_2 (iblk m c 0 t) (iblk m c 1 t) (ix2 r j) = mm f g 512 (t.val * 768 + r) (0 * 2048 + j) := by
  rw [out_eq]
  refine (pay1_at (blkA m c t) (blkB m c t) r j).trans (mm_fin fun a => ?_)
  refine (terms G t r j a).trans ?_
  rw [show 0 * 512 + a.val = a.val by omega]

/-- The result, as contents. -/
abbrev res (f g : ℕ → ℕ → EReal) : S8448x2048.Idx → EReal := fun i => mm f g 512 (i 0).val (i 1).val

include G in
theorem flushed_eq (hf : (cfg0.win 2).flush t = true) :
    (dats m 0 c).flushed 2 t = ((cfg0.win 2).blk t).view.read (Elt Ideal) (res f g) := by
  rw [Cert.RankIdeal.Value.flushed2 m c t]
  funext y
  rw [View.read_apply]
  refine (at2 (f := fun r j => mm f g 512 (t.val * 768 + r) (0 * 2048 + j)) (last G t) _ rfl rfl).trans (mm_congr rfl ?_ ?_)
  · exact ((win0_2.rect_emb_val t y 0).trans (congrArg (· * 768 + (y 0).val) (idx2 t).1)).symm
  · exact ((win0_2.rect_emb_val t y 1).trans (congrArg (· * 2048 + (y 1).val) (idx2 t).2)).symm

include G in
/-- Every element of the result at the end. -/
theorem final (r : Fin 8448) (j : Fin 2048) : (dats m 0 c).arrAt 2 cfg0.N (ix2 r j) = mm f g 512 r j := by
  have hj := j.isLt
  have hr := r.isLt
  have hn : r.val / 768 < cfg0.N := by rw [show cfg0.N = 11 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 768 ≤ r.val ∧ r.val < win0_2.index ⟨_, hn⟩ 0 * 768 + win0_2.xsize (grid0.coords ⟨_, hn⟩) 0
    rw [i0, s0]; dsimp only; omega
  | ⟨1, _⟩ =>
    show win0_2.index ⟨_, hn⟩ 1 * 2048 ≤ j.val ∧ j.val < win0_2.index ⟨_, hn⟩ 1 * 2048 + win0_2.xsize (grid0.coords ⟨_, hn⟩) 1
    rw [i1, s1]; omega

end Kernel

/-! ### The arguments, the reference, and the claims -/

/-- The first argument as a table, by the result's rows and the contracted axis. -/
abbrev left (x0 : (⟨S8448x512, .bf16⟩ : BufTy).Contents (Elt Ideal)) : ℕ → ℕ → EReal := tab (R := 8448) (C := 512) x0
/-- The second, by the contracted axis and the result's columns. -/
abbrev right (x1 : (⟨S512x2048, .bf16⟩ : BufTy).Contents (Elt Ideal)) : ℕ → ℕ → EReal := tab (R := 512) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x512, .bf16⟩ : BufTy).Contents (Elt Ideal)) (x1 : (⟨S512x2048, .bf16⟩ : BufTy).Contents (Elt Ideal))
    (r : Fin 8448) (j : Fin 2048) : Cert.RankReferenceIdeal.Read.val_main_v2 (F := Ideal) x0 x1 (ix2 r j) = mm (left x0) (right x1) 512 r j := by
  refine (Cert.RankReferenceIdeal.Read.val_main_v2_apply x0 x1 _).trans (mm_fin fun a => ?_)
  exact congrArg₂ (· * ·) (tab_at (R := 8448) (C := 512) x0 _ rfl rfl) (tab_at (R := 512) (C := 2048) x1 _ rfl rfl)

theorem frame_p : Cert.quiescent_Rank := fun m ρ _ => Cert.Rank.Gen.frame m ρ
theorem frame_pi : Cert.quiescent_RankIdeal := fun m ρ _ => Cert.RankIdeal.Gen.frame m ρ
theorem frame_ri : Cert.quiescent_RankReferenceIdeal := fun m ρ _ =>
  (θ_run Cert.RankReferenceIdeal.defs _ _).mono (fun r h => ⟨fun c => (h c).2, Idealize.ShloMosaic.sem_eq_zero_of_no_sems (by decide) r.2⟩)
    (Cert.RankReferenceIdeal.Value.run (F := Ideal) m ρ)

theorem preserves : Cert.preserves_Rank_RankIdeal := trivial

theorem algebraic : Cert.algebraic_RankIdeal_RankReferenceIdeal := by
  intro m g m' g' _ ha
  refine ⟨fun c => (dats m 0 c).arrAt 2 cfg0.N, Cert.RankIdeal.Value.run_blocks m g, ?_⟩
  refine (θ_run Cert.RankReferenceIdeal.defs _ _).mono (fun r h c => ?_) (Cert.RankReferenceIdeal.Value.run (F := Ideal) m' g')
  obtain ⟨e0, ek⟩ := h c
  obtain ⟨u0, u1⟩ := ha c
  refine ⟨?_, ek⟩
  rw [e0, Cert.RankReferenceIdeal.Read.val_main_v2_eq, u0, u1]
  funext i
  rw [eq_ix2 i]
  exact (ref_at _ _ _ _).trans (final (given m c) _ _).symm

end Cert.RankClaims

end
-- ==== Proof.RankDaClaims.lean ====
/-
  What the call of the gradient of the raising product in its rows computes, over the extended reals: the whole product, each block of the result
  as a sum over stretches of the contracted axis; and the claims of the call and its reference.
-/
module

public import proofs.«01_k».proof.Defs
public import proofs.«01_k».proof.Proof.Gen.RankDa.Frame
public import proofs.«01_k».proof.Proof.Gen.RankDaIdeal.Frame
public import proofs.«01_k».proof.Proof.Gen.RankDaIdeal.Value
public import proofs.«01_k».proof.Proof.Gen.RankDaReferenceIdeal.Run
public import proofs.«01_k».proof.Proof.Gen.RankDaReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.RankDaClaims

open Idealize.ShloMosaic Idealize.ShloMosaic.TcCoe Idealize.ShloMosaic.Tactic Idealize.SL.Sem Cert.RankDaIdeal Cert.RankDaIdeal.Gen Cert.Product
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem xs2 : ∀ t : Fin grid0.N, win0_2.xsize (grid0.coords t) 0 = 1408 ∧ win0_2.xsize (grid0.coords t) 1 = 512 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 8448) (x : Fin 2048), V m c main_arg0 (ix2 r x) = f r x
  hg : ∀ (r : Fin 512) (x : Fin 2048), V m c main_arg1 (ix2 r x) = g x r

/-- The two blocks the body reads at a point. -/
abbrev blkA (t : Fin cfg0.N) : Vec Ideal S1408x2048 .f32 := iblk m c 0 t
abbrev blkB (t : Fin cfg0.N) : Vec Ideal S512x2048 .bf16 := iblk m c 1 t

variable {m c} {f g : ℕ → ℕ → EReal} (G : Given m c f g) (t : Fin cfg0.N)

include G

theorem blk0 (y : Fin 1408) (x : Fin 2048) : iblk m c 0 t (ix2 y x) = f (t.val * 1408 + y) (0 * 2048 + x) := by
  unfold iblk
  rw [View.read_apply]
  refine at2 G.hf _ ?_ ?_
  · exact (win0_0.rect_emb_val t _ 0).trans (congrArg (· * 1408 + y.val) (idx0 t).1)
  · exact (win0_0.rect_emb_val t _ 1).trans (congrArg (· * 2048 + x.val) (idx0 t).2)

theorem blk1 (y : Fin 512) (x : Fin 2048) : iblk m c 1 t (ix2 y x) = g (0 * 2048 + x) (0 * 512 + y) := by
  unfold iblk
  rw [View.read_apply]
  refine at2 (f := fun r x => g x r) G.hg _ ?_ ?_
  · exact (win0_1.rect_emb_val t _ 0).trans (congrArg (· * 512 + y.val) (idx1 t).1)
  · exact (win0_1.rect_emb_val t _ 1).trans (congrArg (· * 2048 + x.val) (idx1 t).2)

omit G

/-! ### A stored value at an element -/

section
variable (X : Vec Ideal S1408x2048 .f32) (Y : Vec Ideal S512x2048 .bf16) (r : Fin 1408) (j : Fin 512)

theorem pay1_at : k0_pay1 X Y (ix2 r j) = ∑ a : Fin 2048, X (ix2 r a) * Y (ix2 j a) := by pointwise [k0_pay1]

end

/-- One point's block. -/
theorem out_eq (X : Vec Ideal S1408x2048 .f32) (Y : Vec Ideal S512x2048 .bf16) : out0_2 X Y = k0_pay1 X Y := by
  unfold out0_2
  rw [View.ld_unit_lit _ X (by decide), View.ld_unit_lit _ Y (by decide)]
  exact View.canon_cons_unit_lit _ _ _ (by decide)

include G in
theorem terms (r : Fin 1408) (j : Fin 512) (a : Fin 2048) :
    blkA m c t (ix2 r a) * blkB m c t (ix2 j a) = f (t.val * 1408 + r) (0 * 2048 + a) * g (0 * 2048 + a) (0 * 512 + j) :=
  congrArg₂ (· * ·) (blk0 G t r a) (blk1 G t j a)

include G in
/-- One block of the result, an element at a time. -/
theorem last (r : Fin 1408) (j : Fin 512) :
    out0_2 (iblk m c 0 t) (iblk m c 1 t) (ix2 r j) = mm f g 2048 (t.val * 1408 + r) (0 * 512 + j) := by
  rw [out_eq]
  refine (pay1_at (blkA m c t) (blkB m c t) r j).trans (mm_fin fun a => ?_)
  refine (terms G t r j a).trans ?_
  rw [show 0 * 2048 + a.val = a.val by omega]

/-- The result, as contents. -/
abbrev res (f g : ℕ → ℕ → EReal) : S8448x512.Idx → EReal := fun i => mm f g 2048 (i 0).val (i 1).val

include G in
theorem flushed_eq (hf : (cfg0.win 2).flush t = true) :
    (dats m 0 c).flushed 2 t = ((cfg0.win 2).blk t).view.read (Elt Ideal) (res f g) := by
  rw [Cert.RankDaIdeal.Value.flushed2 m c t]
  funext y
  rw [View.read_apply]
  refine (at2 (f := fun r j => mm f g 2048 (t.val * 1408 + r) (0 * 512 + j)) (last G t) _ rfl rfl).trans (mm_congr rfl ?_ ?_)
  · exact ((win0_2.rect_emb_val t y 0).trans (congrArg (· * 1408 + (y 0).val) (idx2 t).1)).symm
  · exact ((win0_2.rect_emb_val t y 1).trans (congrArg (· * 512 + (y 1).val) (idx2 t).2)).symm

include G in
/-- Every element of the result at the end. -/
theorem final (r : Fin 8448) (j : Fin 512) : (dats m 0 c).arrAt 2 cfg0.N (ix2 r j) = mm f g 2048 r j := by
  have hj := j.isLt
  have hr := r.isLt
  have hn : r.val / 1408 < cfg0.N := by rw [show cfg0.N = 6 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 1408 ≤ r.val ∧ r.val < win0_2.index ⟨_, hn⟩ 0 * 1408 + win0_2.xsize (grid0.coords ⟨_, hn⟩) 0
    rw [i0, s0]; dsimp only; omega
  | ⟨1, _⟩ =>
    show win0_2.index ⟨_, hn⟩ 1 * 512 ≤ j.val ∧ j.val < win0_2.index ⟨_, hn⟩ 1 * 512 + win0_2.xsize (grid0.coords ⟨_, hn⟩) 1
    rw [i1, s1]; omega

end Kernel

/-! ### The arguments, the reference, and the claims -/

/-- The first argument as a table, by the result's rows and the contracted axis. -/
abbrev left (x0 : (⟨S8448x2048, .f32⟩ : BufTy).Contents (Elt Ideal)) : ℕ → ℕ → EReal := tab (R := 8448) (C := 2048) x0
/-- The second, by the contracted axis and the result's columns. -/
abbrev right (x1 : (⟨S512x2048, .bf16⟩ : BufTy).Contents (Elt Ideal)) : ℕ → ℕ → EReal := fun x j => tab (R := 512) (C := 2048) x1 j x

theorem given (m : (ℓ : Loc nD τ sig) → Buf (Elt Ideal) ℓ) (c : Dev nD) :
    Given m c (left (m ((c : Thread nD τ).loc main_arg0))) (right (m ((c : Thread nD τ).loc main_arg1))) where
  hf r x := (congrFun (V_main_arg0 m c) _).trans (tab_ix _ r x)
  hg r x := (congrFun (V_main_arg1 m c) _).trans (tab_ix _ r x)

/-- An element of the reference's result. -/
theorem ref_at (x0 : (⟨S8448x2048, .f32⟩ : BufTy).Contents (Elt Ideal)) (x1 : (⟨S512x2048, .bf16⟩ : BufTy).Contents (Elt Ideal))
    (r : Fin 8448) (j : Fin 512) : Cert.RankDaReferenceIdeal.Read.val_main_v4 (F := Ideal) x0 x1 (ix2 r j) = mm (left x0) (right x1) 2048 r j := by
  refine (Cert.RankDaReferenceIdeal.Read.val_main_v3_apply x0 x1 _).trans (mm_fin fun a => ?_)
  exact congrArg₂ (· * ·) (tab_at (R := 8448) (C := 2048) x0 _ rfl rfl) (tab_at (R := 512) (C := 2048) x1 _ rfl rfl)

theorem frame_p : Cert.quiescent_RankDa := fun m ρ _ => Cert.RankDa.Gen.frame m ρ
theorem frame_pi : Cert.quiescent_RankDaIdeal := fun m ρ _ => Cert.RankDaIdeal.Gen.frame m ρ
theorem frame_ri : Cert.quiescent_RankDaReferenceIdeal := fun m ρ _ =>
  (θ_run Cert.RankDaReferenceIdeal.defs _ _).mono (fun r h => ⟨fun c => (h c).2, Idealize.ShloMosaic.sem_eq_zero_of_no_sems (by decide) r.2⟩)
    (Cert.RankDaReferenceIdeal.Value.run (F := Ideal) m ρ)

theorem preserves : Cert.preserves_RankDa_RankDaIdeal := trivial

theorem algebraic : Cert.algebraic_RankDaIdeal_RankDaReferenceIdeal := by
  intro m g m' g' _ ha
  refine ⟨fun c => (dats m 0 c).arrAt 2 cfg0.N, Cert.RankDaIdeal.Value.run_blocks m g, ?_⟩
  refine (θ_run Cert.RankDaReferenceIdeal.defs _ _).mono (fun r h c => ?_) (Cert.RankDaReferenceIdeal.Value.run (F := Ideal) m' g')
  obtain ⟨e0, ek⟩ := h c
  obtain ⟨u0, u1⟩ := ha c
  refine ⟨?_, ek⟩
  rw [e0, Cert.RankDaReferenceIdeal.Read.val_main_v4_eq, u0, u1]
  funext i
  rw [eq_ix2 i]
  exact (ref_at _ _ _ _).trans (final (given m c) _ _).symm

end Cert.RankDaClaims

end
-- ==== Proof.RankDwClaims.lean ====
/-
  What the call of the gradient of the raising product in its weight computes, over the extended reals: the whole product, each block of the result
  as a sum over stretches of the contracted axis; and the claims of the call and its reference.
-/
module

public import proofs.«01_k».proof.Defs
public import proofs.«01_k».proof.Proof.Gen.RankDw.Frame
public import proofs.«01_k».proof.Proof.Gen.RankDwIdeal.Frame
public import proofs.«01_k».proof.Proof.Gen.RankDwIdeal.Value
public import proofs.«01_k».proof.Proof.Gen.RankDwReferenceIdeal.Run
public import proofs.«01_k».proof.Proof.Gen.RankDwReferenceIdeal.Read
public import proofs.«01_k».proof.Proof.Product
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.RankDwClaims

open Idealize.ShloMosaic Idealize.ShloMosaic.TcCoe Idealize.ShloMosaic.Tactic Idealize.SL.Sem Cert.RankDwIdeal Cert.RankDwIdeal.Gen Cert.Product
open scoped BigOperators

/-! ### Which block each window is on, over the grid -/

theorem idx0 : ∀ t : Fin grid0.N, win0_0.index t 0 = t.val / 12 ∧ win0_0.index t 1 = t.val % 6 := by decide +kernel
theorem idx1 : ∀ t : Fin grid0.N, win0_1.index t 0 = t.val % 6 ∧ win0_1.index t 1 = t.val / 6 % 2 := by decide +kernel
theorem idx2 : ∀ t : Fin grid0.N, win0_2.index t 0 = t.val / 12 ∧ win0_2.index t 1 = t.val / 6 % 2 := by decide +kernel
theorem xs2 : ∀ t : Fin grid0.N, win0_2.xsize (grid0.coords t) 0 = 512 ∧ win0_2.xsize (grid0.coords t) 1 = 1024 := by decide +kernel

section Kernel

variable (m : (ℓ : Loc nD τ sig) → Buf (Elt Ideal) ℓ) (c : Dev nD)

/-- The two arrays the call is given, as tables: the first by rows and contracted axis, the second by contracted axis and columns. -/
structure Given (f g : ℕ → ℕ → EReal) : Prop where
  hf : ∀ (r : Fin 512) (x : Fin 8448), V m c main_v0 (ix2 r x) = f r x
  hg : ∀ (r : Fin 8448) (x : Fin 2048), V m c main_arg1 (ix2 r x) = g r x

/-- The two blocks the body reads at a point. -/
abbrev blkA (t : Fin cfg0.N) : Vec Ideal S512x1408 .bf16 := iblk m c 0 t
abbrev blkB (t : Fin cfg0.N) : Vec Ideal S1408x1024 .f32 := iblk m c 1 t

variable {m c} {f g : ℕ → ℕ → EReal} (G : Given m c f g) (t : Fin cfg0.N)

include G

theorem blk0 (y : Fin 512) (x : Fin 1408) : iblk m c 0 t (ix2 y x) = f ((t.val / 12) * 512 + y) ((t.val % 6) * 1408 + x) := by
  unfold iblk
  rw [View.read_apply]
  refine at2 G.hf _ ?_ ?_
  · exact (win0_0.rect_emb_val t _ 0).trans (congrArg (· * 512 + y.val) (idx0 t).1)
  · exact (win0_0.rect_emb_val t _ 1).trans (congrArg (· * 1408 + x.val) (idx0 t).2)

theorem blk1 (y : Fin 1408) (x : Fin 1024) : iblk m c 1 t (ix2 y x) = g ((t.val % 6) * 1408 + y) ((t.val / 6 % 2) * 1024 + x) := by
  unfold iblk
  rw [View.read_apply]
  refine at2 (f := fun r x => g r x) G.hg _ ?_ ?_
  · exact (win0_1.rect_emb_val t _ 0).trans (congrArg (· * 1408 + y.val) (idx1 t).1)
  · exact (win0_1.rect_emb_val t _ 1).trans (congrArg (· * 1024 + x.val) (idx1 t).2)

omit G

/-! ### A stored value at an element -/

section
variable (X : Vec Ideal S512x1408 .bf16) (Y : Vec Ideal S1408x1024 .f32) (r : Fin 512) (j : Fin 1024)

theorem pay1_at : k0_pay1 X Y (ix2 r j) = ∑ a : Fin 1408, X (ix2 r a) * Y (ix2 a j) := by pointwise [k0_pay1]
theorem pay2_at : k0_pay2 X Y (ix2 r j) = ∑ a : Fin 1408, X (ix2 r a) * Y (ix2 a j) := by
  refine Eq.trans ?_ (pay1_at X Y r j)
  pointwise [k0_pay2]
theorem pay3_at (A : Vec Ideal S512x1024 .f32) : k0_pay3 X Y A (ix2 r j) = A (ix2 r j) + ∑ a : Fin 1408, X (ix2 r a) * Y (ix2 a j) := by
  refine Eq.trans ?_ (congrArg (A (ix2 r j) + ·) (pay1_at X Y r j))
  pointwise [k0_pay3]
theorem pay4_at (A : Vec Ideal S512x1024 .f32) : k0_pay4 A (ix2 r j) = A (ix2 r j) := by pointwise [k0_pay4]

end

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

end Memory

theorem pay2_congr {a a' b b'} (ha : a = a') (hb : b = b') : k0_pay2 (F := Ideal) a b = k0_pay2 a' b' := by subst ha hb; rfl
theorem pay3_congr {a a' b b' d d'} (ha : a = a') (hb : b = b') (hd : d = d') : k0_pay3 (F := Ideal) a b d = k0_pay3 a' b' d' := by subst ha hb hd; rfl

/-- The point before. -/
abbrev prev (m : (ℓ : Loc nD τ sig) → Buf (Elt Ideal) ℓ) (c : Dev nD) (t : Fin cfg0.N) := outsAt0 m c (t.val - 1) (Nat.lt_of_le_of_lt (Nat.sub_le _ _) t.isLt)

variable (m c)

theorem acc_A (h0 : t.val % 6 = 0) : (outsAt0 m c t.val t.isLt).2 = k0_pay2 (iblk m c 0 t) (iblk m c 1 t) := by
  rw [outsAt0_A m c t h0 (by omega) (by omega)]
  dsimp only
  unfold sout0_A_0
  unfold kernelRun0_A
  dsimp only
  sl_unfold_words
  exact (View.read_writes_full _ _ _ _ _).trans (pay2_congr (rd _ _ _ _) (rd _ _ _ _))

theorem acc_B (h0 : ¬t.val % 6 = 0) (h2 : ¬t.val % 6 = 5) :
    (outsAt0 m c t.val t.isLt).2 = k0_pay3 (iblk m c 0 t) (iblk m c 1 t) (prev m c t).2 := by
  rw [outsAt0_B m c t h0 (by omega) h2]
  dsimp only
  unfold sout0_B_0
  unfold kernelRun0_B
  dsimp only
  sl_unfold_words
  exact (View.read_writes_full _ _ _ _ _).trans (pay3_congr (rd _ _ _ _) (rd _ _ _ _) (rd _ _ _ _))

theorem acc_C (h0 : ¬t.val % 6 = 0) (h2 : t.val % 6 = 5) :
    (outsAt0 m c t.val t.isLt).2 = k0_pay3 (iblk m c 0 t) (iblk m c 1 t) (prev m c t).2 := by
  rw [outsAt0_C m c t h0 (by omega) h2]
  dsimp only
  unfold sout0_C_0
  unfold kernelRun0_C
  dsimp only
  sl_unfold_words
  exact (View.read_writes_full _ _ _ _ _).trans (pay3_congr (rd _ _ _ _) (rd _ _ _ _) (rd _ _ _ _))

/-- At the last stretch of the contracted axis the block is written out. -/
theorem out_C (h0 : ¬t.val % 6 = 0) (h2 : t.val % 6 = 5) :
    (outsAt0 m c t.val t.isLt).1 = k0_pay4 (outsAt0 m c t.val t.isLt).2 := by
  rw [acc_C m c t h0 h2, outsAt0_C m c t h0 (by omega) h2]
  dsimp only
  unfold out0_C_2
  unfold kernelRun0_C
  dsimp only
  sl_unfold_words
  exact (View.read_writes_full _ _ _ _ _).trans (congrArg _ ((View.readCov_full _ _ _ _ _).trans (pay3_congr (rd _ _ _ _) (rd _ _ _ _) (rd _ _ _ _))))

variable {m c}

/-- What the sum so far holds after point `t`. -/
def Inv (m : (ℓ : Loc nD τ sig) → Buf (Elt Ideal) ℓ) (c : Dev nD) (f g : ℕ → ℕ → EReal) (t : Fin cfg0.N) : Prop :=
  ∀ (r : Fin 512) (j : Fin 1024), (outsAt0 m c t.val t.isLt).2 (ix2 r j) = mm f g ((t.val % 6 + 1) * 1408) ((t.val / 12) * 512 + r) ((t.val / 6 % 2) * 1024 + j)

/-- The point before, as a point. -/
abbrev before : Fin cfg0.N := ⟨t.val - 1, Nat.lt_of_le_of_lt (Nat.sub_le _ _) t.isLt⟩

include G in
theorem terms (r : Fin 512) (j : Fin 1024) (a : Fin 1408) :
    blkA m c t (ix2 r a) * blkB m c t (ix2 a j) = f ((t.val / 12) * 512 + r) ((t.val % 6) * 1408 + a) * g ((t.val % 6) * 1408 + a) ((t.val / 6 % 2) * 1024 + j) :=
  congrArg₂ (· * ·) (blk0 G t r a) (blk1 G t a j)

include G in
/-- One point keeps the invariant. -/
theorem inv_step (I : ¬t.val % 6 = 0 → Inv m c f g (before t)) : Inv m c f g t := by
  intro r j
  by_cases h0 : t.val % 6 = 0
  · rw [acc_A m c t h0]
    exact (pay2_at _ _ r j).trans (mm_first h0 (terms G t r j))
  · have hp : (prev m c t).2 (ix2 r j) = mm f g ((t.val % 6) * 1408) ((t.val / 12) * 512 + r) ((t.val / 6 % 2) * 1024 + j) := by
      refine (I h0 r j).trans (mm_congr ?_ ?_ ?_)
      · show ((t.val - 1) % 6 + 1) * 1408 = t.val % 6 * 1408
        omega
      · show (t.val - 1) / 12 * 512 + r.val = t.val / 12 * 512 + r.val
        omega
      · show (t.val - 1) / 6 % 2 * 1024 + j.val = t.val / 6 % 2 * 1024 + j.val
        omega
    have hn : (prev m c t).2 (ix2 r j) + ∑ a : Fin 1408, blkA m c t (ix2 r a) * blkB m c t (ix2 a j) = _ := (congrArg (· + _) hp).trans (mm_next (terms G t r j))
    by_cases h2 : t.val % 6 = 5
    · rw [acc_C m c t h0 h2]
      exact (pay3_at _ _ r j _).trans hn
    · rw [acc_B m c t h0 h2]
      exact (pay3_at _ _ r j _).trans hn

include G in
/-- The invariant holds after every point. -/
theorem inv : ∀ (n : ℕ) (hn : n < cfg0.N), Inv m c f g ⟨n, hn⟩
  | 0, hn => inv_step G ⟨0, hn⟩ fun h => absurd rfl h
  | n + 1, hn => inv_step G ⟨n + 1, hn⟩ fun _ => inv n (Nat.lt_of_succ_lt hn)

include G in
/-- One block of the result, an element at a time. -/
theorem last (h : t.val % 6 = 5) (r : Fin 512) (j : Fin 1024) :
    (outsAt0 m c t.val t.isLt).1 (ix2 r j) = mm f g 8448 ((t.val / 12) * 512 + r) ((t.val / 6 % 2) * 1024 + j) := by
  rw [out_C m c t (by omega) h]
  refine (pay4_at r j _).trans ((inv G t.val t.isLt r j).trans (mm_congr ?_ rfl rfl))
  show (t.val % 6 + 1) * 1408 = 8448
  omega

/-- The result, as contents. -/
abbrev res (f g : ℕ → ℕ → EReal) : S512x2048.Idx → EReal := fun i => mm f g 8448 (i 0).val (i 1).val

include G in
theorem flushed_eq (hf : (cfg0.win 2).flush t = true) :
    (dats m 0 c).flushed 2 t = ((cfg0.win 2).blk t).view.read (Elt Ideal) (res f g) := by
  have h := (flush0_2 t).mp hf
  rw [Cert.RankDwIdeal.Value.flushed2 m c t]
  funext y
  rw [View.read_apply]
  refine (at2 (f := fun r j => mm f g 8448 ((t.val / 12) * 512 + r) ((t.val / 6 % 2) * 1024 + j)) (last G t h) _ rfl rfl).trans (mm_congr rfl ?_ ?_)
  · exact ((win0_2.rect_emb_val t y 0).trans (congrArg (· * 512 + (y 0).val) (idx2 t).1)).symm
  · exact ((win0_2.rect_emb_val t y 1).trans (congrArg (· * 1024 + (y 1).val) (idx2 t).2)).symm

include G in
/-- Every element of the result at the end. -/
theorem final (r : Fin 512) (j : Fin 2048) : (dats m 0 c).arrAt 2 cfg0.N (ix2 r j) = mm f g 8448 r j := by
  have hj := j.isLt
  have hr := r.isLt
  have hn : r.val / 512 * 12 + j.val / 1024 * 6 + 5 < cfg0.N := by rw [show cfg0.N = 12 from N_0]; omega
  refine (dats m 0 c).arrAt_apply_of_mem 2 (res f g) (flushed_eq G) cfg0.N ⟨_, hn⟩ (ix2 r j) hn ((flush0_2 _).mpr (by dsimp only; omega)) ?_
  show ix2 r j ∈ ((View.whole main_v1).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 512 ≤ r.val ∧ r.val < win0_2.index ⟨_, hn⟩ 0 * 512 + win0_2.xsize (grid0.coords ⟨_, hn⟩) 0
    rw [i0, s0]; dsimp only; omega
  | ⟨1, _⟩ =>
    show win0_2.index ⟨_, hn⟩ 1 * 1024 ≤ j.val ∧ j.val < win0_2.index ⟨_, hn⟩ 1 * 1024 + win0_2.xsize (grid0.coords ⟨_, hn⟩) 1
    rw [i1, s1]; dsimp only; omega

end Kernel

/-! ### The arguments, the reference, and the claims -/

/-- The first array the call is given: the argument's transpose. -/
def h_v0 (x0 : (⟨S8448x512, .bf16⟩ : BufTy).Contents (Elt Ideal)) : (⟨S512x8448, .bf16⟩ : BufTy).Contents (Elt Ideal) :=
  (transpose S512x8448 [1, 0] · transposes_S8448x512_S512x8448_1_0) x0
theorem v0_at (x0 : (⟨S8448x512, .bf16⟩ : BufTy).Contents (Elt Ideal)) (r : Fin 512) (x : Fin 8448) : h_v0 x0 (ix2 r x) = x0 (ix2 x r) := by
  pointwise [h_v0]
theorem V_v0 (m : (ℓ : Loc nD τ sig) → Buf (Elt Ideal) ℓ) (c : Dev nD) : V m c main_v0 = h_v0 (m ((c : Thread nD τ).loc main_arg0)) := by
  unfold V; after_results; rfl

/-- The first argument as a table, by the result's rows and the contracted axis. -/
abbrev left (x0 : (⟨S8448x512, .bf16⟩ : BufTy).Contents (Elt Ideal)) : ℕ → ℕ → EReal := fun r x => tab (R := 8448) (C := 512) x0 x r
/-- The second, by the contracted axis and the result's columns. -/
abbrev right (x1 : (⟨S8448x2048, .f32⟩ : BufTy).Contents (Elt Ideal)) : ℕ → ℕ → EReal := tab (R := 8448) (C := 2048) x1

theorem given (m : (ℓ : Loc nD τ sig) → Buf (Elt Ideal) ℓ) (c : Dev nD) :
    Given m c (left (m ((c : Thread nD τ).loc main_arg0))) (right (m ((c : Thread nD τ).loc main_arg1))) where
  hf r x := (congrFun (V_v0 m c) _).trans ((v0_at _ r x).trans (tab_ix _ x r))
  hg r x := (congrFun (V_main_arg1 m c) _).trans (tab_ix _ r x)

/-- An element of the reference's result. -/
theorem ref_at (x0 : (⟨S8448x512, .bf16⟩ : BufTy).Contents (Elt Ideal)) (x1 : (⟨S8448x2048, .f32⟩ : BufTy).Contents (Elt Ideal))
    (r : Fin 512) (j : Fin 2048) : Cert.RankDwReferenceIdeal.Read.val_main_v5 (F := Ideal) x0 x1 (ix2 r j) = mm (left x0) (right x1) 8448 r j := by
  refine (Cert.RankDwReferenceIdeal.Read.val_main_v4_apply (F := Ideal) x0 x1 _).trans ?_
  refine (Cert.RankDwReferenceIdeal.Read.val_main_v3_apply x0 x1 _).trans (mm_fin fun a => ?_)
  exact (mul_comm _ _).trans (congrArg₂ (· * ·) (tab_at (R := 8448) (C := 512) x0 _ rfl rfl) (tab_at (R := 8448) (C := 2048) x1 _ rfl rfl))

theorem frame_p : Cert.quiescent_RankDw := fun m ρ _ => Cert.RankDw.Gen.frame m ρ
theorem frame_pi : Cert.quiescent_RankDwIdeal := fun m ρ _ => Cert.RankDwIdeal.Gen.frame m ρ
theorem frame_ri : Cert.quiescent_RankDwReferenceIdeal := fun m ρ _ =>
  (θ_run Cert.RankDwReferenceIdeal.defs _ _).mono (fun r h => ⟨fun c => (h c).2, Idealize.ShloMosaic.sem_eq_zero_of_no_sems (by decide) r.2⟩)
    (Cert.RankDwReferenceIdeal.Value.run (F := Ideal) m ρ)

theorem preserves : Cert.preserves_RankDw_RankDwIdeal := trivial

theorem algebraic : Cert.algebraic_RankDwIdeal_RankDwReferenceIdeal := by
  intro m g m' g' _ ha
  refine ⟨fun c => (dats m 0 c).arrAt 2 cfg0.N, Cert.RankDwIdeal.Value.run_blocks m g, ?_⟩
  refine (θ_run Cert.RankDwReferenceIdeal.defs _ _).mono (fun r h c => ?_) (Cert.RankDwReferenceIdeal.Value.run (F := Ideal) m' g')
  obtain ⟨e0, ek⟩ := h c
  obtain ⟨u0, u1⟩ := ha c
  refine ⟨?_, ek⟩
  rw [e0, Cert.RankDwReferenceIdeal.Read.val_main_v5_eq, u0, u1]
  funext i
  rw [eq_ix2 i]
  exact (ref_at _ _ _ _).trans (final (given m c) _ _).symm

end Cert.RankDwClaims

end
-- ==== Proof.AdamDqClaims.lean ====
/-
  The claims of the optimiser's call of mla_w_dq, and of its reference: each of the three results is one function of the four arguments'
  elements at the same place, and the kernel and the reference take that function in the same order.
-/
module

public import proofs.«01_k».proof.Defs
public import proofs.«01_k».proof.Proof.Gen.AdamDq.Frame
public import proofs.«01_k».proof.Proof.Gen.AdamDqIdeal.Frame
public import proofs.«01_k».proof.Proof.Gen.AdamDqIdeal.Value
public import proofs.«01_k».proof.Proof.Gen.AdamDqReferenceIdeal.Run
public import proofs.«01_k».proof.Proof.Gen.AdamDqReferenceIdeal.Read
public import Idealize.ShloMosaic.Adequacy
public import Idealize.ShloMosaic.Init

@[expose] public section

set_option maxRecDepth 16384

noncomputable section

namespace Cert.AdamDqClaims

open Idealize.ShloMosaic Idealize.ShloMosaic.TcCoe Idealize.SL.Sem Cert.AdamDqIdeal

variable (w g m v : (⟨S1024x512, .f32⟩ : BufTy).Contents (Elt Ideal))

/-- The change of the weight, as the reference takes it, is the kernel's. -/
theorem ref_delta : Cert.AdamDqReferenceIdeal.Read.val_main_v23 (F := Ideal) w g m v = Value.G4 (F := Ideal) g m v w := rfl
/-- The new first moment. -/
theorem ref_first : Cert.AdamDqReferenceIdeal.Read.val_main_v4 (F := Ideal) g m = Value.G5 (F := Ideal) g m := rfl
/-- The new second moment. -/
theorem ref_second : Cert.AdamDqReferenceIdeal.Read.val_main_v10 (F := Ideal) g v = Value.G6 (F := Ideal) g v := rfl

theorem frame_p : Cert.quiescent_AdamDq := fun m ρ _ => Cert.AdamDq.Gen.frame m ρ
theorem frame_pi : Cert.quiescent_AdamDqIdeal := fun m ρ _ => Cert.AdamDqIdeal.Gen.frame m ρ
theorem frame_ri : Cert.quiescent_AdamDqReferenceIdeal := fun m ρ _ =>
  (θ_run Cert.AdamDqReferenceIdeal.defs _ _).mono (fun r h => ⟨fun c => (h c).2.2.2, Idealize.ShloMosaic.sem_eq_zero_of_no_sems (by decide) r.2⟩)
    (Cert.AdamDqReferenceIdeal.Value.run (F := Ideal) m ρ)

theorem preserves : Cert.preserves_AdamDq_AdamDqIdeal := trivial

theorem algebraic : Cert.algebraic_AdamDqIdeal_AdamDqReferenceIdeal := by
  intro m g m' g' _ ha
  refine ⟨fun c => _, fun c => _, fun c => _, Value.run (F := Ideal) m g, ?_⟩
  refine (θ_run Cert.AdamDqReferenceIdeal.defs _ _).mono (fun r h c => ?_) (Cert.AdamDqReferenceIdeal.Value.run (F := Ideal) m' g')
  obtain ⟨e0, e1, e2, ek⟩ := h c
  obtain ⟨u0, u1, u2, u3⟩ := ha c
  refine ⟨?_, ?_, ?_, ek⟩
  · rw [e0, Cert.AdamDqReferenceIdeal.Read.val_main_v23_eq, u0, u1, u2, u3]
    exact ref_delta _ _ _ _
  · rw [e1, Cert.AdamDqReferenceIdeal.Read.val_main_v4_eq, u1, u2]
    exact ref_first _ _
  · rw [e2, Cert.AdamDqReferenceIdeal.Read.val_main_v10_eq, u1, u3]
    exact ref_second _ _

end Cert.AdamDqClaims

end
-- ==== Proof.AdamUqClaims.lean ====
/-
  The claims of the optimiser's call of mla_w_uq, and of its reference: each of the three results is one function of the four arguments'
  elements at the same place, and the kernel and the reference take that function in the same order.
-/
module

public import proofs.«01_k».proof.Defs
public import proofs.«01_k».proof.Proof.Gen.AdamUq.Frame
public import proofs.«01_k».proof.Proof.Gen.AdamUqIdeal.Frame
public import proofs.«01_k».proof.Proof.Gen.AdamUqIdeal.Value
public import proofs.«01_k».proof.Proof.Gen.AdamUqReferenceIdeal.Run
public import proofs.«01_k».proof.Proof.Gen.AdamUqReferenceIdeal.Read
public import Idealize.ShloMosaic.Adequacy
public import Idealize.ShloMosaic.Init

@[expose] public section

set_option maxRecDepth 16384

noncomputable section

namespace Cert.AdamUqClaims

open Idealize.ShloMosaic Idealize.ShloMosaic.TcCoe Idealize.SL.Sem Cert.AdamUqIdeal

variable (w g m v : (⟨S1024x768, .f32⟩ : BufTy).Contents (Elt Ideal))

/-- The change of the weight, as the reference takes it, is the kernel's. -/
theorem ref_delta : Cert.AdamUqReferenceIdeal.Read.val_main_v23 (F := Ideal) w g m v = Value.G4 (F := Ideal) g m v w := rfl
/-- The new first moment. -/
theorem ref_first : Cert.AdamUqReferenceIdeal.Read.val_main_v4 (F := Ideal) g m = Value.G5 (F := Ideal) g m := rfl
/-- The new second moment. -/
theorem ref_second : Cert.AdamUqReferenceIdeal.Read.val_main_v10 (F := Ideal) g v = Value.G6 (F := Ideal) g v := rfl

theorem frame_p : Cert.quiescent_AdamUq := fun m ρ _ => Cert.AdamUq.Gen.frame m ρ
theorem frame_pi : Cert.quiescent_AdamUqIdeal := fun m ρ _ => Cert.AdamUqIdeal.Gen.frame m ρ
theorem frame_ri : Cert.quiescent_AdamUqReferenceIdeal := fun m ρ _ =>
  (θ_run Cert.AdamUqReferenceIdeal.defs _ _).mono (fun r h => ⟨fun c => (h c).2.2.2, Idealize.ShloMosaic.sem_eq_zero_of_no_sems (by decide) r.2⟩)
    (Cert.AdamUqReferenceIdeal.Value.run (F := Ideal) m ρ)

theorem preserves : Cert.preserves_AdamUq_AdamUqIdeal := trivial

theorem algebraic : Cert.algebraic_AdamUqIdeal_AdamUqReferenceIdeal := by
  intro m g m' g' _ ha
  refine ⟨fun c => _, fun c => _, fun c => _, Value.run (F := Ideal) m g, ?_⟩
  refine (θ_run Cert.AdamUqReferenceIdeal.defs _ _).mono (fun r h c => ?_) (Cert.AdamUqReferenceIdeal.Value.run (F := Ideal) m' g')
  obtain ⟨e0, e1, e2, ek⟩ := h c
  obtain ⟨u0, u1, u2, u3⟩ := ha c
  refine ⟨?_, ?_, ?_, ek⟩
  · rw [e0, Cert.AdamUqReferenceIdeal.Read.val_main_v23_eq, u0, u1, u2, u3]
    exact ref_delta _ _ _ _
  · rw [e1, Cert.AdamUqReferenceIdeal.Read.val_main_v4_eq, u1, u2]
    exact ref_first _ _
  · rw [e2, Cert.AdamUqReferenceIdeal.Read.val_main_v10_eq, u1, u3]
    exact ref_second _ _

end Cert.AdamUqClaims

end
-- ==== Proof.AdamDkvClaims.lean ====
/-
  The claims of the optimiser's call of mla_w_dkv, and of its reference: each of the three results is one function of the four arguments'
  elements at the same place, and the kernel and the reference take that function in the same order.
-/
module

public import proofs.«01_k».proof.Defs
public import proofs.«01_k».proof.Proof.Gen.AdamDkv.Frame
public import proofs.«01_k».proof.Proof.Gen.AdamDkvIdeal.Frame
public import proofs.«01_k».proof.Proof.Gen.AdamDkvIdeal.Value
public import proofs.«01_k».proof.Proof.Gen.AdamDkvReferenceIdeal.Run
public import proofs.«01_k».proof.Proof.Gen.AdamDkvReferenceIdeal.Read
public import Idealize.ShloMosaic.Adequacy
public import Idealize.ShloMosaic.Init

@[expose] public section

set_option maxRecDepth 16384

noncomputable section

namespace Cert.AdamDkvClaims

open Idealize.ShloMosaic Idealize.ShloMosaic.TcCoe Idealize.SL.Sem Cert.AdamDkvIdeal

variable (w g m v : (⟨S1024x576, .f32⟩ : BufTy).Contents (Elt Ideal))

/-- The change of the weight, as the reference takes it, is the kernel's. -/
theorem ref_delta : Cert.AdamDkvReferenceIdeal.Read.val_main_v23 (F := Ideal) w g m v = Value.G4 (F := Ideal) g m v w := rfl
/-- The new first moment. -/
theorem ref_first : Cert.AdamDkvReferenceIdeal.Read.val_main_v4 (F := Ideal) g m = Value.G5 (F := Ideal) g m := rfl
/-- The new second moment. -/
theorem ref_second : Cert.AdamDkvReferenceIdeal.Read.val_main_v10 (F := Ideal) g v = Value.G6 (F := Ideal) g v := rfl

theorem frame_p : Cert.quiescent_AdamDkv := fun m ρ _ => Cert.AdamDkv.Gen.frame m ρ
theorem frame_pi : Cert.quiescent_AdamDkvIdeal := fun m ρ _ => Cert.AdamDkvIdeal.Gen.frame m ρ
theorem frame_ri : Cert.quiescent_AdamDkvReferenceIdeal := fun m ρ _ =>
  (θ_run Cert.AdamDkvReferenceIdeal.defs _ _).mono (fun r h => ⟨fun c => (h c).2.2.2, Idealize.ShloMosaic.sem_eq_zero_of_no_sems (by decide) r.2⟩)
    (Cert.AdamDkvReferenceIdeal.Value.run (F := Ideal) m ρ)

theorem preserves : Cert.preserves_AdamDkv_AdamDkvIdeal := trivial

theorem algebraic : Cert.algebraic_AdamDkvIdeal_AdamDkvReferenceIdeal := by
  intro m g m' g' _ ha
  refine ⟨fun c => _, fun c => _, fun c => _, Value.run (F := Ideal) m g, ?_⟩
  refine (θ_run Cert.AdamDkvReferenceIdeal.defs _ _).mono (fun r h c => ?_) (Cert.AdamDkvReferenceIdeal.Value.run (F := Ideal) m' g')
  obtain ⟨e0, e1, e2, ek⟩ := h c
  obtain ⟨u0, u1, u2, u3⟩ := ha c
  refine ⟨?_, ?_, ?_, ek⟩
  · rw [e0, Cert.AdamDkvReferenceIdeal.Read.val_main_v23_eq, u0, u1, u2, u3]
    exact ref_delta _ _ _ _
  · rw [e1, Cert.AdamDkvReferenceIdeal.Read.val_main_v4_eq, u1, u2]
    exact ref_first _ _
  · rw [e2, Cert.AdamDkvReferenceIdeal.Read.val_main_v10_eq, u1, u3]
    exact ref_second _ _

end Cert.AdamDkvClaims

end
-- ==== Proof.AdamUkvClaims.lean ====
/-
  The claims of the optimiser's call of mla_w_ukv or gqa_w_kv, and of its reference: each of the three results is one function of the four arguments'
  elements at the same place, and the kernel and the reference take that function in the same order.
-/
module

public import proofs.«01_k».proof.Defs
public import proofs.«01_k».proof.Proof.Gen.AdamUkv.Frame
public import proofs.«01_k».proof.Proof.Gen.AdamUkvIdeal.Frame
public import proofs.«01_k».proof.Proof.Gen.AdamUkvIdeal.Value
public import proofs.«01_k».proof.Proof.Gen.AdamUkvReferenceIdeal.Run
public import proofs.«01_k».proof.Proof.Gen.AdamUkvReferenceIdeal.Read
public import Idealize.ShloMosaic.Adequacy
public import Idealize.ShloMosaic.Init

@[expose] public section

set_option maxRecDepth 16384

noncomputable section

namespace Cert.AdamUkvClaims

open Idealize.ShloMosaic Idealize.ShloMosaic.TcCoe Idealize.SL.Sem Cert.AdamUkvIdeal

variable (w g m v : (⟨S1024x1024, .f32⟩ : BufTy).Contents (Elt Ideal))

/-- The change of the weight, as the reference takes it, is the kernel's. -/
theorem ref_delta : Cert.AdamUkvReferenceIdeal.Read.val_main_v23 (F := Ideal) w g m v = Value.G4 (F := Ideal) g m v w := rfl
/-- The new first moment. -/
theorem ref_first : Cert.AdamUkvReferenceIdeal.Read.val_main_v4 (F := Ideal) g m = Value.G5 (F := Ideal) g m := rfl
/-- The new second moment. -/
theorem ref_second : Cert.AdamUkvReferenceIdeal.Read.val_main_v10 (F := Ideal) g v = Value.G6 (F := Ideal) g v := rfl

theorem frame_p : Cert.quiescent_AdamUkv := fun m ρ _ => Cert.AdamUkv.Gen.frame m ρ
theorem frame_pi : Cert.quiescent_AdamUkvIdeal := fun m ρ _ => Cert.AdamUkvIdeal.Gen.frame m ρ
theorem frame_ri : Cert.quiescent_AdamUkvReferenceIdeal := fun m ρ _ =>
  (θ_run Cert.AdamUkvReferenceIdeal.defs _ _).mono (fun r h => ⟨fun c => (h c).2.2.2, Idealize.ShloMosaic.sem_eq_zero_of_no_sems (by decide) r.2⟩)
    (Cert.AdamUkvReferenceIdeal.Value.run (F := Ideal) m ρ)

theorem preserves : Cert.preserves_AdamUkv_AdamUkvIdeal := trivial

theorem algebraic : Cert.algebraic_AdamUkvIdeal_AdamUkvReferenceIdeal := by
  intro m g m' g' _ ha
  refine ⟨fun c => _, fun c => _, fun c => _, Value.run (F := Ideal) m g, ?_⟩
  refine (θ_run Cert.AdamUkvReferenceIdeal.defs _ _).mono (fun r h c => ?_) (Cert.AdamUkvReferenceIdeal.Value.run (F := Ideal) m' g')
  obtain ⟨e0, e1, e2, ek⟩ := h c
  obtain ⟨u0, u1, u2, u3⟩ := ha c
  refine ⟨?_, ?_, ?_, ek⟩
  · rw [e0, Cert.AdamUkvReferenceIdeal.Read.val_main_v23_eq, u0, u1, u2, u3]
    exact ref_delta _ _ _ _
  · rw [e1, Cert.AdamUkvReferenceIdeal.Read.val_main_v4_eq, u1, u2]
    exact ref_first _ _
  · rw [e2, Cert.AdamUkvReferenceIdeal.Read.val_main_v10_eq, u1, u3]
    exact ref_second _ _

end Cert.AdamUkvClaims

end
-- ==== Proof.AdamSquareClaims.lean ====
/-
  The claims of the optimiser's call of mla_w_o, gqa_w_q or gqa_w_o, and of its reference: each of the three results is one function of the four arguments'
  elements at the same place, and the kernel and the reference take that function in the same order.
-/
module

public import proofs.«01_k».proof.Defs
public import proofs.«01_k».proof.Proof.Gen.AdamSquare.Frame
public import proofs.«01_k».proof.Proof.Gen.AdamSquareIdeal.Frame
public import proofs.«01_k».proof.Proof.Gen.AdamSquareIdeal.Value
public import proofs.«01_k».proof.Proof.Gen.AdamSquareReferenceIdeal.Run
public import proofs.«01_k».proof.Proof.Gen.AdamSquareReferenceIdeal.Read
public import Idealize.ShloMosaic.Adequacy
public import Idealize.ShloMosaic.Init

@[expose] public section

set_option maxRecDepth 16384

noncomputable section

namespace Cert.AdamSquareClaims

open Idealize.ShloMosaic Idealize.ShloMosaic.TcCoe Idealize.SL.Sem Cert.AdamSquareIdeal

variable (w g m v : (⟨S1024x2048, .f32⟩ : BufTy).Contents (Elt Ideal))

/-- The change of the weight, as the reference takes it, is the kernel's. -/
theorem ref_delta : Cert.AdamSquareReferenceIdeal.Read.val_main_v23 (F := Ideal) w g m v = Value.G4 (F := Ideal) g m v w := rfl
/-- The new first moment. -/
theorem ref_first : Cert.AdamSquareReferenceIdeal.Read.val_main_v4 (F := Ideal) g m = Value.G5 (F := Ideal) g m := rfl
/-- The new second moment. -/
theorem ref_second : Cert.AdamSquareReferenceIdeal.Read.val_main_v10 (F := Ideal) g v = Value.G6 (F := Ideal) g v := rfl

theorem frame_p : Cert.quiescent_AdamSquare := fun m ρ _ => Cert.AdamSquare.Gen.frame m ρ
theorem frame_pi : Cert.quiescent_AdamSquareIdeal := fun m ρ _ => Cert.AdamSquareIdeal.Gen.frame m ρ
theorem frame_ri : Cert.quiescent_AdamSquareReferenceIdeal := fun m ρ _ =>
  (θ_run Cert.AdamSquareReferenceIdeal.defs _ _).mono (fun r h => ⟨fun c => (h c).2.2.2, Idealize.ShloMosaic.sem_eq_zero_of_no_sems (by decide) r.2⟩)
    (Cert.AdamSquareReferenceIdeal.Value.run (F := Ideal) m ρ)

theorem preserves : Cert.preserves_AdamSquare_AdamSquareIdeal := trivial

theorem algebraic : Cert.algebraic_AdamSquareIdeal_AdamSquareReferenceIdeal := by
  intro m g m' g' _ ha
  refine ⟨fun c => _, fun c => _, fun c => _, Value.run (F := Ideal) m g, ?_⟩
  refine (θ_run Cert.AdamSquareReferenceIdeal.defs _ _).mono (fun r h c => ?_) (Cert.AdamSquareReferenceIdeal.Value.run (F := Ideal) m' g')
  obtain ⟨e0, e1, e2, ek⟩ := h c
  obtain ⟨u0, u1, u2, u3⟩ := ha c
  refine ⟨?_, ?_, ?_, ek⟩
  · rw [e0, Cert.AdamSquareReferenceIdeal.Read.val_main_v23_eq, u0, u1, u2, u3]
    exact ref_delta _ _ _ _
  · rw [e1, Cert.AdamSquareReferenceIdeal.Read.val_main_v4_eq, u1, u2]
    exact ref_first _ _
  · rw [e2, Cert.AdamSquareReferenceIdeal.Read.val_main_v10_eq, u1, u3]
    exact ref_second _ _

end Cert.AdamSquareClaims

end
-- ==== Proof.AdamUpClaims.lean ====
/-
  The claims of the optimiser's call of ffn_w_up, and of its reference: each of the three results is one function of the four arguments'
  elements at the same place, and the kernel and the reference take that function in the same order.
-/
module

public import proofs.«01_k».proof.Defs
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpReferenceIdeal.Run
public import proofs.«01_k».proof.Proof.Gen.AdamUpReferenceIdeal.Read
public import Idealize.ShloMosaic.Adequacy
public import Idealize.ShloMosaic.Init

@[expose] public section

set_option maxRecDepth 16384

noncomputable section

namespace Cert.AdamUpClaims

open Idealize.ShloMosaic Idealize.ShloMosaic.TcCoe Idealize.SL.Sem Cert.AdamUpIdeal

variable (w g m v : (⟨S8192x2816, .f32⟩ : BufTy).Contents (Elt Ideal))

/-- The change of the weight, as the reference takes it, is the kernel's. -/
theorem ref_delta : Cert.AdamUpReferenceIdeal.Read.val_main_v23 (F := Ideal) w g m v = Value.G4 (F := Ideal) g m v w := rfl
/-- The new first moment. -/
theorem ref_first : Cert.AdamUpReferenceIdeal.Read.val_main_v4 (F := Ideal) g m = Value.G5 (F := Ideal) g m := rfl
/-- The new second moment. -/
theorem ref_second : Cert.AdamUpReferenceIdeal.Read.val_main_v10 (F := Ideal) g v = Value.G6 (F := Ideal) g v := rfl

theorem frame_p : Cert.quiescent_AdamUp := fun m ρ _ => Cert.AdamUp.Gen.frame m ρ
theorem frame_pi : Cert.quiescent_AdamUpIdeal := fun m ρ _ => Cert.AdamUpIdeal.Gen.frame m ρ
theorem frame_ri : Cert.quiescent_AdamUpReferenceIdeal := fun m ρ _ =>
  (θ_run Cert.AdamUpReferenceIdeal.defs _ _).mono (fun r h => ⟨fun c => (h c).2.2.2, Idealize.ShloMosaic.sem_eq_zero_of_no_sems (by decide) r.2⟩)
    (Cert.AdamUpReferenceIdeal.Value.run (F := Ideal) m ρ)

theorem preserves : Cert.preserves_AdamUp_AdamUpIdeal := trivial

theorem algebraic : Cert.algebraic_AdamUpIdeal_AdamUpReferenceIdeal := by
  intro m g m' g' _ ha
  refine ⟨fun c => _, fun c => _, fun c => _, Value.run (F := Ideal) m g, ?_⟩
  refine (θ_run Cert.AdamUpReferenceIdeal.defs _ _).mono (fun r h c => ?_) (Cert.AdamUpReferenceIdeal.Value.run (F := Ideal) m' g')
  obtain ⟨e0, e1, e2, ek⟩ := h c
  obtain ⟨u0, u1, u2, u3⟩ := ha c
  refine ⟨?_, ?_, ?_, ek⟩
  · rw [e0, Cert.AdamUpReferenceIdeal.Read.val_main_v23_eq, u0, u1, u2, u3]
    exact ref_delta _ _ _ _
  · rw [e1, Cert.AdamUpReferenceIdeal.Read.val_main_v4_eq, u1, u2]
    exact ref_first _ _
  · rw [e2, Cert.AdamUpReferenceIdeal.Read.val_main_v10_eq, u1, u3]
    exact ref_second _ _

end Cert.AdamUpClaims

end
-- ==== Proof.AdamDownClaims.lean ====
/-
  The claims of the optimiser's call of ffn_w_down, and of its reference: each of the three results is one function of the four arguments'
  elements at the same place, and the kernel and the reference take that function in the same order.
-/
module

public import proofs.«01_k».proof.Defs
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownReferenceIdeal.Run
public import proofs.«01_k».proof.Proof.Gen.AdamDownReferenceIdeal.Read
public import Idealize.ShloMosaic.Adequacy
public import Idealize.ShloMosaic.Init

@[expose] public section

set_option maxRecDepth 16384

noncomputable section

namespace Cert.AdamDownClaims

open Idealize.ShloMosaic Idealize.ShloMosaic.TcCoe Idealize.SL.Sem Cert.AdamDownIdeal

variable (w g m v : (⟨S5632x2048, .f32⟩ : BufTy).Contents (Elt Ideal))

/-- The change of the weight, as the reference takes it, is the kernel's. -/
theorem ref_delta : Cert.AdamDownReferenceIdeal.Read.val_main_v23 (F := Ideal) w g m v = Value.G4 (F := Ideal) g m v w := rfl
/-- The new first moment. -/
theorem ref_first : Cert.AdamDownReferenceIdeal.Read.val_main_v4 (F := Ideal) g m = Value.G5 (F := Ideal) g m := rfl
/-- The new second moment. -/
theorem ref_second : Cert.AdamDownReferenceIdeal.Read.val_main_v10 (F := Ideal) g v = Value.G6 (F := Ideal) g v := rfl

theorem frame_p : Cert.quiescent_AdamDown := fun m ρ _ => Cert.AdamDown.Gen.frame m ρ
theorem frame_pi : Cert.quiescent_AdamDownIdeal := fun m ρ _ => Cert.AdamDownIdeal.Gen.frame m ρ
theorem frame_ri : Cert.quiescent_AdamDownReferenceIdeal := fun m ρ _ =>
  (θ_run Cert.AdamDownReferenceIdeal.defs _ _).mono (fun r h => ⟨fun c => (h c).2.2.2, Idealize.ShloMosaic.sem_eq_zero_of_no_sems (by decide) r.2⟩)
    (Cert.AdamDownReferenceIdeal.Value.run (F := Ideal) m ρ)

theorem preserves : Cert.preserves_AdamDown_AdamDownIdeal := trivial

theorem algebraic : Cert.algebraic_AdamDownIdeal_AdamDownReferenceIdeal := by
  intro m g m' g' _ ha
  refine ⟨fun c => _, fun c => _, fun c => _, Value.run (F := Ideal) m g, ?_⟩
  refine (θ_run Cert.AdamDownReferenceIdeal.defs _ _).mono (fun r h c => ?_) (Cert.AdamDownReferenceIdeal.Value.run (F := Ideal) m' g')
  obtain ⟨e0, e1, e2, ek⟩ := h c
  obtain ⟨u0, u1, u2, u3⟩ := ha c
  refine ⟨?_, ?_, ?_, ek⟩
  · rw [e0, Cert.AdamDownReferenceIdeal.Read.val_main_v23_eq, u0, u1, u2, u3]
    exact ref_delta _ _ _ _
  · rw [e1, Cert.AdamDownReferenceIdeal.Read.val_main_v4_eq, u1, u2]
    exact ref_first _ _
  · rw [e2, Cert.AdamDownReferenceIdeal.Read.val_main_v10_eq, u1, u3]
    exact ref_second _ _

end Cert.AdamDownClaims

end
-- ==== Proof.AdamModClaims.lean ====
/-
  The claims of the optimiser's call of w_mod, and of its reference: each of the three results is one function of the four arguments'
  elements at the same place, and the kernel and the reference take that function in the same order.
-/
module

public import proofs.«01_k».proof.Defs
public import proofs.«01_k».proof.Proof.Gen.AdamMod.Frame
public import proofs.«01_k».proof.Proof.Gen.AdamModIdeal.Frame
public import proofs.«01_k».proof.Proof.Gen.AdamModIdeal.Value
public import proofs.«01_k».proof.Proof.Gen.AdamModReferenceIdeal.Run
public import proofs.«01_k».proof.Proof.Gen.AdamModReferenceIdeal.Read
public import Idealize.ShloMosaic.Adequacy
public import Idealize.ShloMosaic.Init

@[expose] public section

set_option maxRecDepth 16384

noncomputable section

namespace Cert.AdamModClaims

open Idealize.ShloMosaic Idealize.ShloMosaic.TcCoe Idealize.SL.Sem Cert.AdamModIdeal

variable (w g m v : (⟨S8192x3072, .f32⟩ : BufTy).Contents (Elt Ideal))

/-- The change of the weight, as the reference takes it, is the kernel's. -/
theorem ref_delta : Cert.AdamModReferenceIdeal.Read.val_main_v23 (F := Ideal) w g m v = Value.G4 (F := Ideal) g m v w := rfl
/-- The new first moment. -/
theorem ref_first : Cert.AdamModReferenceIdeal.Read.val_main_v4 (F := Ideal) g m = Value.G5 (F := Ideal) g m := rfl
/-- The new second moment. -/
theorem ref_second : Cert.AdamModReferenceIdeal.Read.val_main_v10 (F := Ideal) g v = Value.G6 (F := Ideal) g v := rfl

theorem frame_p : Cert.quiescent_AdamMod := fun m ρ _ => Cert.AdamMod.Gen.frame m ρ
theorem frame_pi : Cert.quiescent_AdamModIdeal := fun m ρ _ => Cert.AdamModIdeal.Gen.frame m ρ
theorem frame_ri : Cert.quiescent_AdamModReferenceIdeal := fun m ρ _ =>
  (θ_run Cert.AdamModReferenceIdeal.defs _ _).mono (fun r h => ⟨fun c => (h c).2.2.2, Idealize.ShloMosaic.sem_eq_zero_of_no_sems (by decide) r.2⟩)
    (Cert.AdamModReferenceIdeal.Value.run (F := Ideal) m ρ)

theorem preserves : Cert.preserves_AdamMod_AdamModIdeal := trivial

theorem algebraic : Cert.algebraic_AdamModIdeal_AdamModReferenceIdeal := by
  intro m g m' g' _ ha
  refine ⟨fun c => _, fun c => _, fun c => _, Value.run (F := Ideal) m g, ?_⟩
  refine (θ_run Cert.AdamModReferenceIdeal.defs _ _).mono (fun r h c => ?_) (Cert.AdamModReferenceIdeal.Value.run (F := Ideal) m' g')
  obtain ⟨e0, e1, e2, ek⟩ := h c
  obtain ⟨u0, u1, u2, u3⟩ := ha c
  refine ⟨?_, ?_, ?_, ek⟩
  · rw [e0, Cert.AdamModReferenceIdeal.Read.val_main_v23_eq, u0, u1, u2, u3]
    exact ref_delta _ _ _ _
  · rw [e1, Cert.AdamModReferenceIdeal.Read.val_main_v4_eq, u1, u2]
    exact ref_first _ _
  · rw [e2, Cert.AdamModReferenceIdeal.Read.val_main_v10_eq, u1, u3]
    exact ref_second _ _

end Cert.AdamModClaims

end
-- ==== Proof.AdamSmallClaims.lean ====
/-
  The claims of the optimiser's call of the weights packed end to end, and of its reference: each of the three results is one function of the four arguments'
  elements at the same place, and the kernel and the reference take that function in the same order.
-/
module

public import proofs.«01_k».proof.Defs
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallReferenceIdeal.Run
public import proofs.«01_k».proof.Proof.Gen.AdamSmallReferenceIdeal.Read
public import Idealize.ShloMosaic.Adequacy
public import Idealize.ShloMosaic.Init

@[expose] public section

set_option maxRecDepth 16384

noncomputable section

namespace Cert.AdamSmallClaims

open Idealize.ShloMosaic Idealize.ShloMosaic.TcCoe Idealize.SL.Sem Cert.AdamSmallIdeal

variable (w g m v : (⟨S112x1024, .f32⟩ : BufTy).Contents (Elt Ideal))

/-- The change of the weight, as the reference takes it, is the kernel's. -/
theorem ref_delta : Cert.AdamSmallReferenceIdeal.Read.val_main_v23 (F := Ideal) w g m v = Value.G4 (F := Ideal) g m v w := rfl
/-- The new first moment. -/
theorem ref_first : Cert.AdamSmallReferenceIdeal.Read.val_main_v4 (F := Ideal) g m = Value.G5 (F := Ideal) g m := rfl
/-- The new second moment. -/
theorem ref_second : Cert.AdamSmallReferenceIdeal.Read.val_main_v10 (F := Ideal) g v = Value.G6 (F := Ideal) g v := rfl

theorem frame_p : Cert.quiescent_AdamSmall := fun m ρ _ => Cert.AdamSmall.Gen.frame m ρ
theorem frame_pi : Cert.quiescent_AdamSmallIdeal := fun m ρ _ => Cert.AdamSmallIdeal.Gen.frame m ρ
theorem frame_ri : Cert.quiescent_AdamSmallReferenceIdeal := fun m ρ _ =>
  (θ_run Cert.AdamSmallReferenceIdeal.defs _ _).mono (fun r h => ⟨fun c => (h c).2.2.2, Idealize.ShloMosaic.sem_eq_zero_of_no_sems (by decide) r.2⟩)
    (Cert.AdamSmallReferenceIdeal.Value.run (F := Ideal) m ρ)

theorem preserves : Cert.preserves_AdamSmall_AdamSmallIdeal := trivial

theorem algebraic : Cert.algebraic_AdamSmallIdeal_AdamSmallReferenceIdeal := by
  intro m g m' g' _ ha
  refine ⟨fun c => _, fun c => _, fun c => _, Value.run (F := Ideal) m g, ?_⟩
  refine (θ_run Cert.AdamSmallReferenceIdeal.defs _ _).mono (fun r h c => ?_) (Cert.AdamSmallReferenceIdeal.Value.run (F := Ideal) m' g')
  obtain ⟨e0, e1, e2, ek⟩ := h c
  obtain ⟨u0, u1, u2, u3⟩ := ha c
  refine ⟨?_, ?_, ?_, ek⟩
  · rw [e0, Cert.AdamSmallReferenceIdeal.Read.val_main_v23_eq, u0, u1, u2, u3]
    exact ref_delta _ _ _ _
  · rw [e1, Cert.AdamSmallReferenceIdeal.Read.val_main_v4_eq, u1, u2]
    exact ref_first _ _
  · rw [e2, Cert.AdamSmallReferenceIdeal.Read.val_main_v10_eq, u1, u3]
    exact ref_second _ _

end Cert.AdamSmallClaims

end
-- ==== Proof.ModDwClaims.lean ====
/-
  What the call of the gradient of one layer's w_mod computes, over the extended reals: of every row and column, the sum over the 16 rows
  of conditions; and the claims of the call and its reference.
-/
module

public import proofs.«01_k».proof.Defs
public import proofs.«01_k».proof.Proof.Gen.ModDw.Frame
public import proofs.«01_k».proof.Proof.Gen.ModDwIdeal.Frame
public import proofs.«01_k».proof.Proof.Gen.ModDwIdeal.Value
public import proofs.«01_k».proof.Proof.Gen.ModDwReferenceIdeal.Run
public import proofs.«01_k».proof.Proof.Gen.ModDwReferenceIdeal.Read
public import proofs.«01_k».proof.Proof.Product
public import Idealize.ShloMosaic.Lib.Pointwise
public import Idealize.ShloMosaic.Lib.WholeRead
public import Idealize.ShloMosaic.Lib.Pipeline.ValueKit.Basic
public import Idealize.ShloMosaic.Lib.VecWindow
public import Idealize.ShloMosaic.Adequacy
public import Idealize.ShloMosaic.Init

@[expose] public section

set_option maxRecDepth 16384
set_option maxHeartbeats 1000000

noncomputable section

namespace Cert.ModDwClaims

open Idealize.ShloMosaic Idealize.ShloMosaic.TcCoe Idealize.ShloMosaic.Tactic Idealize.SL.Sem Cert.ModDwIdeal Cert.ModDwIdeal.Gen Cert.Product
open scoped BigOperators

/-! ### Which block each window is on, over the grid -/

theorem idx0 : ∀ t : Fin grid0.N, win0_0.index t 0 = 0 ∧ win0_0.index t 1 = 0 := by decide +kernel
theorem idx1 : ∀ t : Fin grid0.N, win0_1.index t 0 = 0 ∧ win0_1.index t 1 = t.val := by decide +kernel
theorem idx2 : ∀ t : Fin grid0.N, win0_2.index t 0 = 0 ∧ win0_2.index t 1 = t.val := by decide +kernel
theorem xs2 : ∀ t : Fin grid0.N, win0_2.xsize (grid0.coords t) 0 = 2048 ∧ win0_2.xsize (grid0.coords t) 1 = 1024 := by decide +kernel

section Kernel

variable (m : (ℓ : Loc nD τ sig) → Buf (Elt Ideal) ℓ) (c : Dev nD)

/-- The two arrays the call is given, as tables: the first by the result's rows and the contracted axis, the second by the contracted
axis and the result's columns. -/
structure Given (f g : ℕ → ℕ → EReal) : Prop where
  hf : ∀ (x : Fin 16) (r : Fin 2048), V m c main_arg0 (ix2 x r) = f r x
  hg : ∀ (x : Fin 16) (j : Fin 3072), V m c main_arg1 (ix2 x j) = g x j

/-- The two blocks the body reads at a point. -/
abbrev blkA (t : Fin cfg0.N) : Vec Ideal S16x2048 .f32 := iblk m c 0 t
abbrev blkB (t : Fin cfg0.N) : Vec Ideal S16x1024 .f32 := iblk m c 1 t

variable {m c} {f g : ℕ → ℕ → EReal} (G : Given m c f g) (t : Fin cfg0.N)

include G

theorem blk0 (x : Fin 16) (y : Fin 2048) : iblk m c 0 t (ix2 x y) = f (0 * 2048 + y) (0 * 16 + x) := by
  unfold iblk
  rw [View.read_apply]
  refine at2 (f := fun x r => f r x) G.hf _ ?_ ?_
  · exact (win0_0.rect_emb_val t _ 0).trans (congrArg (· * 16 + x.val) (idx0 t).1)
  · exact (win0_0.rect_emb_val t _ 1).trans (congrArg (· * 2048 + y.val) (idx0 t).2)

theorem blk1 (x : Fin 16) (y : Fin 1024) : iblk m c 1 t (ix2 x y) = g (0 * 16 + x) (t.val * 1024 + y) := by
  unfold iblk
  rw [View.read_apply]
  refine at2 G.hg _ ?_ ?_
  · exact (win0_1.rect_emb_val t _ 0).trans (congrArg (· * 16 + x.val) (idx1 t).1)
  · exact (win0_1.rect_emb_val t _ 1).trans (congrArg (· * 1024 + y.val) (idx1 t).2)

omit G

/-! ### A stored value at an element -/

section
variable (X : Vec Ideal S16x2048 .f32) (Y : Vec Ideal S16x1024 .f32) (r : Fin 2048) (j : Fin 1024)

theorem pay1_at : k0_pay1 X Y (ix2 r j) = ∑ a : Fin 16, X (ix2 a r) * Y (ix2 a j) := by pointwise [k0_pay1]

end

/-- One point's block. -/
theorem out_eq (X : Vec Ideal S16x2048 .f32) (Y : Vec Ideal S16x1024 .f32) : out0_2 X Y = k0_pay1 X Y := by
  unfold out0_2
  rw [View.ld_unit_lit _ X (by decide), View.ld_unit_lit _ Y (by decide)]
  exact View.canon_cons_unit_lit _ _ _ (by decide)

include G in
theorem terms (r : Fin 2048) (j : Fin 1024) (a : Fin 16) :
    blkA m c t (ix2 a r) * blkB m c t (ix2 a j) = f (0 * 2048 + r) (0 * 16 + a) * g (0 * 16 + a) (t.val * 1024 + j) :=
  congrArg₂ (· * ·) (blk0 G t a r) (blk1 G t a j)

include G in
/-- One block of the result, an element at a time. -/
theorem last (r : Fin 2048) (j : Fin 1024) :
    out0_2 (iblk m c 0 t) (iblk m c 1 t) (ix2 r j) = mm f g 16 (0 * 2048 + r) (t.val * 1024 + j) := by
  rw [out_eq]
  refine (pay1_at (blkA m c t) (blkB m c t) r j).trans (mm_fin fun a => ?_)
  refine (terms G t r j a).trans ?_
  rw [show 0 * 16 + a.val = a.val by omega]

/-- The result, as contents. -/
abbrev res (f g : ℕ → ℕ → EReal) : S2048x3072.Idx → EReal := fun i => mm f g 16 (i 0).val (i 1).val

include G in
theorem flushed_eq (hf : (cfg0.win 2).flush t = true) :
    (dats m 0 c).flushed 2 t = ((cfg0.win 2).blk t).view.read (Elt Ideal) (res f g) := by
  rw [Cert.ModDwIdeal.Value.flushed2 m c t]
  funext y
  rw [View.read_apply]
  refine (at2 (f := fun r j => mm f g 16 (0 * 2048 + r) (t.val * 1024 + j)) (last G t) _ rfl rfl).trans (mm_congr rfl ?_ ?_)
  · exact ((win0_2.rect_emb_val t y 0).trans (congrArg (· * 2048 + (y 0).val) (idx2 t).1)).symm
  · exact ((win0_2.rect_emb_val t y 1).trans (congrArg (· * 1024 + (y 1).val) (idx2 t).2)).symm

include G in
/-- Every element of the result at the end. -/
theorem final (r : Fin 2048) (j : Fin 3072) : (dats m 0 c).arrAt 2 cfg0.N (ix2 r j) = mm f g 16 r j := by
  have hj := j.isLt
  have hr := r.isLt
  have hn : j.val / 1024 < cfg0.N := by rw [show cfg0.N = 3 from N_0]; omega
  refine (dats m 0 c).arrAt_apply_of_mem 2 (res f g) (flushed_eq G) cfg0.N ⟨_, hn⟩ (ix2 r j) hn (flush0_2 _) ?_
  show ix2 r j ∈ ((View.whole main_v0).slice (win0_2.rect ⟨_, hn⟩)).set
  rw [View.set_slice_whole, Rect.mem_set_unit]
  obtain ⟨i0, i1⟩ := idx2 ⟨_, hn⟩
  obtain ⟨s0, s1⟩ := xs2 ⟨_, hn⟩
  intro a
  match a with
  | ⟨0, _⟩ =>
    show win0_2.index ⟨_, hn⟩ 0 * 2048 ≤ r.val ∧ r.val < win0_2.index ⟨_, hn⟩ 0 * 2048 + win0_2.xsize (grid0.coords ⟨_, hn⟩) 0
    rw [i0, s0]; omega
  | ⟨1, _⟩ =>
    show win0_2.index ⟨_, hn⟩ 1 * 1024 ≤ j.val ∧ j.val < win0_2.index ⟨_, hn⟩ 1 * 1024 + win0_2.xsize (grid0.coords ⟨_, hn⟩) 1
    rw [i1, s1]; dsimp only; omega

end Kernel

/-! ### The arguments, the reference, and the claims -/

/-- The first argument as a table, by the result's rows and the contracted axis. -/
abbrev left (x0 : (⟨S16x2048, .f32⟩ : BufTy).Contents (Elt Ideal)) : ℕ → ℕ → EReal := fun r x => tab (R := 16) (C := 2048) x0 x r
/-- The second, by the contracted axis and the result's columns. -/
abbrev right (x1 : (⟨S16x3072, .f32⟩ : BufTy).Contents (Elt Ideal)) : ℕ → ℕ → EReal := tab (R := 16) (C := 3072) x1

theorem given (m : (ℓ : Loc nD τ sig) → Buf (Elt Ideal) ℓ) (c : Dev nD) :
    Given m c (left (m ((c : Thread nD τ).loc main_arg0))) (right (m ((c : Thread nD τ).loc main_arg1))) where
  hf x r := (congrFun (V_main_arg0 m c) _).trans (tab_ix _ x r)
  hg x r := (congrFun (V_main_arg1 m c) _).trans (tab_ix _ x r)

/-- An element of the reference's result. -/
theorem ref_at (x0 : (⟨S16x2048, .f32⟩ : BufTy).Contents (Elt Ideal)) (x1 : (⟨S16x3072, .f32⟩ : BufTy).Contents (Elt Ideal))
    (r : Fin 2048) (j : Fin 3072) : Cert.ModDwReferenceIdeal.Read.val_main_v3 (F := Ideal) x0 x1 (ix2 r j) = mm (left x0) (right x1) 16 r j := by
  refine (Cert.ModDwReferenceIdeal.Read.val_main_v3_apply (F := Ideal) x0 x1 _).trans ?_
  refine (Cert.ModDwReferenceIdeal.Read.val_main_v2_apply x0 x1 _).trans (mm_fin fun a => ?_)
  exact (mul_comm _ _).trans (congrArg₂ (· * ·) (tab_at (R := 16) (C := 2048) x0 _ rfl rfl) (tab_at (R := 16) (C := 3072) x1 _ rfl rfl))

theorem frame_p : Cert.quiescent_ModDw := fun m ρ _ => Cert.ModDw.Gen.frame m ρ
theorem frame_pi : Cert.quiescent_ModDwIdeal := fun m ρ _ => Cert.ModDwIdeal.Gen.frame m ρ
theorem frame_ri : Cert.quiescent_ModDwReferenceIdeal := fun m ρ _ =>
  (θ_run Cert.ModDwReferenceIdeal.defs _ _).mono (fun r h => ⟨fun c => (h c).2, Idealize.ShloMosaic.sem_eq_zero_of_no_sems (by decide) r.2⟩)
    (Cert.ModDwReferenceIdeal.Value.run (F := Ideal) m ρ)

theorem preserves : Cert.preserves_ModDw_ModDwIdeal := trivial

theorem algebraic : Cert.algebraic_ModDwIdeal_ModDwReferenceIdeal := by
  intro m g m' g' _ ha
  refine ⟨fun c => (dats m 0 c).arrAt 2 cfg0.N, Cert.ModDwIdeal.Value.run_blocks m g, ?_⟩
  refine (θ_run Cert.ModDwReferenceIdeal.defs _ _).mono (fun r h c => ?_) (Cert.ModDwReferenceIdeal.Value.run (F := Ideal) m' g')
  obtain ⟨e0, ek⟩ := h c
  obtain ⟨u0, u1⟩ := ha c
  refine ⟨?_, ek⟩
  rw [e0, Cert.ModDwReferenceIdeal.Read.val_main_v3_eq, u0, u1]
  funext i
  rw [eq_ix2 i]
  exact (ref_at _ _ _ _).trans (final (given m c) _ _).symm

end Cert.ModDwClaims

end
-- ==== Proof.NormRow.lean ====
/-
  One row of the gradient of a modulated norm, over the extended reals: the form that subtracts a multiple of the normalized row from
  the cotangent before it multiplies by the row's scale, and the form that differentiates the scale itself, are the same number.
-/
module

public import proofs.«01_k».proof.Proof.Sums

@[expose] public section

noncomputable section

namespace Cert.NormRow

open Idealize.ShloMosaic
open scoped BigOperators

theorem ofBits_zero : Ideal.ofBits .f32 0x00000000#32 = (0 : EReal) := by simp [Ideal.ofBits, Ideal.ieee]

theorem ofBits_len : Ideal.ofBits .f32 0x45000000#32 = ((2048 : ℝ) : EReal) := by
  simp [Ideal.ofBits, Ideal.ieee]
  try rw [← EReal.coe_mul]
  try norm_num

theorem ofBits_minus : Ideal.ofBits .f32 0xBF000000#32 = ((-(1 / 2) : ℝ) : EReal) := by
  simp [Ideal.ofBits, Ideal.ieee, -EReal.coe_mul]
  try norm_num

/-- The number added to the mean of the squares. -/
abbrev eps : ℝ := 8796093 / 8796093022208

theorem eps_pos : 0 < eps := by norm_num [eps]

theorem ofBits_eps : Ideal.ofBits .f32 0x358637BD#32 = ((eps : ℝ) : EReal) := by
  simp [Ideal.ofBits, Ideal.ieee, -EReal.coe_mul]; norm_num [eps]

/-- A square is not negative. -/
theorem sq_nonneg (x : EReal) : 0 ≤ x * x := by
  induction x using EReal.rec with
  | bot => simp
  | top => simp
  | coe r => exact_mod_cast mul_self_nonneg r

/-- A number that is not negative and not infinite comes out of a sum. -/
theorem mul_sum {ι : Type*} (s : Finset ι) (f : ι → EReal) {r : ℝ} (hr : 0 ≤ r) :
    ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (by exact_mod_cast hr) (EReal.coe_ne_top _)]

/-- The mean of the squares, and the number added. -/
def scale2 (x : Fin 2048 → EReal) : EReal := Ideal.div (∑ k, x k * x k) (Ideal.ofBits .f32 0x45000000#32) + Ideal.ofBits .f32 0x358637BD#32

/-- One element of the row's gradient, from the row `x` and the cotangent `d` of the normalized row. -/
def grad (x d : Fin 2048 → EReal) (j : Fin 2048) : EReal :=
  Ideal.rsqrt (scale2 x) * (d j - x j * Ideal.rsqrt (scale2 x)
    * Ideal.div (∑ k, d k * (x k * Ideal.rsqrt (scale2 x))) (Ideal.ofBits .f32 0x45000000#32))

/-- The derivative of the row's scale, times the length of the row. -/
def slope (x d : Fin 2048 → EReal) : EReal :=
  Ideal.div ((∑ k, x k * d k) * (Ideal.ofBits .f32 0xBF000000#32 * Ideal.div (Ideal.rsqrt (scale2 x)) (scale2 x))) (Ideal.ofBits .f32 0x45000000#32)

theorem len_ne : (2048 : ℝ) ≠ 0 := by norm_num

theorem scale2_cases (x : Fin 2048 → EReal) : scale2 x = ⊤ ∨ ∃ q : ℝ, 0 < q ∧ scale2 x = ((q : ℝ) : EReal) := by
  have h : (0 : EReal) ≤ ∑ k, x k * x k := Finset.sum_nonneg fun k _ => sq_nonneg (x k)
  unfold scale2
  rw [ofBits_len, ofBits_eps, Ideal.div_coe len_ne]
  generalize (∑ k, x k * x k) = s at h
  induction s using EReal.rec with
  | bot => exact absurd h (by simp)
  | top =>
    left
    rw [EReal.top_mul_coe_of_pos (by norm_num)]
    rfl
  | coe r =>
    right
    have hr : 0 ≤ r := by exact_mod_cast h
    refine ⟨r * (1 / 2048) + eps, add_pos_of_nonneg_of_pos (mul_nonneg hr (by norm_num)) eps_pos, ?_⟩
    rw [EReal.coe_add, EReal.coe_mul]

theorem grad_eq (x d : Fin 2048 → EReal) (j : Fin 2048) :
    d j * Ideal.rsqrt (scale2 x) + x j * slope x d + slope x d * x j = grad x d j := by
  unfold grad slope
  rcases scale2_cases x with h | ⟨q, hq, h⟩
  · rw [h, Ideal.rsqrt_top, ofBits_len, Ideal.div_coe len_ne]
    have : Ideal.div 0 (⊤ : EReal) = 0 := by rw [Ideal.div, if_neg (by simp)]; simp
    rw [this]
    simp
  · rw [h, Ideal.rsqrt_coe, if_neg (not_lt.mpr hq.le), if_neg hq.ne']
    generalize hr : (Real.sqrt q)⁻¹ = r
    have r0 : 0 ≤ r := hr ▸ inv_nonneg.mpr (Real.sqrt_nonneg q)
    have rr : r * (1 / q) = r * r * r := by
      have : r * r = 1 / q := by rw [← hr, ← mul_inv, Real.mul_self_sqrt hq.le, one_div]
      rw [mul_assoc, this]
    rw [ofBits_len, ofBits_minus, Ideal.div_coe len_ne, Ideal.div_coe len_ne, Ideal.div_coe hq.ne', ← EReal.coe_mul, rr, ← EReal.coe_mul]
    have hs : ∑ k, d k * (x k * (r : EReal)) = (r : EReal) * ∑ k, x k * d k := by
      rw [← mul_sum _ _ r0]
      exact Finset.sum_congr rfl fun k _ => by rw [mul_comm (r : EReal), mul_comm (x k) (d k), mul_assoc]
    rw [hs]
    generalize (∑ k, x k * d k) = S
    generalize x j = X
    generalize d j = D
    -- everything is a multiple of `w`, by numbers that are not negative
    obtain ⟨w, hw⟩ : ∃ w : EReal, w = -(S * X) := ⟨_, rfl⟩
    have e1 : S * ((-(1 / 2) * (r * r * r) : ℝ) : EReal) * ((1 / 2048 : ℝ) : EReal) * X = w * ((r * r * r / 4096 : ℝ) : EReal) := by
      have : ((-(1 / 2) * (r * r * r) : ℝ) : EReal) * ((1 / 2048 : ℝ) : EReal) = -((r * r * r / 4096 : ℝ) : EReal) := by
        rw [← EReal.coe_mul, ← EReal.coe_neg]; congr 1; ring
      rw [mul_assoc S, this, hw, neg_mul, mul_right_comm, mul_neg]
    have e2 : X * (r : EReal) * ((r : EReal) * S * ((1 / 2048 : ℝ) : EReal)) = (S * X) * ((r * r / 2048 : ℝ) : EReal) := by
      have : ((r * r / 2048 : ℝ) : EReal) = (r : EReal) * (r : EReal) * ((1 / 2048 : ℝ) : EReal) := by
        rw [← EReal.coe_mul, ← EReal.coe_mul]; congr 1; ring
      rw [this]
      ac_rfl
    rw [mul_comm X, e1, e2, add_assoc, sub_eq_add_neg, ← EReal.neg_mul, ← hw,
      EReal.left_distrib_of_nonneg_of_ne_top (by exact_mod_cast r0) (EReal.coe_ne_top _), mul_comm D]
    refine congrArg ((r : EReal) * D + ·) ?_
    have b0 : (0 : EReal) ≤ ((r * r * r / 4096 : ℝ) : EReal) := by
      exact_mod_cast div_nonneg (mul_nonneg (mul_nonneg r0 r0) r0) (by norm_num)
    rw [← EReal.left_distrib_of_nonneg b0 b0, ← EReal.coe_add, mul_comm (r : EReal), mul_assoc w, ← EReal.coe_mul]
    congr 2
    ring

end Cert.NormRow

end
-- ==== Proof.NormDxClaims.lean ====
/-
  What the call of the first modulated norm's backward pass leaves in its first result, over the extended reals: every element of the
  stream's gradient, a row at a time; and the claims of the call and its reference.
-/
module

public import proofs.«01_k».proof.Defs
public import proofs.«01_k».proof.Proof.Gen.NormDx.Frame
public import proofs.«01_k».proof.Proof.Gen.NormDxIdeal.Frame
public import proofs.«01_k».proof.Proof.Gen.NormDxIdeal.Value
public import proofs.«01_k».proof.Proof.Gen.NormDxReferenceIdeal.Run
public import proofs.«01_k».proof.Proof.Gen.NormDxReferenceIdeal.Read
public import proofs.«01_k».proof.Proof.Gate
public import proofs.«01_k».proof.Proof.NormRow
public import Idealize.ShloMosaic.Lib.Pointwise
public import Idealize.ShloMosaic.Lib.WholeRead
public import Idealize.ShloMosaic.Lib.VecWindow
public import Idealize.ShloMosaic.Adequacy
public import Idealize.ShloMosaic.Init

@[expose] public section

set_option maxRecDepth 16384
set_option maxHeartbeats 1000000

noncomputable section

namespace Cert.NormDxClaims

open Idealize.ShloMosaic Idealize.ShloMosaic.TcCoe Idealize.ShloMosaic.Tactic Idealize.SL.Sem Cert.NormDxIdeal Cert.NormDxIdeal.Gen Cert.Gate Cert.NormRow
open scoped BigOperators

/-! ### Which block each window is on, over the grid -/

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem xs7 : ∀ t : Fin grid0.N, win0_7.xsize (grid0.coords t) 0 = 256 ∧ win0_7.xsize (grid0.coords t) 1 = 2048 := by decide +kernel

/-! ### The column the host makes -/

/-- The column of zeros and ones, as the host writes it. -/
def column : Vec Ideal S8448x1 .f32 :=
  broadcastInDim S8448x1 ![0] bcast_S8448_S8448x1_0
    (select (cmpi .sge (iotaInDim S8448 32 0) (broadcastInDim S8448 ![] bcast_S_S8448 (constantI S_ 32 8192#32)))
      (broadcastInDim S8448 ![] bcast_S_S8448 (constant (F := Ideal) S_ .f32 0x3F800000#32))
      (broadcastInDim S8448 ![] bcast_S_S8448 (constant (F := Ideal) S_ .f32 0x00000000#32)))

theorem V_column (m : (ℓ : Loc nD τ sig) → Buf (Elt Ideal) ℓ) (c : Dev nD) : V m c main_v5 = column := by
  unfold V
  simp only [hostOps0, hostOps0_1, hostOps0_2, List.flatten_cons, List.flatten_nil, List.append_nil, List.cons_append, List.nil_append]
  after_results
  rfl

theorem column_at (r : Fin 8448) : column (ix2 r 0) = if 8192 ≤ r.val then 1 else 0 := by
  unfold column
  pointwise
  rw [ge_at]
  split <;> rfl

/-! ### An element of the result, from the arguments -/

/-- The cotangent of the normalized row: what comes from above, times one more than the row's scale, times the gain. -/
def cotangent (g : Vec Ideal S1x2048 .f32) (dy : Vec Ideal S8448x2048 .bf16) (sc : Vec Ideal S2x2048 .f32) (r : Fin 8448) (k : Fin 2048) : EReal :=
  dy (ix2 r k) * (Ideal.ofBits .f32 0x3F800000#32 + if 8192 ≤ r.val then sc (ix2 1 k) else sc (ix2 0 k)) * g (ix2 0 k)

/-- An element of the stream's gradient. -/
def cell (x : Vec Ideal S8448x2048 .f32) (g : Vec Ideal S1x2048 .f32) (dy : Vec Ideal S8448x2048 .bf16) (dres : Vec Ideal S8448x2048 .f32)
    (sc : Vec Ideal S2x2048 .f32) (r : Fin 8448) (j : Fin 2048) : EReal :=
  grad (fun k => x (ix2 r k)) (cotangent g dy sc r) j + dres (ix2 r j)

/-! ### A stored value at an element -/

section Stored
variable (r : Fin 256) (j : Fin 2048)

theorem pay1_at (sc dy : FVec Ideal S256x2048 .f32) :
    k0_pay1 sc dy (ix2 r j) = dy (ix2 r j) * (Ideal.ofBits .f32 0x3F800000#32 + sc (ix2 r j)) := rfl

theorem pay7_at (x : Vec Ideal S256x2048 .f32) : k0_pay7 x (ix2 r 0) = Ideal.rsqrt (scale2 fun k => x (ix2 r k)) := by
  unfold scale2
  pointwise [k0_pay7]

theorem pay8_at (x : Vec Ideal S256x2048 .f32) : k0_pay8 x (ix2 r j) = x (ix2 r j) * Ideal.rsqrt (scale2 fun k => x (ix2 r k)) := by
  refine Eq.trans ?_ (congrArg (x (ix2 r j) * ·) (pay7_at r x))
  pointwise [k0_pay8]

theorem pay10_at (M : Vec Ideal S256x1 .f32) (s1 s0 : Vec Ideal S1x2048 .f32) (p : Prop) [Decidable p] (hM : M (ix2 r 0) = if p then 1 else 0) :
    k0_pay10 M s1 s0 (ix2 r j) = if p then s1 (ix2 0 j) else s0 (ix2 0 j) := by
  pointwise [k0_pay10, k0_pay9]
  rw [hM]
  by_cases h : p
  · rw [if_pos h, if_pos h, if_pos half_lt_one]
  · rw [if_neg h, if_neg h, if_neg not_half_lt_zero]

theorem pay11_at (dy : Vec Ideal S256x2048 .bf16) : k0_pay11 dy (ix2 r j) = dy (ix2 r j) := rfl

theorem pay3_at (v11 : FVec Ideal S256x1 .f32) (v13 : FVec Ideal S256x2048 .f32) (v14 : Vec Ideal S1x2048 .f32) (v27 v29 : FVec Ideal S256x2048 .f32)
    (v95 : Vec Ideal S256x2048 .f32) : k0_pay3 v11 v13 v14 v27 v29 v95 (ix2 r j)
      = v11 (ix2 r 0) * (k0_pay1 v27 v29 (ix2 r j) * v14 (ix2 0 j) - v13 (ix2 r j)
          * Ideal.div (∑ k : Fin 2048, k0_pay1 v27 v29 (ix2 r k) * v14 (ix2 0 k) * v13 (ix2 r k)) (Ideal.ofBits .f32 0x45000000#32)) + v95 (ix2 r j) := by
  pointwise [k0_pay3]

/-- What the body stores in the result's block. -/
abbrev stored (x : Vec Ideal S256x2048 .f32) (g : Vec Ideal S1x2048 .f32) (dy : Vec Ideal S256x2048 .bf16) (dres : Vec Ideal S256x2048 .f32)
    (s1 s0 : Vec Ideal S1x2048 .f32) (M : Vec Ideal S256x1 .f32) : Vec Ideal S256x2048 .f32 :=
  k0_pay3 (k0_pay7 x) (k0_pay8 x) g (k0_pay10 M s1 s0) (k0_pay11 dy) dres

theorem stored_at (x : Vec Ideal S256x2048 .f32) (g : Vec Ideal S1x2048 .f32) (dy : Vec Ideal S256x2048 .bf16) (dres : Vec Ideal S256x2048 .f32)
    (s1 s0 : Vec Ideal S1x2048 .f32) (M : Vec Ideal S256x1 .f32) (p : Prop) [Decidable p] (hM : M (ix2 r 0) = if p then 1 else 0) :
    stored x g dy dres s1 s0 M (ix2 r j)
      = grad (fun k => x (ix2 r k)) (fun k => dy (ix2 r k) * (Ideal.ofBits .f32 0x3F800000#32 + if p then s1 (ix2 0 k) else s0 (ix2 0 k)) * g (ix2 0 k)) j
        + dres (ix2 r j) := by
  have hd : ∀ k : Fin 2048, k0_pay1 (k0_pay10 M s1 s0) (k0_pay11 dy) (ix2 r k)
      = dy (ix2 r k) * (Ideal.ofBits .f32 0x3F800000#32 + if p then s1 (ix2 0 k) else s0 (ix2 0 k)) := by
    intro k
    rw [pay1_at, pay11_at, pay10_at r k M s1 s0 p hM]
  unfold stored grad
  rw [pay3_at, pay7_at, pay8_at, hd]
  congr 5
  exact Finset.sum_congr rfl fun k _ => by rw [hd, pay8_at]

end Stored

/-! ### What a point leaves -/

section Memory
variable {s : Shape} {e : EltTy} (W : Memref sig .tc .vmem s e) (h : W.IsWhole)

/-- A load of the whole of a buffer that holds `X`. -/
theorem rd (X : s.Idx → Elt Ideal e) {off : Fin s.rank → ℕ} (inb : ∀ a, off a + s.size a ≤ s.size a) :
    View.readAt (Elt Ideal) W.view (Rect.unit off s.size inb).toLoadRect (h.unread X) = X :=
  (View.readAt_full _ _ _).trans (h.read_unread X)

/-- A load of a part of it. -/
theorem rdw (X : s.Idx → Elt Ideal e) {off size : Fin s.rank → ℕ} (inb : ∀ a, off a + size a ≤ s.size a) :
    View.readAt (Elt Ideal) W.view (Rect.unit off size inb).toLoadRect (h.unread X) = VecWindow.window X off size inb := by
  rw [View.readAt_unit _ _ _ rfl, h.read_unread]

end Memory

theorem stored_congr {x x' g g' dy dy' dres dres' s1 s1' s0 s0' M M'} (hx : x = x') (hg : g = g') (hdy : dy = dy') (hr : dres = dres')
    (h1 : s1 = s1') (h0 : s0 = s0') (hM : M = M') : stored x g dy dres s1 s0 M = stored x' g' dy' dres' s1' s0' M' := by
  subst hx hg hdy hr h1 h0 hM; rfl

section Kernel

variable (m : (ℓ : Loc nD τ sig) → Buf (Elt Ideal) ℓ) (c : Dev nD)

abbrev a0 : Vec Ideal S8448x2048 .f32 := m ((c : Thread nD τ).loc main_arg0)
abbrev a1 : Vec Ideal S1x2048 .f32 := m ((c : Thread nD τ).loc main_arg1)
abbrev a2 : Vec Ideal S8448x2048 .bf16 := m ((c : Thread nD τ).loc main_arg2)
abbrev a3 : Vec Ideal S8448x2048 .f32 := m ((c : Thread nD τ).loc main_arg3)
abbrev a5 : Vec Ideal S2x2048 .f32 := m ((c : Thread nD τ).loc main_arg5)

/-- The blocks the body reads at a point. -/
abbrev blkX (t : Fin cfg0.N) : Vec Ideal S256x2048 .f32 := iblk m c 0 t
abbrev blkG (t : Fin cfg0.N) : Vec Ideal S1x2048 .f32 := iblk m c 1 t
abbrev blkD (t : Fin cfg0.N) : Vec Ideal S256x2048 .bf16 := iblk m c 2 t
abbrev blkR (t : Fin cfg0.N) : Vec Ideal S256x2048 .f32 := iblk m c 3 t
abbrev blkS (t : Fin cfg0.N) : Vec Ideal S2x2048 .f32 := iblk m c 5 t
abbrev blkM (t : Fin cfg0.N) : Vec Ideal S256x1 .f32 := iblk m c 6 t

variable (t : Fin cfg0.N)

/-- The result's block at a point. -/
abbrev left : Vec Ideal S256x2048 .f32 :=
  stored (blkX m c t) (blkG m c t) (blkD m c t) (blkR m c t)
    (VecWindow.window (s := S2x2048) (blkS m c t) ![1, 0] S1x2048.size inb_S2x2048_S1x2048_1_0)
    (VecWindow.window (s := S2x2048) (blkS m c t) ![0, 0] S1x2048.size inb_S2x2048_S1x2048_0_0) (blkM m c t)

/-- Both at the first point, where the other results' blocks are cleared, and at the rest. -/
theorem flushed : (dats m 0 c).flushed 7 t = (cfg0.win 7).cut (grid0.coords t) (left m c t) := by
  by_cases h0 : t.val % 33 = 0
  · rw [Cert.NormDxIdeal.Value.flushed7_A m c t h0]
    refine congrArg _ ?_
    unfold out0_A_7
    unfold kernelRun0_A
    dsimp only
    sl_unfold_words
    exact (View.read_writes_full _ _ _ _ _).trans (stored_congr (rd _ _ _ _) (rd _ _ _ _) (rd _ _ _ _) (rd _ _ _ _) (rdw _ _ _ _) (rdw _ _ _ _) (rd _ _ _ _))
  · rw [Cert.NormDxIdeal.Value.flushed7_B m c t h0]
    refine congrArg _ ?_
    unfold out0_B_7
    unfold kernelRun0_B
    dsimp only
    sl_unfold_words
    exact (View.read_writes_full _ _ _ _ _).trans (stored_congr (rd _ _ _ _) (rd _ _ _ _) (rd _ _ _ _) (rd _ _ _ _) (rdw _ _ _ _) (rdw _ _ _ _) (rd _ _ _ _))

/-- Row `y` of point `t`'s block, as a row of the whole. -/
abbrev row (y : Fin 256) : Fin 8448 := ⟨t.val * 256 + y.val, by
  have ht : t.val < 33 := lt_of_lt_of_eq t.isLt N_0
  omega⟩

theorem blk0 (y : Fin 256) (k : Fin 2048) : blkX m c t (ix2 y k) = a0 m c (ix2 (row t y) k) := by
  unfold blkX iblk
  rw [View.read_apply]
  refine (congrFun (V_main_arg0 m c) _).trans (congrArg (a0 m c) (ix_ext ?_ ?_))
  · exact (win0_0.rect_emb_val t _ 0).trans (congrArg (· * 256 + y.val) (idx0 t).1)
  · exact (win0_0.rect_emb_val t _ 1).trans ((congrArg (· * 2048 + k.val) (idx0 t).2).trans (by show 0 * 2048 + k.val = k.val; omega))

theorem blk1 (k : Fin 2048) : blkG m c t (ix2 0 k) = a1 m c (ix2 0 k) := by
  unfold blkG iblk
  rw [View.read_apply]
  refine (congrFun (V_main_arg1 m c) _).trans (congrArg (a1 m c) (ix_ext ?_ ?_))
  · exact (win0_1.rect_emb_val t _ 0).trans (congrArg (· * 1 + 0) (idx1 t).1)
  · exact (win0_1.rect_emb_val t _ 1).trans ((congrArg (· * 2048 + k.val) (idx1 t).2).trans (by show 0 * 2048 + k.val = k.val; omega))

theorem blk2 (y : Fin 256) (k : Fin 2048) : blkD m c t (ix2 y k) = a2 m c (ix2 (row t y) k) := by
  unfold blkD iblk
  rw [View.read_apply]
  refine (congrFun (V_main_arg2 m c) _).trans (congrArg (a2 m c) (ix_ext ?_ ?_))
  · exact (win0_2.rect_emb_val t _ 0).trans (congrArg (· * 256 + y.val) (idx2 t).1)
  · exact (win0_2.rect_emb_val t _ 1).trans ((congrArg (· * 2048 + k.val) (idx2 t).2).trans (by show 0 * 2048 + k.val = k.val; omega))

theorem blk3 (y : Fin 256) (k : Fin 2048) : blkR m c t (ix2 y k) = a3 m c (ix2 (row t y) k) := by
  unfold blkR iblk
  rw [View.read_apply]
  refine (congrFun (V_main_arg3 m c) _).trans (congrArg (a3 m c) (ix_ext ?_ ?_))
  · exact (win0_3.rect_emb_val t _ 0).trans (congrArg (· * 256 + y.val) (idx3 t).1)
  · exact (win0_3.rect_emb_val t _ 1).trans ((congrArg (· * 2048 + k.val) (idx3 t).2).trans (by show 0 * 2048 + k.val = k.val; omega))

theorem blk5 (q : Fin 2) (k : Fin 2048) : blkS m c t (ix2 q k) = a5 m c (ix2 q k) := by
  unfold blkS iblk
  rw [View.read_apply]
  refine (congrFun (V_main_arg5 m c) _).trans (congrArg (a5 m c) (ix_ext ?_ ?_))
  · exact (win0_5.rect_emb_val t _ 0).trans ((congrArg (· * 2 + q.val) (idx5 t).1).trans (by show 0 * 2 + q.val = q.val; omega))
  · exact (win0_5.rect_emb_val t _ 1).trans ((congrArg (· * 2048 + k.val) (idx5 t).2).trans (by show 0 * 2048 + k.val = k.val; omega))

theorem blk6 (y : Fin 256) : blkM m c t (ix2 y 0) = if 8192 ≤ (row t y).val then 1 else 0 := by
  unfold blkM iblk
  rw [View.read_apply]
  refine (congrFun (V_column m c) _).trans ((congrArg column (ix_ext (k := ix2 (row t y) 0) ?_ ?_)).trans (column_at (row t y)))
  · exact (win0_6.rect_emb_val t _ 0).trans (congrArg (· * 256 + y.val) (idx6 t).1)
  · exact (win0_6.rect_emb_val t _ 1).trans (congrArg (· * 1 + 0) (idx6 t).2)

theorem left_at (y : Fin 256) (j : Fin 2048) :
    left m c t (ix2 y j) = cell (a0 m c) (a1 m c) (a2 m c) (a3 m c) (a5 m c) (row t y) j := by
  refine (stored_at y j _ _ _ _ _ _ _ (8192 ≤ (row t y).val) (blk6 m c t y)).trans ?_
  unfold cell
  refine congrArg₂ (· + ·) ?_ (blk3 m c t y j)
  refine congrArg₂ (fun a b => grad a b j) (funext fun k => blk0 m c t y k) (funext fun k => ?_)
  unfold cotangent
  refine congrArg₂ (· * ·) (congrArg₂ (· * ·) (blk2 m c t y k) (congrArg (Ideal.ofBits .f32 0x3F800000#32 + ·) ?_)) (blk1 m c t k)
  have e1 := (row_at (blkS m c t) 1 inb_S2x2048_S1x2048_1_0 k).trans (blk5 m c t 1 k)
  have e0 := (row_at (blkS m c t) 0 inb_S2x2048_S1x2048_0_0 k).trans (blk5 m c t 0 k)
  by_cases hp : 8192 ≤ (row t y).val
  · rw [if_pos hp, if_pos hp]
    exact e1
  · rw [if_neg hp, if_neg hp]
    exact e0

/-- The result, as contents. -/
abbrev res : S8448x2048.Idx → EReal := fun i => cell (a0 m c) (a1 m c) (a2 m c) (a3 m c) (a5 m c) (i 0) (i 1)

theorem res_at (i : S8448x2048.Idx) {r : Fin 8448} {j : Fin 2048} (h0 : (i 0).val = r.val) (h1 : (i 1).val = j.val) :
    cell (a0 m c) (a1 m c) (a2 m c) (a3 m c) (a5 m c) r j = res m c i := by
  obtain rfl : i = ix2 r j := ix_ext h0 h1
  rfl

theorem left_res (y : S256x2048.Idx) (i : S8448x2048.Idx) (h0 : (i 0).val = t.val * 256 + (y 0).val) (h1 : (i 1).val = (y 1).val) :
    left m c t y = res m c i := by
  obtain ⟨r, j, rfl⟩ : ∃ (r : Fin 256) (j : Fin 2048), y = ix2 r j := ⟨y 0, y 1, eq_ix2 y⟩
  exact (left_at m c t r j).trans (res_at m c i h0 h1)

theorem flushed_eq (_ : (cfg0.win 7).flush t = true) :
    (dats m 0 c).flushed 7 t = ((cfg0.win 7).blk t).view.read (Elt Ideal) (res m c) := by
  rw [flushed m c t]
  funext y
  rw [View.read_apply]
  refine left_res m c t _ _ ?_ ?_
  · exact (win0_7.rect_emb_val t y 0).trans (congrArg (· * 256 + (y 0).val) (idx7 t).1)
  · exact (win0_7.rect_emb_val t y 1).trans ((congrArg (· * 2048 + (y 1).val) (idx7 t).2).trans (by show 0 * 2048 + (y 1).val = (y 1).val; omega))

/-- Every element of the result at the end. -/
theorem final (r : Fin 8448) (j : Fin 2048) :
    (dats m 0 c).arrAt 7 cfg0.N (ix2 r j) = cell (a0 m c) (a1 m c) (a2 m c) (a3 m c) (a5 m c) r j := by
  have hj := j.isLt
  have hr := r.isLt
  have hn : r.val / 256 < cfg0.N := by rw [show cfg0.N = 33 from N_0]; omega
  refine (dats m 0 c).arrAt_apply_of_mem 7 (res m c) (flushed_eq m c) cfg0.N ⟨_, hn⟩ (ix2 r j) hn (flush0_7 _) ?_
  show ix2 r j ∈ ((View.whole main_v6_0).slice (win0_7.rect ⟨_, hn⟩)).set
  rw [View.set_slice_whole, Rect.mem_set_unit]
  obtain ⟨i0, i1⟩ := idx7 ⟨_, hn⟩
  obtain ⟨s0, s1⟩ := xs7 ⟨_, hn⟩
  intro a
  match a with
  | ⟨0, _⟩ =>
    show win0_7.index ⟨_, hn⟩ 0 * 256 ≤ r.val ∧ r.val < win0_7.index ⟨_, hn⟩ 0 * 256 + win0_7.xsize (grid0.coords ⟨_, hn⟩) 0
    rw [i0, s0]; dsimp only; omega
  | ⟨1, _⟩ =>
    show win0_7.index ⟨_, hn⟩ 1 * 2048 ≤ j.val ∧ j.val < win0_7.index ⟨_, hn⟩ 1 * 2048 + win0_7.xsize (grid0.coords ⟨_, hn⟩) 1
    rw [i1, s1]; omega

end Kernel

/-! ### The reference -/

section Reference

open Cert.NormDxReferenceIdeal.Read

variable (x0 : (⟨S8448x2048, .f32⟩ : BufTy).Contents (Elt Ideal)) (x1 : (⟨S1x2048, .f32⟩ : BufTy).Contents (Elt Ideal))
  (x2 : (⟨S8448x2048, .bf16⟩ : BufTy).Contents (Elt Ideal)) (x3 : (⟨S8448x2048, .f32⟩ : BufTy).Contents (Elt Ideal))
  (x5 : (⟨S2x2048, .f32⟩ : BufTy).Contents (Elt Ideal)) (r : Fin 8448)

/-- The reference's comparison of a row's number with 8192, for every row. -/
theorem lt_at : ∀ r : Fin 8448, IntOp.cmpi .slt (BitVec.ofNat 32 r.val) 8192#32 = if 8192 ≤ r.val then 0#1 else 1#1 := by decide +kernel

theorem ref_scale (k : Fin 2048) : val_main_v8 (F := Ideal) x5 (ix2 r k) = if 8192 ≤ r.val then x5 (ix2 1 k) else x5 (ix2 0 k) := by
  rw [val_main_v8_apply, val_main_call1_v0_apply, val_main_v2_apply, val_main_v0_apply, val_main_v1_apply, val_main_c_apply,
    val_main_call1_v1_apply, val_main_v6_apply, val_main_call1_v2_apply, val_main_v7_apply]
  have h : IntOp.cmpi .slt (BitVec.ofNat 32 ((idx_main_call1_v0 (ix2 r k)) 0).val) 8192#32 = if 8192 ≤ r.val then 0#1 else 1#1 := lt_at r
  rw [h]
  by_cases hp : 8192 ≤ r.val
  · rw [if_pos hp, if_pos hp]
    exact congrArg x5 (ix_ext rfl rfl)
  · rw [if_neg hp, if_neg hp]
    exact congrArg x5 (ix_ext rfl rfl)

theorem ref_cotangent (k : Fin 2048) : val_main_v31 (F := Ideal) x1 x2 x5 (ix2 r k) = cotangent x1 x2 x5 r k := by
  rw [val_main_v31_apply, val_main_v29_apply, val_main_v28_apply, val_main_v25_apply, val_main_v24_apply, val_main_cst_3_apply, val_main_v30_apply, ref_scale]
  unfold cotangent
  exact congrArg₂ (· * ·) rfl (congrArg x1 (ix_ext rfl rfl))

theorem ref_scale2 : val_main_v15 (F := Ideal) x0 (ix2 r 0) = scale2 fun k => x0 (ix2 r k) := by
  rw [val_main_v15_apply, val_main_v13_apply, val_main_v11_apply, val_main_v10_apply, val_main_v12_apply, val_main_cst_0_apply, val_main_v14_apply,
    val_main_cst_1_apply, val_main_cst_apply]
  unfold scale2
  refine congrArg (fun s => Ideal.div s (Ideal.ofBits .f32 0x45000000#32) + Ideal.ofBits .f32 0x358637BD#32) ?_
  refine (congrArg (· + _) ofBits_zero).trans ((zero_add _).trans (Finset.sum_congr rfl fun k _ => ?_))
  rw [val_main_v9_apply]
  exact congrArg₂ (· * ·) (congrArg x0 (ix_ext rfl rfl)) (congrArg x0 (ix_ext rfl rfl))

theorem ref_rsqrt : val_main_v16 (F := Ideal) x0 (ix2 r 0) = Ideal.rsqrt (scale2 fun k => x0 (ix2 r k)) :=
  (val_main_v16_apply x0 _).trans (congrArg Ideal.rsqrt (ref_scale2 x0 r))

theorem ref_slope (i : S8448.Idx) (hi : (i 0).val = r.val) :
    val_main_v40 (F := Ideal) x0 x1 x2 x5 i = NormRow.slope (fun k => x0 (ix2 r k)) (cotangent x1 x2 x5 r) := by
  rw [val_main_v40_apply, val_main_cst_6_apply]
  refine (congrArg (· + _) ofBits_zero).trans ((zero_add _).trans ((Fin.sum_univ_one _).trans ?_))
  have e : idx_main_v40 i 0 = ix2 r 0 := ix_ext hi rfl
  rw [e, val_main_v39_apply, val_main_v37_apply, val_main_v38_apply, val_main_cst_5_apply, val_main_v34_apply, val_main_v33_apply, val_main_cst_4_apply,
    val_main_v19_apply, val_main_v18_apply, val_main_cst_2_apply, val_main_v17_apply, ref_rsqrt, ref_scale2]
  unfold NormRow.slope
  refine congrArg (fun s => Ideal.div (s * (Ideal.ofBits .f32 0xBF000000#32 * Ideal.div (Ideal.rsqrt (scale2 fun k => x0 (ix2 r k))) (scale2 fun k => x0 (ix2 r k))))
    (Ideal.ofBits .f32 0x45000000#32)) ?_
  refine (congrArg (· + _) ofBits_zero).trans ((zero_add _).trans (Finset.sum_congr rfl fun k _ => ?_))
  have e' : idx_main_v33 (idx_main_v34 (ix2 r 0)) k = ix2 r k := ix_ext (Nat.mul_one r.val) rfl
  rw [e', val_main_v32_apply, ref_cotangent]
  rfl

theorem ref_at (j : Fin 2048) : val_main_v46 (F := Ideal) x0 x1 x2 x3 x5 (ix2 r j) = cell x0 x1 x2 x3 x5 r j := by
  have e : idx_main_v35 (ix2 r j) = ix2 r 0 := ix_ext rfl rfl
  rw [val_main_v46_apply, val_main_v45_apply, val_main_v43_apply, val_main_v36_apply, val_main_v42_apply, val_main_v44_apply, val_main_v41_apply,
    val_main_v35_apply, e, ref_cotangent, ref_rsqrt, ref_slope x0 x1 x2 x5 r _ rfl]
  unfold cell
  exact congrArg (· + x3 (ix2 r j)) (grad_eq _ _ j)

end Reference

/-! ### The claims -/

theorem frame_p : Cert.quiescent_NormDx := fun m ρ _ => Cert.NormDx.Gen.frame m ρ
theorem frame_pi : Cert.quiescent_NormDxIdeal := fun m ρ _ => Cert.NormDxIdeal.Gen.frame m ρ
theorem frame_ri : Cert.quiescent_NormDxReferenceIdeal := fun m ρ _ =>
  (θ_run Cert.NormDxReferenceIdeal.defs _ _).mono (fun r h => ⟨fun c => (h c).2, Idealize.ShloMosaic.sem_eq_zero_of_no_sems (by decide) r.2⟩)
    (Cert.NormDxReferenceIdeal.Value.run (F := Ideal) m ρ)

theorem preserves : Cert.preserves_NormDx_NormDxIdeal := trivial

theorem algebraic : Cert.algebraic_NormDxIdeal_NormDxReferenceIdeal := by
  intro m g m' g' _ ha
  refine ⟨fun c => (dats m 0 c).arrAt 7 cfg0.N, ?_, ?_⟩
  · exact (θ_run Cert.NormDxIdeal.defs _ _).mono (fun r h c => ⟨(h c).1, (h c).2.2.2.2⟩) (Cert.NormDxIdeal.Value.run_blocks m g)
  · refine (θ_run Cert.NormDxReferenceIdeal.defs _ _).mono (fun r h c => ?_) (Cert.NormDxReferenceIdeal.Value.run (F := Ideal) m' g')
    obtain ⟨e0, ek⟩ := h c
    obtain ⟨u0, u1, u2, u3, u4, u5⟩ := ha c
    refine ⟨?_, ek⟩
    rw [e0, Cert.NormDxReferenceIdeal.Read.val_main_v46_eq, u0, u1, u2, u3, u5]
    funext i
    rw [eq_ix2 i]
    exact (ref_at _ _ _ _ _ _ _).trans (final m c _ _).symm

end Cert.NormDxClaims

end
-- ==== Proof.lean ====
/-
  The certificate's claims, put together behind the side conditions the programs state.
-/
module

public import proofs.«01_k».proof.Defs
public import proofs.«01_k».proof.Proof.GqaClaims
public import proofs.«01_k».proof.Proof.MlaClaims
public import proofs.«01_k».proof.Proof.UpDaClaims
public import proofs.«01_k».proof.Proof.UpDwClaims
public import proofs.«01_k».proof.Proof.DownDaClaims
public import proofs.«01_k».proof.Proof.DownDwClaims
public import proofs.«01_k».proof.Proof.UpClaims
public import proofs.«01_k».proof.Proof.OutDaClaims
public import proofs.«01_k».proof.Proof.OutDwClaims
public import proofs.«01_k».proof.Proof.DownClaims
public import proofs.«01_k».proof.Proof.OutClaims
public import proofs.«01_k».proof.Proof.QueryClaims
public import proofs.«01_k».proof.Proof.QueryDaClaims
public import proofs.«01_k».proof.Proof.QueryDwClaims
public import proofs.«01_k».proof.Proof.KeyClaims
public import proofs.«01_k».proof.Proof.KeyDaClaims
public import proofs.«01_k».proof.Proof.KeyDwClaims
public import proofs.«01_k».proof.Proof.RankClaims
public import proofs.«01_k».proof.Proof.RankDaClaims
public import proofs.«01_k».proof.Proof.RankDwClaims
public import proofs.«01_k».proof.Proof.AdamDqClaims
public import proofs.«01_k».proof.Proof.AdamUqClaims
public import proofs.«01_k».proof.Proof.AdamDkvClaims
public import proofs.«01_k».proof.Proof.AdamUkvClaims
public import proofs.«01_k».proof.Proof.AdamSquareClaims
public import proofs.«01_k».proof.Proof.AdamUpClaims
public import proofs.«01_k».proof.Proof.AdamDownClaims
public import proofs.«01_k».proof.Proof.AdamModClaims
public import proofs.«01_k».proof.Proof.AdamSmallClaims
public import proofs.«01_k».proof.Proof.ModDwClaims
public import proofs.«01_k».proof.Proof.NormDxClaims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Mla.Gen.facts, Cert.MlaIdeal.Gen.facts, Cert.MlaReferenceIdeal.Gen.facts,
    Cert.UpDa.Gen.facts, Cert.UpDaIdeal.Gen.facts, Cert.UpDaReferenceIdeal.Gen.facts,
    Cert.UpDw.Gen.facts, Cert.UpDwIdeal.Gen.facts, Cert.UpDwReferenceIdeal.Gen.facts,
    Cert.DownDa.Gen.facts, Cert.DownDaIdeal.Gen.facts, Cert.DownDaReferenceIdeal.Gen.facts,
    Cert.DownDw.Gen.facts, Cert.DownDwIdeal.Gen.facts, Cert.DownDwReferenceIdeal.Gen.facts,
    Cert.Up.Gen.facts, Cert.UpIdeal.Gen.facts, Cert.UpReferenceIdeal.Gen.facts,
    Cert.OutDa.Gen.facts, Cert.OutDaIdeal.Gen.facts, Cert.OutDaReferenceIdeal.Gen.facts,
    Cert.OutDw.Gen.facts, Cert.OutDwIdeal.Gen.facts, Cert.OutDwReferenceIdeal.Gen.facts,
    Cert.Down.Gen.facts, Cert.DownIdeal.Gen.facts, Cert.DownReferenceIdeal.Gen.facts,
    Cert.Out.Gen.facts, Cert.OutIdeal.Gen.facts, Cert.OutReferenceIdeal.Gen.facts,
    Cert.Query.Gen.facts, Cert.QueryIdeal.Gen.facts, Cert.QueryReferenceIdeal.Gen.facts,
    Cert.QueryDa.Gen.facts, Cert.QueryDaIdeal.Gen.facts, Cert.QueryDaReferenceIdeal.Gen.facts,
    Cert.QueryDw.Gen.facts, Cert.QueryDwIdeal.Gen.facts, Cert.QueryDwReferenceIdeal.Gen.facts,
    Cert.Key.Gen.facts, Cert.KeyIdeal.Gen.facts, Cert.KeyReferenceIdeal.Gen.facts,
    Cert.KeyDa.Gen.facts, Cert.KeyDaIdeal.Gen.facts, Cert.KeyDaReferenceIdeal.Gen.facts,
    Cert.KeyDw.Gen.facts, Cert.KeyDwIdeal.Gen.facts, Cert.KeyDwReferenceIdeal.Gen.facts,
    Cert.Rank.Gen.facts, Cert.RankIdeal.Gen.facts, Cert.RankReferenceIdeal.Gen.facts,
    Cert.RankDa.Gen.facts, Cert.RankDaIdeal.Gen.facts, Cert.RankDaReferenceIdeal.Gen.facts,
    Cert.RankDw.Gen.facts, Cert.RankDwIdeal.Gen.facts, Cert.RankDwReferenceIdeal.Gen.facts,
    Cert.AdamDq.Gen.facts, Cert.AdamDqIdeal.Gen.facts, Cert.AdamDqReferenceIdeal.Gen.facts,
    Cert.AdamUq.Gen.facts, Cert.AdamUqIdeal.Gen.facts, Cert.AdamUqReferenceIdeal.Gen.facts,
    Cert.AdamDkv.Gen.facts, Cert.AdamDkvIdeal.Gen.facts, Cert.AdamDkvReferenceIdeal.Gen.facts,
    Cert.AdamUkv.Gen.facts, Cert.AdamUkvIdeal.Gen.facts, Cert.AdamUkvReferenceIdeal.Gen.facts,
    Cert.AdamSquare.Gen.facts, Cert.AdamSquareIdeal.Gen.facts, Cert.AdamSquareReferenceIdeal.Gen.facts,
    Cert.AdamUp.Gen.facts, Cert.AdamUpIdeal.Gen.facts, Cert.AdamUpReferenceIdeal.Gen.facts,
    Cert.AdamDown.Gen.facts, Cert.AdamDownIdeal.Gen.facts, Cert.AdamDownReferenceIdeal.Gen.facts,
    Cert.AdamMod.Gen.facts, Cert.AdamModIdeal.Gen.facts, Cert.AdamModReferenceIdeal.Gen.facts,
    Cert.AdamSmall.Gen.facts, Cert.AdamSmallIdeal.Gen.facts, Cert.AdamSmallReferenceIdeal.Gen.facts,
    Cert.ModDw.Gen.facts, Cert.ModDwIdeal.Gen.facts, Cert.ModDwReferenceIdeal.Gen.facts,
    Cert.NormDx.Gen.facts, Cert.NormDxIdeal.Gen.facts, Cert.NormDxReferenceIdeal.Gen.facts,
    Cert.GqaPre.preFacts, Cert.MlaPre.preFacts, Cert.GqaPre.onFacts, Cert.MlaPre.onFacts,
    GqaClaims.frame_p, GqaClaims.frame_pi, GqaClaims.frame_pi_pre, GqaClaims.frame_ri, GqaClaims.frame_ri_pre,
    MlaClaims.frame_p, MlaClaims.frame_pi, MlaClaims.frame_pi_pre, MlaClaims.frame_ri, MlaClaims.frame_ri_pre,
    UpDaClaims.frame_p, UpDaClaims.frame_pi, UpDaClaims.frame_ri,
    UpDwClaims.frame_p, UpDwClaims.frame_pi, UpDwClaims.frame_ri,
    DownDaClaims.frame_p, DownDaClaims.frame_pi, DownDaClaims.frame_ri,
    DownDwClaims.frame_p, DownDwClaims.frame_pi, DownDwClaims.frame_ri,
    UpClaims.frame_p, UpClaims.frame_pi, UpClaims.frame_ri,
    OutDaClaims.frame_p, OutDaClaims.frame_pi, OutDaClaims.frame_ri,
    OutDwClaims.frame_p, OutDwClaims.frame_pi, OutDwClaims.frame_ri,
    DownClaims.frame_p, DownClaims.frame_pi, DownClaims.frame_ri,
    OutClaims.frame_p, OutClaims.frame_pi, OutClaims.frame_ri,
    QueryClaims.frame_p, QueryClaims.frame_pi, QueryClaims.frame_ri,
    QueryDaClaims.frame_p, QueryDaClaims.frame_pi, QueryDaClaims.frame_ri,
    QueryDwClaims.frame_p, QueryDwClaims.frame_pi, QueryDwClaims.frame_ri,
    KeyClaims.frame_p, KeyClaims.frame_pi, KeyClaims.frame_ri,
    KeyDaClaims.frame_p, KeyDaClaims.frame_pi, KeyDaClaims.frame_ri,
    KeyDwClaims.frame_p, KeyDwClaims.frame_pi, KeyDwClaims.frame_ri,
    RankClaims.frame_p, RankClaims.frame_pi, RankClaims.frame_ri,
    RankDaClaims.frame_p, RankDaClaims.frame_pi, RankDaClaims.frame_ri,
    RankDwClaims.frame_p, RankDwClaims.frame_pi, RankDwClaims.frame_ri,
    AdamDqClaims.frame_p, AdamDqClaims.frame_pi, AdamDqClaims.frame_ri,
    AdamUqClaims.frame_p, AdamUqClaims.frame_pi, AdamUqClaims.frame_ri,
    AdamDkvClaims.frame_p, AdamDkvClaims.frame_pi, AdamDkvClaims.frame_ri,
    AdamUkvClaims.frame_p, AdamUkvClaims.frame_pi, AdamUkvClaims.frame_ri,
    AdamSquareClaims.frame_p, AdamSquareClaims.frame_pi, AdamSquareClaims.frame_ri,
    AdamUpClaims.frame_p, AdamUpClaims.frame_pi, AdamUpClaims.frame_ri,
    AdamDownClaims.frame_p, AdamDownClaims.frame_pi, AdamDownClaims.frame_ri,
    AdamModClaims.frame_p, AdamModClaims.frame_pi, AdamModClaims.frame_ri,
    AdamSmallClaims.frame_p, AdamSmallClaims.frame_pi, AdamSmallClaims.frame_ri,
    ModDwClaims.frame_p, ModDwClaims.frame_pi, ModDwClaims.frame_ri,
    NormDxClaims.frame_p, NormDxClaims.frame_pi, NormDxClaims.frame_ri,
    GqaClaims.preserves, GqaClaims.algebraic,
    MlaClaims.preserves, MlaClaims.algebraic,
    UpDaClaims.preserves, UpDaClaims.algebraic,
    UpDwClaims.preserves, UpDwClaims.algebraic,
    DownDaClaims.preserves, DownDaClaims.algebraic,
    DownDwClaims.preserves, DownDwClaims.algebraic,
    UpClaims.preserves, UpClaims.algebraic,
    OutDaClaims.preserves, OutDaClaims.algebraic,
    OutDwClaims.preserves, OutDwClaims.algebraic,
    DownClaims.preserves, DownClaims.algebraic,
    OutClaims.preserves, OutClaims.algebraic,
    QueryClaims.preserves, QueryClaims.algebraic,
    QueryDaClaims.preserves, QueryDaClaims.algebraic,
    QueryDwClaims.preserves, QueryDwClaims.algebraic,
    KeyClaims.preserves, KeyClaims.algebraic,
    KeyDaClaims.preserves, KeyDaClaims.algebraic,
    KeyDwClaims.preserves, KeyDwClaims.algebraic,
    RankClaims.preserves, RankClaims.algebraic,
    RankDaClaims.preserves, RankDaClaims.algebraic,
    RankDwClaims.preserves, RankDwClaims.algebraic,
    AdamDqClaims.preserves, AdamDqClaims.algebraic,
    AdamUqClaims.preserves, AdamUqClaims.algebraic,
    AdamDkvClaims.preserves, AdamDkvClaims.algebraic,
    AdamUkvClaims.preserves, AdamUkvClaims.algebraic,
    AdamSquareClaims.preserves, AdamSquareClaims.algebraic,
    AdamUpClaims.preserves, AdamUpClaims.algebraic,
    AdamDownClaims.preserves, AdamDownClaims.algebraic,
    AdamModClaims.preserves, AdamModClaims.algebraic,
    AdamSmallClaims.preserves, AdamSmallClaims.algebraic,
    ModDwClaims.preserves, ModDwClaims.algebraic,
    NormDxClaims.preserves, NormDxClaims.algebraic⟩

end Cert.Proof

end
